-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2.2.2 = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_ffn_finite [hPre_ffn_finite : Cert.Pre_ffn_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.2.2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.2.2.2 = (fun _ => 1#1)

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossIdeal_cross_finite [hPre_cross_finite : Cert.Pre_cross_finite.Facts] (m : (ℓ : Loc Cert.CrossIdeal.nD Cert.CrossIdeal.τ Cert.CrossIdeal.sig) → Buf (Elt Ideal) ℓ) : Prop :=
  ∀ c : Dev Cert.CrossIdeal.nD,
    (Cert.Pre_cross_finite.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5)) (m ((c.tc : Thread Cert.CrossIdeal.nD Cert.CrossIdeal.τ).loc Cert.CrossIdeal.main_arg6)) (m ((c.tc : Thread Cert.CrossIdeal.nD Cert.CrossIdeal.τ).loc Cert.CrossIdeal.main_arg7))).1 = (fun _ => 1#1)
    ∧ (Cert.Pre_cross_finite.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5)) (m ((c.tc : Thread Cert.CrossIdeal.nD Cert.CrossIdeal.τ).loc Cert.CrossIdeal.main_arg6)) (m ((c.tc : Thread Cert.CrossIdeal.nD Cert.CrossIdeal.τ).loc Cert.CrossIdeal.main_arg7))).2.1 = (fun _ => 1#1)
    ∧ (Cert.Pre_cross_finite.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5)) (m ((c.tc : Thread Cert.CrossIdeal.nD Cert.CrossIdeal.τ).loc Cert.CrossIdeal.main_arg6)) (m ((c.tc : Thread Cert.CrossIdeal.nD Cert.CrossIdeal.τ).loc Cert.CrossIdeal.main_arg7))).2.2.1 = (fun _ => 1#1)
    ∧ (Cert.Pre_cross_finite.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5)) (m ((c.tc : Thread Cert.CrossIdeal.nD Cert.CrossIdeal.τ).loc Cert.CrossIdeal.main_arg6)) (m ((c.tc : Thread Cert.CrossIdeal.nD Cert.CrossIdeal.τ).loc Cert.CrossIdeal.main_arg7))).2.2.2.1 = (fun _ => 1#1)
    ∧ (Cert.Pre_cross_finite.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5)) (m ((c.tc : Thread Cert.CrossIdeal.nD Cert.CrossIdeal.τ).loc Cert.CrossIdeal.main_arg6)) (m ((c.tc : Thread Cert.CrossIdeal.nD Cert.CrossIdeal.τ).loc Cert.CrossIdeal.main_arg7))).2.2.2.2.1 = (fun _ => 1#1)
    ∧ (Cert.Pre_cross_finite.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5)) (m ((c.tc : Thread Cert.CrossIdeal.nD Cert.CrossIdeal.τ).loc Cert.CrossIdeal.main_arg6)) (m ((c.tc : Thread Cert.CrossIdeal.nD Cert.CrossIdeal.τ).loc Cert.CrossIdeal.main_arg7))).2.2.2.2.2.1 = (fun _ => 1#1)
    ∧ (Cert.Pre_cross_finite.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5)) (m ((c.tc : Thread Cert.CrossIdeal.nD Cert.CrossIdeal.τ).loc Cert.CrossIdeal.main_arg6)) (m ((c.tc : Thread Cert.CrossIdeal.nD Cert.CrossIdeal.τ).loc Cert.CrossIdeal.main_arg7))).2.2.2.2.2.2.1 = (fun _ => 1#1)
    ∧ (Cert.Pre_cross_finite.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5)) (m ((c.tc : Thread Cert.CrossIdeal.nD Cert.CrossIdeal.τ).loc Cert.CrossIdeal.main_arg6)) (m ((c.tc : Thread Cert.CrossIdeal.nD Cert.CrossIdeal.τ).loc Cert.CrossIdeal.main_arg7))).2.2.2.2.2.2.2 = (fun _ => 1#1)

def Pre_CrossReferenceIdeal (m : (ℓ : Loc Cert.CrossReferenceIdeal.nD Cert.CrossReferenceIdeal.τ Cert.CrossReferenceIdeal.sig) → Buf (Elt Ideal) ℓ) : Prop :=
  True

def Pre_CrossReferenceIdeal_cross_finite [hPre_cross_finite : Cert.Pre_cross_finite.Facts] (m : (ℓ : Loc Cert.CrossReferenceIdeal.nD Cert.CrossReferenceIdeal.τ Cert.CrossReferenceIdeal.sig) → Buf (Elt Ideal) ℓ) : Prop :=
  ∀ c : Dev Cert.CrossReferenceIdeal.nD,
    (Cert.Pre_cross_finite.fn (F := Ideal) (m ((c.tc : Thread Cert.CrossReferenceIdeal.nD Cert.CrossReferenceIdeal.τ).loc Cert.CrossReferenceIdeal.main_arg0)) (m ((c.tc : Thread Cert.CrossReferenceIdeal.nD Cert.CrossReferenceIdeal.τ).loc Cert.CrossReferenceIdeal.main_arg1)) (m ((c.tc : Thread Cert.CrossReferenceIdeal.nD Cert.CrossReferenceIdeal.τ).loc Cert.CrossReferenceIdeal.main_arg2)) (m ((c.tc : Thread Cert.CrossReferenceIdeal.nD Cert.CrossReferenceIdeal.τ).loc Cert.CrossReferenceIdeal.main_arg3)) (m ((c.tc : Thread Cert.CrossReferenceIdeal.nD Cert.CrossReferenceIdeal.τ).loc Cert.CrossReferenceIdeal.main_arg4)) (m ((c.tc : Thread Cert.CrossReferenceIdeal.nD Cert.CrossReferenceIdeal.τ).loc Cert.CrossReferenceIdeal.main_arg5)) (m ((c.tc : Thread Cert.CrossReferenceIdeal.nD Cert.CrossReferenceIdeal.τ).loc Cert.CrossReferenceIdeal.main_arg6)) (m ((c.tc : Thread Cert.CrossReferenceIdeal.nD Cert.CrossReferenceIdeal.τ).loc Cert.CrossReferenceIdeal.main_arg7))).1 = (fun _ => 1#1)
    ∧ (Cert.Pre_cross_finite.fn (F := Ideal) (m ((c.tc : Thread Cert.CrossReferenceIdeal.nD Cert.CrossReferenceIdeal.τ).loc Cert.CrossReferenceIdeal.main_arg0)) (m ((c.tc : Thread Cert.CrossReferenceIdeal.nD Cert.CrossReferenceIdeal.τ).loc Cert.CrossReferenceIdeal.main_arg1)) (m ((c.tc : Thread Cert.CrossReferenceIdeal.nD Cert.CrossReferenceIdeal.τ).loc Cert.CrossReferenceIdeal.main_arg2)) (m ((c.tc : Thread Cert.CrossReferenceIdeal.nD Cert.CrossReferenceIdeal.τ).loc Cert.CrossReferenceIdeal.main_arg3)) (m ((c.tc : Thread Cert.CrossReferenceIdeal.nD Cert.CrossReferenceIdeal.τ).loc Cert.CrossReferenceIdeal.main_arg4)) (m ((c.tc : Thread Cert.CrossReferenceIdeal.nD Cert.CrossReferenceIdeal.τ).loc Cert.CrossReferenceIdeal.main_arg5)) (m ((c.tc : Thread Cert.CrossReferenceIdeal.nD Cert.CrossReferenceIdeal.τ).loc Cert.CrossReferenceIdeal.main_arg6)) (m ((c.tc : Thread Cert.CrossReferenceIdeal.nD Cert.CrossReferenceIdeal.τ).loc Cert.CrossReferenceIdeal.main_arg7))).2.1 = (fun _ => 1#1)
    ∧ (Cert.Pre_cross_finite.fn (F := Ideal) (m ((c.tc : Thread Cert.CrossReferenceIdeal.nD Cert.CrossReferenceIdeal.τ).loc Cert.CrossReferenceIdeal.main_arg0)) (m ((c.tc : Thread Cert.CrossReferenceIdeal.nD Cert.CrossReferenceIdeal.τ).loc Cert.CrossReferenceIdeal.main_arg1)) (m ((c.tc : Thread Cert.CrossReferenceIdeal.nD Cert.CrossReferenceIdeal.τ).loc Cert.CrossReferenceIdeal.main_arg2)) (m ((c.tc : Thread Cert.CrossReferenceIdeal.nD Cert.CrossReferenceIdeal.τ).loc Cert.CrossReferenceIdeal.main_arg3)) (m ((c.tc : Thread Cert.CrossReferenceIdeal.nD Cert.CrossReferenceIdeal.τ).loc Cert.CrossReferenceIdeal.main_arg4)) (m ((c.tc : Thread Cert.CrossReferenceIdeal.nD Cert.CrossReferenceIdeal.τ).loc Cert.CrossReferenceIdeal.main_arg5)) (m ((c.tc : Thread Cert.CrossReferenceIdeal.nD Cert.CrossReferenceIdeal.τ).loc Cert.CrossReferenceIdeal.main_arg6)) (m ((c.tc : Thread Cert.CrossReferenceIdeal.nD Cert.CrossReferenceIdeal.τ).loc Cert.CrossReferenceIdeal.main_arg7))).2.2.1 = (fun _ => 1#1)
    ∧ (Cert.Pre_cross_finite.fn (F := Ideal) (m ((c.tc : Thread Cert.CrossReferenceIdeal.nD Cert.CrossReferenceIdeal.τ).loc Cert.CrossReferenceIdeal.main_arg0)) (m ((c.tc : Thread Cert.CrossReferenceIdeal.nD Cert.CrossReferenceIdeal.τ).loc Cert.CrossReferenceIdeal.main_arg1)) (m ((c.tc : Thread Cert.CrossReferenceIdeal.nD Cert.CrossReferenceIdeal.τ).loc Cert.CrossReferenceIdeal.main_arg2)) (m ((c.tc : Thread Cert.CrossReferenceIdeal.nD Cert.CrossReferenceIdeal.τ).loc Cert.CrossReferenceIdeal.main_arg3)) (m ((c.tc : Thread Cert.CrossReferenceIdeal.nD Cert.CrossReferenceIdeal.τ).loc Cert.CrossReferenceIdeal.main_arg4)) (m ((c.tc : Thread Cert.CrossReferenceIdeal.nD Cert.CrossReferenceIdeal.τ).loc Cert.CrossReferenceIdeal.main_arg5)) (m ((c.tc : Thread Cert.CrossReferenceIdeal.nD Cert.CrossReferenceIdeal.τ).loc Cert.CrossReferenceIdeal.main_arg6)) (m ((c.tc : Thread Cert.CrossReferenceIdeal.nD Cert.CrossReferenceIdeal.τ).loc Cert.CrossReferenceIdeal.main_arg7))).2.2.2.1 = (fun _ => 1#1)
    ∧ (Cert.Pre_cross_finite.fn (F := Ideal) (m ((c.tc : Thread Cert.CrossReferenceIdeal.nD Cert.CrossReferenceIdeal.τ).loc Cert.CrossReferenceIdeal.main_arg0)) (m ((c.tc : Thread Cert.CrossReferenceIdeal.nD Cert.CrossReferenceIdeal.τ).loc Cert.CrossReferenceIdeal.main_arg1)) (m ((c.tc : Thread Cert.CrossReferenceIdeal.nD Cert.CrossReferenceIdeal.τ).loc Cert.CrossReferenceIdeal.main_arg2)) (m ((c.tc : Thread Cert.CrossReferenceIdeal.nD Cert.CrossReferenceIdeal.τ).loc Cert.CrossReferenceIdeal.main_arg3)) (m ((c.tc : Thread Cert.CrossReferenceIdeal.nD Cert.CrossReferenceIdeal.τ).loc Cert.CrossReferenceIdeal.main_arg4)) (m ((c.tc : Thread Cert.CrossReferenceIdeal.nD Cert.CrossReferenceIdeal.τ).loc Cert.CrossReferenceIdeal.main_arg5)) (m ((c.tc : Thread Cert.CrossReferenceIdeal.nD Cert.CrossReferenceIdeal.τ).loc Cert.CrossReferenceIdeal.main_arg6)) (m ((c.tc : Thread Cert.CrossReferenceIdeal.nD Cert.CrossReferenceIdeal.τ).loc Cert.CrossReferenceIdeal.main_arg7))).2.2.2.2.1 = (fun _ => 1#1)
    ∧ (Cert.Pre_cross_finite.fn (F := Ideal) (m ((c.tc : Thread Cert.CrossReferenceIdeal.nD Cert.CrossReferenceIdeal.τ).loc Cert.CrossReferenceIdeal.main_arg0)) (m ((c.tc : Thread Cert.CrossReferenceIdeal.nD Cert.CrossReferenceIdeal.τ).loc Cert.CrossReferenceIdeal.main_arg1)) (m ((c.tc : Thread Cert.CrossReferenceIdeal.nD Cert.CrossReferenceIdeal.τ).loc Cert.CrossReferenceIdeal.main_arg2)) (m ((c.tc : Thread Cert.CrossReferenceIdeal.nD Cert.CrossReferenceIdeal.τ).loc Cert.CrossReferenceIdeal.main_arg3)) (m ((c.tc : Thread Cert.CrossReferenceIdeal.nD Cert.CrossReferenceIdeal.τ).loc Cert.CrossReferenceIdeal.main_arg4)) (m ((c.tc : Thread Cert.CrossReferenceIdeal.nD Cert.CrossReferenceIdeal.τ).loc Cert.CrossReferenceIdeal.main_arg5)) (m ((c.tc : Thread Cert.CrossReferenceIdeal.nD Cert.CrossReferenceIdeal.τ).loc Cert.CrossReferenceIdeal.main_arg6)) (m ((c.tc : Thread Cert.CrossReferenceIdeal.nD Cert.CrossReferenceIdeal.τ).loc Cert.CrossReferenceIdeal.main_arg7))).2.2.2.2.2.1 = (fun _ => 1#1)
    ∧ (Cert.Pre_cross_finite.fn (F := Ideal) (m ((c.tc : Thread Cert.CrossReferenceIdeal.nD Cert.CrossReferenceIdeal.τ).loc Cert.CrossReferenceIdeal.main_arg0)) (m ((c.tc : Thread Cert.CrossReferenceIdeal.nD Cert.CrossReferenceIdeal.τ).loc Cert.CrossReferenceIdeal.main_arg1)) (m ((c.tc : Thread Cert.CrossReferenceIdeal.nD Cert.CrossReferenceIdeal.τ).loc Cert.CrossReferenceIdeal.main_arg2)) (m ((c.tc : Thread Cert.CrossReferenceIdeal.nD Cert.CrossReferenceIdeal.τ).loc Cert.CrossReferenceIdeal.main_arg3)) (m ((c.tc : Thread Cert.CrossReferenceIdeal.nD Cert.CrossReferenceIdeal.τ).loc Cert.CrossReferenceIdeal.main_arg4)) (m ((c.tc : Thread Cert.CrossReferenceIdeal.nD Cert.CrossReferenceIdeal.τ).loc Cert.CrossReferenceIdeal.main_arg5)) (m ((c.tc : Thread Cert.CrossReferenceIdeal.nD Cert.CrossReferenceIdeal.τ).loc Cert.CrossReferenceIdeal.main_arg6)) (m ((c.tc : Thread Cert.CrossReferenceIdeal.nD Cert.CrossReferenceIdeal.τ).loc Cert.CrossReferenceIdeal.main_arg7))).2.2.2.2.2.2.1 = (fun _ => 1#1)
    ∧ (Cert.Pre_cross_finite.fn (F := Ideal) (m ((c.tc : Thread Cert.CrossReferenceIdeal.nD Cert.CrossReferenceIdeal.τ).loc Cert.CrossReferenceIdeal.main_arg0)) (m ((c.tc : Thread Cert.CrossReferenceIdeal.nD Cert.CrossReferenceIdeal.τ).loc Cert.CrossReferenceIdeal.main_arg1)) (m ((c.tc : Thread Cert.CrossReferenceIdeal.nD Cert.CrossReferenceIdeal.τ).loc Cert.CrossReferenceIdeal.main_arg2)) (m ((c.tc : Thread Cert.CrossReferenceIdeal.nD Cert.CrossReferenceIdeal.τ).loc Cert.CrossReferenceIdeal.main_arg3)) (m ((c.tc : Thread Cert.CrossReferenceIdeal.nD Cert.CrossReferenceIdeal.τ).loc Cert.CrossReferenceIdeal.main_arg4)) (m ((c.tc : Thread Cert.CrossReferenceIdeal.nD Cert.CrossReferenceIdeal.τ).loc Cert.CrossReferenceIdeal.main_arg5)) (m ((c.tc : Thread Cert.CrossReferenceIdeal.nD Cert.CrossReferenceIdeal.τ).loc Cert.CrossReferenceIdeal.main_arg6)) (m ((c.tc : Thread Cert.CrossReferenceIdeal.nD Cert.CrossReferenceIdeal.τ).loc Cert.CrossReferenceIdeal.main_arg7))).2.2.2.2.2.2.2 = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_mix_finite [hPre_mix_finite : Cert.Pre_mix_finite.Facts] (m : (ℓ : Loc Cert.MixIdeal.nD Cert.MixIdeal.τ Cert.MixIdeal.sig) → Buf (Elt Ideal) ℓ) : Prop :=
  ∀ c : Dev Cert.MixIdeal.nD,
    (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.2.2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.2.2.2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.2.2.2.2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.2.2.2.2.2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.2.2.2.2.2.2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.2.2.2.2.2.2.2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.2.2.2.2.2.2.2.2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.2.2.2.2.2.2.2.2.2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.2.2.2.2.2.2.2.2.2.2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.2.2.2.2.2.2.2.2.2.2.2.2.2.1 = (fun _ => 1#1)
    ∧ (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.2.2.2.2.2.2.2.2.2.2.2.2.2.2 = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_mix_finite [hPre_mix_finite : Cert.Pre_mix_finite.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11)) (m ((c.tc : Thread Cert.MixReferenceIdeal.nD Cert.MixReferenceIdeal.τ).loc Cert.MixReferenceIdeal.main_arg12)) (m ((c.tc : Thread Cert.MixReferenceIdeal.nD Cert.MixReferenceIdeal.τ).loc Cert.MixReferenceIdeal.main_arg13)) (m ((c.tc : Thread Cert.MixReferenceIdeal.nD Cert.MixReferenceIdeal.τ).loc Cert.MixReferenceIdeal.main_arg14)) (m ((c.tc : Thread Cert.MixReferenceIdeal.nD Cert.MixReferenceIdeal.τ).loc Cert.MixReferenceIdeal.main_arg15))).1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11)) (m ((c.tc : Thread Cert.MixReferenceIdeal.nD Cert.MixReferenceIdeal.τ).loc Cert.MixReferenceIdeal.main_arg12)) (m ((c.tc : Thread Cert.MixReferenceIdeal.nD Cert.MixReferenceIdeal.τ).loc Cert.MixReferenceIdeal.main_arg13)) (m ((c.tc : Thread Cert.MixReferenceIdeal.nD Cert.MixReferenceIdeal.τ).loc Cert.MixReferenceIdeal.main_arg14)) (m ((c.tc : Thread Cert.MixReferenceIdeal.nD Cert.MixReferenceIdeal.τ).loc Cert.MixReferenceIdeal.main_arg15))).2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11)) (m ((c.tc : Thread Cert.MixReferenceIdeal.nD Cert.MixReferenceIdeal.τ).loc Cert.MixReferenceIdeal.main_arg12)) (m ((c.tc : Thread Cert.MixReferenceIdeal.nD Cert.MixReferenceIdeal.τ).loc Cert.MixReferenceIdeal.main_arg13)) (m ((c.tc : Thread Cert.MixReferenceIdeal.nD Cert.MixReferenceIdeal.τ).loc Cert.MixReferenceIdeal.main_arg14)) (m ((c.tc : Thread Cert.MixReferenceIdeal.nD Cert.MixReferenceIdeal.τ).loc Cert.MixReferenceIdeal.main_arg15))).2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11)) (m ((c.tc : Thread Cert.MixReferenceIdeal.nD Cert.MixReferenceIdeal.τ).loc Cert.MixReferenceIdeal.main_arg12)) (m ((c.tc : Thread Cert.MixReferenceIdeal.nD Cert.MixReferenceIdeal.τ).loc Cert.MixReferenceIdeal.main_arg13)) (m ((c.tc : Thread Cert.MixReferenceIdeal.nD Cert.MixReferenceIdeal.τ).loc Cert.MixReferenceIdeal.main_arg14)) (m ((c.tc : Thread Cert.MixReferenceIdeal.nD Cert.MixReferenceIdeal.τ).loc Cert.MixReferenceIdeal.main_arg15))).2.2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11)) (m ((c.tc : Thread Cert.MixReferenceIdeal.nD Cert.MixReferenceIdeal.τ).loc Cert.MixReferenceIdeal.main_arg12)) (m ((c.tc : Thread Cert.MixReferenceIdeal.nD Cert.MixReferenceIdeal.τ).loc Cert.MixReferenceIdeal.main_arg13)) (m ((c.tc : Thread Cert.MixReferenceIdeal.nD Cert.MixReferenceIdeal.τ).loc Cert.MixReferenceIdeal.main_arg14)) (m ((c.tc : Thread Cert.MixReferenceIdeal.nD Cert.MixReferenceIdeal.τ).loc Cert.MixReferenceIdeal.main_arg15))).2.2.2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11)) (m ((c.tc : Thread Cert.MixReferenceIdeal.nD Cert.MixReferenceIdeal.τ).loc Cert.MixReferenceIdeal.main_arg12)) (m ((c.tc : Thread Cert.MixReferenceIdeal.nD Cert.MixReferenceIdeal.τ).loc Cert.MixReferenceIdeal.main_arg13)) (m ((c.tc : Thread Cert.MixReferenceIdeal.nD Cert.MixReferenceIdeal.τ).loc Cert.MixReferenceIdeal.main_arg14)) (m ((c.tc : Thread Cert.MixReferenceIdeal.nD Cert.MixReferenceIdeal.τ).loc Cert.MixReferenceIdeal.main_arg15))).2.2.2.2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11)) (m ((c.tc : Thread Cert.MixReferenceIdeal.nD Cert.MixReferenceIdeal.τ).loc Cert.MixReferenceIdeal.main_arg12)) (m ((c.tc : Thread Cert.MixReferenceIdeal.nD Cert.MixReferenceIdeal.τ).loc Cert.MixReferenceIdeal.main_arg13)) (m ((c.tc : Thread Cert.MixReferenceIdeal.nD Cert.MixReferenceIdeal.τ).loc Cert.MixReferenceIdeal.main_arg14)) (m ((c.tc : Thread Cert.MixReferenceIdeal.nD Cert.MixReferenceIdeal.τ).loc Cert.MixReferenceIdeal.main_arg15))).2.2.2.2.2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11)) (m ((c.tc : Thread Cert.MixReferenceIdeal.nD Cert.MixReferenceIdeal.τ).loc Cert.MixReferenceIdeal.main_arg12)) (m ((c.tc : Thread Cert.MixReferenceIdeal.nD Cert.MixReferenceIdeal.τ).loc Cert.MixReferenceIdeal.main_arg13)) (m ((c.tc : Thread Cert.MixReferenceIdeal.nD Cert.MixReferenceIdeal.τ).loc Cert.MixReferenceIdeal.main_arg14)) (m ((c.tc : Thread Cert.MixReferenceIdeal.nD Cert.MixReferenceIdeal.τ).loc Cert.MixReferenceIdeal.main_arg15))).2.2.2.2.2.2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11)) (m ((c.tc : Thread Cert.MixReferenceIdeal.nD Cert.MixReferenceIdeal.τ).loc Cert.MixReferenceIdeal.main_arg12)) (m ((c.tc : Thread Cert.MixReferenceIdeal.nD Cert.MixReferenceIdeal.τ).loc Cert.MixReferenceIdeal.main_arg13)) (m ((c.tc : Thread Cert.MixReferenceIdeal.nD Cert.MixReferenceIdeal.τ).loc Cert.MixReferenceIdeal.main_arg14)) (m ((c.tc : Thread Cert.MixReferenceIdeal.nD Cert.MixReferenceIdeal.τ).loc Cert.MixReferenceIdeal.main_arg15))).2.2.2.2.2.2.2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11)) (m ((c.tc : Thread Cert.MixReferenceIdeal.nD Cert.MixReferenceIdeal.τ).loc Cert.MixReferenceIdeal.main_arg12)) (m ((c.tc : Thread Cert.MixReferenceIdeal.nD Cert.MixReferenceIdeal.τ).loc Cert.MixReferenceIdeal.main_arg13)) (m ((c.tc : Thread Cert.MixReferenceIdeal.nD Cert.MixReferenceIdeal.τ).loc Cert.MixReferenceIdeal.main_arg14)) (m ((c.tc : Thread Cert.MixReferenceIdeal.nD Cert.MixReferenceIdeal.τ).loc Cert.MixReferenceIdeal.main_arg15))).2.2.2.2.2.2.2.2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11)) (m ((c.tc : Thread Cert.MixReferenceIdeal.nD Cert.MixReferenceIdeal.τ).loc Cert.MixReferenceIdeal.main_arg12)) (m ((c.tc : Thread Cert.MixReferenceIdeal.nD Cert.MixReferenceIdeal.τ).loc Cert.MixReferenceIdeal.main_arg13)) (m ((c.tc : Thread Cert.MixReferenceIdeal.nD Cert.MixReferenceIdeal.τ).loc Cert.MixReferenceIdeal.main_arg14)) (m ((c.tc : Thread Cert.MixReferenceIdeal.nD Cert.MixReferenceIdeal.τ).loc Cert.MixReferenceIdeal.main_arg15))).2.2.2.2.2.2.2.2.2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11)) (m ((c.tc : Thread Cert.MixReferenceIdeal.nD Cert.MixReferenceIdeal.τ).loc Cert.MixReferenceIdeal.main_arg12)) (m ((c.tc : Thread Cert.MixReferenceIdeal.nD Cert.MixReferenceIdeal.τ).loc Cert.MixReferenceIdeal.main_arg13)) (m ((c.tc : Thread Cert.MixReferenceIdeal.nD Cert.MixReferenceIdeal.τ).loc Cert.MixReferenceIdeal.main_arg14)) (m ((c.tc : Thread Cert.MixReferenceIdeal.nD Cert.MixReferenceIdeal.τ).loc Cert.MixReferenceIdeal.main_arg15))).2.2.2.2.2.2.2.2.2.2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11)) (m ((c.tc : Thread Cert.MixReferenceIdeal.nD Cert.MixReferenceIdeal.τ).loc Cert.MixReferenceIdeal.main_arg12)) (m ((c.tc : Thread Cert.MixReferenceIdeal.nD Cert.MixReferenceIdeal.τ).loc Cert.MixReferenceIdeal.main_arg13)) (m ((c.tc : Thread Cert.MixReferenceIdeal.nD Cert.MixReferenceIdeal.τ).loc Cert.MixReferenceIdeal.main_arg14)) (m ((c.tc : Thread Cert.MixReferenceIdeal.nD Cert.MixReferenceIdeal.τ).loc Cert.MixReferenceIdeal.main_arg15))).2.2.2.2.2.2.2.2.2.2.2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11)) (m ((c.tc : Thread Cert.MixReferenceIdeal.nD Cert.MixReferenceIdeal.τ).loc Cert.MixReferenceIdeal.main_arg12)) (m ((c.tc : Thread Cert.MixReferenceIdeal.nD Cert.MixReferenceIdeal.τ).loc Cert.MixReferenceIdeal.main_arg13)) (m ((c.tc : Thread Cert.MixReferenceIdeal.nD Cert.MixReferenceIdeal.τ).loc Cert.MixReferenceIdeal.main_arg14)) (m ((c.tc : Thread Cert.MixReferenceIdeal.nD Cert.MixReferenceIdeal.τ).loc Cert.MixReferenceIdeal.main_arg15))).2.2.2.2.2.2.2.2.2.2.2.2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11)) (m ((c.tc : Thread Cert.MixReferenceIdeal.nD Cert.MixReferenceIdeal.τ).loc Cert.MixReferenceIdeal.main_arg12)) (m ((c.tc : Thread Cert.MixReferenceIdeal.nD Cert.MixReferenceIdeal.τ).loc Cert.MixReferenceIdeal.main_arg13)) (m ((c.tc : Thread Cert.MixReferenceIdeal.nD Cert.MixReferenceIdeal.τ).loc Cert.MixReferenceIdeal.main_arg14)) (m ((c.tc : Thread Cert.MixReferenceIdeal.nD Cert.MixReferenceIdeal.τ).loc Cert.MixReferenceIdeal.main_arg15))).2.2.2.2.2.2.2.2.2.2.2.2.2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11)) (m ((c.tc : Thread Cert.MixReferenceIdeal.nD Cert.MixReferenceIdeal.τ).loc Cert.MixReferenceIdeal.main_arg12)) (m ((c.tc : Thread Cert.MixReferenceIdeal.nD Cert.MixReferenceIdeal.τ).loc Cert.MixReferenceIdeal.main_arg13)) (m ((c.tc : Thread Cert.MixReferenceIdeal.nD Cert.MixReferenceIdeal.τ).loc Cert.MixReferenceIdeal.main_arg14)) (m ((c.tc : Thread Cert.MixReferenceIdeal.nD Cert.MixReferenceIdeal.τ).loc Cert.MixReferenceIdeal.main_arg15))).2.2.2.2.2.2.2.2.2.2.2.2.2.2.2 = (fun _ => 1#1)

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallReferenceIdeal (m : (ℓ : Loc Cert.SmallReferenceIdeal.nD Cert.SmallReferenceIdeal.τ Cert.SmallReferenceIdeal.sig) → Buf (Elt Ideal) ℓ) : Prop :=
  True

def Pre_Taps (m : (ℓ : Loc Cert.Taps.nD Cert.Taps.τ Cert.Taps.sig) → Buf (Elt Bits) ℓ) : Prop :=
  True

def Pre_TapsIdeal (m : (ℓ : Loc Cert.TapsIdeal.nD Cert.TapsIdeal.τ Cert.TapsIdeal.sig) → Buf (Elt Ideal) ℓ) : Prop :=
  True

def Pre_TapsReferenceIdeal (m : (ℓ : Loc Cert.TapsReferenceIdeal.nD Cert.TapsReferenceIdeal.τ Cert.TapsReferenceIdeal.sig) → Buf (Elt Ideal) ℓ) : Prop :=
  True

def Pre_Opt (m : (ℓ : Loc Cert.Opt.nD Cert.Opt.τ Cert.Opt.sig) → Buf (Elt Bits) ℓ) : Prop :=
  True

def Pre_OptIdeal (m : (ℓ : Loc Cert.OptIdeal.nD Cert.OptIdeal.τ Cert.OptIdeal.sig) → Buf (Elt Ideal) ℓ) : Prop :=
  True

def Pre_OptReferenceIdeal (m : (ℓ : Loc Cert.OptReferenceIdeal.nD Cert.OptReferenceIdeal.τ Cert.OptReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_FfnReferenceIdeal_pre_ffn_finite [hFfnReferenceIdeal : Cert.FfnReferenceIdeal.Facts] [hPre_ffn_finite : Cert.Pre_ffn_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_ffn_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4)
      ∧ r.2.mem ((c.tc : Thread Cert.Cross.nD Cert.Cross.τ).loc Cert.Cross.main_arg5) = m ((c.tc : Thread Cert.Cross.nD Cert.Cross.τ).loc Cert.Cross.main_arg5)
      ∧ r.2.mem ((c.tc : Thread Cert.Cross.nD Cert.Cross.τ).loc Cert.Cross.main_arg6) = m ((c.tc : Thread Cert.Cross.nD Cert.Cross.τ).loc Cert.Cross.main_arg6)
      ∧ r.2.mem ((c.tc : Thread Cert.Cross.nD Cert.Cross.τ).loc Cert.Cross.main_arg7) = m ((c.tc : Thread Cert.Cross.nD Cert.Cross.τ).loc Cert.Cross.main_arg7))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
      ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6)
      ∧ r.2.mem ((c.tc : Thread Cert.CrossIdeal.nD Cert.CrossIdeal.τ).loc Cert.CrossIdeal.main_arg7) = m ((c.tc : Thread Cert.CrossIdeal.nD Cert.CrossIdeal.τ).loc Cert.CrossIdeal.main_arg7))
      ∧ r.2.sem = fun _ => 0)

def quiescent_CrossIdeal_pre_cross_finite [hCrossIdeal : Cert.CrossIdeal.Facts] [hPre_cross_finite : Cert.Pre_cross_finite.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal_cross_finite m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
      ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6)
      ∧ r.2.mem ((c.tc : Thread Cert.CrossIdeal.nD Cert.CrossIdeal.τ).loc Cert.CrossIdeal.main_arg7) = m ((c.tc : Thread Cert.CrossIdeal.nD Cert.CrossIdeal.τ).loc Cert.CrossIdeal.main_arg7))
      ∧ r.2.sem = fun _ => 0)

def quiescent_CrossReferenceIdeal [hCrossReferenceIdeal : Cert.CrossReferenceIdeal.Facts] : Prop :=
  ∀ (m : (ℓ : Loc Cert.CrossReferenceIdeal.nD Cert.CrossReferenceIdeal.τ Cert.CrossReferenceIdeal.sig) → Buf (Elt Ideal) ℓ) (g : Dev Cert.CrossReferenceIdeal.nD → PrngReg), Pre_CrossReferenceIdeal m →
    θ_run (Cert.CrossReferenceIdeal.defs (F := Ideal)) (onTc (τ := Cert.CrossReferenceIdeal.τ) (Cert.CrossReferenceIdeal.main (F := Ideal))) ⟨m, fun _ => 0, g⟩ (fun r => (∀ c : Dev Cert.CrossReferenceIdeal.nD,
      r.2.mem ((c.tc : Thread Cert.CrossReferenceIdeal.nD Cert.CrossReferenceIdeal.τ).loc Cert.CrossReferenceIdeal.main_arg0) = m ((c.tc : Thread Cert.CrossReferenceIdeal.nD Cert.CrossReferenceIdeal.τ).loc Cert.CrossReferenceIdeal.main_arg0)
      ∧ r.2.mem ((c.tc : Thread Cert.CrossReferenceIdeal.nD Cert.CrossReferenceIdeal.τ).loc Cert.CrossReferenceIdeal.main_arg1) = m ((c.tc : Thread Cert.CrossReferenceIdeal.nD Cert.CrossReferenceIdeal.τ).loc Cert.CrossReferenceIdeal.main_arg1)
      ∧ r.2.mem ((c.tc : Thread Cert.CrossReferenceIdeal.nD Cert.CrossReferenceIdeal.τ).loc Cert.CrossReferenceIdeal.main_arg2) = m ((c.tc : Thread Cert.CrossReferenceIdeal.nD Cert.CrossReferenceIdeal.τ).loc Cert.CrossReferenceIdeal.main_arg2)
      ∧ r.2.mem ((c.tc : Thread Cert.CrossReferenceIdeal.nD Cert.CrossReferenceIdeal.τ).loc Cert.CrossReferenceIdeal.main_arg3) = m ((c.tc : Thread Cert.CrossReferenceIdeal.nD Cert.CrossReferenceIdeal.τ).loc Cert.CrossReferenceIdeal.main_arg3)
      ∧ r.2.mem ((c.tc : Thread Cert.CrossReferenceIdeal.nD Cert.CrossReferenceIdeal.τ).loc Cert.CrossReferenceIdeal.main_arg4) = m ((c.tc : Thread Cert.CrossReferenceIdeal.nD Cert.CrossReferenceIdeal.τ).loc Cert.CrossReferenceIdeal.main_arg4)
      ∧ r.2.mem ((c.tc : Thread Cert.CrossReferenceIdeal.nD Cert.CrossReferenceIdeal.τ).loc Cert.CrossReferenceIdeal.main_arg5) = m ((c.tc : Thread Cert.CrossReferenceIdeal.nD Cert.CrossReferenceIdeal.τ).loc Cert.CrossReferenceIdeal.main_arg5)
      ∧ r.2.mem ((c.tc : Thread Cert.CrossReferenceIdeal.nD Cert.CrossReferenceIdeal.τ).loc Cert.CrossReferenceIdeal.main_arg6) = m ((c.tc : Thread Cert.CrossReferenceIdeal.nD Cert.CrossReferenceIdeal.τ).loc Cert.CrossReferenceIdeal.main_arg6)
      ∧ r.2.mem ((c.tc : Thread Cert.CrossReferenceIdeal.nD Cert.CrossReferenceIdeal.τ).loc Cert.CrossReferenceIdeal.main_arg7) = m ((c.tc : Thread Cert.CrossReferenceIdeal.nD Cert.CrossReferenceIdeal.τ).loc Cert.CrossReferenceIdeal.main_arg7))
      ∧ r.2.sem = fun _ => 0)

def quiescent_CrossReferenceIdeal_pre_cross_finite [hCrossReferenceIdeal : Cert.CrossReferenceIdeal.Facts] [hPre_cross_finite : Cert.Pre_cross_finite.Facts] : Prop :=
  ∀ (m : (ℓ : Loc Cert.CrossReferenceIdeal.nD Cert.CrossReferenceIdeal.τ Cert.CrossReferenceIdeal.sig) → Buf (Elt Ideal) ℓ) (g : Dev Cert.CrossReferenceIdeal.nD → PrngReg), Pre_CrossReferenceIdeal_cross_finite m →
    θ_run (Cert.CrossReferenceIdeal.defs (F := Ideal)) (onTc (τ := Cert.CrossReferenceIdeal.τ) (Cert.CrossReferenceIdeal.main (F := Ideal))) ⟨m, fun _ => 0, g⟩ (fun r => (∀ c : Dev Cert.CrossReferenceIdeal.nD,
      r.2.mem ((c.tc : Thread Cert.CrossReferenceIdeal.nD Cert.CrossReferenceIdeal.τ).loc Cert.CrossReferenceIdeal.main_arg0) = m ((c.tc : Thread Cert.CrossReferenceIdeal.nD Cert.CrossReferenceIdeal.τ).loc Cert.CrossReferenceIdeal.main_arg0)
      ∧ r.2.mem ((c.tc : Thread Cert.CrossReferenceIdeal.nD Cert.CrossReferenceIdeal.τ).loc Cert.CrossReferenceIdeal.main_arg1) = m ((c.tc : Thread Cert.CrossReferenceIdeal.nD Cert.CrossReferenceIdeal.τ).loc Cert.CrossReferenceIdeal.main_arg1)
      ∧ r.2.mem ((c.tc : Thread Cert.CrossReferenceIdeal.nD Cert.CrossReferenceIdeal.τ).loc Cert.CrossReferenceIdeal.main_arg2) = m ((c.tc : Thread Cert.CrossReferenceIdeal.nD Cert.CrossReferenceIdeal.τ).loc Cert.CrossReferenceIdeal.main_arg2)
      ∧ r.2.mem ((c.tc : Thread Cert.CrossReferenceIdeal.nD Cert.CrossReferenceIdeal.τ).loc Cert.CrossReferenceIdeal.main_arg3) = m ((c.tc : Thread Cert.CrossReferenceIdeal.nD Cert.CrossReferenceIdeal.τ).loc Cert.CrossReferenceIdeal.main_arg3)
      ∧ r.2.mem ((c.tc : Thread Cert.CrossReferenceIdeal.nD Cert.CrossReferenceIdeal.τ).loc Cert.CrossReferenceIdeal.main_arg4) = m ((c.tc : Thread Cert.CrossReferenceIdeal.nD Cert.CrossReferenceIdeal.τ).loc Cert.CrossReferenceIdeal.main_arg4)
      ∧ r.2.mem ((c.tc : Thread Cert.CrossReferenceIdeal.nD Cert.CrossReferenceIdeal.τ).loc Cert.CrossReferenceIdeal.main_arg5) = m ((c.tc : Thread Cert.CrossReferenceIdeal.nD Cert.CrossReferenceIdeal.τ).loc Cert.CrossReferenceIdeal.main_arg5)
      ∧ r.2.mem ((c.tc : Thread Cert.CrossReferenceIdeal.nD Cert.CrossReferenceIdeal.τ).loc Cert.CrossReferenceIdeal.main_arg6) = m ((c.tc : Thread Cert.CrossReferenceIdeal.nD Cert.CrossReferenceIdeal.τ).loc Cert.CrossReferenceIdeal.main_arg6)
      ∧ r.2.mem ((c.tc : Thread Cert.CrossReferenceIdeal.nD Cert.CrossReferenceIdeal.τ).loc Cert.CrossReferenceIdeal.main_arg7) = m ((c.tc : Thread Cert.CrossReferenceIdeal.nD Cert.CrossReferenceIdeal.τ).loc Cert.CrossReferenceIdeal.main_arg7))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14)
      ∧ r.2.mem ((c.tc : Thread Cert.Mix.nD Cert.Mix.τ).loc Cert.Mix.main_arg15) = m ((c.tc : Thread Cert.Mix.nD Cert.Mix.τ).loc Cert.Mix.main_arg15))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15))
      ∧ r.2.sem = fun _ => 0)

def quiescent_MixIdeal_pre_mix_finite [hMixIdeal : Cert.MixIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_mix_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11)
      ∧ r.2.mem ((c.tc : Thread Cert.MixReferenceIdeal.nD Cert.MixReferenceIdeal.τ).loc Cert.MixReferenceIdeal.main_arg12) = m ((c.tc : Thread Cert.MixReferenceIdeal.nD Cert.MixReferenceIdeal.τ).loc Cert.MixReferenceIdeal.main_arg12)
      ∧ r.2.mem ((c.tc : Thread Cert.MixReferenceIdeal.nD Cert.MixReferenceIdeal.τ).loc Cert.MixReferenceIdeal.main_arg13) = m ((c.tc : Thread Cert.MixReferenceIdeal.nD Cert.MixReferenceIdeal.τ).loc Cert.MixReferenceIdeal.main_arg13)
      ∧ r.2.mem ((c.tc : Thread Cert.MixReferenceIdeal.nD Cert.MixReferenceIdeal.τ).loc Cert.MixReferenceIdeal.main_arg14) = m ((c.tc : Thread Cert.MixReferenceIdeal.nD Cert.MixReferenceIdeal.τ).loc Cert.MixReferenceIdeal.main_arg14)
      ∧ r.2.mem ((c.tc : Thread Cert.MixReferenceIdeal.nD Cert.MixReferenceIdeal.τ).loc Cert.MixReferenceIdeal.main_arg15) = m ((c.tc : Thread Cert.MixReferenceIdeal.nD Cert.MixReferenceIdeal.τ).loc Cert.MixReferenceIdeal.main_arg15))
      ∧ r.2.sem = fun _ => 0)

def quiescent_MixReferenceIdeal_pre_mix_finite [hMixReferenceIdeal : Cert.MixReferenceIdeal.Facts] [hPre_mix_finite : Cert.Pre_mix_finite.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_mix_finite m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11)
      ∧ r.2.mem ((c.tc : Thread Cert.MixReferenceIdeal.nD Cert.MixReferenceIdeal.τ).loc Cert.MixReferenceIdeal.main_arg12) = m ((c.tc : Thread Cert.MixReferenceIdeal.nD Cert.MixReferenceIdeal.τ).loc Cert.MixReferenceIdeal.main_arg12)
      ∧ r.2.mem ((c.tc : Thread Cert.MixReferenceIdeal.nD Cert.MixReferenceIdeal.τ).loc Cert.MixReferenceIdeal.main_arg13) = m ((c.tc : Thread Cert.MixReferenceIdeal.nD Cert.MixReferenceIdeal.τ).loc Cert.MixReferenceIdeal.main_arg13)
      ∧ r.2.mem ((c.tc : Thread Cert.MixReferenceIdeal.nD Cert.MixReferenceIdeal.τ).loc Cert.MixReferenceIdeal.main_arg14) = m ((c.tc : Thread Cert.MixReferenceIdeal.nD Cert.MixReferenceIdeal.τ).loc Cert.MixReferenceIdeal.main_arg14)
      ∧ r.2.mem ((c.tc : Thread Cert.MixReferenceIdeal.nD Cert.MixReferenceIdeal.τ).loc Cert.MixReferenceIdeal.main_arg15) = m ((c.tc : Thread Cert.MixReferenceIdeal.nD Cert.MixReferenceIdeal.τ).loc Cert.MixReferenceIdeal.main_arg15))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3))
      ∧ r.2.sem = fun _ => 0)

def quiescent_SmallReferenceIdeal [hSmallReferenceIdeal : Cert.SmallReferenceIdeal.Facts] : Prop :=
  ∀ (m : (ℓ : Loc Cert.SmallReferenceIdeal.nD Cert.SmallReferenceIdeal.τ Cert.SmallReferenceIdeal.sig) → Buf (Elt Ideal) ℓ) (g : Dev Cert.SmallReferenceIdeal.nD → PrngReg), Pre_SmallReferenceIdeal m →
    θ_run (Cert.SmallReferenceIdeal.defs (F := Ideal)) (onTc (τ := Cert.SmallReferenceIdeal.τ) (Cert.SmallReferenceIdeal.main (F := Ideal))) ⟨m, fun _ => 0, g⟩ (fun r => (∀ c : Dev Cert.SmallReferenceIdeal.nD,
      r.2.mem ((c.tc : Thread Cert.SmallReferenceIdeal.nD Cert.SmallReferenceIdeal.τ).loc Cert.SmallReferenceIdeal.main_arg0) = m ((c.tc : Thread Cert.SmallReferenceIdeal.nD Cert.SmallReferenceIdeal.τ).loc Cert.SmallReferenceIdeal.main_arg0)
      ∧ r.2.mem ((c.tc : Thread Cert.SmallReferenceIdeal.nD Cert.SmallReferenceIdeal.τ).loc Cert.SmallReferenceIdeal.main_arg1) = m ((c.tc : Thread Cert.SmallReferenceIdeal.nD Cert.SmallReferenceIdeal.τ).loc Cert.SmallReferenceIdeal.main_arg1)
      ∧ r.2.mem ((c.tc : Thread Cert.SmallReferenceIdeal.nD Cert.SmallReferenceIdeal.τ).loc Cert.SmallReferenceIdeal.main_arg2) = m ((c.tc : Thread Cert.SmallReferenceIdeal.nD Cert.SmallReferenceIdeal.τ).loc Cert.SmallReferenceIdeal.main_arg2)
      ∧ r.2.mem ((c.tc : Thread Cert.SmallReferenceIdeal.nD Cert.SmallReferenceIdeal.τ).loc Cert.SmallReferenceIdeal.main_arg3) = m ((c.tc : Thread Cert.SmallReferenceIdeal.nD Cert.SmallReferenceIdeal.τ).loc Cert.SmallReferenceIdeal.main_arg3))
      ∧ r.2.sem = fun _ => 0)

def quiescent_Taps [hTaps : Cert.Taps.Facts] : Prop :=
  ∀ (m : (ℓ : Loc Cert.Taps.nD Cert.Taps.τ Cert.Taps.sig) → Buf (Elt Bits) ℓ) (g : Dev Cert.Taps.nD → PrngReg), Pre_Taps m →
    θ_run (Cert.Taps.defs (F := Bits)) (onTc (τ := Cert.Taps.τ) (Cert.Taps.main (F := Bits))) ⟨m, fun _ => 0, g⟩ (fun r => (∀ c : Dev Cert.Taps.nD,
      r.2.mem ((c.tc : Thread Cert.Taps.nD Cert.Taps.τ).loc Cert.Taps.main_arg0) = m ((c.tc : Thread Cert.Taps.nD Cert.Taps.τ).loc Cert.Taps.main_arg0)
      ∧ r.2.mem ((c.tc : Thread Cert.Taps.nD Cert.Taps.τ).loc Cert.Taps.main_arg1) = m ((c.tc : Thread Cert.Taps.nD Cert.Taps.τ).loc Cert.Taps.main_arg1)
      ∧ r.2.mem ((c.tc : Thread Cert.Taps.nD Cert.Taps.τ).loc Cert.Taps.main_arg2) = m ((c.tc : Thread Cert.Taps.nD Cert.Taps.τ).loc Cert.Taps.main_arg2)
      ∧ r.2.mem ((c.tc : Thread Cert.Taps.nD Cert.Taps.τ).loc Cert.Taps.main_arg3) = m ((c.tc : Thread Cert.Taps.nD Cert.Taps.τ).loc Cert.Taps.main_arg3))
      ∧ r.2.sem = fun _ => 0)

def quiescent_TapsIdeal [hTapsIdeal : Cert.TapsIdeal.Facts] : Prop :=
  ∀ (m : (ℓ : Loc Cert.TapsIdeal.nD Cert.TapsIdeal.τ Cert.TapsIdeal.sig) → Buf (Elt Ideal) ℓ) (g : Dev Cert.TapsIdeal.nD → PrngReg), Pre_TapsIdeal m →
    θ_run (Cert.TapsIdeal.defs (F := Ideal)) (onTc (τ := Cert.TapsIdeal.τ) (Cert.TapsIdeal.main (F := Ideal))) ⟨m, fun _ => 0, g⟩ (fun r => (∀ c : Dev Cert.TapsIdeal.nD,
      r.2.mem ((c.tc : Thread Cert.TapsIdeal.nD Cert.TapsIdeal.τ).loc Cert.TapsIdeal.main_arg0) = m ((c.tc : Thread Cert.TapsIdeal.nD Cert.TapsIdeal.τ).loc Cert.TapsIdeal.main_arg0)
      ∧ r.2.mem ((c.tc : Thread Cert.TapsIdeal.nD Cert.TapsIdeal.τ).loc Cert.TapsIdeal.main_arg1) = m ((c.tc : Thread Cert.TapsIdeal.nD Cert.TapsIdeal.τ).loc Cert.TapsIdeal.main_arg1)
      ∧ r.2.mem ((c.tc : Thread Cert.TapsIdeal.nD Cert.TapsIdeal.τ).loc Cert.TapsIdeal.main_arg2) = m ((c.tc : Thread Cert.TapsIdeal.nD Cert.TapsIdeal.τ).loc Cert.TapsIdeal.main_arg2)
      ∧ r.2.mem ((c.tc : Thread Cert.TapsIdeal.nD Cert.TapsIdeal.τ).loc Cert.TapsIdeal.main_arg3) = m ((c.tc : Thread Cert.TapsIdeal.nD Cert.TapsIdeal.τ).loc Cert.TapsIdeal.main_arg3))
      ∧ r.2.sem = fun _ => 0)

def quiescent_TapsReferenceIdeal [hTapsReferenceIdeal : Cert.TapsReferenceIdeal.Facts] : Prop :=
  ∀ (m : (ℓ : Loc Cert.TapsReferenceIdeal.nD Cert.TapsReferenceIdeal.τ Cert.TapsReferenceIdeal.sig) → Buf (Elt Ideal) ℓ) (g : Dev Cert.TapsReferenceIdeal.nD → PrngReg), Pre_TapsReferenceIdeal m →
    θ_run (Cert.TapsReferenceIdeal.defs (F := Ideal)) (onTc (τ := Cert.TapsReferenceIdeal.τ) (Cert.TapsReferenceIdeal.main (F := Ideal))) ⟨m, fun _ => 0, g⟩ (fun r => (∀ c : Dev Cert.TapsReferenceIdeal.nD,
      r.2.mem ((c.tc : Thread Cert.TapsReferenceIdeal.nD Cert.TapsReferenceIdeal.τ).loc Cert.TapsReferenceIdeal.main_arg0) = m ((c.tc : Thread Cert.TapsReferenceIdeal.nD Cert.TapsReferenceIdeal.τ).loc Cert.TapsReferenceIdeal.main_arg0)
      ∧ r.2.mem ((c.tc : Thread Cert.TapsReferenceIdeal.nD Cert.TapsReferenceIdeal.τ).loc Cert.TapsReferenceIdeal.main_arg1) = m ((c.tc : Thread Cert.TapsReferenceIdeal.nD Cert.TapsReferenceIdeal.τ).loc Cert.TapsReferenceIdeal.main_arg1)
      ∧ r.2.mem ((c.tc : Thread Cert.TapsReferenceIdeal.nD Cert.TapsReferenceIdeal.τ).loc Cert.TapsReferenceIdeal.main_arg2) = m ((c.tc : Thread Cert.TapsReferenceIdeal.nD Cert.TapsReferenceIdeal.τ).loc Cert.TapsReferenceIdeal.main_arg2)
      ∧ r.2.mem ((c.tc : Thread Cert.TapsReferenceIdeal.nD Cert.TapsReferenceIdeal.τ).loc Cert.TapsReferenceIdeal.main_arg3) = m ((c.tc : Thread Cert.TapsReferenceIdeal.nD Cert.TapsReferenceIdeal.τ).loc Cert.TapsReferenceIdeal.main_arg3))
      ∧ r.2.sem = fun _ => 0)

def quiescent_Opt [hOpt : Cert.Opt.Facts] : Prop :=
  ∀ (m : (ℓ : Loc Cert.Opt.nD Cert.Opt.τ Cert.Opt.sig) → Buf (Elt Bits) ℓ) (g : Dev Cert.Opt.nD → PrngReg), Pre_Opt m →
    θ_run (Cert.Opt.defs (F := Bits)) (onTc (τ := Cert.Opt.τ) (Cert.Opt.main (F := Bits))) ⟨m, fun _ => 0, g⟩ (fun r => (∀ c : Dev Cert.Opt.nD,
      r.2.mem ((c.tc : Thread Cert.Opt.nD Cert.Opt.τ).loc Cert.Opt.main_arg0) = m ((c.tc : Thread Cert.Opt.nD Cert.Opt.τ).loc Cert.Opt.main_arg0)
      ∧ r.2.mem ((c.tc : Thread Cert.Opt.nD Cert.Opt.τ).loc Cert.Opt.main_arg1) = m ((c.tc : Thread Cert.Opt.nD Cert.Opt.τ).loc Cert.Opt.main_arg1)
      ∧ r.2.mem ((c.tc : Thread Cert.Opt.nD Cert.Opt.τ).loc Cert.Opt.main_arg2) = m ((c.tc : Thread Cert.Opt.nD Cert.Opt.τ).loc Cert.Opt.main_arg2)
      ∧ r.2.mem ((c.tc : Thread Cert.Opt.nD Cert.Opt.τ).loc Cert.Opt.main_arg3) = m ((c.tc : Thread Cert.Opt.nD Cert.Opt.τ).loc Cert.Opt.main_arg3)
      ∧ r.2.mem ((c.tc : Thread Cert.Opt.nD Cert.Opt.τ).loc Cert.Opt.main_arg4) = m ((c.tc : Thread Cert.Opt.nD Cert.Opt.τ).loc Cert.Opt.main_arg4)
      ∧ r.2.mem ((c.tc : Thread Cert.Opt.nD Cert.Opt.τ).loc Cert.Opt.main_arg5) = m ((c.tc : Thread Cert.Opt.nD Cert.Opt.τ).loc Cert.Opt.main_arg5)
      ∧ r.2.mem ((c.tc : Thread Cert.Opt.nD Cert.Opt.τ).loc Cert.Opt.main_arg6) = m ((c.tc : Thread Cert.Opt.nD Cert.Opt.τ).loc Cert.Opt.main_arg6)
      ∧ r.2.mem ((c.tc : Thread Cert.Opt.nD Cert.Opt.τ).loc Cert.Opt.main_arg7) = m ((c.tc : Thread Cert.Opt.nD Cert.Opt.τ).loc Cert.Opt.main_arg7))
      ∧ r.2.sem = fun _ => 0)

def quiescent_OptIdeal [hOptIdeal : Cert.OptIdeal.Facts] : Prop :=
  ∀ (m : (ℓ : Loc Cert.OptIdeal.nD Cert.OptIdeal.τ Cert.OptIdeal.sig) → Buf (Elt Ideal) ℓ) (g : Dev Cert.OptIdeal.nD → PrngReg), Pre_OptIdeal m →
    θ_run (Cert.OptIdeal.defs (F := Ideal)) (onTc (τ := Cert.OptIdeal.τ) (Cert.OptIdeal.main (F := Ideal))) ⟨m, fun _ => 0, g⟩ (fun r => (∀ c : Dev Cert.OptIdeal.nD,
      r.2.mem ((c.tc : Thread Cert.OptIdeal.nD Cert.OptIdeal.τ).loc Cert.OptIdeal.main_arg0) = m ((c.tc : Thread Cert.OptIdeal.nD Cert.OptIdeal.τ).loc Cert.OptIdeal.main_arg0)
      ∧ r.2.mem ((c.tc : Thread Cert.OptIdeal.nD Cert.OptIdeal.τ).loc Cert.OptIdeal.main_arg1) = m ((c.tc : Thread Cert.OptIdeal.nD Cert.OptIdeal.τ).loc Cert.OptIdeal.main_arg1)
      ∧ r.2.mem ((c.tc : Thread Cert.OptIdeal.nD Cert.OptIdeal.τ).loc Cert.OptIdeal.main_arg2) = m ((c.tc : Thread Cert.OptIdeal.nD Cert.OptIdeal.τ).loc Cert.OptIdeal.main_arg2)
      ∧ r.2.mem ((c.tc : Thread Cert.OptIdeal.nD Cert.OptIdeal.τ).loc Cert.OptIdeal.main_arg3) = m ((c.tc : Thread Cert.OptIdeal.nD Cert.OptIdeal.τ).loc Cert.OptIdeal.main_arg3)
      ∧ r.2.mem ((c.tc : Thread Cert.OptIdeal.nD Cert.OptIdeal.τ).loc Cert.OptIdeal.main_arg4) = m ((c.tc : Thread Cert.OptIdeal.nD Cert.OptIdeal.τ).loc Cert.OptIdeal.main_arg4)
      ∧ r.2.mem ((c.tc : Thread Cert.OptIdeal.nD Cert.OptIdeal.τ).loc Cert.OptIdeal.main_arg5) = m ((c.tc : Thread Cert.OptIdeal.nD Cert.OptIdeal.τ).loc Cert.OptIdeal.main_arg5)
      ∧ r.2.mem ((c.tc : Thread Cert.OptIdeal.nD Cert.OptIdeal.τ).loc Cert.OptIdeal.main_arg6) = m ((c.tc : Thread Cert.OptIdeal.nD Cert.OptIdeal.τ).loc Cert.OptIdeal.main_arg6)
      ∧ r.2.mem ((c.tc : Thread Cert.OptIdeal.nD Cert.OptIdeal.τ).loc Cert.OptIdeal.main_arg7) = m ((c.tc : Thread Cert.OptIdeal.nD Cert.OptIdeal.τ).loc Cert.OptIdeal.main_arg7))
      ∧ r.2.sem = fun _ => 0)

def quiescent_OptReferenceIdeal [hOptReferenceIdeal : Cert.OptReferenceIdeal.Facts] : Prop :=
  ∀ (m : (ℓ : Loc Cert.OptReferenceIdeal.nD Cert.OptReferenceIdeal.τ Cert.OptReferenceIdeal.sig) → Buf (Elt Ideal) ℓ) (g : Dev Cert.OptReferenceIdeal.nD → PrngReg), Pre_OptReferenceIdeal m →
    θ_run (Cert.OptReferenceIdeal.defs (F := Ideal)) (onTc (τ := Cert.OptReferenceIdeal.τ) (Cert.OptReferenceIdeal.main (F := Ideal))) ⟨m, fun _ => 0, g⟩ (fun r => (∀ c : Dev Cert.OptReferenceIdeal.nD,
      r.2.mem ((c.tc : Thread Cert.OptReferenceIdeal.nD Cert.OptReferenceIdeal.τ).loc Cert.OptReferenceIdeal.main_arg0) = m ((c.tc : Thread Cert.OptReferenceIdeal.nD Cert.OptReferenceIdeal.τ).loc Cert.OptReferenceIdeal.main_arg0)
      ∧ r.2.mem ((c.tc : Thread Cert.OptReferenceIdeal.nD Cert.OptReferenceIdeal.τ).loc Cert.OptReferenceIdeal.main_arg1) = m ((c.tc : Thread Cert.OptReferenceIdeal.nD Cert.OptReferenceIdeal.τ).loc Cert.OptReferenceIdeal.main_arg1)
      ∧ r.2.mem ((c.tc : Thread Cert.OptReferenceIdeal.nD Cert.OptReferenceIdeal.τ).loc Cert.OptReferenceIdeal.main_arg2) = m ((c.tc : Thread Cert.OptReferenceIdeal.nD Cert.OptReferenceIdeal.τ).loc Cert.OptReferenceIdeal.main_arg2)
      ∧ r.2.mem ((c.tc : Thread Cert.OptReferenceIdeal.nD Cert.OptReferenceIdeal.τ).loc Cert.OptReferenceIdeal.main_arg3) = m ((c.tc : Thread Cert.OptReferenceIdeal.nD Cert.OptReferenceIdeal.τ).loc Cert.OptReferenceIdeal.main_arg3)
      ∧ r.2.mem ((c.tc : Thread Cert.OptReferenceIdeal.nD Cert.OptReferenceIdeal.τ).loc Cert.OptReferenceIdeal.main_arg4) = m ((c.tc : Thread Cert.OptReferenceIdeal.nD Cert.OptReferenceIdeal.τ).loc Cert.OptReferenceIdeal.main_arg4)
      ∧ r.2.mem ((c.tc : Thread Cert.OptReferenceIdeal.nD Cert.OptReferenceIdeal.τ).loc Cert.OptReferenceIdeal.main_arg5) = m ((c.tc : Thread Cert.OptReferenceIdeal.nD Cert.OptReferenceIdeal.τ).loc Cert.OptReferenceIdeal.main_arg5)
      ∧ r.2.mem ((c.tc : Thread Cert.OptReferenceIdeal.nD Cert.OptReferenceIdeal.τ).loc Cert.OptReferenceIdeal.main_arg6) = m ((c.tc : Thread Cert.OptReferenceIdeal.nD Cert.OptReferenceIdeal.τ).loc Cert.OptReferenceIdeal.main_arg6)
      ∧ r.2.mem ((c.tc : Thread Cert.OptReferenceIdeal.nD Cert.OptReferenceIdeal.τ).loc Cert.OptReferenceIdeal.main_arg7) = m ((c.tc : Thread Cert.OptReferenceIdeal.nD Cert.OptReferenceIdeal.τ).loc Cert.OptReferenceIdeal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3_0)) (v2 : (c : Dev Cert.KernelIdeal.nD) → Buf (Elt Ideal) ((c.tc : Thread Cert.KernelIdeal.nD Cert.KernelIdeal.τ).loc Cert.KernelIdeal.main_v3_1)) (v3 : (c : Dev Cert.KernelIdeal.nD) → Buf (Elt Ideal) ((c.tc : Thread Cert.KernelIdeal.nD Cert.KernelIdeal.τ).loc Cert.KernelIdeal.main_v3_2)) (v4 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_v3_1) = v2 c
          ∧ r.2.mem ((c.tc : Thread Cert.KernelIdeal.nD Cert.KernelIdeal.τ).loc Cert.KernelIdeal.main_v3_2) = v3 c
          ∧ r.2.mem ((c.tc : Thread Cert.KernelIdeal.nD Cert.KernelIdeal.τ).loc Cert.KernelIdeal.main_v3_3) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_v96) = v3 c
          ∧ r.2.mem ((c.tc : Thread Cert.ReferenceIdeal.nD Cert.ReferenceIdeal.τ).loc Cert.ReferenceIdeal.main_v98) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnReferenceIdeal_pre_ffn_finite [hFfnIdeal : Cert.FfnIdeal.Facts] [hFfnReferenceIdeal : Cert.FfnReferenceIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal_ffn_finite m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v3)) (v1 : (c : Dev Cert.FfnIdeal.nD) → Buf (Elt Ideal) ((c.tc : Thread Cert.FfnIdeal.nD Cert.FfnIdeal.τ).loc Cert.FfnIdeal.main_v9_0)) (v2 : (c : Dev Cert.FfnIdeal.nD) → Buf (Elt Ideal) ((c.tc : Thread Cert.FfnIdeal.nD Cert.FfnIdeal.τ).loc Cert.FfnIdeal.main_v9_1)) (v3 : (c : Dev Cert.FfnIdeal.nD) → Buf (Elt Ideal) ((c.tc : Thread Cert.FfnIdeal.nD Cert.FfnIdeal.τ).loc Cert.FfnIdeal.main_v6)) (v4 : (c : Dev Cert.FfnIdeal.nD) → Buf (Elt Ideal) ((c.tc : Thread Cert.FfnIdeal.nD Cert.FfnIdeal.τ).loc Cert.FfnIdeal.main_v7)) (v5 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_v9_0) = v1 c
          ∧ r.2.mem ((c.tc : Thread Cert.FfnIdeal.nD Cert.FfnIdeal.τ).loc Cert.FfnIdeal.main_v9_1) = v2 c
          ∧ r.2.mem ((c.tc : Thread Cert.FfnIdeal.nD Cert.FfnIdeal.τ).loc Cert.FfnIdeal.main_v6) = v3 c
          ∧ r.2.mem ((c.tc : Thread Cert.FfnIdeal.nD Cert.FfnIdeal.τ).loc Cert.FfnIdeal.main_v7) = v4 c
          ∧ r.2.mem ((c.tc : Thread Cert.FfnIdeal.nD Cert.FfnIdeal.τ).loc Cert.FfnIdeal.main_v5) = v5 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v31) = v0 c
          ∧ r.2.mem ((c.tc : Thread Cert.FfnReferenceIdeal.nD Cert.FfnReferenceIdeal.τ).loc Cert.FfnReferenceIdeal.main_v73) = v1 c
          ∧ r.2.mem ((c.tc : Thread Cert.FfnReferenceIdeal.nD Cert.FfnReferenceIdeal.τ).loc Cert.FfnReferenceIdeal.main_v74) = v2 c
          ∧ r.2.mem ((c.tc : Thread Cert.FfnReferenceIdeal.nD Cert.FfnReferenceIdeal.τ).loc Cert.FfnReferenceIdeal.main_v75) = v3 c
          ∧ r.2.mem ((c.tc : Thread Cert.FfnReferenceIdeal.nD Cert.FfnReferenceIdeal.τ).loc Cert.FfnReferenceIdeal.main_v76) = v4 c
          ∧ r.2.mem ((c.tc : Thread Cert.FfnReferenceIdeal.nD Cert.FfnReferenceIdeal.τ).loc Cert.FfnReferenceIdeal.main_v77) = v5 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_Cross_CrossIdeal : Prop :=
  True

def algebraic_CrossIdeal_CrossReferenceIdeal_pre_cross_finite [hCrossIdeal : Cert.CrossIdeal.Facts] [hCrossReferenceIdeal : Cert.CrossReferenceIdeal.Facts] [hPre_cross_finite : Cert.Pre_cross_finite.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossReferenceIdeal.nD Cert.CrossReferenceIdeal.τ Cert.CrossReferenceIdeal.sig) → Buf (Elt Ideal) ℓ) (g' : Dev Cert.CrossReferenceIdeal.nD → PrngReg), Pre_CrossIdeal_cross_finite m →
    (∀ c : Dev Cert.CrossIdeal.nD,
      m' ((c.tc : Thread Cert.CrossReferenceIdeal.nD Cert.CrossReferenceIdeal.τ).loc Cert.CrossReferenceIdeal.main_arg0) = m ((c.tc : Thread Cert.CrossIdeal.nD Cert.CrossIdeal.τ).loc Cert.CrossIdeal.main_arg0)
      ∧ m' ((c.tc : Thread Cert.CrossReferenceIdeal.nD Cert.CrossReferenceIdeal.τ).loc Cert.CrossReferenceIdeal.main_arg1) = m ((c.tc : Thread Cert.CrossIdeal.nD Cert.CrossIdeal.τ).loc Cert.CrossIdeal.main_arg1)
      ∧ m' ((c.tc : Thread Cert.CrossReferenceIdeal.nD Cert.CrossReferenceIdeal.τ).loc Cert.CrossReferenceIdeal.main_arg2) = m ((c.tc : Thread Cert.CrossIdeal.nD Cert.CrossIdeal.τ).loc Cert.CrossIdeal.main_arg2)
      ∧ m' ((c.tc : Thread Cert.CrossReferenceIdeal.nD Cert.CrossReferenceIdeal.τ).loc Cert.CrossReferenceIdeal.main_arg3) = m ((c.tc : Thread Cert.CrossIdeal.nD Cert.CrossIdeal.τ).loc Cert.CrossIdeal.main_arg3)
      ∧ m' ((c.tc : Thread Cert.CrossReferenceIdeal.nD Cert.CrossReferenceIdeal.τ).loc Cert.CrossReferenceIdeal.main_arg4) = m ((c.tc : Thread Cert.CrossIdeal.nD Cert.CrossIdeal.τ).loc Cert.CrossIdeal.main_arg4)
      ∧ m' ((c.tc : Thread Cert.CrossReferenceIdeal.nD Cert.CrossReferenceIdeal.τ).loc Cert.CrossReferenceIdeal.main_arg5) = m ((c.tc : Thread Cert.CrossIdeal.nD Cert.CrossIdeal.τ).loc Cert.CrossIdeal.main_arg5)
      ∧ m' ((c.tc : Thread Cert.CrossReferenceIdeal.nD Cert.CrossReferenceIdeal.τ).loc Cert.CrossReferenceIdeal.main_arg6) = m ((c.tc : Thread Cert.CrossIdeal.nD Cert.CrossIdeal.τ).loc Cert.CrossIdeal.main_arg6)
      ∧ m' ((c.tc : Thread Cert.CrossReferenceIdeal.nD Cert.CrossReferenceIdeal.τ).loc Cert.CrossReferenceIdeal.main_arg7) = m ((c.tc : Thread Cert.CrossIdeal.nD Cert.CrossIdeal.τ).loc Cert.CrossIdeal.main_arg7)) →
    ∃ (v0 : (c : Dev Cert.CrossIdeal.nD) → Buf (Elt Ideal) ((c.tc : Thread Cert.CrossIdeal.nD Cert.CrossIdeal.τ).loc Cert.CrossIdeal.main_v7)) (v1 : (c : Dev Cert.CrossIdeal.nD) → Buf (Elt Ideal) ((c.tc : Thread Cert.CrossIdeal.nD Cert.CrossIdeal.τ).loc Cert.CrossIdeal.main_v13_0)) (v2 : (c : Dev Cert.CrossIdeal.nD) → Buf (Elt Ideal) ((c.tc : Thread Cert.CrossIdeal.nD Cert.CrossIdeal.τ).loc Cert.CrossIdeal.main_v13_1)) (v3 : (c : Dev Cert.CrossIdeal.nD) → Buf (Elt Ideal) ((c.tc : Thread Cert.CrossIdeal.nD Cert.CrossIdeal.τ).loc Cert.CrossIdeal.main_v17)) (v4 : (c : Dev Cert.CrossIdeal.nD) → Buf (Elt Ideal) ((c.tc : Thread Cert.CrossIdeal.nD Cert.CrossIdeal.τ).loc Cert.CrossIdeal.main_v11)) (v5 : (c : Dev Cert.CrossIdeal.nD) → Buf (Elt Ideal) ((c.tc : Thread Cert.CrossIdeal.nD Cert.CrossIdeal.τ).loc Cert.CrossIdeal.main_v15)) (v6 : (c : Dev Cert.CrossIdeal.nD) → Buf (Elt Ideal) ((c.tc : Thread Cert.CrossIdeal.nD Cert.CrossIdeal.τ).loc Cert.CrossIdeal.main_v9)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v7) = v0 c
          ∧ r.2.mem ((c.tc : Thread Cert.CrossIdeal.nD Cert.CrossIdeal.τ).loc Cert.CrossIdeal.main_v13_0) = v1 c
          ∧ r.2.mem ((c.tc : Thread Cert.CrossIdeal.nD Cert.CrossIdeal.τ).loc Cert.CrossIdeal.main_v13_1) = v2 c
          ∧ r.2.mem ((c.tc : Thread Cert.CrossIdeal.nD Cert.CrossIdeal.τ).loc Cert.CrossIdeal.main_v17) = v3 c
          ∧ r.2.mem ((c.tc : Thread Cert.CrossIdeal.nD Cert.CrossIdeal.τ).loc Cert.CrossIdeal.main_v11) = v4 c
          ∧ r.2.mem ((c.tc : Thread Cert.CrossIdeal.nD Cert.CrossIdeal.τ).loc Cert.CrossIdeal.main_v15) = v5 c
          ∧ r.2.mem ((c.tc : Thread Cert.CrossIdeal.nD Cert.CrossIdeal.τ).loc Cert.CrossIdeal.main_v9) = v6 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
          ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
          ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6)
          ∧ r.2.mem ((c.tc : Thread Cert.CrossIdeal.nD Cert.CrossIdeal.τ).loc Cert.CrossIdeal.main_arg7) = m ((c.tc : Thread Cert.CrossIdeal.nD Cert.CrossIdeal.τ).loc Cert.CrossIdeal.main_arg7))
      ∧ θ_run (Cert.CrossReferenceIdeal.defs (F := Ideal)) (onTc (τ := Cert.CrossReferenceIdeal.τ) (Cert.CrossReferenceIdeal.main (F := Ideal))) ⟨m', fun _ => 0, g'⟩ (fun r => ∀ c : Dev Cert.CrossReferenceIdeal.nD,
          r.2.mem ((c.tc : Thread Cert.CrossReferenceIdeal.nD Cert.CrossReferenceIdeal.τ).loc Cert.CrossReferenceIdeal.main_v78) = v0 c
          ∧ r.2.mem ((c.tc : Thread Cert.CrossReferenceIdeal.nD Cert.CrossReferenceIdeal.τ).loc Cert.CrossReferenceIdeal.main_v144) = v1 c
          ∧ r.2.mem ((c.tc : Thread Cert.CrossReferenceIdeal.nD Cert.CrossReferenceIdeal.τ).loc Cert.CrossReferenceIdeal.main_v145) = v2 c
          ∧ r.2.mem ((c.tc : Thread Cert.CrossReferenceIdeal.nD Cert.CrossReferenceIdeal.τ).loc Cert.CrossReferenceIdeal.main_v146) = v3 c
          ∧ r.2.mem ((c.tc : Thread Cert.CrossReferenceIdeal.nD Cert.CrossReferenceIdeal.τ).loc Cert.CrossReferenceIdeal.main_v147) = v4 c
          ∧ r.2.mem ((c.tc : Thread Cert.CrossReferenceIdeal.nD Cert.CrossReferenceIdeal.τ).loc Cert.CrossReferenceIdeal.main_v148) = v5 c
          ∧ r.2.mem ((c.tc : Thread Cert.CrossReferenceIdeal.nD Cert.CrossReferenceIdeal.τ).loc Cert.CrossReferenceIdeal.main_v149) = v6 c
          ∧ r.2.mem ((c.tc : Thread Cert.CrossReferenceIdeal.nD Cert.CrossReferenceIdeal.τ).loc Cert.CrossReferenceIdeal.main_arg0) = m' ((c.tc : Thread Cert.CrossReferenceIdeal.nD Cert.CrossReferenceIdeal.τ).loc Cert.CrossReferenceIdeal.main_arg0)
          ∧ r.2.mem ((c.tc : Thread Cert.CrossReferenceIdeal.nD Cert.CrossReferenceIdeal.τ).loc Cert.CrossReferenceIdeal.main_arg1) = m' ((c.tc : Thread Cert.CrossReferenceIdeal.nD Cert.CrossReferenceIdeal.τ).loc Cert.CrossReferenceIdeal.main_arg1)
          ∧ r.2.mem ((c.tc : Thread Cert.CrossReferenceIdeal.nD Cert.CrossReferenceIdeal.τ).loc Cert.CrossReferenceIdeal.main_arg2) = m' ((c.tc : Thread Cert.CrossReferenceIdeal.nD Cert.CrossReferenceIdeal.τ).loc Cert.CrossReferenceIdeal.main_arg2)
          ∧ r.2.mem ((c.tc : Thread Cert.CrossReferenceIdeal.nD Cert.CrossReferenceIdeal.τ).loc Cert.CrossReferenceIdeal.main_arg3) = m' ((c.tc : Thread Cert.CrossReferenceIdeal.nD Cert.CrossReferenceIdeal.τ).loc Cert.CrossReferenceIdeal.main_arg3)
          ∧ r.2.mem ((c.tc : Thread Cert.CrossReferenceIdeal.nD Cert.CrossReferenceIdeal.τ).loc Cert.CrossReferenceIdeal.main_arg4) = m' ((c.tc : Thread Cert.CrossReferenceIdeal.nD Cert.CrossReferenceIdeal.τ).loc Cert.CrossReferenceIdeal.main_arg4)
          ∧ r.2.mem ((c.tc : Thread Cert.CrossReferenceIdeal.nD Cert.CrossReferenceIdeal.τ).loc Cert.CrossReferenceIdeal.main_arg5) = m' ((c.tc : Thread Cert.CrossReferenceIdeal.nD Cert.CrossReferenceIdeal.τ).loc Cert.CrossReferenceIdeal.main_arg5)
          ∧ r.2.mem ((c.tc : Thread Cert.CrossReferenceIdeal.nD Cert.CrossReferenceIdeal.τ).loc Cert.CrossReferenceIdeal.main_arg6) = m' ((c.tc : Thread Cert.CrossReferenceIdeal.nD Cert.CrossReferenceIdeal.τ).loc Cert.CrossReferenceIdeal.main_arg6)
          ∧ r.2.mem ((c.tc : Thread Cert.CrossReferenceIdeal.nD Cert.CrossReferenceIdeal.τ).loc Cert.CrossReferenceIdeal.main_arg7) = m' ((c.tc : Thread Cert.CrossReferenceIdeal.nD Cert.CrossReferenceIdeal.τ).loc Cert.CrossReferenceIdeal.main_arg7))

def preserves_Mix_MixIdeal : Prop :=
  True

def algebraic_MixIdeal_MixReferenceIdeal_pre_mix_finite [hMixIdeal : Cert.MixIdeal.Facts] [hMixReferenceIdeal : Cert.MixReferenceIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal_mix_finite m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)
      ∧ m' ((c.tc : Thread Cert.MixReferenceIdeal.nD Cert.MixReferenceIdeal.τ).loc Cert.MixReferenceIdeal.main_arg10) = m ((c.tc : Thread Cert.MixIdeal.nD Cert.MixIdeal.τ).loc Cert.MixIdeal.main_arg10)
      ∧ m' ((c.tc : Thread Cert.MixReferenceIdeal.nD Cert.MixReferenceIdeal.τ).loc Cert.MixReferenceIdeal.main_arg11) = m ((c.tc : Thread Cert.MixIdeal.nD Cert.MixIdeal.τ).loc Cert.MixIdeal.main_arg11)
      ∧ m' ((c.tc : Thread Cert.MixReferenceIdeal.nD Cert.MixReferenceIdeal.τ).loc Cert.MixReferenceIdeal.main_arg12) = m ((c.tc : Thread Cert.MixIdeal.nD Cert.MixIdeal.τ).loc Cert.MixIdeal.main_arg12)
      ∧ m' ((c.tc : Thread Cert.MixReferenceIdeal.nD Cert.MixReferenceIdeal.τ).loc Cert.MixReferenceIdeal.main_arg13) = m ((c.tc : Thread Cert.MixIdeal.nD Cert.MixIdeal.τ).loc Cert.MixIdeal.main_arg13)
      ∧ m' ((c.tc : Thread Cert.MixReferenceIdeal.nD Cert.MixReferenceIdeal.τ).loc Cert.MixReferenceIdeal.main_arg14) = m ((c.tc : Thread Cert.MixIdeal.nD Cert.MixIdeal.τ).loc Cert.MixIdeal.main_arg14)
      ∧ m' ((c.tc : Thread Cert.MixReferenceIdeal.nD Cert.MixReferenceIdeal.τ).loc Cert.MixReferenceIdeal.main_arg15) = m ((c.tc : Thread Cert.MixIdeal.nD Cert.MixIdeal.τ).loc Cert.MixIdeal.main_arg15)) →
    ∃ (v0 : (c : Dev Cert.MixIdeal.nD) → Buf (Elt Ideal) ((c.tc : Thread Cert.MixIdeal.nD Cert.MixIdeal.τ).loc Cert.MixIdeal.main_v6)) (v1 : (c : Dev Cert.MixIdeal.nD) → Buf (Elt Ideal) ((c.tc : Thread Cert.MixIdeal.nD Cert.MixIdeal.τ).loc Cert.MixIdeal.main_v7)) (v2 : (c : Dev Cert.MixIdeal.nD) → Buf (Elt Ideal) ((c.tc : Thread Cert.MixIdeal.nD Cert.MixIdeal.τ).loc Cert.MixIdeal.main_v9)) (v3 : (c : Dev Cert.MixIdeal.nD) → Buf (Elt Ideal) ((c.tc : Thread Cert.MixIdeal.nD Cert.MixIdeal.τ).loc Cert.MixIdeal.main_v16_0)) (v4 : (c : Dev Cert.MixIdeal.nD) → Buf (Elt Ideal) ((c.tc : Thread Cert.MixIdeal.nD Cert.MixIdeal.τ).loc Cert.MixIdeal.main_v16_1)) (v5 : (c : Dev Cert.MixIdeal.nD) → Buf (Elt Ideal) ((c.tc : Thread Cert.MixIdeal.nD Cert.MixIdeal.τ).loc Cert.MixIdeal.main_v13)) (v6 : (c : Dev Cert.MixIdeal.nD) → Buf (Elt Ideal) ((c.tc : Thread Cert.MixIdeal.nD Cert.MixIdeal.τ).loc Cert.MixIdeal.main_v14)) (v7 : (c : Dev Cert.MixIdeal.nD) → Buf (Elt Ideal) ((c.tc : Thread Cert.MixIdeal.nD Cert.MixIdeal.τ).loc Cert.MixIdeal.main_v11)) (v8 : (c : Dev Cert.MixIdeal.nD) → Buf (Elt Ideal) ((c.tc : Thread Cert.MixIdeal.nD Cert.MixIdeal.τ).loc Cert.MixIdeal.main_v12_0)) (v9 : (c : Dev Cert.MixIdeal.nD) → Buf (Elt Ideal) ((c.tc : Thread Cert.MixIdeal.nD Cert.MixIdeal.τ).loc Cert.MixIdeal.main_v12_1)) (v10 : (c : Dev Cert.MixIdeal.nD) → Buf (Elt Ideal) ((c.tc : Thread Cert.MixIdeal.nD Cert.MixIdeal.τ).loc Cert.MixIdeal.main_v12_2)) (v11 : (c : Dev Cert.MixIdeal.nD) → Buf (Elt Ideal) ((c.tc : Thread Cert.MixIdeal.nD Cert.MixIdeal.τ).loc Cert.MixIdeal.main_v12_3)) (v12 : (c : Dev Cert.MixIdeal.nD) → Buf (Elt Ideal) ((c.tc : Thread Cert.MixIdeal.nD Cert.MixIdeal.τ).loc Cert.MixIdeal.main_v12_4)) (v13 : (c : Dev Cert.MixIdeal.nD) → Buf (Elt Ideal) ((c.tc : Thread Cert.MixIdeal.nD Cert.MixIdeal.τ).loc Cert.MixIdeal.main_v12_5)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v6) = v0 c
          ∧ r.2.mem ((c.tc : Thread Cert.MixIdeal.nD Cert.MixIdeal.τ).loc Cert.MixIdeal.main_v7) = v1 c
          ∧ r.2.mem ((c.tc : Thread Cert.MixIdeal.nD Cert.MixIdeal.τ).loc Cert.MixIdeal.main_v9) = v2 c
          ∧ r.2.mem ((c.tc : Thread Cert.MixIdeal.nD Cert.MixIdeal.τ).loc Cert.MixIdeal.main_v16_0) = v3 c
          ∧ r.2.mem ((c.tc : Thread Cert.MixIdeal.nD Cert.MixIdeal.τ).loc Cert.MixIdeal.main_v16_1) = v4 c
          ∧ r.2.mem ((c.tc : Thread Cert.MixIdeal.nD Cert.MixIdeal.τ).loc Cert.MixIdeal.main_v13) = v5 c
          ∧ r.2.mem ((c.tc : Thread Cert.MixIdeal.nD Cert.MixIdeal.τ).loc Cert.MixIdeal.main_v14) = v6 c
          ∧ r.2.mem ((c.tc : Thread Cert.MixIdeal.nD Cert.MixIdeal.τ).loc Cert.MixIdeal.main_v11) = v7 c
          ∧ r.2.mem ((c.tc : Thread Cert.MixIdeal.nD Cert.MixIdeal.τ).loc Cert.MixIdeal.main_v12_0) = v8 c
          ∧ r.2.mem ((c.tc : Thread Cert.MixIdeal.nD Cert.MixIdeal.τ).loc Cert.MixIdeal.main_v12_1) = v9 c
          ∧ r.2.mem ((c.tc : Thread Cert.MixIdeal.nD Cert.MixIdeal.τ).loc Cert.MixIdeal.main_v12_2) = v10 c
          ∧ r.2.mem ((c.tc : Thread Cert.MixIdeal.nD Cert.MixIdeal.τ).loc Cert.MixIdeal.main_v12_3) = v11 c
          ∧ r.2.mem ((c.tc : Thread Cert.MixIdeal.nD Cert.MixIdeal.τ).loc Cert.MixIdeal.main_v12_4) = v12 c
          ∧ r.2.mem ((c.tc : Thread Cert.MixIdeal.nD Cert.MixIdeal.τ).loc Cert.MixIdeal.main_v12_5) = v13 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
          ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
          ∧ r.2.mem ((c.tc : Thread Cert.MixIdeal.nD Cert.MixIdeal.τ).loc Cert.MixIdeal.main_arg15) = m ((c.tc : Thread Cert.MixIdeal.nD Cert.MixIdeal.τ).loc Cert.MixIdeal.main_arg15))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v206) = v0 c
          ∧ r.2.mem ((c.tc : Thread Cert.MixReferenceIdeal.nD Cert.MixReferenceIdeal.τ).loc Cert.MixReferenceIdeal.main_v87) = v1 c
          ∧ r.2.mem ((c.tc : Thread Cert.MixReferenceIdeal.nD Cert.MixReferenceIdeal.τ).loc Cert.MixReferenceIdeal.main_v90) = v2 c
          ∧ r.2.mem ((c.tc : Thread Cert.MixReferenceIdeal.nD Cert.MixReferenceIdeal.τ).loc Cert.MixReferenceIdeal.main_v205) = v3 c
          ∧ r.2.mem ((c.tc : Thread Cert.MixReferenceIdeal.nD Cert.MixReferenceIdeal.τ).loc Cert.MixReferenceIdeal.main_v207) = v4 c
          ∧ r.2.mem ((c.tc : Thread Cert.MixReferenceIdeal.nD Cert.MixReferenceIdeal.τ).loc Cert.MixReferenceIdeal.main_v208) = v5 c
          ∧ r.2.mem ((c.tc : Thread Cert.MixReferenceIdeal.nD Cert.MixReferenceIdeal.τ).loc Cert.MixReferenceIdeal.main_v209) = v6 c
          ∧ r.2.mem ((c.tc : Thread Cert.MixReferenceIdeal.nD Cert.MixReferenceIdeal.τ).loc Cert.MixReferenceIdeal.main_v210) = v7 c
          ∧ r.2.mem ((c.tc : Thread Cert.MixReferenceIdeal.nD Cert.MixReferenceIdeal.τ).loc Cert.MixReferenceIdeal.main_v211) = v8 c
          ∧ r.2.mem ((c.tc : Thread Cert.MixReferenceIdeal.nD Cert.MixReferenceIdeal.τ).loc Cert.MixReferenceIdeal.main_v184) = v9 c
          ∧ r.2.mem ((c.tc : Thread Cert.MixReferenceIdeal.nD Cert.MixReferenceIdeal.τ).loc Cert.MixReferenceIdeal.main_v212) = v10 c
          ∧ r.2.mem ((c.tc : Thread Cert.MixReferenceIdeal.nD Cert.MixReferenceIdeal.τ).loc Cert.MixReferenceIdeal.main_v213) = v11 c
          ∧ r.2.mem ((c.tc : Thread Cert.MixReferenceIdeal.nD Cert.MixReferenceIdeal.τ).loc Cert.MixReferenceIdeal.main_v214) = v12 c
          ∧ r.2.mem ((c.tc : Thread Cert.MixReferenceIdeal.nD Cert.MixReferenceIdeal.τ).loc Cert.MixReferenceIdeal.main_v215) = v13 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11)
          ∧ r.2.mem ((c.tc : Thread Cert.MixReferenceIdeal.nD Cert.MixReferenceIdeal.τ).loc Cert.MixReferenceIdeal.main_arg12) = m' ((c.tc : Thread Cert.MixReferenceIdeal.nD Cert.MixReferenceIdeal.τ).loc Cert.MixReferenceIdeal.main_arg12)
          ∧ r.2.mem ((c.tc : Thread Cert.MixReferenceIdeal.nD Cert.MixReferenceIdeal.τ).loc Cert.MixReferenceIdeal.main_arg13) = m' ((c.tc : Thread Cert.MixReferenceIdeal.nD Cert.MixReferenceIdeal.τ).loc Cert.MixReferenceIdeal.main_arg13)
          ∧ r.2.mem ((c.tc : Thread Cert.MixReferenceIdeal.nD Cert.MixReferenceIdeal.τ).loc Cert.MixReferenceIdeal.main_arg14) = m' ((c.tc : Thread Cert.MixReferenceIdeal.nD Cert.MixReferenceIdeal.τ).loc Cert.MixReferenceIdeal.main_arg14)
          ∧ r.2.mem ((c.tc : Thread Cert.MixReferenceIdeal.nD Cert.MixReferenceIdeal.τ).loc Cert.MixReferenceIdeal.main_arg15) = m' ((c.tc : Thread Cert.MixReferenceIdeal.nD Cert.MixReferenceIdeal.τ).loc Cert.MixReferenceIdeal.main_arg15))

def preserves_Small_SmallIdeal : Prop :=
  True

def algebraic_SmallIdeal_SmallReferenceIdeal [hSmallIdeal : Cert.SmallIdeal.Facts] [hSmallReferenceIdeal : Cert.SmallReferenceIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallReferenceIdeal.nD Cert.SmallReferenceIdeal.τ Cert.SmallReferenceIdeal.sig) → Buf (Elt Ideal) ℓ) (g' : Dev Cert.SmallReferenceIdeal.nD → PrngReg), Pre_SmallIdeal m →
    (∀ c : Dev Cert.SmallIdeal.nD,
      m' ((c.tc : Thread Cert.SmallReferenceIdeal.nD Cert.SmallReferenceIdeal.τ).loc Cert.SmallReferenceIdeal.main_arg0) = m ((c.tc : Thread Cert.SmallIdeal.nD Cert.SmallIdeal.τ).loc Cert.SmallIdeal.main_arg0)
      ∧ m' ((c.tc : Thread Cert.SmallReferenceIdeal.nD Cert.SmallReferenceIdeal.τ).loc Cert.SmallReferenceIdeal.main_arg1) = m ((c.tc : Thread Cert.SmallIdeal.nD Cert.SmallIdeal.τ).loc Cert.SmallIdeal.main_arg1)
      ∧ m' ((c.tc : Thread Cert.SmallReferenceIdeal.nD Cert.SmallReferenceIdeal.τ).loc Cert.SmallReferenceIdeal.main_arg2) = m ((c.tc : Thread Cert.SmallIdeal.nD Cert.SmallIdeal.τ).loc Cert.SmallIdeal.main_arg2)
      ∧ m' ((c.tc : Thread Cert.SmallReferenceIdeal.nD Cert.SmallReferenceIdeal.τ).loc Cert.SmallReferenceIdeal.main_arg3) = m ((c.tc : Thread Cert.SmallIdeal.nD Cert.SmallIdeal.τ).loc Cert.SmallIdeal.main_arg3)) →
    ∃ (v0 : (c : Dev Cert.SmallIdeal.nD) → Buf (Elt Ideal) ((c.tc : Thread Cert.SmallIdeal.nD Cert.SmallIdeal.τ).loc Cert.SmallIdeal.main_v0_0)) (v1 : (c : Dev Cert.SmallIdeal.nD) → Buf (Elt Ideal) ((c.tc : Thread Cert.SmallIdeal.nD Cert.SmallIdeal.τ).loc Cert.SmallIdeal.main_v0_1)) (v2 : (c : Dev Cert.SmallIdeal.nD) → Buf (Elt Ideal) ((c.tc : Thread Cert.SmallIdeal.nD Cert.SmallIdeal.τ).loc Cert.SmallIdeal.main_v0_2)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v0_0) = v0 c
          ∧ r.2.mem ((c.tc : Thread Cert.SmallIdeal.nD Cert.SmallIdeal.τ).loc Cert.SmallIdeal.main_v0_1) = v1 c
          ∧ r.2.mem ((c.tc : Thread Cert.SmallIdeal.nD Cert.SmallIdeal.τ).loc Cert.SmallIdeal.main_v0_2) = v2 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3))
      ∧ θ_run (Cert.SmallReferenceIdeal.defs (F := Ideal)) (onTc (τ := Cert.SmallReferenceIdeal.τ) (Cert.SmallReferenceIdeal.main (F := Ideal))) ⟨m', fun _ => 0, g'⟩ (fun r => ∀ c : Dev Cert.SmallReferenceIdeal.nD,
          r.2.mem ((c.tc : Thread Cert.SmallReferenceIdeal.nD Cert.SmallReferenceIdeal.τ).loc Cert.SmallReferenceIdeal.main_v23) = v0 c
          ∧ r.2.mem ((c.tc : Thread Cert.SmallReferenceIdeal.nD Cert.SmallReferenceIdeal.τ).loc Cert.SmallReferenceIdeal.main_v4) = v1 c
          ∧ r.2.mem ((c.tc : Thread Cert.SmallReferenceIdeal.nD Cert.SmallReferenceIdeal.τ).loc Cert.SmallReferenceIdeal.main_v10) = v2 c
          ∧ r.2.mem ((c.tc : Thread Cert.SmallReferenceIdeal.nD Cert.SmallReferenceIdeal.τ).loc Cert.SmallReferenceIdeal.main_arg0) = m' ((c.tc : Thread Cert.SmallReferenceIdeal.nD Cert.SmallReferenceIdeal.τ).loc Cert.SmallReferenceIdeal.main_arg0)
          ∧ r.2.mem ((c.tc : Thread Cert.SmallReferenceIdeal.nD Cert.SmallReferenceIdeal.τ).loc Cert.SmallReferenceIdeal.main_arg1) = m' ((c.tc : Thread Cert.SmallReferenceIdeal.nD Cert.SmallReferenceIdeal.τ).loc Cert.SmallReferenceIdeal.main_arg1)
          ∧ r.2.mem ((c.tc : Thread Cert.SmallReferenceIdeal.nD Cert.SmallReferenceIdeal.τ).loc Cert.SmallReferenceIdeal.main_arg2) = m' ((c.tc : Thread Cert.SmallReferenceIdeal.nD Cert.SmallReferenceIdeal.τ).loc Cert.SmallReferenceIdeal.main_arg2)
          ∧ r.2.mem ((c.tc : Thread Cert.SmallReferenceIdeal.nD Cert.SmallReferenceIdeal.τ).loc Cert.SmallReferenceIdeal.main_arg3) = m' ((c.tc : Thread Cert.SmallReferenceIdeal.nD Cert.SmallReferenceIdeal.τ).loc Cert.SmallReferenceIdeal.main_arg3))

def preserves_Taps_TapsIdeal : Prop :=
  True

def algebraic_TapsIdeal_TapsReferenceIdeal [hTapsIdeal : Cert.TapsIdeal.Facts] [hTapsReferenceIdeal : Cert.TapsReferenceIdeal.Facts] : Prop :=
  ∀ (m : (ℓ : Loc Cert.TapsIdeal.nD Cert.TapsIdeal.τ Cert.TapsIdeal.sig) → Buf (Elt Ideal) ℓ) (g : Dev Cert.TapsIdeal.nD → PrngReg)
    (m' : (ℓ : Loc Cert.TapsReferenceIdeal.nD Cert.TapsReferenceIdeal.τ Cert.TapsReferenceIdeal.sig) → Buf (Elt Ideal) ℓ) (g' : Dev Cert.TapsReferenceIdeal.nD → PrngReg), Pre_TapsIdeal m →
    (∀ c : Dev Cert.TapsIdeal.nD,
      m' ((c.tc : Thread Cert.TapsReferenceIdeal.nD Cert.TapsReferenceIdeal.τ).loc Cert.TapsReferenceIdeal.main_arg0) = m ((c.tc : Thread Cert.TapsIdeal.nD Cert.TapsIdeal.τ).loc Cert.TapsIdeal.main_arg0)
      ∧ m' ((c.tc : Thread Cert.TapsReferenceIdeal.nD Cert.TapsReferenceIdeal.τ).loc Cert.TapsReferenceIdeal.main_arg1) = m ((c.tc : Thread Cert.TapsIdeal.nD Cert.TapsIdeal.τ).loc Cert.TapsIdeal.main_arg1)
      ∧ m' ((c.tc : Thread Cert.TapsReferenceIdeal.nD Cert.TapsReferenceIdeal.τ).loc Cert.TapsReferenceIdeal.main_arg2) = m ((c.tc : Thread Cert.TapsIdeal.nD Cert.TapsIdeal.τ).loc Cert.TapsIdeal.main_arg2)
      ∧ m' ((c.tc : Thread Cert.TapsReferenceIdeal.nD Cert.TapsReferenceIdeal.τ).loc Cert.TapsReferenceIdeal.main_arg3) = m ((c.tc : Thread Cert.TapsIdeal.nD Cert.TapsIdeal.τ).loc Cert.TapsIdeal.main_arg3)) →
    ∃ (v0 : (c : Dev Cert.TapsIdeal.nD) → Buf (Elt Ideal) ((c.tc : Thread Cert.TapsIdeal.nD Cert.TapsIdeal.τ).loc Cert.TapsIdeal.main_v0_0)) (v1 : (c : Dev Cert.TapsIdeal.nD) → Buf (Elt Ideal) ((c.tc : Thread Cert.TapsIdeal.nD Cert.TapsIdeal.τ).loc Cert.TapsIdeal.main_v0_1)) (v2 : (c : Dev Cert.TapsIdeal.nD) → Buf (Elt Ideal) ((c.tc : Thread Cert.TapsIdeal.nD Cert.TapsIdeal.τ).loc Cert.TapsIdeal.main_v0_2)),
      θ_run (Cert.TapsIdeal.defs (F := Ideal)) (onTc (τ := Cert.TapsIdeal.τ) (Cert.TapsIdeal.main (F := Ideal))) ⟨m, fun _ => 0, g⟩ (fun r => ∀ c : Dev Cert.TapsIdeal.nD,
          r.2.mem ((c.tc : Thread Cert.TapsIdeal.nD Cert.TapsIdeal.τ).loc Cert.TapsIdeal.main_v0_0) = v0 c
          ∧ r.2.mem ((c.tc : Thread Cert.TapsIdeal.nD Cert.TapsIdeal.τ).loc Cert.TapsIdeal.main_v0_1) = v1 c
          ∧ r.2.mem ((c.tc : Thread Cert.TapsIdeal.nD Cert.TapsIdeal.τ).loc Cert.TapsIdeal.main_v0_2) = v2 c
          ∧ r.2.mem ((c.tc : Thread Cert.TapsIdeal.nD Cert.TapsIdeal.τ).loc Cert.TapsIdeal.main_arg0) = m ((c.tc : Thread Cert.TapsIdeal.nD Cert.TapsIdeal.τ).loc Cert.TapsIdeal.main_arg0)
          ∧ r.2.mem ((c.tc : Thread Cert.TapsIdeal.nD Cert.TapsIdeal.τ).loc Cert.TapsIdeal.main_arg1) = m ((c.tc : Thread Cert.TapsIdeal.nD Cert.TapsIdeal.τ).loc Cert.TapsIdeal.main_arg1)
          ∧ r.2.mem ((c.tc : Thread Cert.TapsIdeal.nD Cert.TapsIdeal.τ).loc Cert.TapsIdeal.main_arg2) = m ((c.tc : Thread Cert.TapsIdeal.nD Cert.TapsIdeal.τ).loc Cert.TapsIdeal.main_arg2)
          ∧ r.2.mem ((c.tc : Thread Cert.TapsIdeal.nD Cert.TapsIdeal.τ).loc Cert.TapsIdeal.main_arg3) = m ((c.tc : Thread Cert.TapsIdeal.nD Cert.TapsIdeal.τ).loc Cert.TapsIdeal.main_arg3))
      ∧ θ_run (Cert.TapsReferenceIdeal.defs (F := Ideal)) (onTc (τ := Cert.TapsReferenceIdeal.τ) (Cert.TapsReferenceIdeal.main (F := Ideal))) ⟨m', fun _ => 0, g'⟩ (fun r => ∀ c : Dev Cert.TapsReferenceIdeal.nD,
          r.2.mem ((c.tc : Thread Cert.TapsReferenceIdeal.nD Cert.TapsReferenceIdeal.τ).loc Cert.TapsReferenceIdeal.main_v23) = v0 c
          ∧ r.2.mem ((c.tc : Thread Cert.TapsReferenceIdeal.nD Cert.TapsReferenceIdeal.τ).loc Cert.TapsReferenceIdeal.main_v4) = v1 c
          ∧ r.2.mem ((c.tc : Thread Cert.TapsReferenceIdeal.nD Cert.TapsReferenceIdeal.τ).loc Cert.TapsReferenceIdeal.main_v10) = v2 c
          ∧ r.2.mem ((c.tc : Thread Cert.TapsReferenceIdeal.nD Cert.TapsReferenceIdeal.τ).loc Cert.TapsReferenceIdeal.main_arg0) = m' ((c.tc : Thread Cert.TapsReferenceIdeal.nD Cert.TapsReferenceIdeal.τ).loc Cert.TapsReferenceIdeal.main_arg0)
          ∧ r.2.mem ((c.tc : Thread Cert.TapsReferenceIdeal.nD Cert.TapsReferenceIdeal.τ).loc Cert.TapsReferenceIdeal.main_arg1) = m' ((c.tc : Thread Cert.TapsReferenceIdeal.nD Cert.TapsReferenceIdeal.τ).loc Cert.TapsReferenceIdeal.main_arg1)
          ∧ r.2.mem ((c.tc : Thread Cert.TapsReferenceIdeal.nD Cert.TapsReferenceIdeal.τ).loc Cert.TapsReferenceIdeal.main_arg2) = m' ((c.tc : Thread Cert.TapsReferenceIdeal.nD Cert.TapsReferenceIdeal.τ).loc Cert.TapsReferenceIdeal.main_arg2)
          ∧ r.2.mem ((c.tc : Thread Cert.TapsReferenceIdeal.nD Cert.TapsReferenceIdeal.τ).loc Cert.TapsReferenceIdeal.main_arg3) = m' ((c.tc : Thread Cert.TapsReferenceIdeal.nD Cert.TapsReferenceIdeal.τ).loc Cert.TapsReferenceIdeal.main_arg3))

def preserves_Opt_OptIdeal : Prop :=
  True

def algebraic_OptIdeal_OptReferenceIdeal [hOptIdeal : Cert.OptIdeal.Facts] [hOptReferenceIdeal : Cert.OptReferenceIdeal.Facts] : Prop :=
  ∀ (m : (ℓ : Loc Cert.OptIdeal.nD Cert.OptIdeal.τ Cert.OptIdeal.sig) → Buf (Elt Ideal) ℓ) (g : Dev Cert.OptIdeal.nD → PrngReg)
    (m' : (ℓ : Loc Cert.OptReferenceIdeal.nD Cert.OptReferenceIdeal.τ Cert.OptReferenceIdeal.sig) → Buf (Elt Ideal) ℓ) (g' : Dev Cert.OptReferenceIdeal.nD → PrngReg), Pre_OptIdeal m →
    (∀ c : Dev Cert.OptIdeal.nD,
      m' ((c.tc : Thread Cert.OptReferenceIdeal.nD Cert.OptReferenceIdeal.τ).loc Cert.OptReferenceIdeal.main_arg0) = m ((c.tc : Thread Cert.OptIdeal.nD Cert.OptIdeal.τ).loc Cert.OptIdeal.main_arg0)
      ∧ m' ((c.tc : Thread Cert.OptReferenceIdeal.nD Cert.OptReferenceIdeal.τ).loc Cert.OptReferenceIdeal.main_arg1) = m ((c.tc : Thread Cert.OptIdeal.nD Cert.OptIdeal.τ).loc Cert.OptIdeal.main_arg1)
      ∧ m' ((c.tc : Thread Cert.OptReferenceIdeal.nD Cert.OptReferenceIdeal.τ).loc Cert.OptReferenceIdeal.main_arg2) = m ((c.tc : Thread Cert.OptIdeal.nD Cert.OptIdeal.τ).loc Cert.OptIdeal.main_arg2)
      ∧ m' ((c.tc : Thread Cert.OptReferenceIdeal.nD Cert.OptReferenceIdeal.τ).loc Cert.OptReferenceIdeal.main_arg3) = m ((c.tc : Thread Cert.OptIdeal.nD Cert.OptIdeal.τ).loc Cert.OptIdeal.main_arg3)
      ∧ m' ((c.tc : Thread Cert.OptReferenceIdeal.nD Cert.OptReferenceIdeal.τ).loc Cert.OptReferenceIdeal.main_arg4) = m ((c.tc : Thread Cert.OptIdeal.nD Cert.OptIdeal.τ).loc Cert.OptIdeal.main_arg4)
      ∧ m' ((c.tc : Thread Cert.OptReferenceIdeal.nD Cert.OptReferenceIdeal.τ).loc Cert.OptReferenceIdeal.main_arg5) = m ((c.tc : Thread Cert.OptIdeal.nD Cert.OptIdeal.τ).loc Cert.OptIdeal.main_arg5)
      ∧ m' ((c.tc : Thread Cert.OptReferenceIdeal.nD Cert.OptReferenceIdeal.τ).loc Cert.OptReferenceIdeal.main_arg6) = m ((c.tc : Thread Cert.OptIdeal.nD Cert.OptIdeal.τ).loc Cert.OptIdeal.main_arg6)
      ∧ m' ((c.tc : Thread Cert.OptReferenceIdeal.nD Cert.OptReferenceIdeal.τ).loc Cert.OptReferenceIdeal.main_arg7) = m ((c.tc : Thread Cert.OptIdeal.nD Cert.OptIdeal.τ).loc Cert.OptIdeal.main_arg7)) →
    ∃ (v0 : (c : Dev Cert.OptIdeal.nD) → Buf (Elt Ideal) ((c.tc : Thread Cert.OptIdeal.nD Cert.OptIdeal.τ).loc Cert.OptIdeal.main_v0_0)) (v1 : (c : Dev Cert.OptIdeal.nD) → Buf (Elt Ideal) ((c.tc : Thread Cert.OptIdeal.nD Cert.OptIdeal.τ).loc Cert.OptIdeal.main_v0_1)) (v2 : (c : Dev Cert.OptIdeal.nD) → Buf (Elt Ideal) ((c.tc : Thread Cert.OptIdeal.nD Cert.OptIdeal.τ).loc Cert.OptIdeal.main_v0_2)) (v3 : (c : Dev Cert.OptIdeal.nD) → Buf (Elt Ideal) ((c.tc : Thread Cert.OptIdeal.nD Cert.OptIdeal.τ).loc Cert.OptIdeal.main_v0_3)),
      θ_run (Cert.OptIdeal.defs (F := Ideal)) (onTc (τ := Cert.OptIdeal.τ) (Cert.OptIdeal.main (F := Ideal))) ⟨m, fun _ => 0, g⟩ (fun r => ∀ c : Dev Cert.OptIdeal.nD,
          r.2.mem ((c.tc : Thread Cert.OptIdeal.nD Cert.OptIdeal.τ).loc Cert.OptIdeal.main_v0_0) = v0 c
          ∧ r.2.mem ((c.tc : Thread Cert.OptIdeal.nD Cert.OptIdeal.τ).loc Cert.OptIdeal.main_v0_1) = v1 c
          ∧ r.2.mem ((c.tc : Thread Cert.OptIdeal.nD Cert.OptIdeal.τ).loc Cert.OptIdeal.main_v0_2) = v2 c
          ∧ r.2.mem ((c.tc : Thread Cert.OptIdeal.nD Cert.OptIdeal.τ).loc Cert.OptIdeal.main_v0_3) = v3 c
          ∧ r.2.mem ((c.tc : Thread Cert.OptIdeal.nD Cert.OptIdeal.τ).loc Cert.OptIdeal.main_arg0) = m ((c.tc : Thread Cert.OptIdeal.nD Cert.OptIdeal.τ).loc Cert.OptIdeal.main_arg0)
          ∧ r.2.mem ((c.tc : Thread Cert.OptIdeal.nD Cert.OptIdeal.τ).loc Cert.OptIdeal.main_arg1) = m ((c.tc : Thread Cert.OptIdeal.nD Cert.OptIdeal.τ).loc Cert.OptIdeal.main_arg1)
          ∧ r.2.mem ((c.tc : Thread Cert.OptIdeal.nD Cert.OptIdeal.τ).loc Cert.OptIdeal.main_arg2) = m ((c.tc : Thread Cert.OptIdeal.nD Cert.OptIdeal.τ).loc Cert.OptIdeal.main_arg2)
          ∧ r.2.mem ((c.tc : Thread Cert.OptIdeal.nD Cert.OptIdeal.τ).loc Cert.OptIdeal.main_arg3) = m ((c.tc : Thread Cert.OptIdeal.nD Cert.OptIdeal.τ).loc Cert.OptIdeal.main_arg3)
          ∧ r.2.mem ((c.tc : Thread Cert.OptIdeal.nD Cert.OptIdeal.τ).loc Cert.OptIdeal.main_arg4) = m ((c.tc : Thread Cert.OptIdeal.nD Cert.OptIdeal.τ).loc Cert.OptIdeal.main_arg4)
          ∧ r.2.mem ((c.tc : Thread Cert.OptIdeal.nD Cert.OptIdeal.τ).loc Cert.OptIdeal.main_arg5) = m ((c.tc : Thread Cert.OptIdeal.nD Cert.OptIdeal.τ).loc Cert.OptIdeal.main_arg5)
          ∧ r.2.mem ((c.tc : Thread Cert.OptIdeal.nD Cert.OptIdeal.τ).loc Cert.OptIdeal.main_arg6) = m ((c.tc : Thread Cert.OptIdeal.nD Cert.OptIdeal.τ).loc Cert.OptIdeal.main_arg6)
          ∧ r.2.mem ((c.tc : Thread Cert.OptIdeal.nD Cert.OptIdeal.τ).loc Cert.OptIdeal.main_arg7) = m ((c.tc : Thread Cert.OptIdeal.nD Cert.OptIdeal.τ).loc Cert.OptIdeal.main_arg7))
      ∧ θ_run (Cert.OptReferenceIdeal.defs (F := Ideal)) (onTc (τ := Cert.OptReferenceIdeal.τ) (Cert.OptReferenceIdeal.main (F := Ideal))) ⟨m', fun _ => 0, g'⟩ (fun r => ∀ c : Dev Cert.OptReferenceIdeal.nD,
          r.2.mem ((c.tc : Thread Cert.OptReferenceIdeal.nD Cert.OptReferenceIdeal.τ).loc Cert.OptReferenceIdeal.main_v24) = v0 c
          ∧ r.2.mem ((c.tc : Thread Cert.OptReferenceIdeal.nD Cert.OptReferenceIdeal.τ).loc Cert.OptReferenceIdeal.main_v48) = v1 c
          ∧ r.2.mem ((c.tc : Thread Cert.OptReferenceIdeal.nD Cert.OptReferenceIdeal.τ).loc Cert.OptReferenceIdeal.main_v29) = v2 c
          ∧ r.2.mem ((c.tc : Thread Cert.OptReferenceIdeal.nD Cert.OptReferenceIdeal.τ).loc Cert.OptReferenceIdeal.main_v35) = v3 c
          ∧ r.2.mem ((c.tc : Thread Cert.OptReferenceIdeal.nD Cert.OptReferenceIdeal.τ).loc Cert.OptReferenceIdeal.main_arg0) = m' ((c.tc : Thread Cert.OptReferenceIdeal.nD Cert.OptReferenceIdeal.τ).loc Cert.OptReferenceIdeal.main_arg0)
          ∧ r.2.mem ((c.tc : Thread Cert.OptReferenceIdeal.nD Cert.OptReferenceIdeal.τ).loc Cert.OptReferenceIdeal.main_arg1) = m' ((c.tc : Thread Cert.OptReferenceIdeal.nD Cert.OptReferenceIdeal.τ).loc Cert.OptReferenceIdeal.main_arg1)
          ∧ r.2.mem ((c.tc : Thread Cert.OptReferenceIdeal.nD Cert.OptReferenceIdeal.τ).loc Cert.OptReferenceIdeal.main_arg2) = m' ((c.tc : Thread Cert.OptReferenceIdeal.nD Cert.OptReferenceIdeal.τ).loc Cert.OptReferenceIdeal.main_arg2)
          ∧ r.2.mem ((c.tc : Thread Cert.OptReferenceIdeal.nD Cert.OptReferenceIdeal.τ).loc Cert.OptReferenceIdeal.main_arg3) = m' ((c.tc : Thread Cert.OptReferenceIdeal.nD Cert.OptReferenceIdeal.τ).loc Cert.OptReferenceIdeal.main_arg3)
          ∧ r.2.mem ((c.tc : Thread Cert.OptReferenceIdeal.nD Cert.OptReferenceIdeal.τ).loc Cert.OptReferenceIdeal.main_arg4) = m' ((c.tc : Thread Cert.OptReferenceIdeal.nD Cert.OptReferenceIdeal.τ).loc Cert.OptReferenceIdeal.main_arg4)
          ∧ r.2.mem ((c.tc : Thread Cert.OptReferenceIdeal.nD Cert.OptReferenceIdeal.τ).loc Cert.OptReferenceIdeal.main_arg5) = m' ((c.tc : Thread Cert.OptReferenceIdeal.nD Cert.OptReferenceIdeal.τ).loc Cert.OptReferenceIdeal.main_arg5)
          ∧ r.2.mem ((c.tc : Thread Cert.OptReferenceIdeal.nD Cert.OptReferenceIdeal.τ).loc Cert.OptReferenceIdeal.main_arg6) = m' ((c.tc : Thread Cert.OptReferenceIdeal.nD Cert.OptReferenceIdeal.τ).loc Cert.OptReferenceIdeal.main_arg6)
          ∧ r.2.mem ((c.tc : Thread Cert.OptReferenceIdeal.nD Cert.OptReferenceIdeal.τ).loc Cert.OptReferenceIdeal.main_arg7) = m' ((c.tc : Thread Cert.OptReferenceIdeal.nD Cert.OptReferenceIdeal.τ).loc Cert.OptReferenceIdeal.main_arg7))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hCross : Cert.Cross.Facts) (hCrossIdeal : Cert.CrossIdeal.Facts) (hCrossReferenceIdeal : Cert.CrossReferenceIdeal.Facts) (hMix : Cert.Mix.Facts) (hMixIdeal : Cert.MixIdeal.Facts) (hMixReferenceIdeal : Cert.MixReferenceIdeal.Facts) (hSmall : Cert.Small.Facts) (hSmallIdeal : Cert.SmallIdeal.Facts) (hSmallReferenceIdeal : Cert.SmallReferenceIdeal.Facts) (hTaps : Cert.Taps.Facts) (hTapsIdeal : Cert.TapsIdeal.Facts) (hTapsReferenceIdeal : Cert.TapsReferenceIdeal.Facts) (hOpt : Cert.Opt.Facts) (hOptIdeal : Cert.OptIdeal.Facts) (hOptReferenceIdeal : Cert.OptReferenceIdeal.Facts) (hPre_finite : Cert.Pre_finite.Facts) (hPre_ffn_finite : Cert.Pre_ffn_finite.Facts) (hPre_cross_finite : Cert.Pre_cross_finite.Facts) (hPre_mix_finite : Cert.Pre_mix_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnReferenceIdeal (hFfnReferenceIdeal := hFfnReferenceIdeal)
    ∧ quiescent_FfnReferenceIdeal_pre_ffn_finite (hFfnReferenceIdeal := hFfnReferenceIdeal) (hPre_ffn_finite := hPre_ffn_finite)
    ∧ quiescent_Cross (hCross := hCross)
    ∧ quiescent_CrossIdeal (hCrossIdeal := hCrossIdeal)
    ∧ quiescent_CrossIdeal_pre_cross_finite (hCrossIdeal := hCrossIdeal) (hPre_cross_finite := hPre_cross_finite)
    ∧ quiescent_CrossReferenceIdeal (hCrossReferenceIdeal := hCrossReferenceIdeal)
    ∧ quiescent_CrossReferenceIdeal_pre_cross_finite (hCrossReferenceIdeal := hCrossReferenceIdeal) (hPre_cross_finite := hPre_cross_finite)
    ∧ quiescent_Mix (hMix := hMix)
    ∧ quiescent_MixIdeal (hMixIdeal := hMixIdeal)
    ∧ quiescent_MixIdeal_pre_mix_finite (hMixIdeal := hMixIdeal) (hPre_mix_finite := hPre_mix_finite)
    ∧ quiescent_MixReferenceIdeal (hMixReferenceIdeal := hMixReferenceIdeal)
    ∧ quiescent_MixReferenceIdeal_pre_mix_finite (hMixReferenceIdeal := hMixReferenceIdeal) (hPre_mix_finite := hPre_mix_finite)
    ∧ quiescent_Small (hSmall := hSmall)
    ∧ quiescent_SmallIdeal (hSmallIdeal := hSmallIdeal)
    ∧ quiescent_SmallReferenceIdeal (hSmallReferenceIdeal := hSmallReferenceIdeal)
    ∧ quiescent_Taps (hTaps := hTaps)
    ∧ quiescent_TapsIdeal (hTapsIdeal := hTapsIdeal)
    ∧ quiescent_TapsReferenceIdeal (hTapsReferenceIdeal := hTapsReferenceIdeal)
    ∧ quiescent_Opt (hOpt := hOpt)
    ∧ quiescent_OptIdeal (hOptIdeal := hOptIdeal)
    ∧ quiescent_OptReferenceIdeal (hOptReferenceIdeal := hOptReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal_pre_ffn_finite (hFfnIdeal := hFfnIdeal) (hFfnReferenceIdeal := hFfnReferenceIdeal) (hPre_ffn_finite := hPre_ffn_finite)
    ∧ preserves_Cross_CrossIdeal
    ∧ algebraic_CrossIdeal_CrossReferenceIdeal_pre_cross_finite (hCrossIdeal := hCrossIdeal) (hCrossReferenceIdeal := hCrossReferenceIdeal) (hPre_cross_finite := hPre_cross_finite)
    ∧ preserves_Mix_MixIdeal
    ∧ algebraic_MixIdeal_MixReferenceIdeal_pre_mix_finite (hMixIdeal := hMixIdeal) (hMixReferenceIdeal := hMixReferenceIdeal) (hPre_mix_finite := hPre_mix_finite)
    ∧ preserves_Small_SmallIdeal
    ∧ algebraic_SmallIdeal_SmallReferenceIdeal (hSmallIdeal := hSmallIdeal) (hSmallReferenceIdeal := hSmallReferenceIdeal)
    ∧ preserves_Taps_TapsIdeal
    ∧ algebraic_TapsIdeal_TapsReferenceIdeal (hTapsIdeal := hTapsIdeal) (hTapsReferenceIdeal := hTapsReferenceIdeal)
    ∧ preserves_Opt_OptIdeal
    ∧ algebraic_OptIdeal_OptReferenceIdeal (hOptIdeal := hOptIdeal) (hOptReferenceIdeal := hOptReferenceIdeal)
-- ==== Pre_cross_finite.lean ====
abbrev S2048x1024 : Shape := ⟨2, ![2048, 1024]⟩
abbrev S256x1024 : Shape := ⟨2, ![256, 1024]⟩
abbrev S1024 : Shape := ⟨1, ![1024]⟩
abbrev S1x1024x1024 : Shape := ⟨3, ![1, 1024, 1024]⟩
abbrev S1x2048x1024 : Shape := ⟨3, ![1, 2048, 1024]⟩
abbrev S_ : Shape := ⟨0, ![]⟩

class Facts : Prop where
  bcast_S_S2048x1024 : S_.BroadcastsInDim S2048x1024 (![] : Fin 0 → Fin S2048x1024.rank)
  bcast_S_S256x1024 : S_.BroadcastsInDim S256x1024 (![] : Fin 0 → Fin S256x1024.rank)
  bcast_S_S1024 : S_.BroadcastsInDim S1024 (![] : Fin 0 → Fin S1024.rank)
  bitsLt_bf16_f32 : FTy.bits .bf16 < FTy.bits .f32
  bcast_S_S1x1024x1024 : S_.BroadcastsInDim S1x1024x1024 (![] : Fin 0 → Fin S1x1024x1024.rank)
  bcast_S_S1x2048x1024 : S_.BroadcastsInDim S1x2048x1024 (![] : Fin 0 → Fin S1x2048x1024.rank)

variable [Facts]

def fn_part1 {F : FTy → Type} [FloatOps F] (main_arg6 : FVec F S1x1024x1024 .bf16) (main_arg7 : FVec F S2048x1024 .f32) (main_v2 : IVec S2048x1024 1) (main_v5 : IVec S256x1024 1) (main_v8 : IVec S1024 1) (main_v11 : IVec S1024 1) (main_v15 : IVec S1x1024x1024 1) (main_v17 : FVec F S1x2048x1024 .f32) (main_cst_4 : FVec F S_ .f32) : IVec S2048x1024 1 × IVec S256x1024 1 × IVec S1024 1 × IVec S1024 1 × IVec S1x1024x1024 1 × IVec S1x2048x1024 1 × IVec S1x1024x1024 1 × IVec S2048x1024 1 :=
  let main_v18 : FVec F S1x2048x1024 .f32 := broadcastInDim S1x2048x1024 ![] bcast_S_S1x2048x1024 main_cst_4
  let main_v19 : IVec S1x2048x1024 1 := cmpf .olt main_v17 main_v18
  let main_v20 : FVec F S1x1024x1024 .f32 := (extf .f32 · bitsLt_bf16_f32) main_arg6
  let main_v21 : FVec F S1x1024x1024 .f32 := Host.absf main_v20
  let main_cst_5 : FVec F S_ .f32 := constant S_ .f32 0x7F800000#32
  let main_v22 : FVec F S1x1024x1024 .f32 := broadcastInDim S1x1024x1024 ![] bcast_S_S1x1024x1024 main_cst_5
  let main_v23 : IVec S1x1024x1024 1 := cmpf .olt main_v21 main_v22
  let main_v24 : FVec F S2048x1024 .f32 := Host.absf main_arg7
  let main_cst_6 : FVec F S_ .f32 := constant S_ .f32 0x7F800000#32
  let main_v25 : FVec F S2048x1024 .f32 := broadcastInDim S2048x1024 ![] bcast_S_S2048x1024 main_cst_6
  let main_v26 : IVec S2048x1024 1 := cmpf .olt main_v24 main_v25
  (main_v2, main_v5, main_v8, main_v11, main_v15, main_v19, main_v23, main_v26)

def fn {F : FTy → Type} [FloatOps F] (main_arg0 : FVec F S2048x1024 .f32) (main_arg1 : FVec F S256x1024 .f32) (main_arg2 : FVec F S1024 .f32) (main_arg3 : FVec F S1024 .f32) (main_arg4 : FVec F S1x1024x1024 .bf16) (main_arg5 : FVec F S1x2048x1024 .bf16) (main_arg6 : FVec F S1x1024x1024 .bf16) (main_arg7 : FVec F S2048x1024 .f32) : IVec S2048x1024 1 × IVec S256x1024 1 × IVec S1024 1 × IVec S1024 1 × IVec S1x1024x1024 1 × IVec S1x2048x1024 1 × IVec S1x1024x1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S256x1024 .f32 := Host.absf main_arg1
  let main_cst_0 : FVec F S_ .f32 := constant S_ .f32 0x7F800000#32
  let main_v4 : FVec F S256x1024 .f32 := broadcastInDim S256x1024 ![] bcast_S_S256x1024 main_cst_0
  let main_v5 : IVec S256x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1x1024x1024 .f32 := (extf .f32 · bitsLt_bf16_f32) main_arg4
  let main_v13 : FVec F S1x1024x1024 .f32 := Host.absf main_v12
  let main_cst_3 : FVec F S_ .f32 := constant S_ .f32 0x7F800000#32
  let main_v14 : FVec F S1x1024x1024 .f32 := broadcastInDim S1x1024x1024 ![] bcast_S_S1x1024x1024 main_cst_3
  let main_v15 : IVec S1x1024x1024 1 := cmpf .olt main_v13 main_v14
  let main_v16 : FVec F S1x2048x1024 .f32 := (extf .f32 · bitsLt_bf16_f32) main_arg5
  let main_v17 : FVec F S1x2048x1024 .f32 := Host.absf main_v16
  let main_cst_4 : FVec F S_ .f32 := constant S_ .f32 0x7F800000#32
  fn_part1 (F := F) main_arg6 main_arg7 main_v2 main_v5 main_v8 main_v11 main_v15 main_v17 main_cst_4
-- ==== Pre_ffn_finite.lean ====
abbrev S2048x1024 : Shape := ⟨2, ![2048, 1024]⟩
abbrev S1024 : Shape := ⟨1, ![1024]⟩
abbrev S1x2816x1024 : Shape := ⟨3, ![1, 2816, 1024]⟩
abbrev S_ : Shape := ⟨0, ![]⟩

class Facts : Prop where
  bcast_S_S2048x1024 : S_.BroadcastsInDim S2048x1024 (![] : Fin 0 → Fin S2048x1024.rank)
  bcast_S_S1024 : S_.BroadcastsInDim S1024 (![] : Fin 0 → Fin S1024.rank)
  bitsLt_bf16_f32 : FTy.bits .bf16 < FTy.bits .f32
  bcast_S_S1x2816x1024 : S_.BroadcastsInDim S1x2816x1024 (![] : Fin 0 → Fin S1x2816x1024.rank)

variable [Facts]

def fn_part1 {F : FTy → Type} [FloatOps F] (main_v2 : IVec S2048x1024 1) (main_v5 : IVec S1024 1) (main_v9 : IVec S1x2816x1024 1) (main_v13 : IVec S1x2816x1024 1) (main_v17 : IVec S1x2816x1024 1) (main_v18 : FVec F S2048x1024 .f32) : IVec S2048x1024 1 × IVec S1024 1 × IVec S1x2816x1024 1 × IVec S1x2816x1024 1 × IVec S1x2816x1024 1 × IVec S2048x1024 1 :=
  let main_cst_4 : FVec F S_ .f32 := constant S_ .f32 0x7F800000#32
  let main_v19 : FVec F S2048x1024 .f32 := broadcastInDim S2048x1024 ![] bcast_S_S2048x1024 main_cst_4
  let main_v20 : IVec S2048x1024 1 := cmpf .olt main_v18 main_v19
  (main_v2, main_v5, main_v9, main_v13, main_v17, main_v20)

def fn {F : FTy → Type} [FloatOps F] (main_arg0 : FVec F S2048x1024 .f32) (main_arg1 : FVec F S1024 .f32) (main_arg2 : FVec F S1x2816x1024 .bf16) (main_arg3 : FVec F S1x2816x1024 .bf16) (main_arg4 : FVec F S1x2816x1024 .bf16) (main_arg5 : FVec F S2048x1024 .f32) : IVec S2048x1024 1 × IVec S1024 1 × IVec S1x2816x1024 1 × IVec S1x2816x1024 1 × IVec S1x2816x1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1x2816x1024 .f32 := (extf .f32 · bitsLt_bf16_f32) main_arg2
  let main_v7 : FVec F S1x2816x1024 .f32 := Host.absf main_v6
  let main_cst_1 : FVec F S_ .f32 := constant S_ .f32 0x7F800000#32
  let main_v8 : FVec F S1x2816x1024 .f32 := broadcastInDim S1x2816x1024 ![] bcast_S_S1x2816x1024 main_cst_1
  let main_v9 : IVec S1x2816x1024 1 := cmpf .olt main_v7 main_v8
  let main_v10 : FVec F S1x2816x1024 .f32 := (extf .f32 · bitsLt_bf16_f32) main_arg3
  let main_v11 : FVec F S1x2816x1024 .f32 := Host.absf main_v10
  let main_cst_2 : FVec F S_ .f32 := constant S_ .f32 0x7F800000#32
  let main_v12 : FVec F S1x2816x1024 .f32 := broadcastInDim S1x2816x1024 ![] bcast_S_S1x2816x1024 main_cst_2
  let main_v13 : IVec S1x2816x1024 1 := cmpf .olt main_v11 main_v12
  let main_v14 : FVec F S1x2816x1024 .f32 := (extf .f32 · bitsLt_bf16_f32) main_arg4
  let main_v15 : FVec F S1x2816x1024 .f32 := Host.absf main_v14
  let main_cst_3 : FVec F S_ .f32 := constant S_ .f32 0x7F800000#32
  let main_v16 : FVec F S1x2816x1024 .f32 := broadcastInDim S1x2816x1024 ![] bcast_S_S1x2816x1024 main_cst_3
  let main_v17 : IVec S1x2816x1024 1 := cmpf .olt main_v15 main_v16
  let main_v18 : FVec F S2048x1024 .f32 := Host.absf main_arg5
  fn_part1 (F := F) main_v2 main_v5 main_v9 main_v13 main_v17 main_v18
-- ==== Pre_finite.lean ====
abbrev S2048x1536 : Shape := ⟨2, ![2048, 1536]⟩
abbrev S8x2048 : Shape := ⟨2, ![8, 2048]⟩
abbrev S2048x512 : Shape := ⟨2, ![2048, 512]⟩
abbrev S_ : Shape := ⟨0, ![]⟩

class Facts : Prop where
  bitsLt_bf16_f32 : FTy.bits .bf16 < FTy.bits .f32
  bcast_S_S2048x1536 : S_.BroadcastsInDim S2048x1536 (![] : Fin 0 → Fin S2048x1536.rank)
  bcast_S_S8x2048 : S_.BroadcastsInDim S8x2048 (![] : Fin 0 → Fin S8x2048.rank)
  bcast_S_S2048x512 : S_.BroadcastsInDim S2048x512 (![] : Fin 0 → Fin S2048x512.rank)

variable [Facts]

def fn {F : FTy → Type} [FloatOps F] (main_arg0 : FVec F S2048x1536 .bf16) (main_arg1 : FVec F S8x2048 .f32) (main_arg2 : FVec F S2048x512 .bf16) : IVec S2048x1536 1 × IVec S8x2048 1 × IVec S2048x512 1 :=
  let main_v0 : FVec F S2048x1536 .f32 := (extf .f32 · bitsLt_bf16_f32) main_arg0
  let main_v1 : FVec F S2048x1536 .f32 := Host.absf main_v0
  let main_cst : FVec F S_ .f32 := constant S_ .f32 0x7F800000#32
  let main_v2 : FVec F S2048x1536 .f32 := broadcastInDim S2048x1536 ![] bcast_S_S2048x1536 main_cst
  let main_v3 : IVec S2048x1536 1 := cmpf .olt main_v1 main_v2
  let main_v4 : FVec F S8x2048 .f32 := Host.absf main_arg1
  let main_cst_0 : FVec F S_ .f32 := constant S_ .f32 0x7F800000#32
  let main_v5 : FVec F S8x2048 .f32 := broadcastInDim S8x2048 ![] bcast_S_S8x2048 main_cst_0
  let main_v6 : IVec S8x2048 1 := cmpf .olt main_v4 main_v5
  let main_v7 : FVec F S2048x512 .f32 := (extf .f32 · bitsLt_bf16_f32) main_arg2
  let main_v8 : FVec F S2048x512 .f32 := Host.absf main_v7
  let main_cst_1 : FVec F S_ .f32 := constant S_ .f32 0x7F800000#32
  let main_v9 : FVec F S2048x512 .f32 := broadcastInDim S2048x512 ![] bcast_S_S2048x512 main_cst_1
  let main_v10 : IVec S2048x512 1 := cmpf .olt main_v8 main_v9
  (main_v3, main_v6, main_v10)
-- ==== Pre_mix_finite.lean ====
abbrev S2048x1024 : Shape := ⟨2, ![2048, 1024]⟩
abbrev S1024 : Shape := ⟨1, ![1024]⟩
abbrev S1x1024x1536 : Shape := ⟨3, ![1, 1024, 1536]⟩
abbrev S16x1024 : Shape := ⟨2, ![16, 1024]⟩
abbrev S1x1024x1024 : Shape := ⟨3, ![1, 1024, 1024]⟩
abbrev S2048x512 : Shape := ⟨2, ![2048, 512]⟩
abbrev S512 : Shape := ⟨1, ![512]⟩
abbrev S2048x1536 : Shape := ⟨2, ![2048, 1536]⟩
abbrev S16x2048 : Shape := ⟨2, ![16, 2048]⟩
abbrev S_ : Shape := ⟨0, ![]⟩

class Facts : Prop where
  bcast_S_S2048x1024 : S_.BroadcastsInDim S2048x1024 (![] : Fin 0 → Fin S2048x1024.rank)
  bcast_S_S1024 : S_.BroadcastsInDim S1024 (![] : Fin 0 → Fin S1024.rank)
  bitsLt_bf16_f32 : FTy.bits .bf16 < FTy.bits .f32
  bcast_S_S1x1024x1536 : S_.BroadcastsInDim S1x1024x1536 (![] : Fin 0 → Fin S1x1024x1536.rank)
  bcast_S_S16x1024 : S_.BroadcastsInDim S16x1024 (![] : Fin 0 → Fin S16x1024.rank)
  bcast_S_S1x1024x1024 : S_.BroadcastsInDim S1x1024x1024 (![] : Fin 0 → Fin S1x1024x1024.rank)
  bcast_S_S2048x512 : S_.BroadcastsInDim S2048x512 (![] : Fin 0 → Fin S2048x512.rank)
  bcast_S_S512 : S_.BroadcastsInDim S512 (![] : Fin 0 → Fin S512.rank)
  bcast_S_S2048x1536 : S_.BroadcastsInDim S2048x1536 (![] : Fin 0 → Fin S2048x1536.rank)
  bcast_S_S16x2048 : S_.BroadcastsInDim S16x2048 (![] : Fin 0 → Fin S16x2048.rank)

variable [Facts]

def fn_part2 {F : FTy → Type} [FloatOps F] (main_arg12 : FVec F S2048x1536 .bf16) (main_arg13 : FVec F S16x2048 .bf16) (main_arg14 : FVec F S2048x1024 .bf16) (main_arg15 : FVec F S2048x1024 .f32) (main_v2 : IVec S2048x1024 1) (main_v5 : IVec S1024 1) (main_v9 : IVec S1x1024x1536 1) (main_v13 : IVec S16x1024 1) (main_v17 : IVec S1x1024x1024 1) (main_v20 : IVec S2048x512 1) (main_v23 : IVec S2048x512 1) (main_v26 : IVec S512 1) (main_v29 : IVec S512 1) (main_v32 : IVec S512 1) (main_v35 : IVec S512 1) (main_v36 : FVec F S1x1024x1024 .f32) : IVec S2048x1024 1 × IVec S1024 1 × IVec S1x1024x1536 1 × IVec S16x1024 1 × IVec S1x1024x1024 1 × IVec S2048x512 1 × IVec S2048x512 1 × IVec S512 1 × IVec S512 1 × IVec S512 1 × IVec S512 1 × IVec S1x1024x1024 1 × IVec S2048x1536 1 × IVec S16x2048 1 × IVec S2048x1024 1 × IVec S2048x1024 1 :=
  let main_v37 : FVec F S1x1024x1024 .f32 := Host.absf main_v36
  let main_cst_10 : FVec F S_ .f32 := constant S_ .f32 0x7F800000#32
  let main_v38 : FVec F S1x1024x1024 .f32 := broadcastInDim S1x1024x1024 ![] bcast_S_S1x1024x1024 main_cst_10
  let main_v39 : IVec S1x1024x1024 1 := cmpf .olt main_v37 main_v38
  let main_v40 : FVec F S2048x1536 .f32 := (extf .f32 · bitsLt_bf16_f32) main_arg12
  let main_v41 : FVec F S2048x1536 .f32 := Host.absf main_v40
  let main_cst_11 : FVec F S_ .f32 := constant S_ .f32 0x7F800000#32
  let main_v42 : FVec F S2048x1536 .f32 := broadcastInDim S2048x1536 ![] bcast_S_S2048x1536 main_cst_11
  let main_v43 : IVec S2048x1536 1 := cmpf .olt main_v41 main_v42
  let main_v44 : FVec F S16x2048 .f32 := (extf .f32 · bitsLt_bf16_f32) main_arg13
  let main_v45 : FVec F S16x2048 .f32 := Host.absf main_v44
  let main_cst_12 : FVec F S_ .f32 := constant S_ .f32 0x7F800000#32
  let main_v46 : FVec F S16x2048 .f32 := broadcastInDim S16x2048 ![] bcast_S_S16x2048 main_cst_12
  let main_v47 : IVec S16x2048 1 := cmpf .olt main_v45 main_v46
  let main_v48 : FVec F S2048x1024 .f32 := (extf .f32 · bitsLt_bf16_f32) main_arg14
  let main_v49 : FVec F S2048x1024 .f32 := Host.absf main_v48
  let main_cst_13 : FVec F S_ .f32 := constant S_ .f32 0x7F800000#32
  let main_v50 : FVec F S2048x1024 .f32 := broadcastInDim S2048x1024 ![] bcast_S_S2048x1024 main_cst_13
  let main_v51 : IVec S2048x1024 1 := cmpf .olt main_v49 main_v50
  let main_v52 : FVec F S2048x1024 .f32 := Host.absf main_arg15
  let main_cst_14 : FVec F S_ .f32 := constant S_ .f32 0x7F800000#32
  let main_v53 : FVec F S2048x1024 .f32 := broadcastInDim S2048x1024 ![] bcast_S_S2048x1024 main_cst_14
  let main_v54 : IVec S2048x1024 1 := cmpf .olt main_v52 main_v53
  (main_v2, main_v5, main_v9, main_v13, main_v17, main_v20, main_v23, main_v26, main_v29, main_v32, main_v35, main_v39, main_v43, main_v47, main_v51, main_v54)

def fn_part1 {F : FTy → Type} [FloatOps F] (main_arg6 : FVec F S2048x512 .f32) (main_arg7 : FVec F S512 .f32) (main_arg8 : FVec F S512 .f32) (main_arg9 : FVec F S512 .f32) (main_arg10 : FVec F S512 .f32) (main_arg11 : FVec F S1x1024x1024 .bf16) (main_arg12 : FVec F S2048x1536 .bf16) (main_arg13 : FVec F S16x2048 .bf16) (main_arg14 : FVec F S2048x1024 .bf16) (main_arg15 : FVec F S2048x1024 .f32) (main_v2 : IVec S2048x1024 1) (main_v5 : IVec S1024 1) (main_v9 : IVec S1x1024x1536 1) (main_v13 : IVec S16x1024 1) (main_v17 : IVec S1x1024x1024 1) (main_v18 : FVec F S2048x512 .f32) : IVec S2048x1024 1 × IVec S1024 1 × IVec S1x1024x1536 1 × IVec S16x1024 1 × IVec S1x1024x1024 1 × IVec S2048x512 1 × IVec S2048x512 1 × IVec S512 1 × IVec S512 1 × IVec S512 1 × IVec S512 1 × IVec S1x1024x1024 1 × IVec S2048x1536 1 × IVec S16x2048 1 × IVec S2048x1024 1 × IVec S2048x1024 1 :=
  let main_cst_4 : FVec F S_ .f32 := constant S_ .f32 0x7F800000#32
  let main_v19 : FVec F S2048x512 .f32 := broadcastInDim S2048x512 ![] bcast_S_S2048x512 main_cst_4
  let main_v20 : IVec S2048x512 1 := cmpf .olt main_v18 main_v19
  let main_v21 : FVec F S2048x512 .f32 := Host.absf main_arg6
  let main_cst_5 : FVec F S_ .f32 := constant S_ .f32 0x7F800000#32
  let main_v22 : FVec F S2048x512 .f32 := broadcastInDim S2048x512 ![] bcast_S_S2048x512 main_cst_5
  let main_v23 : IVec S2048x512 1 := cmpf .olt main_v21 main_v22
  let main_v24 : FVec F S512 .f32 := Host.absf main_arg7
  let main_cst_6 : FVec F S_ .f32 := constant S_ .f32 0x7F800000#32
  let main_v25 : FVec F S512 .f32 := broadcastInDim S512 ![] bcast_S_S512 main_cst_6
  let main_v26 : IVec S512 1 := cmpf .olt main_v24 main_v25
  let main_v27 : FVec F S512 .f32 := Host.absf main_arg8
  let main_cst_7 : FVec F S_ .f32 := constant S_ .f32 0x7F800000#32
  let main_v28 : FVec F S512 .f32 := broadcastInDim S512 ![] bcast_S_S512 main_cst_7
  let main_v29 : IVec S512 1 := cmpf .olt main_v27 main_v28
  let main_v30 : FVec F S512 .f32 := Host.absf main_arg9
  let main_cst_8 : FVec F S_ .f32 := constant S_ .f32 0x7F800000#32
  let main_v31 : FVec F S512 .f32 := broadcastInDim S512 ![] bcast_S_S512 main_cst_8
  let main_v32 : IVec S512 1 := cmpf .olt main_v30 main_v31
  let main_v33 : FVec F S512 .f32 := Host.absf main_arg10
  let main_cst_9 : FVec F S_ .f32 := constant S_ .f32 0x7F800000#32
  let main_v34 : FVec F S512 .f32 := broadcastInDim S512 ![] bcast_S_S512 main_cst_9
  let main_v35 : IVec S512 1 := cmpf .olt main_v33 main_v34
  let main_v36 : FVec F S1x1024x1024 .f32 := (extf .f32 · bitsLt_bf16_f32) main_arg11
  fn_part2 (F := F) main_arg12 main_arg13 main_arg14 main_arg15 main_v2 main_v5 main_v9 main_v13 main_v17 main_v20 main_v23 main_v26 main_v29 main_v32 main_v35 main_v36

def fn {F : FTy → Type} [FloatOps F] (main_arg0 : FVec F S2048x1024 .f32) (main_arg1 : FVec F S1024 .f32) (main_arg2 : FVec F S1x1024x1536 .bf16) (main_arg3 : FVec F S16x1024 .bf16) (main_arg4 : FVec F S1x1024x1024 .bf16) (main_arg5 : FVec F S2048x512 .f32) (main_arg6 : FVec F S2048x512 .f32) (main_arg7 : FVec F S512 .f32) (main_arg8 : FVec F S512 .f32) (main_arg9 : FVec F S512 .f32) (main_arg10 : FVec F S512 .f32) (main_arg11 : FVec F S1x1024x1024 .bf16) (main_arg12 : FVec F S2048x1536 .bf16) (main_arg13 : FVec F S16x2048 .bf16) (main_arg14 : FVec F S2048x1024 .bf16) (main_arg15 : FVec F S2048x1024 .f32) : IVec S2048x1024 1 × IVec S1024 1 × IVec S1x1024x1536 1 × IVec S16x1024 1 × IVec S1x1024x1024 1 × IVec S2048x512 1 × IVec S2048x512 1 × IVec S512 1 × IVec S512 1 × IVec S512 1 × IVec S512 1 × IVec S1x1024x1024 1 × IVec S2048x1536 1 × IVec S16x2048 1 × IVec S2048x1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1x1024x1536 .f32 := (extf .f32 · bitsLt_bf16_f32) main_arg2
  let main_v7 : FVec F S1x1024x1536 .f32 := Host.absf main_v6
  let main_cst_1 : FVec F S_ .f32 := constant S_ .f32 0x7F800000#32
  let main_v8 : FVec F S1x1024x1536 .f32 := broadcastInDim S1x1024x1536 ![] bcast_S_S1x1024x1536 main_cst_1
  let main_v9 : IVec S1x1024x1536 1 := cmpf .olt main_v7 main_v8
  let main_v10 : FVec F S16x1024 .f32 := (extf .f32 · bitsLt_bf16_f32) main_arg3
  let main_v11 : FVec F S16x1024 .f32 := Host.absf main_v10
  let main_cst_2 : FVec F S_ .f32 := constant S_ .f32 0x7F800000#32
  let main_v12 : FVec F S16x1024 .f32 := broadcastInDim S16x1024 ![] bcast_S_S16x1024 main_cst_2
  let main_v13 : IVec S16x1024 1 := cmpf .olt main_v11 main_v12
  let main_v14 : FVec F S1x1024x1024 .f32 := (extf .f32 · bitsLt_bf16_f32) main_arg4
  let main_v15 : FVec F S1x1024x1024 .f32 := Host.absf main_v14
  let main_cst_3 : FVec F S_ .f32 := constant S_ .f32 0x7F800000#32
  let main_v16 : FVec F S1x1024x1024 .f32 := broadcastInDim S1x1024x1024 ![] bcast_S_S1x1024x1024 main_cst_3
  let main_v17 : IVec S1x1024x1024 1 := cmpf .olt main_v15 main_v16
  let main_v18 : FVec F S2048x512 .f32 := Host.absf main_arg5
  fn_part1 (F := F) main_arg6 main_arg7 main_arg8 main_arg9 main_arg10 main_arg11 main_arg12 main_arg13 main_arg14 main_arg15 main_v2 main_v5 main_v9 main_v13 main_v17 main_v18
-- ==== Kernel.lean ====
abbrev S2048x1536 : Shape := ⟨2, ![2048, 1536]⟩
abbrev S8x2048 : Shape := ⟨2, ![8, 2048]⟩
abbrev S2048x512 : Shape := ⟨2, ![2048, 512]⟩
abbrev S8x2048x1 : Shape := ⟨3, ![8, 2048, 1]⟩
abbrev S4x2x2048 : Shape := ⟨3, ![4, 2, 2048]⟩
abbrev S2048x128 : Shape := ⟨2, ![2048, 128]⟩
abbrev S2x2048x1 : Shape := ⟨3, ![2, 2048, 1]⟩
abbrev S1x2x2048 : Shape := ⟨3, ![1, 2, 2048]⟩
abbrev S256x64 : Shape := ⟨2, ![256, 64]⟩
abbrev S1x256x1 : Shape := ⟨3, ![1, 256, 1]⟩
abbrev S256x1 : Shape := ⟨2, ![256, 1]⟩
abbrev S1x1x256 : Shape := ⟨3, ![1, 1, 256]⟩
abbrev S1x256 : Shape := ⟨2, ![1, 256]⟩
abbrev S256x256 : Shape := ⟨2, ![256, 256]⟩
abbrev S256 : Shape := ⟨1, ![256]⟩
abbrev S512x64 : Shape := ⟨2, ![512, 64]⟩
abbrev S1x1x512 : Shape := ⟨3, ![1, 1, 512]⟩
abbrev S1x512 : Shape := ⟨2, ![1, 512]⟩
abbrev S256x512 : Shape := ⟨2, ![256, 512]⟩
abbrev S768x64 : Shape := ⟨2, ![768, 64]⟩
abbrev S1x1x768 : Shape := ⟨3, ![1, 1, 768]⟩
abbrev S1x768 : Shape := ⟨2, ![1, 768]⟩
abbrev S256x768 : Shape := ⟨2, ![256, 768]⟩
abbrev S1024x64 : Shape := ⟨2, ![1024, 64]⟩
abbrev S1x1x1024 : Shape := ⟨3, ![1, 1, 1024]⟩
abbrev S1x1024 : Shape := ⟨2, ![1, 1024]⟩
abbrev S256x1024 : Shape := ⟨2, ![256, 1024]⟩
abbrev S1280x64 : Shape := ⟨2, ![1280, 64]⟩
abbrev S1x1x1280 : Shape := ⟨3, ![1, 1, 1280]⟩
abbrev S1x1280 : Shape := ⟨2, ![1, 1280]⟩
abbrev S256x1280 : Shape := ⟨2, ![256, 1280]⟩
abbrev S1536x64 : Shape := ⟨2, ![1536, 64]⟩
abbrev S1x1x1536 : Shape := ⟨3, ![1, 1, 1536]⟩
abbrev S1x1536 : Shape := ⟨2, ![1, 1536]⟩
abbrev S256x1536 : Shape := ⟨2, ![256, 1536]⟩
abbrev S1792x64 : Shape := ⟨2, ![1792, 64]⟩
abbrev S1x1x1792 : Shape := ⟨3, ![1, 1, 1792]⟩
abbrev S1x1792 : Shape := ⟨2, ![1, 1792]⟩
abbrev S256x1792 : Shape := ⟨2, ![256, 1792]⟩
abbrev S2048x64 : Shape := ⟨2, ![2048, 64]⟩
abbrev S1x1x2048 : Shape := ⟨3, ![1, 1, 2048]⟩
abbrev S1x2048 : Shape := ⟨2, ![1, 2048]⟩
abbrev S256x2048 : Shape := ⟨2, ![256, 2048]⟩
abbrev S2x2048 : Shape := ⟨2, ![2, 2048]⟩
abbrev S512 : Shape := ⟨1, ![512]⟩
abbrev S768 : Shape := ⟨1, ![768]⟩
abbrev S1024 : Shape := ⟨1, ![1024]⟩
abbrev S1280 : Shape := ⟨1, ![1280]⟩
abbrev S1536 : Shape := ⟨1, ![1536]⟩
abbrev S1792 : Shape := ⟨1, ![1792]⟩
abbrev S2048 : Shape := ⟨1, ![2048]⟩

abbrev nBuf : Space → Nat
  | .hbm => 11
  | .vmem => 38
  | .smem => 0
  | _ => 0

abbrev bufTy : (tb : Table) → Fin (tcTables nBuf tb) → BufTy
  | .hbm, ⟨0, _⟩ => ⟨S2048x1536, .bf16⟩
  | .hbm, ⟨1, _⟩ => ⟨S8x2048, .f32⟩
  | .hbm, ⟨2, _⟩ => ⟨S2048x512, .bf16⟩
  | .hbm, ⟨3, _⟩ => ⟨S8x2048x1, .f32⟩
  | .hbm, ⟨4, _⟩ => ⟨S4x2x2048, .f32⟩
  | .hbm, ⟨5, _⟩ => ⟨S2048x512, .f32⟩
  | .hbm, ⟨6, _⟩ => ⟨S8x2048x1, .f32⟩
  | .hbm, ⟨7, _⟩ => ⟨S2048x512, .bf16⟩
  | .hbm, ⟨8, _⟩ => ⟨S2048x512, .bf16⟩
  | .hbm, ⟨9, _⟩ => ⟨S2048x512, .bf16⟩
  | .hbm, ⟨10, _⟩ => ⟨S4x2x2048, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2x2048x1, .f32⟩
  | .local _ .vmem, ⟨7, _⟩ => ⟨S2x2048x1, .f32⟩
  | .local _ .vmem, ⟨8, _⟩ => ⟨S1x2x2048, .f32⟩
  | .local _ .vmem, ⟨9, _⟩ => ⟨S1x2x2048, .f32⟩
  | .local _ .vmem, ⟨10, _⟩ => ⟨S2048x128, .f32⟩
  | .local _ .vmem, ⟨11, _⟩ => ⟨S2048x128, .f32⟩
  | .local _ .vmem, ⟨12, _⟩ => ⟨S2x2048x1, .f32⟩
  | .local _ .vmem, ⟨13, _⟩ => ⟨S2x2048x1, .f32⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2x2048x1, .f32⟩
  | .local _ .vmem, ⟨21, _⟩ => ⟨S2x2048x1, .f32⟩
  | .local _ .vmem, ⟨22, _⟩ => ⟨S1x2x2048, .f32⟩
  | .local _ .vmem, ⟨23, _⟩ => ⟨S1x2x2048, .f32⟩
  | .local _ .vmem, ⟨24, _⟩ => ⟨S2x2048x1, .f32⟩
  | .local _ .vmem, ⟨25, _⟩ => ⟨S2x2048x1, .f32⟩
  | .local _ .vmem, ⟨26, _⟩ => ⟨S2048x128, .bf16⟩
  | .local _ .vmem, ⟨27, _⟩ => ⟨S2048x128, .bf16⟩
  | .local _ .vmem, ⟨28, _⟩ => ⟨S2048x128, .bf16⟩
  | .local _ .vmem, ⟨29, _⟩ => ⟨S2048x128, .bf16⟩
  | .local _ .vmem, ⟨30, _⟩ => ⟨S2048x128, .bf16⟩
  | .local _ .vmem, ⟨31, _⟩ => ⟨S2048x128, .bf16⟩
  | .local _ .vmem, ⟨32, _⟩ => ⟨S2048x128, .bf16⟩
  | .local _ .vmem, ⟨33, _⟩ => ⟨S2048x128, .bf16⟩
  | .local _ .vmem, ⟨34, _⟩ => ⟨S1x2x2048, .f32⟩
  | .local _ .vmem, ⟨35, _⟩ => ⟨S1x2x2048, .f32⟩
  | .local _ .vmem, ⟨36, _⟩ => ⟨S2048x128, .f32⟩
  | .local _ .vmem, ⟨37, _⟩ => ⟨S2048x128, .f32⟩
  | _, _ => ⟨S2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc1_stg9_0 : Ref sig .tc := ⟨.vmem, 32, rfl⟩
abbrev cc1_stg9_1 : Ref sig .tc := ⟨.vmem, 33, rfl⟩
abbrev cc1_stg10_0 : Ref sig .tc := ⟨.vmem, 34, rfl⟩
abbrev cc1_stg10_1 : Ref sig .tc := ⟨.vmem, 35, rfl⟩
abbrev cc1_scratch0 : Ref sig .tc := ⟨.vmem, 36, rfl⟩
abbrev cc1_scratch1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc1_sem9_0 : DmaSem sig := 32
abbrev cc1_sem9_1 : DmaSem sig := 33
abbrev cc1_sem10_0 : DmaSem sig := 34
abbrev cc1_sem10_1 : DmaSem sig := 35

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2x2048x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x2x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2x2048x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2048x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2048x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2048x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2048x128 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x2x2048 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== KernelIdeal.lean ====
variable {F : FTy → Type} [FloatOps F] [Named F]
def κ : String → Option EReal := fun
  | "mask" => some ⊥
  | _ => none
-- ==== ReferenceIdeal.lean ====
abbrev S2048x1536 : Shape := ⟨2, ![2048, 1536]⟩
abbrev S8x2048 : Shape := ⟨2, ![8, 2048]⟩
abbrev S2048x512 : Shape := ⟨2, ![2048, 512]⟩
abbrev S2048x8x64 : Shape := ⟨3, ![2048, 8, 64]⟩
abbrev S8x2048x2048 : Shape := ⟨3, ![8, 2048, 2048]⟩
abbrev S_ : Shape := ⟨0, ![]⟩
abbrev S8x2048x1 : Shape := ⟨3, ![8, 2048, 1]⟩
abbrev S8x1x2048 : Shape := ⟨3, ![8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S8x64x2048 : Shape := ⟨3, ![8, 64, 2048]⟩
abbrev S8x2048x64 : Shape := ⟨3, ![8, 2048, 64]⟩
abbrev S4x2x2048 : Shape := ⟨3, ![4, 2, 2048]⟩

abbrev nBuf : Space → Nat
  | .hbm => 128
  | .vmem => 0
  | .smem => 0
  | _ => 0

abbrev bufTy : (tb : Table) → Fin (tcTables nBuf tb) → BufTy
  | .hbm, ⟨0, _⟩ => ⟨S2048x1536, .bf16⟩
  | .hbm, ⟨1, _⟩ => ⟨S8x2048, .f32⟩
  | .hbm, ⟨2, _⟩ => ⟨S2048x512, .bf16⟩
  | .hbm, ⟨3, _⟩ => ⟨S2048x512, .bf16⟩
  | .hbm, ⟨4, _⟩ => ⟨S2048x512, .bf16⟩
  | .hbm, ⟨5, _⟩ => ⟨S2048x512, .bf16⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x8x64, .f32⟩
  | .hbm, ⟨10, _⟩ => ⟨S2048x8x64, .f32⟩
  | .hbm, ⟨11, _⟩ => ⟨S2048x8x64, .f32⟩
  | .hbm, ⟨12, _⟩ => ⟨S8x2048x2048, .f32⟩
  | .hbm, ⟨13, _⟩ => ⟨S_, .f32⟩
  | .hbm, ⟨14, _⟩ => ⟨S8x2048x2048, .f32⟩
  | .hbm, ⟨15, _⟩ => ⟨S8x2048x2048, .f32⟩
  | .hbm, ⟨16, _⟩ => ⟨S8x2048x1, .f32⟩
  | .hbm, ⟨17, _⟩ => ⟨S8x2048x2048, .f32⟩
  | .hbm, ⟨18, _⟩ => ⟨S8x2048x2048, .f32⟩
  | .hbm, ⟨19, _⟩ => ⟨S8x1x2048, .f32⟩
  | .hbm, ⟨20, _⟩ => ⟨S8x2048x2048, .f32⟩
  | .hbm, ⟨21, _⟩ => ⟨S8x2048x2048, .f32⟩
  | .hbm, ⟨22, _⟩ => ⟨S2048, .i32⟩
  | .hbm, ⟨23, _⟩ => ⟨S2048x1, .i32⟩
  | .hbm, ⟨24, _⟩ => ⟨S2048, .i32⟩
  | .hbm, ⟨25, _⟩ => ⟨S1x2048, .i32⟩
  | .hbm, ⟨26, _⟩ => ⟨S2048x2048, .i32⟩
  | .hbm, ⟨27, _⟩ => ⟨S2048x2048, .i32⟩
  | .hbm, ⟨28, _⟩ => ⟨S2048x2048, .i1⟩
  | .hbm, ⟨29, _⟩ => ⟨S1x2048x2048, .i1⟩
  | .hbm, ⟨30, _⟩ => ⟨S_, .f32⟩
  | .hbm, ⟨31, _⟩ => ⟨S_, .f32⟩
  | .hbm, ⟨32, _⟩ => ⟨S8x2048x2048, .i1⟩
  | .hbm, ⟨33, _⟩ => ⟨S8x2048x2048, .f32⟩
  | .hbm, ⟨34, _⟩ => ⟨S8x2048x2048, .f32⟩
  | .hbm, ⟨35, _⟩ => ⟨S_, .f32⟩
  | .hbm, ⟨36, _⟩ => ⟨S8x2048x2048, .f32⟩
  | .hbm, ⟨37, _⟩ => ⟨S_, .f32⟩
  | .hbm, ⟨38, _⟩ => ⟨S8x2048, .f32⟩
  | .hbm, ⟨39, _⟩ => ⟨S8x2048x1, .f32⟩
  | .hbm, ⟨40, _⟩ => ⟨S8x2048x2048, .f32⟩
  | .hbm, ⟨41, _⟩ => ⟨S8x2048x2048, .i1⟩
  | .hbm, ⟨42, _⟩ => ⟨S8x2048x2048, .f32⟩
  | .hbm, ⟨43, _⟩ => ⟨S_, .f32⟩
  | .hbm, ⟨44, _⟩ => ⟨S8x2048, .f32⟩
  | .hbm, ⟨45, _⟩ => ⟨S_, .f32⟩
  | .hbm, ⟨46, _⟩ => ⟨S8x2048, .f32⟩
  | .hbm, ⟨47, _⟩ => ⟨S8x2048, .f32⟩
  | .hbm, ⟨48, _⟩ => ⟨S_, .f32⟩
  | .hbm, ⟨49, _⟩ => ⟨S8x2048, .f32⟩
  | .hbm, ⟨50, _⟩ => ⟨S8x2048, .i1⟩
  | .hbm, ⟨51, _⟩ => ⟨S_, .f32⟩
  | .hbm, ⟨52, _⟩ => ⟨S8x2048, .f32⟩
  | .hbm, ⟨53, _⟩ => ⟨S8x2048, .i1⟩
  | .hbm, ⟨54, _⟩ => ⟨S_, .f32⟩
  | .hbm, ⟨55, _⟩ => ⟨S8x2048, .f32⟩
  | .hbm, ⟨56, _⟩ => ⟨S_, .f32⟩
  | .hbm, ⟨57, _⟩ => ⟨S8x2048, .f32⟩
  | .hbm, ⟨58, _⟩ => ⟨S_, .f32⟩
  | .hbm, ⟨59, _⟩ => ⟨S8x2048, .f32⟩
  | .hbm, ⟨60, _⟩ => ⟨S8x2048, .f32⟩
  | .hbm, ⟨61, _⟩ => ⟨S8x2048, .f32⟩
  | .hbm, ⟨62, _⟩ => ⟨S8x2048x1, .f32⟩
  | .hbm, ⟨63, _⟩ => ⟨S8x2048x2048, .f32⟩
  | .hbm, ⟨64, _⟩ => ⟨S8x2048x2048, .f32⟩
  | .hbm, ⟨65, _⟩ => ⟨S8x2048x2048, .f32⟩
  | .hbm, ⟨66, _⟩ => ⟨S_, .f32⟩
  | .hbm, ⟨67, _⟩ => ⟨S8x2048, .f32⟩
  | .hbm, ⟨68, _⟩ => ⟨S8x2048x1, .f32⟩
  | .hbm, ⟨69, _⟩ => ⟨S8x2048x2048, .f32⟩
  | .hbm, ⟨70, _⟩ => ⟨S8x2048x2048, .f32⟩
  | .hbm, ⟨71, _⟩ => ⟨S8x2048x1, .f32⟩
  | .hbm, ⟨72, _⟩ => ⟨S_, .f32⟩
  | .hbm, ⟨73, _⟩ => ⟨S8x2048x1, .f32⟩
  | .hbm, ⟨74, _⟩ => ⟨S8x2048x1, .f32⟩
  | .hbm, ⟨75, _⟩ => ⟨S8x64x2048, .f32⟩
  | .hbm, ⟨76, _⟩ => ⟨S2048x8x64, .f32⟩
  | .hbm, ⟨77, _⟩ => ⟨S2048x512, .f32⟩
  | .hbm, ⟨78, _⟩ => ⟨S2048x512, .f32⟩
  | .hbm, ⟨79, _⟩ => ⟨S2048x8x64, .f32⟩
  | .hbm, ⟨80, _⟩ => ⟨S8x64x2048, .f32⟩
  | .hbm, ⟨81, _⟩ => ⟨S8x2048x2048, .f32⟩
  | .hbm, ⟨82, _⟩ => ⟨S8x64x2048, .f32⟩
  | .hbm, ⟨83, _⟩ => ⟨S2048x8x64, .f32⟩
  | .hbm, ⟨84, _⟩ => ⟨S8x2048x2048, .f32⟩
  | .hbm, ⟨85, _⟩ => ⟨S8x2048x2048, .f32⟩
  | .hbm, ⟨86, _⟩ => ⟨S8x2048x2048, .f32⟩
  | .hbm, ⟨87, _⟩ => ⟨S_, .f32⟩
  | .hbm, ⟨88, _⟩ => ⟨S8x2048, .f32⟩
  | .hbm, ⟨89, _⟩ => ⟨S8x2048x1, .f32⟩
  | .hbm, ⟨90, _⟩ => ⟨S8x2048x1, .f32⟩
  | .hbm, ⟨91, _⟩ => ⟨S8x2048x2048, .f32⟩
  | .hbm, ⟨92, _⟩ => ⟨S8x2048x2048, .f32⟩
  | .hbm, ⟨93, _⟩ => ⟨S_, .f32⟩
  | .hbm, ⟨94, _⟩ => ⟨S8x2048, .f32⟩
  | .hbm, ⟨95, _⟩ => ⟨S8x2048x2048, .f32⟩
  | .hbm, ⟨96, _⟩ => ⟨S8x2048x2048, .f32⟩
  | .hbm, ⟨97, _⟩ => ⟨S8x2048x2048, .f32⟩
  | .hbm, ⟨98, _⟩ => ⟨S_, .f32⟩
  | .hbm, ⟨99, _⟩ => ⟨S8x2048x2048, .f32⟩
  | .hbm, ⟨100, _⟩ => ⟨S8x2048x2048, .f32⟩
  | .hbm, ⟨101, _⟩ => ⟨S8x2048x2048, .f32⟩
  | .hbm, ⟨102, _⟩ => ⟨S_, .f32⟩
  | .hbm, ⟨103, _⟩ => ⟨S8x2048, .f32⟩
  | .hbm, ⟨104, _⟩ => ⟨S8x1x2048, .f32⟩
  | .hbm, ⟨105, _⟩ => ⟨S_, .f32⟩
  | .hbm, ⟨106, _⟩ => ⟨S8x2048, .f32⟩
  | .hbm, ⟨107, _⟩ => ⟨S_, .f32⟩
  | .hbm, ⟨108, _⟩ => ⟨S8x2048, .f32⟩
  | .hbm, ⟨109, _⟩ => ⟨S8x2048x1, .f32⟩
  | .hbm, ⟨110, _⟩ => ⟨S_, .f32⟩
  | .hbm, ⟨111, _⟩ => ⟨S8x2048, .f32⟩
  | .hbm, ⟨112, _⟩ => ⟨S8x2048, .f32⟩
  | .hbm, ⟨113, _⟩ => ⟨S_, .f32⟩
  | .hbm, ⟨114, _⟩ => ⟨S8x2048x2048, .f32⟩
  | .hbm, ⟨115, _⟩ => ⟨S8x2048x2048, .f32⟩
  | .hbm, ⟨116, _⟩ => ⟨S8x2048x64, .f32⟩
  | .hbm, ⟨117, _⟩ => ⟨S2048x8x64, .f32⟩
  | .hbm, ⟨118, _⟩ => ⟨S8x2048x64, .f32⟩
  | .hbm, ⟨119, _⟩ => ⟨S2048x8x64, .f32⟩
  | .hbm, ⟨120, _⟩ => ⟨S2048x512, .f32⟩
  | .hbm, ⟨121, _⟩ => ⟨S2048x512, .f32⟩
  | .hbm, ⟨122, _⟩ => ⟨S2048x512, .f32⟩
  | .hbm, ⟨123, _⟩ => ⟨S2048x512, .bf16⟩
  | .hbm, ⟨124, _⟩ => ⟨S2048x512, .bf16⟩
  | .hbm, ⟨125, _⟩ => ⟨S2048x512, .bf16⟩
  | .hbm, ⟨126, _⟩ => ⟨S4x2x2048, .f32⟩
  | .hbm, ⟨127, _⟩ => ⟨S4x2x2048, .f32⟩
  | _, _ => ⟨S2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_call0_v0 : Ref sig .tc := ⟨.hbm, 31, rfl⟩
abbrev main_v26_1 : Ref sig .tc := ⟨.hbm, 32, rfl⟩
abbrev main_call0_v2 : Ref sig .tc := ⟨.hbm, 33, rfl⟩
abbrev main_v26_0 : Ref sig .tc := ⟨.hbm, 34, rfl⟩
abbrev main_call0_cst : Ref sig .tc := ⟨.hbm, 35, rfl⟩
abbrev main_v26_2 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_11 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_12 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_call1_cst : Ref sig .tc := ⟨.hbm, 98, rfl⟩
abbrev main_call1_v0 : Ref sig .tc := ⟨.hbm, 99, rfl⟩
abbrev main_v76 : Ref sig .tc := ⟨.hbm, 100, rfl⟩
abbrev main_v77 : Ref sig .tc := ⟨.hbm, 101, rfl⟩
abbrev main_cst_13 : Ref sig .tc := ⟨.hbm, 102, rfl⟩
abbrev main_v78 : Ref sig .tc := ⟨.hbm, 103, rfl⟩
abbrev main_v79 : Ref sig .tc := ⟨.hbm, 104, rfl⟩
abbrev main_cst_14 : Ref sig .tc := ⟨.hbm, 105, rfl⟩
abbrev main_v80 : Ref sig .tc := ⟨.hbm, 106, rfl⟩
abbrev main_cst_15 : Ref sig .tc := ⟨.hbm, 107, rfl⟩
abbrev main_v81 : Ref sig .tc := ⟨.hbm, 108, rfl⟩
abbrev main_v82 : Ref sig .tc := ⟨.hbm, 109, rfl⟩
abbrev main_cst_16 : Ref sig .tc := ⟨.hbm, 110, rfl⟩
abbrev main_v83 : Ref sig .tc := ⟨.hbm, 111, rfl⟩
abbrev main_v84 : Ref sig .tc := ⟨.hbm, 112, rfl⟩
abbrev main_cst_17 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩

abbrev nD : Nat := 1
abbrev τ : Topo := Topo.v7x

variable {F : FTy → Type} [FloatOps F]
-- ==== Ffn.lean ====
abbrev S2048x1024 : Shape := ⟨2, ![2048, 1024]⟩
abbrev S1024 : Shape := ⟨1, ![1024]⟩
abbrev S1x2816x1024 : Shape := ⟨3, ![1, 2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S2048x2816 : Shape := ⟨2, ![2048, 2816]⟩
abbrev S1024x1024 : Shape := ⟨2, ![1024, 1024]⟩
abbrev S1x1408x1024 : Shape := ⟨3, ![1, 1408, 1024]⟩
abbrev S1024x1408 : Shape := ⟨2, ![1024, 1408]⟩
abbrev S1x128x1024 : Shape := ⟨3, ![1, 128, 1024]⟩
abbrev S128x1024 : Shape := ⟨2, ![128, 1024]⟩
abbrev S1024x128 : Shape := ⟨2, ![1024, 128]⟩
abbrev S512x2816 : Shape := ⟨2, ![512, 2816]⟩
abbrev S2816x1024 : Shape := ⟨2, ![2816, 1024]⟩
abbrev S2048x256 : Shape := ⟨2, ![2048, 256]⟩
abbrev S1x256x1024 : Shape := ⟨3, ![1, 256, 1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 20
  | .vmem => 65
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1x2816x1024, .bf16⟩
  | .hbm, ⟨3, _⟩ => ⟨S1x2816x1024, .bf16⟩
  | .hbm, ⟨4, _⟩ => ⟨S1x2816x1024, .bf16⟩
  | .hbm, ⟨5, _⟩ => ⟨S2048x1024, .f32⟩
  | .hbm, ⟨6, _⟩ => ⟨S1x1024, .f32⟩
  | .hbm, ⟨7, _⟩ => ⟨S2048x1024, .bf16⟩
  | .hbm, ⟨8, _⟩ => ⟨S2048x2816, .bf16⟩
  | .hbm, ⟨9, _⟩ => ⟨S2048x2816, .bf16⟩
  | .hbm, ⟨10, _⟩ => ⟨S2048x2816, .bf16⟩
  | .hbm, ⟨11, _⟩ => ⟨S2048x1024, .f32⟩
  | .hbm, ⟨12, _⟩ => ⟨S2048x2816, .bf16⟩
  | .hbm, ⟨13, _⟩ => ⟨S2048x2816, .bf16⟩
  | .hbm, ⟨14, _⟩ => ⟨S1x2816x1024, .bf16⟩
  | .hbm, ⟨15, _⟩ => ⟨S1x2816x1024, .bf16⟩
  | .hbm, ⟨16, _⟩ => ⟨S1x2816x1024, .bf16⟩
  | .hbm, ⟨17, _⟩ => ⟨S1x1024, .f32⟩
  | .hbm, ⟨18, _⟩ => ⟨S2048x1024, .f32⟩
  | .hbm, ⟨19, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1408x1024, .bf16⟩
  | .local _ .vmem, ⟨8, _⟩ => ⟨S1x1408x1024, .bf16⟩
  | .local _ .vmem, ⟨9, _⟩ => ⟨S1x1408x1024, .bf16⟩
  | .local _ .vmem, ⟨10, _⟩ => ⟨S1x1408x1024, .bf16⟩
  | .local _ .vmem, ⟨11, _⟩ => ⟨S1024x1408, .bf16⟩
  | .local _ .vmem, ⟨12, _⟩ => ⟨S1024x1408, .bf16⟩
  | .local _ .vmem, ⟨13, _⟩ => ⟨S1024x1408, .bf16⟩
  | .local _ .vmem, ⟨14, _⟩ => ⟨S1024x1408, .bf16⟩
  | .local _ .vmem, ⟨15, _⟩ => ⟨S1024x1408, .bf16⟩
  | .local _ .vmem, ⟨16, _⟩ => ⟨S1024x1408, .bf16⟩
  | .local _ .vmem, ⟨17, _⟩ => ⟨S512x2816, .bf16⟩
  | .local _ .vmem, ⟨18, _⟩ => ⟨S512x2816, .bf16⟩
  | .local _ .vmem, ⟨19, _⟩ => ⟨S1x2816x1024, .bf16⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S1024x1024, .f32⟩
  | .local _ .vmem, ⟨25, _⟩ => ⟨S1024x1024, .f32⟩
  | .local _ .vmem, ⟨26, _⟩ => ⟨S1x1408x1024, .bf16⟩
  | .local _ .vmem, ⟨27, _⟩ => ⟨S1x1408x1024, .bf16⟩
  | .local _ .vmem, ⟨28, _⟩ => ⟨S1024x1408, .bf16⟩
  | .local _ .vmem, ⟨29, _⟩ => ⟨S1024x1408, .bf16⟩
  | .local _ .vmem, ⟨30, _⟩ => ⟨S1024x1408, .bf16⟩
  | .local _ .vmem, ⟨31, _⟩ => ⟨S1024x1408, .bf16⟩
  | .local _ .vmem, ⟨32, _⟩ => ⟨S1024x1408, .bf16⟩
  | .local _ .vmem, ⟨33, _⟩ => ⟨S1024x1408, .bf16⟩
  | .local _ .vmem, ⟨34, _⟩ => ⟨S1024x1408, .bf16⟩
  | .local _ .vmem, ⟨35, _⟩ => ⟨S1024x1408, .bf16⟩
  | .local _ .vmem, ⟨36, _⟩ => ⟨S2048x256, .bf16⟩
  | .local _ .vmem, ⟨37, _⟩ => ⟨S2048x256, .bf16⟩
  | .local _ .vmem, ⟨38, _⟩ => ⟨S2048x1024, .f32⟩
  | .local _ .vmem, ⟨39, _⟩ => ⟨S1x256x1024, .bf16⟩
  | .local _ .vmem, ⟨40, _⟩ => ⟨S1x256x1024, .bf16⟩
  | .local _ .vmem, ⟨41, _⟩ => ⟨S2048x256, .bf16⟩
  | .local _ .vmem, ⟨42, _⟩ => ⟨S2048x256, .bf16⟩
  | .local _ .vmem, ⟨43, _⟩ => ⟨S2048x1024, .bf16⟩
  | .local _ .vmem, ⟨44, _⟩ => ⟨S1x256x1024, .bf16⟩
  | .local _ .vmem, ⟨45, _⟩ => ⟨S1x256x1024, .bf16⟩
  | .local _ .vmem, ⟨46, _⟩ => ⟨S2048x256, .bf16⟩
  | .local _ .vmem, ⟨47, _⟩ => ⟨S2048x256, .bf16⟩
  | .local _ .vmem, ⟨48, _⟩ => ⟨S2048x1024, .bf16⟩
  | .local _ .vmem, ⟨49, _⟩ => ⟨S1x256x1024, .bf16⟩
  | .local _ .vmem, ⟨50, _⟩ => ⟨S1x256x1024, .bf16⟩
  | .local _ .vmem, ⟨51, _⟩ => ⟨S256x2816, .bf16⟩
  | .local _ .vmem, ⟨52, _⟩ => ⟨S256x2816, .bf16⟩
  | .local _ .vmem, ⟨53, _⟩ => ⟨S1x2816x1024, .bf16⟩
  | .local _ .vmem, ⟨54, _⟩ => ⟨S256x2816, .bf16⟩
  | .local _ .vmem, ⟨55, _⟩ => ⟨S256x2816, .bf16⟩
  | .local _ .vmem, ⟨56, _⟩ => ⟨S1x2816x1024, .bf16⟩
  | .local _ .vmem, ⟨57, _⟩ => ⟨S256x1024, .f32⟩
  | .local _ .vmem, ⟨58, _⟩ => ⟨S256x1024, .f32⟩
  | .local _ .vmem, ⟨59, _⟩ => ⟨S1x1024, .f32⟩
  | .local _ .vmem, ⟨60, _⟩ => ⟨S256x1024, .f32⟩
  | .local _ .vmem, ⟨61, _⟩ => ⟨S256x1024, .f32⟩
  | .local _ .vmem, ⟨62, _⟩ => ⟨S256x1024, .f32⟩
  | .local _ .vmem, ⟨63, _⟩ => ⟨S256x1024, .f32⟩
  | .local _ .vmem, ⟨64, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg4_1 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg2_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg2_0 : Ref sig .tc := ⟨.vmem, 44, rfl⟩
abbrev cc5_stg2_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc6_stg2_1 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg2_0 : Ref sig .tc := ⟨.vmem, 54, rfl⟩
abbrev cc7_stg2_1 : Ref sig .tc := ⟨.vmem, 55, rfl⟩
abbrev cc7_stg3_0 : Ref sig .tc := ⟨.vmem, 56, rfl⟩
abbrev cc7_stg4_0 : Ref sig .tc := ⟨.vmem, 57, rfl⟩
abbrev cc7_stg4_1 : Ref sig .tc := ⟨.vmem, 58, rfl⟩
abbrev cc7_stg5_0 : Ref sig .tc := ⟨.vmem, 59, rfl⟩
abbrev cc7_stg6_0 : Ref sig .tc := ⟨.vmem, 60, rfl⟩
abbrev cc7_stg6_1 : Ref sig .tc := ⟨.vmem, 61, rfl⟩
abbrev cc7_stg7_0 : Ref sig .tc := ⟨.vmem, 62, rfl⟩
abbrev cc7_stg7_1 : Ref sig .tc := ⟨.vmem, 63, rfl⟩
abbrev cc7_stg8_0 : Ref sig .tc := ⟨.vmem, 64, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc3_sem4_0 : DmaSem sig := 32
abbrev cc3_sem4_1 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem2_1 : DmaSem sig := 40
abbrev cc5_sem0_0 : DmaSem sig := 41
abbrev cc5_sem0_1 : DmaSem sig := 42
abbrev cc5_sem1_0 : DmaSem sig := 43
abbrev cc5_sem2_0 : DmaSem sig := 44
abbrev cc5_sem2_1 : DmaSem sig := 45
abbrev cc6_sem0_0 : DmaSem sig := 46
abbrev cc6_sem0_1 : DmaSem sig := 47
abbrev cc6_sem1_0 : DmaSem sig := 48
abbrev cc6_sem2_0 : DmaSem sig := 49
abbrev cc6_sem2_1 : DmaSem sig := 50
abbrev cc7_sem0_0 : DmaSem sig := 51
abbrev cc7_sem0_1 : DmaSem sig := 52
abbrev cc7_sem1_0 : DmaSem sig := 53
abbrev cc7_sem2_0 : DmaSem sig := 54
abbrev cc7_sem2_1 : DmaSem sig := 55
abbrev cc7_sem3_0 : DmaSem sig := 56
abbrev cc7_sem4_0 : DmaSem sig := 57
abbrev cc7_sem4_1 : DmaSem sig := 58
abbrev cc7_sem5_0 : DmaSem sig := 59
abbrev cc7_sem6_0 : DmaSem sig := 60
abbrev cc7_sem6_1 : DmaSem sig := 61
abbrev cc7_sem7_0 : DmaSem sig := 62
abbrev cc7_sem7_1 : DmaSem sig := 63
abbrev cc7_sem8_0 : DmaSem sig := 64

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x1408x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1408x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2816 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x2816x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![2, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1x1408x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1024x1408 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1024x1408 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1024x1408 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1024x1408 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev grid4 : Pipeline.Grid := ⟨1, ![11], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage4_0 : Fin 2 → Memref sig .tc .vmem S2048x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2048x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1x256x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![11], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage5_0 : Fin 2 → Memref sig .tc .vmem S2048x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S2048x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S1x256x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![11], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage6_0 : Fin 2 → Memref sig .tc .vmem S2048x256 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S2048x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1x256x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S256x2816 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x2816x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S256x2816 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x2816x1024 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S256x1024 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S1x1024 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S256x1024 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev stage7_7 : Fin 2 → Memref sig .tc .vmem S256x1024 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev stage7_8 : Fin 1 → Memref sig .tc .vmem S1x1024 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]
-- ==== FfnReferenceIdeal.lean ====
abbrev S2048x1024 : Shape := ⟨2, ![2048, 1024]⟩
abbrev S1024 : Shape := ⟨1, ![1024]⟩
abbrev S1x2816x1024 : Shape := ⟨3, ![1, 2816, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2816x1024 : Shape := ⟨2, ![2816, 1024]⟩
abbrev S1024x2816 : Shape := ⟨2, ![1024, 2816]⟩
abbrev S2048x2816 : Shape := ⟨2, ![2048, 2816]⟩

abbrev nBuf : Space → Nat
  | .hbm => 110
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1x2816x1024, .bf16⟩
  | .hbm, ⟨3, _⟩ => ⟨S1x2816x1024, .bf16⟩
  | .hbm, ⟨4, _⟩ => ⟨S1x2816x1024, .bf16⟩
  | .hbm, ⟨5, _⟩ => ⟨S2048x1024, .f32⟩
  | .hbm, ⟨6, _⟩ => ⟨S1x2816x1024, .f32⟩
  | .hbm, ⟨7, _⟩ => ⟨S1x2816x1024, .f32⟩
  | .hbm, ⟨8, _⟩ => ⟨S1x2816x1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2816x1024, .f32⟩
  | .hbm, ⟨30, _⟩ => ⟨S1024x2816, .f32⟩
  | .hbm, ⟨31, _⟩ => ⟨S2816x1024, .f32⟩
  | .hbm, ⟨32, _⟩ => ⟨S1024x2816, .f32⟩
  | .hbm, ⟨33, _⟩ => ⟨S2816x1024, .f32⟩
  | .hbm, ⟨34, _⟩ => ⟨S2048x2816, .f32⟩
  | .hbm, ⟨35, _⟩ => ⟨S2048x2816, .f32⟩
  | .hbm, ⟨36, _⟩ => ⟨S2048x2816, .f32⟩
  | .hbm, ⟨37, _⟩ => ⟨S_, .f32⟩
  | .hbm, ⟨38, _⟩ => ⟨S2048x2816, .f32⟩
  | .hbm, ⟨39, _⟩ => ⟨S2048x2816, .f32⟩
  | .hbm, ⟨40, _⟩ => ⟨S_, .f32⟩
  | .hbm, ⟨41, _⟩ => ⟨S2048x2816, .f32⟩
  | .hbm, ⟨42, _⟩ => ⟨S2048x2816, .f32⟩
  | .hbm, ⟨43, _⟩ => ⟨S_, .f32⟩
  | .hbm, ⟨44, _⟩ => ⟨S2048x2816, .f32⟩
  | .hbm, ⟨45, _⟩ => ⟨S2048x2816, .f32⟩
  | .hbm, ⟨46, _⟩ => ⟨S2048x2816, .f32⟩
  | .hbm, ⟨47, _⟩ => ⟨S2048x2816, .f32⟩
  | .hbm, ⟨48, _⟩ => ⟨S2048x2816, .f32⟩
  | .hbm, ⟨49, _⟩ => ⟨S2048x2816, .f32⟩
  | .hbm, ⟨50, _⟩ => ⟨S2048x1024, .f32⟩
  | .hbm, ⟨51, _⟩ => ⟨S_, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S_, .f32⟩
  | .hbm, ⟨57, _⟩ => ⟨S2048x1024, .f32⟩
  | .hbm, ⟨58, _⟩ => ⟨S2048x1024, .f32⟩
  | .hbm, ⟨59, _⟩ => ⟨S1024x2816, .f32⟩
  | .hbm, ⟨60, _⟩ => ⟨S2816x1024, .f32⟩
  | .hbm, ⟨61, _⟩ => ⟨S2048x2816, .f32⟩
  | .hbm, ⟨62, _⟩ => ⟨S2048x2816, .f32⟩
  | .hbm, ⟨63, _⟩ => ⟨S2048x2816, .f32⟩
  | .hbm, ⟨64, _⟩ => ⟨S2816x1024, .f32⟩
  | .hbm, ⟨65, _⟩ => ⟨S1024x2816, .f32⟩
  | .hbm, ⟨66, _⟩ => ⟨S2048x1024, .f32⟩
  | .hbm, ⟨67, _⟩ => ⟨S2048x2816, .f32⟩
  | .hbm, ⟨68, _⟩ => ⟨S2048x2816, .f32⟩
  | .hbm, ⟨69, _⟩ => ⟨S2048x2816, .f32⟩
  | .hbm, ⟨70, _⟩ => ⟨S2048x2816, .f32⟩
  | .hbm, ⟨71, _⟩ => ⟨S2816x1024, .f32⟩
  | .hbm, ⟨72, _⟩ => ⟨S1024x2816, .f32⟩
  | .hbm, ⟨73, _⟩ => ⟨S2048x1024, .f32⟩
  | .hbm, ⟨74, _⟩ => ⟨S2048x1024, .f32⟩
  | .hbm, ⟨75, _⟩ => ⟨S1x2816x1024, .f32⟩
  | .hbm, ⟨76, _⟩ => ⟨S2816x1024, .f32⟩
  | .hbm, ⟨77, _⟩ => ⟨S1x2816x1024, .f32⟩
  | .hbm, ⟨78, _⟩ => ⟨S2816x1024, .f32⟩
  | .hbm, ⟨79, _⟩ => ⟨S1x2816x1024, .f32⟩
  | .hbm, ⟨80, _⟩ => ⟨S2048x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S2048x1024, .f32⟩
  | .hbm, ⟨85, _⟩ => ⟨S2048x1024, .f32⟩
  | .hbm, ⟨86, _⟩ => ⟨S_, .f32⟩
  | .hbm, ⟨87, _⟩ => ⟨S1024, .f32⟩
  | .hbm, ⟨88, _⟩ => ⟨S2048x1024, .f32⟩
  | .hbm, ⟨89, _⟩ => ⟨S_, .f32⟩
  | .hbm, ⟨90, _⟩ => ⟨S2048, .f32⟩
  | .hbm, ⟨91, _⟩ => ⟨S2048x1, .f32⟩
  | .hbm, ⟨92, _⟩ => ⟨S2048x1024, .f32⟩
  | .hbm, ⟨93, _⟩ => ⟨S2048x1024, .f32⟩
  | .hbm, ⟨94, _⟩ => ⟨S2048x1024, .f32⟩
  | .hbm, ⟨95, _⟩ => ⟨S2048x1, .f32⟩
  | .hbm, ⟨96, _⟩ => ⟨S_, .f32⟩
  | .hbm, ⟨97, _⟩ => ⟨S2048x1, .f32⟩
  | .hbm, ⟨98, _⟩ => ⟨S2048x1, .f32⟩
  | .hbm, ⟨99, _⟩ => ⟨S_, .f32⟩
  | .hbm, ⟨100, _⟩ => ⟨S2048, .f32⟩
  | .hbm, ⟨101, _⟩ => ⟨S2048x1024, .f32⟩
  | .hbm, ⟨102, _⟩ => ⟨S2048x1024, .f32⟩
  | .hbm, ⟨103, _⟩ => ⟨S2048x1024, .f32⟩
  | .hbm, ⟨104, _⟩ => ⟨S2048x1024, .f32⟩
  | .hbm, ⟨105, _⟩ => ⟨S2048x1024, .f32⟩
  | .hbm, ⟨106, _⟩ => ⟨S1x1024, .f32⟩
  | .hbm, ⟨107, _⟩ => ⟨S1x2816x1024, .bf16⟩
  | .hbm, ⟨108, _⟩ => ⟨S1x2816x1024, .bf16⟩
  | .hbm, ⟨109, _⟩ => ⟨S1x2816x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v25_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v25_1 : Ref sig .tc := ⟨.hbm, 46, rfl⟩
abbrev main_v25_0 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_3 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_4 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_5 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_6 : Ref sig .tc := ⟨.hbm, 86, rfl⟩
abbrev main_v58 : Ref sig .tc := ⟨.hbm, 87, rfl⟩
abbrev main_v59 : Ref sig .tc := ⟨.hbm, 88, rfl⟩
abbrev main_cst_7 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_8 : Ref sig .tc := ⟨.hbm, 96, rfl⟩
abbrev main_v66 : Ref sig .tc := ⟨.hbm, 97, rfl⟩
abbrev main_v67 : Ref sig .tc := ⟨.hbm, 98, rfl⟩
abbrev main_cst_9 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩

abbrev nD : Nat := 1
abbrev τ : Topo := Topo.v7x

variable {F : FTy → Type} [FloatOps F]
-- ==== Cross.lean ====
abbrev S2048x1024 : Shape := ⟨2, ![2048, 1024]⟩
abbrev S256x1024 : Shape := ⟨2, ![256, 1024]⟩
abbrev S1024 : Shape := ⟨1, ![1024]⟩
abbrev S1x1024x1024 : Shape := ⟨3, ![1, 1024, 1024]⟩
abbrev S1x2048x1024 : Shape := ⟨3, ![1, 2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S256 : Shape := ⟨1, ![256]⟩
abbrev S256x1 : Shape := ⟨2, ![256, 1]⟩
abbrev S1024x1024 : Shape := ⟨2, ![1024, 1024]⟩
abbrev S256x2048 : Shape := ⟨2, ![256, 2048]⟩
abbrev S512x256 : Shape := ⟨2, ![512, 256]⟩
abbrev S256x256 : Shape := ⟨2, ![256, 256]⟩
abbrev S2048x512 : Shape := ⟨2, ![2048, 512]⟩
abbrev S1x512x1024 : Shape := ⟨3, ![1, 512, 1024]⟩
abbrev S256x512 : Shape := ⟨2, ![256, 512]⟩

abbrev nBuf : Space → Nat
  | .hbm => 28
  | .vmem => 76
  | .smem => 0
  | _ => 0

abbrev bufTy : (tb : Table) → Fin (tcTables nBuf tb) → BufTy
  | .hbm, ⟨0, _⟩ => ⟨S2048x1024, .f32⟩
  | .hbm, ⟨1, _⟩ => ⟨S256x1024, .f32⟩
  | .hbm, ⟨2, _⟩ => ⟨S1024, .f32⟩
  | .hbm, ⟨3, _⟩ => ⟨S1024, .f32⟩
  | .hbm, ⟨4, _⟩ => ⟨S1x1024x1024, .bf16⟩
  | .hbm, ⟨5, _⟩ => ⟨S1x2048x1024, .bf16⟩
  | .hbm, ⟨6, _⟩ => ⟨S1x1024x1024, .bf16⟩
  | .hbm, ⟨7, _⟩ => ⟨S2048x1024, .f32⟩
  | .hbm, ⟨8, _⟩ => ⟨S1x1024, .f32⟩
  | .hbm, ⟨9, _⟩ => ⟨S2048x1024, .bf16⟩
  | .hbm, ⟨10, _⟩ => ⟨S1x1024, .f32⟩
  | .hbm, ⟨11, _⟩ => ⟨S256x1024, .bf16⟩
  | .hbm, ⟨12, _⟩ => ⟨S2048x1024, .bf16⟩
  | .hbm, ⟨13, _⟩ => ⟨S256x2048, .bf16⟩
  | .hbm, ⟨14, _⟩ => ⟨S2048x1024, .bf16⟩
  | .hbm, ⟨15, _⟩ => ⟨S2048x1024, .f32⟩
  | .hbm, ⟨16, _⟩ => ⟨S2048x1024, .bf16⟩
  | .hbm, ⟨17, _⟩ => ⟨S1x1024x1024, .bf16⟩
  | .hbm, ⟨18, _⟩ => ⟨S2048x1024, .bf16⟩
  | .hbm, ⟨19, _⟩ => ⟨S256x2048, .f32⟩
  | .hbm, ⟨20, _⟩ => ⟨S1x1024x1024, .bf16⟩
  | .hbm, ⟨21, _⟩ => ⟨S1x1024, .f32⟩
  | .hbm, ⟨22, _⟩ => ⟨S2048x1024, .f32⟩
  | .hbm, ⟨23, _⟩ => ⟨S1x1024, .f32⟩
  | .hbm, ⟨24, _⟩ => ⟨S256x1024, .f32⟩
  | .hbm, ⟨25, _⟩ => ⟨S1x2048x1024, .bf16⟩
  | .hbm, ⟨26, _⟩ => ⟨S1x1024, .f32⟩
  | .hbm, ⟨27, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S256x1024, .f32⟩
  | .local _ .vmem, ⟨6, _⟩ => ⟨S1x1024, .f32⟩
  | .local _ .vmem, ⟨7, _⟩ => ⟨S256x1024, .bf16⟩
  | .local _ .vmem, ⟨8, _⟩ => ⟨S512x1024, .bf16⟩
  | .local _ .vmem, ⟨9, _⟩ => ⟨S512x1024, .bf16⟩
  | .local _ .vmem, ⟨10, _⟩ => ⟨S1x1024x1024, .bf16⟩
  | .local _ .vmem, ⟨11, _⟩ => ⟨S512x1024, .bf16⟩
  | .local _ .vmem, ⟨12, _⟩ => ⟨S512x1024, .bf16⟩
  | .local _ .vmem, ⟨13, _⟩ => ⟨S256x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S256x1024, .bf16⟩
  | .local _ .vmem, ⟨17, _⟩ => ⟨S256x1024, .bf16⟩
  | .local _ .vmem, ⟨18, _⟩ => ⟨S512x1024, .bf16⟩
  | .local _ .vmem, ⟨19, _⟩ => ⟨S512x1024, .bf16⟩
  | .local _ .vmem, ⟨20, _⟩ => ⟨S256x2048, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S1x1024x1024, .bf16⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | .local _ .vmem, ⟨32, _⟩ => ⟨S1x1024x1024, .bf16⟩
  | .local _ .vmem, ⟨33, _⟩ => ⟨S512x1024, .bf16⟩
  | .local _ .vmem, ⟨34, _⟩ => ⟨S512x1024, .bf16⟩
  | .local _ .vmem, ⟨35, _⟩ => ⟨S2048x512, .bf16⟩
  | .local _ .vmem, ⟨36, _⟩ => ⟨S2048x512, .bf16⟩
  | .local _ .vmem, ⟨37, _⟩ => ⟨S2048x1024, .f32⟩
  | .local _ .vmem, ⟨38, _⟩ => ⟨S1x512x1024, .bf16⟩
  | .local _ .vmem, ⟨39, _⟩ => ⟨S1x512x1024, .bf16⟩
  | .local _ .vmem, ⟨40, _⟩ => ⟨S512x1024, .bf16⟩
  | .local _ .vmem, ⟨41, _⟩ => ⟨S512x1024, .bf16⟩
  | .local _ .vmem, ⟨42, _⟩ => ⟨S256x2048, .bf16⟩
  | .local _ .vmem, ⟨43, _⟩ => ⟨S512x1024, .bf16⟩
  | .local _ .vmem, ⟨44, _⟩ => ⟨S512x1024, .bf16⟩
  | .local _ .vmem, ⟨45, _⟩ => ⟨S512x1024, .bf16⟩
  | .local _ .vmem, ⟨46, _⟩ => ⟨S512x1024, .bf16⟩
  | .local _ .vmem, ⟨47, _⟩ => ⟨S256x2048, .f32⟩
  | .local _ .vmem, ⟨48, _⟩ => ⟨S2048x512, .bf16⟩
  | .local _ .vmem, ⟨49, _⟩ => ⟨S2048x512, .bf16⟩
  | .local _ .vmem, ⟨50, _⟩ => ⟨S2048x1024, .bf16⟩
  | .local _ .vmem, ⟨51, _⟩ => ⟨S1x512x1024, .bf16⟩
  | .local _ .vmem, ⟨52, _⟩ => ⟨S1x512x1024, .bf16⟩
  | .local _ .vmem, ⟨53, _⟩ => ⟨S256x1024, .bf16⟩
  | .local _ .vmem, ⟨54, _⟩ => ⟨S256x1024, .bf16⟩
  | .local _ .vmem, ⟨55, _⟩ => ⟨S1x1024x1024, .bf16⟩
  | .local _ .vmem, ⟨56, _⟩ => ⟨S256x1024, .f32⟩
  | .local _ .vmem, ⟨57, _⟩ => ⟨S256x1024, .f32⟩
  | .local _ .vmem, ⟨58, _⟩ => ⟨S1x1024, .f32⟩
  | .local _ .vmem, ⟨59, _⟩ => ⟨S256x1024, .f32⟩
  | .local _ .vmem, ⟨60, _⟩ => ⟨S256x1024, .f32⟩
  | .local _ .vmem, ⟨61, _⟩ => ⟨S256x1024, .f32⟩
  | .local _ .vmem, ⟨62, _⟩ => ⟨S256x1024, .f32⟩
  | .local _ .vmem, ⟨63, _⟩ => ⟨S1x1024, .f32⟩
  | .local _ .vmem, ⟨64, _⟩ => ⟨S256x2048, .f32⟩
  | .local _ .vmem, ⟨65, _⟩ => ⟨S1x2048x1024, .bf16⟩
  | .local _ .vmem, ⟨66, _⟩ => ⟨S256x1024, .f32⟩
  | .local _ .vmem, ⟨67, _⟩ => ⟨S256x512, .f32⟩
  | .local _ .vmem, ⟨68, _⟩ => ⟨S256x512, .f32⟩
  | .local _ .vmem, ⟨69, _⟩ => ⟨S256x1024, .bf16⟩
  | .local _ .vmem, ⟨70, _⟩ => ⟨S1x512x1024, .bf16⟩
  | .local _ .vmem, ⟨71, _⟩ => ⟨S1x512x1024, .bf16⟩
  | .local _ .vmem, ⟨72, _⟩ => ⟨S256x1024, .f32⟩
  | .local _ .vmem, ⟨73, _⟩ => ⟨S256x1024, .f32⟩
  | .local _ .vmem, ⟨74, _⟩ => ⟨S1x1024, .f32⟩
  | .local _ .vmem, ⟨75, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg2_1 : Ref sig .tc := ⟨.vmem, 12, rfl⟩
abbrev cc3_stg0_0 : Ref sig .tc := ⟨.vmem, 13, rfl⟩
abbrev cc3_stg1_0 : Ref sig .tc := ⟨.vmem, 14, rfl⟩
abbrev cc3_stg1_1 : Ref sig .tc := ⟨.vmem, 15, rfl⟩
abbrev cc3_stg2_0 : Ref sig .tc := ⟨.vmem, 16, rfl⟩
abbrev cc3_stg2_1 : Ref sig .tc := ⟨.vmem, 17, rfl⟩
abbrev cc4_stg0_0 : Ref sig .tc := ⟨.vmem, 18, rfl⟩
abbrev cc4_stg0_1 : Ref sig .tc := ⟨.vmem, 19, rfl⟩
abbrev cc4_stg1_0 : Ref sig .tc := ⟨.vmem, 20, rfl⟩
abbrev cc4_stg2_0 : Ref sig .tc := ⟨.vmem, 21, rfl⟩
abbrev cc4_stg2_1 : Ref sig .tc := ⟨.vmem, 22, rfl⟩
abbrev cc5_stg0_0 : Ref sig .tc := ⟨.vmem, 23, rfl⟩
abbrev cc5_stg0_1 : Ref sig .tc := ⟨.vmem, 24, rfl⟩
abbrev cc5_stg1_0 : Ref sig .tc := ⟨.vmem, 25, rfl⟩
abbrev cc5_stg2_0 : Ref sig .tc := ⟨.vmem, 26, rfl⟩
abbrev cc5_stg2_1 : Ref sig .tc := ⟨.vmem, 27, rfl⟩
abbrev cc5_stg3_0 : Ref sig .tc := ⟨.vmem, 28, rfl⟩
abbrev cc5_stg3_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg2_0 : Ref sig .tc := ⟨.vmem, 43, rfl⟩
abbrev cc8_stg2_1 : Ref sig .tc := ⟨.vmem, 44, rfl⟩
abbrev cc8_stg3_0 : Ref sig .tc := ⟨.vmem, 45, rfl⟩
abbrev cc8_stg3_1 : Ref sig .tc := ⟨.vmem, 46, rfl⟩
abbrev cc8_stg4_0 : Ref sig .tc := ⟨.vmem, 47, rfl⟩
abbrev cc9_stg0_0 : Ref sig .tc := ⟨.vmem, 48, rfl⟩
abbrev cc9_stg0_1 : Ref sig .tc := ⟨.vmem, 49, rfl⟩
abbrev cc9_stg1_0 : Ref sig .tc := ⟨.vmem, 50, rfl⟩
abbrev cc9_stg2_0 : Ref sig .tc := ⟨.vmem, 51, rfl⟩
abbrev cc9_stg2_1 : Ref sig .tc := ⟨.vmem, 52, rfl⟩
abbrev cc10_stg0_0 : Ref sig .tc := ⟨.vmem, 53, rfl⟩
abbrev cc10_stg0_1 : Ref sig .tc := ⟨.vmem, 54, rfl⟩
abbrev cc10_stg1_0 : Ref sig .tc := ⟨.vmem, 55, rfl⟩
abbrev cc10_stg2_0 : Ref sig .tc := ⟨.vmem, 56, rfl⟩
abbrev cc10_stg2_1 : Ref sig .tc := ⟨.vmem, 57, rfl⟩
abbrev cc10_stg3_0 : Ref sig .tc := ⟨.vmem, 58, rfl⟩
abbrev cc10_stg4_0 : Ref sig .tc := ⟨.vmem, 59, rfl⟩
abbrev cc10_stg4_1 : Ref sig .tc := ⟨.vmem, 60, rfl⟩
abbrev cc10_stg5_0 : Ref sig .tc := ⟨.vmem, 61, rfl⟩
abbrev cc10_stg5_1 : Ref sig .tc := ⟨.vmem, 62, rfl⟩
abbrev cc10_stg6_0 : Ref sig .tc := ⟨.vmem, 63, rfl⟩
abbrev cc11_stg0_0 : Ref sig .tc := ⟨.vmem, 64, rfl⟩
abbrev cc11_stg1_0 : Ref sig .tc := ⟨.vmem, 65, rfl⟩
abbrev cc11_stg2_0 : Ref sig .tc := ⟨.vmem, 66, rfl⟩
abbrev cc12_stg0_0 : Ref sig .tc := ⟨.vmem, 67, rfl⟩
abbrev cc12_stg0_1 : Ref sig .tc := ⟨.vmem, 68, rfl⟩
abbrev cc12_stg1_0 : Ref sig .tc := ⟨.vmem, 69, rfl⟩
abbrev cc12_stg2_0 : Ref sig .tc := ⟨.vmem, 70, rfl⟩
abbrev cc12_stg2_1 : Ref sig .tc := ⟨.vmem, 71, rfl⟩
abbrev cc13_stg0_0 : Ref sig .tc := ⟨.vmem, 72, rfl⟩
abbrev cc13_stg1_0 : Ref sig .tc := ⟨.vmem, 73, rfl⟩
abbrev cc13_stg2_0 : Ref sig .tc := ⟨.vmem, 74, rfl⟩
abbrev cc13_stg3_0 : Ref sig .tc := ⟨.vmem, 75, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem2_1 : DmaSem sig := 12
abbrev cc3_sem0_0 : DmaSem sig := 13
abbrev cc3_sem1_0 : DmaSem sig := 14
abbrev cc3_sem1_1 : DmaSem sig := 15
abbrev cc3_sem2_0 : DmaSem sig := 16
abbrev cc3_sem2_1 : DmaSem sig := 17
abbrev cc4_sem0_0 : DmaSem sig := 18
abbrev cc4_sem0_1 : DmaSem sig := 19
abbrev cc4_sem1_0 : DmaSem sig := 20
abbrev cc4_sem2_0 : DmaSem sig := 21
abbrev cc4_sem2_1 : DmaSem sig := 22
abbrev cc5_sem0_0 : DmaSem sig := 23
abbrev cc5_sem0_1 : DmaSem sig := 24
abbrev cc5_sem1_0 : DmaSem sig := 25
abbrev cc5_sem2_0 : DmaSem sig := 26
abbrev cc5_sem2_1 : DmaSem sig := 27
abbrev cc5_sem3_0 : DmaSem sig := 28
abbrev cc5_sem3_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem2_0 : DmaSem sig := 43
abbrev cc8_sem2_1 : DmaSem sig := 44
abbrev cc8_sem3_0 : DmaSem sig := 45
abbrev cc8_sem3_1 : DmaSem sig := 46
abbrev cc8_sem4_0 : DmaSem sig := 47
abbrev cc9_sem0_0 : DmaSem sig := 48
abbrev cc9_sem0_1 : DmaSem sig := 49
abbrev cc9_sem1_0 : DmaSem sig := 50
abbrev cc9_sem2_0 : DmaSem sig := 51
abbrev cc9_sem2_1 : DmaSem sig := 52
abbrev cc10_sem0_0 : DmaSem sig := 53
abbrev cc10_sem0_1 : DmaSem sig := 54
abbrev cc10_sem1_0 : DmaSem sig := 55
abbrev cc10_sem2_0 : DmaSem sig := 56
abbrev cc10_sem2_1 : DmaSem sig := 57
abbrev cc10_sem3_0 : DmaSem sig := 58
abbrev cc10_sem4_0 : DmaSem sig := 59
abbrev cc10_sem4_1 : DmaSem sig := 60
abbrev cc10_sem5_0 : DmaSem sig := 61
abbrev cc10_sem5_1 : DmaSem sig := 62
abbrev cc10_sem6_0 : DmaSem sig := 63
abbrev cc11_sem0_0 : DmaSem sig := 64
abbrev cc11_sem1_0 : DmaSem sig := 65
abbrev cc11_sem2_0 : DmaSem sig := 66
abbrev cc12_sem0_0 : DmaSem sig := 67
abbrev cc12_sem0_1 : DmaSem sig := 68
abbrev cc12_sem1_0 : DmaSem sig := 69
abbrev cc12_sem2_0 : DmaSem sig := 70
abbrev cc12_sem2_1 : DmaSem sig := 71
abbrev cc13_sem0_0 : DmaSem sig := 72
abbrev cc13_sem1_0 : DmaSem sig := 73
abbrev cc13_sem2_0 : DmaSem sig := 74
abbrev cc13_sem3_0 : DmaSem sig := 75

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev grid2 : Pipeline.Grid := ⟨2, ![1, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S1x1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 1 → Memref sig .tc .vmem S256x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, true]

abbrev stage3_1 : Fin 2 → Memref sig .tc .vmem S1x1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S256x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x2048 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x1024x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S512x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S512x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨2, ![1, 4], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_1 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage6_0 : Fin 2 → Memref sig .tc .vmem S512x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 1 → Memref sig .tc .vmem S1x1024x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true, false]

abbrev stage6_2 : Fin 2 → Memref sig .tc .vmem S512x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨1, ![2], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage7_0 : Fin 2 → Memref sig .tc .vmem S2048x512 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S2048x1024 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S1x512x1024 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![4], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S512x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S256x2048 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S512x1024 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S512x1024 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 1 → Memref sig .tc .vmem S256x2048 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev grid9 : Pipeline.Grid := ⟨1, ![2], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![c0_i32.toNat, arg0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage9_0 : Fin 2 → Memref sig .tc .vmem S2048x512 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S2048x1024 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S1x512x1024 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![8], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S256x1024 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x1024x1024 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S256x1024 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S1x1024 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 2 → Memref sig .tc .vmem S256x1024 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev stage10_5 : Fin 2 → Memref sig .tc .vmem S256x1024 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev stage10_6 : Fin 1 → Memref sig .tc .vmem S1x1024 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev grid11 : Pipeline.Grid := ⟨2, ![1, 1], ![false, false]⟩

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc11_transform_1 (i : grid11.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage11_0 : Fin 1 → Memref sig .tc .vmem S256x2048 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![false, true]

abbrev stage11_1 : Fin 1 → Memref sig .tc .vmem S1x2048x1024 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![true, false]

abbrev stage11_2 : Fin 1 → Memref sig .tc .vmem S256x1024 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![true, true]

abbrev grid12 : Pipeline.Grid := ⟨1, ![4], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![c0_i32.toNat, arg0.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage12_0 : Fin 2 → Memref sig .tc .vmem S256x512 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S256x1024 .bf16 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S1x512x1024 .bf16 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := .none

abbrev stage13_0 : Fin 1 → Memref sig .tc .vmem S256x1024 .f32 := fun | 0 => Memref.whole cc13_stg0_0 | ⟨_ + 1, h⟩ => absurd h (Nat.not_lt.2 (Nat.le_add_left _ _))
abbrev sem13_0 : Fin 1 → DmaSem sig := fun | 0 => cc13_sem0_0 | ⟨_ + 1, h⟩ => absurd h (Nat.not_lt.2 (Nat.le_add_left _ _))

abbrev stage13_1 : Fin 1 → Memref sig .tc .vmem S256x1024 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))

abbrev stage13_2 : Fin 1 → Memref sig .tc .vmem S1x1024 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))

abbrev stage13_3 : Fin 1 → Memref sig .tc .vmem S1x1024 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
-- ==== CrossReferenceIdeal.lean ====
abbrev S2048x1024 : Shape := ⟨2, ![2048, 1024]⟩
abbrev S256x1024 : Shape := ⟨2, ![256, 1024]⟩
abbrev S1024 : Shape := ⟨1, ![1024]⟩
abbrev S1x1024x1024 : Shape := ⟨3, ![1, 1024, 1024]⟩
abbrev S1x2048x1024 : Shape := ⟨3, ![1, 2048, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S256 : Shape := ⟨1, ![256]⟩
abbrev S256x1 : Shape := ⟨2, ![256, 1]⟩
abbrev S1024x1024 : Shape := ⟨2, ![1024, 1024]⟩
abbrev S1024x2048 : Shape := ⟨2, ![1024, 2048]⟩
abbrev S2048x4x256 : Shape := ⟨3, ![2048, 4, 256]⟩
abbrev S256x2048 : Shape := ⟨2, ![256, 2048]⟩
abbrev S256x4x256 : Shape := ⟨3, ![256, 4, 256]⟩
abbrev S4x2048x256 : Shape := ⟨3, ![4, 2048, 256]⟩
abbrev S4x2048 : Shape := ⟨2, ![4, 2048]⟩
abbrev S4x2048x1 : Shape := ⟨3, ![4, 2048, 1]⟩
abbrev S4x256x2048 : Shape := ⟨3, ![4, 256, 2048]⟩
abbrev S4x256x256 : Shape := ⟨3, ![4, 256, 256]⟩

abbrev nBuf : Space → Nat
  | .hbm => 186
  | .vmem => 0
  | .smem => 0
  | _ => 0

abbrev hbmTy0_0 (i : Nat) : BufTy := match i % 128 with
  | 0 => ⟨S2048x1024, .f32⟩
  | 1 => ⟨S256x1024, .f32⟩
  | 2 => ⟨S1024, .f32⟩
  | 3 => ⟨S1024, .f32⟩
  | 4 => ⟨S1x1024x1024, .bf16⟩
  | 5 => ⟨S1x2048x1024, .bf16⟩
  | 6 => ⟨S1x1024x1024, .bf16⟩
  | 7 => ⟨S2048x1024, .f32⟩
  | 8 => ⟨S1x1024x1024, .f32⟩
  | 9 => ⟨S1x2048x1024, .f32⟩
  | 10 => ⟨S1x1024x1024, .f32⟩
  | 11 => ⟨S2048x1024, .f32⟩
  | 12 => ⟨S_, .f32⟩
  | 13 => ⟨S2048, .f32⟩
  | 14 => ⟨S2048x1, .f32⟩
  | 15 => ⟨S_, .f32⟩
  | 16 => ⟨S2048x1, .f32⟩
  | 17 => ⟨S2048x1, .f32⟩
  | 18 => ⟨S_, .f32⟩
  | 19 => ⟨S2048x1, .f32⟩
  | 20 => ⟨S2048x1, .f32⟩
  | 21 => ⟨S2048x1, .f32⟩
  | 22 => ⟨S2048x1, .f32⟩
  | 23 => ⟨S_, .f32⟩
  | 24 => ⟨S2048x1, .f32⟩
  | 25 => ⟨S2048x1, .f32⟩
  | 26 => ⟨S2048x1024, .f32⟩
  | 27 => ⟨S2048x1024, .f32⟩
  | 28 => ⟨S1x1024, .f32⟩
  | 29 => ⟨S2048x1024, .f32⟩
  | 30 => ⟨S2048x1024, .f32⟩
  | 31 => ⟨S256x1024, .f32⟩
  | 32 => ⟨S_, .f32⟩
  | 33 => ⟨S256, .f32⟩
  | 34 => ⟨S256x1, .f32⟩
  | 35 => ⟨S_, .f32⟩
  | 36 => ⟨S256x1, .f32⟩
  | 37 => ⟨S256x1, .f32⟩
  | 38 => ⟨S_, .f32⟩
  | 39 => ⟨S256x1, .f32⟩
  | 40 => ⟨S256x1, .f32⟩
  | 41 => ⟨S256x1, .f32⟩
  | 42 => ⟨S256x1024, .f32⟩
  | 43 => ⟨S256x1024, .f32⟩
  | 44 => ⟨S1x1024, .f32⟩
  | 45 => ⟨S256x1024, .f32⟩
  | 46 => ⟨S256x1024, .f32⟩
  | 47 => ⟨S1024x1024, .f32⟩
  | 48 => ⟨S2048x1024, .f32⟩
  | 49 => ⟨S1024x2048, .f32⟩
  | 50 => ⟨S1024x1024, .f32⟩
  | 51 => ⟨S2048x1024, .f32⟩
  | 52 => ⟨S2048x4x256, .f32⟩
  | 53 => ⟨S256x2048, .f32⟩
  | 54 => ⟨S256x1024, .f32⟩
  | 55 => ⟨S256x1024, .f32⟩
  | 56 => ⟨S256x4x256, .f32⟩
  | 57 => ⟨S256x4x256, .f32⟩
  | 58 => ⟨S4x2048x256, .f32⟩
  | 59 => ⟨S_, .f32⟩
  | 60 => ⟨S4x2048x256, .f32⟩
  | 61 => ⟨S4x2048x256, .f32⟩
  | 62 => ⟨S_, .f32⟩
  | 63 => ⟨S4x2048, .f32⟩
  | 64 => ⟨S4x2048x1, .f32⟩
  | 65 => ⟨S4x2048x256, .f32⟩
  | 66 => ⟨S4x2048x256, .i1⟩
  | 67 => ⟨S4x2048x256, .f32⟩
  | 68 => ⟨S_, .f32⟩
  | 69 => ⟨S4x2048, .f32⟩
  | 70 => ⟨S_, .f32⟩
  | 71 => ⟨S4x2048, .f32⟩
  | 72 => ⟨S4x2048, .f32⟩
  | 73 => ⟨S_, .f32⟩
  | 74 => ⟨S4x2048, .f32⟩
  | 75 => ⟨S4x2048, .i1⟩
  | 76 => ⟨S_, .f32⟩
  | 77 => ⟨S4x2048, .f32⟩
  | 78 => ⟨S4x2048, .i1⟩
  | 79 => ⟨S_, .f32⟩
  | 80 => ⟨S4x2048, .f32⟩
  | 81 => ⟨S_, .f32⟩
  | 82 => ⟨S4x2048, .f32⟩
  | 83 => ⟨S_, .f32⟩
  | 84 => ⟨S4x2048, .f32⟩
  | 85 => ⟨S4x2048, .f32⟩
  | 86 => ⟨S4x2048, .f32⟩
  | 87 => ⟨S4x2048x1, .f32⟩
  | 88 => ⟨S4x2048x256, .f32⟩
  | 89 => ⟨S4x2048x256, .f32⟩
  | 90 => ⟨S4x2048x256, .f32⟩
  | 91 => ⟨S_, .f32⟩
  | 92 => ⟨S4x2048, .f32⟩
  | 93 => ⟨S4x2048x1, .f32⟩
  | 94 => ⟨S4x2048x256, .f32⟩
  | 95 => ⟨S4x2048x256, .f32⟩
  | 96 => ⟨S4x2048x1, .f32⟩
  | 97 => ⟨S_, .f32⟩
  | 98 => ⟨S4x2048x1, .f32⟩
  | 99 => ⟨S4x2048x1, .f32⟩
  | 100 => ⟨S4x256x2048, .f32⟩
  | 101 => ⟨S2048x4x256, .f32⟩
  | 102 => ⟨S2048x1024, .f32⟩
  | 103 => ⟨S2048x1024, .f32⟩
  | 104 => ⟨S2048x1024, .f32⟩
  | 105 => ⟨S2048x1024, .f32⟩
  | 106 => ⟨S1024x1024, .f32⟩
  | 107 => ⟨S1024x1024, .f32⟩
  | 108 => ⟨S2048x1024, .f32⟩
  | 109 => ⟨S2048x4x256, .f32⟩
  | 110 => ⟨S4x256x2048, .f32⟩
  | 111 => ⟨S4x2048x256, .f32⟩
  | 112 => ⟨S4x256x256, .f32⟩
  | 113 => ⟨S256x4x256, .f32⟩
  | 114 => ⟨S4x2048x256, .f32⟩
  | 115 => ⟨S4x2048x256, .f32⟩
  | 116 => ⟨S4x2048x256, .f32⟩
  | 117 => ⟨S_, .f32⟩
  | 118 => ⟨S4x2048, .f32⟩
  | 119 => ⟨S4x2048x1, .f32⟩
  | 120 => ⟨S4x2048x1, .f32⟩
  | 121 => ⟨S4x2048x256, .f32⟩
  | 122 => ⟨S4x2048x256, .f32⟩
  | 123 => ⟨S_, .f32⟩
  | 124 => ⟨S4x2048, .f32⟩
  | 125 => ⟨S4x2048x256, .f32⟩
  | 126 => ⟨S4x2048x256, .f32⟩
  | 127 => ⟨S4x2048x256, .f32⟩
  | _ => ⟨S2048x1024, .f32⟩

abbrev hbmTy0_1 (i : Nat) : BufTy := match i % 128 with
  | 0 => ⟨S_, .f32⟩
  | 1 => ⟨S4x2048x256, .f32⟩
  | 2 => ⟨S4x2048x256, .f32⟩
  | 3 => ⟨S4x256x256, .f32⟩
  | 4 => ⟨S256x4x256, .f32⟩
  | 5 => ⟨S4x2048x256, .f32⟩
  | 6 => ⟨S2048x4x256, .f32⟩
  | 7 => ⟨S256x1024, .f32⟩
  | 8 => ⟨S256x1024, .f32⟩
  | 9 => ⟨S256x2048, .f32⟩
  | 10 => ⟨S2048x1024, .f32⟩
  | 11 => ⟨S1024x2048, .f32⟩
  | 12 => ⟨S256x1024, .f32⟩
  | 13 => ⟨S2048x1024, .f32⟩
  | 14 => ⟨S1024x1024, .f32⟩
  | 15 => ⟨S1024x1024, .f32⟩
  | 16 => ⟨S2048x1024, .f32⟩
  | 17 => ⟨S1x1024x1024, .f32⟩
  | 18 => ⟨S2048x1024, .f32⟩
  | 19 => ⟨S1x2048x1024, .f32⟩
  | 20 => ⟨S1x1024x1024, .f32⟩
  | 21 => ⟨S256x1024, .f32⟩
  | 22 => ⟨S_, .f32⟩
  | 23 => ⟨S1024, .f32⟩
  | 24 => ⟨S1x1024, .f32⟩
  | 25 => ⟨S_, .f32⟩
  | 26 => ⟨S1024, .f32⟩
  | 27 => ⟨S2048x1024, .f32⟩
  | 28 => ⟨S_, .f32⟩
  | 29 => ⟨S1024, .f32⟩
  | 30 => ⟨S1x1024, .f32⟩
  | 31 => ⟨S2048x1024, .f32⟩
  | 32 => ⟨S2048x1024, .f32⟩
  | 33 => ⟨S_, .f32⟩
  | 34 => ⟨S1024, .f32⟩
  | 35 => ⟨S2048x1024, .f32⟩
  | 36 => ⟨S_, .f32⟩
  | 37 => ⟨S2048, .f32⟩
  | 38 => ⟨S2048x1, .f32⟩
  | 39 => ⟨S2048x1024, .f32⟩
  | 40 => ⟨S2048x1024, .f32⟩
  | 41 => ⟨S2048x1024, .f32⟩
  | 42 => ⟨S2048x1, .f32⟩
  | 43 => ⟨S_, .f32⟩
  | 44 => ⟨S2048x1, .f32⟩
  | 45 => ⟨S2048x1, .f32⟩
  | 46 => ⟨S_, .f32⟩
  | 47 => ⟨S2048, .f32⟩
  | 48 => ⟨S2048x1024, .f32⟩
  | 49 => ⟨S2048x1024, .f32⟩
  | 50 => ⟨S2048x1024, .f32⟩
  | 51 => ⟨S2048x1024, .f32⟩
  | 52 => ⟨S2048x1024, .f32⟩
  | 53 => ⟨S1x1024, .f32⟩
  | 54 => ⟨S1x1024, .f32⟩
  | 55 => ⟨S1x1024x1024, .bf16⟩
  | 56 => ⟨S1x2048x1024, .bf16⟩
  | 57 => ⟨S1x1024x1024, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_cst_11 : Ref sig .tc := ⟨.hbm, 76, rfl⟩
abbrev main_v56 : Ref sig .tc := ⟨.hbm, 77, rfl⟩
abbrev main_v57 : Ref sig .tc := ⟨.hbm, 78, rfl⟩
abbrev main_cst_12 : Ref sig .tc := ⟨.hbm, 79, rfl⟩
abbrev main_v58 : Ref sig .tc := ⟨.hbm, 80, rfl⟩
abbrev main_cst_13 : Ref sig .tc := ⟨.hbm, 81, rfl⟩
abbrev main_v59 : Ref sig .tc := ⟨.hbm, 82, rfl⟩
abbrev main_cst_14 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_15 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_16 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_17 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_18 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_19 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_cst_20 : Ref sig .tc := ⟨.hbm, 150, rfl⟩
abbrev main_v121 : Ref sig .tc := ⟨.hbm, 151, rfl⟩
abbrev main_v122 : Ref sig .tc := ⟨.hbm, 152, rfl⟩
abbrev main_cst_21 : Ref sig .tc := ⟨.hbm, 153, rfl⟩
abbrev main_v123 : Ref sig .tc := ⟨.hbm, 154, rfl⟩
abbrev main_v124 : Ref sig .tc := ⟨.hbm, 155, rfl⟩
abbrev main_cst_22 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_cst_23 : Ref sig .tc := ⟨.hbm, 161, rfl⟩
abbrev main_v129 : Ref sig .tc := ⟨.hbm, 162, rfl⟩
abbrev main_v130 : Ref sig .tc := ⟨.hbm, 163, rfl⟩
abbrev main_cst_24 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_cst_25 : Ref sig .tc := ⟨.hbm, 171, rfl⟩
abbrev main_v137 : Ref sig .tc := ⟨.hbm, 172, rfl⟩
abbrev main_v138 : Ref sig .tc := ⟨.hbm, 173, rfl⟩
abbrev main_cst_26 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩

abbrev nD : Nat := 1
abbrev τ : Topo := Topo.v7x

variable {F : FTy → Type} [FloatOps F]
-- ==== Mix.lean ====
abbrev S2048x1024 : Shape := ⟨2, ![2048, 1024]⟩
abbrev S1024 : Shape := ⟨1, ![1024]⟩
abbrev S1x1024x1536 : Shape := ⟨3, ![1, 1024, 1536]⟩
abbrev S16x1024 : Shape := ⟨2, ![16, 1024]⟩
abbrev S1x1024x1024 : Shape := ⟨3, ![1, 1024, 1024]⟩
abbrev S2048x512 : Shape := ⟨2, ![2048, 512]⟩
abbrev S512 : Shape := ⟨1, ![512]⟩
abbrev S2048x1536 : Shape := ⟨2, ![2048, 1536]⟩
abbrev S16x2048 : Shape := ⟨2, ![16, 2048]⟩
abbrev S1x512 : Shape := ⟨2, ![1, 512]⟩
abbrev S1x1024 : Shape := ⟨2, ![1, 1024]⟩
abbrev S512x1024 : Shape := ⟨2, ![512, 1024]⟩
abbrev S512x1 : Shape := ⟨2, ![512, 1]⟩
abbrev S512x1536 : Shape := ⟨2, ![512, 1536]⟩
abbrev S1024x1536 : Shape := ⟨2, ![1024, 1536]⟩
abbrev S1024x1024 : Shape := ⟨2, ![1024, 1024]⟩
abbrev S512x512 : Shape := ⟨2, ![512, 512]⟩
abbrev S1x512x1024 : Shape := ⟨3, ![1, 512, 1024]⟩
abbrev S1x512x1536 : Shape := ⟨3, ![1, 512, 1536]⟩
abbrev S256x1536 : Shape := ⟨2, ![256, 1536]⟩
abbrev S256x1024 : Shape := ⟨2, ![256, 1024]⟩
abbrev S16x256 : Shape := ⟨2, ![16, 256]⟩
abbrev S256 : Shape := ⟨1, ![256]⟩
abbrev S256x1 : Shape := ⟨2, ![256, 1]⟩

abbrev nBuf : Space → Nat
  | .hbm => 39
  | .vmem => 87
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1x1024x1536, .bf16⟩
  | .hbm, ⟨3, _⟩ => ⟨S16x1024, .bf16⟩
  | .hbm, ⟨4, _⟩ => ⟨S1x1024x1024, .bf16⟩
  | .hbm, ⟨5, _⟩ => ⟨S2048x512, .f32⟩
  | .hbm, ⟨6, _⟩ => ⟨S2048x512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S1x1024x1024, .bf16⟩
  | .hbm, ⟨12, _⟩ => ⟨S2048x1536, .bf16⟩
  | .hbm, ⟨13, _⟩ => ⟨S16x2048, .bf16⟩
  | .hbm, ⟨14, _⟩ => ⟨S2048x1024, .bf16⟩
  | .hbm, ⟨15, _⟩ => ⟨S2048x1024, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S1x1024, .f32⟩
  | .hbm, ⟨21, _⟩ => ⟨S2048x1024, .bf16⟩
  | .hbm, ⟨22, _⟩ => ⟨S2048x1536, .bf16⟩
  | .hbm, ⟨23, _⟩ => ⟨S2048x1024, .f32⟩
  | .hbm, ⟨24, _⟩ => ⟨S2048x1024, .bf16⟩
  | .hbm, ⟨25, _⟩ => ⟨S2048x1024, .f32⟩
  | .hbm, ⟨26, _⟩ => ⟨S2048x1024, .f32⟩
  | .hbm, ⟨27, _⟩ => ⟨S1x1024x1024, .bf16⟩
  | .hbm, ⟨28, _⟩ => ⟨S2048x512, .bf16⟩
  | .hbm, ⟨29, _⟩ => ⟨S2048x512, .f32⟩
  | .hbm, ⟨30, _⟩ => ⟨S1x512, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S1x1024x1536, .bf16⟩
  | .hbm, ⟨35, _⟩ => ⟨S1x1024x1024, .bf16⟩
  | .hbm, ⟨36, _⟩ => ⟨S1x1024, .f32⟩
  | .hbm, ⟨37, _⟩ => ⟨S2048x1024, .f32⟩
  | .hbm, ⟨38, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S1x1024x1536, .bf16⟩
  | .local _ .vmem, ⟨8, _⟩ => ⟨S512x1536, .bf16⟩
  | .local _ .vmem, ⟨9, _⟩ => ⟨S512x1536, .bf16⟩
  | .local _ .vmem, ⟨10, _⟩ => ⟨S512x1024, .bf16⟩
  | .local _ .vmem, ⟨11, _⟩ => ⟨S512x1024, .bf16⟩
  | .local _ .vmem, ⟨12, _⟩ => ⟨S1x1024x1024, .bf16⟩
  | .local _ .vmem, ⟨13, _⟩ => ⟨S512x1024, .f32⟩
  | .local _ .vmem, ⟨14, _⟩ => ⟨S512x1024, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S1x1024x1024, .bf16⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | .local _ .vmem, ⟨32, _⟩ => ⟨S512x1024, .f32⟩
  | .local _ .vmem, ⟨33, _⟩ => ⟨S512x1024, .f32⟩
  | .local _ .vmem, ⟨34, _⟩ => ⟨S1x1024x1024, .bf16⟩
  | .local _ .vmem, ⟨35, _⟩ => ⟨S512x1024, .f32⟩
  | .local _ .vmem, ⟨36, _⟩ => ⟨S512x1024, .f32⟩
  | .local _ .vmem, ⟨37, _⟩ => ⟨S2048x512, .bf16⟩
  | .local _ .vmem, ⟨38, _⟩ => ⟨S2048x512, .bf16⟩
  | .local _ .vmem, ⟨39, _⟩ => ⟨S2048x1024, .f32⟩
  | .local _ .vmem, ⟨40, _⟩ => ⟨S1x512x1024, .bf16⟩
  | .local _ .vmem, ⟨41, _⟩ => ⟨S1x512x1024, .bf16⟩
  | .local _ .vmem, ⟨42, _⟩ => ⟨S512x1024, .f32⟩
  | .local _ .vmem, ⟨43, _⟩ => ⟨S512x1024, .f32⟩
  | .local _ .vmem, ⟨44, _⟩ => ⟨S512x512, .f32⟩
  | .local _ .vmem, ⟨45, _⟩ => ⟨S512x512, .f32⟩
  | .local _ .vmem, ⟨46, _⟩ => ⟨S512x512, .f32⟩
  | .local _ .vmem, ⟨47, _⟩ => ⟨S512x512, .f32⟩
  | .local _ .vmem, ⟨48, _⟩ => ⟨S1x512, .f32⟩
  | .local _ .vmem, ⟨49, _⟩ => ⟨S1x512, .f32⟩
  | .local _ .vmem, ⟨50, _⟩ => ⟨S1x512, .f32⟩
  | .local _ .vmem, ⟨51, _⟩ => ⟨S1x512, .f32⟩
  | .local _ .vmem, ⟨52, _⟩ => ⟨S512x512, .bf16⟩
  | .local _ .vmem, ⟨53, _⟩ => ⟨S512x512, .bf16⟩
  | .local _ .vmem, ⟨54, _⟩ => ⟨S512x512, .f32⟩
  | .local _ .vmem, ⟨55, _⟩ => ⟨S512x512, .f32⟩
  | .local _ .vmem, ⟨56, _⟩ => ⟨S1x512, .f32⟩
  | .local _ .vmem, ⟨57, _⟩ => ⟨S1x512, .f32⟩
  | .local _ .vmem, ⟨58, _⟩ => ⟨S1x512, .f32⟩
  | .local _ .vmem, ⟨59, _⟩ => ⟨S1x512, .f32⟩
  | .local _ .vmem, ⟨60, _⟩ => ⟨S2048x512, .bf16⟩
  | .local _ .vmem, ⟨61, _⟩ => ⟨S2048x512, .bf16⟩
  | .local _ .vmem, ⟨62, _⟩ => ⟨S2048x1536, .bf16⟩
  | .local _ .vmem, ⟨63, _⟩ => ⟨S1x512x1536, .bf16⟩
  | .local _ .vmem, ⟨64, _⟩ => ⟨S1x512x1536, .bf16⟩
  | .local _ .vmem, ⟨65, _⟩ => ⟨S2048x512, .bf16⟩
  | .local _ .vmem, ⟨66, _⟩ => ⟨S2048x512, .bf16⟩
  | .local _ .vmem, ⟨67, _⟩ => ⟨S2048x1024, .bf16⟩
  | .local _ .vmem, ⟨68, _⟩ => ⟨S1x512x1024, .bf16⟩
  | .local _ .vmem, ⟨69, _⟩ => ⟨S1x512x1024, .bf16⟩
  | .local _ .vmem, ⟨70, _⟩ => ⟨S256x1536, .bf16⟩
  | .local _ .vmem, ⟨71, _⟩ => ⟨S256x1536, .bf16⟩
  | .local _ .vmem, ⟨72, _⟩ => ⟨S1x1024x1536, .bf16⟩
  | .local _ .vmem, ⟨73, _⟩ => ⟨S256x1024, .bf16⟩
  | .local _ .vmem, ⟨74, _⟩ => ⟨S256x1024, .bf16⟩
  | .local _ .vmem, ⟨75, _⟩ => ⟨S1x1024x1024, .bf16⟩
  | .local _ .vmem, ⟨76, _⟩ => ⟨S16x256, .bf16⟩
  | .local _ .vmem, ⟨77, _⟩ => ⟨S16x256, .bf16⟩
  | .local _ .vmem, ⟨78, _⟩ => ⟨S16x1024, .bf16⟩
  | .local _ .vmem, ⟨79, _⟩ => ⟨S256x1024, .f32⟩
  | .local _ .vmem, ⟨80, _⟩ => ⟨S256x1024, .f32⟩
  | .local _ .vmem, ⟨81, _⟩ => ⟨S1x1024, .f32⟩
  | .local _ .vmem, ⟨82, _⟩ => ⟨S256x1024, .f32⟩
  | .local _ .vmem, ⟨83, _⟩ => ⟨S256x1024, .f32⟩
  | .local _ .vmem, ⟨84, _⟩ => ⟨S256x1024, .f32⟩
  | .local _ .vmem, ⟨85, _⟩ => ⟨S256x1024, .f32⟩
  | .local _ .vmem, ⟨86, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | _, _ => false

abbrev semScoped : Fin 0 → Bool
  | ⟨_, h⟩ => absurd h (Nat.not_lt_zero _)

abbrev dmaSemScoped : Fin 87 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | _ => false

abbrev sig : RefSig :=
  ofTc nBuf bufTy 0 87 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12_0 : Ref sig .tc := ⟨.hbm, 28, rfl⟩
abbrev main_v12_1 : Ref sig .tc := ⟨.hbm, 29, rfl⟩
abbrev main_v12_2 : Ref sig .tc := ⟨.hbm, 30, rfl⟩
abbrev main_v12_3 : Ref sig .tc := ⟨.hbm, 31, rfl⟩
abbrev main_v12_4 : Ref sig .tc := ⟨.hbm, 32, rfl⟩
abbrev main_v12_5 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16_0 : Ref sig .tc := ⟨.hbm, 37, rfl⟩
abbrev main_v16_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg4_0 : Ref sig .tc := ⟨.vmem, 21, rfl⟩
abbrev cc3_stg5_0 : Ref sig .tc := ⟨.vmem, 22, rfl⟩
abbrev cc3_stg6_0 : Ref sig .tc := ⟨.vmem, 23, rfl⟩
abbrev cc3_stg6_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg3_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg2_1 : Ref sig .tc := ⟨.vmem, 36, rfl⟩
abbrev cc6_stg0_0 : Ref sig .tc := ⟨.vmem, 37, rfl⟩
abbrev cc6_stg0_1 : Ref sig .tc := ⟨.vmem, 38, rfl⟩
abbrev cc6_stg1_0 : Ref sig .tc := ⟨.vmem, 39, rfl⟩
abbrev cc6_stg2_0 : Ref sig .tc := ⟨.vmem, 40, rfl⟩
abbrev cc6_stg2_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg1_1 : Ref sig .tc := ⟨.vmem, 45, rfl⟩
abbrev cc7_stg2_0 : Ref sig .tc := ⟨.vmem, 46, rfl⟩
abbrev cc7_stg2_1 : Ref sig .tc := ⟨.vmem, 47, rfl⟩
abbrev cc7_stg3_0 : Ref sig .tc := ⟨.vmem, 48, rfl⟩
abbrev cc7_stg4_0 : Ref sig .tc := ⟨.vmem, 49, rfl⟩
abbrev cc7_stg5_0 : Ref sig .tc := ⟨.vmem, 50, rfl⟩
abbrev cc7_stg6_0 : Ref sig .tc := ⟨.vmem, 51, rfl⟩
abbrev cc7_stg7_0 : Ref sig .tc := ⟨.vmem, 52, rfl⟩
abbrev cc7_stg7_1 : Ref sig .tc := ⟨.vmem, 53, rfl⟩
abbrev cc7_stg8_0 : Ref sig .tc := ⟨.vmem, 54, rfl⟩
abbrev cc7_stg8_1 : Ref sig .tc := ⟨.vmem, 55, rfl⟩
abbrev cc7_stg9_0 : Ref sig .tc := ⟨.vmem, 56, rfl⟩
abbrev cc7_stg10_0 : Ref sig .tc := ⟨.vmem, 57, rfl⟩
abbrev cc7_stg11_0 : Ref sig .tc := ⟨.vmem, 58, rfl⟩
abbrev cc7_stg12_0 : Ref sig .tc := ⟨.vmem, 59, rfl⟩
abbrev cc8_stg0_0 : Ref sig .tc := ⟨.vmem, 60, rfl⟩
abbrev cc8_stg0_1 : Ref sig .tc := ⟨.vmem, 61, rfl⟩
abbrev cc8_stg1_0 : Ref sig .tc := ⟨.vmem, 62, rfl⟩
abbrev cc8_stg2_0 : Ref sig .tc := ⟨.vmem, 63, rfl⟩
abbrev cc8_stg2_1 : Ref sig .tc := ⟨.vmem, 64, rfl⟩
abbrev cc9_stg0_0 : Ref sig .tc := ⟨.vmem, 65, rfl⟩
abbrev cc9_stg0_1 : Ref sig .tc := ⟨.vmem, 66, rfl⟩
abbrev cc9_stg1_0 : Ref sig .tc := ⟨.vmem, 67, rfl⟩
abbrev cc9_stg2_0 : Ref sig .tc := ⟨.vmem, 68, rfl⟩
abbrev cc9_stg2_1 : Ref sig .tc := ⟨.vmem, 69, rfl⟩
abbrev cc10_stg0_0 : Ref sig .tc := ⟨.vmem, 70, rfl⟩
abbrev cc10_stg0_1 : Ref sig .tc := ⟨.vmem, 71, rfl⟩
abbrev cc10_stg1_0 : Ref sig .tc := ⟨.vmem, 72, rfl⟩
abbrev cc10_stg2_0 : Ref sig .tc := ⟨.vmem, 73, rfl⟩
abbrev cc10_stg2_1 : Ref sig .tc := ⟨.vmem, 74, rfl⟩
abbrev cc10_stg3_0 : Ref sig .tc := ⟨.vmem, 75, rfl⟩
abbrev cc10_stg4_0 : Ref sig .tc := ⟨.vmem, 76, rfl⟩
abbrev cc10_stg4_1 : Ref sig .tc := ⟨.vmem, 77, rfl⟩
abbrev cc10_stg5_0 : Ref sig .tc := ⟨.vmem, 78, rfl⟩
abbrev cc10_stg6_0 : Ref sig .tc := ⟨.vmem, 79, rfl⟩
abbrev cc10_stg6_1 : Ref sig .tc := ⟨.vmem, 80, rfl⟩
abbrev cc10_stg7_0 : Ref sig .tc := ⟨.vmem, 81, rfl⟩
abbrev cc10_stg8_0 : Ref sig .tc := ⟨.vmem, 82, rfl⟩
abbrev cc10_stg8_1 : Ref sig .tc := ⟨.vmem, 83, rfl⟩
abbrev cc10_stg9_0 : Ref sig .tc := ⟨.vmem, 84, rfl⟩
abbrev cc10_stg9_1 : Ref sig .tc := ⟨.vmem, 85, rfl⟩
abbrev cc10_stg10_0 : Ref sig .tc := ⟨.vmem, 86, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem3_0 : DmaSem sig := 20
abbrev cc3_sem4_0 : DmaSem sig := 21
abbrev cc3_sem5_0 : DmaSem sig := 22
abbrev cc3_sem6_0 : DmaSem sig := 23
abbrev cc3_sem6_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem2_1 : DmaSem sig := 36
abbrev cc6_sem0_0 : DmaSem sig := 37
abbrev cc6_sem0_1 : DmaSem sig := 38
abbrev cc6_sem1_0 : DmaSem sig := 39
abbrev cc6_sem2_0 : DmaSem sig := 40
abbrev cc6_sem2_1 : DmaSem sig := 41
abbrev cc7_sem0_0 : DmaSem sig := 42
abbrev cc7_sem0_1 : DmaSem sig := 43
abbrev cc7_sem1_0 : DmaSem sig := 44
abbrev cc7_sem1_1 : DmaSem sig := 45
abbrev cc7_sem2_0 : DmaSem sig := 46
abbrev cc7_sem2_1 : DmaSem sig := 47
abbrev cc7_sem3_0 : DmaSem sig := 48
abbrev cc7_sem4_0 : DmaSem sig := 49
abbrev cc7_sem5_0 : DmaSem sig := 50
abbrev cc7_sem6_0 : DmaSem sig := 51
abbrev cc7_sem7_0 : DmaSem sig := 52
abbrev cc7_sem7_1 : DmaSem sig := 53
abbrev cc7_sem8_0 : DmaSem sig := 54
abbrev cc7_sem8_1 : DmaSem sig := 55
abbrev cc7_sem9_0 : DmaSem sig := 56
abbrev cc7_sem10_0 : DmaSem sig := 57
abbrev cc7_sem11_0 : DmaSem sig := 58
abbrev cc7_sem12_0 : DmaSem sig := 59
abbrev cc8_sem0_0 : DmaSem sig := 60
abbrev cc8_sem0_1 : DmaSem sig := 61
abbrev cc8_sem1_0 : DmaSem sig := 62
abbrev cc8_sem2_0 : DmaSem sig := 63
abbrev cc8_sem2_1 : DmaSem sig := 64
abbrev cc9_sem0_0 : DmaSem sig := 65
abbrev cc9_sem0_1 : DmaSem sig := 66
abbrev cc9_sem1_0 : DmaSem sig := 67
abbrev cc9_sem2_0 : DmaSem sig := 68
abbrev cc9_sem2_1 : DmaSem sig := 69
abbrev cc10_sem0_0 : DmaSem sig := 70
abbrev cc10_sem0_1 : DmaSem sig := 71
abbrev cc10_sem1_0 : DmaSem sig := 72
abbrev cc10_sem2_0 : DmaSem sig := 73
abbrev cc10_sem2_1 : DmaSem sig := 74
abbrev cc10_sem3_0 : DmaSem sig := 75
abbrev cc10_sem4_0 : DmaSem sig := 76
abbrev cc10_sem4_1 : DmaSem sig := 77
abbrev cc10_sem5_0 : DmaSem sig := 78
abbrev cc10_sem6_0 : DmaSem sig := 79
abbrev cc10_sem6_1 : DmaSem sig := 80
abbrev cc10_sem7_0 : DmaSem sig := 81
abbrev cc10_sem8_0 : DmaSem sig := 82
abbrev cc10_sem8_1 : DmaSem sig := 83
abbrev cc10_sem9_0 : DmaSem sig := 84
abbrev cc10_sem9_1 : DmaSem sig := 85
abbrev cc10_sem10_0 : DmaSem sig := 86

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![1, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S1x1024x1536 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S512x1536 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S1x1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S512x1024 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨2, ![1, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 2 → Memref sig .tc .vmem S512x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 1 → Memref sig .tc .vmem S1x1024x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true, false]

abbrev stage5_2 : Fin 2 → Memref sig .tc .vmem S512x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨1, ![2], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage6_0 : Fin 2 → Memref sig .tc .vmem S2048x512 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S2048x1024 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1x512x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![4], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_8 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_10 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_11 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_12 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S512x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S512x512 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S512x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x512 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x512 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x512 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x512 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S512x512 .bf16 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev stage7_8 : Fin 2 → Memref sig .tc .vmem S512x512 .f32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]

abbrev stage7_9 : Fin 1 → Memref sig .tc .vmem S1x512 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev stage7_10 : Fin 1 → Memref sig .tc .vmem S1x512 .f32 := fun | 0 => Memref.whole cc7_stg10_0 | ⟨_ + 1, h⟩ => absurd h (Nat.not_lt.2 (Nat.le_add_left _ _))
abbrev sem7_10 : Fin 1 → DmaSem sig := fun | 0 => cc7_sem10_0 | ⟨_ + 1, h⟩ => absurd h (Nat.not_lt.2 (Nat.le_add_left _ _))
abbrev reads7_10 : Fin grid7.rank → Bool := ![false]

abbrev stage7_11 : Fin 1 → Memref sig .tc .vmem S1x512 .f32 := fun | 0 => Memref.whole cc7_stg11_0 | ⟨_ + 1, h⟩ => absurd h (Nat.not_lt.2 (Nat.le_add_left _ _))
abbrev sem7_11 : Fin 1 → DmaSem sig := fun | 0 => cc7_sem11_0 | ⟨_ + 1, h⟩ => absurd h (Nat.not_lt.2 (Nat.le_add_left _ _))
abbrev reads7_11 : Fin grid7.rank → Bool := ![false]

abbrev stage7_12 : Fin 1 → Memref sig .tc .vmem S1x512 .f32 := fun | 0 => Memref.whole cc7_stg12_0 | ⟨_ + 1, h⟩ => absurd h (Nat.not_lt.2 (Nat.le_add_left _ _))
abbrev sem7_12 : Fin 1 → DmaSem sig := fun | 0 => cc7_sem12_0 | ⟨_ + 1, h⟩ => absurd h (Nat.not_lt.2 (Nat.le_add_left _ _))
abbrev reads7_12 : Fin grid7.rank → Bool := ![false]

abbrev grid8 : Pipeline.Grid := ⟨1, ![2], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage8_0 : Fin 2 → Memref sig .tc .vmem S2048x512 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S2048x1536 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S1x512x1536 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![2], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![c0_i32.toNat, arg0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage9_0 : Fin 2 → Memref sig .tc .vmem S2048x512 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S2048x1024 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S1x512x1024 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![8], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc10_transform_4 (i : grid10.Coords) : Fin 2 → Nat :=
  let arg0 : BitVec 32 := BitVec.ofNat 32 (i 0).val
  let c0_i32 : BitVec 32 := 0#32
  let c0_i32_0 : BitVec 32 := 0#32
  ![c0_i32.toNat, arg0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_7 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_8 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_9 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_10 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S256x1536 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x1024x1536 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S256x1024 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S1x1024x1024 .bf16 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 2 → Memref sig .tc .vmem S16x256 .bf16 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev stage10_5 : Fin 1 → Memref sig .tc .vmem S16x1024 .bf16 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 2 → Memref sig .tc .vmem S256x1024 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev stage10_7 : Fin 1 → Memref sig .tc .vmem S1x1024 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![false]

abbrev stage10_8 : Fin 2 → Memref sig .tc .vmem S256x1024 .f32 := fun | 0 => Memref.whole cc10_stg8_0 | 1 => Memref.whole cc10_stg8_1 | ⟨_ + 2, h⟩ => absurd h (Nat.not_lt.2 (Nat.le_add_left _ _))
abbrev sem10_8 : Fin 2 → DmaSem sig := fun | 0 => cc10_sem8_0 | 1 => cc10_sem8_1 | ⟨_ + 2, h⟩ => absurd h (Nat.not_lt.2 (Nat.le_add_left _ _))
abbrev reads10_8 : Fin grid10.rank → Bool := ![true]

abbrev stage10_9 : Fin 2 → Memref sig .tc .vmem S256x1024 .f32 := fun | 0 => Memref.whole cc10_stg9_0 | 1 => Memref.whole cc10_stg9_1 | ⟨_ + 2, h⟩ => absurd h (Nat.not_lt.2 (Nat.le_add_left _ _))
abbrev sem10_9 : Fin 2 → DmaSem sig := fun | 0 => cc10_sem9_0 | 1 => cc10_sem9_1 | ⟨_ + 2, h⟩ => absurd h (Nat.not_lt.2 (Nat.le_add_left _ _))
abbrev reads10_9 : Fin grid10.rank → Bool := ![true]

abbrev stage10_10 : Fin 1 → Memref sig .tc .vmem S1x1024 .f32 := fun | 0 => Memref.whole cc10_stg10_0 | ⟨_ + 1, h⟩ => absurd h (Nat.not_lt.2 (Nat.le_add_left _ _))
abbrev sem10_10 : Fin 1 → DmaSem sig := fun | 0 => cc10_sem10_0 | ⟨_ + 1, h⟩ => absurd h (Nat.not_lt.2 (Nat.le_add_left _ _))
abbrev reads10_10 : Fin grid10.rank → Bool := ![false]
-- ==== MixReferenceIdeal.lean ====
abbrev S2048x1024 : Shape := ⟨2, ![2048, 1024]⟩
abbrev S1024 : Shape := ⟨1, ![1024]⟩
abbrev S1x1024x1536 : Shape := ⟨3, ![1, 1024, 1536]⟩
abbrev S16x1024 : Shape := ⟨2, ![16, 1024]⟩
abbrev S1x1024x1024 : Shape := ⟨3, ![1, 1024, 1024]⟩
abbrev S2048x512 : Shape := ⟨2, ![2048, 512]⟩
abbrev S512 : Shape := ⟨1, ![512]⟩
abbrev S2048x1536 : Shape := ⟨2, ![2048, 1536]⟩
abbrev S16x2048 : Shape := ⟨2, ![16, 2048]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1x512 : Shape := ⟨2, ![1, 512]⟩
abbrev S1024x1536 : Shape := ⟨2, ![1024, 1536]⟩
abbrev S1024x16 : Shape := ⟨2, ![1024, 16]⟩
abbrev S2048x16 : Shape := ⟨2, ![2048, 16]⟩
abbrev S1024x1024 : Shape := ⟨2, ![1024, 1024]⟩
abbrev S1536x1024 : Shape := ⟨2, ![1536, 1024]⟩

abbrev nBuf : Space → Nat
  | .hbm => 290
  | .vmem => 0
  | .smem => 0
  | _ => 0

abbrev hbmTy0_0 (i : Nat) : BufTy := match i % 128 with
  | 0 => ⟨S2048x1024, .f32⟩
  | 1 => ⟨S1024, .f32⟩
  | 2 => ⟨S1x1024x1536, .bf16⟩
  | 3 => ⟨S16x1024, .bf16⟩
  | 4 => ⟨S1x1024x1024, .bf16⟩
  | 5 => ⟨S2048x512, .f32⟩
  | 6 => ⟨S2048x512, .f32⟩
  | 7 => ⟨S512, .f32⟩
  | 8 => ⟨S512, .f32⟩
  | 9 => ⟨S512, .f32⟩
  | 10 => ⟨S512, .f32⟩
  | 11 => ⟨S1x1024x1024, .bf16⟩
  | 12 => ⟨S2048x1536, .bf16⟩
  | 13 => ⟨S16x2048, .bf16⟩
  | 14 => ⟨S2048x1024, .bf16⟩
  | 15 => ⟨S2048x1024, .f32⟩
  | 16 => ⟨S1x1024x1536, .f32⟩
  | 17 => ⟨S16x1024, .f32⟩
  | 18 => ⟨S1x1024x1024, .f32⟩
  | 19 => ⟨S1x1024x1024, .f32⟩
  | 20 => ⟨S2048x1536, .f32⟩
  | 21 => ⟨S16x2048, .f32⟩
  | 22 => ⟨S2048x1024, .f32⟩
  | 23 => ⟨S2048x1024, .f32⟩
  | 24 => ⟨S_, .f32⟩
  | 25 => ⟨S2048, .f32⟩
  | 26 => ⟨S2048x1, .f32⟩
  | 27 => ⟨S_, .f32⟩
  | 28 => ⟨S2048x1, .f32⟩
  | 29 => ⟨S2048x1, .f32⟩
  | 30 => ⟨S_, .f32⟩
  | 31 => ⟨S2048x1, .f32⟩
  | 32 => ⟨S2048x1, .f32⟩
  | 33 => ⟨S2048x1, .f32⟩
  | 34 => ⟨S2048x1, .f32⟩
  | 35 => ⟨S_, .f32⟩
  | 36 => ⟨S2048x1, .f32⟩
  | 37 => ⟨S2048x1, .f32⟩
  | 38 => ⟨S2048x1024, .f32⟩
  | 39 => ⟨S2048x1024, .f32⟩
  | 40 => ⟨S1x1024, .f32⟩
  | 41 => ⟨S2048x1024, .f32⟩
  | 42 => ⟨S2048x1024, .f32⟩
  | 43 => ⟨S_, .f32⟩
  | 44 => ⟨S2048, .f32⟩
  | 45 => ⟨S2048x1, .f32⟩
  | 46 => ⟨S_, .f32⟩
  | 47 => ⟨S2048x1, .f32⟩
  | 48 => ⟨S2048x1, .f32⟩
  | 49 => ⟨S2048x512, .f32⟩
  | 50 => ⟨S2048x512, .f32⟩
  | 51 => ⟨S2048x512, .f32⟩
  | 52 => ⟨S_, .f32⟩
  | 53 => ⟨S2048, .f32⟩
  | 54 => ⟨S2048x1, .f32⟩
  | 55 => ⟨S_, .f32⟩
  | 56 => ⟨S2048x1, .f32⟩
  | 57 => ⟨S2048x1, .f32⟩
  | 58 => ⟨S_, .f32⟩
  | 59 => ⟨S2048x1, .f32⟩
  | 60 => ⟨S2048x1, .f32⟩
  | 61 => ⟨S2048x1, .f32⟩
  | 62 => ⟨S2048x1, .f32⟩
  | 63 => ⟨S_, .f32⟩
  | 64 => ⟨S2048x1, .f32⟩
  | 65 => ⟨S2048x1, .f32⟩
  | 66 => ⟨S2048x512, .f32⟩
  | 67 => ⟨S2048x512, .f32⟩
  | 68 => ⟨S1x512, .f32⟩
  | 69 => ⟨S2048x512, .f32⟩
  | 70 => ⟨S2048x512, .f32⟩
  | 71 => ⟨S1x512, .f32⟩
  | 72 => ⟨S2048x512, .f32⟩
  | 73 => ⟨S2048x512, .f32⟩
  | 74 => ⟨S2048x512, .f32⟩
  | 75 => ⟨S2048x512, .f32⟩
  | 76 => ⟨S_, .f32⟩
  | 77 => ⟨S2048x512, .f32⟩
  | 78 => ⟨S2048x512, .f32⟩
  | 79 => ⟨S_, .f32⟩
  | 80 => ⟨S2048x512, .f32⟩
  | 81 => ⟨S2048x512, .f32⟩
  | 82 => ⟨S_, .f32⟩
  | 83 => ⟨S2048x512, .f32⟩
  | 84 => ⟨S2048x512, .f32⟩
  | 85 => ⟨S2048x512, .f32⟩
  | 86 => ⟨S2048x512, .f32⟩
  | 87 => ⟨S2048x512, .f32⟩
  | 88 => ⟨S_, .f32⟩
  | 89 => ⟨S2048, .f32⟩
  | 90 => ⟨S2048x1, .f32⟩
  | 91 => ⟨S_, .f32⟩
  | 92 => ⟨S2048x1, .f32⟩
  | 93 => ⟨S2048x1, .f32⟩
  | 94 => ⟨S_, .f32⟩
  | 95 => ⟨S2048x1, .f32⟩
  | 96 => ⟨S2048x1, .f32⟩
  | 97 => ⟨S2048x1, .f32⟩
  | 98 => ⟨S2048x1, .f32⟩
  | 99 => ⟨S_, .f32⟩
  | 100 => ⟨S2048x1, .f32⟩
  | 101 => ⟨S2048x1, .f32⟩
  | 102 => ⟨S2048x512, .f32⟩
  | 103 => ⟨S2048x512, .f32⟩
  | 104 => ⟨S1x512, .f32⟩
  | 105 => ⟨S2048x512, .f32⟩
  | 106 => ⟨S2048x512, .f32⟩
  | 107 => ⟨S2048x512, .f32⟩
  | 108 => ⟨S_, .f32⟩
  | 109 => ⟨S2048, .f32⟩
  | 110 => ⟨S2048x1, .f32⟩
  | 111 => ⟨S_, .f32⟩
  | 112 => ⟨S2048x1, .f32⟩
  | 113 => ⟨S2048x1, .f32⟩
  | 114 => ⟨S_, .f32⟩
  | 115 => ⟨S2048x1, .f32⟩
  | 116 => ⟨S2048x1, .f32⟩
  | 117 => ⟨S2048x1, .f32⟩
  | 118 => ⟨S2048x1, .f32⟩
  | 119 => ⟨S_, .f32⟩
  | 120 => ⟨S2048x1, .f32⟩
  | 121 => ⟨S2048x1, .f32⟩
  | 122 => ⟨S2048x512, .f32⟩
  | 123 => ⟨S2048x512, .f32⟩
  | 124 => ⟨S1x512, .f32⟩
  | 125 => ⟨S2048x512, .f32⟩
  | 126 => ⟨S2048x512, .f32⟩
  | 127 => ⟨S2048x1024, .f32⟩
  | _ => ⟨S2048x1024, .f32⟩

abbrev hbmTy0_1 (i : Nat) : BufTy := match i % 128 with
  | 0 => ⟨S1024x1536, .f32⟩
  | 1 => ⟨S2048x1536, .f32⟩
  | 2 => ⟨S1024x16, .f32⟩
  | 3 => ⟨S2048x16, .f32⟩
  | 4 => ⟨S1024x1024, .f32⟩
  | 5 => ⟨S2048x1024, .f32⟩
  | 6 => ⟨S1024x1024, .f32⟩
  | 7 => ⟨S2048x1024, .f32⟩
  | 8 => ⟨S2048x1024, .f32⟩
  | 9 => ⟨S2048x16, .f32⟩
  | 10 => ⟨S2048x1024, .f32⟩
  | 11 => ⟨S1024x1024, .f32⟩
  | 12 => ⟨S1024x1024, .f32⟩
  | 13 => ⟨S2048x1024, .f32⟩
  | 14 => ⟨S1x1024x1024, .f32⟩
  | 15 => ⟨S1024x1024, .f32⟩
  | 16 => ⟨S1024x1024, .f32⟩
  | 17 => ⟨S2048x1024, .f32⟩
  | 18 => ⟨S1x1024x1024, .f32⟩
  | 19 => ⟨S16x1024, .f32⟩
  | 20 => ⟨S1024x16, .f32⟩
  | 21 => ⟨S2048x1024, .f32⟩
  | 22 => ⟨S2048x1024, .f32⟩
  | 23 => ⟨S16x1024, .f32⟩
  | 24 => ⟨S1536x1024, .f32⟩
  | 25 => ⟨S1024x1536, .f32⟩
  | 26 => ⟨S2048x1024, .f32⟩
  | 27 => ⟨S2048x1024, .f32⟩
  | 28 => ⟨S1x1024x1536, .f32⟩
  | 29 => ⟨S2048x512, .f32⟩
  | 30 => ⟨S2048x512, .f32⟩
  | 31 => ⟨S2048x512, .f32⟩
  | 32 => ⟨S_, .f32⟩
  | 33 => ⟨S512, .f32⟩
  | 34 => ⟨S1x512, .f32⟩
  | 35 => ⟨S2048x512, .f32⟩
  | 36 => ⟨S2048x512, .f32⟩
  | 37 => ⟨S_, .f32⟩
  | 38 => ⟨S512, .f32⟩
  | 39 => ⟨S2048x512, .f32⟩
  | 40 => ⟨S_, .f32⟩
  | 41 => ⟨S2048, .f32⟩
  | 42 => ⟨S2048x1, .f32⟩
  | 43 => ⟨S2048x512, .f32⟩
  | 44 => ⟨S2048x512, .f32⟩
  | 45 => ⟨S2048x1, .f32⟩
  | 46 => ⟨S_, .f32⟩
  | 47 => ⟨S2048x1, .f32⟩
  | 48 => ⟨S2048x1, .f32⟩
  | 49 => ⟨S_, .f32⟩
  | 50 => ⟨S2048, .f32⟩
  | 51 => ⟨S2048x512, .f32⟩
  | 52 => ⟨S2048x512, .f32⟩
  | 53 => ⟨S2048x512, .f32⟩
  | 54 => ⟨S2048x512, .f32⟩
  | 55 => ⟨S2048x512, .f32⟩
  | 56 => ⟨S2048x512, .f32⟩
  | 57 => ⟨S_, .f32⟩
  | 58 => ⟨S512, .f32⟩
  | 59 => ⟨S1x512, .f32⟩
  | 60 => ⟨S2048x512, .f32⟩
  | 61 => ⟨S2048x512, .f32⟩
  | 62 => ⟨S_, .f32⟩
  | 63 => ⟨S512, .f32⟩
  | 64 => ⟨S2048x512, .f32⟩
  | 65 => ⟨S_, .f32⟩
  | 66 => ⟨S2048, .f32⟩
  | 67 => ⟨S2048x1, .f32⟩
  | 68 => ⟨S2048x512, .f32⟩
  | 69 => ⟨S2048x512, .f32⟩
  | 70 => ⟨S2048x1, .f32⟩
  | 71 => ⟨S_, .f32⟩
  | 72 => ⟨S2048x1, .f32⟩
  | 73 => ⟨S2048x1, .f32⟩
  | 74 => ⟨S_, .f32⟩
  | 75 => ⟨S2048, .f32⟩
  | 76 => ⟨S2048x512, .f32⟩
  | 77 => ⟨S2048x512, .f32⟩
  | 78 => ⟨S2048x512, .f32⟩
  | 79 => ⟨S2048x512, .f32⟩
  | 80 => ⟨S2048x512, .f32⟩
  | 81 => ⟨S2048x512, .f32⟩
  | 82 => ⟨S2048x512, .f32⟩
  | 83 => ⟨S2048x512, .f32⟩
  | 84 => ⟨S2048x512, .f32⟩
  | 85 => ⟨S_, .f32⟩
  | 86 => ⟨S512, .f32⟩
  | 87 => ⟨S1x512, .f32⟩
  | 88 => ⟨S_, .f32⟩
  | 89 => ⟨S512, .f32⟩
  | 90 => ⟨S2048x512, .f32⟩
  | 91 => ⟨S_, .f32⟩
  | 92 => ⟨S512, .f32⟩
  | 93 => ⟨S1x512, .f32⟩
  | 94 => ⟨S2048x512, .f32⟩
  | 95 => ⟨S2048x512, .f32⟩
  | 96 => ⟨S_, .f32⟩
  | 97 => ⟨S512, .f32⟩
  | 98 => ⟨S2048x512, .f32⟩
  | 99 => ⟨S_, .f32⟩
  | 100 => ⟨S2048, .f32⟩
  | 101 => ⟨S2048x1, .f32⟩
  | 102 => ⟨S2048x512, .f32⟩
  | 103 => ⟨S2048x512, .f32⟩
  | 104 => ⟨S2048x1, .f32⟩
  | 105 => ⟨S_, .f32⟩
  | 106 => ⟨S2048x1, .f32⟩
  | 107 => ⟨S2048x1, .f32⟩
  | 108 => ⟨S_, .f32⟩
  | 109 => ⟨S2048, .f32⟩
  | 110 => ⟨S2048x512, .f32⟩
  | 111 => ⟨S2048x512, .f32⟩
  | 112 => ⟨S2048x512, .f32⟩
  | 113 => ⟨S2048x512, .f32⟩
  | 114 => ⟨S2048x512, .f32⟩
  | 115 => ⟨S2048x512, .f32⟩
  | 116 => ⟨S_, .f32⟩
  | 117 => ⟨S2048, .f32⟩
  | 118 => ⟨S2048x1, .f32⟩
  | 119 => ⟨S_, .f32⟩
  | 120 => ⟨S2048x1, .f32⟩
  | 121 => ⟨S2048x1, .f32⟩
  | 122 => ⟨S_, .f32⟩
  | 123 => ⟨S2048, .f32⟩
  | 124 => ⟨S2048x512, .f32⟩
  | 125 => ⟨S2048x512, .f32⟩
  | 126 => ⟨S2048x1024, .f32⟩
  | 127 => ⟨S_, .f32⟩
  | _ => ⟨S2048x1024, .f32⟩

abbrev hbmTy0_2 (i : Nat) : BufTy := match i % 128 with
  | 0 => ⟨S1024, .f32⟩
  | 1 => ⟨S1x1024, .f32⟩
  | 2 => ⟨S2048x1024, .f32⟩
  | 3 => ⟨S2048x1024, .f32⟩
  | 4 => ⟨S_, .f32⟩
  | 5 => ⟨S1024, .f32⟩
  | 6 => ⟨S2048x1024, .f32⟩
  | 7 => ⟨S_, .f32⟩
  | 8 => ⟨S2048, .f32⟩
  | 9 => ⟨S2048x1, .f32⟩
  | 10 => ⟨S2048x1024, .f32⟩
  | 11 => ⟨S2048x1024, .f32⟩
  | 12 => ⟨S2048x1024, .f32⟩
  | 13 => ⟨S2048x1, .f32⟩
  | 14 => ⟨S_, .f32⟩
  | 15 => ⟨S2048x1, .f32⟩
  | 16 => ⟨S2048x1, .f32⟩
  | 17 => ⟨S_, .f32⟩
  | 18 => ⟨S2048, .f32⟩
  | 19 => ⟨S2048x1024, .f32⟩
  | 20 => ⟨S2048x1024, .f32⟩
  | 21 => ⟨S2048x1024, .f32⟩
  | 22 => ⟨S2048x1024, .f32⟩
  | 23 => ⟨S2048x1024, .f32⟩
  | 24 => ⟨S2048x1536, .bf16⟩
  | 25 => ⟨S1x1024, .f32⟩
  | 26 => ⟨S1x1024x1536, .bf16⟩
  | 27 => ⟨S1x1024x1024, .bf16⟩
  | 28 => ⟨S1x1024x1024, .bf16⟩
  | 29 => ⟨S2048x512, .bf16⟩
  | 30 => ⟨S1x512, .f32⟩
  | 31 => ⟨S1x512, .f32⟩
  | 32 => ⟨S1x512, .f32⟩
  | 33 => ⟨S1x512, .f32⟩
  | _ => ⟨S2048x1024, .f32⟩

abbrev hbmTy (i : Nat) : BufTy := match i / 128 with
  | 0 => hbmTy0_0 i
  | 1 => hbmTy0_1 i
  | 2 => hbmTy0_2 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_cst_4 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_v33 : Ref sig .tc := ⟨.hbm, 57, rfl⟩
abbrev main_cst_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_8 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_call0_v0 : Ref sig .tc := ⟨.hbm, 74, rfl⟩
abbrev main_call0_v1 : Ref sig .tc := ⟨.hbm, 75, rfl⟩
abbrev main_call0_cst : Ref sig .tc := ⟨.hbm, 76, rfl⟩
abbrev main_call0_v2 : Ref sig .tc := ⟨.hbm, 77, rfl⟩
abbrev main_call0_v3 : Ref sig .tc := ⟨.hbm, 78, rfl⟩
abbrev main_call0_cst_0 : Ref sig .tc := ⟨.hbm, 79, rfl⟩
abbrev main_call0_v4 : Ref sig .tc := ⟨.hbm, 80, rfl⟩
abbrev main_v48_2 : Ref sig .tc := ⟨.hbm, 81, rfl⟩
abbrev main_call0_cst_1 : Ref sig .tc := ⟨.hbm, 82, rfl⟩
abbrev main_call0_v6 : Ref sig .tc := ⟨.hbm, 83, rfl⟩
abbrev main_call0_v7 : Ref sig .tc := ⟨.hbm, 84, rfl⟩
abbrev main_v48_1 : Ref sig .tc := ⟨.hbm, 85, rfl⟩
abbrev main_v48_0 : Ref sig .tc := ⟨.hbm, 86, rfl⟩
abbrev main_v49 : Ref sig .tc := ⟨.hbm, 87, rfl⟩
abbrev main_cst_9 : Ref sig .tc := ⟨.hbm, 88, rfl⟩
abbrev main_v50 : Ref sig .tc := ⟨.hbm, 89, rfl⟩
abbrev main_v51 : Ref sig .tc := ⟨.hbm, 90, rfl⟩
abbrev main_cst_10 : Ref sig .tc := ⟨.hbm, 91, rfl⟩
abbrev main_v52 : Ref sig .tc := ⟨.hbm, 92, rfl⟩
abbrev main_v53 : Ref sig .tc := ⟨.hbm, 93, rfl⟩
abbrev main_cst_11 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst_12 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_cst_13 : Ref sig .tc := ⟨.hbm, 108, rfl⟩
abbrev main_v66 : Ref sig .tc := ⟨.hbm, 109, rfl⟩
abbrev main_v67 : Ref sig .tc := ⟨.hbm, 110, rfl⟩
abbrev main_cst_14 : Ref sig .tc := ⟨.hbm, 111, rfl⟩
abbrev main_v68 : Ref sig .tc := ⟨.hbm, 112, rfl⟩
abbrev main_v69 : Ref sig .tc := ⟨.hbm, 113, rfl⟩
abbrev main_cst_15 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_cst_16 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_cst_17 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_cst_18 : Ref sig .tc := ⟨.hbm, 165, rfl⟩
abbrev main_v118 : Ref sig .tc := ⟨.hbm, 166, rfl⟩
abbrev main_v119 : Ref sig .tc := ⟨.hbm, 167, rfl⟩
abbrev main_cst_19 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_cst_20 : Ref sig .tc := ⟨.hbm, 174, rfl⟩
abbrev main_v125 : Ref sig .tc := ⟨.hbm, 175, rfl⟩
abbrev main_v126 : Ref sig .tc := ⟨.hbm, 176, rfl⟩
abbrev main_cst_21 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_cst_22 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_cst_23 : Ref sig .tc := ⟨.hbm, 190, rfl⟩
abbrev main_v138 : Ref sig .tc := ⟨.hbm, 191, rfl⟩
abbrev main_v139 : Ref sig .tc := ⟨.hbm, 192, rfl⟩
abbrev main_cst_24 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_cst_25 : Ref sig .tc := ⟨.hbm, 199, rfl⟩
abbrev main_v145 : Ref sig .tc := ⟨.hbm, 200, rfl⟩
abbrev main_v146 : Ref sig .tc := ⟨.hbm, 201, rfl⟩
abbrev main_cst_26 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_call1_v0 : Ref sig .tc := ⟨.hbm, 209, rfl⟩
abbrev main_call1_v1 : Ref sig .tc := ⟨.hbm, 210, rfl⟩
abbrev main_call1_v2 : Ref sig .tc := ⟨.hbm, 211, rfl⟩
abbrev main_v153 : Ref sig .tc := ⟨.hbm, 212, rfl⟩
abbrev main_cst_27 : Ref sig .tc := ⟨.hbm, 213, rfl⟩
abbrev main_v154 : Ref sig .tc := ⟨.hbm, 214, rfl⟩
abbrev main_v155 : Ref sig .tc := ⟨.hbm, 215, rfl⟩
abbrev main_cst_28 : Ref sig .tc := ⟨.hbm, 216, rfl⟩
abbrev main_v156 : Ref sig .tc := ⟨.hbm, 217, rfl⟩
abbrev main_v157 : Ref sig .tc := ⟨.hbm, 218, rfl⟩
abbrev main_cst_29 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_cst_30 : Ref sig .tc := ⟨.hbm, 224, rfl⟩
abbrev main_v162 : Ref sig .tc := ⟨.hbm, 225, rfl⟩
abbrev main_v163 : Ref sig .tc := ⟨.hbm, 226, rfl⟩
abbrev main_cst_31 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_cst_32 : Ref sig .tc := ⟨.hbm, 233, rfl⟩
abbrev main_v169 : Ref sig .tc := ⟨.hbm, 234, rfl⟩
abbrev main_v170 : Ref sig .tc := ⟨.hbm, 235, rfl⟩
abbrev main_cst_33 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_cst_34 : Ref sig .tc := ⟨.hbm, 244, rfl⟩
abbrev main_v178 : Ref sig .tc := ⟨.hbm, 245, rfl⟩
abbrev main_v179 : Ref sig .tc := ⟨.hbm, 246, rfl⟩
abbrev main_cst_35 : Ref sig .tc := ⟨.hbm, 247, rfl⟩
abbrev main_v180 : Ref sig .tc := ⟨.hbm, 248, rfl⟩
abbrev main_v181 : Ref sig .tc := ⟨.hbm, 249, rfl⟩
abbrev main_cst_36 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_cst_37 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_v189 : Ref sig .tc := ⟨.hbm, 259, rfl⟩
abbrev main_cst_38 : Ref sig .tc := ⟨.hbm, 260, rfl⟩
abbrev main_v190 : Ref sig .tc := ⟨.hbm, 261, rfl⟩
abbrev main_v191 : Ref sig .tc := ⟨.hbm, 262, rfl⟩
abbrev main_cst_39 : Ref sig .tc := ⟨.hbm, 263, rfl⟩
abbrev main_v192 : Ref sig .tc := ⟨.hbm, 264, rfl⟩
abbrev main_v193 : Ref sig .tc := ⟨.hbm, 265, rfl⟩
abbrev main_v194 : Ref sig .tc := ⟨.hbm, 266, rfl⟩
abbrev main_v195 : Ref sig .tc := ⟨.hbm, 267, rfl⟩
abbrev main_v196 : Ref sig .tc := ⟨.hbm, 268, rfl⟩
abbrev main_v197 : Ref sig .tc := ⟨.hbm, 269, rfl⟩
abbrev main_cst_40 : Ref sig .tc := ⟨.hbm, 270, rfl⟩
abbrev main_v198 : Ref sig .tc := ⟨.hbm, 271, rfl⟩
abbrev main_v199 : Ref sig .tc := ⟨.hbm, 272, rfl⟩
abbrev main_cst_41 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_v205 : Ref sig .tc := ⟨.hbm, 279, rfl⟩
abbrev main_v206 : Ref sig .tc := ⟨.hbm, 280, rfl⟩
abbrev main_v207 : Ref sig .tc := ⟨.hbm, 281, rfl⟩
abbrev main_v208 : Ref sig .tc := ⟨.hbm, 282, rfl⟩
abbrev main_v209 : Ref sig .tc := ⟨.hbm, 283, rfl⟩
abbrev main_v210 : Ref sig .tc := ⟨.hbm, 284, rfl⟩
abbrev main_v211 : Ref sig .tc := ⟨.hbm, 285, rfl⟩
abbrev main_v212 : Ref sig .tc := ⟨.hbm, 286, rfl⟩
abbrev main_v213 : Ref sig .tc := ⟨.hbm, 287, rfl⟩
abbrev main_v214 : Ref sig .tc := ⟨.hbm, 288, rfl⟩
abbrev main_v215 : Ref sig .tc := ⟨.hbm, 289, rfl⟩

abbrev nD : Nat := 1
abbrev τ : Topo := Topo.v7x

variable {F : FTy → Type} [FloatOps F]
-- ==== Small.lean ====
abbrev S40x512 : Shape := ⟨2, ![40, 512]⟩

abbrev nBuf : Space → Nat
  | .hbm => 7
  | .vmem => 7
  | .smem => 0
  | _ => 0

abbrev bufTy : (tb : Table) → Fin (tcTables nBuf tb) → BufTy
  | .hbm, ⟨0, _⟩ => ⟨S40x512, .f32⟩
  | .hbm, ⟨1, _⟩ => ⟨S40x512, .f32⟩
  | .hbm, ⟨2, _⟩ => ⟨S40x512, .f32⟩
  | .hbm, ⟨3, _⟩ => ⟨S40x512, .f32⟩
  | .hbm, ⟨4, _⟩ => ⟨S40x512, .f32⟩
  | .hbm, ⟨5, _⟩ => ⟨S40x512, .f32⟩
  | .hbm, ⟨6, _⟩ => ⟨S40x512, .f32⟩
  | .local _ .vmem, ⟨0, _⟩ => ⟨S40x512, .f32⟩
  | .local _ .vmem, ⟨1, _⟩ => ⟨S40x512, .f32⟩
  | .local _ .vmem, ⟨2, _⟩ => ⟨S40x512, .f32⟩
  | .local _ .vmem, ⟨3, _⟩ => ⟨S40x512, .f32⟩
  | .local _ .vmem, ⟨4, _⟩ => ⟨S40x512, .f32⟩
  | .local _ .vmem, ⟨5, _⟩ => ⟨S40x512, .f32⟩
  | .local _ .vmem, ⟨6, _⟩ => ⟨S40x512, .f32⟩
  | _, _ => ⟨S40x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S40x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S40x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S40x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S40x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S40x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S40x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S40x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== SmallReferenceIdeal.lean ====
abbrev S40x512 : Shape := ⟨2, ![40, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S40x512, .f32⟩
  | .hbm, ⟨1, _⟩ => ⟨S40x512, .f32⟩
  | .hbm, ⟨2, _⟩ => ⟨S40x512, .f32⟩
  | .hbm, ⟨3, _⟩ => ⟨S40x512, .f32⟩
  | .hbm, ⟨4, _⟩ => ⟨S_, .f32⟩
  | .hbm, ⟨5, _⟩ => ⟨S40x512, .f32⟩
  | .hbm, ⟨6, _⟩ => ⟨S40x512, .f32⟩
  | .hbm, ⟨7, _⟩ => ⟨S_, .f32⟩
  | .hbm, ⟨8, _⟩ => ⟨S40x512, .f32⟩
  | .hbm, ⟨9, _⟩ => ⟨S40x512, .f32⟩
  | .hbm, ⟨10, _⟩ => ⟨S40x512, .f32⟩
  | .hbm, ⟨11, _⟩ => ⟨S_, .f32⟩
  | .hbm, ⟨12, _⟩ => ⟨S40x512, .f32⟩
  | .hbm, ⟨13, _⟩ => ⟨S40x512, .f32⟩
  | .hbm, ⟨14, _⟩ => ⟨S40x512, .f32⟩
  | .hbm, ⟨15, _⟩ => ⟨S_, .f32⟩
  | .hbm, ⟨16, _⟩ => ⟨S40x512, .f32⟩
  | .hbm, ⟨17, _⟩ => ⟨S40x512, .f32⟩
  | .hbm, ⟨18, _⟩ => ⟨S40x512, .f32⟩
  | .hbm, ⟨19, _⟩ => ⟨S_, .f32⟩
  | .hbm, ⟨20, _⟩ => ⟨S40x512, .f32⟩
  | .hbm, ⟨21, _⟩ => ⟨S40x512, .f32⟩
  | .hbm, ⟨22, _⟩ => ⟨S_, .f32⟩
  | .hbm, ⟨23, _⟩ => ⟨S40x512, .f32⟩
  | .hbm, ⟨24, _⟩ => ⟨S40x512, .f32⟩
  | .hbm, ⟨25, _⟩ => ⟨S40x512, .f32⟩
  | .hbm, ⟨26, _⟩ => ⟨S_, .f32⟩
  | .hbm, ⟨27, _⟩ => ⟨S40x512, .f32⟩
  | .hbm, ⟨28, _⟩ => ⟨S40x512, .f32⟩
  | .hbm, ⟨29, _⟩ => ⟨S40x512, .f32⟩
  | .hbm, ⟨30, _⟩ => ⟨S_, .f32⟩
  | .hbm, ⟨31, _⟩ => ⟨S40x512, .f32⟩
  | .hbm, ⟨32, _⟩ => ⟨S40x512, .f32⟩
  | .hbm, ⟨33, _⟩ => ⟨S40x512, .f32⟩
  | .hbm, ⟨34, _⟩ => ⟨S_, .f32⟩
  | .hbm, ⟨35, _⟩ => ⟨S40x512, .f32⟩
  | .hbm, ⟨36, _⟩ => ⟨S40x512, .f32⟩
  | _, _ => ⟨S40x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Taps.lean ====
abbrev S62x64 : Shape := ⟨2, ![62, 64]⟩

abbrev nBuf : Space → Nat
  | .hbm => 7
  | .vmem => 7
  | .smem => 0
  | _ => 0

abbrev bufTy : (tb : Table) → Fin (tcTables nBuf tb) → BufTy
  | .hbm, ⟨0, _⟩ => ⟨S62x64, .f32⟩
  | .hbm, ⟨1, _⟩ => ⟨S62x64, .f32⟩
  | .hbm, ⟨2, _⟩ => ⟨S62x64, .f32⟩
  | .hbm, ⟨3, _⟩ => ⟨S62x64, .f32⟩
  | .hbm, ⟨4, _⟩ => ⟨S62x64, .f32⟩
  | .hbm, ⟨5, _⟩ => ⟨S62x64, .f32⟩
  | .hbm, ⟨6, _⟩ => ⟨S62x64, .f32⟩
  | .local _ .vmem, ⟨0, _⟩ => ⟨S62x64, .f32⟩
  | .local _ .vmem, ⟨1, _⟩ => ⟨S62x64, .f32⟩
  | .local _ .vmem, ⟨2, _⟩ => ⟨S62x64, .f32⟩
  | .local _ .vmem, ⟨3, _⟩ => ⟨S62x64, .f32⟩
  | .local _ .vmem, ⟨4, _⟩ => ⟨S62x64, .f32⟩
  | .local _ .vmem, ⟨5, _⟩ => ⟨S62x64, .f32⟩
  | .local _ .vmem, ⟨6, _⟩ => ⟨S62x64, .f32⟩
  | _, _ => ⟨S62x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S62x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S62x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== TapsReferenceIdeal.lean ====
abbrev S62x64 : Shape := ⟨2, ![62, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S62x64, .f32⟩
  | .hbm, ⟨1, _⟩ => ⟨S62x64, .f32⟩
  | .hbm, ⟨2, _⟩ => ⟨S62x64, .f32⟩
  | .hbm, ⟨3, _⟩ => ⟨S62x64, .f32⟩
  | .hbm, ⟨4, _⟩ => ⟨S_, .f32⟩
  | .hbm, ⟨5, _⟩ => ⟨S62x64, .f32⟩
  | .hbm, ⟨6, _⟩ => ⟨S62x64, .f32⟩
  | .hbm, ⟨7, _⟩ => ⟨S_, .f32⟩
  | .hbm, ⟨8, _⟩ => ⟨S62x64, .f32⟩
  | .hbm, ⟨9, _⟩ => ⟨S62x64, .f32⟩
  | .hbm, ⟨10, _⟩ => ⟨S62x64, .f32⟩
  | .hbm, ⟨11, _⟩ => ⟨S_, .f32⟩
  | .hbm, ⟨12, _⟩ => ⟨S62x64, .f32⟩
  | .hbm, ⟨13, _⟩ => ⟨S62x64, .f32⟩
  | .hbm, ⟨14, _⟩ => ⟨S62x64, .f32⟩
  | .hbm, ⟨15, _⟩ => ⟨S_, .f32⟩
  | .hbm, ⟨16, _⟩ => ⟨S62x64, .f32⟩
  | .hbm, ⟨17, _⟩ => ⟨S62x64, .f32⟩
  | .hbm, ⟨18, _⟩ => ⟨S62x64, .f32⟩
  | .hbm, ⟨19, _⟩ => ⟨S_, .f32⟩
  | .hbm, ⟨20, _⟩ => ⟨S62x64, .f32⟩
  | .hbm, ⟨21, _⟩ => ⟨S62x64, .f32⟩
  | .hbm, ⟨22, _⟩ => ⟨S_, .f32⟩
  | .hbm, ⟨23, _⟩ => ⟨S62x64, .f32⟩
  | .hbm, ⟨24, _⟩ => ⟨S62x64, .f32⟩
  | .hbm, ⟨25, _⟩ => ⟨S62x64, .f32⟩
  | .hbm, ⟨26, _⟩ => ⟨S_, .f32⟩
  | .hbm, ⟨27, _⟩ => ⟨S62x64, .f32⟩
  | .hbm, ⟨28, _⟩ => ⟨S62x64, .f32⟩
  | .hbm, ⟨29, _⟩ => ⟨S62x64, .f32⟩
  | .hbm, ⟨30, _⟩ => ⟨S_, .f32⟩
  | .hbm, ⟨31, _⟩ => ⟨S62x64, .f32⟩
  | .hbm, ⟨32, _⟩ => ⟨S62x64, .f32⟩
  | .hbm, ⟨33, _⟩ => ⟨S62x64, .f32⟩
  | .hbm, ⟨34, _⟩ => ⟨S_, .f32⟩
  | .hbm, ⟨35, _⟩ => ⟨S62x64, .f32⟩
  | .hbm, ⟨36, _⟩ => ⟨S62x64, .f32⟩
  | _, _ => ⟨S62x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Opt.lean ====
abbrev S2 : Shape := ⟨1, ![2]⟩
abbrev S2x128x1024 : Shape := ⟨3, ![2, 128, 1024]⟩
abbrev S1x128x1024 : Shape := ⟨3, ![1, 128, 1024]⟩
abbrev S4x1x128x1024 : Shape := ⟨4, ![4, 1, 128, 1024]⟩
abbrev S1 : Shape := ⟨1, ![1]⟩
abbrev S128x1024 : Shape := ⟨2, ![128, 1024]⟩
abbrev S1x1x128x1024 : Shape := ⟨4, ![1, 1, 128, 1024]⟩

abbrev nBuf : Space → Nat
  | .hbm => 11
  | .vmem => 22
  | .smem => 1
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S1x128x1024, .bf16⟩
  | .hbm, ⟨4, _⟩ => ⟨S1x128x1024, .bf16⟩
  | .hbm, ⟨5, _⟩ => ⟨S4x1x128x1024, .bf16⟩
  | .hbm, ⟨6, _⟩ => ⟨S4x1x128x1024, .bf16⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .bf16⟩
  | .local _ .vmem, ⟨7, _⟩ => ⟨S1x128x1024, .bf16⟩
  | .local _ .vmem, ⟨8, _⟩ => ⟨S1x128x1024, .bf16⟩
  | .local _ .vmem, ⟨9, _⟩ => ⟨S1x128x1024, .bf16⟩
  | .local _ .vmem, ⟨10, _⟩ => ⟨S4x1x128x1024, .bf16⟩
  | .local _ .vmem, ⟨11, _⟩ => ⟨S4x1x128x1024, .bf16⟩
  | .local _ .vmem, ⟨12, _⟩ => ⟨S4x1x128x1024, .bf16⟩
  | .local _ .vmem, ⟨13, _⟩ => ⟨S4x1x128x1024, .bf16⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .vmem, ⟨18, _⟩ => ⟨S1x128x1024, .f32⟩
  | .local _ .vmem, ⟨19, _⟩ => ⟨S1x128x1024, .f32⟩
  | .local _ .vmem, ⟨20, _⟩ => ⟨S1x128x1024, .f32⟩
  | .local _ .vmem, ⟨21, _⟩ => ⟨S1x128x1024, .f32⟩
  | .local _ .smem, ⟨0, _⟩ => ⟨S2, .i32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_cond2 (i : grid0.Coords) : BitVec 1 :=
  let arg0 : BitVec 32 := BitVec.ofNat 32 (i 0).val
  let c1_i32 : BitVec 32 := 1#32
  let v4 : BitVec 1 := Scalar.cmpi .eq arg0 c1_i32
  let v5 : BitVec 32 := Scalar.extui v4
  let c0_i32_1 : BitVec 32 := 0#32
  let v6 : BitVec 1 := Scalar.cmpi .ne v5 c0_i32_1
  v6

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  let c0_i32_4 : BitVec 32 := 0#32
  ![c0_i32_1.toNat, c0_i32_2.toNat, v1.toNat, c0_i32_3.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1x128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== OptReferenceIdeal.lean ====
abbrev S2 : Shape := ⟨1, ![2]⟩
abbrev S2x128x1024 : Shape := ⟨3, ![2, 128, 1024]⟩
abbrev S1x128x1024 : Shape := ⟨3, ![1, 128, 1024]⟩
abbrev S4x1x128x1024 : Shape := ⟨4, ![4, 1, 128, 1024]⟩
abbrev S4 : Shape := ⟨1, ![4]⟩
abbrev S1 : Shape := ⟨1, ![1]⟩
abbrev S_ : Shape := ⟨0, ![]⟩
abbrev S4x1x1 : Shape := ⟨3, ![4, 1, 1]⟩
abbrev S4x128x1024 : Shape := ⟨3, ![4, 128, 1024]⟩
abbrev S128x1024 : Shape := ⟨2, ![128, 1024]⟩

abbrev nBuf : Space → Nat
  | .hbm => 72
  | .vmem => 0
  | .smem => 0
  | _ => 0

abbrev bufTy : (tb : Table) → Fin (tcTables nBuf tb) → BufTy
  | .hbm, ⟨0, _⟩ => ⟨S2, .i32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S1x128x1024, .bf16⟩
  | .hbm, ⟨5, _⟩ => ⟨S1x128x1024, .bf16⟩
  | .hbm, ⟨6, _⟩ => ⟨S4x1x128x1024, .bf16⟩
  | .hbm, ⟨7, _⟩ => ⟨S4x1x128x1024, .bf16⟩
  | .hbm, ⟨8, _⟩ => ⟨S4, .i32⟩
  | .hbm, ⟨9, _⟩ => ⟨S1, .i32⟩
  | .hbm, ⟨10, _⟩ => ⟨S_, .i32⟩
  | .hbm, ⟨11, _⟩ => ⟨S4, .i32⟩
  | .hbm, ⟨12, _⟩ => ⟨S4, .i1⟩
  | .hbm, ⟨13, _⟩ => ⟨S4x1x1, .i1⟩
  | .hbm, ⟨14, _⟩ => ⟨S1x128x1024, .f32⟩
  | .hbm, ⟨15, _⟩ => ⟨S4x128x1024, .bf16⟩
  | .hbm, ⟨16, _⟩ => ⟨S4x128x1024, .f32⟩
  | .hbm, ⟨17, _⟩ => ⟨S4x128x1024, .i1⟩
  | .hbm, ⟨18, _⟩ => ⟨S4x128x1024, .f32⟩
  | .hbm, ⟨19, _⟩ => ⟨S4x128x1024, .f32⟩
  | .hbm, ⟨20, _⟩ => ⟨S_, .f32⟩
  | .hbm, ⟨21, _⟩ => ⟨S128x1024, .f32⟩
  | .hbm, ⟨22, _⟩ => ⟨S4, .i32⟩
  | .hbm, ⟨23, _⟩ => ⟨S1, .i32⟩
  | .hbm, ⟨24, _⟩ => ⟨S_, .i32⟩
  | .hbm, ⟨25, _⟩ => ⟨S4, .i32⟩
  | .hbm, ⟨26, _⟩ => ⟨S4, .i1⟩
  | .hbm, ⟨27, _⟩ => ⟨S4x1x1, .i1⟩
  | .hbm, ⟨28, _⟩ => ⟨S1x128x1024, .f32⟩
  | .hbm, ⟨29, _⟩ => ⟨S4x128x1024, .bf16⟩
  | .hbm, ⟨30, _⟩ => ⟨S4x128x1024, .f32⟩
  | .hbm, ⟨31, _⟩ => ⟨S4x128x1024, .i1⟩
  | .hbm, ⟨32, _⟩ => ⟨S4x128x1024, .f32⟩
  | .hbm, ⟨33, _⟩ => ⟨S4x128x1024, .f32⟩
  | .hbm, ⟨34, _⟩ => ⟨S_, .f32⟩
  | .hbm, ⟨35, _⟩ => ⟨S128x1024, .f32⟩
  | .hbm, ⟨36, _⟩ => ⟨S1x128x1024, .f32⟩
  | .hbm, ⟨37, _⟩ => ⟨S1x128x1024, .f32⟩
  | .hbm, ⟨38, _⟩ => ⟨S2x128x1024, .f32⟩
  | .hbm, ⟨39, _⟩ => ⟨S_, .f32⟩
  | .hbm, ⟨40, _⟩ => ⟨S2x128x1024, .f32⟩
  | .hbm, ⟨41, _⟩ => ⟨S2x128x1024, .f32⟩
  | .hbm, ⟨42, _⟩ => ⟨S_, .f32⟩
  | .hbm, ⟨43, _⟩ => ⟨S2x128x1024, .f32⟩
  | .hbm, ⟨44, _⟩ => ⟨S2x128x1024, .f32⟩
  | .hbm, ⟨45, _⟩ => ⟨S2x128x1024, .f32⟩
  | .hbm, ⟨46, _⟩ => ⟨S_, .f32⟩
  | .hbm, ⟨47, _⟩ => ⟨S2x128x1024, .f32⟩
  | .hbm, ⟨48, _⟩ => ⟨S2x128x1024, .f32⟩
  | .hbm, ⟨49, _⟩ => ⟨S2x128x1024, .f32⟩
  | .hbm, ⟨50, _⟩ => ⟨S_, .f32⟩
  | .hbm, ⟨51, _⟩ => ⟨S2x128x1024, .f32⟩
  | .hbm, ⟨52, _⟩ => ⟨S2x128x1024, .f32⟩
  | .hbm, ⟨53, _⟩ => ⟨S2x128x1024, .f32⟩
  | .hbm, ⟨54, _⟩ => ⟨S_, .f32⟩
  | .hbm, ⟨55, _⟩ => ⟨S2x128x1024, .f32⟩
  | .hbm, ⟨56, _⟩ => ⟨S2x128x1024, .f32⟩
  | .hbm, ⟨57, _⟩ => ⟨S_, .f32⟩
  | .hbm, ⟨58, _⟩ => ⟨S2x128x1024, .f32⟩
  | .hbm, ⟨59, _⟩ => ⟨S2x128x1024, .f32⟩
  | .hbm, ⟨60, _⟩ => ⟨S2x128x1024, .f32⟩
  | .hbm, ⟨61, _⟩ => ⟨S_, .f32⟩
  | .hbm, ⟨62, _⟩ => ⟨S2x128x1024, .f32⟩
  | .hbm, ⟨63, _⟩ => ⟨S2x128x1024, .f32⟩
  | .hbm, ⟨64, _⟩ => ⟨S2x128x1024, .f32⟩
  | .hbm, ⟨65, _⟩ => ⟨S_, .f32⟩
  | .hbm, ⟨66, _⟩ => ⟨S2x128x1024, .f32⟩
  | .hbm, ⟨67, _⟩ => ⟨S2x128x1024, .f32⟩
  | .hbm, ⟨68, _⟩ => ⟨S2x128x1024, .f32⟩
  | .hbm, ⟨69, _⟩ => ⟨S_, .f32⟩
  | .hbm, ⟨70, _⟩ => ⟨S2x128x1024, .f32⟩
  | .hbm, ⟨71, _⟩ => ⟨S2x128x1024, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_call0_v1 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call1_v0 : Ref sig .tc := ⟨.hbm, 31, rfl⟩
abbrev main_call1_v1 : Ref sig .tc := ⟨.hbm, 32, rfl⟩
abbrev main_v20 : Ref sig .tc := ⟨.hbm, 33, rfl⟩
abbrev main_cst_0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_1 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩

abbrev nD : Nat := 1
abbrev τ : Topo := Topo.v7x

variable {F : FTy → Type} [FloatOps F]
-- ==== Proof.Frames.lean ====
/- The runs of the three programs: each terminates, leaves its arguments unchanged and every semaphore counter at zero. -/
module

public import proofs.«01_k».proof.Defs
public import proofs.«01_k».proof.Proof.Gen.Kernel.Frame
public import proofs.«01_k».proof.Proof.Gen.KernelIdeal.Frame
public import proofs.«01_k».proof.Proof.Gen.ReferenceIdeal.Run

@[expose] public section

set_option maxRecDepth 16384

noncomputable section

namespace Cert.Fox

open Idealize.ShloMosaic Idealize.SL.Sem

/-- The kernel runs, and leaves its arguments unchanged and every counter at zero. -/
theorem frame_kernel : Cert.quiescent_Kernel := fun m g _ => Cert.Kernel.Gen.frame m g

/-- The idealized kernel runs, and leaves its arguments unchanged and every counter at zero. -/
theorem frame_kernelIdeal : Cert.quiescent_KernelIdeal := fun m g _ => Cert.KernelIdeal.Gen.frame m g

/-- The idealized reference runs, and leaves its arguments unchanged; it has no semaphores. -/
theorem frame_reference : Cert.quiescent_ReferenceIdeal := fun m g _ =>
  (θ_run Cert.ReferenceIdeal.defs _ _).mono
    (fun r h => ⟨fun c => (h c).2.2.2.2.2, Idealize.ShloMosaic.sem_eq_zero_of_no_sems (by decide) r.2⟩)
    (Cert.ReferenceIdeal.Value.run (F := Ideal) m g)

/-- The named mask constant is `⊥` where the program reads it as an extended real, and the printed word where it reads bits. -/
theorem preserves : Cert.preserves_Kernel_KernelIdeal :=
  IdealRules.named_const.statement Cert.KernelIdeal.κ "mask" .f32 0xF149F2CA#32 ⊥ rfl

end Cert.Fox
-- ==== Proof.Ops.lean ====
/- Vectors that hold real numbers: each vector operation of the two kernels, read on arrays of reals. -/
module

public import Idealize.ShloMosaic.Lib.Pointwise
public import Idealize.ShloMosaic.Lib.Pointwise.IndexVar
public import Idealize.ShloMosaic.Lib.Pipeline.ValueKit
public import Mathlib.Analysis.SpecialFunctions.Log.Basic

@[expose] public section

set_option maxRecDepth 16384

noncomputable section

namespace Cert.Fox

open Idealize.ShloMosaic

variable {a b n m k : ℕ} {φ ψ : FTy}

/-- The matrix `x` holds the real number `f i j` in row `i` and column `j`. -/
def Real2 (x : FVec Ideal ⟨2, ![a, b]⟩ φ) (f : ℕ → ℕ → ℝ) : Prop :=
  ∀ (i : Fin a) (j : Fin b), x (ix2 i j) = ((f i j : ℝ) : EReal)

/-- The vector `x` holds the real number `f i` at `i`. -/
def Real1 (x : FVec Ideal ⟨1, ![a]⟩ φ) (f : ℕ → ℝ) : Prop :=
  ∀ i : Fin a, x (ix1 i) = ((f i : ℝ) : EReal)

/-- The box `x` holds the real number `f h i j` at `(h, i, j)`. -/
def Real3 (x : FVec Ideal ⟨3, ![n, a, b]⟩ φ) (f : ℕ → ℕ → ℕ → ℝ) : Prop :=
  ∀ (h : Fin n) (i : Fin a) (j : Fin b), x (ix3 h i j) = ((f h i j : ℝ) : EReal)

/-- Row `i` of the matrix `x` holds `f i j` in the columns `j ≤ off + i` and `⊥` after them. -/
def Masked (x : FVec Ideal ⟨2, ![a, b]⟩ φ) (off : ℕ) (f : ℕ → ℕ → ℝ) : Prop :=
  ∀ (i : Fin a) (j : Fin b), x (ix2 i j) = if (j : ℕ) ≤ off + i then ((f i j : ℝ) : EReal) else ⊥

theorem coe_sum {ι : Type*} (s : Finset ι) (f : ι → ℝ) : ((∑ i ∈ s, f i : ℝ) : EReal) = ∑ i ∈ s, (f i : EReal) := by
  classical
  induction s using Finset.induction_on with
  | empty => simp
  | insert x s hx ih => rw [Finset.sum_insert hx, Finset.sum_insert hx, EReal.coe_add, ih]

theorem eighth : Ideal.ofBits .f32 0x3E000000#32 = ((1 / 8 : ℝ) : EReal) := by
  simp [Ideal.ofBits, Ideal.ieee]
  rw [← EReal.coe_mul]; norm_num

theorem Real2.congr {x : FVec Ideal ⟨2, ![a, b]⟩ φ} {f g : ℕ → ℕ → ℝ} (h : Real2 x f) (e : ∀ i < a, ∀ j < b, f i j = g i j) :
    Real2 x g := fun i j => by rw [h i j, e i i.isLt j j.isLt]

theorem Real2.addf {x y : FVec Ideal ⟨2, ![a, b]⟩ φ} {f g : ℕ → ℕ → ℝ} (hx : Real2 x f) (hy : Real2 y g) :
    Real2 (addf x y) (fun i j => f i j + g i j) := fun i j => by
  pointwise; rw [hx i j, hy i j, EReal.coe_add]

theorem Real2.subf {x y : FVec Ideal ⟨2, ![a, b]⟩ φ} {f g : ℕ → ℕ → ℝ} (hx : Real2 x f) (hy : Real2 y g) :
    Real2 (subf x y) (fun i j => f i j - g i j) := fun i j => by
  pointwise; rw [hx i j, hy i j, EReal.coe_sub]

theorem Real2.mulf {x y : FVec Ideal ⟨2, ![a, b]⟩ φ} {f g : ℕ → ℕ → ℝ} (hx : Real2 x f) (hy : Real2 y g) :
    Real2 (mulf x y) (fun i j => f i j * g i j) := fun i j => by
  pointwise; rw [hx i j, hy i j, EReal.coe_mul]

theorem Real2.truncf {x : FVec Ideal ⟨2, ![a, b]⟩ φ} {f : ℕ → ℕ → ℝ} (hx : Real2 x f) (h : ψ.bits < φ.bits) :
    Real2 (truncf ψ x h : FVec Ideal ⟨2, ![a, b]⟩ ψ) f := fun i j => by
  pointwise; exact hx i j

theorem Real2.zero : Real2 (constant (F := Ideal) ⟨2, ![a, b]⟩ .f32 0x00000000#32) (fun _ _ => 0) := fun i j => by
  pointwise; rfl

theorem Real2.eighth : Real2 (broadcast ⟨2, ![a, b]⟩ (Scalar.ofBits .f32 0x3E000000#32) : FVec Ideal ⟨2, ![a, b]⟩ .f32)
    (fun _ _ => 1 / 8) := fun i j => by
  pointwise; exact Fox.eighth

theorem Real2.col {x : FVec Ideal ⟨2, ![a, 1]⟩ φ} {f : ℕ → ℕ → ℝ} (hx : Real2 x f)
    (h : (⟨2, ![a, 1]⟩ : Shape).Broadcasts ⟨2, ![a, n]⟩) : Real2 (broadcastTo ⟨2, ![a, n]⟩ x h) (fun i _ => f i 0) := fun i j => by
  pointwise
  refine (hx _ 0).trans ?_
  congr 2
  change ((if h : a = 1 then (⟨0, h ▸ Nat.one_pos⟩ : Fin a) else i : Fin a) : ℕ) = i
  split
  · have := i.isLt
    simp; omega
  · rfl

theorem Real2.row {x : FVec Ideal ⟨2, ![1, n]⟩ φ} {f : ℕ → ℕ → ℝ} (hx : Real2 x f)
    (h : (⟨2, ![1, n]⟩ : Shape).Broadcasts ⟨2, ![a, n]⟩) : Real2 (broadcastTo ⟨2, ![a, n]⟩ x h) (fun _ j => f 0 j) := fun i j => by
  pointwise
  refine (hx 0 _).trans ?_
  congr 2
  change ((if h : n = 1 then (⟨0, h ▸ Nat.one_pos⟩ : Fin n) else j : Fin n) : ℕ) = j
  split
  · have := j.isLt
    simp; omega
  · rfl

theorem Real2.matmul_nt {x : FVec Ideal ⟨2, ![a, k]⟩ φ} {y : FVec Ideal ⟨2, ![n, k]⟩ φ} {z : FVec Ideal ⟨2, ![a, n]⟩ .f32}
    {f g h : ℕ → ℕ → ℝ} (hx : Real2 x f) (hy : Real2 y g) (hz : Real2 z h) (wf) :
    Real2 (matmul (⟨[1], [1], [0], [0], [], [], wf⟩ : DotDims ⟨2, ![a, k]⟩ ⟨2, ![n, k]⟩ ⟨2, ![a, n]⟩) none x y z)
      (fun i j => h i j + ∑ d ∈ Finset.range k, f i d * g j d) := fun i j => by
  pointwise
  rw [Ideal.matmul_apply₁_of _ rfl (K := k) rfl x y z (ix2 i j) (fun d : Fin k => ix2 i d) (fun d : Fin k => ix2 j d)
    (fun d => by funext p; match p with | ⟨0, _⟩ => rfl | ⟨1, _⟩ => rfl) (fun d => by funext p; match p with | ⟨0, _⟩ => rfl | ⟨1, _⟩ => rfl)]
  rw [hz i j, Finset.sum_range, EReal.coe_add, coe_sum]
  simp only [hx _ _, hy _ _, EReal.coe_mul]

theorem Real2.matmul_nn {x : FVec Ideal ⟨2, ![a, k]⟩ φ} {y : FVec Ideal ⟨2, ![k, n]⟩ φ} {z : FVec Ideal ⟨2, ![a, n]⟩ .f32}
    {f g h : ℕ → ℕ → ℝ} (hx : Real2 x f) (hy : Real2 y g) (hz : Real2 z h) (wf) :
    Real2 (matmul (⟨[1], [0], [0], [1], [], [], wf⟩ : DotDims ⟨2, ![a, k]⟩ ⟨2, ![k, n]⟩ ⟨2, ![a, n]⟩) none x y z)
      (fun i j => h i j + ∑ d ∈ Finset.range k, f i d * g d j) := fun i j => by
  pointwise
  rw [Ideal.matmul_apply₁_of _ rfl (K := k) rfl x y z (ix2 i j) (fun d : Fin k => ix2 i d) (fun d : Fin k => ix2 d j)
    (fun d => by funext p; match p with | ⟨0, _⟩ => rfl | ⟨1, _⟩ => rfl) (fun d => by funext p; match p with | ⟨0, _⟩ => rfl | ⟨1, _⟩ => rfl)]
  rw [hz i j, Finset.sum_range, EReal.coe_add, coe_sum]
  simp only [hx _ _, hy _ _, EReal.coe_mul]

theorem Real2.matmul_tn {x : FVec Ideal ⟨2, ![k, a]⟩ φ} {y : FVec Ideal ⟨2, ![k, n]⟩ φ} {z : FVec Ideal ⟨2, ![a, n]⟩ .f32}
    {f g h : ℕ → ℕ → ℝ} (hx : Real2 x f) (hy : Real2 y g) (hz : Real2 z h) (wf) :
    Real2 (matmul (⟨[0], [0], [1], [1], [], [], wf⟩ : DotDims ⟨2, ![k, a]⟩ ⟨2, ![k, n]⟩ ⟨2, ![a, n]⟩) none x y z)
      (fun i j => h i j + ∑ d ∈ Finset.range k, f d i * g d j) := fun i j => by
  pointwise
  rw [Ideal.matmul_apply₁_of _ rfl (K := k) rfl x y z (ix2 i j) (fun d : Fin k => ix2 d i) (fun d : Fin k => ix2 d j)
    (fun d => by funext p; match p with | ⟨0, _⟩ => rfl | ⟨1, _⟩ => rfl) (fun d => by funext p; match p with | ⟨0, _⟩ => rfl | ⟨1, _⟩ => rfl)]
  rw [hz i j, Finset.sum_range, EReal.coe_add, coe_sum]
  simp only [hx _ _, hy _ _, EReal.coe_mul]

theorem Real2.rowSum {x : FVec Ideal ⟨2, ![a, n]⟩ .f32} {f : ℕ → ℕ → ℝ} (hx : Real2 x f)
    (h : (⟨2, ![a, n]⟩ : Shape).Reduces [1] ⟨1, ![a]⟩) (h1) (h2) :
    Real1 (multiReduction .add [1] ⟨1, ![a]⟩ x 0x00000000#32 h h1 h2) (fun i => ∑ j ∈ Finset.range n, f i j) := fun i => by
  pointwise; rw [Finset.sum_range, coe_sum]; exact Finset.sum_congr rfl fun j _ => hx i j

theorem Real2.colSum {x : FVec Ideal ⟨2, ![a, n]⟩ .f32} {f : ℕ → ℕ → ℝ} (hx : Real2 x f)
    (h : (⟨2, ![a, n]⟩ : Shape).Reduces [0] ⟨1, ![n]⟩) (h1) (h2) :
    Real1 (multiReduction .add [0] ⟨1, ![n]⟩ x 0x00000000#32 h h1 h2) (fun j => ∑ i ∈ Finset.range a, f i j) := fun j => by
  pointwise; rw [Finset.sum_range, coe_sum]; exact Finset.sum_congr rfl fun i _ => hx i j

theorem Real1.toCol {x : FVec Ideal ⟨1, ![256]⟩ φ} {f : ℕ → ℝ} (hx : Real1 x f) (h) :
    Real2 (shapeCast ⟨2, ![256, 1]⟩ x h) (fun i _ => f i) := fun i j => by
  pointwise; exact hx i

theorem Real3.toCol {x : FVec Ideal ⟨3, ![1, 256, 1]⟩ φ} {f : ℕ → ℕ → ℕ → ℝ} (hx : Real3 x f) (h) :
    Real2 (shapeCast ⟨2, ![256, 1]⟩ x h) (fun i _ => f 0 i 0) := fun i j => by
  pointwise; exact hx 0 i 0

theorem Real2.boxCol {x : FVec Ideal ⟨2, ![256, 1]⟩ φ} {f : ℕ → ℕ → ℝ} (hx : Real2 x f) (h) :
    Real3 (shapeCast ⟨3, ![1, 256, 1]⟩ x h) (fun _ i _ => f i 0) := fun e i j => by
  pointwise; exact hx i 0

theorem Real2.exp_sub_row {x : FVec Ideal ⟨2, ![a, b]⟩ φ} {y : FVec Ideal ⟨2, ![a, b]⟩ φ} {off : ℕ} {f g : ℕ → ℕ → ℝ} (hx : Masked x off f)
    (hy : Real2 y g) : Real2 (exp (Idealize.ShloMosaic.subf x y)) (fun i j => if j ≤ off + i then Real.exp (f i j - g i j) else 0) := fun i j => by
  pointwise; rw [hx i j, hy i j]
  split
  · rw [← EReal.coe_sub]; rfl
  · rfl

end Cert.Fox
-- ==== Proof.Head.lean ====
/- One attention head over the reals: the forgetting attention, and the gradients of its four inputs. -/
module

public import Mathlib.Analysis.SpecialFunctions.Log.Basic
public import Mathlib.Algebra.BigOperators.Field

@[expose] public section

noncomputable section

namespace Cert.Fox

open Finset

/-- The queries, keys and values of one head (position, lane), the gradient of its output, and the running sum of its
    logarithmic forget gates. -/
structure Head where
  q : ℕ → ℕ → ℝ
  k : ℕ → ℕ → ℝ
  v : ℕ → ℕ → ℝ
  g : ℕ → ℕ → ℝ
  c : ℕ → ℝ

namespace Head

variable (A : Head)

/-- The logit of query `t` at key `s`. -/
def x (t s : ℕ) : ℝ := (∑ d ∈ range 64, A.q t d * A.k s d) * (1 / 8) + (A.c t - A.c s)

/-- The sum of the exponentials of row `t`'s logits, over the keys up to `t`. -/
def Z (t : ℕ) : ℝ := ∑ s ∈ range (t + 1), Real.exp (A.x t s)

/-- The attention of query `t` to key `s`. -/
def P (t s : ℕ) : ℝ := if s ≤ t then Real.exp (A.x t s) / A.Z t else 0

/-- The gradient of the attention of query `t` to key `s`. -/
def dP (t s : ℕ) : ℝ := ∑ d ∈ range 64, A.g t d * A.v s d

/-- The gradient of the logit of query `t` at key `s`. -/
def dS (t s : ℕ) : ℝ := A.P t s * (A.dP t s - ∑ s' ∈ range 2048, A.P t s' * A.dP t s')

/-- The head's output. -/
def o (t d : ℕ) : ℝ := ∑ s ∈ range 2048, A.P t s * A.v s d

/-- The gradient of the queries. -/
def dq (t d : ℕ) : ℝ := (∑ s ∈ range 2048, A.dS t s * A.k s d) * (1 / 8)

/-- The gradient of the keys. -/
def dk (s d : ℕ) : ℝ := (∑ t ∈ range 2048, A.dS t s * A.q t d) * (1 / 8)

/-- The gradient of the values. -/
def dv (s d : ℕ) : ℝ := ∑ t ∈ range 2048, A.P t s * A.g t d

/-- The sum over the queries of the gradient of the logits at key `s`: minus the gradient of `c s`. -/
def dc (s : ℕ) : ℝ := ∑ t ∈ range 2048, A.dS t s

theorem Z_pos (t : ℕ) : 0 < A.Z t := sum_pos (fun _ _ => Real.exp_pos _) ⟨0, by simp⟩

theorem P_of_lt {t s : ℕ} (h : t < s) : A.P t s = 0 := by unfold P; rw [if_neg (by omega)]

theorem dS_of_lt {t s : ℕ} (h : t < s) : A.dS t s = 0 := by unfold dS; rw [A.P_of_lt h, zero_mul]

end Head

/-- A sum over the first `n` numbers of what vanishes after `t` is the sum over the first `m`, where both reach past `t`. -/
theorem sum_cut {n m t : ℕ} {f : ℕ → ℝ} (hn : t < n) (hm : t < m) (h : ∀ s, t < s → f s = 0) :
    ∑ s ∈ range n, f s = ∑ s ∈ range m, f s := by
  have e : ∀ k, t < k → ∑ s ∈ range k, f s = ∑ s ∈ range (t + 1), f s := fun k hk =>
    (sum_subset (range_subset_range.2 (by omega)) fun s _ hs => h s (by simpa using hs)).symm
  rw [e n hn, e m hm]

/-- The sum of a row's exponentials, each shifted by `M`, in a row of length `n` with the keys after `t` left out. -/
theorem sum_exp_shift (f : ℕ → ℝ) (M : ℝ) {n t : ℕ} (h : t < n) :
    ∑ s ∈ range n, (if s ≤ t then Real.exp (f s - M) else 0) = (∑ s ∈ range (t + 1), Real.exp (f s)) / Real.exp M := by
  rw [sum_cut h (Nat.lt_succ_self t) (fun s hs => if_neg (by omega)), sum_div]
  refine sum_congr rfl fun s hs => ?_
  rw [if_pos (by simpa [Nat.lt_succ_iff] using hs), Real.exp_sub]

namespace Head

variable (A : Head)

/-- The attention by the exponentials of the shifted logits. -/
theorem P_shift (M : ℝ) {n t : ℕ} (h : t < n) (s : ℕ) :
    (if s ≤ t then Real.exp (A.x t s - M) else 0) / (∑ s ∈ range n, if s ≤ t then Real.exp (A.x t s - M) else 0) = A.P t s := by
  rw [sum_exp_shift (A.x t) M h]
  unfold P
  split
  · rw [Real.exp_sub, div_div_div_cancel_right₀ (Real.exp_ne_zero M)]; rfl
  · rw [zero_div]

/-- The logarithm of a row's sum, by the shifted logits. -/
theorem log_shift (M : ℝ) {n t : ℕ} (h : t < n) :
    M + Real.log (∑ s ∈ range n, if s ≤ t then Real.exp (A.x t s - M) else 0) = Real.log (A.Z t) := by
  rw [sum_exp_shift (A.x t) M h]
  change M + Real.log (A.Z t / Real.exp M) = _
  rw [Real.log_div (ne_of_gt (A.Z_pos t)) (Real.exp_ne_zero M), Real.log_exp]
  ring

/-- The attention by the logarithm of the row's sum. -/
theorem P_log (t s : ℕ) : (if s ≤ t then Real.exp (A.x t s - Real.log (A.Z t)) else 0) = A.P t s := by
  unfold P
  split
  · rw [Real.exp_sub, Real.exp_log (A.Z_pos t)]
  · rfl

/-- A row's attentions sum to one. -/
theorem sum_P {t : ℕ} (h : t < 2048) : ∑ s ∈ range 2048, A.P t s = 1 := by
  rw [sum_cut h (Nat.lt_succ_self t) fun s hs => A.P_of_lt hs]
  rw [sum_congr rfl fun s hs => show A.P t s = Real.exp (A.x t s) / A.Z t from if_pos (by simpa [Nat.lt_succ_iff] using hs), ← sum_div]
  exact div_self (ne_of_gt (A.Z_pos t))

/-- The gradients of a row's logits sum to zero. -/
theorem sum_dS {t : ℕ} (h : t < 2048) : ∑ s ∈ range 2048, A.dS t s = 0 := by
  unfold dS
  simp only [mul_sub, sum_sub_distrib, ← sum_mul, A.sum_P h, one_mul, sub_self]

/-- A row's sum against the attentions, over the first `n` keys. -/
theorem sum_P_mul (f : ℕ → ℝ) {t n : ℕ} (h : t < n) (h' : t < 2048) :
    ∑ s ∈ range n, A.P t s * f s = ∑ s ∈ range 2048, A.P t s * f s :=
  sum_cut h h' fun s hs => by rw [A.P_of_lt hs, zero_mul]

/-- A row's sum against the gradients of the logits, over the first `n` keys. -/
theorem sum_dS_mul (f : ℕ → ℝ) {t n : ℕ} (h : t < n) (h' : t < 2048) :
    ∑ s ∈ range n, A.dS t s * f s = ∑ s ∈ range 2048, A.dS t s * f s :=
  sum_cut h h' fun s hs => by rw [A.dS_of_lt hs, zero_mul]

end Head

/-- A sum over 2048 rows, tile by tile. -/
theorem sum_tiles (f : ℕ → ℝ) (n : ℕ) :
    ∑ t ∈ range (256 * n), f t = ∑ i ∈ range n, ∑ r ∈ range 256, f (256 * i + r) := by
  induction n with
  | zero => simp
  | succ n ih => rw [show 256 * (n + 1) = 256 * n + 256 by ring, sum_range_add, ih, sum_range_succ (n := n)]

end Cert.Fox
-- ==== Proof.Tiles.lean ====
/- The arithmetic of one tile of the two kernels: 256 queries against the keys up to the last of them. -/
module

public import proofs.«01_k».proof.Proof.Ops
public import Idealize.ShloMosaic.Lib.WordCmp
public import proofs.«01_k».proof.Proof.Head

@[expose] public section

set_option maxRecDepth 16384

noncomputable section

namespace Cert.Fox

open Idealize.ShloMosaic

variable {a b n m k off : ℕ} {φ ψ : FTy}

theorem neg_inf : Ideal.ofBits .f32 0xFF800000#32 = ⊥ := by simp [Ideal.ofBits, Ideal.ieee]

theorem Real3.toRow {x : FVec Ideal ⟨3, ![1, 1, n]⟩ φ} {f : ℕ → ℕ → ℕ → ℝ} (hx : Real3 x f) (h) :
    Real2 (shapeCast ⟨2, ![1, n]⟩ x h) (fun _ j => f 0 0 j) := fun i j => by
  have e : shapeCast ⟨2, ![1, n]⟩ x h (ix2 i j) = x (ix3 0 0 j) := by
    unfold shapeCast
    refine congrArg x (Shape.reshapeEquiv_eq_of_rowMajor h ?_)
    rw [rowMajor_val3 _ _ _ rfl rfl, rowMajor_val2 _ _ rfl]
    simp
  rw [e]; exact hx 0 0 j

theorem Real2.boxRow {x : FVec Ideal ⟨2, ![1, n]⟩ φ} {f : ℕ → ℕ → ℝ} (hx : Real2 x f) (h) :
    Real3 (shapeCast ⟨3, ![1, 1, n]⟩ x h) (fun _ _ j => f 0 j) := fun e i j => by
  have e : shapeCast ⟨3, ![1, 1, n]⟩ x h (ix3 e i j) = x (ix2 0 j) := by
    unfold shapeCast
    refine congrArg x (Shape.reshapeEquiv_eq_of_rowMajor h ?_)
    rw [rowMajor_val3 _ _ _ rfl rfl, rowMajor_val2 _ _ rfl]
    simp
  rw [e]; exact hx 0 j

theorem Real1.toRow {x : FVec Ideal ⟨1, ![n]⟩ φ} {f : ℕ → ℝ} (hx : Real1 x f) (h) :
    Real2 (shapeCast ⟨2, ![1, n]⟩ x h) (fun _ j => f j) := fun i j => by
  have e : shapeCast ⟨2, ![1, n]⟩ x h (ix2 i j) = x (ix1 j) := by
    unfold shapeCast
    refine congrArg x (Shape.reshapeEquiv_eq_of_rowMajor h ?_)
    rw [rowMajor_val1, rowMajor_val2 _ _ rfl]
    simp
  rw [e]; exact hx j

theorem Real2.same {x : FVec Ideal ⟨2, ![a, b]⟩ φ} {f : ℕ → ℕ → ℝ} (hx : Real2 x f) (h) :
    Real2 (shapeCast ⟨2, ![a, b]⟩ x h) f := fun i j => by
  pointwise; exact hx i j

theorem Real2.divf {x y : FVec Ideal ⟨2, ![a, b]⟩ φ} {f g : ℕ → ℕ → ℝ} (hx : Real2 x f) (hy : Real2 y g)
    (h : ∀ i < a, ∀ j < b, g i j ≠ 0) : Real2 (divf x y) (fun i j => f i j / g i j) := fun i j => by
  have hg := h i i.isLt j j.isLt
  pointwise; rw [hx i j, hy i j]
  unfold Ideal.div
  rw [if_neg (by exact_mod_cast hg), ← EReal.coe_inv, ← EReal.coe_mul]
  rfl

theorem Real2.log {x : FVec Ideal ⟨2, ![a, b]⟩ φ} {f : ℕ → ℕ → ℝ} (hx : Real2 x f) (h : ∀ i < a, ∀ j < b, 0 < f i j) :
    Real2 (Idealize.ShloMosaic.log x) (fun i j => Real.log (f i j)) := fun i j => by
  have hp := h i i.isLt j j.isLt
  pointwise; rw [hx i j]
  change (if f i j ≤ 0 then ⊥ else (Real.log (f i j) : EReal)) = _
  rw [if_neg (not_le.2 hp)]

/-- The largest entry of each row of a masked matrix is a real number. -/
theorem Masked.rowMax {x : FVec Ideal ⟨2, ![a, n]⟩ .f32} {f : ℕ → ℕ → ℝ} (hx : Masked x off f) (hn : 0 < n)
    (h : (⟨2, ![a, n]⟩ : Shape).Reduces [1] ⟨1, ![a]⟩) (h1) (h2) :
    ∃ M : ℕ → ℝ, Real1 (multiReduction .maximumf [1] ⟨1, ![a]⟩ x 0xFF800000#32 h h1 h2) M := by
  have key : ∀ i : Fin a, ∃ r : ℝ, multiReduction .maximumf [1] ⟨1, ![a]⟩ x 0xFF800000#32 h h1 h2 (ix1 i) = (r : EReal) := fun i => by
    have e : multiReduction .maximumf [1] ⟨1, ![a]⟩ x 0xFF800000#32 h h1 h2 (ix1 i) = Finset.univ.sup fun j : Fin n => x (ix2 i j) := by
      pointwise; rw [neg_inf]; rfl
    have lo : (Finset.univ.sup fun j : Fin n => x (ix2 i j)) ≠ ⊥ := fun hb => by
      have := Finset.le_sup (f := fun j : Fin n => x (ix2 i j)) (Finset.mem_univ ⟨0, hn⟩)
      rw [hb, hx i ⟨0, hn⟩, if_pos (by simp)] at this
      exact EReal.coe_ne_bot _ (le_bot_iff.1 this)
    have hi : (Finset.univ.sup fun j : Fin n => x (ix2 i j)) < ⊤ := (Finset.sup_lt_iff bot_lt_top).2 fun j _ => by
      rw [hx i j]; split
      · exact EReal.coe_lt_top _
      · exact bot_lt_top
    exact ⟨_, e.trans (EReal.coe_toReal hi.ne lo).symm⟩
  choose r hr using key
  exact ⟨fun i => if h : i < a then r ⟨i, h⟩ else 0, fun i => by rw [hr i]; simp⟩

/-- A choice by the order of two small numbers held as words. -/
theorem select_le {α : Type} {i j : ℕ} (hi : i < 256) (hj : j < 256) (x y : α) :
    Scalar.select (IntOp.cmpi .sge (BitVec.ofNat 32 i) (BitVec.ofNat 32 j)) x y = if j ≤ i then x else y := by
  rw [WordCmp.cmpi_sge_ofNat (by omega) (by omega)]
  unfold Scalar.select
  by_cases h : j ≤ i <;> simp [h]

/-- The logits of the first tile, the keys after each query masked. -/
theorem masked_one {x : FVec Ideal ⟨2, ![256, 256]⟩ .f32} {f : ℕ → ℕ → ℝ} (hx : Real2 x f) {neg : EReal} (hneg : neg = ⊥) {h0 h1} :
    Masked (select (cmpi .sge (iota .tc ⟨2, ![256, 256]⟩ 32 [0] h0) (iota .tc ⟨2, ![256, 256]⟩ 32 [1] h1)) x
      (broadcast ⟨2, ![256, 256]⟩ neg) : FVec Ideal ⟨2, ![256, 256]⟩ .f32) 0 f := fun i j => by
  pointwise
  rw [hx i j, hneg, select_le i.isLt j.isLt]

/-- The logits of a later tile: the earlier keys as they are, the tile's own masked. -/
theorem masked_concat {x : FVec Ideal ⟨2, ![256, n]⟩ .f32} {f : ℕ → ℕ → ℝ} (hx : Real2 x f) (hn : n = m + 256) {neg : EReal} (hneg : neg = ⊥)
    (hc : Shape.Concatenates [⟨2, ![256, m]⟩, ⟨2, ![256, 256]⟩] ⟨2, ![256, n]⟩ 1) {h0 h1 s0 s1} :
    Masked (concatenate ⟨2, ![256, n]⟩ 1 [⟨⟨2, ![256, m]⟩, extractStridedSlice ⟨2, ![256, m]⟩ ![0, 0] x s0⟩,
      ⟨⟨2, ![256, 256]⟩, select (cmpi .sge (iota .tc ⟨2, ![256, 256]⟩ 32 [0] h0) (iota .tc ⟨2, ![256, 256]⟩ 32 [1] h1))
        (extractStridedSlice ⟨2, ![256, 256]⟩ ![0, m] x s1) (broadcast ⟨2, ![256, 256]⟩ neg)⟩] hc : FVec Ideal ⟨2, ![256, n]⟩ .f32) m f := fun i j => by
  pointwise
  split
  · rw [hx i j, if_pos (by omega)]
  · have hj := j.isLt
    rw [select_le i.isLt (by omega), hx, hneg]
    have e : m + ((j : ℕ) - m) = j := by omega
    simp only [e]
    congr 1
    exact propext ⟨fun h => by omega, fun h => by omega⟩

variable (A : Head)

theorem logits {q : FVec Ideal ⟨2, ![256, 64]⟩ .bf16} {kk : FVec Ideal ⟨2, ![n, 64]⟩ .bf16} {c : FVec Ideal ⟨3, ![1, 256, 1]⟩ .f32}
    {cr : FVec Ideal ⟨3, ![1, 1, n]⟩ .f32} (hq : Real2 q fun r d => A.q (off + r) d) (hk : Real2 kk A.k)
    (hc : Real3 c fun _ r _ => A.c (off + r)) (hr : Real3 cr fun _ _ s => A.c s) {wf s0 s1 b0 b1} :
    Real2 (addf (mulf (matmul (⟨[1], [1], [0], [0], [], [], wf⟩ : DotDims ⟨2, ![256, 64]⟩ ⟨2, ![n, 64]⟩ ⟨2, ![256, n]⟩) none q kk
        (constant ⟨2, ![256, n]⟩ .f32 0x00000000#32)) (broadcast ⟨2, ![256, n]⟩ (Scalar.ofBits .f32 0x3E000000#32)))
      (subf (broadcastTo ⟨2, ![256, n]⟩ (shapeCast ⟨2, ![256, 1]⟩ c s0) b0) (broadcastTo ⟨2, ![256, n]⟩ (shapeCast ⟨2, ![1, n]⟩ cr s1) b1)) :
        FVec Ideal ⟨2, ![256, n]⟩ .f32) (fun r s => A.x (off + r) s) :=
  ((((hq.matmul_nt hk .zero wf).mulf .eighth).addf (((hc.toCol s0).col b0).subf ((hr.toRow s1).row b1)))).congr fun i _ j _ => by
    simp [Head.x]

/-- The attention of a tile, from its masked logits and the logarithms of its rows' sums. -/
theorem attn {S : FVec Ideal ⟨2, ![256, n]⟩ .f32} {l : FVec Ideal ⟨3, ![1, 256, 1]⟩ .f32} (hS : Masked S off fun r s => A.x (off + r) s)
    (hl : Real3 l fun _ r _ => Real.log (A.Z (off + r))) {s0 b0} :
    Real2 (exp (subf S (broadcastTo ⟨2, ![256, n]⟩ (shapeCast ⟨2, ![256, 1]⟩ l s0) b0))) (fun r s => A.P (off + r) s) :=
  (Real2.exp_sub_row hS ((hl.toCol s0).col b0)).congr fun i _ j _ => A.P_log (off + i) j

/-- The gradient of a tile's logits, from its attention. -/
theorem score {p : FVec Ideal ⟨2, ![256, n]⟩ .f32} {g : FVec Ideal ⟨2, ![256, 64]⟩ .bf16} {v : FVec Ideal ⟨2, ![n, 64]⟩ .bf16}
    (hp : Real2 p fun r s => A.P (off + r) s) (hg : Real2 g fun r d => A.g (off + r) d) (hv : Real2 v A.v) (hn : n = off + 256)
    (hn' : n ≤ 2048) {wf wf' h h1 h2 s0 b0} :
    Real2 (mulf p (subf (matmul (⟨[1], [1], [0], [0], [], [], wf⟩ : DotDims ⟨2, ![256, 64]⟩ ⟨2, ![n, 64]⟩ ⟨2, ![256, n]⟩) none g v
        (constant ⟨2, ![256, n]⟩ .f32 0x00000000#32))
      (broadcastTo ⟨2, ![256, n]⟩ (shapeCast ⟨2, ![256, 1]⟩ (multiReduction .add [1] ⟨1, ![256]⟩ (mulf p
        (matmul (⟨[1], [1], [0], [0], [], [], wf'⟩ : DotDims ⟨2, ![256, 64]⟩ ⟨2, ![n, 64]⟩ ⟨2, ![256, n]⟩) none g v
          (constant ⟨2, ![256, n]⟩ .f32 0x00000000#32))) 0x00000000#32 h h1 h2) s0) b0))) (fun r s => A.dS (off + r) s) :=
  (hp.mulf ((hg.matmul_nt hv .zero wf).subf ((((hp.mulf (hg.matmul_nt hv .zero wf')).rowSum h h1 h2).toCol s0).col b0))).congr
    fun i hi j _ => by
      simp only [zero_add]
      unfold Head.dS
      rw [← A.sum_P_mul _ (show off + i < n by omega) (by omega)]
      rfl

theorem tile_dq {ds : FVec Ideal ⟨2, ![256, n]⟩ .f32} {kk : FVec Ideal ⟨2, ![n, 64]⟩ .bf16} (hds : Real2 ds fun r s => A.dS (off + r) s)
    (hk : Real2 kk A.k) (hn : n = off + 256) (hn' : n ≤ 2048) {wf h h'} :
    Real2 (truncf .bf16 (mulf (matmul (⟨[1], [0], [0], [1], [], [], wf⟩ : DotDims ⟨2, ![256, n]⟩ ⟨2, ![n, 64]⟩ ⟨2, ![256, 64]⟩) none
        (truncf .bf16 ds h) kk (constant ⟨2, ![256, 64]⟩ .f32 0x00000000#32)) (broadcast ⟨2, ![256, 64]⟩ (Scalar.ofBits .f32 0x3E000000#32))) h')
      (fun r d => A.dq (off + r) d) :=
  ((((hds.truncf h).matmul_nn hk .zero wf).mulf .eighth).truncf h').congr fun i hi j _ => by
    simp only [zero_add]
    unfold Head.dq
    rw [A.sum_dS_mul (fun s => A.k s j) (show off + i < n by omega) (by omega)]

/-- What a tile adds to the gradient of the keys. -/
theorem tile_dk {ds : FVec Ideal ⟨2, ![256, n]⟩ .f32} {q : FVec Ideal ⟨2, ![256, 64]⟩ .bf16} {acc : FVec Ideal ⟨2, ![n, 64]⟩ .f32}
    {f : ℕ → ℕ → ℝ} (hds : Real2 ds fun r s => A.dS (off + r) s) (hq : Real2 q fun r d => A.q (off + r) d) (ha : Real2 acc f) {wf h s0} :
    Real2 (shapeCast ⟨2, ![n, 64]⟩ (addf acc (mulf (matmul (⟨[0], [0], [1], [1], [], [], wf⟩ : DotDims ⟨2, ![256, n]⟩ ⟨2, ![256, 64]⟩ ⟨2, ![n, 64]⟩)
        none (truncf .bf16 ds h) q (constant ⟨2, ![n, 64]⟩ .f32 0x00000000#32)) (broadcast ⟨2, ![n, 64]⟩ (Scalar.ofBits .f32 0x3E000000#32)))) s0)
      (fun s d => f s d + (∑ r ∈ Finset.range 256, A.dS (off + r) s * A.q (off + r) d) * (1 / 8)) :=
  ((ha.addf (((hds.truncf h).matmul_tn hq .zero wf).mulf .eighth)).same s0).congr fun i _ j _ => by simp only [zero_add]

/-- What a tile adds to the gradient of the values. -/
theorem tile_dv {p : FVec Ideal ⟨2, ![256, n]⟩ .f32} {g : FVec Ideal ⟨2, ![256, 64]⟩ .bf16} {acc : FVec Ideal ⟨2, ![n, 64]⟩ .f32}
    {f : ℕ → ℕ → ℝ} (hp : Real2 p fun r s => A.P (off + r) s) (hg : Real2 g fun r d => A.g (off + r) d) (ha : Real2 acc f) {wf h s0} :
    Real2 (shapeCast ⟨2, ![n, 64]⟩ (addf acc (matmul (⟨[0], [0], [1], [1], [], [], wf⟩ : DotDims ⟨2, ![256, n]⟩ ⟨2, ![256, 64]⟩ ⟨2, ![n, 64]⟩)
        none (truncf .bf16 p h) g (constant ⟨2, ![n, 64]⟩ .f32 0x00000000#32))) s0)
      (fun s d => f s d + ∑ r ∈ Finset.range 256, A.P (off + r) s * A.g (off + r) d) :=
  ((ha.addf ((hp.truncf h).matmul_tn hg .zero wf)).same s0).congr fun i _ j _ => by simp only [zero_add]

/-- What a tile adds to the column sums of the logits' gradient. -/
theorem tile_dc {ds : FVec Ideal ⟨2, ![256, n]⟩ .f32} {acc : FVec Ideal ⟨3, ![1, 1, n]⟩ .f32}
    {f : ℕ → ℝ} (hds : Real2 ds fun r s => A.dS (off + r) s) (ha : Real3 acc fun _ _ s => f s) {h h1 h2 s0 s1 s2} :
    Real3 (shapeCast ⟨3, ![1, 1, n]⟩ (addf (shapeCast ⟨2, ![1, n]⟩ acc s0) (shapeCast ⟨2, ![1, n]⟩
        (multiReduction .add [0] ⟨1, ![n]⟩ ds 0x00000000#32 h h1 h2) s1)) s2)
      (fun _ _ s => f s + ∑ r ∈ Finset.range 256, A.dS (off + r) s) :=
  ((ha.toRow s0).addf ((hds.colSum h h1 h2).toRow s1)).boxRow s2

/-- The logarithms of the rows' sums of one tile. -/
theorem tile_lse {S : FVec Ideal ⟨2, ![256, n]⟩ .f32} (hS : Masked S off fun r s => A.x (off + r) s) (hn : n = off + 256)
    {h h1 h2 h' h1' h2' s0 s0' s0'' b0 s1} :
    Real3 (shapeCast ⟨3, ![1, 256, 1]⟩ (addf (shapeCast ⟨2, ![256, 1]⟩ (multiReduction .maximumf [1] ⟨1, ![256]⟩ S 0xFF800000#32 h h1 h2) s0)
        (Idealize.ShloMosaic.log (shapeCast ⟨2, ![256, 1]⟩ (multiReduction .add [1] ⟨1, ![256]⟩ (exp (subf S (broadcastTo ⟨2, ![256, n]⟩
          (shapeCast ⟨2, ![256, 1]⟩ (multiReduction .maximumf [1] ⟨1, ![256]⟩ S 0xFF800000#32 h h1 h2) s0'') b0)))
          0x00000000#32 h' h1' h2') s0'))) s1)
      (fun _ r _ => Real.log (A.Z (off + r))) := by
  obtain ⟨M, hM⟩ := hS.rowMax (by omega) h h1 h2
  have hl := (((Real2.exp_sub_row hS ((hM.toCol s0'').col b0)).rowSum h' h1' h2').toCol s0')
  have hp : ∀ i < 256, ∀ j < 1, 0 < ∑ s ∈ Finset.range n, (if s ≤ off + i then Real.exp (A.x (off + i) s - M i) else 0) := fun i hi _ _ => by
    rw [sum_exp_shift (A.x (off + i)) (M i) (show off + i < n by omega)]
    exact div_pos (A.Z_pos _) (Real.exp_pos _)
  intro e i j
  rw [(((hM.toCol s0).addf (hl.log hp)).boxCol s1) e i j]
  have hi := i.isLt
  exact congrArg Real.toEReal (A.log_shift (M i) (show off + (i : ℕ) < n by omega))

/-- The output of one tile. -/
theorem tile_o {S : FVec Ideal ⟨2, ![256, n]⟩ .f32} {v : FVec Ideal ⟨2, ![n, 64]⟩ .bf16} (hS : Masked S off fun r s => A.x (off + r) s)
    (hv : Real2 v A.v) (hn : n = off + 256) (hn' : n ≤ 2048)
    {h h1 h2 h' h1' h2' s0 s0' b0 b1 wf ht} :
    Real2 (divf (matmul (⟨[1], [0], [0], [1], [], [], wf⟩ : DotDims ⟨2, ![256, n]⟩ ⟨2, ![n, 64]⟩ ⟨2, ![256, 64]⟩) none
        (truncf .bf16 (exp (subf S (broadcastTo ⟨2, ![256, n]⟩ (shapeCast ⟨2, ![256, 1]⟩ (multiReduction .maximumf [1] ⟨1, ![256]⟩ S 0xFF800000#32 h h1 h2) s0) b0))) ht)
        v (constant ⟨2, ![256, 64]⟩ .f32 0x00000000#32))
      (broadcastTo ⟨2, ![256, 64]⟩ (shapeCast ⟨2, ![256, 1]⟩ (multiReduction .add [1] ⟨1, ![256]⟩ (exp (subf S (broadcastTo ⟨2, ![256, n]⟩
          (shapeCast ⟨2, ![256, 1]⟩ (multiReduction .maximumf [1] ⟨1, ![256]⟩ S 0xFF800000#32 h h1 h2) s0) b0)))
          0x00000000#32 h' h1' h2') s0') b1))
      (fun r d => A.o (off + r) d) := by
  obtain ⟨M, hM⟩ := hS.rowMax (by omega) h h1 h2
  have he := Real2.exp_sub_row hS ((hM.toCol s0).col b0)
  have hp : ∀ i < 256, ∀ j < 64, (∑ s ∈ Finset.range n, (if s ≤ off + i then Real.exp (A.x (off + i) s - M i) else 0)) ≠ 0 := fun i hi _ _ => by
    rw [sum_exp_shift (A.x (off + i)) (M i) (show off + i < n by omega)]
    exact ne_of_gt (div_pos (A.Z_pos _) (Real.exp_pos _))
  refine ((((he.truncf ht).matmul_nn hv .zero wf).divf (((he.rowSum h' h1' h2').toCol s0').col b1)) hp).congr fun i hi j _ => ?_
  simp only [zero_add]
  unfold Head.o
  rw [← A.sum_P_mul _ (show off + i < n by omega) (by omega), Finset.sum_div]
  refine Finset.sum_congr rfl fun s _ => ?_
  rw [← A.P_shift (M i) (show off + i < n by omega) s]
  ring

end Cert.Fox
-- ==== Proof.Blocks.lean ====
/- What loads and stores of rectangles do to arrays that hold real numbers, and the sums that a kernel gathers tile by tile. -/
module

public import proofs.«01_k».proof.Proof.Tiles

@[expose] public section

set_option maxRecDepth 16384

noncomputable section

namespace Cert.Fox

open Idealize.ShloMosaic Finset

/-- A kind of element that holds real numbers. -/
class Holds (e : EltTy) where
  at' : ℝ → Elt Ideal e

instance : Holds .f32 := ⟨fun r => ((r : ℝ) : EReal)⟩

instance : Holds .bf16 := ⟨fun r => ((r : ℝ) : EReal)⟩

variable {a b n m k off : ℕ} {e : EltTy} [Holds e]

/-- The matrix `x` of a buffer holds the real number `f i j` in row `i` and column `j`. -/
def Held2 (x : Vec Ideal ⟨2, ![a, b]⟩ e) (f : ℕ → ℕ → ℝ) : Prop :=
  ∀ (i : Fin a) (j : Fin b), x (ix2 i j) = Holds.at' (f i j)

/-- The box `x` of a buffer holds the real number `f h i j` at `(h, i, j)`. -/
def Held3 (x : Vec Ideal ⟨3, ![n, a, b]⟩ e) (f : ℕ → ℕ → ℕ → ℝ) : Prop :=
  ∀ (h : Fin n) (i : Fin a) (j : Fin b), x (ix3 h i j) = Holds.at' (f h i j)

theorem Held2.congr {x : Vec Ideal ⟨2, ![a, b]⟩ e} {f g : ℕ → ℕ → ℝ} (h : Held2 x f) (h' : ∀ i < a, ∀ j < b, f i j = g i j) :
    Held2 x g := fun i j => by rw [h i j, h' i i.isLt j j.isLt]

/-- A load of a rectangle of a matrix. -/
theorem Held2.ld {X : Vec Ideal ⟨2, ![a, b]⟩ e} {f : ℕ → ℕ → ℝ} (hX : Held2 X f) {o p : ℕ} {inb} :
    Held2 (View.ld (Val := Elt Ideal) (S := ⟨2, ![a, b]⟩) X (Rect.unit ![o, p] ![n, m] inb) : Vec Ideal ⟨2, ![n, m]⟩ e)
      (fun i j => f (o + i) (p + j)) := fun i j => by
  have h0 : o + n ≤ a := inb 0
  have h1 : p + m ≤ b := inb 1
  refine (View.ld_unit_apply_of (Val := Elt Ideal) X _ _ inb _ (ix2 ⟨o + i, by omega⟩ ⟨p + j, by omega⟩) fun c => ?_).trans (hX _ _)
  match c with
  | ⟨0, _⟩ => rfl
  | ⟨1, _⟩ => rfl

/-- A load of a rectangle of a box. -/
theorem Held3.ld {c : ℕ} {X : Vec Ideal ⟨3, ![c, a, b]⟩ e} {f : ℕ → ℕ → ℕ → ℝ} (hX : Held3 X f) {o p q : ℕ} {inb} :
    Held3 (View.ld (Val := Elt Ideal) (S := ⟨3, ![c, a, b]⟩) X (Rect.unit ![o, p, q] ![k, n, m] inb) :
      Vec Ideal ⟨3, ![k, n, m]⟩ e) (fun h i j => f (o + h) (p + i) (q + j)) := fun h i j => by
  have h0 : o + k ≤ c := inb 0
  have h1 : p + n ≤ a := inb 1
  have h2 : q + m ≤ b := inb 2
  refine (View.ld_unit_apply_of (Val := Elt Ideal) X _ _ inb _ (ix3 ⟨o + h, by omega⟩ ⟨p + i, by omega⟩ ⟨q + j, by omega⟩) fun c => ?_).trans
    (hX _ _ _)
  match c with
  | ⟨0, _⟩ => rfl
  | ⟨1, _⟩ => rfl
  | ⟨2, _⟩ => rfl

theorem Held3.congr {c : ℕ} {x : Vec Ideal ⟨3, ![c, a, b]⟩ e} {f g : ℕ → ℕ → ℕ → ℝ} (h : Held3 x f)
    (h' : ∀ l < c, ∀ i < a, ∀ j < b, f l i j = g l i j) : Held3 x g := fun l i j => by rw [h l i j, h' l l.isLt i i.isLt j j.isLt]

/-- What a list of stores leaves in a matrix, after one more store. -/
theorem canon_cons2 {L : List (View.Piece (Elt Ideal) ⟨2, ![a, b]⟩ e)} {o p : ℕ} {inb} {w : Vec Ideal ⟨2, ![n, m]⟩ e} {g : ℕ → ℕ → ℝ}
    (hw : Held2 w g) (i : Fin a) (j : Fin b) :
    View.canon (Val := Elt Ideal) ((⟨Rect.unit ![o, p] ![n, m] inb, w⟩ : View.Piece (Elt Ideal) ⟨2, ![a, b]⟩ e) :: L) (ix2 i j)
      = if o ≤ i ∧ i < o + n ∧ p ≤ j ∧ j < p + m then Holds.at' (g (i - o) (j - p)) else View.canon (Val := Elt Ideal) L (ix2 i j) := by
  split
  · rename_i h
    have ei : (ix2 i j : (⟨2, ![a, b]⟩ : Shape).Idx) = (Rect.unit (s := ⟨2, ![a, b]⟩) ![o, p] ![n, m] inb).emb
        (ix2 (⟨i - o, by show (i : ℕ) - o < n; omega⟩ : Fin n) (⟨j - p, by show (j : ℕ) - p < m; omega⟩ : Fin m)) := by
      funext c
      match c with
      | ⟨0, _⟩ => exact Fin.ext (show (i : ℕ) = o + 1 * (i - o) by omega)
      | ⟨1, _⟩ => exact Fin.ext (show (j : ℕ) = p + 1 * (j - p) by omega)
    rw [ei, View.canon_cons_emb]
    exact hw _ _
  · rename_i h
    refine View.canon_cons_of_not_mem _ _ fun hm => h ?_
    have hm := (Rect.mem_set_unit (inb := inb)).1 hm
    have h0 : o ≤ (i : ℕ) ∧ (i : ℕ) < o + n := hm 0
    have h1 : p ≤ (j : ℕ) ∧ (j : ℕ) < p + m := hm 1
    exact ⟨h0.1, h0.2, h1.1, h1.2⟩

/-- What a list of stores leaves in a box, after one more store. -/
theorem canon_cons3 {c : ℕ} {L : List (View.Piece (Elt Ideal) ⟨3, ![c, a, b]⟩ e)} {o p q : ℕ} {inb} {w : Vec Ideal ⟨3, ![k, n, m]⟩ e}
    {g : ℕ → ℕ → ℕ → ℝ} (hw : Held3 w g) (l : Fin c) (i : Fin a) (j : Fin b) :
    View.canon (Val := Elt Ideal) ((⟨Rect.unit ![o, p, q] ![k, n, m] inb, w⟩ : View.Piece (Elt Ideal) ⟨3, ![c, a, b]⟩ e) :: L) (ix3 l i j)
      = if o ≤ l ∧ l < o + k ∧ p ≤ i ∧ i < p + n ∧ q ≤ j ∧ j < q + m then Holds.at' (g (l - o) (i - p) (j - q))
        else View.canon (Val := Elt Ideal) L (ix3 l i j) := by
  split
  · rename_i h
    have ei : (ix3 l i j : (⟨3, ![c, a, b]⟩ : Shape).Idx) = (Rect.unit (s := ⟨3, ![c, a, b]⟩) ![o, p, q] ![k, n, m] inb).emb
        (ix3 (⟨l - o, by show (l : ℕ) - o < k; omega⟩ : Fin k) (⟨i - p, by show (i : ℕ) - p < n; omega⟩ : Fin n)
          (⟨j - q, by show (j : ℕ) - q < m; omega⟩ : Fin m)) := by
      funext c
      match c with
      | ⟨0, _⟩ => exact Fin.ext (show (l : ℕ) = o + 1 * (l - o) by omega)
      | ⟨1, _⟩ => exact Fin.ext (show (i : ℕ) = p + 1 * (i - p) by omega)
      | ⟨2, _⟩ => exact Fin.ext (show (j : ℕ) = q + 1 * (j - q) by omega)
    rw [ei, View.canon_cons_emb]
    exact hw _ _ _
  · rename_i h
    refine View.canon_cons_of_not_mem _ _ fun hm => h ?_
    have hm := (Rect.mem_set_unit (inb := inb)).1 hm
    have h0 : o ≤ (l : ℕ) ∧ (l : ℕ) < o + k := hm 0
    have h1 : p ≤ (i : ℕ) ∧ (i : ℕ) < p + n := hm 1
    have h2 : q ≤ (j : ℕ) ∧ (j : ℕ) < q + m := hm 2
    exact ⟨h0.1, h0.2, h1.1, h1.2, h2.1, h2.2⟩

/-- Stores that have filled, of a matrix, the rows before `256 * u` of the columns from `64 * h` on, and all rows of the columns before. -/
def Filled2 (L : List (View.Piece (Elt Ideal) ⟨2, ![2048, 128]⟩ e)) (h u : ℕ) (f : ℕ → ℕ → ℝ) : Prop :=
  ∀ (i : Fin 2048) (j : Fin 128), (j : ℕ) < 64 * h ∨ (j : ℕ) < 64 * (h + 1) ∧ (i : ℕ) < 256 * u →
    View.canon (Val := Elt Ideal) L (ix2 i j) = Holds.at' (f i j)

theorem Filled2.nil {f : ℕ → ℕ → ℝ} : Filled2 (e := e) [] 0 0 f := fun i j h => by omega

theorem Filled2.next {L : List (View.Piece (Elt Ideal) ⟨2, ![2048, 128]⟩ e)} {h : ℕ} {f : ℕ → ℕ → ℝ} (hL : Filled2 L h 8 f) :
    Filled2 L (h + 1) 0 f := fun i j hij => hL i j (by omega)

/-- One more tile. -/
theorem Filled2.cons {L : List (View.Piece (Elt Ideal) ⟨2, ![2048, 128]⟩ e)} {h u : ℕ} {f : ℕ → ℕ → ℝ} (hL : Filled2 L h u f) {inb}
    {w : Vec Ideal ⟨2, ![256, 64]⟩ e} (hw : Held2 w fun i j => f (256 * u + i) (64 * h + j)) :
    Filled2 ((⟨Rect.unit ![256 * u, 64 * h] ![256, 64] inb, w⟩ : View.Piece (Elt Ideal) ⟨2, ![2048, 128]⟩ e) :: L) h (u + 1) f := fun i j hij => by
  rw [canon_cons2 hw]
  split
  · rename_i c
    rw [show 256 * u + ((i : ℕ) - 256 * u) = i by omega, show 64 * h + ((j : ℕ) - 64 * h) = j by omega]
  · exact hL i j (by omega)

theorem Filled2.done {L : List (View.Piece (Elt Ideal) ⟨2, ![2048, 128]⟩ e)} {f : ℕ → ℕ → ℝ} (hL : Filled2 L 1 8 f) :
    Held2 (View.canon (Val := Elt Ideal) L : Vec Ideal ⟨2, ![2048, 128]⟩ e) f := fun i j => hL i j (by omega)

/-- Stores that have filled, of two columns of 2048 numbers, the first `256 * u` of column `h`, and the columns before it. -/
def Filled3 (L : List (View.Piece (Elt Ideal) ⟨3, ![2, 2048, 1]⟩ e)) (h u : ℕ) (f : ℕ → ℕ → ℝ) : Prop :=
  ∀ (l : Fin 2) (i : Fin 2048) (j : Fin 1), (l : ℕ) < h ∨ (l : ℕ) < h + 1 ∧ (i : ℕ) < 256 * u →
    View.canon (Val := Elt Ideal) L (ix3 l i j) = Holds.at' (f l i)

theorem Filled3.nil {f : ℕ → ℕ → ℝ} : Filled3 (e := e) [] 0 0 f := fun l i j h => by omega

theorem Filled3.next {L : List (View.Piece (Elt Ideal) ⟨3, ![2, 2048, 1]⟩ e)} {h : ℕ} {f : ℕ → ℕ → ℝ} (hL : Filled3 L h 8 f) :
    Filled3 L (h + 1) 0 f := fun l i j hij => hL l i j (by omega)

/-- One more tile. -/
theorem Filled3.cons {L : List (View.Piece (Elt Ideal) ⟨3, ![2, 2048, 1]⟩ e)} {h u : ℕ} {f : ℕ → ℕ → ℝ} (hL : Filled3 L h u f) {inb}
    {w : Vec Ideal ⟨3, ![1, 256, 1]⟩ e} (hw : Held3 w fun _ i _ => f h (256 * u + i)) :
    Filled3 ((⟨Rect.unit ![h, 256 * u, 0] ![1, 256, 1] inb, w⟩ : View.Piece (Elt Ideal) ⟨3, ![2, 2048, 1]⟩ e) :: L) h (u + 1) f := fun l i j hij => by
  rw [canon_cons3 hw]
  split
  · rename_i c
    rw [show 256 * u + ((i : ℕ) - 256 * u) = i by omega, show (l : ℕ) = h by omega]
  · exact hL l i j (by omega)

theorem Filled3.done {L : List (View.Piece (Elt Ideal) ⟨3, ![2, 2048, 1]⟩ e)} {f : ℕ → ℕ → ℝ} (hL : Filled3 L 1 8 f) :
    Held3 (View.canon (Val := Elt Ideal) L : Vec Ideal ⟨3, ![2, 2048, 1]⟩ e) fun l i _ => f l i := fun l i j => hL l i j (by omega)

/-! ### Sums gathered tile by tile -/

/-- The sum that has been gathered of two heads' contributions `C h u s d` after the first `u` tiles of head `h` and all tiles of the heads
before, at row `s` and column `j` of the two heads' 128. -/
def gathered (C : ℕ → ℕ → ℕ → ℕ → ℝ) (h u s j : ℕ) : ℝ :=
  if j < 64 * h then ∑ i ∈ range 8, C (j / 64) i s (j % 64) else if j < 64 * (h + 1) then ∑ i ∈ range u, C (j / 64) i s (j % 64) else 0

/-- One more tile gathered; contribution `u` is in the rows before `256 * (u + 1)`. -/
theorem gather {L : List (View.Piece (Elt Ideal) ⟨2, ![2048, 128]⟩ e)} {h u : ℕ} {C : ℕ → ℕ → ℕ → ℕ → ℝ}
    (hC : ∀ h u s d, 256 * (u + 1) ≤ s → C h u s d = 0) (hL : Held2 (View.canon (Val := Elt Ideal) L) (gathered C h u)) {inb}
    (hn : n = 256 * (u + 1)) {w : Vec Ideal ⟨2, ![n, 64]⟩ e} (hw : Held2 w fun s d => gathered C h u s (64 * h + d) + C h u s d) :
    Held2 (View.canon (Val := Elt Ideal) ((⟨Rect.unit ![0, 64 * h] ![n, 64] inb, w⟩ : View.Piece (Elt Ideal) ⟨2, ![2048, 128]⟩ e) :: L))
      (gathered C h (u + 1)) := fun i j => by
  rw [canon_cons2 hw]
  split
  · rename_i c
    rw [show 64 * h + ((j : ℕ) - 64 * h) = j by omega, Nat.sub_zero]
    unfold gathered
    rw [if_neg (by omega), if_pos (by omega), if_neg (by omega), if_pos (by omega), sum_range_succ, show (j : ℕ) / 64 = h by omega,
      show (j : ℕ) % 64 = j - 64 * h by omega]
  · rename_i c
    rw [hL i j]
    unfold gathered
    by_cases h1 : (j : ℕ) < 64 * h
    · rw [if_pos h1, if_pos h1]
    by_cases h2 : (j : ℕ) < 64 * (h + 1)
    · rw [if_neg h1, if_neg h1, if_pos h2, if_pos h2, sum_range_succ, hC _ _ _ _ (by omega), add_zero]
    · rw [if_neg h1, if_neg h1, if_neg h2, if_neg h2]

theorem gathered_next (C : ℕ → ℕ → ℕ → ℕ → ℝ) (h : ℕ) : gathered C h 8 = gathered C (h + 1) 0 := by
  funext s j
  unfold gathered
  by_cases h1 : j < 64 * h
  · rw [if_pos h1, if_pos (by omega)]
  by_cases h2 : j < 64 * (h + 1)
  · rw [if_neg h1, if_pos h2, if_pos h2]
  · rw [if_neg h1, if_neg h2, if_neg h2]; simp

theorem gathered_zero (C : ℕ → ℕ → ℕ → ℕ → ℝ) : gathered C 0 0 = fun _ _ => 0 := by
  funext s j
  unfold gathered
  simp

/-- The same for two rows of 2048 sums. -/
def gathered1 (C : ℕ → ℕ → ℕ → ℝ) (h u l s : ℕ) : ℝ :=
  if l < h then ∑ i ∈ range 8, C l i s else if l < h + 1 then ∑ i ∈ range u, C l i s else 0

/-- One more tile gathered; contribution `u` is in the columns before `256 * (u + 1)`. -/
theorem gather1 {L : List (View.Piece (Elt Ideal) ⟨3, ![1, 2, 2048]⟩ e)} {h u : ℕ} {C : ℕ → ℕ → ℕ → ℝ}
    (hC : ∀ h u s, 256 * (u + 1) ≤ s → C h u s = 0) (hL : Held3 (View.canon (Val := Elt Ideal) L) fun _ => gathered1 C h u) {inb}
    (hn : n = 256 * (u + 1)) {w : Vec Ideal ⟨3, ![1, 1, n]⟩ e} (hw : Held3 w fun _ _ s => gathered1 C h u h s + C h u s) :
    Held3 (View.canon (Val := Elt Ideal) ((⟨Rect.unit ![0, h, 0] ![1, 1, n] inb, w⟩ : View.Piece (Elt Ideal) ⟨3, ![1, 2, 2048]⟩ e) :: L))
      (fun _ => gathered1 C h (u + 1)) := fun l i j => by
  rw [canon_cons3 hw]
  split
  · rename_i c
    rw [Nat.sub_zero]
    beta_reduce
    unfold gathered1
    rw [if_neg (by omega), if_pos (by omega), if_neg (by omega), if_pos (by omega), sum_range_succ, show (i : ℕ) = h by omega]
  · rename_i c
    rw [hL l i j]
    beta_reduce
    unfold gathered1
    by_cases h1 : (i : ℕ) < h
    · rw [if_pos h1, if_pos h1]
    by_cases h2 : (i : ℕ) < h + 1
    · rw [if_neg h1, if_neg h1, if_pos h2, if_pos h2, sum_range_succ, hC _ _ _ (by omega), add_zero]
    · rw [if_neg h1, if_neg h1, if_neg h2, if_neg h2]

theorem gathered1_next (C : ℕ → ℕ → ℕ → ℝ) (h : ℕ) : gathered1 C h 8 = gathered1 C (h + 1) 0 := by
  funext l s
  unfold gathered1
  by_cases h1 : l < h
  · rw [if_pos h1, if_pos (by omega)]
  by_cases h2 : l < h + 1
  · rw [if_neg h1, if_pos h2, if_pos h2]
  · rw [if_neg h1, if_neg h2, if_neg h2]; simp

theorem gathered1_zero (C : ℕ → ℕ → ℕ → ℝ) : gathered1 C 0 0 = fun _ _ => 0 := by
  funext s j
  unfold gathered1
  simp

/-- A load of what stores have left in a matrix. -/
theorem Held2.readCov {L : List (View.Piece (Elt Ideal) ⟨2, ![a, b]⟩ e)} {f : ℕ → ℕ → ℝ} (hL : Held2 (View.canon (Val := Elt Ideal) L) f)
    {sig : RefSig} {κ : Kind} {sp : Space} (v : View sig κ sp ⟨2, ![a, b]⟩ e) {o p : ℕ} {inb} :
    Held2 (v.readCov (Val := Elt Ideal) L (Rect.unit (s := ⟨2, ![a, b]⟩) ![o, p] ![n, m] inb).toLoadRect : Vec Ideal ⟨2, ![n, m]⟩ e)
      (fun i j => f (o + i) (p + j)) := by
  rw [View.readCov_eq_canon']
  exact hL.ld

/-- A load of what stores have left in a box. -/
theorem Held3.readCov {c : ℕ} {L : List (View.Piece (Elt Ideal) ⟨3, ![c, a, b]⟩ e)} {f : ℕ → ℕ → ℕ → ℝ}
    (hL : Held3 (View.canon (Val := Elt Ideal) L) f)
    {sig : RefSig} {κ : Kind} {sp : Space} (v : View sig κ sp ⟨3, ![c, a, b]⟩ e) {o p q : ℕ} {inb} :
    Held3 (v.readCov (Val := Elt Ideal) L (Rect.unit (s := ⟨3, ![c, a, b]⟩) ![o, p, q] ![k, n, m] inb).toLoadRect : Vec Ideal ⟨3, ![k, n, m]⟩ e)
      (fun h i j => f (o + h) (p + i) (q + j)) := by
  rw [View.readCov_eq_canon']
  exact hL.ld

end Cert.Fox
-- ==== Proof.Inputs.lean ====
/- The blocks of one pair of heads, and what the two kernels compute of a tile of 256 queries from loads of them. -/
module

public import proofs.«01_k».proof.Proof.Blocks

@[expose] public section

set_option maxRecDepth 16384

noncomputable section

namespace Cert.Fox

open Idealize.ShloMosaic

/-- The blocks that both kernels read hold the numbers of the heads `H 0` and `H 1`, side by side. -/
structure Inputs (H : ℕ → Head) (x0 x1 x2 : Vec Ideal ⟨2, ![2048, 128]⟩ .bf16) (x3 : Vec Ideal ⟨3, ![2, 2048, 1]⟩ .f32)
    (x4 : Vec Ideal ⟨3, ![1, 2, 2048]⟩ .f32) : Prop where
  q : Held2 x0 fun t j => (H (j / 64)).q t (j % 64)
  k : Held2 x1 fun t j => (H (j / 64)).k t (j % 64)
  v : Held2 x2 fun t j => (H (j / 64)).v t (j % 64)
  c : Held3 x3 fun h t _ => (H h).c t
  r : Held3 x4 fun _ h t => (H h).c t

variable {H : ℕ → Head} {x : Vec Ideal ⟨2, ![2048, 128]⟩ .bf16} {y : Vec Ideal ⟨3, ![2, 2048, 1]⟩ .f32} {z : Vec Ideal ⟨3, ![1, 2, 2048]⟩ .f32}
  {n : ℕ}

theorem Held2.real {a b : ℕ} {x : Vec Ideal ⟨2, ![a, b]⟩ .bf16} {f : ℕ → ℕ → ℝ} (h : Held2 x f) : Real2 (φ := .bf16) x f := fun i j => h i j

theorem Held3.real {n a b : ℕ} {x : Vec Ideal ⟨3, ![n, a, b]⟩ .f32} {f : ℕ → ℕ → ℕ → ℝ} (h : Held3 x f) : Real3 (φ := .f32) x f :=
  fun i j k => h i j k

/-- A load of 256 rows of head `h`'s columns. -/
theorem ld_rows {f : ℕ → ℕ → ℕ → ℝ} (hx : Held2 x fun t j => f (j / 64) t (j % 64)) (h off : ℕ) {inb} :
    Real2 (φ := .bf16) (View.ld (Val := Elt Ideal) x (Rect.unit ![off, 64 * h] ![n, 64] inb)) fun r d => f h (off + r) d := by
  refine Held2.real (a := n) (b := 64) ?_
  refine hx.ld.congr fun i _ j hj => ?_
  rw [show (64 * h + j) / 64 = h by omega, show (64 * h + j) % 64 = j by omega]

/-- A load of the first rows of head `h`'s columns. -/
theorem ld_top {f : ℕ → ℕ → ℕ → ℝ} (hx : Held2 x fun t j => f (j / 64) t (j % 64)) (h : ℕ) {inb} :
    Real2 (φ := .bf16) (View.ld (Val := Elt Ideal) x (Rect.unit ![0, 64 * h] ![n, 64] inb)) (f h) := by
  refine Held2.real (a := n) (b := 64) ?_
  refine hx.ld.congr fun i _ j hj => ?_
  rw [show (64 * h + j) / 64 = h by omega, show (64 * h + j) % 64 = j by omega, Nat.zero_add]

/-- A load of 256 numbers of head `h`'s column. -/
theorem ld_col {f : ℕ → ℕ → ℝ} (hy : Held3 y fun h t _ => f h t) (h off : ℕ) {inb} :
    Real3 (φ := .f32) (View.ld (Val := Elt Ideal) y (Rect.unit ![h, off, 0] ![1, 256, 1] inb)) fun _ r _ => f h (off + r) := by
  refine Held3.real (n := 1) (a := 256) (b := 1) ?_
  exact hy.ld.congr fun l hl i _ j hj => by rw [show h + l = h by omega]

/-- A load of the first numbers of head `h`'s row. -/
theorem ld_row {f : ℕ → ℕ → ℝ} (hz : Held3 z fun _ h t => f h t) (h : ℕ) {inb} :
    Real3 (φ := .f32) (View.ld (Val := Elt Ideal) z (Rect.unit ![0, h, 0] ![1, 1, n] inb)) fun _ _ s => f h s := by
  refine Held3.real (n := 1) (a := 1) (b := n) ?_
  exact hz.ld.congr fun l _ i hi j hj => by rw [show h + i = h by omega, Nat.zero_add]

variable {x0 x1 x2 : Vec Ideal ⟨2, ![2048, 128]⟩ .bf16} {x3 : Vec Ideal ⟨3, ![2, 2048, 1]⟩ .f32} {x4 : Vec Ideal ⟨3, ![1, 2, 2048]⟩ .f32}

theorem Inputs.qs (hx : Inputs H x0 x1 x2 x3 x4) (h off : ℕ) {inb} :
    Real2 (φ := .bf16) (View.ld (Val := Elt Ideal) x0 (Rect.unit ![off, 64 * h] ![n, 64] inb)) fun r d => (H h).q (off + r) d :=
  ld_rows (f := fun h => (H h).q) hx.q h off

theorem Inputs.ks (hx : Inputs H x0 x1 x2 x3 x4) (h : ℕ) {inb} :
    Real2 (φ := .bf16) (View.ld (Val := Elt Ideal) x1 (Rect.unit ![0, 64 * h] ![n, 64] inb)) (H h).k :=
  ld_top (f := fun h => (H h).k) hx.k h

theorem Inputs.vs (hx : Inputs H x0 x1 x2 x3 x4) (h : ℕ) {inb} :
    Real2 (φ := .bf16) (View.ld (Val := Elt Ideal) x2 (Rect.unit ![0, 64 * h] ![n, 64] inb)) (H h).v :=
  ld_top (f := fun h => (H h).v) hx.v h

theorem Inputs.cs (hx : Inputs H x0 x1 x2 x3 x4) (h off : ℕ) {inb} :
    Real3 (φ := .f32) (View.ld (Val := Elt Ideal) x3 (Rect.unit ![h, off, 0] ![1, 256, 1] inb)) fun _ r _ => (H h).c (off + r) :=
  ld_col (f := fun h => (H h).c) hx.c h off

theorem Inputs.rs (hx : Inputs H x0 x1 x2 x3 x4) (h : ℕ) {inb} :
    Real3 (φ := .f32) (View.ld (Val := Elt Ideal) x4 (Rect.unit ![0, h, 0] ![1, 1, n] inb)) fun _ _ s => (H h).c s :=
  ld_row (f := fun h => (H h).c) hx.r h

end Cert.Fox
-- ==== Proof.Loads.lean ====
/- Loads of the backward kernel's blocks, and one more tile of each of its four results. -/
module

public import proofs.«01_k».proof.Proof.Inputs
public import proofs.«01_k».proof.Proof.Gen.KernelIdeal.Frame

@[expose] public section

set_option maxRecDepth 16384

noncomputable section

namespace Cert.Fox

open Idealize.ShloMosaic Cert.KernelIdeal Cert.KernelIdeal.Gen Finset

/-- The blocks that the backward kernel reads beyond those of the forward kernel: the logarithms of the sums of the rows, and the output's
gradient. -/
structure Saved (H : ℕ → Head) (x5 : Vec Ideal ⟨3, ![2, 2048, 1]⟩ .f32) (x6 : Vec Ideal ⟨2, ![2048, 128]⟩ .bf16) : Prop where
  l : Held3 x5 fun h t _ => Real.log ((H h).Z t)
  g : Held2 x6 fun t j => (H (j / 64)).g t (j % 64)

section Loads

variable {H : ℕ → Head} {x0 x1 x2 x6 : Vec Ideal ⟨2, ![2048, 128]⟩ .bf16} {x3 x5 : Vec Ideal ⟨3, ![2, 2048, 1]⟩ .f32}
  {x4 : Vec Ideal ⟨3, ![1, 2, 2048]⟩ .f32} {n : ℕ} {A : Memref sig .tc .vmem S2048x128 .bf16} (hA : A.IsWhole)
  {B : Memref sig .tc .vmem S2x2048x1 .f32} (hB : B.IsWhole) {D : Memref sig .tc .vmem S1x2x2048 .f32} (hD : D.IsWhole)

theorem q_ld (hx : Inputs H x0 x1 x2 x3 x4) (h off : ℕ) {inb} :
    Real2 (φ := .bf16) (View.readAt (Elt Ideal) A.view (Rect.unit (s := S2048x128) ![off, 64 * h] ![n, 64] inb).toLoadRect (hA.unread x0))
      fun r d => (H h).q (off + r) d := by
  rw [View.readAt_eq_ld, hA.read_unread]
  exact hx.qs h off

theorem k_ld (hx : Inputs H x0 x1 x2 x3 x4) (h : ℕ) {inb} :
    Real2 (φ := .bf16) (View.readAt (Elt Ideal) A.view (Rect.unit (s := S2048x128) ![0, 64 * h] ![n, 64] inb).toLoadRect (hA.unread x1)) (H h).k := by
  rw [View.readAt_eq_ld, hA.read_unread]
  exact hx.ks h

theorem v_ld (hx : Inputs H x0 x1 x2 x3 x4) (h : ℕ) {inb} :
    Real2 (φ := .bf16) (View.readAt (Elt Ideal) A.view (Rect.unit (s := S2048x128) ![0, 64 * h] ![n, 64] inb).toLoadRect (hA.unread x2)) (H h).v := by
  rw [View.readAt_eq_ld, hA.read_unread]
  exact hx.vs h

theorem g_ld (hy : Saved H x5 x6) (h off : ℕ) {inb} :
    Real2 (φ := .bf16) (View.readAt (Elt Ideal) A.view (Rect.unit (s := S2048x128) ![off, 64 * h] ![n, 64] inb).toLoadRect (hA.unread x6))
      fun r d => (H h).g (off + r) d := by
  rw [View.readAt_eq_ld, hA.read_unread]
  exact ld_rows (f := fun h => (H h).g) hy.g h off

theorem c_ld (hx : Inputs H x0 x1 x2 x3 x4) (h off : ℕ) {inb} :
    Real3 (φ := .f32) (View.readAt (Elt Ideal) B.view (Rect.unit (s := S2x2048x1) ![h, off, 0] ![1, 256, 1] inb).toLoadRect (hB.unread x3))
      fun _ r _ => (H h).c (off + r) := by
  rw [View.readAt_eq_ld, hB.read_unread]
  exact hx.cs h off

theorem l_ld (hy : Saved H x5 x6) (h off : ℕ) {inb} :
    Real3 (φ := .f32) (View.readAt (Elt Ideal) B.view (Rect.unit (s := S2x2048x1) ![h, off, 0] ![1, 256, 1] inb).toLoadRect (hB.unread x5))
      fun _ r _ => Real.log ((H h).Z (off + r)) := by
  rw [View.readAt_eq_ld, hB.read_unread]
  exact ld_col (f := fun h t => Real.log ((H h).Z t)) hy.l h off

theorem r_ld (hx : Inputs H x0 x1 x2 x3 x4) (h : ℕ) {inb} :
    Real3 (φ := .f32) (View.readAt (Elt Ideal) D.view (Rect.unit (s := S1x2x2048) ![0, h, 0] ![1, 1, n] inb).toLoadRect (hD.unread x4))
      fun _ _ s => (H h).c s := by
  rw [View.readAt_eq_ld, hD.read_unread]
  exact hx.rs h

end Loads

/-- One more tile of the queries' gradient. -/
theorem Filled2.tileB {L : List (View.Piece (Elt Ideal) ⟨2, ![2048, 128]⟩ .bf16)} {f : ℕ → ℕ → ℕ → ℝ} {h u : ℕ}
    (hL : Filled2 L h u fun t j => f (j / 64) t (j % 64)) {inb} {w : Vec Ideal ⟨2, ![256, 64]⟩ .bf16}
    (hw : Real2 (φ := .bf16) w fun r d => f h (256 * u + r) d) :
    Filled2 ((⟨Rect.unit ![256 * u, 64 * h] ![256, 64] inb, w⟩ : View.Piece (Elt Ideal) ⟨2, ![2048, 128]⟩ .bf16) :: L) h (u + 1)
      fun t j => f (j / 64) t (j % 64) :=
  hL.cons fun i j => by
    have hj := j.isLt
    refine (hw i j).trans ?_
    beta_reduce
    rw [show (64 * h + (j : ℕ)) / 64 = h by omega, show (64 * h + (j : ℕ)) % 64 = j by omega]
    rfl

/-- One more tile gathered, from what was gathered before. -/
theorem gatherR {L : List (View.Piece (Elt Ideal) ⟨2, ![2048, 128]⟩ .f32)} {C : ℕ → ℕ → ℕ → ℕ → ℝ} (h u : ℕ) {n : ℕ}
    (hC : ∀ h u s d, 256 * (u + 1) ≤ s → C h u s d = 0) (hL : Held2 (View.canon (Val := Elt Ideal) L) (gathered C h u)) {inb}
    (hn : n = 256 * (u + 1)) {w : Vec Ideal ⟨2, ![n, 64]⟩ .f32}
    (hw : Held2 (View.canon (Val := Elt Ideal) L) (gathered C h u) →
      Real2 (φ := .f32) w fun s d => gathered C h u s (64 * h + d) + C h u s d) :
    Held2 (View.canon (Val := Elt Ideal) ((⟨Rect.unit ![0, 64 * h] ![n, 64] inb, w⟩ : View.Piece (Elt Ideal) ⟨2, ![2048, 128]⟩ .f32) :: L))
      (gathered C h (u + 1)) :=
  gather hC hL hn fun i j => hw hL i j

/-- What was gathered before, loaded. -/
theorem old_ld {L : List (View.Piece (Elt Ideal) ⟨2, ![2048, 128]⟩ .f32)} {f : ℕ → ℕ → ℝ} (hL : Held2 (View.canon (Val := Elt Ideal) L) f)
    {M : Memref sig .tc .vmem S2048x128 .f32} {h n : ℕ} {inb} :
    Real2 (φ := .f32) (M.view.readCov (Val := Elt Ideal) L (Rect.unit (s := S2048x128) ![0, 64 * h] ![n, 64] inb).toLoadRect)
      (fun s d => f s (64 * h + d)) := by
  have e : Held2 (e := .f32) (a := n) (b := 64)
      (M.view.readCov (Val := Elt Ideal) L (Rect.unit (s := S2048x128) ![0, 64 * h] ![n, 64] inb).toLoadRect) (fun s d => f s (64 * h + d)) :=
    (Held2.readCov hL M.view).congr fun i _ j _ => by rw [Nat.zero_add]
  exact fun i j => e i j

/-- One more tile gathered of the column sums, from what was gathered before. -/
theorem gatherR1 {L : List (View.Piece (Elt Ideal) ⟨3, ![1, 2, 2048]⟩ .f32)} {C : ℕ → ℕ → ℕ → ℝ} (h u : ℕ) {n : ℕ}
    (hC : ∀ h u s, 256 * (u + 1) ≤ s → C h u s = 0) (hL : Held3 (View.canon (Val := Elt Ideal) L) fun _ => gathered1 C h u) {inb}
    (hn : n = 256 * (u + 1)) {w : Vec Ideal ⟨3, ![1, 1, n]⟩ .f32}
    (hw : (Held3 (View.canon (Val := Elt Ideal) L) fun _ => gathered1 C h u) →
      Real3 (φ := .f32) w fun _ _ s => gathered1 C h u h s + C h u s) :
    Held3 (View.canon (Val := Elt Ideal) ((⟨Rect.unit ![0, h, 0] ![1, 1, n] inb, w⟩ : View.Piece (Elt Ideal) ⟨3, ![1, 2, 2048]⟩ .f32) :: L))
      (fun _ => gathered1 C h (u + 1)) :=
  gather1 hC hL hn fun l i j => hw hL l i j

/-- What was gathered before of the column sums, loaded. -/
theorem old1_ld {L : List (View.Piece (Elt Ideal) ⟨3, ![1, 2, 2048]⟩ .f32)} {f : ℕ → ℕ → ℝ}
    (hL : Held3 (View.canon (Val := Elt Ideal) L) fun _ => f)
    {M : Memref sig .tc .vmem S1x2x2048 .f32} {h n : ℕ} {inb} :
    Real3 (φ := .f32) (M.view.readCov (Val := Elt Ideal) L (Rect.unit (s := S1x2x2048) ![0, h, 0] ![1, 1, n] inb).toLoadRect)
      (fun _ _ s => f h s) := by
  refine Held3.real (n := 1) (a := 1) (b := n) ?_
  exact (Held3.readCov hL M.view).congr fun l _ i hi j _ => by rw [show h + i = h by omega, Nat.zero_add]

/-- The store of a whole matrix, rounded, of what was gathered. -/
theorem whole_truncf {L : List (View.Piece (Elt Ideal) ⟨2, ![2048, 128]⟩ .f32)} {M : Memref sig .tc .vmem S2048x128 .f32} {f g : ℕ → ℕ → ℝ}
    (hb : FTy.bits .bf16 < FTy.bits .f32) (hL : Held2 (View.canon (Val := Elt Ideal) L) f) (hfg : ∀ s j, j < 128 → f s j = g s j) {inb inb'} :
    Held2 (View.canon (Val := Elt Ideal) [(⟨Rect.unit ![0, 0] ![2048, 128] inb,
      truncf (F := Ideal) (s := ⟨2, ![2048, 128]⟩) .bf16 (M.view.readCov (Val := Elt Ideal) L
        (Rect.unit (s := S2048x128) ![0, 0] ![2048, 128] inb').toLoadRect) hb⟩ : View.Piece (Elt Ideal) ⟨2, ![2048, 128]⟩ .bf16)]
        : Vec Ideal ⟨2, ![2048, 128]⟩ .bf16) g := fun i j => by
  have e : Real2 (φ := .f32) (M.view.readCov (Val := Elt Ideal) L (Rect.unit (s := S2048x128) ![0, 0] ![2048, 128] inb').toLoadRect) f := by
    have e' : Held2 (e := .f32) (a := 2048) (b := 128)
        (M.view.readCov (Val := Elt Ideal) L (Rect.unit (s := S2048x128) ![0, 0] ![2048, 128] inb').toLoadRect) f :=
      (Held2.readCov hL M.view).congr fun i _ j _ => by rw [Nat.zero_add, Nat.zero_add]
    exact fun i j => e' i j
  have e2 := e.truncf hb
  have e3 : Held2 (e := .bf16) (a := 2048) (b := 128) (truncf (F := Ideal) (s := ⟨2, ![2048, 128]⟩) .bf16 (M.view.readCov (Val := Elt Ideal) L
        (Rect.unit (s := S2048x128) ![0, 0] ![2048, 128] inb').toLoadRect) hb) f := fun i j => e2 i j
  have hi := i.isLt
  have hj := j.isLt
  rw [canon_cons2 e3, if_pos (by omega), Nat.sub_zero, Nat.sub_zero, hfg _ _ hj]

/-- The zeros that a gathering begins with. -/
theorem whole_zero {f : ℕ → ℕ → ℝ} (h) (hf : f = fun _ _ => 0) {inb} :
    Held2 (View.canon (Val := Elt Ideal) [(⟨Rect.unit ![0, 0] ![2048, 128] inb,
      shapeCast ⟨2, ![2048, 128]⟩ (broadcast ⟨2, ![2048, 128]⟩ (Scalar.ofBits (F := Ideal) .f32 0x00000000#32)) h⟩ :
        View.Piece (Elt Ideal) ⟨2, ![2048, 128]⟩ .f32)] : Vec Ideal ⟨2, ![2048, 128]⟩ .f32) f := fun i j => by
  have e : Real2 (φ := .f32) (shapeCast ⟨2, ![2048, 128]⟩ (broadcast ⟨2, ![2048, 128]⟩ (Scalar.ofBits (F := Ideal) .f32 0x00000000#32)) h)
      fun _ _ => 0 := Real2.same (fun i j => by pointwise; simp) h
  have e3 : Held2 (e := .f32) (a := 2048) (b := 128) (shapeCast ⟨2, ![2048, 128]⟩ (broadcast ⟨2, ![2048, 128]⟩
      (Scalar.ofBits (F := Ideal) .f32 0x00000000#32)) h) fun _ _ => 0 := fun i j => e i j
  have hi := i.isLt
  have hj := j.isLt
  rw [canon_cons2 e3, if_pos (by omega), hf]

end Cert.Fox
-- ==== Proof.Dk.lean ====
/- What the backward kernel leaves of one pair of heads: the gradient of the keys. -/
module

public import proofs.«01_k».proof.Proof.Loads

@[expose] public section

set_option maxRecDepth 16384

noncomputable section

namespace Cert.Fox

open Idealize.ShloMosaic Cert.KernelIdeal Cert.KernelIdeal.Gen Finset

variable (c : Dev nD) (i : grid1.Coords)
  (arg1 : Memref sig .tc .vmem S2048x128 .bf16) (harg1 : arg1.IsWhole)
  (arg2 : Memref sig .tc .vmem S2048x128 .bf16) (harg2 : arg2.IsWhole)
  (arg3 : Memref sig .tc .vmem S2048x128 .bf16) (harg3 : arg3.IsWhole)
  (arg4 : Memref sig .tc .vmem S2x2048x1 .f32) (harg4 : arg4.IsWhole)
  (arg5 : Memref sig .tc .vmem S1x2x2048 .f32) (harg5 : arg5.IsWhole)
  (arg6 : Memref sig .tc .vmem S2x2048x1 .f32) (harg6 : arg6.IsWhole)
  (arg7 : Memref sig .tc .vmem S2048x128 .bf16) (harg7 : arg7.IsWhole)
  (arg8 : Memref sig .tc .vmem S2048x128 .bf16) (harg8 : arg8.IsWhole)
  (arg9 : Memref sig .tc .vmem S2048x128 .bf16) (harg9 : arg9.IsWhole)
  (arg10 : Memref sig .tc .vmem S2048x128 .bf16) (harg10 : arg10.IsWhole)
  (arg11 : Memref sig .tc .vmem S1x2x2048 .f32) (harg11 : arg11.IsWhole)
  (arg12 : Memref sig .tc .vmem S2048x128 .f32) (harg12 : arg12.IsWhole)
  (arg13 : Memref sig .tc .vmem S2048x128 .f32) (harg13 : arg13.IsWhole)
  {H : ℕ → Head} {x0 x1 x2 : Vec Ideal S2048x128 .bf16} {x3 : Vec Ideal S2x2048x1 .f32} {x4 : Vec Ideal S1x2x2048 .f32}
  {x5 : Vec Ideal S2x2048x1 .f32} {x6 : Vec Ideal S2048x128 .bf16}

/-- What a tile adds to the gradient of the keys. -/
def addK (H : ℕ → Head) (h u s d : ℕ) : ℝ :=
  (∑ r ∈ range 256, (H h).dS (256 * u + r) s * (H h).q (256 * u + r) d) * (1 / 8)

theorem addK_zero (H : ℕ → Head) (h u s d : ℕ) (hs : 256 * (u + 1) ≤ s) : addK H h u s d = 0 := by
  unfold addK
  rw [sum_eq_zero fun r hr => by rw [(H h).dS_of_lt (by have := mem_range.1 hr; omega), zero_mul], zero_mul]

/-- All tiles together. -/
theorem addK_sum (H : ℕ → Head) {s j : ℕ} (hj : j < 128) : gathered (addK H) 1 8 s j = (H (j / 64)).dk s (j % 64) := by
  have e : gathered (addK H) 1 8 s j = ∑ i ∈ range 8, addK H (j / 64) i s (j % 64) := by
    unfold gathered
    by_cases h : j < 64 * 1
    · rw [if_pos h]
    · rw [if_neg h, if_pos (by omega)]
  rw [e]
  unfold addK Head.dk
  rw [← sum_mul, show (2048 : ℕ) = 256 * 8 from rfl, sum_tiles]

/-- The backward kernel leaves a pair of heads' gradients of the keys. -/
theorem run_dk (hx : Inputs H x0 x1 x2 x3 x4) (hy : Saved H x5 x6) :
    Held2 (View.canon (Val := Elt Ideal) (kernelRun1_A (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6).2.1 : Vec Ideal ⟨2, ![2048, 128]⟩ .bf16)
      fun s j => (H (j / 64)).dk s (j % 64) := by
  unfold kernelRun1_A
  dsimp only
  refine whole_truncf (f := gathered (addK H) 1 8) bitsLt_bf16_f32 ?_ fun s j hj => addK_sum H hj
  refine gatherR 1 7 (addK_zero H) ?_ rfl (fun hL => tile_dk (H 1) (off := 256 * 7) (n := 2048) (f := fun s d => gathered (addK H) 1 7 s (64 * 1 + d)) (score (H 1) (attn (H 1) (masked_concat (logits (H 1) (q_ld harg1 hx 1 (256 * 7)) (k_ld harg2 hx 1) (c_ld harg4 hx 1 (256 * 7)) (r_ld harg5 hx 1) (s0 := shapeCasts_S1x256x1_S256x1) (s1 := shapeCasts_S1x1x2048_S1x2048) (b0 := broadcasts_S256x1_S256x2048) (b1 := broadcasts_S1x2048_S256x2048)) rfl rfl concatenates_S256x1792_S256x256_S256x2048_d1 (s0 := slices_S256x2048_o0_0_S256x1792) (s1 := slices_S256x2048_o0_1792_S256x256)) (l_ld harg6 hy 1 (256 * 7)) (s0 := shapeCasts_S1x256x1_S256x1) (b0 := broadcasts_S256x1_S256x2048)) (g_ld harg7 hy 1 (256 * 7)) (v_ld harg3 hx 1) rfl (by decide) (h := reduces_S256x2048_S256) (h1 := .inl rfl) (h2 := rfl) (s0 := shapeCasts_S256_S256x1) (b0 := broadcasts_S256x1_S256x2048)) (q_ld harg1 hx 1 (256 * 7)) (old_ld (f := gathered (addK H) 1 7) (h := 1) hL) (h := bitsLt_bf16_f32) (s0 := shapeCasts_S2048x64_S2048x64))
  refine gatherR 1 6 (addK_zero H) ?_ rfl (fun hL => tile_dk (H 1) (off := 256 * 6) (n := 1792) (f := fun s d => gathered (addK H) 1 6 s (64 * 1 + d)) (score (H 1) (attn (H 1) (masked_concat (logits (H 1) (q_ld harg1 hx 1 (256 * 6)) (k_ld harg2 hx 1) (c_ld harg4 hx 1 (256 * 6)) (r_ld harg5 hx 1) (s0 := shapeCasts_S1x256x1_S256x1) (s1 := shapeCasts_S1x1x1792_S1x1792) (b0 := broadcasts_S256x1_S256x1792) (b1 := broadcasts_S1x1792_S256x1792)) rfl rfl concatenates_S256x1536_S256x256_S256x1792_d1 (s0 := slices_S256x1792_o0_0_S256x1536) (s1 := slices_S256x1792_o0_1536_S256x256)) (l_ld harg6 hy 1 (256 * 6)) (s0 := shapeCasts_S1x256x1_S256x1) (b0 := broadcasts_S256x1_S256x1792)) (g_ld harg7 hy 1 (256 * 6)) (v_ld harg3 hx 1) rfl (by decide) (h := reduces_S256x1792_S256) (h1 := .inl rfl) (h2 := rfl) (s0 := shapeCasts_S256_S256x1) (b0 := broadcasts_S256x1_S256x1792)) (q_ld harg1 hx 1 (256 * 6)) (old_ld (f := gathered (addK H) 1 6) (h := 1) hL) (h := bitsLt_bf16_f32) (s0 := shapeCasts_S1792x64_S1792x64))
  refine gatherR 1 5 (addK_zero H) ?_ rfl (fun hL => tile_dk (H 1) (off := 256 * 5) (n := 1536) (f := fun s d => gathered (addK H) 1 5 s (64 * 1 + d)) (score (H 1) (attn (H 1) (masked_concat (logits (H 1) (q_ld harg1 hx 1 (256 * 5)) (k_ld harg2 hx 1) (c_ld harg4 hx 1 (256 * 5)) (r_ld harg5 hx 1) (s0 := shapeCasts_S1x256x1_S256x1) (s1 := shapeCasts_S1x1x1536_S1x1536) (b0 := broadcasts_S256x1_S256x1536) (b1 := broadcasts_S1x1536_S256x1536)) rfl rfl concatenates_S256x1280_S256x256_S256x1536_d1 (s0 := slices_S256x1536_o0_0_S256x1280) (s1 := slices_S256x1536_o0_1280_S256x256)) (l_ld harg6 hy 1 (256 * 5)) (s0 := shapeCasts_S1x256x1_S256x1) (b0 := broadcasts_S256x1_S256x1536)) (g_ld harg7 hy 1 (256 * 5)) (v_ld harg3 hx 1) rfl (by decide) (h := reduces_S256x1536_S256) (h1 := .inl rfl) (h2 := rfl) (s0 := shapeCasts_S256_S256x1) (b0 := broadcasts_S256x1_S256x1536)) (q_ld harg1 hx 1 (256 * 5)) (old_ld (f := gathered (addK H) 1 5) (h := 1) hL) (h := bitsLt_bf16_f32) (s0 := shapeCasts_S1536x64_S1536x64))
  refine gatherR 1 4 (addK_zero H) ?_ rfl (fun hL => tile_dk (H 1) (off := 256 * 4) (n := 1280) (f := fun s d => gathered (addK H) 1 4 s (64 * 1 + d)) (score (H 1) (attn (H 1) (masked_concat (logits (H 1) (q_ld harg1 hx 1 (256 * 4)) (k_ld harg2 hx 1) (c_ld harg4 hx 1 (256 * 4)) (r_ld harg5 hx 1) (s0 := shapeCasts_S1x256x1_S256x1) (s1 := shapeCasts_S1x1x1280_S1x1280) (b0 := broadcasts_S256x1_S256x1280) (b1 := broadcasts_S1x1280_S256x1280)) rfl rfl concatenates_S256x1024_S256x256_S256x1280_d1 (s0 := slices_S256x1280_o0_0_S256x1024) (s1 := slices_S256x1280_o0_1024_S256x256)) (l_ld harg6 hy 1 (256 * 4)) (s0 := shapeCasts_S1x256x1_S256x1) (b0 := broadcasts_S256x1_S256x1280)) (g_ld harg7 hy 1 (256 * 4)) (v_ld harg3 hx 1) rfl (by decide) (h := reduces_S256x1280_S256) (h1 := .inl rfl) (h2 := rfl) (s0 := shapeCasts_S256_S256x1) (b0 := broadcasts_S256x1_S256x1280)) (q_ld harg1 hx 1 (256 * 4)) (old_ld (f := gathered (addK H) 1 4) (h := 1) hL) (h := bitsLt_bf16_f32) (s0 := shapeCasts_S1280x64_S1280x64))
  refine gatherR 1 3 (addK_zero H) ?_ rfl (fun hL => tile_dk (H 1) (off := 256 * 3) (n := 1024) (f := fun s d => gathered (addK H) 1 3 s (64 * 1 + d)) (score (H 1) (attn (H 1) (masked_concat (logits (H 1) (q_ld harg1 hx 1 (256 * 3)) (k_ld harg2 hx 1) (c_ld harg4 hx 1 (256 * 3)) (r_ld harg5 hx 1) (s0 := shapeCasts_S1x256x1_S256x1) (s1 := shapeCasts_S1x1x1024_S1x1024) (b0 := broadcasts_S256x1_S256x1024) (b1 := broadcasts_S1x1024_S256x1024)) rfl rfl concatenates_S256x768_S256x256_S256x1024_d1 (s0 := slices_S256x1024_o0_0_S256x768) (s1 := slices_S256x1024_o0_768_S256x256)) (l_ld harg6 hy 1 (256 * 3)) (s0 := shapeCasts_S1x256x1_S256x1) (b0 := broadcasts_S256x1_S256x1024)) (g_ld harg7 hy 1 (256 * 3)) (v_ld harg3 hx 1) rfl (by decide) (h := reduces_S256x1024_S256) (h1 := .inl rfl) (h2 := rfl) (s0 := shapeCasts_S256_S256x1) (b0 := broadcasts_S256x1_S256x1024)) (q_ld harg1 hx 1 (256 * 3)) (old_ld (f := gathered (addK H) 1 3) (h := 1) hL) (h := bitsLt_bf16_f32) (s0 := shapeCasts_S1024x64_S1024x64))
  refine gatherR 1 2 (addK_zero H) ?_ rfl (fun hL => tile_dk (H 1) (off := 256 * 2) (n := 768) (f := fun s d => gathered (addK H) 1 2 s (64 * 1 + d)) (score (H 1) (attn (H 1) (masked_concat (logits (H 1) (q_ld harg1 hx 1 (256 * 2)) (k_ld harg2 hx 1) (c_ld harg4 hx 1 (256 * 2)) (r_ld harg5 hx 1) (s0 := shapeCasts_S1x256x1_S256x1) (s1 := shapeCasts_S1x1x768_S1x768) (b0 := broadcasts_S256x1_S256x768) (b1 := broadcasts_S1x768_S256x768)) rfl rfl concatenates_S256x512_S256x256_S256x768_d1 (s0 := slices_S256x768_o0_0_S256x512) (s1 := slices_S256x768_o0_512_S256x256)) (l_ld harg6 hy 1 (256 * 2)) (s0 := shapeCasts_S1x256x1_S256x1) (b0 := broadcasts_S256x1_S256x768)) (g_ld harg7 hy 1 (256 * 2)) (v_ld harg3 hx 1) rfl (by decide) (h := reduces_S256x768_S256) (h1 := .inl rfl) (h2 := rfl) (s0 := shapeCasts_S256_S256x1) (b0 := broadcasts_S256x1_S256x768)) (q_ld harg1 hx 1 (256 * 2)) (old_ld (f := gathered (addK H) 1 2) (h := 1) hL) (h := bitsLt_bf16_f32) (s0 := shapeCasts_S768x64_S768x64))
  refine gatherR 1 1 (addK_zero H) ?_ rfl (fun hL => tile_dk (H 1) (off := 256 * 1) (n := 512) (f := fun s d => gathered (addK H) 1 1 s (64 * 1 + d)) (score (H 1) (attn (H 1) (masked_concat (logits (H 1) (q_ld harg1 hx 1 (256 * 1)) (k_ld harg2 hx 1) (c_ld harg4 hx 1 (256 * 1)) (r_ld harg5 hx 1) (s0 := shapeCasts_S1x256x1_S256x1) (s1 := shapeCasts_S1x1x512_S1x512) (b0 := broadcasts_S256x1_S256x512) (b1 := broadcasts_S1x512_S256x512)) rfl rfl concatenates_S256x256_S256x256_S256x512_d1 (s0 := slices_S256x512_o0_0_S256x256) (s1 := slices_S256x512_o0_256_S256x256)) (l_ld harg6 hy 1 (256 * 1)) (s0 := shapeCasts_S1x256x1_S256x1) (b0 := broadcasts_S256x1_S256x512)) (g_ld harg7 hy 1 (256 * 1)) (v_ld harg3 hx 1) rfl (by decide) (h := reduces_S256x512_S256) (h1 := .inl rfl) (h2 := rfl) (s0 := shapeCasts_S256_S256x1) (b0 := broadcasts_S256x1_S256x512)) (q_ld harg1 hx 1 (256 * 1)) (old_ld (f := gathered (addK H) 1 1) (h := 1) hL) (h := bitsLt_bf16_f32) (s0 := shapeCasts_S512x64_S512x64))
  refine gatherR 1 0 (addK_zero H) ?_ rfl (fun hL => tile_dk (H 1) (off := 256 * 0) (n := 256) (f := fun s d => gathered (addK H) 1 0 s (64 * 1 + d)) (score (H 1) (attn (H 1) (masked_one (logits (H 1) (q_ld harg1 hx 1 (256 * 0)) (k_ld harg2 hx 1) (c_ld harg4 hx 1 (256 * 0)) (r_ld harg5 hx 1) (s0 := shapeCasts_S1x256x1_S256x1) (s1 := shapeCasts_S1x1x256_S1x256) (b0 := broadcasts_S256x1_S256x256) (b1 := broadcasts_S1x256_S256x256)) rfl) (l_ld harg6 hy 1 (256 * 0)) (s0 := shapeCasts_S1x256x1_S256x1) (b0 := broadcasts_S256x1_S256x256)) (g_ld harg7 hy 1 (256 * 0)) (v_ld harg3 hx 1) rfl (by decide) (h := reduces_S256x256_S256) (h1 := .inl rfl) (h2 := rfl) (s0 := shapeCasts_S256_S256x1) (b0 := broadcasts_S256x1_S256x256)) (q_ld harg1 hx 1 (256 * 0)) (old_ld (f := gathered (addK H) 1 0) (h := 1) hL) (h := bitsLt_bf16_f32) (s0 := shapeCasts_S256x64_S256x64))
  rw [← gathered_next]
  refine gatherR 0 7 (addK_zero H) ?_ rfl (fun hL => tile_dk (H 0) (off := 256 * 7) (n := 2048) (f := fun s d => gathered (addK H) 0 7 s (64 * 0 + d)) (score (H 0) (attn (H 0) (masked_concat (logits (H 0) (q_ld harg1 hx 0 (256 * 7)) (k_ld harg2 hx 0) (c_ld harg4 hx 0 (256 * 7)) (r_ld harg5 hx 0) (s0 := shapeCasts_S1x256x1_S256x1) (s1 := shapeCasts_S1x1x2048_S1x2048) (b0 := broadcasts_S256x1_S256x2048) (b1 := broadcasts_S1x2048_S256x2048)) rfl rfl concatenates_S256x1792_S256x256_S256x2048_d1 (s0 := slices_S256x2048_o0_0_S256x1792) (s1 := slices_S256x2048_o0_1792_S256x256)) (l_ld harg6 hy 0 (256 * 7)) (s0 := shapeCasts_S1x256x1_S256x1) (b0 := broadcasts_S256x1_S256x2048)) (g_ld harg7 hy 0 (256 * 7)) (v_ld harg3 hx 0) rfl (by decide) (h := reduces_S256x2048_S256) (h1 := .inl rfl) (h2 := rfl) (s0 := shapeCasts_S256_S256x1) (b0 := broadcasts_S256x1_S256x2048)) (q_ld harg1 hx 0 (256 * 7)) (old_ld (f := gathered (addK H) 0 7) (h := 0) hL) (h := bitsLt_bf16_f32) (s0 := shapeCasts_S2048x64_S2048x64))
  refine gatherR 0 6 (addK_zero H) ?_ rfl (fun hL => tile_dk (H 0) (off := 256 * 6) (n := 1792) (f := fun s d => gathered (addK H) 0 6 s (64 * 0 + d)) (score (H 0) (attn (H 0) (masked_concat (logits (H 0) (q_ld harg1 hx 0 (256 * 6)) (k_ld harg2 hx 0) (c_ld harg4 hx 0 (256 * 6)) (r_ld harg5 hx 0) (s0 := shapeCasts_S1x256x1_S256x1) (s1 := shapeCasts_S1x1x1792_S1x1792) (b0 := broadcasts_S256x1_S256x1792) (b1 := broadcasts_S1x1792_S256x1792)) rfl rfl concatenates_S256x1536_S256x256_S256x1792_d1 (s0 := slices_S256x1792_o0_0_S256x1536) (s1 := slices_S256x1792_o0_1536_S256x256)) (l_ld harg6 hy 0 (256 * 6)) (s0 := shapeCasts_S1x256x1_S256x1) (b0 := broadcasts_S256x1_S256x1792)) (g_ld harg7 hy 0 (256 * 6)) (v_ld harg3 hx 0) rfl (by decide) (h := reduces_S256x1792_S256) (h1 := .inl rfl) (h2 := rfl) (s0 := shapeCasts_S256_S256x1) (b0 := broadcasts_S256x1_S256x1792)) (q_ld harg1 hx 0 (256 * 6)) (old_ld (f := gathered (addK H) 0 6) (h := 0) hL) (h := bitsLt_bf16_f32) (s0 := shapeCasts_S1792x64_S1792x64))
  refine gatherR 0 5 (addK_zero H) ?_ rfl (fun hL => tile_dk (H 0) (off := 256 * 5) (n := 1536) (f := fun s d => gathered (addK H) 0 5 s (64 * 0 + d)) (score (H 0) (attn (H 0) (masked_concat (logits (H 0) (q_ld harg1 hx 0 (256 * 5)) (k_ld harg2 hx 0) (c_ld harg4 hx 0 (256 * 5)) (r_ld harg5 hx 0) (s0 := shapeCasts_S1x256x1_S256x1) (s1 := shapeCasts_S1x1x1536_S1x1536) (b0 := broadcasts_S256x1_S256x1536) (b1 := broadcasts_S1x1536_S256x1536)) rfl rfl concatenates_S256x1280_S256x256_S256x1536_d1 (s0 := slices_S256x1536_o0_0_S256x1280) (s1 := slices_S256x1536_o0_1280_S256x256)) (l_ld harg6 hy 0 (256 * 5)) (s0 := shapeCasts_S1x256x1_S256x1) (b0 := broadcasts_S256x1_S256x1536)) (g_ld harg7 hy 0 (256 * 5)) (v_ld harg3 hx 0) rfl (by decide) (h := reduces_S256x1536_S256) (h1 := .inl rfl) (h2 := rfl) (s0 := shapeCasts_S256_S256x1) (b0 := broadcasts_S256x1_S256x1536)) (q_ld harg1 hx 0 (256 * 5)) (old_ld (f := gathered (addK H) 0 5) (h := 0) hL) (h := bitsLt_bf16_f32) (s0 := shapeCasts_S1536x64_S1536x64))
  refine gatherR 0 4 (addK_zero H) ?_ rfl (fun hL => tile_dk (H 0) (off := 256 * 4) (n := 1280) (f := fun s d => gathered (addK H) 0 4 s (64 * 0 + d)) (score (H 0) (attn (H 0) (masked_concat (logits (H 0) (q_ld harg1 hx 0 (256 * 4)) (k_ld harg2 hx 0) (c_ld harg4 hx 0 (256 * 4)) (r_ld harg5 hx 0) (s0 := shapeCasts_S1x256x1_S256x1) (s1 := shapeCasts_S1x1x1280_S1x1280) (b0 := broadcasts_S256x1_S256x1280) (b1 := broadcasts_S1x1280_S256x1280)) rfl rfl concatenates_S256x1024_S256x256_S256x1280_d1 (s0 := slices_S256x1280_o0_0_S256x1024) (s1 := slices_S256x1280_o0_1024_S256x256)) (l_ld harg6 hy 0 (256 * 4)) (s0 := shapeCasts_S1x256x1_S256x1) (b0 := broadcasts_S256x1_S256x1280)) (g_ld harg7 hy 0 (256 * 4)) (v_ld harg3 hx 0) rfl (by decide) (h := reduces_S256x1280_S256) (h1 := .inl rfl) (h2 := rfl) (s0 := shapeCasts_S256_S256x1) (b0 := broadcasts_S256x1_S256x1280)) (q_ld harg1 hx 0 (256 * 4)) (old_ld (f := gathered (addK H) 0 4) (h := 0) hL) (h := bitsLt_bf16_f32) (s0 := shapeCasts_S1280x64_S1280x64))
  refine gatherR 0 3 (addK_zero H) ?_ rfl (fun hL => tile_dk (H 0) (off := 256 * 3) (n := 1024) (f := fun s d => gathered (addK H) 0 3 s (64 * 0 + d)) (score (H 0) (attn (H 0) (masked_concat (logits (H 0) (q_ld harg1 hx 0 (256 * 3)) (k_ld harg2 hx 0) (c_ld harg4 hx 0 (256 * 3)) (r_ld harg5 hx 0) (s0 := shapeCasts_S1x256x1_S256x1) (s1 := shapeCasts_S1x1x1024_S1x1024) (b0 := broadcasts_S256x1_S256x1024) (b1 := broadcasts_S1x1024_S256x1024)) rfl rfl concatenates_S256x768_S256x256_S256x1024_d1 (s0 := slices_S256x1024_o0_0_S256x768) (s1 := slices_S256x1024_o0_768_S256x256)) (l_ld harg6 hy 0 (256 * 3)) (s0 := shapeCasts_S1x256x1_S256x1) (b0 := broadcasts_S256x1_S256x1024)) (g_ld harg7 hy 0 (256 * 3)) (v_ld harg3 hx 0) rfl (by decide) (h := reduces_S256x1024_S256) (h1 := .inl rfl) (h2 := rfl) (s0 := shapeCasts_S256_S256x1) (b0 := broadcasts_S256x1_S256x1024)) (q_ld harg1 hx 0 (256 * 3)) (old_ld (f := gathered (addK H) 0 3) (h := 0) hL) (h := bitsLt_bf16_f32) (s0 := shapeCasts_S1024x64_S1024x64))
  refine gatherR 0 2 (addK_zero H) ?_ rfl (fun hL => tile_dk (H 0) (off := 256 * 2) (n := 768) (f := fun s d => gathered (addK H) 0 2 s (64 * 0 + d)) (score (H 0) (attn (H 0) (masked_concat (logits (H 0) (q_ld harg1 hx 0 (256 * 2)) (k_ld harg2 hx 0) (c_ld harg4 hx 0 (256 * 2)) (r_ld harg5 hx 0) (s0 := shapeCasts_S1x256x1_S256x1) (s1 := shapeCasts_S1x1x768_S1x768) (b0 := broadcasts_S256x1_S256x768) (b1 := broadcasts_S1x768_S256x768)) rfl rfl concatenates_S256x512_S256x256_S256x768_d1 (s0 := slices_S256x768_o0_0_S256x512) (s1 := slices_S256x768_o0_512_S256x256)) (l_ld harg6 hy 0 (256 * 2)) (s0 := shapeCasts_S1x256x1_S256x1) (b0 := broadcasts_S256x1_S256x768)) (g_ld harg7 hy 0 (256 * 2)) (v_ld harg3 hx 0) rfl (by decide) (h := reduces_S256x768_S256) (h1 := .inl rfl) (h2 := rfl) (s0 := shapeCasts_S256_S256x1) (b0 := broadcasts_S256x1_S256x768)) (q_ld harg1 hx 0 (256 * 2)) (old_ld (f := gathered (addK H) 0 2) (h := 0) hL) (h := bitsLt_bf16_f32) (s0 := shapeCasts_S768x64_S768x64))
  refine gatherR 0 1 (addK_zero H) ?_ rfl (fun hL => tile_dk (H 0) (off := 256 * 1) (n := 512) (f := fun s d => gathered (addK H) 0 1 s (64 * 0 + d)) (score (H 0) (attn (H 0) (masked_concat (logits (H 0) (q_ld harg1 hx 0 (256 * 1)) (k_ld harg2 hx 0) (c_ld harg4 hx 0 (256 * 1)) (r_ld harg5 hx 0) (s0 := shapeCasts_S1x256x1_S256x1) (s1 := shapeCasts_S1x1x512_S1x512) (b0 := broadcasts_S256x1_S256x512) (b1 := broadcasts_S1x512_S256x512)) rfl rfl concatenates_S256x256_S256x256_S256x512_d1 (s0 := slices_S256x512_o0_0_S256x256) (s1 := slices_S256x512_o0_256_S256x256)) (l_ld harg6 hy 0 (256 * 1)) (s0 := shapeCasts_S1x256x1_S256x1) (b0 := broadcasts_S256x1_S256x512)) (g_ld harg7 hy 0 (256 * 1)) (v_ld harg3 hx 0) rfl (by decide) (h := reduces_S256x512_S256) (h1 := .inl rfl) (h2 := rfl) (s0 := shapeCasts_S256_S256x1) (b0 := broadcasts_S256x1_S256x512)) (q_ld harg1 hx 0 (256 * 1)) (old_ld (f := gathered (addK H) 0 1) (h := 0) hL) (h := bitsLt_bf16_f32) (s0 := shapeCasts_S512x64_S512x64))
  refine gatherR 0 0 (addK_zero H) ?_ rfl (fun hL => tile_dk (H 0) (off := 256 * 0) (n := 256) (f := fun s d => gathered (addK H) 0 0 s (64 * 0 + d)) (score (H 0) (attn (H 0) (masked_one (logits (H 0) (q_ld harg1 hx 0 (256 * 0)) (k_ld harg2 hx 0) (c_ld harg4 hx 0 (256 * 0)) (r_ld harg5 hx 0) (s0 := shapeCasts_S1x256x1_S256x1) (s1 := shapeCasts_S1x1x256_S1x256) (b0 := broadcasts_S256x1_S256x256) (b1 := broadcasts_S1x256_S256x256)) rfl) (l_ld harg6 hy 0 (256 * 0)) (s0 := shapeCasts_S1x256x1_S256x1) (b0 := broadcasts_S256x1_S256x256)) (g_ld harg7 hy 0 (256 * 0)) (v_ld harg3 hx 0) rfl (by decide) (h := reduces_S256x256_S256) (h1 := .inl rfl) (h2 := rfl) (s0 := shapeCasts_S256_S256x1) (b0 := broadcasts_S256x1_S256x256)) (q_ld harg1 hx 0 (256 * 0)) (old_ld (f := gathered (addK H) 0 0) (h := 0) hL) (h := bitsLt_bf16_f32) (s0 := shapeCasts_S256x64_S256x64))
  exact whole_zero _ (gathered_zero _)

end Cert.Fox
-- ==== Proof.Dv.lean ====
/- What the backward kernel leaves of one pair of heads: the gradient of the values. -/
module

public import proofs.«01_k».proof.Proof.Loads

@[expose] public section

set_option maxRecDepth 16384

noncomputable section

namespace Cert.Fox

open Idealize.ShloMosaic Cert.KernelIdeal Cert.KernelIdeal.Gen Finset

variable (c : Dev nD) (i : grid1.Coords)
  (arg1 : Memref sig .tc .vmem S2048x128 .bf16) (harg1 : arg1.IsWhole)
  (arg2 : Memref sig .tc .vmem S2048x128 .bf16) (harg2 : arg2.IsWhole)
  (arg3 : Memref sig .tc .vmem S2048x128 .bf16) (harg3 : arg3.IsWhole)
  (arg4 : Memref sig .tc .vmem S2x2048x1 .f32) (harg4 : arg4.IsWhole)
  (arg5 : Memref sig .tc .vmem S1x2x2048 .f32) (harg5 : arg5.IsWhole)
  (arg6 : Memref sig .tc .vmem S2x2048x1 .f32) (harg6 : arg6.IsWhole)
  (arg7 : Memref sig .tc .vmem S2048x128 .bf16) (harg7 : arg7.IsWhole)
  (arg8 : Memref sig .tc .vmem S2048x128 .bf16) (harg8 : arg8.IsWhole)
  (arg9 : Memref sig .tc .vmem S2048x128 .bf16) (harg9 : arg9.IsWhole)
  (arg10 : Memref sig .tc .vmem S2048x128 .bf16) (harg10 : arg10.IsWhole)
  (arg11 : Memref sig .tc .vmem S1x2x2048 .f32) (harg11 : arg11.IsWhole)
  (arg12 : Memref sig .tc .vmem S2048x128 .f32) (harg12 : arg12.IsWhole)
  (arg13 : Memref sig .tc .vmem S2048x128 .f32) (harg13 : arg13.IsWhole)
  {H : ℕ → Head} {x0 x1 x2 : Vec Ideal S2048x128 .bf16} {x3 : Vec Ideal S2x2048x1 .f32} {x4 : Vec Ideal S1x2x2048 .f32}
  {x5 : Vec Ideal S2x2048x1 .f32} {x6 : Vec Ideal S2048x128 .bf16}

/-- What a tile adds to the gradient of the values. -/
def addV (H : ℕ → Head) (h u s d : ℕ) : ℝ := ∑ r ∈ range 256, (H h).P (256 * u + r) s * (H h).g (256 * u + r) d

theorem addV_zero (H : ℕ → Head) (h u s d : ℕ) (hs : 256 * (u + 1) ≤ s) : addV H h u s d = 0 := by
  unfold addV
  rw [sum_eq_zero fun r hr => by rw [(H h).P_of_lt (by have := mem_range.1 hr; omega), zero_mul]]

/-- All tiles together. -/
theorem addV_sum (H : ℕ → Head) {s j : ℕ} (hj : j < 128) : gathered (addV H) 1 8 s j = (H (j / 64)).dv s (j % 64) := by
  have e : gathered (addV H) 1 8 s j = ∑ i ∈ range 8, addV H (j / 64) i s (j % 64) := by
    unfold gathered
    by_cases h : j < 64 * 1
    · rw [if_pos h]
    · rw [if_neg h, if_pos (by omega)]
  rw [e]
  unfold addV Head.dv
  rw [show (2048 : ℕ) = 256 * 8 from rfl, sum_tiles]

/-- The backward kernel leaves a pair of heads' gradients of the values. -/
theorem run_dv (hx : Inputs H x0 x1 x2 x3 x4) (hy : Saved H x5 x6) :
    Held2 (View.canon (Val := Elt Ideal) (kernelRun1_A (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6).2.2.1 : Vec Ideal ⟨2, ![2048, 128]⟩ .bf16)
      fun s j => (H (j / 64)).dv s (j % 64) := by
  unfold kernelRun1_A
  dsimp only
  refine whole_truncf (f := gathered (addV H) 1 8) bitsLt_bf16_f32 ?_ fun s j hj => addV_sum H hj
  refine gatherR 1 7 (addV_zero H) ?_ rfl (fun hL => tile_dv (H 1) (off := 256 * 7) (n := 2048) (f := fun s d => gathered (addV H) 1 7 s (64 * 1 + d)) (attn (H 1) (masked_concat (logits (H 1) (q_ld harg1 hx 1 (256 * 7)) (k_ld harg2 hx 1) (c_ld harg4 hx 1 (256 * 7)) (r_ld harg5 hx 1) (s0 := shapeCasts_S1x256x1_S256x1) (s1 := shapeCasts_S1x1x2048_S1x2048) (b0 := broadcasts_S256x1_S256x2048) (b1 := broadcasts_S1x2048_S256x2048)) rfl rfl concatenates_S256x1792_S256x256_S256x2048_d1 (s0 := slices_S256x2048_o0_0_S256x1792) (s1 := slices_S256x2048_o0_1792_S256x256)) (l_ld harg6 hy 1 (256 * 7)) (s0 := shapeCasts_S1x256x1_S256x1) (b0 := broadcasts_S256x1_S256x2048)) (g_ld harg7 hy 1 (256 * 7)) (old_ld (f := gathered (addV H) 1 7) (h := 1) hL) (h := bitsLt_bf16_f32) (s0 := shapeCasts_S2048x64_S2048x64))
  refine gatherR 1 6 (addV_zero H) ?_ rfl (fun hL => tile_dv (H 1) (off := 256 * 6) (n := 1792) (f := fun s d => gathered (addV H) 1 6 s (64 * 1 + d)) (attn (H 1) (masked_concat (logits (H 1) (q_ld harg1 hx 1 (256 * 6)) (k_ld harg2 hx 1) (c_ld harg4 hx 1 (256 * 6)) (r_ld harg5 hx 1) (s0 := shapeCasts_S1x256x1_S256x1) (s1 := shapeCasts_S1x1x1792_S1x1792) (b0 := broadcasts_S256x1_S256x1792) (b1 := broadcasts_S1x1792_S256x1792)) rfl rfl concatenates_S256x1536_S256x256_S256x1792_d1 (s0 := slices_S256x1792_o0_0_S256x1536) (s1 := slices_S256x1792_o0_1536_S256x256)) (l_ld harg6 hy 1 (256 * 6)) (s0 := shapeCasts_S1x256x1_S256x1) (b0 := broadcasts_S256x1_S256x1792)) (g_ld harg7 hy 1 (256 * 6)) (old_ld (f := gathered (addV H) 1 6) (h := 1) hL) (h := bitsLt_bf16_f32) (s0 := shapeCasts_S1792x64_S1792x64))
  refine gatherR 1 5 (addV_zero H) ?_ rfl (fun hL => tile_dv (H 1) (off := 256 * 5) (n := 1536) (f := fun s d => gathered (addV H) 1 5 s (64 * 1 + d)) (attn (H 1) (masked_concat (logits (H 1) (q_ld harg1 hx 1 (256 * 5)) (k_ld harg2 hx 1) (c_ld harg4 hx 1 (256 * 5)) (r_ld harg5 hx 1) (s0 := shapeCasts_S1x256x1_S256x1) (s1 := shapeCasts_S1x1x1536_S1x1536) (b0 := broadcasts_S256x1_S256x1536) (b1 := broadcasts_S1x1536_S256x1536)) rfl rfl concatenates_S256x1280_S256x256_S256x1536_d1 (s0 := slices_S256x1536_o0_0_S256x1280) (s1 := slices_S256x1536_o0_1280_S256x256)) (l_ld harg6 hy 1 (256 * 5)) (s0 := shapeCasts_S1x256x1_S256x1) (b0 := broadcasts_S256x1_S256x1536)) (g_ld harg7 hy 1 (256 * 5)) (old_ld (f := gathered (addV H) 1 5) (h := 1) hL) (h := bitsLt_bf16_f32) (s0 := shapeCasts_S1536x64_S1536x64))
  refine gatherR 1 4 (addV_zero H) ?_ rfl (fun hL => tile_dv (H 1) (off := 256 * 4) (n := 1280) (f := fun s d => gathered (addV H) 1 4 s (64 * 1 + d)) (attn (H 1) (masked_concat (logits (H 1) (q_ld harg1 hx 1 (256 * 4)) (k_ld harg2 hx 1) (c_ld harg4 hx 1 (256 * 4)) (r_ld harg5 hx 1) (s0 := shapeCasts_S1x256x1_S256x1) (s1 := shapeCasts_S1x1x1280_S1x1280) (b0 := broadcasts_S256x1_S256x1280) (b1 := broadcasts_S1x1280_S256x1280)) rfl rfl concatenates_S256x1024_S256x256_S256x1280_d1 (s0 := slices_S256x1280_o0_0_S256x1024) (s1 := slices_S256x1280_o0_1024_S256x256)) (l_ld harg6 hy 1 (256 * 4)) (s0 := shapeCasts_S1x256x1_S256x1) (b0 := broadcasts_S256x1_S256x1280)) (g_ld harg7 hy 1 (256 * 4)) (old_ld (f := gathered (addV H) 1 4) (h := 1) hL) (h := bitsLt_bf16_f32) (s0 := shapeCasts_S1280x64_S1280x64))
  refine gatherR 1 3 (addV_zero H) ?_ rfl (fun hL => tile_dv (H 1) (off := 256 * 3) (n := 1024) (f := fun s d => gathered (addV H) 1 3 s (64 * 1 + d)) (attn (H 1) (masked_concat (logits (H 1) (q_ld harg1 hx 1 (256 * 3)) (k_ld harg2 hx 1) (c_ld harg4 hx 1 (256 * 3)) (r_ld harg5 hx 1) (s0 := shapeCasts_S1x256x1_S256x1) (s1 := shapeCasts_S1x1x1024_S1x1024) (b0 := broadcasts_S256x1_S256x1024) (b1 := broadcasts_S1x1024_S256x1024)) rfl rfl concatenates_S256x768_S256x256_S256x1024_d1 (s0 := slices_S256x1024_o0_0_S256x768) (s1 := slices_S256x1024_o0_768_S256x256)) (l_ld harg6 hy 1 (256 * 3)) (s0 := shapeCasts_S1x256x1_S256x1) (b0 := broadcasts_S256x1_S256x1024)) (g_ld harg7 hy 1 (256 * 3)) (old_ld (f := gathered (addV H) 1 3) (h := 1) hL) (h := bitsLt_bf16_f32) (s0 := shapeCasts_S1024x64_S1024x64))
  refine gatherR 1 2 (addV_zero H) ?_ rfl (fun hL => tile_dv (H 1) (off := 256 * 2) (n := 768) (f := fun s d => gathered (addV H) 1 2 s (64 * 1 + d)) (attn (H 1) (masked_concat (logits (H 1) (q_ld harg1 hx 1 (256 * 2)) (k_ld harg2 hx 1) (c_ld harg4 hx 1 (256 * 2)) (r_ld harg5 hx 1) (s0 := shapeCasts_S1x256x1_S256x1) (s1 := shapeCasts_S1x1x768_S1x768) (b0 := broadcasts_S256x1_S256x768) (b1 := broadcasts_S1x768_S256x768)) rfl rfl concatenates_S256x512_S256x256_S256x768_d1 (s0 := slices_S256x768_o0_0_S256x512) (s1 := slices_S256x768_o0_512_S256x256)) (l_ld harg6 hy 1 (256 * 2)) (s0 := shapeCasts_S1x256x1_S256x1) (b0 := broadcasts_S256x1_S256x768)) (g_ld harg7 hy 1 (256 * 2)) (old_ld (f := gathered (addV H) 1 2) (h := 1) hL) (h := bitsLt_bf16_f32) (s0 := shapeCasts_S768x64_S768x64))
  refine gatherR 1 1 (addV_zero H) ?_ rfl (fun hL => tile_dv (H 1) (off := 256 * 1) (n := 512) (f := fun s d => gathered (addV H) 1 1 s (64 * 1 + d)) (attn (H 1) (masked_concat (logits (H 1) (q_ld harg1 hx 1 (256 * 1)) (k_ld harg2 hx 1) (c_ld harg4 hx 1 (256 * 1)) (r_ld harg5 hx 1) (s0 := shapeCasts_S1x256x1_S256x1) (s1 := shapeCasts_S1x1x512_S1x512) (b0 := broadcasts_S256x1_S256x512) (b1 := broadcasts_S1x512_S256x512)) rfl rfl concatenates_S256x256_S256x256_S256x512_d1 (s0 := slices_S256x512_o0_0_S256x256) (s1 := slices_S256x512_o0_256_S256x256)) (l_ld harg6 hy 1 (256 * 1)) (s0 := shapeCasts_S1x256x1_S256x1) (b0 := broadcasts_S256x1_S256x512)) (g_ld harg7 hy 1 (256 * 1)) (old_ld (f := gathered (addV H) 1 1) (h := 1) hL) (h := bitsLt_bf16_f32) (s0 := shapeCasts_S512x64_S512x64))
  refine gatherR 1 0 (addV_zero H) ?_ rfl (fun hL => tile_dv (H 1) (off := 256 * 0) (n := 256) (f := fun s d => gathered (addV H) 1 0 s (64 * 1 + d)) (attn (H 1) (masked_one (logits (H 1) (q_ld harg1 hx 1 (256 * 0)) (k_ld harg2 hx 1) (c_ld harg4 hx 1 (256 * 0)) (r_ld harg5 hx 1) (s0 := shapeCasts_S1x256x1_S256x1) (s1 := shapeCasts_S1x1x256_S1x256) (b0 := broadcasts_S256x1_S256x256) (b1 := broadcasts_S1x256_S256x256)) rfl) (l_ld harg6 hy 1 (256 * 0)) (s0 := shapeCasts_S1x256x1_S256x1) (b0 := broadcasts_S256x1_S256x256)) (g_ld harg7 hy 1 (256 * 0)) (old_ld (f := gathered (addV H) 1 0) (h := 1) hL) (h := bitsLt_bf16_f32) (s0 := shapeCasts_S256x64_S256x64))
  rw [← gathered_next]
  refine gatherR 0 7 (addV_zero H) ?_ rfl (fun hL => tile_dv (H 0) (off := 256 * 7) (n := 2048) (f := fun s d => gathered (addV H) 0 7 s (64 * 0 + d)) (attn (H 0) (masked_concat (logits (H 0) (q_ld harg1 hx 0 (256 * 7)) (k_ld harg2 hx 0) (c_ld harg4 hx 0 (256 * 7)) (r_ld harg5 hx 0) (s0 := shapeCasts_S1x256x1_S256x1) (s1 := shapeCasts_S1x1x2048_S1x2048) (b0 := broadcasts_S256x1_S256x2048) (b1 := broadcasts_S1x2048_S256x2048)) rfl rfl concatenates_S256x1792_S256x256_S256x2048_d1 (s0 := slices_S256x2048_o0_0_S256x1792) (s1 := slices_S256x2048_o0_1792_S256x256)) (l_ld harg6 hy 0 (256 * 7)) (s0 := shapeCasts_S1x256x1_S256x1) (b0 := broadcasts_S256x1_S256x2048)) (g_ld harg7 hy 0 (256 * 7)) (old_ld (f := gathered (addV H) 0 7) (h := 0) hL) (h := bitsLt_bf16_f32) (s0 := shapeCasts_S2048x64_S2048x64))
  refine gatherR 0 6 (addV_zero H) ?_ rfl (fun hL => tile_dv (H 0) (off := 256 * 6) (n := 1792) (f := fun s d => gathered (addV H) 0 6 s (64 * 0 + d)) (attn (H 0) (masked_concat (logits (H 0) (q_ld harg1 hx 0 (256 * 6)) (k_ld harg2 hx 0) (c_ld harg4 hx 0 (256 * 6)) (r_ld harg5 hx 0) (s0 := shapeCasts_S1x256x1_S256x1) (s1 := shapeCasts_S1x1x1792_S1x1792) (b0 := broadcasts_S256x1_S256x1792) (b1 := broadcasts_S1x1792_S256x1792)) rfl rfl concatenates_S256x1536_S256x256_S256x1792_d1 (s0 := slices_S256x1792_o0_0_S256x1536) (s1 := slices_S256x1792_o0_1536_S256x256)) (l_ld harg6 hy 0 (256 * 6)) (s0 := shapeCasts_S1x256x1_S256x1) (b0 := broadcasts_S256x1_S256x1792)) (g_ld harg7 hy 0 (256 * 6)) (old_ld (f := gathered (addV H) 0 6) (h := 0) hL) (h := bitsLt_bf16_f32) (s0 := shapeCasts_S1792x64_S1792x64))
  refine gatherR 0 5 (addV_zero H) ?_ rfl (fun hL => tile_dv (H 0) (off := 256 * 5) (n := 1536) (f := fun s d => gathered (addV H) 0 5 s (64 * 0 + d)) (attn (H 0) (masked_concat (logits (H 0) (q_ld harg1 hx 0 (256 * 5)) (k_ld harg2 hx 0) (c_ld harg4 hx 0 (256 * 5)) (r_ld harg5 hx 0) (s0 := shapeCasts_S1x256x1_S256x1) (s1 := shapeCasts_S1x1x1536_S1x1536) (b0 := broadcasts_S256x1_S256x1536) (b1 := broadcasts_S1x1536_S256x1536)) rfl rfl concatenates_S256x1280_S256x256_S256x1536_d1 (s0 := slices_S256x1536_o0_0_S256x1280) (s1 := slices_S256x1536_o0_1280_S256x256)) (l_ld harg6 hy 0 (256 * 5)) (s0 := shapeCasts_S1x256x1_S256x1) (b0 := broadcasts_S256x1_S256x1536)) (g_ld harg7 hy 0 (256 * 5)) (old_ld (f := gathered (addV H) 0 5) (h := 0) hL) (h := bitsLt_bf16_f32) (s0 := shapeCasts_S1536x64_S1536x64))
  refine gatherR 0 4 (addV_zero H) ?_ rfl (fun hL => tile_dv (H 0) (off := 256 * 4) (n := 1280) (f := fun s d => gathered (addV H) 0 4 s (64 * 0 + d)) (attn (H 0) (masked_concat (logits (H 0) (q_ld harg1 hx 0 (256 * 4)) (k_ld harg2 hx 0) (c_ld harg4 hx 0 (256 * 4)) (r_ld harg5 hx 0) (s0 := shapeCasts_S1x256x1_S256x1) (s1 := shapeCasts_S1x1x1280_S1x1280) (b0 := broadcasts_S256x1_S256x1280) (b1 := broadcasts_S1x1280_S256x1280)) rfl rfl concatenates_S256x1024_S256x256_S256x1280_d1 (s0 := slices_S256x1280_o0_0_S256x1024) (s1 := slices_S256x1280_o0_1024_S256x256)) (l_ld harg6 hy 0 (256 * 4)) (s0 := shapeCasts_S1x256x1_S256x1) (b0 := broadcasts_S256x1_S256x1280)) (g_ld harg7 hy 0 (256 * 4)) (old_ld (f := gathered (addV H) 0 4) (h := 0) hL) (h := bitsLt_bf16_f32) (s0 := shapeCasts_S1280x64_S1280x64))
  refine gatherR 0 3 (addV_zero H) ?_ rfl (fun hL => tile_dv (H 0) (off := 256 * 3) (n := 1024) (f := fun s d => gathered (addV H) 0 3 s (64 * 0 + d)) (attn (H 0) (masked_concat (logits (H 0) (q_ld harg1 hx 0 (256 * 3)) (k_ld harg2 hx 0) (c_ld harg4 hx 0 (256 * 3)) (r_ld harg5 hx 0) (s0 := shapeCasts_S1x256x1_S256x1) (s1 := shapeCasts_S1x1x1024_S1x1024) (b0 := broadcasts_S256x1_S256x1024) (b1 := broadcasts_S1x1024_S256x1024)) rfl rfl concatenates_S256x768_S256x256_S256x1024_d1 (s0 := slices_S256x1024_o0_0_S256x768) (s1 := slices_S256x1024_o0_768_S256x256)) (l_ld harg6 hy 0 (256 * 3)) (s0 := shapeCasts_S1x256x1_S256x1) (b0 := broadcasts_S256x1_S256x1024)) (g_ld harg7 hy 0 (256 * 3)) (old_ld (f := gathered (addV H) 0 3) (h := 0) hL) (h := bitsLt_bf16_f32) (s0 := shapeCasts_S1024x64_S1024x64))
  refine gatherR 0 2 (addV_zero H) ?_ rfl (fun hL => tile_dv (H 0) (off := 256 * 2) (n := 768) (f := fun s d => gathered (addV H) 0 2 s (64 * 0 + d)) (attn (H 0) (masked_concat (logits (H 0) (q_ld harg1 hx 0 (256 * 2)) (k_ld harg2 hx 0) (c_ld harg4 hx 0 (256 * 2)) (r_ld harg5 hx 0) (s0 := shapeCasts_S1x256x1_S256x1) (s1 := shapeCasts_S1x1x768_S1x768) (b0 := broadcasts_S256x1_S256x768) (b1 := broadcasts_S1x768_S256x768)) rfl rfl concatenates_S256x512_S256x256_S256x768_d1 (s0 := slices_S256x768_o0_0_S256x512) (s1 := slices_S256x768_o0_512_S256x256)) (l_ld harg6 hy 0 (256 * 2)) (s0 := shapeCasts_S1x256x1_S256x1) (b0 := broadcasts_S256x1_S256x768)) (g_ld harg7 hy 0 (256 * 2)) (old_ld (f := gathered (addV H) 0 2) (h := 0) hL) (h := bitsLt_bf16_f32) (s0 := shapeCasts_S768x64_S768x64))
  refine gatherR 0 1 (addV_zero H) ?_ rfl (fun hL => tile_dv (H 0) (off := 256 * 1) (n := 512) (f := fun s d => gathered (addV H) 0 1 s (64 * 0 + d)) (attn (H 0) (masked_concat (logits (H 0) (q_ld harg1 hx 0 (256 * 1)) (k_ld harg2 hx 0) (c_ld harg4 hx 0 (256 * 1)) (r_ld harg5 hx 0) (s0 := shapeCasts_S1x256x1_S256x1) (s1 := shapeCasts_S1x1x512_S1x512) (b0 := broadcasts_S256x1_S256x512) (b1 := broadcasts_S1x512_S256x512)) rfl rfl concatenates_S256x256_S256x256_S256x512_d1 (s0 := slices_S256x512_o0_0_S256x256) (s1 := slices_S256x512_o0_256_S256x256)) (l_ld harg6 hy 0 (256 * 1)) (s0 := shapeCasts_S1x256x1_S256x1) (b0 := broadcasts_S256x1_S256x512)) (g_ld harg7 hy 0 (256 * 1)) (old_ld (f := gathered (addV H) 0 1) (h := 0) hL) (h := bitsLt_bf16_f32) (s0 := shapeCasts_S512x64_S512x64))
  refine gatherR 0 0 (addV_zero H) ?_ rfl (fun hL => tile_dv (H 0) (off := 256 * 0) (n := 256) (f := fun s d => gathered (addV H) 0 0 s (64 * 0 + d)) (attn (H 0) (masked_one (logits (H 0) (q_ld harg1 hx 0 (256 * 0)) (k_ld harg2 hx 0) (c_ld harg4 hx 0 (256 * 0)) (r_ld harg5 hx 0) (s0 := shapeCasts_S1x256x1_S256x1) (s1 := shapeCasts_S1x1x256_S1x256) (b0 := broadcasts_S256x1_S256x256) (b1 := broadcasts_S1x256_S256x256)) rfl) (l_ld harg6 hy 0 (256 * 0)) (s0 := shapeCasts_S1x256x1_S256x1) (b0 := broadcasts_S256x1_S256x256)) (g_ld harg7 hy 0 (256 * 0)) (old_ld (f := gathered (addV H) 0 0) (h := 0) hL) (h := bitsLt_bf16_f32) (s0 := shapeCasts_S256x64_S256x64))
  exact whole_zero _ (gathered_zero _)

end Cert.Fox
-- ==== Proof.Dc.lean ====
/- What the backward kernel leaves of one pair of heads: the column sums of the logits' gradient. -/
module

public import proofs.«01_k».proof.Proof.Loads

@[expose] public section

set_option maxRecDepth 16384

noncomputable section

namespace Cert.Fox

open Idealize.ShloMosaic Cert.KernelIdeal Cert.KernelIdeal.Gen Finset

variable (c : Dev nD) (i : grid1.Coords)
  (arg1 : Memref sig .tc .vmem S2048x128 .bf16) (harg1 : arg1.IsWhole)
  (arg2 : Memref sig .tc .vmem S2048x128 .bf16) (harg2 : arg2.IsWhole)
  (arg3 : Memref sig .tc .vmem S2048x128 .bf16) (harg3 : arg3.IsWhole)
  (arg4 : Memref sig .tc .vmem S2x2048x1 .f32) (harg4 : arg4.IsWhole)
  (arg5 : Memref sig .tc .vmem S1x2x2048 .f32) (harg5 : arg5.IsWhole)
  (arg6 : Memref sig .tc .vmem S2x2048x1 .f32) (harg6 : arg6.IsWhole)
  (arg7 : Memref sig .tc .vmem S2048x128 .bf16) (harg7 : arg7.IsWhole)
  (arg8 : Memref sig .tc .vmem S2048x128 .bf16) (harg8 : arg8.IsWhole)
  (arg9 : Memref sig .tc .vmem S2048x128 .bf16) (harg9 : arg9.IsWhole)
  (arg10 : Memref sig .tc .vmem S2048x128 .bf16) (harg10 : arg10.IsWhole)
  (arg11 : Memref sig .tc .vmem S1x2x2048 .f32) (harg11 : arg11.IsWhole)
  (arg12 : Memref sig .tc .vmem S2048x128 .f32) (harg12 : arg12.IsWhole)
  (arg13 : Memref sig .tc .vmem S2048x128 .f32) (harg13 : arg13.IsWhole)
  {H : ℕ → Head} {x0 x1 x2 : Vec Ideal S2048x128 .bf16} {x3 : Vec Ideal S2x2048x1 .f32} {x4 : Vec Ideal S1x2x2048 .f32}
  {x5 : Vec Ideal S2x2048x1 .f32} {x6 : Vec Ideal S2048x128 .bf16}

/-- What a tile adds to the column sums. -/
def addC (H : ℕ → Head) (h u s : ℕ) : ℝ := ∑ r ∈ range 256, (H h).dS (256 * u + r) s

theorem addC_zero (H : ℕ → Head) (h u s : ℕ) (hs : 256 * (u + 1) ≤ s) : addC H h u s = 0 := by
  unfold addC
  exact sum_eq_zero fun r hr => (H h).dS_of_lt (by have := mem_range.1 hr; omega)

/-- All tiles together. -/
theorem addC_sum (H : ℕ → Head) {h : ℕ} (hh : h < 2) (s : ℕ) : gathered1 (addC H) 1 8 h s = (H h).dc s := by
  have e : gathered1 (addC H) 1 8 h s = ∑ i ∈ range 8, addC H h i s := by
    unfold gathered1
    by_cases h' : h < 1
    · rw [if_pos h']
    · rw [if_neg h', if_pos (by omega)]
  rw [e]
  unfold addC Head.dc
  rw [show (2048 : ℕ) = 256 * 8 from rfl, sum_tiles]

/-- The zeros that the column sums begin with. -/
theorem zero_dc {f : ℕ → ℕ → ℝ} (h) (hf : f = fun _ _ => 0) {inb} :
    Held3 (View.canon (Val := Elt Ideal) [(⟨Rect.unit ![0, 0, 0] ![1, 2, 2048] inb,
      shapeCast ⟨3, ![1, 2, 2048]⟩ (broadcast ⟨2, ![2, 2048]⟩ (Scalar.ofBits (F := Ideal) .f32 0x00000000#32)) h⟩ :
        View.Piece (Elt Ideal) ⟨3, ![1, 2, 2048]⟩ .f32)] : Vec Ideal ⟨3, ![1, 2, 2048]⟩ .f32) fun _ => f := fun l i j => by
  have e3 : Held3 (e := .f32) (n := 1) (a := 2) (b := 2048) (shapeCast ⟨3, ![1, 2, 2048]⟩ (broadcast ⟨2, ![2, 2048]⟩
      (Scalar.ofBits (F := Ideal) .f32 0x00000000#32)) h) fun _ _ _ => 0 := fun l i j => by
    pointwise
    simp [Holds.at']
  have hl := l.isLt
  have hi := i.isLt
  have hj := j.isLt
  rw [canon_cons3 e3, if_pos (by omega), hf]

/-- The backward kernel leaves a pair of heads' column sums. -/
theorem run_dc (hx : Inputs H x0 x1 x2 x3 x4) (hy : Saved H x5 x6) :
    Held3 (View.canon (Val := Elt Ideal) (kernelRun1_A (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6).2.2.2.1 : Vec Ideal ⟨3, ![1, 2, 2048]⟩ .f32)
      fun _ h s => (H h).dc s := by
  have key : Held3 (View.canon (Val := Elt Ideal) (kernelRun1_A (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6).2.2.2.1 : Vec Ideal ⟨3, ![1, 2, 2048]⟩ .f32)
      fun _ => gathered1 (addC H) 1 8 := by
    unfold kernelRun1_A
    dsimp only
    refine gatherR1 1 7 (addC_zero H) ?_ rfl (fun hL => tile_dc (H 1) (off := 256 * 7) (n := 2048) (f := fun s => gathered1 (addC H) 1 7 1 s) (score (H 1) (attn (H 1) (masked_concat (logits (H 1) (q_ld harg1 hx 1 (256 * 7)) (k_ld harg2 hx 1) (c_ld harg4 hx 1 (256 * 7)) (r_ld harg5 hx 1) (s0 := shapeCasts_S1x256x1_S256x1) (s1 := shapeCasts_S1x1x2048_S1x2048) (b0 := broadcasts_S256x1_S256x2048) (b1 := broadcasts_S1x2048_S256x2048)) rfl rfl concatenates_S256x1792_S256x256_S256x2048_d1 (s0 := slices_S256x2048_o0_0_S256x1792) (s1 := slices_S256x2048_o0_1792_S256x256)) (l_ld harg6 hy 1 (256 * 7)) (s0 := shapeCasts_S1x256x1_S256x1) (b0 := broadcasts_S256x1_S256x2048)) (g_ld harg7 hy 1 (256 * 7)) (v_ld harg3 hx 1) rfl (by decide) (h := reduces_S256x2048_S256) (h1 := .inl rfl) (h2 := rfl) (s0 := shapeCasts_S256_S256x1) (b0 := broadcasts_S256x1_S256x2048)) (old1_ld (f := gathered1 (addC H) 1 7) (h := 1) hL) (h := reduces_S256x2048_S2048) (h1 := .inl rfl) (h2 := rfl) (s0 := shapeCasts_S1x1x2048_S1x2048) (s1 := shapeCasts_S2048_S1x2048) (s2 := shapeCasts_S1x2048_S1x1x2048))
    refine gatherR1 1 6 (addC_zero H) ?_ rfl (fun hL => tile_dc (H 1) (off := 256 * 6) (n := 1792) (f := fun s => gathered1 (addC H) 1 6 1 s) (score (H 1) (attn (H 1) (masked_concat (logits (H 1) (q_ld harg1 hx 1 (256 * 6)) (k_ld harg2 hx 1) (c_ld harg4 hx 1 (256 * 6)) (r_ld harg5 hx 1) (s0 := shapeCasts_S1x256x1_S256x1) (s1 := shapeCasts_S1x1x1792_S1x1792) (b0 := broadcasts_S256x1_S256x1792) (b1 := broadcasts_S1x1792_S256x1792)) rfl rfl concatenates_S256x1536_S256x256_S256x1792_d1 (s0 := slices_S256x1792_o0_0_S256x1536) (s1 := slices_S256x1792_o0_1536_S256x256)) (l_ld harg6 hy 1 (256 * 6)) (s0 := shapeCasts_S1x256x1_S256x1) (b0 := broadcasts_S256x1_S256x1792)) (g_ld harg7 hy 1 (256 * 6)) (v_ld harg3 hx 1) rfl (by decide) (h := reduces_S256x1792_S256) (h1 := .inl rfl) (h2 := rfl) (s0 := shapeCasts_S256_S256x1) (b0 := broadcasts_S256x1_S256x1792)) (old1_ld (f := gathered1 (addC H) 1 6) (h := 1) hL) (h := reduces_S256x1792_S1792) (h1 := .inl rfl) (h2 := rfl) (s0 := shapeCasts_S1x1x1792_S1x1792) (s1 := shapeCasts_S1792_S1x1792) (s2 := shapeCasts_S1x1792_S1x1x1792))
    refine gatherR1 1 5 (addC_zero H) ?_ rfl (fun hL => tile_dc (H 1) (off := 256 * 5) (n := 1536) (f := fun s => gathered1 (addC H) 1 5 1 s) (score (H 1) (attn (H 1) (masked_concat (logits (H 1) (q_ld harg1 hx 1 (256 * 5)) (k_ld harg2 hx 1) (c_ld harg4 hx 1 (256 * 5)) (r_ld harg5 hx 1) (s0 := shapeCasts_S1x256x1_S256x1) (s1 := shapeCasts_S1x1x1536_S1x1536) (b0 := broadcasts_S256x1_S256x1536) (b1 := broadcasts_S1x1536_S256x1536)) rfl rfl concatenates_S256x1280_S256x256_S256x1536_d1 (s0 := slices_S256x1536_o0_0_S256x1280) (s1 := slices_S256x1536_o0_1280_S256x256)) (l_ld harg6 hy 1 (256 * 5)) (s0 := shapeCasts_S1x256x1_S256x1) (b0 := broadcasts_S256x1_S256x1536)) (g_ld harg7 hy 1 (256 * 5)) (v_ld harg3 hx 1) rfl (by decide) (h := reduces_S256x1536_S256) (h1 := .inl rfl) (h2 := rfl) (s0 := shapeCasts_S256_S256x1) (b0 := broadcasts_S256x1_S256x1536)) (old1_ld (f := gathered1 (addC H) 1 5) (h := 1) hL) (h := reduces_S256x1536_S1536) (h1 := .inl rfl) (h2 := rfl) (s0 := shapeCasts_S1x1x1536_S1x1536) (s1 := shapeCasts_S1536_S1x1536) (s2 := shapeCasts_S1x1536_S1x1x1536))
    refine gatherR1 1 4 (addC_zero H) ?_ rfl (fun hL => tile_dc (H 1) (off := 256 * 4) (n := 1280) (f := fun s => gathered1 (addC H) 1 4 1 s) (score (H 1) (attn (H 1) (masked_concat (logits (H 1) (q_ld harg1 hx 1 (256 * 4)) (k_ld harg2 hx 1) (c_ld harg4 hx 1 (256 * 4)) (r_ld harg5 hx 1) (s0 := shapeCasts_S1x256x1_S256x1) (s1 := shapeCasts_S1x1x1280_S1x1280) (b0 := broadcasts_S256x1_S256x1280) (b1 := broadcasts_S1x1280_S256x1280)) rfl rfl concatenates_S256x1024_S256x256_S256x1280_d1 (s0 := slices_S256x1280_o0_0_S256x1024) (s1 := slices_S256x1280_o0_1024_S256x256)) (l_ld harg6 hy 1 (256 * 4)) (s0 := shapeCasts_S1x256x1_S256x1) (b0 := broadcasts_S256x1_S256x1280)) (g_ld harg7 hy 1 (256 * 4)) (v_ld harg3 hx 1) rfl (by decide) (h := reduces_S256x1280_S256) (h1 := .inl rfl) (h2 := rfl) (s0 := shapeCasts_S256_S256x1) (b0 := broadcasts_S256x1_S256x1280)) (old1_ld (f := gathered1 (addC H) 1 4) (h := 1) hL) (h := reduces_S256x1280_S1280) (h1 := .inl rfl) (h2 := rfl) (s0 := shapeCasts_S1x1x1280_S1x1280) (s1 := shapeCasts_S1280_S1x1280) (s2 := shapeCasts_S1x1280_S1x1x1280))
    refine gatherR1 1 3 (addC_zero H) ?_ rfl (fun hL => tile_dc (H 1) (off := 256 * 3) (n := 1024) (f := fun s => gathered1 (addC H) 1 3 1 s) (score (H 1) (attn (H 1) (masked_concat (logits (H 1) (q_ld harg1 hx 1 (256 * 3)) (k_ld harg2 hx 1) (c_ld harg4 hx 1 (256 * 3)) (r_ld harg5 hx 1) (s0 := shapeCasts_S1x256x1_S256x1) (s1 := shapeCasts_S1x1x1024_S1x1024) (b0 := broadcasts_S256x1_S256x1024) (b1 := broadcasts_S1x1024_S256x1024)) rfl rfl concatenates_S256x768_S256x256_S256x1024_d1 (s0 := slices_S256x1024_o0_0_S256x768) (s1 := slices_S256x1024_o0_768_S256x256)) (l_ld harg6 hy 1 (256 * 3)) (s0 := shapeCasts_S1x256x1_S256x1) (b0 := broadcasts_S256x1_S256x1024)) (g_ld harg7 hy 1 (256 * 3)) (v_ld harg3 hx 1) rfl (by decide) (h := reduces_S256x1024_S256) (h1 := .inl rfl) (h2 := rfl) (s0 := shapeCasts_S256_S256x1) (b0 := broadcasts_S256x1_S256x1024)) (old1_ld (f := gathered1 (addC H) 1 3) (h := 1) hL) (h := reduces_S256x1024_S1024) (h1 := .inl rfl) (h2 := rfl) (s0 := shapeCasts_S1x1x1024_S1x1024) (s1 := shapeCasts_S1024_S1x1024) (s2 := shapeCasts_S1x1024_S1x1x1024))
    refine gatherR1 1 2 (addC_zero H) ?_ rfl (fun hL => tile_dc (H 1) (off := 256 * 2) (n := 768) (f := fun s => gathered1 (addC H) 1 2 1 s) (score (H 1) (attn (H 1) (masked_concat (logits (H 1) (q_ld harg1 hx 1 (256 * 2)) (k_ld harg2 hx 1) (c_ld harg4 hx 1 (256 * 2)) (r_ld harg5 hx 1) (s0 := shapeCasts_S1x256x1_S256x1) (s1 := shapeCasts_S1x1x768_S1x768) (b0 := broadcasts_S256x1_S256x768) (b1 := broadcasts_S1x768_S256x768)) rfl rfl concatenates_S256x512_S256x256_S256x768_d1 (s0 := slices_S256x768_o0_0_S256x512) (s1 := slices_S256x768_o0_512_S256x256)) (l_ld harg6 hy 1 (256 * 2)) (s0 := shapeCasts_S1x256x1_S256x1) (b0 := broadcasts_S256x1_S256x768)) (g_ld harg7 hy 1 (256 * 2)) (v_ld harg3 hx 1) rfl (by decide) (h := reduces_S256x768_S256) (h1 := .inl rfl) (h2 := rfl) (s0 := shapeCasts_S256_S256x1) (b0 := broadcasts_S256x1_S256x768)) (old1_ld (f := gathered1 (addC H) 1 2) (h := 1) hL) (h := reduces_S256x768_S768) (h1 := .inl rfl) (h2 := rfl) (s0 := shapeCasts_S1x1x768_S1x768) (s1 := shapeCasts_S768_S1x768) (s2 := shapeCasts_S1x768_S1x1x768))
    refine gatherR1 1 1 (addC_zero H) ?_ rfl (fun hL => tile_dc (H 1) (off := 256 * 1) (n := 512) (f := fun s => gathered1 (addC H) 1 1 1 s) (score (H 1) (attn (H 1) (masked_concat (logits (H 1) (q_ld harg1 hx 1 (256 * 1)) (k_ld harg2 hx 1) (c_ld harg4 hx 1 (256 * 1)) (r_ld harg5 hx 1) (s0 := shapeCasts_S1x256x1_S256x1) (s1 := shapeCasts_S1x1x512_S1x512) (b0 := broadcasts_S256x1_S256x512) (b1 := broadcasts_S1x512_S256x512)) rfl rfl concatenates_S256x256_S256x256_S256x512_d1 (s0 := slices_S256x512_o0_0_S256x256) (s1 := slices_S256x512_o0_256_S256x256)) (l_ld harg6 hy 1 (256 * 1)) (s0 := shapeCasts_S1x256x1_S256x1) (b0 := broadcasts_S256x1_S256x512)) (g_ld harg7 hy 1 (256 * 1)) (v_ld harg3 hx 1) rfl (by decide) (h := reduces_S256x512_S256) (h1 := .inl rfl) (h2 := rfl) (s0 := shapeCasts_S256_S256x1) (b0 := broadcasts_S256x1_S256x512)) (old1_ld (f := gathered1 (addC H) 1 1) (h := 1) hL) (h := reduces_S256x512_S512) (h1 := .inl rfl) (h2 := rfl) (s0 := shapeCasts_S1x1x512_S1x512) (s1 := shapeCasts_S512_S1x512) (s2 := shapeCasts_S1x512_S1x1x512))
    refine gatherR1 1 0 (addC_zero H) ?_ rfl (fun hL => tile_dc (H 1) (off := 256 * 0) (n := 256) (f := fun s => gathered1 (addC H) 1 0 1 s) (score (H 1) (attn (H 1) (masked_one (logits (H 1) (q_ld harg1 hx 1 (256 * 0)) (k_ld harg2 hx 1) (c_ld harg4 hx 1 (256 * 0)) (r_ld harg5 hx 1) (s0 := shapeCasts_S1x256x1_S256x1) (s1 := shapeCasts_S1x1x256_S1x256) (b0 := broadcasts_S256x1_S256x256) (b1 := broadcasts_S1x256_S256x256)) rfl) (l_ld harg6 hy 1 (256 * 0)) (s0 := shapeCasts_S1x256x1_S256x1) (b0 := broadcasts_S256x1_S256x256)) (g_ld harg7 hy 1 (256 * 0)) (v_ld harg3 hx 1) rfl (by decide) (h := reduces_S256x256_S256) (h1 := .inl rfl) (h2 := rfl) (s0 := shapeCasts_S256_S256x1) (b0 := broadcasts_S256x1_S256x256)) (old1_ld (f := gathered1 (addC H) 1 0) (h := 1) hL) (h := reduces_S256x256_S256_2) (h1 := .inl rfl) (h2 := rfl) (s0 := shapeCasts_S1x1x256_S1x256) (s1 := shapeCasts_S256_S1x256) (s2 := shapeCasts_S1x256_S1x1x256))
    rw [← gathered1_next]
    refine gatherR1 0 7 (addC_zero H) ?_ rfl (fun hL => tile_dc (H 0) (off := 256 * 7) (n := 2048) (f := fun s => gathered1 (addC H) 0 7 0 s) (score (H 0) (attn (H 0) (masked_concat (logits (H 0) (q_ld harg1 hx 0 (256 * 7)) (k_ld harg2 hx 0) (c_ld harg4 hx 0 (256 * 7)) (r_ld harg5 hx 0) (s0 := shapeCasts_S1x256x1_S256x1) (s1 := shapeCasts_S1x1x2048_S1x2048) (b0 := broadcasts_S256x1_S256x2048) (b1 := broadcasts_S1x2048_S256x2048)) rfl rfl concatenates_S256x1792_S256x256_S256x2048_d1 (s0 := slices_S256x2048_o0_0_S256x1792) (s1 := slices_S256x2048_o0_1792_S256x256)) (l_ld harg6 hy 0 (256 * 7)) (s0 := shapeCasts_S1x256x1_S256x1) (b0 := broadcasts_S256x1_S256x2048)) (g_ld harg7 hy 0 (256 * 7)) (v_ld harg3 hx 0) rfl (by decide) (h := reduces_S256x2048_S256) (h1 := .inl rfl) (h2 := rfl) (s0 := shapeCasts_S256_S256x1) (b0 := broadcasts_S256x1_S256x2048)) (old1_ld (f := gathered1 (addC H) 0 7) (h := 0) hL) (h := reduces_S256x2048_S2048) (h1 := .inl rfl) (h2 := rfl) (s0 := shapeCasts_S1x1x2048_S1x2048) (s1 := shapeCasts_S2048_S1x2048) (s2 := shapeCasts_S1x2048_S1x1x2048))
    refine gatherR1 0 6 (addC_zero H) ?_ rfl (fun hL => tile_dc (H 0) (off := 256 * 6) (n := 1792) (f := fun s => gathered1 (addC H) 0 6 0 s) (score (H 0) (attn (H 0) (masked_concat (logits (H 0) (q_ld harg1 hx 0 (256 * 6)) (k_ld harg2 hx 0) (c_ld harg4 hx 0 (256 * 6)) (r_ld harg5 hx 0) (s0 := shapeCasts_S1x256x1_S256x1) (s1 := shapeCasts_S1x1x1792_S1x1792) (b0 := broadcasts_S256x1_S256x1792) (b1 := broadcasts_S1x1792_S256x1792)) rfl rfl concatenates_S256x1536_S256x256_S256x1792_d1 (s0 := slices_S256x1792_o0_0_S256x1536) (s1 := slices_S256x1792_o0_1536_S256x256)) (l_ld harg6 hy 0 (256 * 6)) (s0 := shapeCasts_S1x256x1_S256x1) (b0 := broadcasts_S256x1_S256x1792)) (g_ld harg7 hy 0 (256 * 6)) (v_ld harg3 hx 0) rfl (by decide) (h := reduces_S256x1792_S256) (h1 := .inl rfl) (h2 := rfl) (s0 := shapeCasts_S256_S256x1) (b0 := broadcasts_S256x1_S256x1792)) (old1_ld (f := gathered1 (addC H) 0 6) (h := 0) hL) (h := reduces_S256x1792_S1792) (h1 := .inl rfl) (h2 := rfl) (s0 := shapeCasts_S1x1x1792_S1x1792) (s1 := shapeCasts_S1792_S1x1792) (s2 := shapeCasts_S1x1792_S1x1x1792))
    refine gatherR1 0 5 (addC_zero H) ?_ rfl (fun hL => tile_dc (H 0) (off := 256 * 5) (n := 1536) (f := fun s => gathered1 (addC H) 0 5 0 s) (score (H 0) (attn (H 0) (masked_concat (logits (H 0) (q_ld harg1 hx 0 (256 * 5)) (k_ld harg2 hx 0) (c_ld harg4 hx 0 (256 * 5)) (r_ld harg5 hx 0) (s0 := shapeCasts_S1x256x1_S256x1) (s1 := shapeCasts_S1x1x1536_S1x1536) (b0 := broadcasts_S256x1_S256x1536) (b1 := broadcasts_S1x1536_S256x1536)) rfl rfl concatenates_S256x1280_S256x256_S256x1536_d1 (s0 := slices_S256x1536_o0_0_S256x1280) (s1 := slices_S256x1536_o0_1280_S256x256)) (l_ld harg6 hy 0 (256 * 5)) (s0 := shapeCasts_S1x256x1_S256x1) (b0 := broadcasts_S256x1_S256x1536)) (g_ld harg7 hy 0 (256 * 5)) (v_ld harg3 hx 0) rfl (by decide) (h := reduces_S256x1536_S256) (h1 := .inl rfl) (h2 := rfl) (s0 := shapeCasts_S256_S256x1) (b0 := broadcasts_S256x1_S256x1536)) (old1_ld (f := gathered1 (addC H) 0 5) (h := 0) hL) (h := reduces_S256x1536_S1536) (h1 := .inl rfl) (h2 := rfl) (s0 := shapeCasts_S1x1x1536_S1x1536) (s1 := shapeCasts_S1536_S1x1536) (s2 := shapeCasts_S1x1536_S1x1x1536))
    refine gatherR1 0 4 (addC_zero H) ?_ rfl (fun hL => tile_dc (H 0) (off := 256 * 4) (n := 1280) (f := fun s => gathered1 (addC H) 0 4 0 s) (score (H 0) (attn (H 0) (masked_concat (logits (H 0) (q_ld harg1 hx 0 (256 * 4)) (k_ld harg2 hx 0) (c_ld harg4 hx 0 (256 * 4)) (r_ld harg5 hx 0) (s0 := shapeCasts_S1x256x1_S256x1) (s1 := shapeCasts_S1x1x1280_S1x1280) (b0 := broadcasts_S256x1_S256x1280) (b1 := broadcasts_S1x1280_S256x1280)) rfl rfl concatenates_S256x1024_S256x256_S256x1280_d1 (s0 := slices_S256x1280_o0_0_S256x1024) (s1 := slices_S256x1280_o0_1024_S256x256)) (l_ld harg6 hy 0 (256 * 4)) (s0 := shapeCasts_S1x256x1_S256x1) (b0 := broadcasts_S256x1_S256x1280)) (g_ld harg7 hy 0 (256 * 4)) (v_ld harg3 hx 0) rfl (by decide) (h := reduces_S256x1280_S256) (h1 := .inl rfl) (h2 := rfl) (s0 := shapeCasts_S256_S256x1) (b0 := broadcasts_S256x1_S256x1280)) (old1_ld (f := gathered1 (addC H) 0 4) (h := 0) hL) (h := reduces_S256x1280_S1280) (h1 := .inl rfl) (h2 := rfl) (s0 := shapeCasts_S1x1x1280_S1x1280) (s1 := shapeCasts_S1280_S1x1280) (s2 := shapeCasts_S1x1280_S1x1x1280))
    refine gatherR1 0 3 (addC_zero H) ?_ rfl (fun hL => tile_dc (H 0) (off := 256 * 3) (n := 1024) (f := fun s => gathered1 (addC H) 0 3 0 s) (score (H 0) (attn (H 0) (masked_concat (logits (H 0) (q_ld harg1 hx 0 (256 * 3)) (k_ld harg2 hx 0) (c_ld harg4 hx 0 (256 * 3)) (r_ld harg5 hx 0) (s0 := shapeCasts_S1x256x1_S256x1) (s1 := shapeCasts_S1x1x1024_S1x1024) (b0 := broadcasts_S256x1_S256x1024) (b1 := broadcasts_S1x1024_S256x1024)) rfl rfl concatenates_S256x768_S256x256_S256x1024_d1 (s0 := slices_S256x1024_o0_0_S256x768) (s1 := slices_S256x1024_o0_768_S256x256)) (l_ld harg6 hy 0 (256 * 3)) (s0 := shapeCasts_S1x256x1_S256x1) (b0 := broadcasts_S256x1_S256x1024)) (g_ld harg7 hy 0 (256 * 3)) (v_ld harg3 hx 0) rfl (by decide) (h := reduces_S256x1024_S256) (h1 := .inl rfl) (h2 := rfl) (s0 := shapeCasts_S256_S256x1) (b0 := broadcasts_S256x1_S256x1024)) (old1_ld (f := gathered1 (addC H) 0 3) (h := 0) hL) (h := reduces_S256x1024_S1024) (h1 := .inl rfl) (h2 := rfl) (s0 := shapeCasts_S1x1x1024_S1x1024) (s1 := shapeCasts_S1024_S1x1024) (s2 := shapeCasts_S1x1024_S1x1x1024))
    refine gatherR1 0 2 (addC_zero H) ?_ rfl (fun hL => tile_dc (H 0) (off := 256 * 2) (n := 768) (f := fun s => gathered1 (addC H) 0 2 0 s) (score (H 0) (attn (H 0) (masked_concat (logits (H 0) (q_ld harg1 hx 0 (256 * 2)) (k_ld harg2 hx 0) (c_ld harg4 hx 0 (256 * 2)) (r_ld harg5 hx 0) (s0 := shapeCasts_S1x256x1_S256x1) (s1 := shapeCasts_S1x1x768_S1x768) (b0 := broadcasts_S256x1_S256x768) (b1 := broadcasts_S1x768_S256x768)) rfl rfl concatenates_S256x512_S256x256_S256x768_d1 (s0 := slices_S256x768_o0_0_S256x512) (s1 := slices_S256x768_o0_512_S256x256)) (l_ld harg6 hy 0 (256 * 2)) (s0 := shapeCasts_S1x256x1_S256x1) (b0 := broadcasts_S256x1_S256x768)) (g_ld harg7 hy 0 (256 * 2)) (v_ld harg3 hx 0) rfl (by decide) (h := reduces_S256x768_S256) (h1 := .inl rfl) (h2 := rfl) (s0 := shapeCasts_S256_S256x1) (b0 := broadcasts_S256x1_S256x768)) (old1_ld (f := gathered1 (addC H) 0 2) (h := 0) hL) (h := reduces_S256x768_S768) (h1 := .inl rfl) (h2 := rfl) (s0 := shapeCasts_S1x1x768_S1x768) (s1 := shapeCasts_S768_S1x768) (s2 := shapeCasts_S1x768_S1x1x768))
    refine gatherR1 0 1 (addC_zero H) ?_ rfl (fun hL => tile_dc (H 0) (off := 256 * 1) (n := 512) (f := fun s => gathered1 (addC H) 0 1 0 s) (score (H 0) (attn (H 0) (masked_concat (logits (H 0) (q_ld harg1 hx 0 (256 * 1)) (k_ld harg2 hx 0) (c_ld harg4 hx 0 (256 * 1)) (r_ld harg5 hx 0) (s0 := shapeCasts_S1x256x1_S256x1) (s1 := shapeCasts_S1x1x512_S1x512) (b0 := broadcasts_S256x1_S256x512) (b1 := broadcasts_S1x512_S256x512)) rfl rfl concatenates_S256x256_S256x256_S256x512_d1 (s0 := slices_S256x512_o0_0_S256x256) (s1 := slices_S256x512_o0_256_S256x256)) (l_ld harg6 hy 0 (256 * 1)) (s0 := shapeCasts_S1x256x1_S256x1) (b0 := broadcasts_S256x1_S256x512)) (g_ld harg7 hy 0 (256 * 1)) (v_ld harg3 hx 0) rfl (by decide) (h := reduces_S256x512_S256) (h1 := .inl rfl) (h2 := rfl) (s0 := shapeCasts_S256_S256x1) (b0 := broadcasts_S256x1_S256x512)) (old1_ld (f := gathered1 (addC H) 0 1) (h := 0) hL) (h := reduces_S256x512_S512) (h1 := .inl rfl) (h2 := rfl) (s0 := shapeCasts_S1x1x512_S1x512) (s1 := shapeCasts_S512_S1x512) (s2 := shapeCasts_S1x512_S1x1x512))
    refine gatherR1 0 0 (addC_zero H) ?_ rfl (fun hL => tile_dc (H 0) (off := 256 * 0) (n := 256) (f := fun s => gathered1 (addC H) 0 0 0 s) (score (H 0) (attn (H 0) (masked_one (logits (H 0) (q_ld harg1 hx 0 (256 * 0)) (k_ld harg2 hx 0) (c_ld harg4 hx 0 (256 * 0)) (r_ld harg5 hx 0) (s0 := shapeCasts_S1x256x1_S256x1) (s1 := shapeCasts_S1x1x256_S1x256) (b0 := broadcasts_S256x1_S256x256) (b1 := broadcasts_S1x256_S256x256)) rfl) (l_ld harg6 hy 0 (256 * 0)) (s0 := shapeCasts_S1x256x1_S256x1) (b0 := broadcasts_S256x1_S256x256)) (g_ld harg7 hy 0 (256 * 0)) (v_ld harg3 hx 0) rfl (by decide) (h := reduces_S256x256_S256) (h1 := .inl rfl) (h2 := rfl) (s0 := shapeCasts_S256_S256x1) (b0 := broadcasts_S256x1_S256x256)) (old1_ld (f := gathered1 (addC H) 0 0) (h := 0) hL) (h := reduces_S256x256_S256_2) (h1 := .inl rfl) (h2 := rfl) (s0 := shapeCasts_S1x1x256_S1x256) (s1 := shapeCasts_S256_S1x256) (s2 := shapeCasts_S1x256_S1x1x256))
    exact zero_dc _ (gathered1_zero _)
  exact key.congr fun _ _ h hh s _ => addC_sum H hh s

end Cert.Fox
-- ==== Proof.Dq.lean ====
/- What the backward kernel leaves of one pair of heads: the gradient of the queries. -/
module

public import proofs.«01_k».proof.Proof.Loads

@[expose] public section

set_option maxRecDepth 16384

noncomputable section

namespace Cert.Fox

open Idealize.ShloMosaic Cert.KernelIdeal Cert.KernelIdeal.Gen Finset

variable (c : Dev nD) (i : grid1.Coords)
  (arg1 : Memref sig .tc .vmem S2048x128 .bf16) (harg1 : arg1.IsWhole)
  (arg2 : Memref sig .tc .vmem S2048x128 .bf16) (harg2 : arg2.IsWhole)
  (arg3 : Memref sig .tc .vmem S2048x128 .bf16) (harg3 : arg3.IsWhole)
  (arg4 : Memref sig .tc .vmem S2x2048x1 .f32) (harg4 : arg4.IsWhole)
  (arg5 : Memref sig .tc .vmem S1x2x2048 .f32) (harg5 : arg5.IsWhole)
  (arg6 : Memref sig .tc .vmem S2x2048x1 .f32) (harg6 : arg6.IsWhole)
  (arg7 : Memref sig .tc .vmem S2048x128 .bf16) (harg7 : arg7.IsWhole)
  (arg8 : Memref sig .tc .vmem S2048x128 .bf16) (harg8 : arg8.IsWhole)
  (arg9 : Memref sig .tc .vmem S2048x128 .bf16) (harg9 : arg9.IsWhole)
  (arg10 : Memref sig .tc .vmem S2048x128 .bf16) (harg10 : arg10.IsWhole)
  (arg11 : Memref sig .tc .vmem S1x2x2048 .f32) (harg11 : arg11.IsWhole)
  (arg12 : Memref sig .tc .vmem S2048x128 .f32) (harg12 : arg12.IsWhole)
  (arg13 : Memref sig .tc .vmem S2048x128 .f32) (harg13 : arg13.IsWhole)
  {H : ℕ → Head} {x0 x1 x2 : Vec Ideal S2048x128 .bf16} {x3 : Vec Ideal S2x2048x1 .f32} {x4 : Vec Ideal S1x2x2048 .f32}
  {x5 : Vec Ideal S2x2048x1 .f32} {x6 : Vec Ideal S2048x128 .bf16}

/-- The backward kernel leaves a pair of heads' gradients of the queries. -/
theorem run_dq (hx : Inputs H x0 x1 x2 x3 x4) (hy : Saved H x5 x6) :
    Held2 (View.canon (Val := Elt Ideal) (kernelRun1_A (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6).1 : Vec Ideal ⟨2, ![2048, 128]⟩ .bf16)
      fun s j => (H (j / 64)).dq s (j % 64) := by
  unfold kernelRun1_A
  dsimp only
  refine Filled2.done ?_
  refine Filled2.tileB (f := fun h => (H h).dq) (h := 1) (u := 7) ?_ (tile_dq (off := 256 * 7) (n := 2048) (H 1) (score (H 1) (attn (H 1) (masked_concat (logits (H 1) (q_ld harg1 hx 1 (256 * 7)) (k_ld harg2 hx 1) (c_ld harg4 hx 1 (256 * 7)) (r_ld harg5 hx 1) (s0 := shapeCasts_S1x256x1_S256x1) (s1 := shapeCasts_S1x1x2048_S1x2048) (b0 := broadcasts_S256x1_S256x2048) (b1 := broadcasts_S1x2048_S256x2048)) rfl rfl concatenates_S256x1792_S256x256_S256x2048_d1 (s0 := slices_S256x2048_o0_0_S256x1792) (s1 := slices_S256x2048_o0_1792_S256x256)) (l_ld harg6 hy 1 (256 * 7)) (s0 := shapeCasts_S1x256x1_S256x1) (b0 := broadcasts_S256x1_S256x2048)) (g_ld harg7 hy 1 (256 * 7)) (v_ld harg3 hx 1) rfl (by decide) (h := reduces_S256x2048_S256) (h1 := .inl rfl) (h2 := rfl) (s0 := shapeCasts_S256_S256x1) (b0 := broadcasts_S256x1_S256x2048)) (k_ld harg2 hx 1) rfl (by decide) (h := bitsLt_bf16_f32) (h' := bitsLt_bf16_f32))
  refine Filled2.tileB (f := fun h => (H h).dq) (h := 1) (u := 6) ?_ (tile_dq (off := 256 * 6) (n := 1792) (H 1) (score (H 1) (attn (H 1) (masked_concat (logits (H 1) (q_ld harg1 hx 1 (256 * 6)) (k_ld harg2 hx 1) (c_ld harg4 hx 1 (256 * 6)) (r_ld harg5 hx 1) (s0 := shapeCasts_S1x256x1_S256x1) (s1 := shapeCasts_S1x1x1792_S1x1792) (b0 := broadcasts_S256x1_S256x1792) (b1 := broadcasts_S1x1792_S256x1792)) rfl rfl concatenates_S256x1536_S256x256_S256x1792_d1 (s0 := slices_S256x1792_o0_0_S256x1536) (s1 := slices_S256x1792_o0_1536_S256x256)) (l_ld harg6 hy 1 (256 * 6)) (s0 := shapeCasts_S1x256x1_S256x1) (b0 := broadcasts_S256x1_S256x1792)) (g_ld harg7 hy 1 (256 * 6)) (v_ld harg3 hx 1) rfl (by decide) (h := reduces_S256x1792_S256) (h1 := .inl rfl) (h2 := rfl) (s0 := shapeCasts_S256_S256x1) (b0 := broadcasts_S256x1_S256x1792)) (k_ld harg2 hx 1) rfl (by decide) (h := bitsLt_bf16_f32) (h' := bitsLt_bf16_f32))
  refine Filled2.tileB (f := fun h => (H h).dq) (h := 1) (u := 5) ?_ (tile_dq (off := 256 * 5) (n := 1536) (H 1) (score (H 1) (attn (H 1) (masked_concat (logits (H 1) (q_ld harg1 hx 1 (256 * 5)) (k_ld harg2 hx 1) (c_ld harg4 hx 1 (256 * 5)) (r_ld harg5 hx 1) (s0 := shapeCasts_S1x256x1_S256x1) (s1 := shapeCasts_S1x1x1536_S1x1536) (b0 := broadcasts_S256x1_S256x1536) (b1 := broadcasts_S1x1536_S256x1536)) rfl rfl concatenates_S256x1280_S256x256_S256x1536_d1 (s0 := slices_S256x1536_o0_0_S256x1280) (s1 := slices_S256x1536_o0_1280_S256x256)) (l_ld harg6 hy 1 (256 * 5)) (s0 := shapeCasts_S1x256x1_S256x1) (b0 := broadcasts_S256x1_S256x1536)) (g_ld harg7 hy 1 (256 * 5)) (v_ld harg3 hx 1) rfl (by decide) (h := reduces_S256x1536_S256) (h1 := .inl rfl) (h2 := rfl) (s0 := shapeCasts_S256_S256x1) (b0 := broadcasts_S256x1_S256x1536)) (k_ld harg2 hx 1) rfl (by decide) (h := bitsLt_bf16_f32) (h' := bitsLt_bf16_f32))
  refine Filled2.tileB (f := fun h => (H h).dq) (h := 1) (u := 4) ?_ (tile_dq (off := 256 * 4) (n := 1280) (H 1) (score (H 1) (attn (H 1) (masked_concat (logits (H 1) (q_ld harg1 hx 1 (256 * 4)) (k_ld harg2 hx 1) (c_ld harg4 hx 1 (256 * 4)) (r_ld harg5 hx 1) (s0 := shapeCasts_S1x256x1_S256x1) (s1 := shapeCasts_S1x1x1280_S1x1280) (b0 := broadcasts_S256x1_S256x1280) (b1 := broadcasts_S1x1280_S256x1280)) rfl rfl concatenates_S256x1024_S256x256_S256x1280_d1 (s0 := slices_S256x1280_o0_0_S256x1024) (s1 := slices_S256x1280_o0_1024_S256x256)) (l_ld harg6 hy 1 (256 * 4)) (s0 := shapeCasts_S1x256x1_S256x1) (b0 := broadcasts_S256x1_S256x1280)) (g_ld harg7 hy 1 (256 * 4)) (v_ld harg3 hx 1) rfl (by decide) (h := reduces_S256x1280_S256) (h1 := .inl rfl) (h2 := rfl) (s0 := shapeCasts_S256_S256x1) (b0 := broadcasts_S256x1_S256x1280)) (k_ld harg2 hx 1) rfl (by decide) (h := bitsLt_bf16_f32) (h' := bitsLt_bf16_f32))
  refine Filled2.tileB (f := fun h => (H h).dq) (h := 1) (u := 3) ?_ (tile_dq (off := 256 * 3) (n := 1024) (H 1) (score (H 1) (attn (H 1) (masked_concat (logits (H 1) (q_ld harg1 hx 1 (256 * 3)) (k_ld harg2 hx 1) (c_ld harg4 hx 1 (256 * 3)) (r_ld harg5 hx 1) (s0 := shapeCasts_S1x256x1_S256x1) (s1 := shapeCasts_S1x1x1024_S1x1024) (b0 := broadcasts_S256x1_S256x1024) (b1 := broadcasts_S1x1024_S256x1024)) rfl rfl concatenates_S256x768_S256x256_S256x1024_d1 (s0 := slices_S256x1024_o0_0_S256x768) (s1 := slices_S256x1024_o0_768_S256x256)) (l_ld harg6 hy 1 (256 * 3)) (s0 := shapeCasts_S1x256x1_S256x1) (b0 := broadcasts_S256x1_S256x1024)) (g_ld harg7 hy 1 (256 * 3)) (v_ld harg3 hx 1) rfl (by decide) (h := reduces_S256x1024_S256) (h1 := .inl rfl) (h2 := rfl) (s0 := shapeCasts_S256_S256x1) (b0 := broadcasts_S256x1_S256x1024)) (k_ld harg2 hx 1) rfl (by decide) (h := bitsLt_bf16_f32) (h' := bitsLt_bf16_f32))
  refine Filled2.tileB (f := fun h => (H h).dq) (h := 1) (u := 2) ?_ (tile_dq (off := 256 * 2) (n := 768) (H 1) (score (H 1) (attn (H 1) (masked_concat (logits (H 1) (q_ld harg1 hx 1 (256 * 2)) (k_ld harg2 hx 1) (c_ld harg4 hx 1 (256 * 2)) (r_ld harg5 hx 1) (s0 := shapeCasts_S1x256x1_S256x1) (s1 := shapeCasts_S1x1x768_S1x768) (b0 := broadcasts_S256x1_S256x768) (b1 := broadcasts_S1x768_S256x768)) rfl rfl concatenates_S256x512_S256x256_S256x768_d1 (s0 := slices_S256x768_o0_0_S256x512) (s1 := slices_S256x768_o0_512_S256x256)) (l_ld harg6 hy 1 (256 * 2)) (s0 := shapeCasts_S1x256x1_S256x1) (b0 := broadcasts_S256x1_S256x768)) (g_ld harg7 hy 1 (256 * 2)) (v_ld harg3 hx 1) rfl (by decide) (h := reduces_S256x768_S256) (h1 := .inl rfl) (h2 := rfl) (s0 := shapeCasts_S256_S256x1) (b0 := broadcasts_S256x1_S256x768)) (k_ld harg2 hx 1) rfl (by decide) (h := bitsLt_bf16_f32) (h' := bitsLt_bf16_f32))
  refine Filled2.tileB (f := fun h => (H h).dq) (h := 1) (u := 1) ?_ (tile_dq (off := 256 * 1) (n := 512) (H 1) (score (H 1) (attn (H 1) (masked_concat (logits (H 1) (q_ld harg1 hx 1 (256 * 1)) (k_ld harg2 hx 1) (c_ld harg4 hx 1 (256 * 1)) (r_ld harg5 hx 1) (s0 := shapeCasts_S1x256x1_S256x1) (s1 := shapeCasts_S1x1x512_S1x512) (b0 := broadcasts_S256x1_S256x512) (b1 := broadcasts_S1x512_S256x512)) rfl rfl concatenates_S256x256_S256x256_S256x512_d1 (s0 := slices_S256x512_o0_0_S256x256) (s1 := slices_S256x512_o0_256_S256x256)) (l_ld harg6 hy 1 (256 * 1)) (s0 := shapeCasts_S1x256x1_S256x1) (b0 := broadcasts_S256x1_S256x512)) (g_ld harg7 hy 1 (256 * 1)) (v_ld harg3 hx 1) rfl (by decide) (h := reduces_S256x512_S256) (h1 := .inl rfl) (h2 := rfl) (s0 := shapeCasts_S256_S256x1) (b0 := broadcasts_S256x1_S256x512)) (k_ld harg2 hx 1) rfl (by decide) (h := bitsLt_bf16_f32) (h' := bitsLt_bf16_f32))
  refine Filled2.tileB (f := fun h => (H h).dq) (h := 1) (u := 0) ?_ (tile_dq (off := 256 * 0) (n := 256) (H 1) (score (H 1) (attn (H 1) (masked_one (logits (H 1) (q_ld harg1 hx 1 (256 * 0)) (k_ld harg2 hx 1) (c_ld harg4 hx 1 (256 * 0)) (r_ld harg5 hx 1) (s0 := shapeCasts_S1x256x1_S256x1) (s1 := shapeCasts_S1x1x256_S1x256) (b0 := broadcasts_S256x1_S256x256) (b1 := broadcasts_S1x256_S256x256)) rfl) (l_ld harg6 hy 1 (256 * 0)) (s0 := shapeCasts_S1x256x1_S256x1) (b0 := broadcasts_S256x1_S256x256)) (g_ld harg7 hy 1 (256 * 0)) (v_ld harg3 hx 1) rfl (by decide) (h := reduces_S256x256_S256) (h1 := .inl rfl) (h2 := rfl) (s0 := shapeCasts_S256_S256x1) (b0 := broadcasts_S256x1_S256x256)) (k_ld harg2 hx 1) rfl (by decide) (h := bitsLt_bf16_f32) (h' := bitsLt_bf16_f32))
  refine Filled2.next ?_
  refine Filled2.tileB (f := fun h => (H h).dq) (h := 0) (u := 7) ?_ (tile_dq (off := 256 * 7) (n := 2048) (H 0) (score (H 0) (attn (H 0) (masked_concat (logits (H 0) (q_ld harg1 hx 0 (256 * 7)) (k_ld harg2 hx 0) (c_ld harg4 hx 0 (256 * 7)) (r_ld harg5 hx 0) (s0 := shapeCasts_S1x256x1_S256x1) (s1 := shapeCasts_S1x1x2048_S1x2048) (b0 := broadcasts_S256x1_S256x2048) (b1 := broadcasts_S1x2048_S256x2048)) rfl rfl concatenates_S256x1792_S256x256_S256x2048_d1 (s0 := slices_S256x2048_o0_0_S256x1792) (s1 := slices_S256x2048_o0_1792_S256x256)) (l_ld harg6 hy 0 (256 * 7)) (s0 := shapeCasts_S1x256x1_S256x1) (b0 := broadcasts_S256x1_S256x2048)) (g_ld harg7 hy 0 (256 * 7)) (v_ld harg3 hx 0) rfl (by decide) (h := reduces_S256x2048_S256) (h1 := .inl rfl) (h2 := rfl) (s0 := shapeCasts_S256_S256x1) (b0 := broadcasts_S256x1_S256x2048)) (k_ld harg2 hx 0) rfl (by decide) (h := bitsLt_bf16_f32) (h' := bitsLt_bf16_f32))
  refine Filled2.tileB (f := fun h => (H h).dq) (h := 0) (u := 6) ?_ (tile_dq (off := 256 * 6) (n := 1792) (H 0) (score (H 0) (attn (H 0) (masked_concat (logits (H 0) (q_ld harg1 hx 0 (256 * 6)) (k_ld harg2 hx 0) (c_ld harg4 hx 0 (256 * 6)) (r_ld harg5 hx 0) (s0 := shapeCasts_S1x256x1_S256x1) (s1 := shapeCasts_S1x1x1792_S1x1792) (b0 := broadcasts_S256x1_S256x1792) (b1 := broadcasts_S1x1792_S256x1792)) rfl rfl concatenates_S256x1536_S256x256_S256x1792_d1 (s0 := slices_S256x1792_o0_0_S256x1536) (s1 := slices_S256x1792_o0_1536_S256x256)) (l_ld harg6 hy 0 (256 * 6)) (s0 := shapeCasts_S1x256x1_S256x1) (b0 := broadcasts_S256x1_S256x1792)) (g_ld harg7 hy 0 (256 * 6)) (v_ld harg3 hx 0) rfl (by decide) (h := reduces_S256x1792_S256) (h1 := .inl rfl) (h2 := rfl) (s0 := shapeCasts_S256_S256x1) (b0 := broadcasts_S256x1_S256x1792)) (k_ld harg2 hx 0) rfl (by decide) (h := bitsLt_bf16_f32) (h' := bitsLt_bf16_f32))
  refine Filled2.tileB (f := fun h => (H h).dq) (h := 0) (u := 5) ?_ (tile_dq (off := 256 * 5) (n := 1536) (H 0) (score (H 0) (attn (H 0) (masked_concat (logits (H 0) (q_ld harg1 hx 0 (256 * 5)) (k_ld harg2 hx 0) (c_ld harg4 hx 0 (256 * 5)) (r_ld harg5 hx 0) (s0 := shapeCasts_S1x256x1_S256x1) (s1 := shapeCasts_S1x1x1536_S1x1536) (b0 := broadcasts_S256x1_S256x1536) (b1 := broadcasts_S1x1536_S256x1536)) rfl rfl concatenates_S256x1280_S256x256_S256x1536_d1 (s0 := slices_S256x1536_o0_0_S256x1280) (s1 := slices_S256x1536_o0_1280_S256x256)) (l_ld harg6 hy 0 (256 * 5)) (s0 := shapeCasts_S1x256x1_S256x1) (b0 := broadcasts_S256x1_S256x1536)) (g_ld harg7 hy 0 (256 * 5)) (v_ld harg3 hx 0) rfl (by decide) (h := reduces_S256x1536_S256) (h1 := .inl rfl) (h2 := rfl) (s0 := shapeCasts_S256_S256x1) (b0 := broadcasts_S256x1_S256x1536)) (k_ld harg2 hx 0) rfl (by decide) (h := bitsLt_bf16_f32) (h' := bitsLt_bf16_f32))
  refine Filled2.tileB (f := fun h => (H h).dq) (h := 0) (u := 4) ?_ (tile_dq (off := 256 * 4) (n := 1280) (H 0) (score (H 0) (attn (H 0) (masked_concat (logits (H 0) (q_ld harg1 hx 0 (256 * 4)) (k_ld harg2 hx 0) (c_ld harg4 hx 0 (256 * 4)) (r_ld harg5 hx 0) (s0 := shapeCasts_S1x256x1_S256x1) (s1 := shapeCasts_S1x1x1280_S1x1280) (b0 := broadcasts_S256x1_S256x1280) (b1 := broadcasts_S1x1280_S256x1280)) rfl rfl concatenates_S256x1024_S256x256_S256x1280_d1 (s0 := slices_S256x1280_o0_0_S256x1024) (s1 := slices_S256x1280_o0_1024_S256x256)) (l_ld harg6 hy 0 (256 * 4)) (s0 := shapeCasts_S1x256x1_S256x1) (b0 := broadcasts_S256x1_S256x1280)) (g_ld harg7 hy 0 (256 * 4)) (v_ld harg3 hx 0) rfl (by decide) (h := reduces_S256x1280_S256) (h1 := .inl rfl) (h2 := rfl) (s0 := shapeCasts_S256_S256x1) (b0 := broadcasts_S256x1_S256x1280)) (k_ld harg2 hx 0) rfl (by decide) (h := bitsLt_bf16_f32) (h' := bitsLt_bf16_f32))
  refine Filled2.tileB (f := fun h => (H h).dq) (h := 0) (u := 3) ?_ (tile_dq (off := 256 * 3) (n := 1024) (H 0) (score (H 0) (attn (H 0) (masked_concat (logits (H 0) (q_ld harg1 hx 0 (256 * 3)) (k_ld harg2 hx 0) (c_ld harg4 hx 0 (256 * 3)) (r_ld harg5 hx 0) (s0 := shapeCasts_S1x256x1_S256x1) (s1 := shapeCasts_S1x1x1024_S1x1024) (b0 := broadcasts_S256x1_S256x1024) (b1 := broadcasts_S1x1024_S256x1024)) rfl rfl concatenates_S256x768_S256x256_S256x1024_d1 (s0 := slices_S256x1024_o0_0_S256x768) (s1 := slices_S256x1024_o0_768_S256x256)) (l_ld harg6 hy 0 (256 * 3)) (s0 := shapeCasts_S1x256x1_S256x1) (b0 := broadcasts_S256x1_S256x1024)) (g_ld harg7 hy 0 (256 * 3)) (v_ld harg3 hx 0) rfl (by decide) (h := reduces_S256x1024_S256) (h1 := .inl rfl) (h2 := rfl) (s0 := shapeCasts_S256_S256x1) (b0 := broadcasts_S256x1_S256x1024)) (k_ld harg2 hx 0) rfl (by decide) (h := bitsLt_bf16_f32) (h' := bitsLt_bf16_f32))
  refine Filled2.tileB (f := fun h => (H h).dq) (h := 0) (u := 2) ?_ (tile_dq (off := 256 * 2) (n := 768) (H 0) (score (H 0) (attn (H 0) (masked_concat (logits (H 0) (q_ld harg1 hx 0 (256 * 2)) (k_ld harg2 hx 0) (c_ld harg4 hx 0 (256 * 2)) (r_ld harg5 hx 0) (s0 := shapeCasts_S1x256x1_S256x1) (s1 := shapeCasts_S1x1x768_S1x768) (b0 := broadcasts_S256x1_S256x768) (b1 := broadcasts_S1x768_S256x768)) rfl rfl concatenates_S256x512_S256x256_S256x768_d1 (s0 := slices_S256x768_o0_0_S256x512) (s1 := slices_S256x768_o0_512_S256x256)) (l_ld harg6 hy 0 (256 * 2)) (s0 := shapeCasts_S1x256x1_S256x1) (b0 := broadcasts_S256x1_S256x768)) (g_ld harg7 hy 0 (256 * 2)) (v_ld harg3 hx 0) rfl (by decide) (h := reduces_S256x768_S256) (h1 := .inl rfl) (h2 := rfl) (s0 := shapeCasts_S256_S256x1) (b0 := broadcasts_S256x1_S256x768)) (k_ld harg2 hx 0) rfl (by decide) (h := bitsLt_bf16_f32) (h' := bitsLt_bf16_f32))
  refine Filled2.tileB (f := fun h => (H h).dq) (h := 0) (u := 1) ?_ (tile_dq (off := 256 * 1) (n := 512) (H 0) (score (H 0) (attn (H 0) (masked_concat (logits (H 0) (q_ld harg1 hx 0 (256 * 1)) (k_ld harg2 hx 0) (c_ld harg4 hx 0 (256 * 1)) (r_ld harg5 hx 0) (s0 := shapeCasts_S1x256x1_S256x1) (s1 := shapeCasts_S1x1x512_S1x512) (b0 := broadcasts_S256x1_S256x512) (b1 := broadcasts_S1x512_S256x512)) rfl rfl concatenates_S256x256_S256x256_S256x512_d1 (s0 := slices_S256x512_o0_0_S256x256) (s1 := slices_S256x512_o0_256_S256x256)) (l_ld harg6 hy 0 (256 * 1)) (s0 := shapeCasts_S1x256x1_S256x1) (b0 := broadcasts_S256x1_S256x512)) (g_ld harg7 hy 0 (256 * 1)) (v_ld harg3 hx 0) rfl (by decide) (h := reduces_S256x512_S256) (h1 := .inl rfl) (h2 := rfl) (s0 := shapeCasts_S256_S256x1) (b0 := broadcasts_S256x1_S256x512)) (k_ld harg2 hx 0) rfl (by decide) (h := bitsLt_bf16_f32) (h' := bitsLt_bf16_f32))
  refine Filled2.tileB (f := fun h => (H h).dq) (h := 0) (u := 0) ?_ (tile_dq (off := 256 * 0) (n := 256) (H 0) (score (H 0) (attn (H 0) (masked_one (logits (H 0) (q_ld harg1 hx 0 (256 * 0)) (k_ld harg2 hx 0) (c_ld harg4 hx 0 (256 * 0)) (r_ld harg5 hx 0) (s0 := shapeCasts_S1x256x1_S256x1) (s1 := shapeCasts_S1x1x256_S1x256) (b0 := broadcasts_S256x1_S256x256) (b1 := broadcasts_S1x256_S256x256)) rfl) (l_ld harg6 hy 0 (256 * 0)) (s0 := shapeCasts_S1x256x1_S256x1) (b0 := broadcasts_S256x1_S256x256)) (g_ld harg7 hy 0 (256 * 0)) (v_ld harg3 hx 0) rfl (by decide) (h := reduces_S256x256_S256) (h1 := .inl rfl) (h2 := rfl) (s0 := shapeCasts_S256_S256x1) (b0 := broadcasts_S256x1_S256x256)) (k_ld harg2 hx 0) rfl (by decide) (h := bitsLt_bf16_f32) (h' := bitsLt_bf16_f32))
  exact Filled2.nil

end Cert.Fox
-- ==== Proof.Fwd.lean ====
/- What the forward kernel leaves of one pair of heads: the output and the logarithms of the rows' sums. -/
module

public import proofs.«01_k».proof.Proof.Inputs
public import proofs.«01_k».proof.Proof.Gen.KernelIdeal.Frame

@[expose] public section

set_option maxRecDepth 16384

noncomputable section

namespace Cert.Fox

open Idealize.ShloMosaic Cert.KernelIdeal Cert.KernelIdeal.Gen

variable {H : ℕ → Head} {x0 x1 x2 : Vec Ideal S2048x128 .bf16} {x3 : Vec Ideal S2x2048x1 .f32} {x4 : Vec Ideal S1x2x2048 .f32}

/-- One more tile of the output. -/
theorem Filled2.tile {L : List (View.Piece (Elt Ideal) ⟨2, ![2048, 128]⟩ .f32)} {f : ℕ → ℕ → ℕ → ℝ} {h u : ℕ}
    (hL : Filled2 L h u fun t j => f (j / 64) t (j % 64)) {inb} {w : Vec Ideal ⟨2, ![256, 64]⟩ .f32}
    (hw : Real2 (φ := .f32) w fun r d => f h (256 * u + r) d) :
    Filled2 ((⟨Rect.unit ![256 * u, 64 * h] ![256, 64] inb, w⟩ : View.Piece (Elt Ideal) ⟨2, ![2048, 128]⟩ .f32) :: L) h (u + 1)
      fun t j => f (j / 64) t (j % 64) :=
  hL.cons fun i j => by
    have hj := j.isLt
    refine (hw i j).trans ?_
    beta_reduce
    rw [show (64 * h + (j : ℕ)) / 64 = h by omega, show (64 * h + (j : ℕ)) % 64 = j by omega]
    rfl

/-- One more tile of the logarithms. -/
theorem Filled3.tile {L : List (View.Piece (Elt Ideal) ⟨3, ![2, 2048, 1]⟩ .f32)} {f : ℕ → ℕ → ℝ} {h u : ℕ}
    (hL : Filled3 L h u f) {inb} {w : Vec Ideal ⟨3, ![1, 256, 1]⟩ .f32} (hw : Real3 (φ := .f32) w fun _ r _ => f h (256 * u + r)) :
    Filled3 ((⟨Rect.unit ![h, 256 * u, 0] ![1, 256, 1] inb, w⟩ : View.Piece (Elt Ideal) ⟨3, ![2, 2048, 1]⟩ .f32) :: L) h (u + 1) f :=
  hL.cons fun l i j => hw l i j

/-- The forward kernel leaves a pair of heads' outputs. -/
theorem out_o (hx : Inputs H x0 x1 x2 x3 x4) :
    Held2 (out0_5 x0 x1 x2 x3 x4 : Vec Ideal ⟨2, ![2048, 128]⟩ .f32) fun t j => (H (j / 64)).o t (j % 64) := by
  unfold_out out0_5
  unfold k0_pay47
  refine Filled2.done ?_
  refine Filled2.tile (f := fun h => (H h).o) (h := 1) (u := 7) ?_ (tile_o (H 1) (masked_concat (logits (H 1) (hx.qs 1 (256 * 7)) (hx.ks 1) (hx.cs 1 (256 * 7)) (hx.rs 1)) rfl rfl concatenates_S256x1792_S256x256_S256x2048_d1 (s0 := slices_S256x2048_o0_0_S256x1792) (s1 := slices_S256x2048_o0_1792_S256x256)) (hx.vs 1) rfl (by decide) (h := reduces_S256x2048_S256) (h' := reduces_S256x2048_S256) (s0 := shapeCasts_S256_S256x1) (s0' := shapeCasts_S256_S256x1) (b0 := broadcasts_S256x1_S256x2048) (b1 := broadcasts_S256x1_S256x64) (ht := bitsLt_bf16_f32) (h1 := .inl rfl) (h2 := rfl) (h1' := .inl rfl) (h2' := rfl))
  refine Filled2.tile (f := fun h => (H h).o) (h := 1) (u := 6) ?_ (tile_o (H 1) (masked_concat (logits (H 1) (hx.qs 1 (256 * 6)) (hx.ks 1) (hx.cs 1 (256 * 6)) (hx.rs 1)) rfl rfl concatenates_S256x1536_S256x256_S256x1792_d1 (s0 := slices_S256x1792_o0_0_S256x1536) (s1 := slices_S256x1792_o0_1536_S256x256)) (hx.vs 1) rfl (by decide) (h := reduces_S256x1792_S256) (h' := reduces_S256x1792_S256) (s0 := shapeCasts_S256_S256x1) (s0' := shapeCasts_S256_S256x1) (b0 := broadcasts_S256x1_S256x1792) (b1 := broadcasts_S256x1_S256x64) (ht := bitsLt_bf16_f32) (h1 := .inl rfl) (h2 := rfl) (h1' := .inl rfl) (h2' := rfl))
  refine Filled2.tile (f := fun h => (H h).o) (h := 1) (u := 5) ?_ (tile_o (H 1) (masked_concat (logits (H 1) (hx.qs 1 (256 * 5)) (hx.ks 1) (hx.cs 1 (256 * 5)) (hx.rs 1)) rfl rfl concatenates_S256x1280_S256x256_S256x1536_d1 (s0 := slices_S256x1536_o0_0_S256x1280) (s1 := slices_S256x1536_o0_1280_S256x256)) (hx.vs 1) rfl (by decide) (h := reduces_S256x1536_S256) (h' := reduces_S256x1536_S256) (s0 := shapeCasts_S256_S256x1) (s0' := shapeCasts_S256_S256x1) (b0 := broadcasts_S256x1_S256x1536) (b1 := broadcasts_S256x1_S256x64) (ht := bitsLt_bf16_f32) (h1 := .inl rfl) (h2 := rfl) (h1' := .inl rfl) (h2' := rfl))
  refine Filled2.tile (f := fun h => (H h).o) (h := 1) (u := 4) ?_ (tile_o (H 1) (masked_concat (logits (H 1) (hx.qs 1 (256 * 4)) (hx.ks 1) (hx.cs 1 (256 * 4)) (hx.rs 1)) rfl rfl concatenates_S256x1024_S256x256_S256x1280_d1 (s0 := slices_S256x1280_o0_0_S256x1024) (s1 := slices_S256x1280_o0_1024_S256x256)) (hx.vs 1) rfl (by decide) (h := reduces_S256x1280_S256) (h' := reduces_S256x1280_S256) (s0 := shapeCasts_S256_S256x1) (s0' := shapeCasts_S256_S256x1) (b0 := broadcasts_S256x1_S256x1280) (b1 := broadcasts_S256x1_S256x64) (ht := bitsLt_bf16_f32) (h1 := .inl rfl) (h2 := rfl) (h1' := .inl rfl) (h2' := rfl))
  refine Filled2.tile (f := fun h => (H h).o) (h := 1) (u := 3) ?_ (tile_o (H 1) (masked_concat (logits (H 1) (hx.qs 1 (256 * 3)) (hx.ks 1) (hx.cs 1 (256 * 3)) (hx.rs 1)) rfl rfl concatenates_S256x768_S256x256_S256x1024_d1 (s0 := slices_S256x1024_o0_0_S256x768) (s1 := slices_S256x1024_o0_768_S256x256)) (hx.vs 1) rfl (by decide) (h := reduces_S256x1024_S256) (h' := reduces_S256x1024_S256) (s0 := shapeCasts_S256_S256x1) (s0' := shapeCasts_S256_S256x1) (b0 := broadcasts_S256x1_S256x1024) (b1 := broadcasts_S256x1_S256x64) (ht := bitsLt_bf16_f32) (h1 := .inl rfl) (h2 := rfl) (h1' := .inl rfl) (h2' := rfl))
  refine Filled2.tile (f := fun h => (H h).o) (h := 1) (u := 2) ?_ (tile_o (H 1) (masked_concat (logits (H 1) (hx.qs 1 (256 * 2)) (hx.ks 1) (hx.cs 1 (256 * 2)) (hx.rs 1)) rfl rfl concatenates_S256x512_S256x256_S256x768_d1 (s0 := slices_S256x768_o0_0_S256x512) (s1 := slices_S256x768_o0_512_S256x256)) (hx.vs 1) rfl (by decide) (h := reduces_S256x768_S256) (h' := reduces_S256x768_S256) (s0 := shapeCasts_S256_S256x1) (s0' := shapeCasts_S256_S256x1) (b0 := broadcasts_S256x1_S256x768) (b1 := broadcasts_S256x1_S256x64) (ht := bitsLt_bf16_f32) (h1 := .inl rfl) (h2 := rfl) (h1' := .inl rfl) (h2' := rfl))
  refine Filled2.tile (f := fun h => (H h).o) (h := 1) (u := 1) ?_ (tile_o (H 1) (masked_concat (logits (H 1) (hx.qs 1 (256 * 1)) (hx.ks 1) (hx.cs 1 (256 * 1)) (hx.rs 1)) rfl rfl concatenates_S256x256_S256x256_S256x512_d1 (s0 := slices_S256x512_o0_0_S256x256) (s1 := slices_S256x512_o0_256_S256x256)) (hx.vs 1) rfl (by decide) (h := reduces_S256x512_S256) (h' := reduces_S256x512_S256) (s0 := shapeCasts_S256_S256x1) (s0' := shapeCasts_S256_S256x1) (b0 := broadcasts_S256x1_S256x512) (b1 := broadcasts_S256x1_S256x64) (ht := bitsLt_bf16_f32) (h1 := .inl rfl) (h2 := rfl) (h1' := .inl rfl) (h2' := rfl))
  refine Filled2.tile (f := fun h => (H h).o) (h := 1) (u := 0) ?_ (tile_o (H 1) (masked_one (logits (H 1) (hx.qs 1 (256 * 0)) (hx.ks 1) (hx.cs 1 (256 * 0)) (hx.rs 1)) rfl) (hx.vs 1) rfl (by decide) (h := reduces_S256x256_S256) (h' := reduces_S256x256_S256) (s0 := shapeCasts_S256_S256x1) (s0' := shapeCasts_S256_S256x1) (b0 := broadcasts_S256x1_S256x256) (b1 := broadcasts_S256x1_S256x64) (ht := bitsLt_bf16_f32) (h1 := .inl rfl) (h2 := rfl) (h1' := .inl rfl) (h2' := rfl))
  refine Filled2.next ?_
  refine Filled2.tile (f := fun h => (H h).o) (h := 0) (u := 7) ?_ (tile_o (H 0) (masked_concat (logits (H 0) (hx.qs 0 (256 * 7)) (hx.ks 0) (hx.cs 0 (256 * 7)) (hx.rs 0)) rfl rfl concatenates_S256x1792_S256x256_S256x2048_d1 (s0 := slices_S256x2048_o0_0_S256x1792) (s1 := slices_S256x2048_o0_1792_S256x256)) (hx.vs 0) rfl (by decide) (h := reduces_S256x2048_S256) (h' := reduces_S256x2048_S256) (s0 := shapeCasts_S256_S256x1) (s0' := shapeCasts_S256_S256x1) (b0 := broadcasts_S256x1_S256x2048) (b1 := broadcasts_S256x1_S256x64) (ht := bitsLt_bf16_f32) (h1 := .inl rfl) (h2 := rfl) (h1' := .inl rfl) (h2' := rfl))
  refine Filled2.tile (f := fun h => (H h).o) (h := 0) (u := 6) ?_ (tile_o (H 0) (masked_concat (logits (H 0) (hx.qs 0 (256 * 6)) (hx.ks 0) (hx.cs 0 (256 * 6)) (hx.rs 0)) rfl rfl concatenates_S256x1536_S256x256_S256x1792_d1 (s0 := slices_S256x1792_o0_0_S256x1536) (s1 := slices_S256x1792_o0_1536_S256x256)) (hx.vs 0) rfl (by decide) (h := reduces_S256x1792_S256) (h' := reduces_S256x1792_S256) (s0 := shapeCasts_S256_S256x1) (s0' := shapeCasts_S256_S256x1) (b0 := broadcasts_S256x1_S256x1792) (b1 := broadcasts_S256x1_S256x64) (ht := bitsLt_bf16_f32) (h1 := .inl rfl) (h2 := rfl) (h1' := .inl rfl) (h2' := rfl))
  refine Filled2.tile (f := fun h => (H h).o) (h := 0) (u := 5) ?_ (tile_o (H 0) (masked_concat (logits (H 0) (hx.qs 0 (256 * 5)) (hx.ks 0) (hx.cs 0 (256 * 5)) (hx.rs 0)) rfl rfl concatenates_S256x1280_S256x256_S256x1536_d1 (s0 := slices_S256x1536_o0_0_S256x1280) (s1 := slices_S256x1536_o0_1280_S256x256)) (hx.vs 0) rfl (by decide) (h := reduces_S256x1536_S256) (h' := reduces_S256x1536_S256) (s0 := shapeCasts_S256_S256x1) (s0' := shapeCasts_S256_S256x1) (b0 := broadcasts_S256x1_S256x1536) (b1 := broadcasts_S256x1_S256x64) (ht := bitsLt_bf16_f32) (h1 := .inl rfl) (h2 := rfl) (h1' := .inl rfl) (h2' := rfl))
  refine Filled2.tile (f := fun h => (H h).o) (h := 0) (u := 4) ?_ (tile_o (H 0) (masked_concat (logits (H 0) (hx.qs 0 (256 * 4)) (hx.ks 0) (hx.cs 0 (256 * 4)) (hx.rs 0)) rfl rfl concatenates_S256x1024_S256x256_S256x1280_d1 (s0 := slices_S256x1280_o0_0_S256x1024) (s1 := slices_S256x1280_o0_1024_S256x256)) (hx.vs 0) rfl (by decide) (h := reduces_S256x1280_S256) (h' := reduces_S256x1280_S256) (s0 := shapeCasts_S256_S256x1) (s0' := shapeCasts_S256_S256x1) (b0 := broadcasts_S256x1_S256x1280) (b1 := broadcasts_S256x1_S256x64) (ht := bitsLt_bf16_f32) (h1 := .inl rfl) (h2 := rfl) (h1' := .inl rfl) (h2' := rfl))
  refine Filled2.tile (f := fun h => (H h).o) (h := 0) (u := 3) ?_ (tile_o (H 0) (masked_concat (logits (H 0) (hx.qs 0 (256 * 3)) (hx.ks 0) (hx.cs 0 (256 * 3)) (hx.rs 0)) rfl rfl concatenates_S256x768_S256x256_S256x1024_d1 (s0 := slices_S256x1024_o0_0_S256x768) (s1 := slices_S256x1024_o0_768_S256x256)) (hx.vs 0) rfl (by decide) (h := reduces_S256x1024_S256) (h' := reduces_S256x1024_S256) (s0 := shapeCasts_S256_S256x1) (s0' := shapeCasts_S256_S256x1) (b0 := broadcasts_S256x1_S256x1024) (b1 := broadcasts_S256x1_S256x64) (ht := bitsLt_bf16_f32) (h1 := .inl rfl) (h2 := rfl) (h1' := .inl rfl) (h2' := rfl))
  refine Filled2.tile (f := fun h => (H h).o) (h := 0) (u := 2) ?_ (tile_o (H 0) (masked_concat (logits (H 0) (hx.qs 0 (256 * 2)) (hx.ks 0) (hx.cs 0 (256 * 2)) (hx.rs 0)) rfl rfl concatenates_S256x512_S256x256_S256x768_d1 (s0 := slices_S256x768_o0_0_S256x512) (s1 := slices_S256x768_o0_512_S256x256)) (hx.vs 0) rfl (by decide) (h := reduces_S256x768_S256) (h' := reduces_S256x768_S256) (s0 := shapeCasts_S256_S256x1) (s0' := shapeCasts_S256_S256x1) (b0 := broadcasts_S256x1_S256x768) (b1 := broadcasts_S256x1_S256x64) (ht := bitsLt_bf16_f32) (h1 := .inl rfl) (h2 := rfl) (h1' := .inl rfl) (h2' := rfl))
  refine Filled2.tile (f := fun h => (H h).o) (h := 0) (u := 1) ?_ (tile_o (H 0) (masked_concat (logits (H 0) (hx.qs 0 (256 * 1)) (hx.ks 0) (hx.cs 0 (256 * 1)) (hx.rs 0)) rfl rfl concatenates_S256x256_S256x256_S256x512_d1 (s0 := slices_S256x512_o0_0_S256x256) (s1 := slices_S256x512_o0_256_S256x256)) (hx.vs 0) rfl (by decide) (h := reduces_S256x512_S256) (h' := reduces_S256x512_S256) (s0 := shapeCasts_S256_S256x1) (s0' := shapeCasts_S256_S256x1) (b0 := broadcasts_S256x1_S256x512) (b1 := broadcasts_S256x1_S256x64) (ht := bitsLt_bf16_f32) (h1 := .inl rfl) (h2 := rfl) (h1' := .inl rfl) (h2' := rfl))
  refine Filled2.tile (f := fun h => (H h).o) (h := 0) (u := 0) ?_ (tile_o (H 0) (masked_one (logits (H 0) (hx.qs 0 (256 * 0)) (hx.ks 0) (hx.cs 0 (256 * 0)) (hx.rs 0)) rfl) (hx.vs 0) rfl (by decide) (h := reduces_S256x256_S256) (h' := reduces_S256x256_S256) (s0 := shapeCasts_S256_S256x1) (s0' := shapeCasts_S256_S256x1) (b0 := broadcasts_S256x1_S256x256) (b1 := broadcasts_S256x1_S256x64) (ht := bitsLt_bf16_f32) (h1 := .inl rfl) (h2 := rfl) (h1' := .inl rfl) (h2' := rfl))
  exact Filled2.nil

/-- The forward kernel leaves the logarithms of the sums of a pair of heads' rows. -/
theorem out_lse (hx : Inputs H x0 x1 x2 x3 x4) :
    Held3 (out0_6 x0 x1 x2 x3 x4 : Vec Ideal ⟨3, ![2, 2048, 1]⟩ .f32) fun h t _ => Real.log ((H h).Z t) := by
  unfold_out out0_6
  unfold k0_pay47 k0_pay46
  refine Filled3.done ?_
  refine Filled3.tile (f := fun h t => Real.log ((H h).Z t)) (h := 1) (u := 7) ?_ (tile_lse (H 1) (masked_concat (logits (H 1) (hx.qs 1 (256 * 7)) (hx.ks 1) (hx.cs 1 (256 * 7)) (hx.rs 1)) rfl rfl concatenates_S256x1792_S256x256_S256x2048_d1 (s0 := slices_S256x2048_o0_0_S256x1792) (s1 := slices_S256x2048_o0_1792_S256x256)) rfl (h := reduces_S256x2048_S256) (h' := reduces_S256x2048_S256) (s0 := shapeCasts_S256_S256x1) (s0' := shapeCasts_S256_S256x1) (b0 := broadcasts_S256x1_S256x2048) (s0'' := shapeCasts_S256_S256x1) (s1 := shapeCasts_S256x1_S1x256x1) (h1 := .inl rfl) (h2 := rfl) (h1' := .inl rfl) (h2' := rfl))
  refine Filled3.tile (f := fun h t => Real.log ((H h).Z t)) (h := 1) (u := 6) ?_ (tile_lse (H 1) (masked_concat (logits (H 1) (hx.qs 1 (256 * 6)) (hx.ks 1) (hx.cs 1 (256 * 6)) (hx.rs 1)) rfl rfl concatenates_S256x1536_S256x256_S256x1792_d1 (s0 := slices_S256x1792_o0_0_S256x1536) (s1 := slices_S256x1792_o0_1536_S256x256)) rfl (h := reduces_S256x1792_S256) (h' := reduces_S256x1792_S256) (s0 := shapeCasts_S256_S256x1) (s0' := shapeCasts_S256_S256x1) (b0 := broadcasts_S256x1_S256x1792) (s0'' := shapeCasts_S256_S256x1) (s1 := shapeCasts_S256x1_S1x256x1) (h1 := .inl rfl) (h2 := rfl) (h1' := .inl rfl) (h2' := rfl))
  refine Filled3.tile (f := fun h t => Real.log ((H h).Z t)) (h := 1) (u := 5) ?_ (tile_lse (H 1) (masked_concat (logits (H 1) (hx.qs 1 (256 * 5)) (hx.ks 1) (hx.cs 1 (256 * 5)) (hx.rs 1)) rfl rfl concatenates_S256x1280_S256x256_S256x1536_d1 (s0 := slices_S256x1536_o0_0_S256x1280) (s1 := slices_S256x1536_o0_1280_S256x256)) rfl (h := reduces_S256x1536_S256) (h' := reduces_S256x1536_S256) (s0 := shapeCasts_S256_S256x1) (s0' := shapeCasts_S256_S256x1) (b0 := broadcasts_S256x1_S256x1536) (s0'' := shapeCasts_S256_S256x1) (s1 := shapeCasts_S256x1_S1x256x1) (h1 := .inl rfl) (h2 := rfl) (h1' := .inl rfl) (h2' := rfl))
  refine Filled3.tile (f := fun h t => Real.log ((H h).Z t)) (h := 1) (u := 4) ?_ (tile_lse (H 1) (masked_concat (logits (H 1) (hx.qs 1 (256 * 4)) (hx.ks 1) (hx.cs 1 (256 * 4)) (hx.rs 1)) rfl rfl concatenates_S256x1024_S256x256_S256x1280_d1 (s0 := slices_S256x1280_o0_0_S256x1024) (s1 := slices_S256x1280_o0_1024_S256x256)) rfl (h := reduces_S256x1280_S256) (h' := reduces_S256x1280_S256) (s0 := shapeCasts_S256_S256x1) (s0' := shapeCasts_S256_S256x1) (b0 := broadcasts_S256x1_S256x1280) (s0'' := shapeCasts_S256_S256x1) (s1 := shapeCasts_S256x1_S1x256x1) (h1 := .inl rfl) (h2 := rfl) (h1' := .inl rfl) (h2' := rfl))
  refine Filled3.tile (f := fun h t => Real.log ((H h).Z t)) (h := 1) (u := 3) ?_ (tile_lse (H 1) (masked_concat (logits (H 1) (hx.qs 1 (256 * 3)) (hx.ks 1) (hx.cs 1 (256 * 3)) (hx.rs 1)) rfl rfl concatenates_S256x768_S256x256_S256x1024_d1 (s0 := slices_S256x1024_o0_0_S256x768) (s1 := slices_S256x1024_o0_768_S256x256)) rfl (h := reduces_S256x1024_S256) (h' := reduces_S256x1024_S256) (s0 := shapeCasts_S256_S256x1) (s0' := shapeCasts_S256_S256x1) (b0 := broadcasts_S256x1_S256x1024) (s0'' := shapeCasts_S256_S256x1) (s1 := shapeCasts_S256x1_S1x256x1) (h1 := .inl rfl) (h2 := rfl) (h1' := .inl rfl) (h2' := rfl))
  refine Filled3.tile (f := fun h t => Real.log ((H h).Z t)) (h := 1) (u := 2) ?_ (tile_lse (H 1) (masked_concat (logits (H 1) (hx.qs 1 (256 * 2)) (hx.ks 1) (hx.cs 1 (256 * 2)) (hx.rs 1)) rfl rfl concatenates_S256x512_S256x256_S256x768_d1 (s0 := slices_S256x768_o0_0_S256x512) (s1 := slices_S256x768_o0_512_S256x256)) rfl (h := reduces_S256x768_S256) (h' := reduces_S256x768_S256) (s0 := shapeCasts_S256_S256x1) (s0' := shapeCasts_S256_S256x1) (b0 := broadcasts_S256x1_S256x768) (s0'' := shapeCasts_S256_S256x1) (s1 := shapeCasts_S256x1_S1x256x1) (h1 := .inl rfl) (h2 := rfl) (h1' := .inl rfl) (h2' := rfl))
  refine Filled3.tile (f := fun h t => Real.log ((H h).Z t)) (h := 1) (u := 1) ?_ (tile_lse (H 1) (masked_concat (logits (H 1) (hx.qs 1 (256 * 1)) (hx.ks 1) (hx.cs 1 (256 * 1)) (hx.rs 1)) rfl rfl concatenates_S256x256_S256x256_S256x512_d1 (s0 := slices_S256x512_o0_0_S256x256) (s1 := slices_S256x512_o0_256_S256x256)) rfl (h := reduces_S256x512_S256) (h' := reduces_S256x512_S256) (s0 := shapeCasts_S256_S256x1) (s0' := shapeCasts_S256_S256x1) (b0 := broadcasts_S256x1_S256x512) (s0'' := shapeCasts_S256_S256x1) (s1 := shapeCasts_S256x1_S1x256x1) (h1 := .inl rfl) (h2 := rfl) (h1' := .inl rfl) (h2' := rfl))
  refine Filled3.tile (f := fun h t => Real.log ((H h).Z t)) (h := 1) (u := 0) ?_ (tile_lse (H 1) (masked_one (logits (H 1) (hx.qs 1 (256 * 0)) (hx.ks 1) (hx.cs 1 (256 * 0)) (hx.rs 1)) rfl) rfl (h := reduces_S256x256_S256) (h' := reduces_S256x256_S256) (s0 := shapeCasts_S256_S256x1) (s0' := shapeCasts_S256_S256x1) (b0 := broadcasts_S256x1_S256x256) (s0'' := shapeCasts_S256_S256x1) (s1 := shapeCasts_S256x1_S1x256x1) (h1 := .inl rfl) (h2 := rfl) (h1' := .inl rfl) (h2' := rfl))
  refine Filled3.next ?_
  refine Filled3.tile (f := fun h t => Real.log ((H h).Z t)) (h := 0) (u := 7) ?_ (tile_lse (H 0) (masked_concat (logits (H 0) (hx.qs 0 (256 * 7)) (hx.ks 0) (hx.cs 0 (256 * 7)) (hx.rs 0)) rfl rfl concatenates_S256x1792_S256x256_S256x2048_d1 (s0 := slices_S256x2048_o0_0_S256x1792) (s1 := slices_S256x2048_o0_1792_S256x256)) rfl (h := reduces_S256x2048_S256) (h' := reduces_S256x2048_S256) (s0 := shapeCasts_S256_S256x1) (s0' := shapeCasts_S256_S256x1) (b0 := broadcasts_S256x1_S256x2048) (s0'' := shapeCasts_S256_S256x1) (s1 := shapeCasts_S256x1_S1x256x1) (h1 := .inl rfl) (h2 := rfl) (h1' := .inl rfl) (h2' := rfl))
  refine Filled3.tile (f := fun h t => Real.log ((H h).Z t)) (h := 0) (u := 6) ?_ (tile_lse (H 0) (masked_concat (logits (H 0) (hx.qs 0 (256 * 6)) (hx.ks 0) (hx.cs 0 (256 * 6)) (hx.rs 0)) rfl rfl concatenates_S256x1536_S256x256_S256x1792_d1 (s0 := slices_S256x1792_o0_0_S256x1536) (s1 := slices_S256x1792_o0_1536_S256x256)) rfl (h := reduces_S256x1792_S256) (h' := reduces_S256x1792_S256) (s0 := shapeCasts_S256_S256x1) (s0' := shapeCasts_S256_S256x1) (b0 := broadcasts_S256x1_S256x1792) (s0'' := shapeCasts_S256_S256x1) (s1 := shapeCasts_S256x1_S1x256x1) (h1 := .inl rfl) (h2 := rfl) (h1' := .inl rfl) (h2' := rfl))
  refine Filled3.tile (f := fun h t => Real.log ((H h).Z t)) (h := 0) (u := 5) ?_ (tile_lse (H 0) (masked_concat (logits (H 0) (hx.qs 0 (256 * 5)) (hx.ks 0) (hx.cs 0 (256 * 5)) (hx.rs 0)) rfl rfl concatenates_S256x1280_S256x256_S256x1536_d1 (s0 := slices_S256x1536_o0_0_S256x1280) (s1 := slices_S256x1536_o0_1280_S256x256)) rfl (h := reduces_S256x1536_S256) (h' := reduces_S256x1536_S256) (s0 := shapeCasts_S256_S256x1) (s0' := shapeCasts_S256_S256x1) (b0 := broadcasts_S256x1_S256x1536) (s0'' := shapeCasts_S256_S256x1) (s1 := shapeCasts_S256x1_S1x256x1) (h1 := .inl rfl) (h2 := rfl) (h1' := .inl rfl) (h2' := rfl))
  refine Filled3.tile (f := fun h t => Real.log ((H h).Z t)) (h := 0) (u := 4) ?_ (tile_lse (H 0) (masked_concat (logits (H 0) (hx.qs 0 (256 * 4)) (hx.ks 0) (hx.cs 0 (256 * 4)) (hx.rs 0)) rfl rfl concatenates_S256x1024_S256x256_S256x1280_d1 (s0 := slices_S256x1280_o0_0_S256x1024) (s1 := slices_S256x1280_o0_1024_S256x256)) rfl (h := reduces_S256x1280_S256) (h' := reduces_S256x1280_S256) (s0 := shapeCasts_S256_S256x1) (s0' := shapeCasts_S256_S256x1) (b0 := broadcasts_S256x1_S256x1280) (s0'' := shapeCasts_S256_S256x1) (s1 := shapeCasts_S256x1_S1x256x1) (h1 := .inl rfl) (h2 := rfl) (h1' := .inl rfl) (h2' := rfl))
  refine Filled3.tile (f := fun h t => Real.log ((H h).Z t)) (h := 0) (u := 3) ?_ (tile_lse (H 0) (masked_concat (logits (H 0) (hx.qs 0 (256 * 3)) (hx.ks 0) (hx.cs 0 (256 * 3)) (hx.rs 0)) rfl rfl concatenates_S256x768_S256x256_S256x1024_d1 (s0 := slices_S256x1024_o0_0_S256x768) (s1 := slices_S256x1024_o0_768_S256x256)) rfl (h := reduces_S256x1024_S256) (h' := reduces_S256x1024_S256) (s0 := shapeCasts_S256_S256x1) (s0' := shapeCasts_S256_S256x1) (b0 := broadcasts_S256x1_S256x1024) (s0'' := shapeCasts_S256_S256x1) (s1 := shapeCasts_S256x1_S1x256x1) (h1 := .inl rfl) (h2 := rfl) (h1' := .inl rfl) (h2' := rfl))
  refine Filled3.tile (f := fun h t => Real.log ((H h).Z t)) (h := 0) (u := 2) ?_ (tile_lse (H 0) (masked_concat (logits (H 0) (hx.qs 0 (256 * 2)) (hx.ks 0) (hx.cs 0 (256 * 2)) (hx.rs 0)) rfl rfl concatenates_S256x512_S256x256_S256x768_d1 (s0 := slices_S256x768_o0_0_S256x512) (s1 := slices_S256x768_o0_512_S256x256)) rfl (h := reduces_S256x768_S256) (h' := reduces_S256x768_S256) (s0 := shapeCasts_S256_S256x1) (s0' := shapeCasts_S256_S256x1) (b0 := broadcasts_S256x1_S256x768) (s0'' := shapeCasts_S256_S256x1) (s1 := shapeCasts_S256x1_S1x256x1) (h1 := .inl rfl) (h2 := rfl) (h1' := .inl rfl) (h2' := rfl))
  refine Filled3.tile (f := fun h t => Real.log ((H h).Z t)) (h := 0) (u := 1) ?_ (tile_lse (H 0) (masked_concat (logits (H 0) (hx.qs 0 (256 * 1)) (hx.ks 0) (hx.cs 0 (256 * 1)) (hx.rs 0)) rfl rfl concatenates_S256x256_S256x256_S256x512_d1 (s0 := slices_S256x512_o0_0_S256x256) (s1 := slices_S256x512_o0_256_S256x256)) rfl (h := reduces_S256x512_S256) (h' := reduces_S256x512_S256) (s0 := shapeCasts_S256_S256x1) (s0' := shapeCasts_S256_S256x1) (b0 := broadcasts_S256x1_S256x512) (s0'' := shapeCasts_S256_S256x1) (s1 := shapeCasts_S256x1_S1x256x1) (h1 := .inl rfl) (h2 := rfl) (h1' := .inl rfl) (h2' := rfl))
  refine Filled3.tile (f := fun h t => Real.log ((H h).Z t)) (h := 0) (u := 0) ?_ (tile_lse (H 0) (masked_one (logits (H 0) (hx.qs 0 (256 * 0)) (hx.ks 0) (hx.cs 0 (256 * 0)) (hx.rs 0)) rfl) rfl (h := reduces_S256x256_S256) (h' := reduces_S256x256_S256) (s0 := shapeCasts_S256_S256x1) (s0' := shapeCasts_S256_S256x1) (b0 := broadcasts_S256x1_S256x256) (s0'' := shapeCasts_S256_S256x1) (s1 := shapeCasts_S256x1_S1x256x1) (h1 := .inl rfl) (h2 := rfl) (h1' := .inl rfl) (h2' := rfl))
  exact Filled3.nil

end Cert.Fox
-- ==== Proof.Arrays.lean ====
/- The blocks of the two calls as blocks of their arrays, and the arrays that the calls leave. -/
module

public import proofs.«01_k».proof.Proof.Dk
public import proofs.«01_k».proof.Proof.Dv
public import proofs.«01_k».proof.Proof.Dc
public import proofs.«01_k».proof.Proof.Dq
public import proofs.«01_k».proof.Proof.Fwd
public import Idealize.ShloMosaic.Lib.Pipeline.ValueKit

@[expose] public section

set_option maxRecDepth 16384

noncomputable section

namespace Cert.Fox

open Idealize.ShloMosaic Idealize.ShloMosaic.TcCoe Cert.KernelIdeal Cert.KernelIdeal.Gen Finset
open Idealize.ShloMosaic.Pipeline (Dat)

/-- Where the windows of the first call stand at point `t`. -/
theorem idx0 : ∀ t : Fin cfg0.N, win0_0.index t = ![0, (t : ℕ)] ∧ win0_1.index t = ![0, 4 + (t : ℕ)] ∧ win0_2.index t = ![0, 8 + (t : ℕ)]
    ∧ win0_3.index t = ![(t : ℕ), 0, 0] ∧ win0_4.index t = ![(t : ℕ), 0, 0] ∧ win0_5.index t = ![0, (t : ℕ)]
    ∧ win0_6.index t = ![(t : ℕ), 0, 0] := by decide +kernel

/-- Where the windows of the second call stand at point `t`. -/
theorem idx1 : ∀ t : Fin cfg1.N, win1_0.index t = ![0, (t : ℕ)] ∧ win1_1.index t = ![0, 4 + (t : ℕ)] ∧ win1_2.index t = ![0, 8 + (t : ℕ)]
    ∧ win1_3.index t = ![(t : ℕ), 0, 0] ∧ win1_4.index t = ![(t : ℕ), 0, 0] ∧ win1_5.index t = ![(t : ℕ), 0, 0]
    ∧ win1_6.index t = ![0, (t : ℕ)] ∧ win1_7.index t = ![0, (t : ℕ)] ∧ win1_8.index t = ![0, (t : ℕ)] ∧ win1_9.index t = ![0, (t : ℕ)]
    ∧ win1_10.index t = ![(t : ℕ), 0, 0] := by decide +kernel

/-- The columns of the packed queries, keys and values, head by head. -/
def packed (Hd : ℕ → Head) (t j : ℕ) : ℝ :=
  if j < 512 then (Hd (j / 64)).q t (j % 64)
  else if j < 1024 then (Hd ((j - 512) / 64)).k t ((j - 512) % 64)
  else (Hd ((j - 1024) / 64)).v t ((j - 1024) % 64)

section

variable (V : (c : Dev nD) → (b : Ref sig .tc) → Buf (Elt Ideal) ((c : Thread nD τ).loc b)) (c : Dev nD)

/-- The arrays that both calls read hold the numbers of the eight heads. -/
structure Entry (Hd : ℕ → Head) : Prop where
  qkv : Held2 (a := 2048) (b := 1536) (e := .bf16) (V c main_arg0) (packed Hd)
  col : Held3 (n := 8) (a := 2048) (b := 1) (e := .f32) (V c main_v0) fun h t _ => (Hd h).c t
  row : Held3 (n := 4) (a := 2) (b := 2048) (e := .f32) (V c main_v1) fun p h t => (Hd (2 * p + h)).c t

theorem block0_0 (t : Fin cfg0.N) {f : ℕ → ℕ → ℝ} (h : Held2 (a := 2048) (b := 1536) (e := .bf16) (V c main_arg0) f) :
    Held2 (a := 2048) (b := 128) (e := .bf16) (iblk0 V c 0 t) fun i j => f i (128 * t + j) := fun i j => by
  have ht : (t : ℕ) < 4 := t.isLt
  have e := h i ⟨128 * t + j, by omega⟩
  refine Eq.trans ?_ e
  blk_ext [iblk0, idx0 t]

theorem block0_1 (t : Fin cfg0.N) {f : ℕ → ℕ → ℝ} (h : Held2 (a := 2048) (b := 1536) (e := .bf16) (V c main_arg0) f) :
    Held2 (a := 2048) (b := 128) (e := .bf16) (iblk0 V c 1 t) fun i j => f i (512 + 128 * t + j) := fun i j => by
  have ht : (t : ℕ) < 4 := t.isLt
  have e := h i ⟨512 + 128 * t + j, by omega⟩
  refine Eq.trans ?_ e
  blk_ext [iblk0, idx0 t]

theorem block0_2 (t : Fin cfg0.N) {f : ℕ → ℕ → ℝ} (h : Held2 (a := 2048) (b := 1536) (e := .bf16) (V c main_arg0) f) :
    Held2 (a := 2048) (b := 128) (e := .bf16) (iblk0 V c 2 t) fun i j => f i (1024 + 128 * t + j) := fun i j => by
  have ht : (t : ℕ) < 4 := t.isLt
  have e := h i ⟨1024 + 128 * t + j, by omega⟩
  refine Eq.trans ?_ e
  blk_ext [iblk0, idx0 t]

theorem block0_3 (t : Fin cfg0.N) {f : ℕ → ℕ → ℕ → ℝ} (h : Held3 (n := 8) (a := 2048) (b := 1) (e := .f32) (V c main_v0) f) :
    Held3 (n := 2) (a := 2048) (b := 1) (e := .f32) (iblk0 V c 3 t) fun l i j => f (2 * t + l) i j := fun l i j => by
  have ht : (t : ℕ) < 4 := t.isLt
  have e := h ⟨2 * t + l, by omega⟩ i j
  refine Eq.trans ?_ e
  blk_ext [iblk0, idx0 t]

theorem block0_4 (t : Fin cfg0.N) {f : ℕ → ℕ → ℕ → ℝ} (h : Held3 (n := 4) (a := 2) (b := 2048) (e := .f32) (V c main_v1) f) :
    Held3 (n := 1) (a := 2) (b := 2048) (e := .f32) (iblk0 V c 4 t) fun _ i j => f t i j := fun l i j => by
  have ht : (t : ℕ) < 4 := t.isLt
  have e := h ⟨t, ht⟩ i j
  refine Eq.trans ?_ e
  blk_ext [iblk0, idx0 t]

theorem block1_0 (t : Fin cfg1.N) {f : ℕ → ℕ → ℝ} (h : Held2 (a := 2048) (b := 1536) (e := .bf16) (V c main_arg0) f) :
    Held2 (a := 2048) (b := 128) (e := .bf16) (iblk1 V c 0 t) fun i j => f i (128 * t + j) := fun i j => by
  have ht : (t : ℕ) < 4 := t.isLt
  have e := h i ⟨128 * t + j, by omega⟩
  refine Eq.trans ?_ e
  blk_ext [iblk1, idx1 t]

theorem block1_1 (t : Fin cfg1.N) {f : ℕ → ℕ → ℝ} (h : Held2 (a := 2048) (b := 1536) (e := .bf16) (V c main_arg0) f) :
    Held2 (a := 2048) (b := 128) (e := .bf16) (iblk1 V c 1 t) fun i j => f i (512 + 128 * t + j) := fun i j => by
  have ht : (t : ℕ) < 4 := t.isLt
  have e := h i ⟨512 + 128 * t + j, by omega⟩
  refine Eq.trans ?_ e
  blk_ext [iblk1, idx1 t]

theorem block1_2 (t : Fin cfg1.N) {f : ℕ → ℕ → ℝ} (h : Held2 (a := 2048) (b := 1536) (e := .bf16) (V c main_arg0) f) :
    Held2 (a := 2048) (b := 128) (e := .bf16) (iblk1 V c 2 t) fun i j => f i (1024 + 128 * t + j) := fun i j => by
  have ht : (t : ℕ) < 4 := t.isLt
  have e := h i ⟨1024 + 128 * t + j, by omega⟩
  refine Eq.trans ?_ e
  blk_ext [iblk1, idx1 t]

theorem block1_3 (t : Fin cfg1.N) {f : ℕ → ℕ → ℕ → ℝ} (h : Held3 (n := 8) (a := 2048) (b := 1) (e := .f32) (V c main_v0) f) :
    Held3 (n := 2) (a := 2048) (b := 1) (e := .f32) (iblk1 V c 3 t) fun l i j => f (2 * t + l) i j := fun l i j => by
  have ht : (t : ℕ) < 4 := t.isLt
  have e := h ⟨2 * t + l, by omega⟩ i j
  refine Eq.trans ?_ e
  blk_ext [iblk1, idx1 t]

theorem block1_4 (t : Fin cfg1.N) {f : ℕ → ℕ → ℕ → ℝ} (h : Held3 (n := 4) (a := 2) (b := 2048) (e := .f32) (V c main_v1) f) :
    Held3 (n := 1) (a := 2) (b := 2048) (e := .f32) (iblk1 V c 4 t) fun _ i j => f t i j := fun l i j => by
  have ht : (t : ℕ) < 4 := t.isLt
  have e := h ⟨t, ht⟩ i j
  refine Eq.trans ?_ e
  blk_ext [iblk1, idx1 t]

theorem block1_5 (t : Fin cfg1.N) {f : ℕ → ℕ → ℕ → ℝ} (h : Held3 (n := 8) (a := 2048) (b := 1) (e := .f32) (V c main_v2_1) f) :
    Held3 (n := 2) (a := 2048) (b := 1) (e := .f32) (iblk1 V c 5 t) fun l i j => f (2 * t + l) i j := fun l i j => by
  have ht : (t : ℕ) < 4 := t.isLt
  have e := h ⟨2 * t + l, by omega⟩ i j
  refine Eq.trans ?_ e
  blk_ext [iblk1, idx1 t]

theorem block1_6 (t : Fin cfg1.N) {f : ℕ → ℕ → ℝ} (h : Held2 (a := 2048) (b := 512) (e := .bf16) (V c main_arg2) f) :
    Held2 (a := 2048) (b := 128) (e := .bf16) (iblk1 V c 6 t) fun i j => f i (128 * t + j) := fun i j => by
  have ht : (t : ℕ) < 4 := t.isLt
  have e := h i ⟨128 * t + j, by omega⟩
  refine Eq.trans ?_ e
  blk_ext [iblk1, idx1 t]

theorem array0_5 {f : ℕ → ℕ → ℝ}
    (h : ∀ t : Fin cfg0.N, Held2 (a := 2048) (b := 128) (e := .f32) ((dat0 V c).after 5 t) fun i j => f i (128 * t + j)) :
    Held2 (a := 2048) (b := 512) (e := .f32) ((dat0 V c).arrAt 5 cfg0.N) f := by
  have hA := (dat0 V c).arrAt_eq_of_covers 5 (fun i : (⟨2, ![2048, 512]⟩ : Shape).Idx => (Holds.at' (f (i 0) (i 1)) : Elt Ideal .f32))
    (by decide +kernel) fun t hf y => ?_
  · exact fun i j => (congrFun hA (ix2 i j)).trans rfl
  · have e := h t (y 0) (y 1)
    blk_simp
    refine (Eq.trans (by congr 1; blk_ext) e).trans ?_
    blk_simp [idx0 t]
    rw [Nat.mul_comm]

theorem array0_6 {f : ℕ → ℕ → ℕ → ℝ}
    (h : ∀ t : Fin cfg0.N, Held3 (n := 2) (a := 2048) (b := 1) (e := .f32) ((dat0 V c).after 6 t) fun l i j => f (2 * t + l) i j) :
    Held3 (n := 8) (a := 2048) (b := 1) (e := .f32) ((dat0 V c).arrAt 6 cfg0.N) f := by
  have hA := (dat0 V c).arrAt_eq_of_covers 6 (fun i : (⟨3, ![8, 2048, 1]⟩ : Shape).Idx => (Holds.at' (f (i 0) (i 1) (i 2)) : Elt Ideal .f32))
    (by decide +kernel) fun t hf y => ?_
  · exact fun l i j => (congrFun hA (ix3 l i j)).trans rfl
  · have e := h t (y 0) (y 1) (y 2)
    blk_simp
    refine (Eq.trans (by congr 1; blk_ext) e).trans ?_
    blk_simp [idx0 t]
    rw [Nat.mul_comm]

theorem array1_7 {f : ℕ → ℕ → ℝ}
    (h : ∀ t : Fin cfg1.N, Held2 (a := 2048) (b := 128) (e := .bf16) ((dat1 V c).after 7 t) fun i j => f i (128 * t + j)) :
    Held2 (a := 2048) (b := 512) (e := .bf16) ((dat1 V c).arrAt 7 cfg1.N) f := by
  have hA := (dat1 V c).arrAt_eq_of_covers 7 (fun i : (⟨2, ![2048, 512]⟩ : Shape).Idx => (Holds.at' (f (i 0) (i 1)) : Elt Ideal .bf16))
    (by decide +kernel) fun t hf y => ?_
  · exact fun i j => (congrFun hA (ix2 i j)).trans rfl
  · have e := h t (y 0) (y 1)
    blk_simp
    refine (Eq.trans (by congr 1; blk_ext) e).trans ?_
    blk_simp [idx1 t]
    rw [Nat.mul_comm]

theorem array1_8 {f : ℕ → ℕ → ℝ}
    (h : ∀ t : Fin cfg1.N, Held2 (a := 2048) (b := 128) (e := .bf16) ((dat1 V c).after 8 t) fun i j => f i (128 * t + j)) :
    Held2 (a := 2048) (b := 512) (e := .bf16) ((dat1 V c).arrAt 8 cfg1.N) f := by
  have hA := (dat1 V c).arrAt_eq_of_covers 8 (fun i : (⟨2, ![2048, 512]⟩ : Shape).Idx => (Holds.at' (f (i 0) (i 1)) : Elt Ideal .bf16))
    (by decide +kernel) fun t hf y => ?_
  · exact fun i j => (congrFun hA (ix2 i j)).trans rfl
  · have e := h t (y 0) (y 1)
    blk_simp
    refine (Eq.trans (by congr 1; blk_ext) e).trans ?_
    blk_simp [idx1 t]
    rw [Nat.mul_comm]

theorem array1_9 {f : ℕ → ℕ → ℝ}
    (h : ∀ t : Fin cfg1.N, Held2 (a := 2048) (b := 128) (e := .bf16) ((dat1 V c).after 9 t) fun i j => f i (128 * t + j)) :
    Held2 (a := 2048) (b := 512) (e := .bf16) ((dat1 V c).arrAt 9 cfg1.N) f := by
  have hA := (dat1 V c).arrAt_eq_of_covers 9 (fun i : (⟨2, ![2048, 512]⟩ : Shape).Idx => (Holds.at' (f (i 0) (i 1)) : Elt Ideal .bf16))
    (by decide +kernel) fun t hf y => ?_
  · exact fun i j => (congrFun hA (ix2 i j)).trans rfl
  · have e := h t (y 0) (y 1)
    blk_simp
    refine (Eq.trans (by congr 1; blk_ext) e).trans ?_
    blk_simp [idx1 t]
    rw [Nat.mul_comm]

theorem array1_10 {f : ℕ → ℕ → ℕ → ℝ}
    (h : ∀ t : Fin cfg1.N, Held3 (n := 1) (a := 2) (b := 2048) (e := .f32) ((dat1 V c).after 10 t) fun l i j => f (t + l) i j) :
    Held3 (n := 4) (a := 2) (b := 2048) (e := .f32) ((dat1 V c).arrAt 10 cfg1.N) f := by
  have hA := (dat1 V c).arrAt_eq_of_covers 10 (fun i : (⟨3, ![4, 2, 2048]⟩ : Shape).Idx => (Holds.at' (f (i 0) (i 1) (i 2)) : Elt Ideal .f32))
    (by decide +kernel) fun t hf y => ?_
  · exact fun l i j => (congrFun hA (ix3 l i j)).trans rfl
  · have e := h t (y 0) (y 1) (y 2)
    blk_simp
    refine (Eq.trans (congrArg ((dat1 V c).after 10 t) (ix3_eta y).symm) e).trans ?_
    blk_simp [idx1 t]

/-- The blocks that call 0 reads at a point hold the numbers of that point's two heads. -/
theorem inputs0 {Hd : ℕ → Head} (hV : Entry V c Hd) (t : Fin cfg0.N) :
    Inputs (fun h => Hd (2 * t + h)) (iblk0 V c 0 t) (iblk0 V c 1 t) (iblk0 V c 2 t) (iblk0 V c 3 t) (iblk0 V c 4 t) where
  q := (block0_0 V c t hV.qkv).congr fun i _ j hj => by
    have ht : (t : ℕ) < 4 := t.isLt
    unfold packed
    rw [if_pos (by omega), show (128 * t + j) / 64 = 2 * t + j / 64 by omega, show (128 * t + j) % 64 = j % 64 by omega]
  k := (block0_1 V c t hV.qkv).congr fun i _ j hj => by
    have ht : (t : ℕ) < 4 := t.isLt
    unfold packed
    rw [if_neg (by omega), if_pos (by omega), show (512 + 128 * t + j - 512) / 64 = 2 * t + j / 64 by omega,
      show (512 + 128 * t + j - 512) % 64 = j % 64 by omega]
  v := (block0_2 V c t hV.qkv).congr fun i _ j hj => by
    have ht : (t : ℕ) < 4 := t.isLt
    unfold packed
    rw [if_neg (by omega), if_neg (by omega), show (1024 + 128 * t + j - 1024) / 64 = 2 * t + j / 64 by omega,
      show (1024 + 128 * t + j - 1024) % 64 = j % 64 by omega]
  c := block0_3 V c t hV.col
  r := block0_4 V c t hV.row

/-- The blocks that call 1 reads at a point hold the numbers of that point's two heads. -/
theorem inputs1 {Hd : ℕ → Head} (hV : Entry V c Hd) (t : Fin cfg1.N) :
    Inputs (fun h => Hd (2 * t + h)) (iblk1 V c 0 t) (iblk1 V c 1 t) (iblk1 V c 2 t) (iblk1 V c 3 t) (iblk1 V c 4 t) where
  q := (block1_0 V c t hV.qkv).congr fun i _ j hj => by
    have ht : (t : ℕ) < 4 := t.isLt
    unfold packed
    rw [if_pos (by omega), show (128 * t + j) / 64 = 2 * t + j / 64 by omega, show (128 * t + j) % 64 = j % 64 by omega]
  k := (block1_1 V c t hV.qkv).congr fun i _ j hj => by
    have ht : (t : ℕ) < 4 := t.isLt
    unfold packed
    rw [if_neg (by omega), if_pos (by omega), show (512 + 128 * t + j - 512) / 64 = 2 * t + j / 64 by omega,
      show (512 + 128 * t + j - 512) % 64 = j % 64 by omega]
  v := (block1_2 V c t hV.qkv).congr fun i _ j hj => by
    have ht : (t : ℕ) < 4 := t.isLt
    unfold packed
    rw [if_neg (by omega), if_neg (by omega), show (1024 + 128 * t + j - 1024) / 64 = 2 * t + j / 64 by omega,
      show (1024 + 128 * t + j - 1024) % 64 = j % 64 by omega]
  c := block1_3 V c t hV.col
  r := block1_4 V c t hV.row

/-- The first call leaves the heads' outputs, -/
theorem call_o {Hd : ℕ → Head} (hV : Entry V c Hd) :
    Held2 (a := 2048) (b := 512) (e := .f32) ((dat0 V c).arrAt 5 cfg0.N) fun t j => (Hd (j / 64)).o t (j % 64) :=
  array0_5 V c fun t => by
    rw [after0_5]
    exact (out_o (inputs0 V c hV t)).congr fun i _ j _ => by
      rw [show (128 * t + j) / 64 = 2 * t + j / 64 by omega, show (128 * t + j) % 64 = j % 64 by omega]

/-- and the logarithms of the sums of their rows. -/
theorem call_lse {Hd : ℕ → Head} (hV : Entry V c Hd) :
    Held3 (n := 8) (a := 2048) (b := 1) (e := .f32) ((dat0 V c).arrAt 6 cfg0.N) fun h t _ => Real.log ((Hd h).Z t) :=
  array0_6 V c fun t => by
    rw [after0_6]
    exact out_lse (inputs0 V c hV t)

/-- What the second call reads beyond that. -/
theorem saved1 {Hd : ℕ → Head} (t : Fin cfg1.N)
    (hl : Held3 (n := 8) (a := 2048) (b := 1) (e := .f32) (V c main_v2_1) fun h t _ => Real.log ((Hd h).Z t))
    (hg : Held2 (a := 2048) (b := 512) (e := .bf16) (V c main_arg2) fun t j => (Hd (j / 64)).g t (j % 64)) :
    Saved (fun h => Hd (2 * t + h)) (iblk1 V c 5 t) (iblk1 V c 6 t) where
  l := block1_5 V c t hl
  g := (block1_6 V c t hg).congr fun i _ j _ => by
    rw [show (128 * t + j) / 64 = 2 * t + j / 64 by omega, show (128 * t + j) % 64 = j % 64 by omega]

variable {Hd : ℕ → Head} (hV : Entry V c Hd)
  (hl : Held3 (n := 8) (a := 2048) (b := 1) (e := .f32) (V c main_v2_1) fun h t _ => Real.log ((Hd h).Z t))
  (hg : Held2 (a := 2048) (b := 512) (e := .bf16) (V c main_arg2) fun t j => (Hd (j / 64)).g t (j % 64))

include hV hl hg

/-- The second call leaves the gradients of the queries, -/
theorem call_dq : Held2 (a := 2048) (b := 512) (e := .bf16) ((dat1 V c).arrAt 7 cfg1.N) fun t j => (Hd (j / 64)).dq t (j % 64) :=
  array1_7 V c fun t => by
    rw [after1_7]
    unfold outsAt1
    dsimp only
    unfold out1_A_7
    rw [View.read_writes_junk_eq_canon]
    exact (run_dq _ _ _ _ _ _ _ _ _ _ _ _ _ _ _ _ _ _ _ _ _ _ _ _ _ _ _ _ (inputs1 V c hV t) (saved1 V c t hl hg)).congr fun i _ j _ => by
      rw [show (128 * t + j) / 64 = 2 * t + j / 64 by omega, show (128 * t + j) % 64 = j % 64 by omega]

/-- those of the keys, -/
theorem call_dk : Held2 (a := 2048) (b := 512) (e := .bf16) ((dat1 V c).arrAt 8 cfg1.N) fun t j => (Hd (j / 64)).dk t (j % 64) :=
  array1_8 V c fun t => by
    rw [after1_8]
    unfold outsAt1
    dsimp only
    unfold out1_A_8
    rw [View.read_writes_junk_eq_canon]
    exact (run_dk _ _ _ _ _ _ _ _ _ _ _ _ _ _ _ _ _ _ _ _ _ _ _ _ _ _ _ _ (inputs1 V c hV t) (saved1 V c t hl hg)).congr fun i _ j _ => by
      rw [show (128 * t + j) / 64 = 2 * t + j / 64 by omega, show (128 * t + j) % 64 = j % 64 by omega]

/-- those of the values, -/
theorem call_dv : Held2 (a := 2048) (b := 512) (e := .bf16) ((dat1 V c).arrAt 9 cfg1.N) fun t j => (Hd (j / 64)).dv t (j % 64) :=
  array1_9 V c fun t => by
    rw [after1_9]
    unfold outsAt1
    dsimp only
    unfold out1_A_9
    rw [View.read_writes_junk_eq_canon]
    exact (run_dv _ _ _ _ _ _ _ _ _ _ _ _ _ _ _ _ _ _ _ _ _ _ _ _ _ _ _ _ (inputs1 V c hV t) (saved1 V c t hl hg)).congr fun i _ j _ => by
      rw [show (128 * t + j) / 64 = 2 * t + j / 64 by omega, show (128 * t + j) % 64 = j % 64 by omega]

/-- and the sums of the scores' columns. -/
theorem call_dc : Held3 (n := 4) (a := 2) (b := 2048) (e := .f32) ((dat1 V c).arrAt 10 cfg1.N) fun p h s => (Hd (2 * p + h)).dc s :=
  array1_10 V c fun t => by
    rw [after1_10]
    unfold outsAt1
    dsimp only
    unfold out1_A_10
    rw [View.read_writes_junk_eq_canon]
    exact (run_dc _ _ _ _ _ _ _ _ _ _ _ _ _ _ _ _ _ _ _ _ _ _ _ _ _ _ _ _ (inputs1 V c hV t) (saved1 V c t hl hg)).congr fun l hl i _ j _ => by
      rw [show l = 0 by omega, Nat.add_zero]

end

end Cert.Fox
-- ==== Proof.Run.lean ====
/- What the idealized kernel leaves in its five results. -/
module

public import proofs.«01_k».proof.Proof.Arrays
public import Idealize.ShloMosaic.Lib.Claim

@[expose] public section

set_option maxRecDepth 16384

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

section Entry

variable (c : Dev nD)

/-- The arguments of device `c` hold the numbers of the eight heads. -/
structure Args (Hd : ℕ → Head) : Prop where
  qkv : Held2 (a := 2048) (b := 1536) (e := .bf16) (m ((c.tc : Thread nD τ).loc main_arg0)) (packed Hd)
  gate : Held2 (a := 8) (b := 2048) (e := .f32) (m ((c.tc : Thread nD τ).loc main_arg1)) fun h t => (Hd h).c t
  g : Held2 (a := 2048) (b := 512) (e := .bf16) (m ((c.tc : Thread nD τ).loc main_arg2)) fun t j => (Hd (j / 64)).g t (j % 64)

variable {c} {Hd : ℕ → Head} (h : Args m c Hd)

include h

/-- What the first call finds. -/
theorem entry1 : Entry (V1 m ρ) c Hd where
  qkv := by
    rw [show V1 m ρ c main_arg0 = m ((c.tc : Thread nD τ).loc main_arg0) from W1_args m ρ c main_arg0 (by decide)]
    exact h.qkv
  col := fun i t j => by
    refine Eq.trans ?_ (h.gate i t)
    change StableHlo.after hostOps0 (W0 m ρ c) (Proc.devRef .tc main_v0) _ = _
    entry_read
    pointwise
  row := fun p i t => by
    have hp := p.isLt
    have hi := i.isLt
    refine Eq.trans ?_ (h.gate ⟨2 * p + i, by omega⟩ t)
    change StableHlo.after hostOps0 (W0 m ρ c) (Proc.devRef .tc main_v1) _ = _
    entry_read
    pointwise
    refine congrArg (fun i : Fin 8 => (m ((c.tc : Thread nD τ).loc main_arg1) : Vec Ideal ⟨2, ![8, 2048]⟩ .f32) (ix2 i t)) (Fin.ext ?_)
    change (p : ℕ) * 2 + i = 2 * p + i
    omega

/-- What the second call finds of the same arrays. -/
theorem entry2 : Entry (V2 m ρ) c Hd where
  qkv := by
    rw [show V2 m ρ c main_arg0 = m ((c.tc : Thread nD τ).loc main_arg0) from W2_args m ρ c main_arg0 (by decide)]
    exact h.qkv
  col := by
    rw [show V2 m ρ c main_v0 = V1 m ρ c main_v0 from W2_of m ρ c main_v0 (by decide)]
    exact (entry1 m ρ h).col
  row := by
    rw [show V2 m ρ c main_v1 = V1 m ρ c main_v1 from W2_of m ρ c main_v1 (by decide)]
    exact (entry1 m ρ h).row

theorem lse2 : Held3 (n := 8) (a := 2048) (b := 1) (e := .f32) (V2 m ρ c main_v2_1) fun h t _ => Real.log ((Hd h).Z t) := by
  rw [show V2 m ρ c main_v2_1 = (dat0 (V1 m ρ) c).arrAt 6 cfg0.N from W2_arr m ρ c 6]
  exact call_lse (V1 m ρ) c (entry1 m ρ h)

theorem grad2 : Held2 (a := 2048) (b := 512) (e := .bf16) (V2 m ρ c main_arg2) fun t j => (Hd (j / 64)).g t (j % 64) := by
  rw [show V2 m ρ c main_arg2 = m ((c.tc : Thread nD τ).loc main_arg2) from W2_args m ρ c main_arg2 (by decide)]
  exact h.g

/-- The outputs of the heads, -/
theorem final_o : Held2 (a := 2048) (b := 512) (e := .f32) (W3 m ρ c (Proc.devRef .tc main_v2_0)) fun t j => (Hd (j / 64)).o t (j % 64) := by
  rw [(W3_of m ρ c main_v2_0 (by decide)).trans (W2_arr m ρ c 5)]
  exact call_o (V1 m ρ) c (entry1 m ρ h)

/-- the gradients of the queries, -/
theorem final_dq : Held2 (a := 2048) (b := 512) (e := .bf16) (W3 m ρ c (Proc.devRef .tc main_v3_0)) fun t j => (Hd (j / 64)).dq t (j % 64) := by
  rw [show W3 m ρ c (Proc.devRef .tc main_v3_0) = (dat1 (V2 m ρ) c).arrAt 7 cfg1.N from W3_arr m ρ c 7]
  exact call_dq (V2 m ρ) c (entry2 m ρ h) (lse2 m ρ h) (grad2 m ρ h)

/-- of the keys, -/
theorem final_dk : Held2 (a := 2048) (b := 512) (e := .bf16) (W3 m ρ c (Proc.devRef .tc main_v3_1)) fun t j => (Hd (j / 64)).dk t (j % 64) := by
  rw [show W3 m ρ c (Proc.devRef .tc main_v3_1) = (dat1 (V2 m ρ) c).arrAt 8 cfg1.N from W3_arr m ρ c 8]
  exact call_dk (V2 m ρ) c (entry2 m ρ h) (lse2 m ρ h) (grad2 m ρ h)

/-- of the values, -/
theorem final_dv : Held2 (a := 2048) (b := 512) (e := .bf16) (W3 m ρ c (Proc.devRef .tc main_v3_2)) fun t j => (Hd (j / 64)).dv t (j % 64) := by
  rw [show W3 m ρ c (Proc.devRef .tc main_v3_2) = (dat1 (V2 m ρ) c).arrAt 9 cfg1.N from W3_arr m ρ c 9]
  exact call_dv (V2 m ρ) c (entry2 m ρ h) (lse2 m ρ h) (grad2 m ρ h)

/-- and the sums of the columns of the logits' gradients. -/
theorem final_dc : Held3 (n := 4) (a := 2) (b := 2048) (e := .f32) (W3 m ρ c (Proc.devRef .tc main_v3_3)) fun p h s => (Hd (2 * p + h)).dc s := by
  rw [show W3 m ρ c (Proc.devRef .tc main_v3_3) = (dat1 (V2 m ρ) c).arrAt 10 cfg1.N from W3_arr m ρ c 10]
  exact call_dc (V2 m ρ) c (entry2 m ρ h) (lse2 m ρ h) (grad2 m ρ h)

end Entry

set_option backward.isDefEq.respectTransparency.types false in
/-- The idealized kernel's run: every array of the host ends as the second call leaves it. -/
theorem run_kernel : θ_run defs (onTc (τ := τ) (main (F := Ideal))) ⟨m, fun _ => 0, ρ⟩ (fun r => ∀ c : Dev nD, ∀ b ∈ Pipeline.ucRefs τ sig,
      r.2.mem ((c : Thread nD τ).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

end Cert.Fox
-- ==== Proof.RefOps.lean ====
/- The reference's operations at one element: a number read as a real one stays real. -/
module

public import Idealize.ShloMosaic.PureOps.Ideal.Laws
public import Idealize.ShloMosaic.Lib.WordCmp
public import proofs.«01_k».proof.Proof.Tiles

@[expose] public section

noncomputable section

namespace Cert.Fox

open Idealize.ShloMosaic

theorem add_at {x y : EReal} {a b : ℝ} (hx : x = a) (hy : y = b) :
    FloatOps.addf (F := Ideal) (φ := .f32) x y = ((a + b : ℝ) : EReal) := by
  rw [hx, hy]; exact (EReal.coe_add a b).symm

theorem sub_at {x y : EReal} {a b : ℝ} (hx : x = a) (hy : y = b) :
    FloatOps.subf (F := Ideal) (φ := .f32) x y = ((a - b : ℝ) : EReal) := by
  rw [hx, hy]; exact (EReal.coe_sub a b).symm

theorem mul_at {x y : EReal} {a b : ℝ} (hx : x = a) (hy : y = b) :
    FloatOps.mulf (F := Ideal) (φ := .f32) x y = ((a * b : ℝ) : EReal) := by
  rw [hx, hy]; exact (EReal.coe_mul a b).symm

theorem neg_at {x : EReal} {a : ℝ} (hx : x = a) :
    FloatOps.hostNegf (F := Ideal) (φ := .f32) x = ((-a : ℝ) : EReal) := by
  rw [hx]; exact (EReal.coe_neg a).symm

theorem div_at {x y : EReal} {a b : ℝ} (hx : x = a) (hy : y = b) (h : b ≠ 0) :
    FloatOps.hostDivf (F := Ideal) (φ := .f32) x y = ((a / b : ℝ) : EReal) := by
  rw [hx, hy]
  change Ideal.div _ _ = _
  unfold Ideal.div
  rw [if_neg (by exact_mod_cast h), ← EReal.coe_inv, ← EReal.coe_mul]
  rfl

/-- The exponential of a number less a real one, where the number may be `⊥`. -/
theorem exp_sub_at {p : Prop} [Decidable p] {x y : EReal} {a b : ℝ} (hx : x = if p then (a : EReal) else ⊥) (hy : y = b) :
    FloatOps.hostUnary (F := Ideal) (φ := .f32) .exp (FloatOps.subf (F := Ideal) (φ := .f32) x y)
      = (((if p then Real.exp (a - b) else 0 : ℝ)) : EReal) := by
  rw [hx, hy]
  split
  · rfl
  · rfl

theorem sum_at {n : ℕ} {z : EReal} {x : Fin n → EReal} {f : ℕ → ℝ} (hz : z = 0) (hx : ∀ k : Fin n, x k = (f k : EReal)) :
    z + ∑ k : Fin n, x k = ((∑ k ∈ Finset.range n, f k : ℝ) : EReal) := by
  rw [hz, zero_add, Finset.sum_range, coe_sum]; exact Finset.sum_congr rfl fun k _ => hx k

theorem dot_at {n : ℕ} {x y : Fin n → EReal} {f g : ℕ → ℝ} (hx : ∀ k : Fin n, x k = (f k : EReal))
    (hy : ∀ k : Fin n, y k = (g k : EReal)) :
    ∑ k : Fin n, x k * y k = ((∑ k ∈ Finset.range n, f k * g k : ℝ) : EReal) := by
  rw [Finset.sum_range, coe_sum]
  exact Finset.sum_congr rfl fun k _ => by rw [hx k, hy k, EReal.coe_mul]

theorem zero_word : FloatOps.ofBits (F := Ideal) .f32 0x00000000#32 = ((0 : ℝ) : EReal) := by
  change Ideal.ofBits .f32 _ = _
  simp [Ideal.ofBits, Ideal.ieee]

theorem one_word : FloatOps.ofBits (F := Ideal) .f32 0x3F800000#32 = ((1 : ℝ) : EReal) := by
  change Ideal.ofBits .f32 _ = _
  simp [Ideal.ofBits, Ideal.ieee]
  rw [← EReal.coe_mul]; norm_num

/-- The largest of finitely many numbers below `⊤`, one of them real, is real. -/
theorem fold_max_real {ι : Type*} (s : Finset ι) (x : ι → EReal) (hi : ∀ i ∈ s, x i < ⊤) {i : ι} (hs : i ∈ s) (h : x i ≠ ⊥) :
    ∃ r : ℝ, s.fold max ⊥ x = r := by
  have lo : s.fold max ⊥ x ≠ ⊥ := fun e => h (le_bot_iff.1 (e ▸ Finset.le_fold_max (c := x i) |>.2 (.inr ⟨i, hs, le_rfl⟩)))
  have hi : s.fold max ⊥ x < ⊤ := Finset.fold_max_lt (c := ⊤) |>.2 ⟨bot_lt_top, hi⟩
  exact ⟨_, (EReal.coe_toReal hi.ne lo).symm⟩

/-- A choice by the order of two rows or columns held as words. -/
theorem choose_le {α : Type} {i j : ℕ} (hi : i < 2048) (hj : j < 2048) (x y : α) :
    Scalar.select (IntOp.cmpi .sge (BitVec.ofNat 32 i) (BitVec.ofNat 32 j)) x y = if j ≤ i then x else y := by
  rw [WordCmp.cmpi_sge_ofNat (by omega) (by omega)]
  unfold Scalar.select
  by_cases h : j ≤ i <;> simp [h]

end Cert.Fox
-- ==== Proof.Ref.lean ====
/- The reference, operation by operation: what each of its arrays holds, as real numbers. -/
module

public import proofs.«01_k».proof.Proof.RefOps
public import proofs.«01_k».proof.Proof.Arrays
public import proofs.«01_k».proof.Proof.Gen.ReferenceIdeal.Read

@[expose] public section

set_option maxRecDepth 16384

noncomputable section

namespace Cert.Fox

open Idealize.ShloMosaic Finset

namespace Head

variable (A : Head) (M : ℕ → ℝ)

/-- The exponential of a logit less its row's largest, zero at the later keys. -/
def e (t s : ℕ) : ℝ := if s ≤ t then Real.exp (A.x t s - M t) else 0

/-- The sum of a row's exponentials. -/
def l (t : ℕ) : ℝ := ∑ s ∈ range 2048, A.e M t s

theorem l_pos {t : ℕ} (h : t < 2048) : 0 < A.l M t :=
  sum_pos' (fun s _ => by unfold e; split <;> positivity) ⟨0, by simp, by unfold e; rw [if_pos (Nat.zero_le _)]; positivity⟩

theorem e_div_l {t : ℕ} (h : t < 2048) (s : ℕ) : A.e M t s / A.l M t = A.P t s := A.P_shift (M t) h s

/-- The gradient of the softmax written with the exponentials is the gradient written with the attention. -/
theorem dS_eq {t : ℕ} (h : t < 2048) (s : ℕ) :
    (if s ≤ t then (A.dP t s / A.l M t + -∑ s' ∈ range 2048, A.dP t s' * (1 / (A.l M t * A.l M t)) * A.e M t s') * A.e M t s else 0)
      = A.dS t s := by
  have hl := (A.l_pos M h).ne'
  split
  · unfold dS
    simp only [← A.e_div_l M h]
    have : ∑ s' ∈ range 2048, A.dP t s' * (1 / (A.l M t * A.l M t)) * A.e M t s'
        = (∑ s' ∈ range 2048, A.e M t s' / A.l M t * A.dP t s') / A.l M t := by
      rw [sum_div]; exact sum_congr rfl fun _ _ => by field_simp
    rw [this]; field_simp; ring
  · exact (A.dS_of_lt (by omega)).symm

end Head

namespace Ref

open Cert.ReferenceIdeal Cert.ReferenceIdeal.Gen Cert.ReferenceIdeal.Read

variable {x0 : (⟨S2048x1536, .bf16⟩ : BufTy).Contents (Elt Ideal)} {x1 : (⟨S8x2048, .f32⟩ : BufTy).Contents (Elt Ideal)}
  {x2 : (⟨S2048x512, .bf16⟩ : BufTy).Contents (Elt Ideal)} {Hd : ℕ → Head}

/-- The reference's arguments hold the heads' numbers. -/
structure Given (x0 : (⟨S2048x1536, .bf16⟩ : BufTy).Contents (Elt Ideal)) (x1 : (⟨S8x2048, .f32⟩ : BufTy).Contents (Elt Ideal))
    (x2 : (⟨S2048x512, .bf16⟩ : BufTy).Contents (Elt Ideal)) (Hd : ℕ → Head) : Prop where
  qkv : ∀ i : S2048x1536.Idx, x0 i = ((packed Hd (i 0).val (i 1).val : ℝ) : EReal)
  gate : ∀ i : S8x2048.Idx, x1 i = (((Hd (i 0).val).c (i 1).val : ℝ) : EReal)
  g : ∀ i : S2048x512.Idx, x2 i = (((Hd ((i 1).val / 64)).g (i 0).val ((i 1).val % 64) : ℝ) : EReal)

variable (G : Given x0 x1 x2 Hd)
include G

theorem v6 (i : S2048x8x64.Idx) : val_main_v6 (F := Ideal) x0 i = (((Hd (i 1).val).q (i 0).val (i 2).val : ℝ) : EReal) := by
  have h0 : (i 0).val < 2048 := (i 0).isLt
  have h1 : (i 1).val < 8 := (i 1).isLt
  have h2 : (i 2).val < 64 := (i 2).isLt
  refine (val_main_v6_apply x0 i).trans ((val_main_v3_apply x0 _).trans ((val_main_v0_apply x0 _).trans ((G.qkv _).trans ?_)))
  change ((packed Hd ((((i 0).val * 8 + (i 1).val) * 64 + (i 2).val) / 512) ((((i 0).val * 8 + (i 1).val) * 64 + (i 2).val) % 512) : ℝ) : EReal) = _
  rw [show (((i 0).val * 8 + (i 1).val) * 64 + (i 2).val) / 512 = (i 0).val by omega,
    show (((i 0).val * 8 + (i 1).val) * 64 + (i 2).val) % 512 = ((i 1).val * 64 + (i 2).val) by omega]
  unfold packed
  rw [if_pos (by omega), show ((i 1).val * 64 + (i 2).val) / 64 = (i 1).val by omega, show ((i 1).val * 64 + (i 2).val) % 64 = (i 2).val by omega]

theorem v7 (i : S2048x8x64.Idx) : val_main_v7 (F := Ideal) x0 i = (((Hd (i 1).val).k (i 0).val (i 2).val : ℝ) : EReal) := by
  have h0 : (i 0).val < 2048 := (i 0).isLt
  have h1 : (i 1).val < 8 := (i 1).isLt
  have h2 : (i 2).val < 64 := (i 2).isLt
  refine (val_main_v7_apply x0 i).trans ((val_main_v4_apply x0 _).trans ((val_main_v1_apply x0 _).trans ((G.qkv _).trans ?_)))
  change ((packed Hd ((((i 0).val * 8 + (i 1).val) * 64 + (i 2).val) / 512) (512 + (((i 0).val * 8 + (i 1).val) * 64 + (i 2).val) % 512) : ℝ) : EReal) = _
  rw [show (((i 0).val * 8 + (i 1).val) * 64 + (i 2).val) / 512 = (i 0).val by omega,
    show 512 + (((i 0).val * 8 + (i 1).val) * 64 + (i 2).val) % 512 = 512 + ((i 1).val * 64 + (i 2).val) by omega]
  unfold packed
  rw [if_neg (by omega), if_pos (by omega), show (512 + ((i 1).val * 64 + (i 2).val) - 512) / 64 = (i 1).val by omega,
    show (512 + ((i 1).val * 64 + (i 2).val) - 512) % 64 = (i 2).val by omega]

theorem v8 (i : S2048x8x64.Idx) : val_main_v8 (F := Ideal) x0 i = (((Hd (i 1).val).v (i 0).val (i 2).val : ℝ) : EReal) := by
  have h0 : (i 0).val < 2048 := (i 0).isLt
  have h1 : (i 1).val < 8 := (i 1).isLt
  have h2 : (i 2).val < 64 := (i 2).isLt
  refine (val_main_v8_apply x0 i).trans ((val_main_v5_apply x0 _).trans ((val_main_v2_apply x0 _).trans ((G.qkv _).trans ?_)))
  change ((packed Hd ((((i 0).val * 8 + (i 1).val) * 64 + (i 2).val) / 512) (1024 + (((i 0).val * 8 + (i 1).val) * 64 + (i 2).val) % 512) : ℝ) : EReal) = _
  rw [show (((i 0).val * 8 + (i 1).val) * 64 + (i 2).val) / 512 = (i 0).val by omega,
    show 1024 + (((i 0).val * 8 + (i 1).val) * 64 + (i 2).val) % 512 = 1024 + ((i 1).val * 64 + (i 2).val) by omega]
  unfold packed
  rw [if_neg (by omega), if_neg (by omega), show (1024 + ((i 1).val * 64 + (i 2).val) - 1024) / 64 = (i 1).val by omega,
    show (1024 + ((i 1).val * 64 + (i 2).val) - 1024) % 64 = (i 2).val by omega]

theorem v59 (i : S2048x8x64.Idx) : val_main_v59 (F := Ideal) x2 i = (((Hd (i 1).val).g (i 0).val (i 2).val : ℝ) : EReal) := by
  have h0 : (i 0).val < 2048 := (i 0).isLt
  have h1 : (i 1).val < 8 := (i 1).isLt
  have h2 : (i 2).val < 64 := (i 2).isLt
  refine (val_main_v59_apply x2 i).trans ((val_main_v58_apply x2 _).trans ((G.g _).trans ?_))
  change (((Hd ((((i 0).val * 8 + (i 1).val) * 64 + (i 2).val) % 512 / 64)).g ((((i 0).val * 8 + (i 1).val) * 64 + (i 2).val) / 512)
    ((((i 0).val * 8 + (i 1).val) * 64 + (i 2).val) % 512 % 64) : ℝ) : EReal) = _
  rw [show (((i 0).val * 8 + (i 1).val) * 64 + (i 2).val) % 512 / 64 = (i 1).val by omega,
    show (((i 0).val * 8 + (i 1).val) * 64 + (i 2).val) / 512 = (i 0).val by omega,
    show (((i 0).val * 8 + (i 1).val) * 64 + (i 2).val) % 512 % 64 = (i 2).val by omega]

theorem v17 (i : S8x2048x2048.Idx) : val_main_v17 (F := Ideal) x0 x1 i = (((Hd (i 0).val).x (i 1).val (i 2).val : ℝ) : EReal) := by
  have d : val_main_v9 (F := Ideal) x0 i = ((∑ k ∈ range 64, (Hd (i 0).val).q (i 1).val k * (Hd (i 0).val).k (i 2).val k : ℝ) : EReal) :=
    (val_main_v9_apply x0 i).trans (dot_at (f := (Hd (i 0).val).q (i 1).val) (g := (Hd (i 0).val).k (i 2).val) (fun k => v6 G _) fun k => v7 G _)
  have c : val_main_v10 (F := Ideal) i = ((1 / 8 : ℝ) : EReal) := (val_main_v10_apply i).trans Fox.eighth
  have e := (val_main_v11_apply x0 i).trans (mul_at d c)
  have r := (val_main_v13_apply x1 i).trans ((val_main_v12_apply x1 _).trans (G.gate _))
  have s := (val_main_v16_apply x1 i).trans ((val_main_v15_apply x1 _).trans (G.gate _))
  refine ((val_main_v17_apply x0 x1 i).trans (sub_at ((val_main_v14_apply x0 x1 i).trans (add_at e r)) s)).trans ?_
  congr 1
  exact add_sub_assoc _ _ _

omit G in
theorem mask {α : Type} (i : S8x2048x2048.Idx) (x y : α) :
    Scalar.select (val_main_v26_1 (F := Ideal) i) x y = if (i 2).val ≤ (i 1).val then x else y :=
  (congrArg (Scalar.select · x y) ((val_main_v26_1_apply i).trans ((val_main_v25_apply _).trans ((val_main_v24_apply _).trans
    (congrArg₂ (IntOp.cmpi .sge) ((val_main_v22_apply _).trans ((val_main_v19_apply _).trans (val_main_v18_apply _)))
      ((val_main_v23_apply _).trans ((val_main_v21_apply _).trans (val_main_v20_apply _)))))))).trans
    (choose_le (i 1).isLt (i 2).isLt x y)

theorem v26 (i : S8x2048x2048.Idx) : val_main_v26_0 (F := Ideal) x0 x1 i
    = if (i 2).val ≤ (i 1).val then (((Hd (i 0).val).x (i 1).val (i 2).val : ℝ) : EReal) else ⊥ := by
  refine (val_main_v26_0_apply x0 x1 i).trans ((mask i _ _).trans ?_)
  have b : val_main_call0_v2 (F := Ideal) i = (⊥ : EReal) := (val_main_call0_v2_apply i).trans neg_inf
  exact congrArg₂ (fun x y : EReal => if (i 2).val ≤ (i 1).val then x else y) (v17 G i) b

/-- The largest logit of each row is a real number. -/
theorem v27 : ∃ M : ℕ → ℕ → ℝ, ∀ i : S8x2048.Idx, val_main_v27 (F := Ideal) x0 x1 i = ((M (i 0).val (i 1).val : ℝ) : EReal) := by
  have key : ∀ i : S8x2048.Idx, ∃ r : ℝ, val_main_v27 (F := Ideal) x0 x1 i = (r : EReal) := fun i => by
    have hR : S8x2048x2048.Reduces [2] S8x2048 := by decide
    have e : val_main_v27 (F := Ideal) x0 x1 i
        = (univ.filter fun j => hR.drop j = i).fold max (⊥ : EReal) (val_main_v26_0 (F := Ideal) x0 x1) := by
      unfold val_main_v27
      refine (Host.reduce_eq_fold (α := EReal) max _ _ _ _ _).trans ?_
      rw [reducesTo_S8x2048x2048_S8x2048_d2.drop_eq_drop hR]
      exact congrArg (fun z : EReal => fold max z _ _) neg_inf
    rw [e]
    refine fold_max_real _ _ (fun j _ => ?_) (i := hR.lift i ⟨0, by decide⟩) (mem_filter.2 ⟨mem_univ _, hR.drop_lift i _⟩) ?_
    · rw [v26 G j]; split
      · exact EReal.coe_lt_top _
      · exact bot_lt_top
    · rw [v26 G]
      have z : ((hR.lift i ⟨0, by decide⟩) 2).val = 0 := rfl
      rw [if_pos (by omega)]; exact EReal.coe_ne_bot _
  choose r hr using key
  exact ⟨fun h t => if c : h < 8 ∧ t < 2048 then r (ix2 ⟨h, c.1⟩ ⟨t, c.2⟩) else 0, fun i => by
    have b : (i 0).val < 8 ∧ (i 1).val < 2048 := ⟨(i 0).isLt, (i 1).isLt⟩
    beta_reduce
    rw [dif_pos b]
    exact (hr i).trans (congrArg (fun j => ((r j : ℝ) : EReal)) (ix2_eta i).symm)⟩

variable {M : ℕ → ℕ → ℝ} (hM : ∀ i : S8x2048.Idx, val_main_v27 (F := Ideal) x0 x1 i = ((M (i 0).val (i 1).val : ℝ) : EReal))
include hM

omit G in
theorem v45 (i : S8x2048x2048.Idx) : val_main_v45 (F := Ideal) x0 x1 i = ((M (i 0).val (i 1).val : ℝ) : EReal) := by
  refine (val_main_v45_apply x0 x1 i).trans ((val_main_v44_apply x0 x1 _).trans ((val_main_v34_apply x0 x1 _).trans ?_))
  have b : val_main_v33 (F := Ideal) (idx_main_v44 (idx_main_v45 i)) = (⊥ : EReal) := (val_main_v33_apply _).trans neg_inf
  exact (congrArg₂ (fun x y : EReal => max x y) b (hM _)).trans (max_eq_right bot_le)

theorem v47 (i : S8x2048x2048.Idx) : val_main_v47 (F := Ideal) x0 x1 i
    = (((Hd (i 0).val).e (M (i 0).val) (i 1).val (i 2).val : ℝ) : EReal) :=
  (val_main_v47_apply x0 x1 i).trans (exp_sub_at (v26 G i) (v45 hM i))

theorem v48 (i : S8x2048.Idx) : val_main_v48 (F := Ideal) x0 x1 i = (((Hd (i 0).val).l (M (i 0).val) (i 1).val : ℝ) : EReal) :=
  (val_main_v48_apply x0 x1 i).trans (sum_at (f := (Hd (i 0).val).e (M (i 0).val) (i 1).val) zero_word fun k => v47 G hM _)

theorem v49 (i : S8x2048x1.Idx) : val_main_v49 (F := Ideal) x0 x1 i = (((Hd (i 0).val).l (M (i 0).val) (i 1).val : ℝ) : EReal) :=
  (val_main_v49_apply x0 x1 i).trans (v48 G hM _)

/-- The attention. -/
theorem v51 (i : S8x2048x2048.Idx) : val_main_v51 (F := Ideal) x0 x1 i = (((Hd (i 0).val).P (i 1).val (i 2).val : ℝ) : EReal) :=
  ((val_main_v51_apply x0 x1 i).trans (div_at (v47 G hM i) ((val_main_v50_apply x0 x1 i).trans (v49 G hM _))
    ((Hd (i 0).val).l_pos _ (i 1).isLt).ne')).trans (congrArg _ ((Hd (i 0).val).e_div_l _ (i 1).isLt _))

theorem v55 (i : S8x64x2048.Idx) : val_main_v55 (F := Ideal) x0 x1 i = (((Hd (i 0).val).o (i 2).val (i 1).val : ℝ) : EReal) :=
  ((val_main_v55_apply x0 x1 i).trans (dot_at (f := fun s => (Hd (i 0).val).v s (i 1).val) (g := (Hd (i 0).val).P (i 2).val)
    (fun k => v8 G _) fun k => v51 G hM _)).trans (congrArg _ (sum_congr rfl fun _ _ => mul_comm _ _))

omit G hM in
theorem unpack (i : S2048x512.Idx) (f : ℕ → ℕ → ℕ → ℝ) :
    ((f (((i 0).val * 512 + (i 1).val) / 64 % 8) (((i 0).val * 512 + (i 1).val) / 512) (((i 0).val * 512 + (i 1).val) % 64) : ℝ) : EReal)
      = ((f ((i 1).val / 64) (i 0).val ((i 1).val % 64) : ℝ) : EReal) := by
  have h1 : (i 1).val < 512 := (i 1).isLt
  rw [show ((i 0).val * 512 + (i 1).val) / 64 % 8 = (i 1).val / 64 by omega, show ((i 0).val * 512 + (i 1).val) / 512 = (i 0).val by omega,
    show ((i 0).val * 512 + (i 1).val) % 64 = (i 1).val % 64 by omega]

/-- The output. -/
theorem v57 (i : S2048x512.Idx) : val_main_v57 (F := Ideal) x0 x1 i
    = (((Hd ((i 1).val / 64)).o (i 0).val ((i 1).val % 64) : ℝ) : EReal) :=
  ((val_main_v57_apply x0 x1 i).trans ((val_main_v56_apply x0 x1 _).trans (v55 G hM _))).trans (unpack i fun h t d => (Hd h).o t d)

omit hM in
theorem v60 (i : S8x64x2048.Idx) : val_main_v60 (F := Ideal) x2 i = (((Hd (i 0).val).g (i 2).val (i 1).val : ℝ) : EReal) :=
  (val_main_v60_apply x2 i).trans (v59 G _)

omit hM in
theorem v61 (i : S8x2048x2048.Idx) : val_main_v61 (F := Ideal) x0 x2 i = (((Hd (i 0).val).dP (i 1).val (i 2).val : ℝ) : EReal) :=
  (val_main_v61_apply x0 x2 i).trans (dot_at (f := (Hd (i 0).val).g (i 1).val) (g := (Hd (i 0).val).v (i 2).val) (fun k => v60 G _) fun k => v8 G _)

theorem v62 (i : S8x64x2048.Idx) : val_main_v62 (F := Ideal) x0 x1 x2 i = (((Hd (i 0).val).dv (i 2).val (i 1).val : ℝ) : EReal) :=
  ((val_main_v62_apply x0 x1 x2 i).trans (dot_at (f := fun t => (Hd (i 0).val).g t (i 1).val) (g := fun t => (Hd (i 0).val).P t (i 2).val)
    (fun k => v60 G _) fun k => v51 G hM _)).trans (congrArg _ (sum_congr rfl fun _ _ => mul_comm _ _))

/-- The gradient of the values. -/
theorem v96 (i : S2048x512.Idx) : val_main_v96 (F := Ideal) x0 x1 x2 i
    = (((Hd ((i 1).val / 64)).dv (i 0).val ((i 1).val % 64) : ℝ) : EReal) :=
  ((val_main_v96_apply x0 x1 x2 i).trans ((val_main_v91_apply x0 x1 x2 i).trans ((val_main_v63_apply x0 x1 x2 _).trans (v62 G hM _)))).trans
    (unpack i fun h t d => (Hd h).dv t d)

theorem v54 (i : S8x2048x1.Idx) : val_main_v54 (F := Ideal) x0 x1 i
    = ((1 / ((Hd (i 0).val).l (M (i 0).val) (i 1).val * (Hd (i 0).val).l (M (i 0).val) (i 1).val) : ℝ) : EReal) := by
  have h := ((Hd (i 0).val).l_pos (M (i 0).val) (t := (i 1).val) (i 1).isLt).ne'
  exact (val_main_v54_apply x0 x1 i).trans (div_at ((val_main_v53_apply i).trans one_word)
    ((val_main_v52_apply x0 x1 i).trans (mul_at (v49 G hM i) (v49 G hM i))) (mul_ne_zero h h))

theorem v66 (i : S8x2048x2048.Idx) : val_main_v66 (F := Ideal) x0 x1 x2 i
    = (((Hd (i 0).val).dP (i 1).val (i 2).val
        * (1 / ((Hd (i 0).val).l (M (i 0).val) (i 1).val * (Hd (i 0).val).l (M (i 0).val) (i 1).val))
        * (Hd (i 0).val).e (M (i 0).val) (i 1).val (i 2).val : ℝ) : EReal) :=
  (val_main_v66_apply x0 x1 x2 i).trans (mul_at ((val_main_v65_apply x0 x1 x2 i).trans (mul_at (v61 G i)
    ((val_main_v64_apply x0 x1 i).trans (v54 G hM _)))) (v47 G hM i))

/-- What the row's sum of products takes off every entry, before the exponential multiplies it. -/
def off (A : Head) (M : ℕ → ℝ) (t : ℕ) : ℝ := -∑ s ∈ range 2048, A.dP t s * (1 / (A.l M t * A.l M t)) * A.e M t s

theorem v72 (i : S8x2048.Idx) : val_main_v72 (F := Ideal) x0 x1 x2 i = ((off (Hd (i 0).val) (M (i 0).val) (i 1).val : ℝ) : EReal) := by
  have h1 : (i 1).val < 2048 := (i 1).isLt
  have s : ∀ i : S8x2048.Idx, val_main_v67 (F := Ideal) x0 x1 x2 i = ((-off (Hd (i 0).val) (M (i 0).val) (i 1).val : ℝ) : EReal) := fun i =>
    ((val_main_v67_apply x0 x1 x2 i).trans (sum_at (f := fun s => (Hd (i 0).val).dP (i 1).val s
      * (1 / ((Hd (i 0).val).l (M (i 0).val) (i 1).val * (Hd (i 0).val).l (M (i 0).val) (i 1).val))
      * (Hd (i 0).val).e (M (i 0).val) (i 1).val s) zero_word fun k => v66 G hM _)).trans (congrArg _ (neg_neg _).symm)
  refine ((val_main_v72_apply x0 x1 x2 i).trans (sum_at (f := fun _ => off (Hd (i 0).val) (M (i 0).val) (i 1).val) zero_word fun k => ?_)).trans ?_
  · refine (val_main_v69_apply x0 x1 x2 _).trans ((neg_at ((val_main_v68_apply x0 x1 x2 _).trans (s _))).trans ?_)
    rw [neg_neg]
    change ((off (Hd ((((i 0).val * 2048 + (i 1).val) * 1 + k.val) / 2048)) (M ((((i 0).val * 2048 + (i 1).val) * 1 + k.val) / 2048))
      ((((i 0).val * 2048 + (i 1).val) * 1 + k.val) % 2048) : ℝ) : EReal) = _
    rw [show (((i 0).val * 2048 + (i 1).val) * 1 + k.val) / 2048 = (i 0).val by omega,
      show (((i 0).val * 2048 + (i 1).val) * 1 + k.val) % 2048 = (i 1).val by omega]
  · rw [sum_range_one]

/-- The gradient of the logits. -/
theorem v76 (i : S8x2048x2048.Idx) : val_main_v76 (F := Ideal) x0 x1 x2 i = (((Hd (i 0).val).dS (i 1).val (i 2).val : ℝ) : EReal) := by
  have a := (val_main_v71_apply x0 x1 x2 i).trans (div_at (v61 G i) ((val_main_v70_apply x0 x1 i).trans (v49 G hM _))
    ((Hd (i 0).val).l_pos _ (i 1).isLt).ne')
  have b := (val_main_v73_apply x0 x1 x2 i).trans (v72 G hM _)
  have m := (val_main_v75_apply x0 x1 x2 i).trans (mul_at ((val_main_v74_apply x0 x1 x2 i).trans (add_at a b)) (v47 G hM i))
  have z : val_main_call1_v0 (F := Ideal) i = ((0 : ℝ) : EReal) := (val_main_call1_v0_apply i).trans zero_word
  refine (val_main_v76_apply x0 x1 x2 i).trans ((mask i _ _).trans
    ((congrArg₂ (fun x y : EReal => if (i 2).val ≤ (i 1).val then x else y) m z).trans ?_))
  rw [← (Hd (i 0).val).dS_eq (M (i 0).val) (i 1).isLt (i 2).val]
  by_cases h : (i 2).val ≤ (i 1).val
  · rw [if_pos h, if_pos h]; rfl
  · rw [if_neg h, if_neg h]

theorem v86 (i : S8x2048x2048.Idx) : val_main_v86 (F := Ideal) x0 x1 x2 i = (((Hd (i 0).val).dS (i 1).val (i 2).val * (1 / 8) : ℝ) : EReal) :=
  (val_main_v86_apply x0 x1 x2 i).trans (mul_at (v76 G hM i) ((val_main_v85_apply i).trans Fox.eighth))

theorem v87 (i : S8x2048x64.Idx) : val_main_v87 (F := Ideal) x0 x1 x2 i = (((Hd (i 0).val).dk (i 1).val (i 2).val : ℝ) : EReal) :=
  ((val_main_v87_apply x0 x1 x2 i).trans (dot_at (f := fun t => (Hd (i 0).val).dS t (i 1).val * (1 / 8)) (g := fun t => (Hd (i 0).val).q t (i 2).val)
    (fun k => v86 G hM _) fun k => v6 G _)).trans (congrArg _ (by unfold Head.dk; rw [sum_mul]; exact sum_congr rfl fun _ _ => by ring))

theorem v89 (i : S8x2048x64.Idx) : val_main_v89 (F := Ideal) x0 x1 x2 i = (((Hd (i 0).val).dq (i 1).val (i 2).val : ℝ) : EReal) :=
  ((val_main_v89_apply x0 x1 x2 i).trans (dot_at (f := fun s => (Hd (i 0).val).dS (i 1).val s * (1 / 8)) (g := fun s => (Hd (i 0).val).k s (i 2).val)
    (fun k => v86 G hM _) fun k => v7 G _)).trans (congrArg _ (by unfold Head.dq; rw [sum_mul]; exact sum_congr rfl fun _ _ => by ring))

/-- The gradient of the queries. -/
theorem v94 (i : S2048x512.Idx) : val_main_v94 (F := Ideal) x0 x1 x2 i
    = (((Hd ((i 1).val / 64)).dq (i 0).val ((i 1).val % 64) : ℝ) : EReal) :=
  ((val_main_v94_apply x0 x1 x2 i).trans ((val_main_v93_apply x0 x1 x2 i).trans ((val_main_v90_apply x0 x1 x2 _).trans (v89 G hM _)))).trans
    (unpack i fun h t d => (Hd h).dq t d)

/-- The gradient of the keys. -/
theorem v95 (i : S2048x512.Idx) : val_main_v95 (F := Ideal) x0 x1 x2 i
    = (((Hd ((i 1).val / 64)).dk (i 0).val ((i 1).val % 64) : ℝ) : EReal) :=
  ((val_main_v95_apply x0 x1 x2 i).trans ((val_main_v92_apply x0 x1 x2 i).trans ((val_main_v88_apply x0 x1 x2 _).trans (v87 G hM _)))).trans
    (unpack i fun h t d => (Hd h).dk t d)

theorem v80 (i : S8x2048.Idx) : val_main_v80 (F := Ideal) x0 x1 x2 i = ((-(Hd (i 0).val).dc (i 1).val : ℝ) : EReal) := by
  have h1 : (i 1).val < 2048 := (i 1).isLt
  have s : ∀ i : S8x2048.Idx, val_main_v78 (F := Ideal) x0 x1 x2 i = ((-(Hd (i 0).val).dc (i 1).val : ℝ) : EReal) := fun i =>
    ((val_main_v78_apply x0 x1 x2 i).trans (sum_at (f := fun t => -(Hd (i 0).val).dS t (i 1).val) zero_word fun k =>
      (val_main_v77_apply x0 x1 x2 _).trans (neg_at (v76 G hM _)))).trans (congrArg _ (sum_neg_distrib _))
  refine ((val_main_v80_apply x0 x1 x2 i).trans (sum_at (f := fun _ => -(Hd (i 0).val).dc (i 1).val) zero_word fun k => ?_)).trans ?_
  · refine (val_main_v79_apply x0 x1 x2 _).trans ((s _).trans ?_)
    change ((-(Hd ((((i 0).val * 1 + k.val) * 2048 + (i 1).val) / 2048)).dc ((((i 0).val * 1 + k.val) * 2048 + (i 1).val) % 2048) : ℝ) : EReal) = _
    rw [show (((i 0).val * 1 + k.val) * 2048 + (i 1).val) / 2048 = (i 0).val by omega,
      show (((i 0).val * 1 + k.val) * 2048 + (i 1).val) % 2048 = (i 1).val by omega]
  · rw [sum_range_one]

theorem v83 (i : S8x2048.Idx) : val_main_v83 (F := Ideal) x0 x1 x2 i = ((0 : ℝ) : EReal) := by
  have s : ∀ i : S8x2048.Idx, val_main_v81 (F := Ideal) x0 x1 x2 i = ((0 : ℝ) : EReal) := fun i =>
    ((val_main_v81_apply x0 x1 x2 i).trans (sum_at (f := fun s => (Hd (i 0).val).dS (i 1).val s) zero_word fun k =>
      v76 G hM _)).trans (congrArg _ ((Hd (i 0).val).sum_dS (i 1).isLt))
  refine ((val_main_v83_apply x0 x1 x2 i).trans (sum_at (f := fun _ => 0) zero_word fun k =>
    (val_main_v82_apply x0 x1 x2 _).trans (s _))).trans ?_
  rw [sum_range_one]

/-- The gradient of the forget gates' running sums, with its sign changed. -/
theorem v98 (i : S4x2x2048.Idx) : val_main_v98 (F := Ideal) x0 x1 x2 i
    = (((Hd (2 * (i 0).val + (i 1).val)).dc (i 2).val : ℝ) : EReal) := by
  have h2 : (i 2).val < 2048 := (i 2).isLt
  refine ((val_main_v98_apply x0 x1 x2 i).trans (neg_at ((val_main_v97_apply x0 x1 x2 i).trans ((val_main_v84_apply x0 x1 x2 _).trans
    (add_at (v80 G hM _) (v83 G hM _)))))).trans ?_
  rw [add_zero, neg_neg]
  change (((Hd ((((i 0).val * 2 + (i 1).val) * 2048 + (i 2).val) / 2048)).dc ((((i 0).val * 2 + (i 1).val) * 2048 + (i 2).val) % 2048) : ℝ) : EReal) = _
  rw [show (((i 0).val * 2 + (i 1).val) * 2048 + (i 2).val) / 2048 = 2 * (i 0).val + (i 1).val by omega,
    show (((i 0).val * 2 + (i 1).val) * 2048 + (i 2).val) % 2048 = (i 2).val by omega]

end Ref

end Cert.Fox
-- ==== Proof.Value.lean ====
/- The idealized kernel and the idealized reference agree on finite arguments: on the output and on the four gradients. -/
module

public import proofs.«01_k».proof.Defs
public import proofs.«01_k».proof.Proof.Run
public import proofs.«01_k».proof.Proof.Ref

@[expose] public section

set_option maxRecDepth 16384

noncomputable section

namespace Cert.Fox

open Idealize.ShloMosaic Idealize.SL.Sem

/-- The side conditions of the precondition. -/
theorem finite_facts : Cert.Pre_finite.Facts := ⟨by decide, by decide, by decide, by decide⟩

theorem inf_word : Ideal.ofBits .f32 0x7F800000#32 = ⊤ := by simp [Ideal.ofBits, Ideal.ieee]

/-- A number whose absolute value is below infinity is real. -/
theorem real_of_finite {x y : EReal} (hy : y = ⊤) (h : Ideal.cmp .olt (max x (-x)) y = 1#1) : x = (x.toReal : EReal) := by
  have lt : max x (-x) < ⊤ := by
    by_contra c
    rw [hy] at h
    simp [Ideal.cmp, c] at h
  have h1 := (max_lt_iff.1 lt).1
  have h2 := (max_lt_iff.1 lt).2
  refine (EReal.coe_toReal h1.ne fun e => ?_).symm
  rw [e] at h2; exact absurd h2 (by simp)

/-- The number a matrix holds at row `i` and column `j`. -/
def entry {a b : ℕ} (x : (⟨2, ![a, b]⟩ : Shape).Idx → EReal) (i j : ℕ) : ℝ :=
  if c : i < a ∧ j < b then (x (ix2 ⟨i, c.1⟩ ⟨j, c.2⟩)).toReal else 0

theorem entry_eq {a b : ℕ} {x : (⟨2, ![a, b]⟩ : Shape).Idx → EReal} (h : ∀ i, x i = ((x i).toReal : EReal)) (i : Fin a) (j : Fin b) :
    x (ix2 i j) = (entry x i j : EReal) := by
  rw [h]; unfold entry; rw [dif_pos ⟨i.isLt, j.isLt⟩]

/-- The eight heads of the arguments' numbers. -/
def heads (x0 : (⟨2, ![2048, 1536]⟩ : Shape).Idx → EReal) (x1 : (⟨2, ![8, 2048]⟩ : Shape).Idx → EReal)
    (x2 : (⟨2, ![2048, 512]⟩ : Shape).Idx → EReal) (h : ℕ) : Head where
  q t d := entry x0 t (64 * h + d)
  k t d := entry x0 t (512 + (64 * h + d))
  v t d := entry x0 t (1024 + (64 * h + d))
  g t d := entry x2 t (64 * h + d)
  c t := entry x1 h t

theorem packed_heads {x0 x1 x2} {t j : ℕ} : packed (heads x0 x1 x2) t j = entry x0 t j := by
  unfold packed heads
  split
  · exact congrArg (entry x0 t) (by omega)
  · split
    · exact congrArg (entry x0 t) (by omega)
    · exact congrArg (entry x0 t) (by omega)

section

open Cert.KernelIdeal

variable (m : (ℓ : Loc nD τ sig) → Buf (Elt Ideal) ℓ) (c : Dev nD)

/-- The heads of device `c`'s arguments. -/
def headsOf : ℕ → Head :=
  heads (m ((c.tc : Thread nD τ).loc main_arg0)) (m ((c.tc : Thread nD τ).loc main_arg1)) (m ((c.tc : Thread nD τ).loc main_arg2))

/-- Finite arguments hold the heads' numbers. -/
theorem args_of_finite (h : Cert.Pre_KernelIdeal_finite (hPre_finite := finite_facts) m) : Args m c (headsOf m c) := by
  obtain ⟨h0, h1, h2⟩ := h c
  have r0 : ∀ i : (⟨2, ![2048, 1536]⟩ : Shape).Idx, (m ((c.tc : Thread nD τ).loc main_arg0) i : EReal)
      = ((EReal.toReal (m ((c.tc : Thread nD τ).loc main_arg0) i) : ℝ) : EReal) := fun i =>
    real_of_finite inf_word (congrFun h0 i)
  have r1 : ∀ i : (⟨2, ![8, 2048]⟩ : Shape).Idx, (m ((c.tc : Thread nD τ).loc main_arg1) i : EReal)
      = ((EReal.toReal (m ((c.tc : Thread nD τ).loc main_arg1) i) : ℝ) : EReal) := fun i =>
    real_of_finite inf_word (congrFun h1 i)
  have r2 : ∀ i : (⟨2, ![2048, 512]⟩ : Shape).Idx, (m ((c.tc : Thread nD τ).loc main_arg2) i : EReal)
      = ((EReal.toReal (m ((c.tc : Thread nD τ).loc main_arg2) i) : ℝ) : EReal) := fun i =>
    real_of_finite inf_word (congrFun h2 i)
  exact ⟨fun i j => (entry_eq r0 i j).trans (congrArg _ packed_heads.symm), fun i j => entry_eq r1 i j, fun i j =>
    (entry_eq r2 i j).trans (congrArg (fun n => ((entry (m ((c.tc : Thread nD τ).loc main_arg2)) i n : ℝ) : EReal))
      (show (j : ℕ) = 64 * (j / 64) + j % 64 by omega))⟩

/-- The reference's arguments, being the kernel's, hold the same numbers. -/
theorem given_of_args {Hd : ℕ → Head} (h : Args m c Hd) : Ref.Given (m ((c.tc : Thread nD τ).loc main_arg0))
    (m ((c.tc : Thread nD τ).loc main_arg1)) (m ((c.tc : Thread nD τ).loc main_arg2)) Hd where
  qkv i := (congrArg (m ((c.tc : Thread nD τ).loc main_arg0)) (ix2_eta i).symm).trans (h.qkv (i 0) (i 1))
  gate i := (congrArg (m ((c.tc : Thread nD τ).loc main_arg1)) (ix2_eta i).symm).trans (h.gate (i 0) (i 1))
  g i := (congrArg (m ((c.tc : Thread nD τ).loc main_arg2)) (ix2_eta i).symm).trans (h.g (i 0) (i 1))

/-- Two matrices that hold the same numbers are equal. -/
theorem matrix_eq {a b : ℕ} {e : EltTy} [Holds e] {x y : Vec Ideal ⟨2, ![a, b]⟩ e} {f : ℕ → ℕ → ℝ} (hx : Held2 x f)
    (hy : ∀ i : (⟨2, ![a, b]⟩ : Shape).Idx, y i = Holds.at' (f (i 0).val (i 1).val)) : y = x :=
  funext fun i => (hy i).trans ((congrArg x (ix2_eta i).symm).trans (hx (i 0) (i 1))).symm

/-- Two boxes that hold the same numbers are equal. -/
theorem box_eq {n a b : ℕ} {e : EltTy} [Holds e] {x y : Vec Ideal ⟨3, ![n, a, b]⟩ e} {f : ℕ → ℕ → ℕ → ℝ} (hx : Held3 x f)
    (hy : ∀ i : (⟨3, ![n, a, b]⟩ : Shape).Idx, y i = Holds.at' (f (i 0).val (i 1).val (i 2).val)) : y = x :=
  funext fun i => (hy i).trans ((congrArg x (ix3_eta i).symm).trans (hx (i 0) (i 1) (i 2))).symm

end

open Cert.KernelIdeal Cert.KernelIdeal.Gen in
/-- On finite arguments the kernel's output and its gradients of the queries, of the keys, of the values and of the gates' sums are
the reference's. -/
theorem algebraic : Cert.algebraic_KernelIdeal_ReferenceIdeal_pre_finite (hPre_finite := finite_facts) := by
  intro m g m' g' hp he
  refine ⟨fun c => W3 m g c (Proc.devRef .tc main_v2_0), fun c => W3 m g c (Proc.devRef .tc main_v3_0), fun c => W3 m g c (Proc.devRef .tc main_v3_1),
    fun c => W3 m g c (Proc.devRef .tc main_v3_2), fun c => W3 m g c (Proc.devRef .tc main_v3_3), ?_, ?_⟩
  · exact (θ_run (defs (F := Ideal)) _ _).mono (fun r h c =>
      ⟨h c _ (mem_uc main_v2_0 (by decide)), h c _ (mem_uc main_v3_0 (by decide)), h c _ (mem_uc main_v3_1 (by decide)),
        h c _ (mem_uc main_v3_2 (by decide)), h c _ (mem_uc main_v3_3 (by decide)),
        (h c _ (mem_uc main_arg0 (by decide))).trans (W3_main_arg0 m g c), (h c _ (mem_uc main_arg1 (by decide))).trans (W3_main_arg1 m g c),
        (h c _ (mem_uc main_arg2 (by decide))).trans (W3_main_arg2 m g c)⟩) (run_kernel m g)
  · refine (θ_run (Cert.ReferenceIdeal.defs (F := Ideal)) _ _).mono (fun r h c => ?_) (Cert.ReferenceIdeal.Value.run (F := Ideal) m' g')
    obtain ⟨h0, h1, h2, h3, h4, ha⟩ := h c
    have A := args_of_finite m c hp
    have G := given_of_args m c A
    obtain ⟨e0, e1, e2⟩ := he c
    rw [← e0, ← e1, ← e2] at G
    obtain ⟨M, hM⟩ := Ref.v27 G
    refine ⟨h0.trans ((Cert.ReferenceIdeal.Read.val_main_v57_eq m' c).trans ?_), h1.trans ((Cert.ReferenceIdeal.Read.val_main_v94_eq m' c).trans ?_),
      h2.trans ((Cert.ReferenceIdeal.Read.val_main_v95_eq m' c).trans ?_), h3.trans ((Cert.ReferenceIdeal.Read.val_main_v96_eq m' c).trans ?_),
      h4.trans ((Cert.ReferenceIdeal.Read.val_main_v98_eq m' c).trans ?_), ha⟩
    · exact matrix_eq (a := 2048) (b := 512) (e := .f32) (final_o m g A) (Ref.v57 G hM)
    · exact matrix_eq (a := 2048) (b := 512) (e := .bf16) (final_dq m g A) (Ref.v94 G hM)
    · exact matrix_eq (a := 2048) (b := 512) (e := .bf16) (final_dk m g A) (Ref.v95 G hM)
    · exact matrix_eq (a := 2048) (b := 512) (e := .bf16) (final_dv m g A) (Ref.v96 G hM)
    · exact box_eq (n := 4) (a := 2) (b := 2048) (e := .f32) (final_dc m g A) (Ref.v98 G hM)

end Cert.Fox
-- ==== Proof.Net.lean ====
/- The half-step FFN of a layer in real numbers: what it computes, and its gradients. -/
module

public import Mathlib.Analysis.SpecialFunctions.Exp
public import Mathlib.Analysis.Real.Sqrt

@[expose] public section

noncomputable section

namespace Cert.Net

open Finset

/-- The number under the root that keeps it from zero: `10⁻⁶` rounded to 32 bits. -/
def eps : ℝ := 8796093 / 8796093022208

theorem eps_pos : 0 < eps := by unfold eps; norm_num

/-- The logistic function. -/
def sg (z : ℝ) : ℝ := (1 + Real.exp (-z))⁻¹

/-- The reciprocal root mean square of row `t`. -/
def rms (x : ℕ → ℕ → ℝ) (t : ℕ) : ℝ := (Real.sqrt ((∑ d ∈ range 1024, x t d * x t d) / 1024 + eps))⁻¹

theorem rms_arg_pos (x : ℕ → ℕ → ℝ) (t : ℕ) : 0 < (∑ d ∈ range 1024, x t d * x t d) / 1024 + eps :=
  add_pos_of_nonneg_of_pos (div_nonneg (sum_nonneg fun d _ => mul_self_nonneg _) (by norm_num)) eps_pos

/-- The arguments of the half-step FFN: the tokens `x`, the gain `g`, the three weights (a row per hidden unit) and the gradient `c` of the
result. -/
structure Ffn where
  x : ℕ → ℕ → ℝ
  g : ℕ → ℝ
  wg : ℕ → ℕ → ℝ
  wu : ℕ → ℕ → ℝ
  wd : ℕ → ℕ → ℝ
  c : ℕ → ℕ → ℝ

namespace Ffn

variable (N : Ffn)

/-- The normalized tokens, with the gain. -/
def h (t d : ℕ) : ℝ := N.x t d * rms N.x t * N.g d

/-- The gates before the nonlinearity. -/
def G (t f : ℕ) : ℝ := ∑ d ∈ range 1024, N.h t d * N.wg f d

/-- The values that the gates scale. -/
def U (t f : ℕ) : ℝ := ∑ d ∈ range 1024, N.h t d * N.wu f d

/-- The hidden layer. -/
def A (t f : ℕ) : ℝ := N.G t f * sg (N.G t f) * N.U t f

/-- The result. -/
def y (t d : ℕ) : ℝ := N.x t d + 1 / 2 * ∑ f ∈ range 2816, N.A t f * N.wd f d

/-- The gradient of the hidden layer. -/
def dA (t f : ℕ) : ℝ := 1 / 2 * ∑ d ∈ range 1024, N.c t d * N.wd f d

/-- The gradient of the gates. -/
def dG (t f : ℕ) : ℝ := N.dA t f * N.U t f * (sg (N.G t f) * (1 + N.G t f * (1 - sg (N.G t f))))

/-- The gradient of the values that the gates scale. -/
def dU (t f : ℕ) : ℝ := N.dA t f * (N.G t f * sg (N.G t f))

/-- The gradient of the third weight, -/
def dwd (f d : ℕ) : ℝ := 1 / 2 * ∑ t ∈ range 2048, N.A t f * N.c t d

/-- of the first, -/
def dwg (f d : ℕ) : ℝ := ∑ t ∈ range 2048, N.dG t f * N.h t d

/-- and of the second. -/
def dwu (f d : ℕ) : ℝ := ∑ t ∈ range 2048, N.dU t f * N.h t d

/-- The gradient of the normalized tokens. -/
def dh (t d : ℕ) : ℝ := (∑ f ∈ range 2816, N.dG t f * N.wg f d) + ∑ f ∈ range 2816, N.dU t f * N.wu f d

/-- The normalized tokens without the gain. -/
def xh (t d : ℕ) : ℝ := N.x t d * rms N.x t

/-- The gradient of the tokens. -/
def dx (t d : ℕ) : ℝ := N.c t d + rms N.x t * (N.dh t d * N.g d - N.xh t d * ((∑ e ∈ range 1024, N.dh t e * N.g e * N.xh t e) / 1024))

/-- The gradient of the gain. -/
def dg (d : ℕ) : ℝ := ∑ t ∈ range 2048, N.dh t d * N.xh t d

end Ffn

end Cert.Net
-- ==== Proof.NetOps.lean ====
/- Further vector operations read on arrays of reals: those of the FFN's calls. -/
module

public import proofs.«01_k».proof.Proof.Blocks
public import proofs.«01_k».proof.Proof.Net

@[expose] public section

set_option maxRecDepth 16384

noncomputable section

namespace Cert.Net

open Idealize.ShloMosaic Cert.Fox

variable {a b n m k : ℕ} {φ ψ : FTy}

theorem half : Ideal.ofBits .f32 0x3F000000#32 = ((1 / 2 : ℝ) : EReal) := by
  simp [Ideal.ofBits, Ideal.ieee]
  rw [← EReal.coe_mul]; norm_num

theorem one : Ideal.ofBits .f32 0x3F800000#32 = ((1 : ℝ) : EReal) := by
  simp [Ideal.ofBits, Ideal.ieee]
  rw [← EReal.coe_mul]; norm_num

theorem width : Ideal.ofBits .f32 0x44800000#32 = ((1024 : ℝ) : EReal) := by
  simp [Ideal.ofBits, Ideal.ieee]
  rw [← EReal.coe_mul]; norm_num

theorem small : Ideal.ofBits .f32 0x358637BD#32 = ((eps : ℝ) : EReal) := by
  simp [Ideal.ofBits, Ideal.ieee]
  rw [← EReal.coe_mul]; unfold eps; norm_num

theorem splat {w : BitVec 32} {r : ℝ} (h : Ideal.ofBits .f32 w = (r : EReal)) :
    Real2 (broadcast ⟨2, ![a, b]⟩ (Scalar.ofBits .f32 w) : FVec Ideal ⟨2, ![a, b]⟩ .f32) (fun _ _ => r) := fun i j => by
  pointwise; exact h

theorem extend {x : FVec Ideal ⟨2, ![a, b]⟩ φ} {f : ℕ → ℕ → ℝ} (hx : Real2 x f) (h : φ.bits < ψ.bits) :
    Real2 (extf ψ x h : FVec Ideal ⟨2, ![a, b]⟩ ψ) f := fun i j => by
  pointwise; exact hx i j

theorem recip_root {x : FVec Ideal ⟨2, ![a, b]⟩ φ} {f : ℕ → ℕ → ℝ} (hx : Real2 x f) (h : ∀ i < a, ∀ j < b, 0 < f i j) :
    Real2 (rsqrt x) (fun i j => (Real.sqrt (f i j))⁻¹) := fun i j => by
  have hp := h i i.isLt j j.isLt
  pointwise; rw [hx i j]
  simp [not_lt.2 hp.le, hp.ne']

theorem sigmoid {x : FVec Ideal ⟨2, ![a, b]⟩ φ} {f : ℕ → ℕ → ℝ} (hx : Real2 x f) :
    Real2 (logistic x) (fun i j => sg (f i j)) := fun i j => by
  pointwise; rw [hx i j]
  exact Ideal.logistic_coe _

theorem column {x : FVec Ideal ⟨1, ![n]⟩ φ} {f : ℕ → ℝ} (hx : Real1 x f) (h) :
    Real2 (shapeCast ⟨2, ![n, 1]⟩ x h) (fun i _ => f i) := fun i j => by
  have e : shapeCast ⟨2, ![n, 1]⟩ x h (ix2 i j) = x (ix1 i) := by
    unfold shapeCast
    refine congrArg x (Shape.reshapeEquiv_eq_of_rowMajor h ?_)
    rw [rowMajor_val1, rowMajor_val2 _ _ rfl]
    simp
  rw [e]; exact hx i

theorem unbox {x : FVec Ideal ⟨3, ![1, a, b]⟩ φ} {f : ℕ → ℕ → ℕ → ℝ} (hx : Real3 x f) (h) :
    Real2 (shapeCast ⟨2, ![a, b]⟩ x h) (fun i j => f 0 i j) := fun i j => by
  have e : shapeCast ⟨2, ![a, b]⟩ x h (ix2 i j) = x (ix3 0 i j) := by
    unfold shapeCast
    refine congrArg x (Shape.reshapeEquiv_eq_of_rowMajor h ?_)
    rw [rowMajor_val3 _ _ _ rfl rfl, rowMajor_val2 _ _ rfl]
    simp
  rw [e]; exact hx 0 i j

theorem box {x : FVec Ideal ⟨2, ![a, b]⟩ φ} {f : ℕ → ℕ → ℝ} (hx : Real2 x f) (h) :
    Real3 (shapeCast ⟨3, ![1, a, b]⟩ x h) (fun _ i j => f i j) := fun l i j => by
  have e : shapeCast ⟨3, ![1, a, b]⟩ x h (ix3 l i j) = x (ix2 i j) := by
    unfold shapeCast
    refine congrArg x (Shape.reshapeEquiv_eq_of_rowMajor h ?_)
    rw [rowMajor_val3 _ _ _ rfl rfl, rowMajor_val2 _ _ rfl]
    simp
  rw [e]; exact hx i j

/-- The mean of the squares of each row, its root and its reciprocal. -/
theorem norm {x : FVec Ideal ⟨2, ![a, 1024]⟩ .f32} {f : ℕ → ℕ → ℝ} (hx : Real2 x f) {h h1 h2 s0} :
    Real2 (rsqrt (addf (divf (shapeCast ⟨2, ![a, 1]⟩ (multiReduction .add [1] ⟨1, ![a]⟩ (mulf x x) 0x00000000#32 h h1 h2) s0)
        (broadcast ⟨2, ![a, 1]⟩ (Scalar.ofBits .f32 0x44800000#32))) (broadcast ⟨2, ![a, 1]⟩ (Scalar.ofBits .f32 0x358637BD#32))) :
      FVec Ideal ⟨2, ![a, 1]⟩ .f32) (fun i _ => rms f i) :=
  recip_root ((((column ((hx.mulf hx).rowSum h h1 h2) s0).divf (splat width) fun _ _ _ _ => by norm_num)).addf (splat small))
    fun i _ _ _ => rms_arg_pos f i

/-- A matrix product from zero, -/
theorem nn {x : FVec Ideal ⟨2, ![a, k]⟩ φ} {y : FVec Ideal ⟨2, ![k, n]⟩ φ} {f g : ℕ → ℕ → ℝ} (hx : Real2 x f) (hy : Real2 y g) {wf} :
    Real2 (matmul ⟨[1], [0], [0], [1], [], [], wf⟩ none x y (constant (F := Ideal) ⟨2, ![a, n]⟩ .f32 0x00000000#32))
      fun i j => ∑ d ∈ Finset.range k, f i d * g d j :=
  (hx.matmul_nn hy Real2.zero wf).congr fun _ _ _ _ => zero_add _

/-- one with the second transposed, -/
theorem nt {x : FVec Ideal ⟨2, ![a, k]⟩ φ} {y : FVec Ideal ⟨2, ![n, k]⟩ φ} {f g : ℕ → ℕ → ℝ} (hx : Real2 x f) (hy : Real2 y g) {wf} :
    Real2 (matmul ⟨[1], [1], [0], [0], [], [], wf⟩ none x y (constant (F := Ideal) ⟨2, ![a, n]⟩ .f32 0x00000000#32))
      fun i j => ∑ d ∈ Finset.range k, f i d * g j d :=
  (hx.matmul_nt hy Real2.zero wf).congr fun _ _ _ _ => zero_add _

/-- and one with the first transposed. -/
theorem tn {x : FVec Ideal ⟨2, ![k, a]⟩ φ} {y : FVec Ideal ⟨2, ![k, n]⟩ φ} {f g : ℕ → ℕ → ℝ} (hx : Real2 x f) (hy : Real2 y g) {wf} :
    Real2 (matmul ⟨[0], [0], [1], [1], [], [], wf⟩ none x y (constant (F := Ideal) ⟨2, ![a, n]⟩ .f32 0x00000000#32))
      fun i j => ∑ d ∈ Finset.range k, f d i * g d j :=
  (hx.matmul_tn hy Real2.zero wf).congr fun _ _ _ _ => zero_add _

/-- Multiplication by the number one. -/
theorem once {x : FVec Ideal ⟨2, ![a, b]⟩ .f32} {f : ℕ → ℕ → ℝ} (hx : Real2 x f) :
    Real2 (mulf (broadcast ⟨2, ![a, b]⟩ (Scalar.ofBits .f32 0x3F800000#32)) x) f :=
  ((splat one).mulf hx).congr fun _ _ _ _ => one_mul _

/-- The columns before `p` of a matrix that a list of stores filled hold the numbers `f`. -/
def Cols {e : EltTy} [Holds e] (L : List (View.Piece (Elt Ideal) ⟨2, ![a, b]⟩ e)) (p : ℕ) (f : ℕ → ℕ → ℝ) : Prop :=
  ∀ (i : Fin a) (j : Fin b), (j : ℕ) < p → View.canon (Val := Elt Ideal) L (ix2 i j) = Holds.at' (f i j)

theorem Cols.nil {e : EltTy} [Holds e] {f : ℕ → ℕ → ℝ} : Cols ([] : List (View.Piece (Elt Ideal) ⟨2, ![a, b]⟩ e)) 0 f :=
  fun _ _ h => absurd h (by omega)

/-- One more store, of the next columns. -/
theorem Cols.cons {e : EltTy} [Holds e] {L : List (View.Piece (Elt Ideal) ⟨2, ![a, b]⟩ e)} {p : ℕ} {f : ℕ → ℕ → ℝ} (hL : Cols L p f) {inb}
    {w : Vec Ideal ⟨2, ![a, m]⟩ e} (hw : Held2 w fun i j => f i (p + j)) :
    Cols ((⟨Rect.unit ![0, p] ![a, m] inb, w⟩ : View.Piece (Elt Ideal) ⟨2, ![a, b]⟩ e) :: L) (p + m) f := fun i j hj => by
  rw [canon_cons2 hw]
  split
  · rename_i h
    rw [show (i : ℕ) - 0 = i by omega, show p + ((j : ℕ) - p) = j by omega]
  · rename_i h
    exact hL i j (by have := i.isLt; omega)

theorem Cols.done {e : EltTy} [Holds e] {L : List (View.Piece (Elt Ideal) ⟨2, ![a, b]⟩ e)} {p : ℕ} {f : ℕ → ℕ → ℝ} (hL : Cols L p f)
    (h : b ≤ p) : Held2 (View.canon (Val := Elt Ideal) L : Vec Ideal ⟨2, ![a, b]⟩ e) f := fun i j => hL i j (by have := j.isLt; omega)

/-- One store of a whole box. -/
theorem whole3 {e : EltTy} [Holds e] {inb} {w : Vec Ideal ⟨3, ![n, a, b]⟩ e} {f : ℕ → ℕ → ℕ → ℝ} (hw : Held3 w f) :
    Held3 (View.canon (Val := Elt Ideal) [(⟨Rect.unit ![0, 0, 0] ![n, a, b] inb, w⟩ : View.Piece (Elt Ideal) ⟨3, ![n, a, b]⟩ e)] :
      Vec Ideal ⟨3, ![n, a, b]⟩ e) f := fun l i j => by
  have := l.isLt; have := i.isLt; have := j.isLt
  rw [canon_cons3 hw, if_pos (by omega)]
  simp

/-- The same, of a matrix seen as a box. -/
theorem boxed {inb h} {w : FVec Ideal ⟨2, ![a, b]⟩ .bf16} {f : ℕ → ℕ → ℝ} (hw : Real2 w f) :
    Held3 (View.canon (Val := Elt Ideal) [(⟨Rect.unit ![0, 0, 0] ![1, a, b] inb, shapeCast ⟨3, ![1, a, b]⟩ w h⟩ :
      View.Piece (Elt Ideal) ⟨3, ![1, a, b]⟩ .bf16)] : Vec Ideal ⟨3, ![1, a, b]⟩ .bf16) fun _ i j => f i j :=
  whole3 fun l i j => box hw h l i j

/-- One store of a whole matrix. -/
theorem whole2 {e : EltTy} [Holds e] {inb} {w : Vec Ideal ⟨2, ![a, b]⟩ e} {f : ℕ → ℕ → ℝ} (hw : Held2 w f) :
    Held2 (View.canon (Val := Elt Ideal) [(⟨Rect.unit ![0, 0] ![a, b] inb, w⟩ : View.Piece (Elt Ideal) ⟨2, ![a, b]⟩ e)] :
      Vec Ideal ⟨2, ![a, b]⟩ e) f := fun i j => by
  have := i.isLt; have := j.isLt
  rw [canon_cons2 hw, if_pos (by omega)]
  simp

end Cert.Net
-- ==== Proof.NetBlocks.lean ====
/- What the calls before the last leave of one block: the norm, the projections and their gradients. -/
module

public import proofs.«01_k».proof.Proof.NetOps
public import proofs.«01_k».proof.Proof.Gen.FfnIdeal.Frame

@[expose] public section

set_option maxRecDepth 16384

noncomputable section

namespace Cert.Net

open Idealize.ShloMosaic Cert.Fox Cert.FfnIdeal Cert.FfnIdeal.Gen Finset

variable {a b n m k : ℕ}

theorem real_f32 {x : Vec Ideal ⟨2, ![a, b]⟩ .f32} {f : ℕ → ℕ → ℝ} (h : Held2 x f) : Real2 (φ := .f32) x f := fun i j => h i j

theorem real_bf16 {x : Vec Ideal ⟨2, ![a, b]⟩ .bf16} {f : ℕ → ℕ → ℝ} (h : Held2 x f) : Real2 (φ := .bf16) x f := fun i j => h i j

theorem held_f32 {x : FVec Ideal ⟨2, ![a, b]⟩ .f32} {f : ℕ → ℕ → ℝ} (h : Real2 x f) : Held2 (e := .f32) x f := fun i j => h i j

theorem held_bf16 {x : FVec Ideal ⟨2, ![a, b]⟩ .bf16} {f : ℕ → ℕ → ℝ} (h : Real2 x f) : Held2 (e := .bf16) x f := fun i j => h i j

/-- A load of a whole matrix. -/
theorem all_f32 {x : Vec Ideal ⟨2, ![a, b]⟩ .f32} {f : ℕ → ℕ → ℝ} (h : Held2 x f) {inb} :
    Real2 (φ := .f32) (View.ld (Val := Elt Ideal) (S := ⟨2, ![a, b]⟩) x (Rect.unit ![0, 0] ![a, b] inb)) f :=
  real_f32 (h.ld.congr fun i _ j _ => by rw [Nat.zero_add, Nat.zero_add])

theorem all_bf16 {x : Vec Ideal ⟨2, ![a, b]⟩ .bf16} {f : ℕ → ℕ → ℝ} (h : Held2 x f) {inb} :
    Real2 (φ := .bf16) (View.ld (Val := Elt Ideal) (S := ⟨2, ![a, b]⟩) x (Rect.unit ![0, 0] ![a, b] inb)) f :=
  real_bf16 (h.ld.congr fun i _ j _ => by rw [Nat.zero_add, Nat.zero_add])

/-- A load of `n` columns. -/
theorem cols_bf16 {x : Vec Ideal ⟨2, ![a, b]⟩ .bf16} {f : ℕ → ℕ → ℝ} (h : Held2 x f) (o : ℕ) {inb} (s) :
    Real2 (φ := .bf16) (shapeCast ⟨2, ![a, n]⟩ (View.ld (Val := Elt Ideal) (S := ⟨2, ![a, b]⟩) x (Rect.unit ![0, o] ![a, n] inb)) s)
      fun i j => f i (o + j) :=
  Real2.same (real_bf16 (h.ld.congr fun i _ j _ => by rw [Nat.zero_add])) s

/-- A load of `n` rows of a weight. -/
theorem rows_bf16 {x : Vec Ideal ⟨3, ![1, a, b]⟩ .bf16} {f : ℕ → ℕ → ℝ} (h : Held3 x fun _ => f) (o : ℕ) {inb} (s) :
    Real2 (φ := .bf16) (shapeCast ⟨2, ![n, b]⟩ (View.ld (Val := Elt Ideal) (S := ⟨3, ![1, a, b]⟩) x (Rect.unit ![0, o, 0] ![1, n, b] inb)) s)
      fun i j => f (o + i) j := by
  have e : Real3 (φ := .bf16) (View.ld (Val := Elt Ideal) (S := ⟨3, ![1, a, b]⟩) x (Rect.unit ![0, o, 0] ![1, n, b] inb))
      fun _ i j => f (o + i) j := fun l i j =>
    (h.ld.congr (g := fun _ i j => f (o + i) j) fun _ _ i _ j _ => by rw [Nat.zero_add]) l i j
  exact unbox e s

/-- A load of a whole weight. -/
theorem weight {x : Vec Ideal ⟨3, ![1, a, b]⟩ .bf16} {f : ℕ → ℕ → ℝ} (h : Held3 x fun _ => f) {inb} (s) :
    Real2 (φ := .bf16) (shapeCast ⟨2, ![a, b]⟩ (View.ld (Val := Elt Ideal) (S := ⟨3, ![1, a, b]⟩) x (Rect.unit ![0, 0, 0] ![1, a, b] inb)) s) f :=
  (rows_bf16 h 0 s).congr fun i _ j _ => by rw [Nat.zero_add]

/-! ## The norm -/

/-- The first call leaves 512 rows of normalized tokens. -/
theorem block_norm {x : Vec Ideal S512x1024 .f32} {g : Vec Ideal S1x1024 .f32} {X : ℕ → ℕ → ℝ} {w : ℕ → ℝ} (hx : Held2 x X)
    (hg : Held2 g fun _ j => w j) : Held2 (out0_2 x g : Vec Ideal ⟨2, ![512, 1024]⟩ .bf16) fun i j => X i j * rms X i * w j := by
  unfold out0_2
  exact whole2 (held_bf16 ((((all_f32 hx).mulf ((norm (all_f32 hx)).col broadcasts_S512x1_S512x1024)).mulf
    ((Real2.same (all_f32 hg) shapeCasts_S1x1024_S1x1024).row broadcasts_S1x1024_S512x1024)).truncf bitsLt_bf16_f32))

/-! ## The result -/

/-- The third call leaves 512 rows of the result. -/
theorem block_res {x : Vec Ideal S512x1024 .f32} {p : Vec Ideal S512x2816 .bf16} {w : Vec Ideal S1x2816x1024 .bf16} {X P W : ℕ → ℕ → ℝ}
    (hx : Held2 x X) (hp : Held2 p P) (hw : Held3 w fun _ => W) :
    Held2 (out2_3 p w x : Vec Ideal ⟨2, ![512, 1024]⟩ .f32) fun i j => X i j + 1 / 2 * ∑ f ∈ range 2816, P i f * W f j := by
  unfold out2_3
  exact whole2 (held_f32 ((all_f32 hx).addf ((splat half).mulf (nn (Real2.same (all_bf16 hp) shapeCasts_S512x2816_S512x2816)
    (weight hw shapeCasts_S1x2816x1024_S2816x1024)))))

/-! ## The weights' gradients -/

/-- The fifth call leaves 256 rows of the third weight's gradient, -/
theorem block_dwd {p : Vec Ideal S2048x256 .bf16} {c : Vec Ideal S2048x1024 .f32} {P C : ℕ → ℕ → ℝ} (hp : Held2 p P) (hc : Held2 c C) :
    Held3 (out4_2 p c : Vec Ideal ⟨3, ![1, 256, 1024]⟩ .bf16) fun _ i j => 1 / 2 * ∑ t ∈ range 2048, P t i * C t j := by
  unfold out4_2
  exact boxed (((splat half).mulf (tn (Real2.same (all_bf16 hp) shapeCasts_S2048x256_S2048x256) ((all_f32 hc).truncf bitsLt_bf16_f32))).truncf
    bitsLt_bf16_f32)

/-- the sixth 256 rows of the first's, -/
theorem block_dwg {p : Vec Ideal S2048x256 .bf16} {c : Vec Ideal S2048x1024 .bf16} {P C : ℕ → ℕ → ℝ} (hp : Held2 p P) (hc : Held2 c C) :
    Held3 (out5_2 p c : Vec Ideal ⟨3, ![1, 256, 1024]⟩ .bf16) fun _ i j => ∑ t ∈ range 2048, P t i * C t j := by
  unfold out5_2
  exact boxed ((once (tn (Real2.same (all_bf16 hp) shapeCasts_S2048x256_S2048x256)
    (Real2.same (all_bf16 hc) shapeCasts_S2048x1024_S2048x1024))).truncf bitsLt_bf16_f32)

/-- and the seventh 256 rows of the second's. -/
theorem block_dwu {p : Vec Ideal S2048x256 .bf16} {c : Vec Ideal S2048x1024 .bf16} {P C : ℕ → ℕ → ℝ} (hp : Held2 p P) (hc : Held2 c C) :
    Held3 (out6_2 p c : Vec Ideal ⟨3, ![1, 256, 1024]⟩ .bf16) fun _ i j => ∑ t ∈ range 2048, P t i * C t j := by
  unfold out6_2
  exact boxed ((once (tn (Real2.same (all_bf16 hp) shapeCasts_S2048x256_S2048x256)
    (Real2.same (all_bf16 hc) shapeCasts_S2048x1024_S2048x1024))).truncf bitsLt_bf16_f32)

end Cert.Net
-- ==== Proof.NetTiles.lean ====
/- What the two calls over the hidden units leave of one block, 128 units at a time: the hidden layer and its gradients. -/
module

public import proofs.«01_k».proof.Proof.NetBlocks

@[expose] public section

set_option maxRecDepth 16384

noncomputable section

namespace Cert.Net

open Idealize.ShloMosaic Cert.Fox Cert.FfnIdeal Cert.FfnIdeal.Gen Finset

variable {a b n m k : ℕ}

/-- One tile of the hidden layer, from the gates and the values. -/
theorem tile_act {u v : FVec Ideal ⟨2, ![a, b]⟩ .f32} {f g : ℕ → ℕ → ℝ} (hu : Real2 u f) (hv : Real2 v g) {h} :
    Held2 (e := .bf16) (truncf .bf16 (mulf (mulf u (logistic u)) v) h) fun i j => f i j * sg (f i j) * g i j :=
  held_bf16 (((hu.mulf (sigmoid hu)).mulf hv).truncf h)

/-- One tile of the values' gradient. -/
theorem tile_dval {d u : FVec Ideal ⟨2, ![a, b]⟩ .f32} {e f : ℕ → ℕ → ℝ} (hd : Real2 d e) (hu : Real2 u f) {h} :
    Held2 (e := .bf16) (truncf .bf16 (mulf d (mulf u (logistic u))) h) fun i j => e i j * (f i j * sg (f i j)) :=
  held_bf16 ((hd.mulf (hu.mulf (sigmoid hu))).truncf h)

/-- One tile of the gates' gradient. -/
theorem tile_dgate {d u v : FVec Ideal ⟨2, ![a, b]⟩ .f32} {e f g : ℕ → ℕ → ℝ} (hd : Real2 d e) (hu : Real2 u f) (hv : Real2 v g) {h} :
    Held2 (e := .bf16) (truncf .bf16 (mulf (mulf d v) (mulf (logistic u) (addf (broadcast ⟨2, ![a, b]⟩ (Scalar.ofBits .f32 0x3F800000#32))
      (mulf u (subf (broadcast ⟨2, ![a, b]⟩ (Scalar.ofBits .f32 0x3F800000#32)) (logistic u)))))) h)
      fun i j => e i j * g i j * (sg (f i j) * (1 + f i j * (1 - sg (f i j)))) :=
  held_bf16 (((hd.mulf hv).mulf ((sigmoid hu).mulf ((splat one).addf (hu.mulf ((splat one).subf (sigmoid hu)))))).truncf h)

section Up

variable {x : Vec Ideal S1024x1024 .bf16} {p q : Vec Ideal S1x1408x1024 .bf16} {X P Q : ℕ → ℕ → ℝ}

/-- The second call leaves the gates, -/
theorem block_gate (hx : Held2 x X) (hp : Held3 p fun _ => P) :
    Held2 (out1_3 x p q : Vec Ideal ⟨2, ![1024, 1408]⟩ .bf16) fun i j => ∑ d ∈ range 1024, X i d * P j d := by
  unfold_out out1_3
  refine Cols.done (p := 1408) ?_ (by omega)
  refine Cols.cons (p := 1280) (m := 128) ?_ (held_bf16 ((nt (Real2.same (all_bf16 hx) shapeCasts_S1024x1024_S1024x1024) (rows_bf16 hp 1280 shapeCasts_S1x128x1024_S128x1024)).truncf bitsLt_bf16_f32))
  refine Cols.cons (p := 1152) (m := 128) ?_ (held_bf16 ((nt (Real2.same (all_bf16 hx) shapeCasts_S1024x1024_S1024x1024) (rows_bf16 hp 1152 shapeCasts_S1x128x1024_S128x1024)).truncf bitsLt_bf16_f32))
  refine Cols.cons (p := 1024) (m := 128) ?_ (held_bf16 ((nt (Real2.same (all_bf16 hx) shapeCasts_S1024x1024_S1024x1024) (rows_bf16 hp 1024 shapeCasts_S1x128x1024_S128x1024)).truncf bitsLt_bf16_f32))
  refine Cols.cons (p := 896) (m := 128) ?_ (held_bf16 ((nt (Real2.same (all_bf16 hx) shapeCasts_S1024x1024_S1024x1024) (rows_bf16 hp 896 shapeCasts_S1x128x1024_S128x1024)).truncf bitsLt_bf16_f32))
  refine Cols.cons (p := 768) (m := 128) ?_ (held_bf16 ((nt (Real2.same (all_bf16 hx) shapeCasts_S1024x1024_S1024x1024) (rows_bf16 hp 768 shapeCasts_S1x128x1024_S128x1024)).truncf bitsLt_bf16_f32))
  refine Cols.cons (p := 640) (m := 128) ?_ (held_bf16 ((nt (Real2.same (all_bf16 hx) shapeCasts_S1024x1024_S1024x1024) (rows_bf16 hp 640 shapeCasts_S1x128x1024_S128x1024)).truncf bitsLt_bf16_f32))
  refine Cols.cons (p := 512) (m := 128) ?_ (held_bf16 ((nt (Real2.same (all_bf16 hx) shapeCasts_S1024x1024_S1024x1024) (rows_bf16 hp 512 shapeCasts_S1x128x1024_S128x1024)).truncf bitsLt_bf16_f32))
  refine Cols.cons (p := 384) (m := 128) ?_ (held_bf16 ((nt (Real2.same (all_bf16 hx) shapeCasts_S1024x1024_S1024x1024) (rows_bf16 hp 384 shapeCasts_S1x128x1024_S128x1024)).truncf bitsLt_bf16_f32))
  refine Cols.cons (p := 256) (m := 128) ?_ (held_bf16 ((nt (Real2.same (all_bf16 hx) shapeCasts_S1024x1024_S1024x1024) (rows_bf16 hp 256 shapeCasts_S1x128x1024_S128x1024)).truncf bitsLt_bf16_f32))
  refine Cols.cons (p := 128) (m := 128) ?_ (held_bf16 ((nt (Real2.same (all_bf16 hx) shapeCasts_S1024x1024_S1024x1024) (rows_bf16 hp 128 shapeCasts_S1x128x1024_S128x1024)).truncf bitsLt_bf16_f32))
  refine Cols.cons (p := 0) (m := 128) ?_ (held_bf16 ((nt (Real2.same (all_bf16 hx) shapeCasts_S1024x1024_S1024x1024) (rows_bf16 hp 0 shapeCasts_S1x128x1024_S128x1024)).truncf bitsLt_bf16_f32))
  exact Cols.nil

/-- the values that they scale, -/
theorem block_value (hx : Held2 x X) (hq : Held3 q fun _ => Q) :
    Held2 (out1_4 x p q : Vec Ideal ⟨2, ![1024, 1408]⟩ .bf16) fun i j => ∑ d ∈ range 1024, X i d * Q j d := by
  unfold_out out1_4
  refine Cols.done (p := 1408) ?_ (by omega)
  refine Cols.cons (p := 1280) (m := 128) ?_ (held_bf16 ((nt (Real2.same (all_bf16 hx) shapeCasts_S1024x1024_S1024x1024) (rows_bf16 hq 1280 shapeCasts_S1x128x1024_S128x1024)).truncf bitsLt_bf16_f32))
  refine Cols.cons (p := 1152) (m := 128) ?_ (held_bf16 ((nt (Real2.same (all_bf16 hx) shapeCasts_S1024x1024_S1024x1024) (rows_bf16 hq 1152 shapeCasts_S1x128x1024_S128x1024)).truncf bitsLt_bf16_f32))
  refine Cols.cons (p := 1024) (m := 128) ?_ (held_bf16 ((nt (Real2.same (all_bf16 hx) shapeCasts_S1024x1024_S1024x1024) (rows_bf16 hq 1024 shapeCasts_S1x128x1024_S128x1024)).truncf bitsLt_bf16_f32))
  refine Cols.cons (p := 896) (m := 128) ?_ (held_bf16 ((nt (Real2.same (all_bf16 hx) shapeCasts_S1024x1024_S1024x1024) (rows_bf16 hq 896 shapeCasts_S1x128x1024_S128x1024)).truncf bitsLt_bf16_f32))
  refine Cols.cons (p := 768) (m := 128) ?_ (held_bf16 ((nt (Real2.same (all_bf16 hx) shapeCasts_S1024x1024_S1024x1024) (rows_bf16 hq 768 shapeCasts_S1x128x1024_S128x1024)).truncf bitsLt_bf16_f32))
  refine Cols.cons (p := 640) (m := 128) ?_ (held_bf16 ((nt (Real2.same (all_bf16 hx) shapeCasts_S1024x1024_S1024x1024) (rows_bf16 hq 640 shapeCasts_S1x128x1024_S128x1024)).truncf bitsLt_bf16_f32))
  refine Cols.cons (p := 512) (m := 128) ?_ (held_bf16 ((nt (Real2.same (all_bf16 hx) shapeCasts_S1024x1024_S1024x1024) (rows_bf16 hq 512 shapeCasts_S1x128x1024_S128x1024)).truncf bitsLt_bf16_f32))
  refine Cols.cons (p := 384) (m := 128) ?_ (held_bf16 ((nt (Real2.same (all_bf16 hx) shapeCasts_S1024x1024_S1024x1024) (rows_bf16 hq 384 shapeCasts_S1x128x1024_S128x1024)).truncf bitsLt_bf16_f32))
  refine Cols.cons (p := 256) (m := 128) ?_ (held_bf16 ((nt (Real2.same (all_bf16 hx) shapeCasts_S1024x1024_S1024x1024) (rows_bf16 hq 256 shapeCasts_S1x128x1024_S128x1024)).truncf bitsLt_bf16_f32))
  refine Cols.cons (p := 128) (m := 128) ?_ (held_bf16 ((nt (Real2.same (all_bf16 hx) shapeCasts_S1024x1024_S1024x1024) (rows_bf16 hq 128 shapeCasts_S1x128x1024_S128x1024)).truncf bitsLt_bf16_f32))
  refine Cols.cons (p := 0) (m := 128) ?_ (held_bf16 ((nt (Real2.same (all_bf16 hx) shapeCasts_S1024x1024_S1024x1024) (rows_bf16 hq 0 shapeCasts_S1x128x1024_S128x1024)).truncf bitsLt_bf16_f32))
  exact Cols.nil

/-- and the hidden layer. -/
theorem block_act (hx : Held2 x X) (hp : Held3 p fun _ => P) (hq : Held3 q fun _ => Q) :
    Held2 (out1_5 x p q : Vec Ideal ⟨2, ![1024, 1408]⟩ .bf16) fun i j =>
      (∑ d ∈ range 1024, X i d * P j d) * sg (∑ d ∈ range 1024, X i d * P j d) * ∑ d ∈ range 1024, X i d * Q j d := by
  unfold_out out1_5
  refine Cols.done (p := 1408) ?_ (by omega)
  refine Cols.cons (p := 1280) (m := 128) ?_ (tile_act (nt (Real2.same (all_bf16 hx) shapeCasts_S1024x1024_S1024x1024) (rows_bf16 hp 1280 shapeCasts_S1x128x1024_S128x1024)) (nt (Real2.same (all_bf16 hx) shapeCasts_S1024x1024_S1024x1024) (rows_bf16 hq 1280 shapeCasts_S1x128x1024_S128x1024)))
  refine Cols.cons (p := 1152) (m := 128) ?_ (tile_act (nt (Real2.same (all_bf16 hx) shapeCasts_S1024x1024_S1024x1024) (rows_bf16 hp 1152 shapeCasts_S1x128x1024_S128x1024)) (nt (Real2.same (all_bf16 hx) shapeCasts_S1024x1024_S1024x1024) (rows_bf16 hq 1152 shapeCasts_S1x128x1024_S128x1024)))
  refine Cols.cons (p := 1024) (m := 128) ?_ (tile_act (nt (Real2.same (all_bf16 hx) shapeCasts_S1024x1024_S1024x1024) (rows_bf16 hp 1024 shapeCasts_S1x128x1024_S128x1024)) (nt (Real2.same (all_bf16 hx) shapeCasts_S1024x1024_S1024x1024) (rows_bf16 hq 1024 shapeCasts_S1x128x1024_S128x1024)))
  refine Cols.cons (p := 896) (m := 128) ?_ (tile_act (nt (Real2.same (all_bf16 hx) shapeCasts_S1024x1024_S1024x1024) (rows_bf16 hp 896 shapeCasts_S1x128x1024_S128x1024)) (nt (Real2.same (all_bf16 hx) shapeCasts_S1024x1024_S1024x1024) (rows_bf16 hq 896 shapeCasts_S1x128x1024_S128x1024)))
  refine Cols.cons (p := 768) (m := 128) ?_ (tile_act (nt (Real2.same (all_bf16 hx) shapeCasts_S1024x1024_S1024x1024) (rows_bf16 hp 768 shapeCasts_S1x128x1024_S128x1024)) (nt (Real2.same (all_bf16 hx) shapeCasts_S1024x1024_S1024x1024) (rows_bf16 hq 768 shapeCasts_S1x128x1024_S128x1024)))
  refine Cols.cons (p := 640) (m := 128) ?_ (tile_act (nt (Real2.same (all_bf16 hx) shapeCasts_S1024x1024_S1024x1024) (rows_bf16 hp 640 shapeCasts_S1x128x1024_S128x1024)) (nt (Real2.same (all_bf16 hx) shapeCasts_S1024x1024_S1024x1024) (rows_bf16 hq 640 shapeCasts_S1x128x1024_S128x1024)))
  refine Cols.cons (p := 512) (m := 128) ?_ (tile_act (nt (Real2.same (all_bf16 hx) shapeCasts_S1024x1024_S1024x1024) (rows_bf16 hp 512 shapeCasts_S1x128x1024_S128x1024)) (nt (Real2.same (all_bf16 hx) shapeCasts_S1024x1024_S1024x1024) (rows_bf16 hq 512 shapeCasts_S1x128x1024_S128x1024)))
  refine Cols.cons (p := 384) (m := 128) ?_ (tile_act (nt (Real2.same (all_bf16 hx) shapeCasts_S1024x1024_S1024x1024) (rows_bf16 hp 384 shapeCasts_S1x128x1024_S128x1024)) (nt (Real2.same (all_bf16 hx) shapeCasts_S1024x1024_S1024x1024) (rows_bf16 hq 384 shapeCasts_S1x128x1024_S128x1024)))
  refine Cols.cons (p := 256) (m := 128) ?_ (tile_act (nt (Real2.same (all_bf16 hx) shapeCasts_S1024x1024_S1024x1024) (rows_bf16 hp 256 shapeCasts_S1x128x1024_S128x1024)) (nt (Real2.same (all_bf16 hx) shapeCasts_S1024x1024_S1024x1024) (rows_bf16 hq 256 shapeCasts_S1x128x1024_S128x1024)))
  refine Cols.cons (p := 128) (m := 128) ?_ (tile_act (nt (Real2.same (all_bf16 hx) shapeCasts_S1024x1024_S1024x1024) (rows_bf16 hp 128 shapeCasts_S1x128x1024_S128x1024)) (nt (Real2.same (all_bf16 hx) shapeCasts_S1024x1024_S1024x1024) (rows_bf16 hq 128 shapeCasts_S1x128x1024_S128x1024)))
  refine Cols.cons (p := 0) (m := 128) ?_ (tile_act (nt (Real2.same (all_bf16 hx) shapeCasts_S1024x1024_S1024x1024) (rows_bf16 hp 0 shapeCasts_S1x128x1024_S128x1024)) (nt (Real2.same (all_bf16 hx) shapeCasts_S1024x1024_S1024x1024) (rows_bf16 hq 0 shapeCasts_S1x128x1024_S128x1024)))
  exact Cols.nil

end Up

section Down

variable {c : Vec Ideal S1024x1024 .f32} {w : Vec Ideal S1x1408x1024 .bf16} {u v : Vec Ideal S1024x1408 .bf16} {C W U V : ℕ → ℕ → ℝ}

/-- The fourth call leaves the gradient of the gates -/
theorem block_dgate (hc : Held2 c C) (hw : Held3 w fun _ => W) (hu : Held2 u U) (hv : Held2 v V) :
    Held2 (out3_4 c w u v : Vec Ideal ⟨2, ![1024, 1408]⟩ .bf16) fun i j =>
      (1 / 2 * ∑ d ∈ range 1024, C i d * W j d) * V i j * (sg (U i j) * (1 + U i j * (1 - sg (U i j)))) := by
  unfold_out out3_4
  refine Cols.done (p := 1408) ?_ (by omega)
  refine Cols.cons (p := 1280) (m := 128) ?_ (tile_dgate ((splat half).mulf (nt ((all_f32 hc).truncf bitsLt_bf16_f32) (rows_bf16 hw 1280 shapeCasts_S1x128x1024_S128x1024))) (extend (cols_bf16 hu 1280 shapeCasts_S1024x128_S1024x128) bitsLt_bf16_f32) (extend (cols_bf16 hv 1280 shapeCasts_S1024x128_S1024x128) bitsLt_bf16_f32))
  refine Cols.cons (p := 1152) (m := 128) ?_ (tile_dgate ((splat half).mulf (nt ((all_f32 hc).truncf bitsLt_bf16_f32) (rows_bf16 hw 1152 shapeCasts_S1x128x1024_S128x1024))) (extend (cols_bf16 hu 1152 shapeCasts_S1024x128_S1024x128) bitsLt_bf16_f32) (extend (cols_bf16 hv 1152 shapeCasts_S1024x128_S1024x128) bitsLt_bf16_f32))
  refine Cols.cons (p := 1024) (m := 128) ?_ (tile_dgate ((splat half).mulf (nt ((all_f32 hc).truncf bitsLt_bf16_f32) (rows_bf16 hw 1024 shapeCasts_S1x128x1024_S128x1024))) (extend (cols_bf16 hu 1024 shapeCasts_S1024x128_S1024x128) bitsLt_bf16_f32) (extend (cols_bf16 hv 1024 shapeCasts_S1024x128_S1024x128) bitsLt_bf16_f32))
  refine Cols.cons (p := 896) (m := 128) ?_ (tile_dgate ((splat half).mulf (nt ((all_f32 hc).truncf bitsLt_bf16_f32) (rows_bf16 hw 896 shapeCasts_S1x128x1024_S128x1024))) (extend (cols_bf16 hu 896 shapeCasts_S1024x128_S1024x128) bitsLt_bf16_f32) (extend (cols_bf16 hv 896 shapeCasts_S1024x128_S1024x128) bitsLt_bf16_f32))
  refine Cols.cons (p := 768) (m := 128) ?_ (tile_dgate ((splat half).mulf (nt ((all_f32 hc).truncf bitsLt_bf16_f32) (rows_bf16 hw 768 shapeCasts_S1x128x1024_S128x1024))) (extend (cols_bf16 hu 768 shapeCasts_S1024x128_S1024x128) bitsLt_bf16_f32) (extend (cols_bf16 hv 768 shapeCasts_S1024x128_S1024x128) bitsLt_bf16_f32))
  refine Cols.cons (p := 640) (m := 128) ?_ (tile_dgate ((splat half).mulf (nt ((all_f32 hc).truncf bitsLt_bf16_f32) (rows_bf16 hw 640 shapeCasts_S1x128x1024_S128x1024))) (extend (cols_bf16 hu 640 shapeCasts_S1024x128_S1024x128) bitsLt_bf16_f32) (extend (cols_bf16 hv 640 shapeCasts_S1024x128_S1024x128) bitsLt_bf16_f32))
  refine Cols.cons (p := 512) (m := 128) ?_ (tile_dgate ((splat half).mulf (nt ((all_f32 hc).truncf bitsLt_bf16_f32) (rows_bf16 hw 512 shapeCasts_S1x128x1024_S128x1024))) (extend (cols_bf16 hu 512 shapeCasts_S1024x128_S1024x128) bitsLt_bf16_f32) (extend (cols_bf16 hv 512 shapeCasts_S1024x128_S1024x128) bitsLt_bf16_f32))
  refine Cols.cons (p := 384) (m := 128) ?_ (tile_dgate ((splat half).mulf (nt ((all_f32 hc).truncf bitsLt_bf16_f32) (rows_bf16 hw 384 shapeCasts_S1x128x1024_S128x1024))) (extend (cols_bf16 hu 384 shapeCasts_S1024x128_S1024x128) bitsLt_bf16_f32) (extend (cols_bf16 hv 384 shapeCasts_S1024x128_S1024x128) bitsLt_bf16_f32))
  refine Cols.cons (p := 256) (m := 128) ?_ (tile_dgate ((splat half).mulf (nt ((all_f32 hc).truncf bitsLt_bf16_f32) (rows_bf16 hw 256 shapeCasts_S1x128x1024_S128x1024))) (extend (cols_bf16 hu 256 shapeCasts_S1024x128_S1024x128) bitsLt_bf16_f32) (extend (cols_bf16 hv 256 shapeCasts_S1024x128_S1024x128) bitsLt_bf16_f32))
  refine Cols.cons (p := 128) (m := 128) ?_ (tile_dgate ((splat half).mulf (nt ((all_f32 hc).truncf bitsLt_bf16_f32) (rows_bf16 hw 128 shapeCasts_S1x128x1024_S128x1024))) (extend (cols_bf16 hu 128 shapeCasts_S1024x128_S1024x128) bitsLt_bf16_f32) (extend (cols_bf16 hv 128 shapeCasts_S1024x128_S1024x128) bitsLt_bf16_f32))
  refine Cols.cons (p := 0) (m := 128) ?_ (tile_dgate ((splat half).mulf (nt ((all_f32 hc).truncf bitsLt_bf16_f32) (rows_bf16 hw 0 shapeCasts_S1x128x1024_S128x1024))) (extend (cols_bf16 hu 0 shapeCasts_S1024x128_S1024x128) bitsLt_bf16_f32) (extend (cols_bf16 hv 0 shapeCasts_S1024x128_S1024x128) bitsLt_bf16_f32))
  exact Cols.nil

/-- and of the values that they scale. -/
theorem block_dvalue (hc : Held2 c C) (hw : Held3 w fun _ => W) (hu : Held2 u U) :
    Held2 (out3_5 c w u v : Vec Ideal ⟨2, ![1024, 1408]⟩ .bf16) fun i j =>
      (1 / 2 * ∑ d ∈ range 1024, C i d * W j d) * (U i j * sg (U i j)) := by
  unfold_out out3_5
  refine Cols.done (p := 1408) ?_ (by omega)
  refine Cols.cons (p := 1280) (m := 128) ?_ (tile_dval ((splat half).mulf (nt ((all_f32 hc).truncf bitsLt_bf16_f32) (rows_bf16 hw 1280 shapeCasts_S1x128x1024_S128x1024))) (extend (cols_bf16 hu 1280 shapeCasts_S1024x128_S1024x128) bitsLt_bf16_f32))
  refine Cols.cons (p := 1152) (m := 128) ?_ (tile_dval ((splat half).mulf (nt ((all_f32 hc).truncf bitsLt_bf16_f32) (rows_bf16 hw 1152 shapeCasts_S1x128x1024_S128x1024))) (extend (cols_bf16 hu 1152 shapeCasts_S1024x128_S1024x128) bitsLt_bf16_f32))
  refine Cols.cons (p := 1024) (m := 128) ?_ (tile_dval ((splat half).mulf (nt ((all_f32 hc).truncf bitsLt_bf16_f32) (rows_bf16 hw 1024 shapeCasts_S1x128x1024_S128x1024))) (extend (cols_bf16 hu 1024 shapeCasts_S1024x128_S1024x128) bitsLt_bf16_f32))
  refine Cols.cons (p := 896) (m := 128) ?_ (tile_dval ((splat half).mulf (nt ((all_f32 hc).truncf bitsLt_bf16_f32) (rows_bf16 hw 896 shapeCasts_S1x128x1024_S128x1024))) (extend (cols_bf16 hu 896 shapeCasts_S1024x128_S1024x128) bitsLt_bf16_f32))
  refine Cols.cons (p := 768) (m := 128) ?_ (tile_dval ((splat half).mulf (nt ((all_f32 hc).truncf bitsLt_bf16_f32) (rows_bf16 hw 768 shapeCasts_S1x128x1024_S128x1024))) (extend (cols_bf16 hu 768 shapeCasts_S1024x128_S1024x128) bitsLt_bf16_f32))
  refine Cols.cons (p := 640) (m := 128) ?_ (tile_dval ((splat half).mulf (nt ((all_f32 hc).truncf bitsLt_bf16_f32) (rows_bf16 hw 640 shapeCasts_S1x128x1024_S128x1024))) (extend (cols_bf16 hu 640 shapeCasts_S1024x128_S1024x128) bitsLt_bf16_f32))
  refine Cols.cons (p := 512) (m := 128) ?_ (tile_dval ((splat half).mulf (nt ((all_f32 hc).truncf bitsLt_bf16_f32) (rows_bf16 hw 512 shapeCasts_S1x128x1024_S128x1024))) (extend (cols_bf16 hu 512 shapeCasts_S1024x128_S1024x128) bitsLt_bf16_f32))
  refine Cols.cons (p := 384) (m := 128) ?_ (tile_dval ((splat half).mulf (nt ((all_f32 hc).truncf bitsLt_bf16_f32) (rows_bf16 hw 384 shapeCasts_S1x128x1024_S128x1024))) (extend (cols_bf16 hu 384 shapeCasts_S1024x128_S1024x128) bitsLt_bf16_f32))
  refine Cols.cons (p := 256) (m := 128) ?_ (tile_dval ((splat half).mulf (nt ((all_f32 hc).truncf bitsLt_bf16_f32) (rows_bf16 hw 256 shapeCasts_S1x128x1024_S128x1024))) (extend (cols_bf16 hu 256 shapeCasts_S1024x128_S1024x128) bitsLt_bf16_f32))
  refine Cols.cons (p := 128) (m := 128) ?_ (tile_dval ((splat half).mulf (nt ((all_f32 hc).truncf bitsLt_bf16_f32) (rows_bf16 hw 128 shapeCasts_S1x128x1024_S128x1024))) (extend (cols_bf16 hu 128 shapeCasts_S1024x128_S1024x128) bitsLt_bf16_f32))
  refine Cols.cons (p := 0) (m := 128) ?_ (tile_dval ((splat half).mulf (nt ((all_f32 hc).truncf bitsLt_bf16_f32) (rows_bf16 hw 0 shapeCasts_S1x128x1024_S128x1024))) (extend (cols_bf16 hu 0 shapeCasts_S1024x128_S1024x128) bitsLt_bf16_f32))
  exact Cols.nil

end Down

end Cert.Net
-- ==== Proof.NetLast.lean ====
/- What the last call leaves of one block of 256 rows: the gradient of the tokens, and the growing gradient of the gain. -/
module

public import proofs.«01_k».proof.Proof.NetBlocks

@[expose] public section

set_option maxRecDepth 16384

noncomputable section

namespace Cert.Net

open Idealize.ShloMosaic Cert.Fox Cert.FfnIdeal Cert.FfnIdeal.Gen Finset

variable {a b n m k : ℕ}

/-- One store of a whole matrix over earlier stores. -/
theorem over2 {e : EltTy} [Holds e] {L : List (View.Piece (Elt Ideal) ⟨2, ![a, b]⟩ e)} {inb} {w : Vec Ideal ⟨2, ![a, b]⟩ e} {f : ℕ → ℕ → ℝ}
    (hw : Held2 w f) :
    Held2 (View.canon (Val := Elt Ideal) ((⟨Rect.unit ![0, 0] ![a, b] inb, w⟩ : View.Piece (Elt Ideal) ⟨2, ![a, b]⟩ e) :: L) :
      Vec Ideal ⟨2, ![a, b]⟩ e) f := fun i j => by
  have := i.isLt; have := j.isLt
  rw [canon_cons2 hw, if_pos (by omega)]
  simp

section Reads

variable {A : Memref sig .tc .vmem ⟨2, ![a, b]⟩ .f32} (hA : A.IsWhole) {B : Memref sig .tc .vmem ⟨2, ![a, b]⟩ .bf16} (hB : B.IsWhole)
  {D : Memref sig .tc .vmem ⟨3, ![1, a, b]⟩ .bf16} (hD : D.IsWhole)

theorem read_f32 {x : Vec Ideal ⟨2, ![a, b]⟩ .f32} {f : ℕ → ℕ → ℝ} (h : Held2 x f) {inb} :
    Real2 (φ := .f32) (View.readAt (Elt Ideal) A.view (Rect.unit (s := ⟨2, ![a, b]⟩) ![0, 0] ![a, b] inb).toLoadRect (hA.unread x)) f := by
  rw [View.readAt_eq_ld, hA.read_unread]
  exact all_f32 h

theorem read_bf16 {x : Vec Ideal ⟨2, ![a, b]⟩ .bf16} {f : ℕ → ℕ → ℝ} (h : Held2 x f) {inb} :
    Real2 (φ := .bf16) (View.readAt (Elt Ideal) B.view (Rect.unit (s := ⟨2, ![a, b]⟩) ![0, 0] ![a, b] inb).toLoadRect (hB.unread x)) f := by
  rw [View.readAt_eq_ld, hB.read_unread]
  exact all_bf16 h

theorem read_box {x : Vec Ideal ⟨3, ![1, a, b]⟩ .bf16} {f : ℕ → ℕ → ℝ} (h : Held3 x fun _ => f) {inb} :
    Real3 (φ := .bf16) (View.readAt (Elt Ideal) D.view (Rect.unit (s := ⟨3, ![1, a, b]⟩) ![0, 0, 0] ![1, a, b] inb).toLoadRect (hD.unread x))
      fun _ => f := fun l i j => by
  rw [View.readAt_eq_ld, hD.read_unread]
  exact (h.ld.congr (g := fun _ => f) fun _ _ i _ j _ => by rw [Nat.zero_add, Nat.zero_add]) l i j

end Reads

section Last

/-- The gradient of the normalized tokens, from those of the gates `P` and the values `Q` and the weights `W` and `Y`. -/
def lastH (P W Q Y : ℕ → ℕ → ℝ) (i j : ℕ) : ℝ := (∑ f ∈ range 2816, P i f * W f j) + ∑ f ∈ range 2816, Q i f * Y f j

/-- The gradient of the tokens, from that of the result `C` and that of the normalized tokens `H`. -/
def lastX (C H X : ℕ → ℕ → ℝ) (w : ℕ → ℝ) (i j : ℕ) : ℝ :=
  C i j + rms X i * (H i j * w j - X i j * rms X i * ((∑ e ∈ range 1024, H i e * w e * (X i e * rms X i)) / 1024))

variable {p q : Vec Ideal S256x2816 .bf16} {u v : Vec Ideal S1x2816x1024 .bf16} {x c : Vec Ideal S256x1024 .f32} {g o : Vec Ideal S1x1024 .f32}
  {P Q U Y X C : ℕ → ℕ → ℝ} {w s : ℕ → ℝ}

theorem last_h (hp : Real2 (φ := .bf16) p P) (hu : Real3 (φ := .bf16) u fun _ => U) (hq : Real2 (φ := .bf16) q Q)
    (hv : Real3 (φ := .bf16) v fun _ => Y) : Real2 (φ := .f32) (k7_pay4 p u q v) (lastH P U Q Y) := by
  unfold k7_pay4
  exact (nn (Real2.same hp shapeCasts_S256x2816_S256x2816) (unbox hu shapeCasts_S1x2816x1024_S2816x1024)).addf
    (nn (Real2.same hq shapeCasts_S256x2816_S256x2816) (unbox hv shapeCasts_S1x2816x1024_S2816x1024))

theorem last_r (hx : Real2 (φ := .f32) x X) : Real2 (φ := .f32) (k7_pay5 x) fun i _ => rms X i := by
  unfold k7_pay5
  exact norm hx

theorem last_xh (hx : Real2 (φ := .f32) x X) : Real2 (φ := .f32) (k7_pay6 x) fun i j => X i j * rms X i := by
  unfold k7_pay6
  exact hx.mulf ((last_r hx).col broadcasts_S256x1_S256x1024)

theorem last_x (hp : Real2 (φ := .bf16) p P) (hu : Real3 (φ := .bf16) u fun _ => U) (hq : Real2 (φ := .bf16) q Q)
    (hv : Real3 (φ := .bf16) v fun _ => Y) (hx : Real2 (φ := .f32) x X) (hg : Real2 (φ := .f32) g fun _ j => w j)
    (hc : Real2 (φ := .f32) c C) :
    Held2 (e := .f32) (k7_pay1 (k7_pay7 p u q v x g) c) (lastX C (lastH P U Q Y) X w) := by
  unfold k7_pay1 k7_pay7
  have hm := (last_h hp hu hq hv).mulf ((Real2.same hg shapeCasts_S1x1024_S1x1024).row broadcasts_S1x1024_S256x1024)
  exact held_f32 (hc.addf (((last_r hx).col broadcasts_S256x1_S256x1024).mulf (hm.subf ((last_xh hx).mulf (((column ((hm.mulf
    (last_xh hx)).rowSum reduces_S256x1024_S256 (.inl rfl) rfl) shapeCasts_S256_S256x1).divf (splat width) fun _ _ _ _ => by norm_num).col
      broadcasts_S256x1_S256x1024)))))

theorem last_g (hp : Real2 (φ := .bf16) p P) (hu : Real3 (φ := .bf16) u fun _ => U) (hq : Real2 (φ := .bf16) q Q)
    (hv : Real3 (φ := .bf16) v fun _ => Y) (hx : Real2 (φ := .f32) x X) (ho : Real2 (φ := .f32) o fun _ j => s j) :
    Held2 (e := .f32) (k7_pay3 (k7_pay8 p u q v x) o) fun _ j => s j + ∑ i ∈ range 256, lastH P U Q Y i j * (X i j * rms X i) := by
  unfold k7_pay3 k7_pay8
  exact held_f32 ((Real2.same ho shapeCasts_S1x1024_S1x1024).addf ((((last_h hp hu hq hv).mulf (last_xh hx)).colSum
    reduces_S256x1024_S1024 (.inl rfl) rfl).toRow shapeCasts_S1024_S1x1024))

end Last

section Runs

variable (d : Dev nD) (i : grid7.Coords)
  (arg1 : Memref sig .tc .vmem S256x2816 .bf16) (harg1 : arg1.IsWhole)
  (arg2 : Memref sig .tc .vmem S1x2816x1024 .bf16) (harg2 : arg2.IsWhole)
  (arg3 : Memref sig .tc .vmem S256x2816 .bf16) (harg3 : arg3.IsWhole)
  (arg4 : Memref sig .tc .vmem S1x2816x1024 .bf16) (harg4 : arg4.IsWhole)
  (arg5 : Memref sig .tc .vmem S256x1024 .f32) (harg5 : arg5.IsWhole)
  (arg6 : Memref sig .tc .vmem S1x1024 .f32) (harg6 : arg6.IsWhole)
  (arg7 : Memref sig .tc .vmem S256x1024 .f32) (harg7 : arg7.IsWhole)
  (arg8 : Memref sig .tc .vmem S256x1024 .f32) (harg8 : arg8.IsWhole)
  (arg9 : Memref sig .tc .vmem S1x1024 .f32) (harg9 : arg9.IsWhole)
  {p q : Vec Ideal S256x2816 .bf16} {u v : Vec Ideal S1x2816x1024 .bf16} {x c : Vec Ideal S256x1024 .f32} {g o : Vec Ideal S1x1024 .f32}
  {P Q U Y X C : ℕ → ℕ → ℝ} {w s : ℕ → ℝ}

/-- At the first block the last call leaves 256 rows of the gradient of the tokens -/
theorem run_x_A (h0 : cond7_0 i) (hp : Held2 p P) (hu : Held3 u fun _ => U) (hq : Held2 q Q) (hv : Held3 v fun _ => Y) (hx : Held2 x X)
    (hg : Held2 g fun _ j => w j) (hc : Held2 c C) :
    Held2 (View.canon (Val := Elt Ideal) (kernelRun7_A (F := Ideal) d i arg1 harg1 arg2 harg2 arg3 harg3 arg4 harg4 arg5 harg5 arg6 harg6 arg7 harg7 arg8 harg8 arg9 harg9 h0 p u q v x g c).1 : Vec Ideal ⟨2, ![256, 1024]⟩ .f32)
      (lastX C (lastH P U Q Y) X w) := by
  unfold kernelRun7_A
  dsimp only
  exact over2 (last_x (read_bf16 harg1 hp) (read_box harg2 hu) (read_bf16 harg3 hq) (read_box harg4 hv) (read_f32 harg5 hx) (read_f32 harg6 hg)
    (read_f32 harg7 hc))

/-- and at each later one, -/
theorem run_x_B (h0 : ¬cond7_0 i) (hp : Held2 p P) (hu : Held3 u fun _ => U) (hq : Held2 q Q) (hv : Held3 v fun _ => Y) (hx : Held2 x X)
    (hg : Held2 g fun _ j => w j) (hc : Held2 c C) :
    Held2 (View.canon (Val := Elt Ideal) (kernelRun7_B (F := Ideal) d i arg1 harg1 arg2 harg2 arg3 harg3 arg4 harg4 arg5 harg5 arg6 harg6 arg7 harg7 arg8 harg8 arg9 harg9 h0 p u q v x g c o).1 : Vec Ideal ⟨2, ![256, 1024]⟩ .f32)
      (lastX C (lastH P U Q Y) X w) := by
  unfold kernelRun7_B
  dsimp only
  exact over2 (last_x (read_bf16 harg1 hp) (read_box harg2 hu) (read_bf16 harg3 hq) (read_box harg4 hv) (read_f32 harg5 hx) (read_f32 harg6 hg)
    (read_f32 harg7 hc))

/-- and these rows' part of the gradient of the gain, at the first block alone, -/
theorem run_g_A (h0 : cond7_0 i) (hp : Held2 p P) (hu : Held3 u fun _ => U) (hq : Held2 q Q) (hv : Held3 v fun _ => Y) (hx : Held2 x X) :
    Held2 (View.canon (Val := Elt Ideal) (kernelRun7_A (F := Ideal) d i arg1 harg1 arg2 harg2 arg3 harg3 arg4 harg4 arg5 harg5 arg6 harg6 arg7 harg7 arg8 harg8 arg9 harg9 h0 p u q v x g c).2.1 : Vec Ideal ⟨2, ![1, 1024]⟩ .f32)
      fun _ j => ∑ i ∈ range 256, lastH P U Q Y i j * (X i j * rms X i) := by
  unfold kernelRun7_A
  dsimp only
  have hz : Held2 (e := .f32) (a := 1) (b := 1024) (k7_pay2 (F := Ideal)) fun _ _ => 0 := held_f32 (splat (by simp))
  refine (over2 (last_g (read_bf16 harg1 hp) (read_box harg2 hu) (read_bf16 harg3 hq) (read_box harg4 hv) (read_f32 harg5 hx)
    (real_f32 ((Held2.readCov (over2 hz) arg9.view).congr fun _ _ _ _ => rfl)))).congr fun _ _ j _ => ?_
  exact zero_add _

/-- and on top of the earlier blocks' at each later one. -/
theorem run_g_B (h0 : ¬cond7_0 i) (hp : Held2 p P) (hu : Held3 u fun _ => U) (hq : Held2 q Q) (hv : Held3 v fun _ => Y) (hx : Held2 x X)
    (ho : Held2 o fun _ j => s j) :
    Held2 (View.canon (Val := Elt Ideal) (kernelRun7_B (F := Ideal) d i arg1 harg1 arg2 harg2 arg3 harg3 arg4 harg4 arg5 harg5 arg6 harg6 arg7 harg7 arg8 harg8 arg9 harg9 h0 p u q v x g c o).2.1 : Vec Ideal ⟨2, ![1, 1024]⟩ .f32)
      fun _ j => s j + ∑ i ∈ range 256, lastH P U Q Y i j * (X i j * rms X i) := by
  unfold kernelRun7_B
  dsimp only
  exact over2 (last_g (read_bf16 harg1 hp) (read_box harg2 hu) (read_bf16 harg3 hq) (read_box harg4 hv) (read_f32 harg5 hx) (read_f32 harg9 ho))

end Runs

end Cert.Net
-- ==== Proof.NetArrays.lean ====
/- The blocks of the calls as blocks of their arrays, and the arrays that blocks make up. -/
module

public import proofs.«01_k».proof.Proof.Blocks
public import proofs.«01_k».proof.Proof.Gen.FfnIdeal.Frame
public import Idealize.ShloMosaic.Lib.Pipeline.ValueKit

@[expose] public section

set_option maxRecDepth 16384

noncomputable section

namespace Cert.Net

open Idealize.ShloMosaic Idealize.ShloMosaic.TcCoe Cert.Fox Cert.FfnIdeal Cert.FfnIdeal.Gen Finset
open Idealize.ShloMosaic.Pipeline (Dat)

/-- Where the windows of call 0 stand at point `t`. -/
theorem at0 : ∀ t : Fin cfg0.N, win0_0.index t = ![(t : ℕ), 0]
    ∧ win0_1.index t = ![0, 0]
    ∧ win0_2.index t = ![(t : ℕ), 0] := by decide +kernel

/-- Where the windows of call 1 stand at point `t`. -/
theorem at1 : ∀ t : Fin cfg1.N, win1_0.index t = ![(t : ℕ) % 2, 0]
    ∧ win1_1.index t = ![0, (t : ℕ) / 2, 0]
    ∧ win1_2.index t = ![0, (t : ℕ) / 2, 0]
    ∧ win1_3.index t = ![(t : ℕ) % 2, (t : ℕ) / 2]
    ∧ win1_4.index t = ![(t : ℕ) % 2, (t : ℕ) / 2]
    ∧ win1_5.index t = ![(t : ℕ) % 2, (t : ℕ) / 2] := by decide +kernel

/-- Where the windows of call 2 stand at point `t`. -/
theorem at2 : ∀ t : Fin cfg2.N, win2_0.index t = ![(t : ℕ), 0]
    ∧ win2_1.index t = ![0, 0, 0]
    ∧ win2_2.index t = ![(t : ℕ), 0]
    ∧ win2_3.index t = ![(t : ℕ), 0] := by decide +kernel

/-- Where the windows of call 3 stand at point `t`. -/
theorem at3 : ∀ t : Fin cfg3.N, win3_0.index t = ![(t : ℕ) % 2, 0]
    ∧ win3_1.index t = ![0, (t : ℕ) / 2, 0]
    ∧ win3_2.index t = ![(t : ℕ) % 2, (t : ℕ) / 2]
    ∧ win3_3.index t = ![(t : ℕ) % 2, (t : ℕ) / 2]
    ∧ win3_4.index t = ![(t : ℕ) % 2, (t : ℕ) / 2]
    ∧ win3_5.index t = ![(t : ℕ) % 2, (t : ℕ) / 2] := by decide +kernel

/-- Where the windows of call 4 stand at point `t`. -/
theorem at4 : ∀ t : Fin cfg4.N, win4_0.index t = ![0, (t : ℕ)]
    ∧ win4_1.index t = ![0, 0]
    ∧ win4_2.index t = ![0, (t : ℕ), 0] := by decide +kernel

/-- Where the windows of call 5 stand at point `t`. -/
theorem at5 : ∀ t : Fin cfg5.N, win5_0.index t = ![0, (t : ℕ)]
    ∧ win5_1.index t = ![0, 0]
    ∧ win5_2.index t = ![0, (t : ℕ), 0] := by decide +kernel

/-- Where the windows of call 6 stand at point `t`. -/
theorem at6 : ∀ t : Fin cfg6.N, win6_0.index t = ![0, (t : ℕ)]
    ∧ win6_1.index t = ![0, 0]
    ∧ win6_2.index t = ![0, (t : ℕ), 0] := by decide +kernel

/-- Where the windows of call 7 stand at point `t`. -/
theorem at7 : ∀ t : Fin cfg7.N, win7_0.index t = ![(t : ℕ), 0]
    ∧ win7_1.index t = ![0, 0, 0]
    ∧ win7_2.index t = ![(t : ℕ), 0]
    ∧ win7_3.index t = ![0, 0, 0]
    ∧ win7_4.index t = ![(t : ℕ), 0]
    ∧ win7_5.index t = ![0, 0]
    ∧ win7_6.index t = ![(t : ℕ), 0]
    ∧ win7_7.index t = ![(t : ℕ), 0] := by decide +kernel

section

variable (V : (c : Dev nD) → (b : Ref sig .tc) → Buf (Elt Ideal) ((c : Thread nD τ).loc b)) (c : Dev nD)

theorem in0_0 (t : Fin cfg0.N) {f : ℕ → ℕ → ℝ} (h : Held2 (a := 2048) (b := 1024) (e := .f32) (V c main_arg0) f) :
    Held2 (a := 512) (b := 1024) (e := .f32) (iblk0 V c 0 t) fun i j => f (512 * t + i) j := fun i j => by
  have ht : (t : ℕ) < 4 := t.isLt
  have e := h ⟨512 * t + i, by omega⟩ j
  refine Eq.trans ?_ e
  blk_ext [iblk0, at0 t]

theorem in0_1 (t : Fin cfg0.N) {f : ℕ → ℕ → ℝ} (h : Held2 (a := 1) (b := 1024) (e := .f32) (V c main_v0) f) :
    Held2 (a := 1) (b := 1024) (e := .f32) (iblk0 V c 1 t) fun i j => f i j := fun i j => by
  have ht : (t : ℕ) < 4 := t.isLt
  have e := h i j
  refine Eq.trans ?_ e
  blk_ext [iblk0, at0 t]

theorem of0_2 {f : ℕ → ℕ → ℝ}
    (h : ∀ t : Fin cfg0.N, Held2 (a := 512) (b := 1024) (e := .bf16) ((dat0 V c).after 2 t) fun i j => f (512 * t + i) j) :
    Held2 (a := 2048) (b := 1024) (e := .bf16) ((dat0 V c).arrAt 2 cfg0.N) f := by
  have hA := (dat0 V c).arrAt_eq_of_covers 2 (fun i : (⟨2, ![2048, 1024]⟩ : Shape).Idx => (Holds.at' (f (i 0) (i 1)) : Elt Ideal .bf16))
    (by decide +kernel) fun t hf y => ?_
  · exact fun i j => (congrFun hA (ix2 i j)).trans rfl
  · have e := h t (y 0) (y 1)
    blk_simp
    refine (Eq.trans (by congr 1; blk_ext) e).trans ?_
    blk_simp [at0 t]
    rw [Nat.mul_comm 512 t]

theorem in1_0 (t : Fin cfg1.N) {f : ℕ → ℕ → ℝ} (h : Held2 (a := 2048) (b := 1024) (e := .bf16) (V c main_v1) f) :
    Held2 (a := 1024) (b := 1024) (e := .bf16) (iblk1 V c 0 t) fun i j => f (1024 * (t % 2) + i) j := fun i j => by
  have ht : (t : ℕ) < 4 := t.isLt
  have e := h ⟨1024 * (t % 2) + i, by omega⟩ j
  refine Eq.trans ?_ e
  blk_ext [iblk1, at1 t]

theorem in1_1 (t : Fin cfg1.N) {f : ℕ → ℕ → ℝ} (h : Held3 (n := 1) (a := 2816) (b := 1024) (e := .bf16) (V c main_arg2) (fun _ => f)) :
    Held3 (n := 1) (a := 1408) (b := 1024) (e := .bf16) (iblk1 V c 1 t) fun _ i j => f (1408 * (t / 2) + i) j := fun l i j => by
  have ht : (t : ℕ) < 4 := t.isLt
  have e := h l ⟨1408 * (t / 2) + i, by omega⟩ j
  refine Eq.trans ?_ e
  blk_ext [iblk1, at1 t]

theorem in1_2 (t : Fin cfg1.N) {f : ℕ → ℕ → ℝ} (h : Held3 (n := 1) (a := 2816) (b := 1024) (e := .bf16) (V c main_arg3) (fun _ => f)) :
    Held3 (n := 1) (a := 1408) (b := 1024) (e := .bf16) (iblk1 V c 2 t) fun _ i j => f (1408 * (t / 2) + i) j := fun l i j => by
  have ht : (t : ℕ) < 4 := t.isLt
  have e := h l ⟨1408 * (t / 2) + i, by omega⟩ j
  refine Eq.trans ?_ e
  blk_ext [iblk1, at1 t]

theorem of1_3 {f : ℕ → ℕ → ℝ}
    (h : ∀ t : Fin cfg1.N, Held2 (a := 1024) (b := 1408) (e := .bf16) ((dat1 V c).after 3 t) fun i j => f (1024 * (t % 2) + i) (1408 * (t / 2) + j)) :
    Held2 (a := 2048) (b := 2816) (e := .bf16) ((dat1 V c).arrAt 3 cfg1.N) f := by
  have hA := (dat1 V c).arrAt_eq_of_covers 3 (fun i : (⟨2, ![2048, 2816]⟩ : Shape).Idx => (Holds.at' (f (i 0) (i 1)) : Elt Ideal .bf16))
    (by decide +kernel) fun t hf y => ?_
  · exact fun i j => (congrFun hA (ix2 i j)).trans rfl
  · have e := h t (y 0) (y 1)
    blk_simp
    refine (Eq.trans (by congr 1; blk_ext) e).trans ?_
    blk_simp [at1 t]
    rw [Nat.mul_comm 1024 ((t : ℕ) % 2), Nat.mul_comm 1408 ((t : ℕ) / 2)]

theorem of1_4 {f : ℕ → ℕ → ℝ}
    (h : ∀ t : Fin cfg1.N, Held2 (a := 1024) (b := 1408) (e := .bf16) ((dat1 V c).after 4 t) fun i j => f (1024 * (t % 2) + i) (1408 * (t / 2) + j)) :
    Held2 (a := 2048) (b := 2816) (e := .bf16) ((dat1 V c).arrAt 4 cfg1.N) f := by
  have hA := (dat1 V c).arrAt_eq_of_covers 4 (fun i : (⟨2, ![2048, 2816]⟩ : Shape).Idx => (Holds.at' (f (i 0) (i 1)) : Elt Ideal .bf16))
    (by decide +kernel) fun t hf y => ?_
  · exact fun i j => (congrFun hA (ix2 i j)).trans rfl
  · have e := h t (y 0) (y 1)
    blk_simp
    refine (Eq.trans (by congr 1; blk_ext) e).trans ?_
    blk_simp [at1 t]
    rw [Nat.mul_comm 1024 ((t : ℕ) % 2), Nat.mul_comm 1408 ((t : ℕ) / 2)]

theorem of1_5 {f : ℕ → ℕ → ℝ}
    (h : ∀ t : Fin cfg1.N, Held2 (a := 1024) (b := 1408) (e := .bf16) ((dat1 V c).after 5 t) fun i j => f (1024 * (t % 2) + i) (1408 * (t / 2) + j)) :
    Held2 (a := 2048) (b := 2816) (e := .bf16) ((dat1 V c).arrAt 5 cfg1.N) f := by
  have hA := (dat1 V c).arrAt_eq_of_covers 5 (fun i : (⟨2, ![2048, 2816]⟩ : Shape).Idx => (Holds.at' (f (i 0) (i 1)) : Elt Ideal .bf16))
    (by decide +kernel) fun t hf y => ?_
  · exact fun i j => (congrFun hA (ix2 i j)).trans rfl
  · have e := h t (y 0) (y 1)
    blk_simp
    refine (Eq.trans (by congr 1; blk_ext) e).trans ?_
    blk_simp [at1 t]
    rw [Nat.mul_comm 1024 ((t : ℕ) % 2), Nat.mul_comm 1408 ((t : ℕ) / 2)]

theorem in2_0 (t : Fin cfg2.N) {f : ℕ → ℕ → ℝ} (h : Held2 (a := 2048) (b := 2816) (e := .bf16) (V c main_v2_2) f) :
    Held2 (a := 512) (b := 2816) (e := .bf16) (iblk2 V c 0 t) fun i j => f (512 * t + i) j := fun i j => by
  have ht : (t : ℕ) < 4 := t.isLt
  have e := h ⟨512 * t + i, by omega⟩ j
  refine Eq.trans ?_ e
  blk_ext [iblk2, at2 t]

theorem in2_1 (t : Fin cfg2.N) {f : ℕ → ℕ → ℝ} (h : Held3 (n := 1) (a := 2816) (b := 1024) (e := .bf16) (V c main_arg4) (fun _ => f)) :
    Held3 (n := 1) (a := 2816) (b := 1024) (e := .bf16) (iblk2 V c 1 t) fun _ i j => f i j := fun l i j => by
  have ht : (t : ℕ) < 4 := t.isLt
  have e := h l i j
  refine Eq.trans ?_ e
  blk_ext [iblk2, at2 t]

theorem in2_2 (t : Fin cfg2.N) {f : ℕ → ℕ → ℝ} (h : Held2 (a := 2048) (b := 1024) (e := .f32) (V c main_arg0) f) :
    Held2 (a := 512) (b := 1024) (e := .f32) (iblk2 V c 2 t) fun i j => f (512 * t + i) j := fun i j => by
  have ht : (t : ℕ) < 4 := t.isLt
  have e := h ⟨512 * t + i, by omega⟩ j
  refine Eq.trans ?_ e
  blk_ext [iblk2, at2 t]

theorem of2_3 {f : ℕ → ℕ → ℝ}
    (h : ∀ t : Fin cfg2.N, Held2 (a := 512) (b := 1024) (e := .f32) ((dat2 V c).after 3 t) fun i j => f (512 * t + i) j) :
    Held2 (a := 2048) (b := 1024) (e := .f32) ((dat2 V c).arrAt 3 cfg2.N) f := by
  have hA := (dat2 V c).arrAt_eq_of_covers 3 (fun i : (⟨2, ![2048, 1024]⟩ : Shape).Idx => (Holds.at' (f (i 0) (i 1)) : Elt Ideal .f32))
    (by decide +kernel) fun t hf y => ?_
  · exact fun i j => (congrFun hA (ix2 i j)).trans rfl
  · have e := h t (y 0) (y 1)
    blk_simp
    refine (Eq.trans (by congr 1; blk_ext) e).trans ?_
    blk_simp [at2 t]
    rw [Nat.mul_comm 512 t]

theorem in3_0 (t : Fin cfg3.N) {f : ℕ → ℕ → ℝ} (h : Held2 (a := 2048) (b := 1024) (e := .f32) (V c main_arg5) f) :
    Held2 (a := 1024) (b := 1024) (e := .f32) (iblk3 V c 0 t) fun i j => f (1024 * (t % 2) + i) j := fun i j => by
  have ht : (t : ℕ) < 4 := t.isLt
  have e := h ⟨1024 * (t % 2) + i, by omega⟩ j
  refine Eq.trans ?_ e
  blk_ext [iblk3, at3 t]

theorem in3_1 (t : Fin cfg3.N) {f : ℕ → ℕ → ℝ} (h : Held3 (n := 1) (a := 2816) (b := 1024) (e := .bf16) (V c main_arg4) (fun _ => f)) :
    Held3 (n := 1) (a := 1408) (b := 1024) (e := .bf16) (iblk3 V c 1 t) fun _ i j => f (1408 * (t / 2) + i) j := fun l i j => by
  have ht : (t : ℕ) < 4 := t.isLt
  have e := h l ⟨1408 * (t / 2) + i, by omega⟩ j
  refine Eq.trans ?_ e
  blk_ext [iblk3, at3 t]

theorem in3_2 (t : Fin cfg3.N) {f : ℕ → ℕ → ℝ} (h : Held2 (a := 2048) (b := 2816) (e := .bf16) (V c main_v2_0) f) :
    Held2 (a := 1024) (b := 1408) (e := .bf16) (iblk3 V c 2 t) fun i j => f (1024 * (t % 2) + i) (1408 * (t / 2) + j) := fun i j => by
  have ht : (t : ℕ) < 4 := t.isLt
  have e := h ⟨1024 * (t % 2) + i, by omega⟩ ⟨1408 * (t / 2) + j, by omega⟩
  refine Eq.trans ?_ e
  blk_ext [iblk3, at3 t]

theorem in3_3 (t : Fin cfg3.N) {f : ℕ → ℕ → ℝ} (h : Held2 (a := 2048) (b := 2816) (e := .bf16) (V c main_v2_1) f) :
    Held2 (a := 1024) (b := 1408) (e := .bf16) (iblk3 V c 3 t) fun i j => f (1024 * (t % 2) + i) (1408 * (t / 2) + j) := fun i j => by
  have ht : (t : ℕ) < 4 := t.isLt
  have e := h ⟨1024 * (t % 2) + i, by omega⟩ ⟨1408 * (t / 2) + j, by omega⟩
  refine Eq.trans ?_ e
  blk_ext [iblk3, at3 t]

theorem of3_4 {f : ℕ → ℕ → ℝ}
    (h : ∀ t : Fin cfg3.N, Held2 (a := 1024) (b := 1408) (e := .bf16) ((dat3 V c).after 4 t) fun i j => f (1024 * (t % 2) + i) (1408 * (t / 2) + j)) :
    Held2 (a := 2048) (b := 2816) (e := .bf16) ((dat3 V c).arrAt 4 cfg3.N) f := by
  have hA := (dat3 V c).arrAt_eq_of_covers 4 (fun i : (⟨2, ![2048, 2816]⟩ : Shape).Idx => (Holds.at' (f (i 0) (i 1)) : Elt Ideal .bf16))
    (by decide +kernel) fun t hf y => ?_
  · exact fun i j => (congrFun hA (ix2 i j)).trans rfl
  · have e := h t (y 0) (y 1)
    blk_simp
    refine (Eq.trans (by congr 1; blk_ext) e).trans ?_
    blk_simp [at3 t]
    rw [Nat.mul_comm 1024 ((t : ℕ) % 2), Nat.mul_comm 1408 ((t : ℕ) / 2)]

theorem of3_5 {f : ℕ → ℕ → ℝ}
    (h : ∀ t : Fin cfg3.N, Held2 (a := 1024) (b := 1408) (e := .bf16) ((dat3 V c).after 5 t) fun i j => f (1024 * (t % 2) + i) (1408 * (t / 2) + j)) :
    Held2 (a := 2048) (b := 2816) (e := .bf16) ((dat3 V c).arrAt 5 cfg3.N) f := by
  have hA := (dat3 V c).arrAt_eq_of_covers 5 (fun i : (⟨2, ![2048, 2816]⟩ : Shape).Idx => (Holds.at' (f (i 0) (i 1)) : Elt Ideal .bf16))
    (by decide +kernel) fun t hf y => ?_
  · exact fun i j => (congrFun hA (ix2 i j)).trans rfl
  · have e := h t (y 0) (y 1)
    blk_simp
    refine (Eq.trans (by congr 1; blk_ext) e).trans ?_
    blk_simp [at3 t]
    rw [Nat.mul_comm 1024 ((t : ℕ) % 2), Nat.mul_comm 1408 ((t : ℕ) / 2)]

theorem in4_0 (t : Fin cfg4.N) {f : ℕ → ℕ → ℝ} (h : Held2 (a := 2048) (b := 2816) (e := .bf16) (V c main_v2_2) f) :
    Held2 (a := 2048) (b := 256) (e := .bf16) (iblk4 V c 0 t) fun i j => f i (256 * t + j) := fun i j => by
  have ht : (t : ℕ) < 11 := t.isLt
  have e := h i ⟨256 * t + j, by omega⟩
  refine Eq.trans ?_ e
  blk_ext [iblk4, at4 t]

theorem in4_1 (t : Fin cfg4.N) {f : ℕ → ℕ → ℝ} (h : Held2 (a := 2048) (b := 1024) (e := .f32) (V c main_arg5) f) :
    Held2 (a := 2048) (b := 1024) (e := .f32) (iblk4 V c 1 t) fun i j => f i j := fun i j => by
  have ht : (t : ℕ) < 11 := t.isLt
  have e := h i j
  refine Eq.trans ?_ e
  blk_ext [iblk4, at4 t]

theorem of4_2 {f : ℕ → ℕ → ℝ}
    (h : ∀ t : Fin cfg4.N, Held3 (n := 1) (a := 256) (b := 1024) (e := .bf16) ((dat4 V c).after 2 t) fun _ i j => f (256 * t + i) j) :
    Held3 (n := 1) (a := 2816) (b := 1024) (e := .bf16) ((dat4 V c).arrAt 2 cfg4.N) (fun _ => f) := by
  have hA := (dat4 V c).arrAt_eq_of_covers 2 (fun i : (⟨3, ![1, 2816, 1024]⟩ : Shape).Idx => (Holds.at' (f (i 1) (i 2)) : Elt Ideal .bf16))
    (by decide +kernel) fun t hf y => ?_
  · exact fun l i j => (congrFun hA (ix3 l i j)).trans rfl
  · have e := h t (y 0) (y 1) (y 2)
    blk_simp
    refine (Eq.trans (congrArg ((dat4 V c).after 2 t) (ix3_eta y).symm) e).trans ?_
    blk_simp [at4 t]
    rw [Nat.mul_comm 256 t]

theorem in5_0 (t : Fin cfg5.N) {f : ℕ → ℕ → ℝ} (h : Held2 (a := 2048) (b := 2816) (e := .bf16) (V c main_v4_0) f) :
    Held2 (a := 2048) (b := 256) (e := .bf16) (iblk5 V c 0 t) fun i j => f i (256 * t + j) := fun i j => by
  have ht : (t : ℕ) < 11 := t.isLt
  have e := h i ⟨256 * t + j, by omega⟩
  refine Eq.trans ?_ e
  blk_ext [iblk5, at5 t]

theorem in5_1 (t : Fin cfg5.N) {f : ℕ → ℕ → ℝ} (h : Held2 (a := 2048) (b := 1024) (e := .bf16) (V c main_v1) f) :
    Held2 (a := 2048) (b := 1024) (e := .bf16) (iblk5 V c 1 t) fun i j => f i j := fun i j => by
  have ht : (t : ℕ) < 11 := t.isLt
  have e := h i j
  refine Eq.trans ?_ e
  blk_ext [iblk5, at5 t]

theorem of5_2 {f : ℕ → ℕ → ℝ}
    (h : ∀ t : Fin cfg5.N, Held3 (n := 1) (a := 256) (b := 1024) (e := .bf16) ((dat5 V c).after 2 t) fun _ i j => f (256 * t + i) j) :
    Held3 (n := 1) (a := 2816) (b := 1024) (e := .bf16) ((dat5 V c).arrAt 2 cfg5.N) (fun _ => f) := by
  have hA := (dat5 V c).arrAt_eq_of_covers 2 (fun i : (⟨3, ![1, 2816, 1024]⟩ : Shape).Idx => (Holds.at' (f (i 1) (i 2)) : Elt Ideal .bf16))
    (by decide +kernel) fun t hf y => ?_
  · exact fun l i j => (congrFun hA (ix3 l i j)).trans rfl
  · have e := h t (y 0) (y 1) (y 2)
    blk_simp
    refine (Eq.trans (congrArg ((dat5 V c).after 2 t) (ix3_eta y).symm) e).trans ?_
    blk_simp [at5 t]
    rw [Nat.mul_comm 256 t]

theorem in6_0 (t : Fin cfg6.N) {f : ℕ → ℕ → ℝ} (h : Held2 (a := 2048) (b := 2816) (e := .bf16) (V c main_v4_1) f) :
    Held2 (a := 2048) (b := 256) (e := .bf16) (iblk6 V c 0 t) fun i j => f i (256 * t + j) := fun i j => by
  have ht : (t : ℕ) < 11 := t.isLt
  have e := h i ⟨256 * t + j, by omega⟩
  refine Eq.trans ?_ e
  blk_ext [iblk6, at6 t]

theorem in6_1 (t : Fin cfg6.N) {f : ℕ → ℕ → ℝ} (h : Held2 (a := 2048) (b := 1024) (e := .bf16) (V c main_v1) f) :
    Held2 (a := 2048) (b := 1024) (e := .bf16) (iblk6 V c 1 t) fun i j => f i j := fun i j => by
  have ht : (t : ℕ) < 11 := t.isLt
  have e := h i j
  refine Eq.trans ?_ e
  blk_ext [iblk6, at6 t]

theorem of6_2 {f : ℕ → ℕ → ℝ}
    (h : ∀ t : Fin cfg6.N, Held3 (n := 1) (a := 256) (b := 1024) (e := .bf16) ((dat6 V c).after 2 t) fun _ i j => f (256 * t + i) j) :
    Held3 (n := 1) (a := 2816) (b := 1024) (e := .bf16) ((dat6 V c).arrAt 2 cfg6.N) (fun _ => f) := by
  have hA := (dat6 V c).arrAt_eq_of_covers 2 (fun i : (⟨3, ![1, 2816, 1024]⟩ : Shape).Idx => (Holds.at' (f (i 1) (i 2)) : Elt Ideal .bf16))
    (by decide +kernel) fun t hf y => ?_
  · exact fun l i j => (congrFun hA (ix3 l i j)).trans rfl
  · have e := h t (y 0) (y 1) (y 2)
    blk_simp
    refine (Eq.trans (congrArg ((dat6 V c).after 2 t) (ix3_eta y).symm) e).trans ?_
    blk_simp [at6 t]
    rw [Nat.mul_comm 256 t]

theorem in7_0 (t : Fin cfg7.N) {f : ℕ → ℕ → ℝ} (h : Held2 (a := 2048) (b := 2816) (e := .bf16) (V c main_v4_0) f) :
    Held2 (a := 256) (b := 2816) (e := .bf16) (iblk7 V c 0 t) fun i j => f (256 * t + i) j := fun i j => by
  have ht : (t : ℕ) < 8 := t.isLt
  have e := h ⟨256 * t + i, by omega⟩ j
  refine Eq.trans ?_ e
  blk_ext [iblk7, at7 t]

theorem in7_1 (t : Fin cfg7.N) {f : ℕ → ℕ → ℝ} (h : Held3 (n := 1) (a := 2816) (b := 1024) (e := .bf16) (V c main_arg2) (fun _ => f)) :
    Held3 (n := 1) (a := 2816) (b := 1024) (e := .bf16) (iblk7 V c 1 t) fun _ i j => f i j := fun l i j => by
  have ht : (t : ℕ) < 8 := t.isLt
  have e := h l i j
  refine Eq.trans ?_ e
  blk_ext [iblk7, at7 t]

theorem in7_2 (t : Fin cfg7.N) {f : ℕ → ℕ → ℝ} (h : Held2 (a := 2048) (b := 2816) (e := .bf16) (V c main_v4_1) f) :
    Held2 (a := 256) (b := 2816) (e := .bf16) (iblk7 V c 2 t) fun i j => f (256 * t + i) j := fun i j => by
  have ht : (t : ℕ) < 8 := t.isLt
  have e := h ⟨256 * t + i, by omega⟩ j
  refine Eq.trans ?_ e
  blk_ext [iblk7, at7 t]

theorem in7_3 (t : Fin cfg7.N) {f : ℕ → ℕ → ℝ} (h : Held3 (n := 1) (a := 2816) (b := 1024) (e := .bf16) (V c main_arg3) (fun _ => f)) :
    Held3 (n := 1) (a := 2816) (b := 1024) (e := .bf16) (iblk7 V c 3 t) fun _ i j => f i j := fun l i j => by
  have ht : (t : ℕ) < 8 := t.isLt
  have e := h l i j
  refine Eq.trans ?_ e
  blk_ext [iblk7, at7 t]

theorem in7_4 (t : Fin cfg7.N) {f : ℕ → ℕ → ℝ} (h : Held2 (a := 2048) (b := 1024) (e := .f32) (V c main_arg0) f) :
    Held2 (a := 256) (b := 1024) (e := .f32) (iblk7 V c 4 t) fun i j => f (256 * t + i) j := fun i j => by
  have ht : (t : ℕ) < 8 := t.isLt
  have e := h ⟨256 * t + i, by omega⟩ j
  refine Eq.trans ?_ e
  blk_ext [iblk7, at7 t]

theorem in7_5 (t : Fin cfg7.N) {f : ℕ → ℕ → ℝ} (h : Held2 (a := 1) (b := 1024) (e := .f32) (V c main_v8) f) :
    Held2 (a := 1) (b := 1024) (e := .f32) (iblk7 V c 5 t) fun i j => f i j := fun i j => by
  have ht : (t : ℕ) < 8 := t.isLt
  have e := h i j
  refine Eq.trans ?_ e
  blk_ext [iblk7, at7 t]

theorem in7_6 (t : Fin cfg7.N) {f : ℕ → ℕ → ℝ} (h : Held2 (a := 2048) (b := 1024) (e := .f32) (V c main_arg5) f) :
    Held2 (a := 256) (b := 1024) (e := .f32) (iblk7 V c 6 t) fun i j => f (256 * t + i) j := fun i j => by
  have ht : (t : ℕ) < 8 := t.isLt
  have e := h ⟨256 * t + i, by omega⟩ j
  refine Eq.trans ?_ e
  blk_ext [iblk7, at7 t]

theorem of7_7 {f : ℕ → ℕ → ℝ}
    (h : ∀ t : Fin cfg7.N, Held2 (a := 256) (b := 1024) (e := .f32) ((dat7 V c).after 7 t) fun i j => f (256 * t + i) j) :
    Held2 (a := 2048) (b := 1024) (e := .f32) ((dat7 V c).arrAt 7 cfg7.N) f := by
  have hA := (dat7 V c).arrAt_eq_of_covers 7 (fun i : (⟨2, ![2048, 1024]⟩ : Shape).Idx => (Holds.at' (f (i 0) (i 1)) : Elt Ideal .f32))
    (by decide +kernel) fun t hf y => ?_
  · exact fun i j => (congrFun hA (ix2 i j)).trans rfl
  · have e := h t (y 0) (y 1)
    blk_simp
    refine (Eq.trans (by congr 1; blk_ext) e).trans ?_
    blk_simp [at7 t]
    rw [Nat.mul_comm 256 t]

end

end Cert.Net
-- ==== Proof.NetCalls.lean ====
/- What each of the eight calls leaves in its arrays, from what it finds in those that it reads. -/
module

public import proofs.«01_k».proof.Proof.NetTiles
public import proofs.«01_k».proof.Proof.NetLast
public import proofs.«01_k».proof.Proof.NetArrays

@[expose] public section

set_option maxRecDepth 16384

noncomputable section

namespace Cert.Net

open Idealize.ShloMosaic Idealize.ShloMosaic.TcCoe Cert.Fox Cert.FfnIdeal Cert.FfnIdeal.Gen Finset
open Idealize.ShloMosaic.Pipeline (Dat)

variable (V : (c : Dev nD) → (b : Ref sig .tc) → Buf (Elt Ideal) ((c : Thread nD τ).loc b)) (c : Dev nD) {N : Ffn}

/-- An array of the tokens' shape, of 32-bit numbers or of 16-bit ones. -/
abbrev Tok (x : Vec Ideal ⟨2, ![2048, 1024]⟩ .f32) (f : ℕ → ℕ → ℝ) : Prop := Held2 x f

abbrev Tok16 (x : Vec Ideal ⟨2, ![2048, 1024]⟩ .bf16) (f : ℕ → ℕ → ℝ) : Prop := Held2 x f

/-- An array of the hidden layer's shape. -/
abbrev Hid (x : Vec Ideal ⟨2, ![2048, 2816]⟩ .bf16) (f : ℕ → ℕ → ℝ) : Prop := Held2 x f

/-- A weight. -/
abbrev Wgt (x : Vec Ideal ⟨3, ![1, 2816, 1024]⟩ .bf16) (f : ℕ → ℕ → ℝ) : Prop := Held3 x fun _ => f

/-- A row of numbers, one per feature. -/
abbrev Row (x : Vec Ideal ⟨2, ![1, 1024]⟩ .f32) (f : ℕ → ℝ) : Prop := Held2 x fun _ => f

/-- The first call normalizes. -/
theorem call0 (hx : Tok (V c main_arg0) N.x) (hg : Row (V c main_v0) N.g) : Tok16 ((dat0 V c).arrAt 2 cfg0.N) N.h :=
  of0_2 V c fun t => by
    rw [after0_2]
    exact (block_norm (in0_0 V c t hx) (in0_1 V c t (f := fun _ => N.g) hg)).congr fun _ _ _ _ => rfl

/-- The second leaves the gates, -/
theorem call1_G (hh : Tok16 (V c main_v1) N.h) (hp : Wgt (V c main_arg2) N.wg) : Hid ((dat1 V c).arrAt 3 cfg1.N) N.G :=
  of1_3 V c fun t => by
    rw [after1_3]
    exact (block_gate (in1_0 V c t hh) (in1_1 V c t hp)).congr fun _ _ _ _ => rfl

/-- the values that they scale -/
theorem call1_U (hh : Tok16 (V c main_v1) N.h) (hq : Wgt (V c main_arg3) N.wu) : Hid ((dat1 V c).arrAt 4 cfg1.N) N.U :=
  of1_4 V c fun t => by
    rw [after1_4]
    exact (block_value (in1_0 V c t hh) (in1_2 V c t hq)).congr fun _ _ _ _ => rfl

/-- and the hidden layer. -/
theorem call1_A (hh : Tok16 (V c main_v1) N.h) (hp : Wgt (V c main_arg2) N.wg) (hq : Wgt (V c main_arg3) N.wu) :
    Hid ((dat1 V c).arrAt 5 cfg1.N) N.A :=
  of1_5 V c fun t => by
    rw [after1_5]
    exact (block_act (in1_0 V c t hh) (in1_1 V c t hp) (in1_2 V c t hq)).congr fun _ _ _ _ => rfl

/-- The third leaves the result. -/
theorem call2 (ha : Hid (V c main_v2_2) N.A) (hw : Wgt (V c main_arg4) N.wd) (hx : Tok (V c main_arg0) N.x) :
    Tok ((dat2 V c).arrAt 3 cfg2.N) N.y :=
  of2_3 V c fun t => by
    rw [after2_3]
    exact (block_res (in2_2 V c t hx) (in2_0 V c t ha) (in2_1 V c t hw)).congr fun _ _ _ _ => rfl

/-- The fourth leaves the gradient of the gates -/
theorem call3_G (hc : Tok (V c main_arg5) N.c) (hw : Wgt (V c main_arg4) N.wd) (hu : Hid (V c main_v2_0) N.G) (hv : Hid (V c main_v2_1) N.U) :
    Hid ((dat3 V c).arrAt 4 cfg3.N) N.dG :=
  of3_4 V c fun t => by
    rw [after3_4]
    exact (block_dgate (in3_0 V c t hc) (in3_1 V c t hw) (in3_2 V c t hu) (in3_3 V c t hv)).congr fun _ _ _ _ => rfl

/-- and that of the values. -/
theorem call3_U (hc : Tok (V c main_arg5) N.c) (hw : Wgt (V c main_arg4) N.wd) (hu : Hid (V c main_v2_0) N.G) :
    Hid ((dat3 V c).arrAt 5 cfg3.N) N.dU :=
  of3_5 V c fun t => by
    rw [after3_5]
    exact (block_dvalue (in3_0 V c t hc) (in3_1 V c t hw) (in3_2 V c t hu)).congr fun _ _ _ _ => rfl

/-- The fifth leaves the gradient of the third weight, -/
theorem call4 (ha : Hid (V c main_v2_2) N.A) (hc : Tok (V c main_arg5) N.c) : Wgt ((dat4 V c).arrAt 2 cfg4.N) N.dwd :=
  of4_2 V c fun t => by
    rw [after4_2]
    exact (block_dwd (in4_0 V c t ha) (in4_1 V c t hc)).congr fun _ _ _ _ _ _ => rfl

/-- the sixth that of the first, -/
theorem call5 (ha : Hid (V c main_v4_0) N.dG) (hh : Tok16 (V c main_v1) N.h) : Wgt ((dat5 V c).arrAt 2 cfg5.N) N.dwg :=
  of5_2 V c fun t => by
    rw [after5_2]
    exact (block_dwg (in5_0 V c t ha) (in5_1 V c t hh)).congr fun _ _ _ _ _ _ => rfl

/-- and the seventh that of the second. -/
theorem call6 (ha : Hid (V c main_v4_1) N.dU) (hh : Tok16 (V c main_v1) N.h) : Wgt ((dat6 V c).arrAt 2 cfg6.N) N.dwu :=
  of6_2 V c fun t => by
    rw [after6_2]
    exact (block_dwu (in6_0 V c t ha) (in6_1 V c t hh)).congr fun _ _ _ _ _ _ => rfl

section Last

variable (hp : Hid (V c main_v4_0) N.dG) (hu : Wgt (V c main_arg2) N.wg) (hq : Hid (V c main_v4_1) N.dU) (hv : Wgt (V c main_arg3) N.wu)
  (hx : Tok (V c main_arg0) N.x)

include hp hu hq hv hx

/-- The last leaves the gradient of the tokens -/
theorem call7_x (hg : Row (V c main_v8) N.g) (hc : Tok (V c main_arg5) N.c) : Tok ((dat7 V c).arrAt 7 cfg7.N) N.dx :=
  of7_7 V c fun t => by
    rw [after7_7]
    by_cases h0 : t.val % 8 = 0
    · rw [outsAt7_A V c t h0]
      dsimp only
      unfold out7_A_7
      rw [View.read_writes_junk_eq_canon]
      exact (run_x_A _ _ _ _ _ _ _ _ _ _ _ _ _ _ _ _ _ _ _ _ _ (in7_0 V c t hp) (in7_1 V c t hu) (in7_2 V c t hq) (in7_3 V c t hv) (in7_4 V c t hx)
        (in7_5 V c t (f := fun _ => N.g) hg) (in7_6 V c t hc)).congr fun _ _ _ _ => rfl
    · rw [outsAt7_B V c t h0]
      dsimp only
      unfold out7_B_7
      rw [View.read_writes_junk_eq_canon]
      exact (run_x_B _ _ _ _ _ _ _ _ _ _ _ _ _ _ _ _ _ _ _ _ _ (in7_0 V c t hp) (in7_1 V c t hu) (in7_2 V c t hq) (in7_3 V c t hv) (in7_4 V c t hx)
        (in7_5 V c t (f := fun _ => N.g) hg) (in7_6 V c t hc)).congr fun _ _ _ _ => rfl

/-- After point `n` the gain's buffer holds the sum over the first `n + 1` blocks. -/
theorem gain_at : ∀ n (hn : n < cfg7.N), Row (outsAt7 V c n hn).2 fun j => ∑ t ∈ range (256 * (n + 1)), N.dh t j * N.xh t j
  | 0, hn => by
    rw [outsAt7_A V c ⟨0, hn⟩ rfl]
    dsimp only
    unfold out7_A_8
    rw [View.read_writes_junk_eq_canon]
    refine (run_g_A _ _ _ _ _ _ _ _ _ _ _ _ _ _ _ _ _ _ _ _ _ (in7_0 V c ⟨0, hn⟩ hp) (in7_1 V c ⟨0, hn⟩ hu) (in7_2 V c ⟨0, hn⟩ hq) (in7_3 V c ⟨0, hn⟩ hv)
      (in7_4 V c ⟨0, hn⟩ hx)).congr fun _ _ j _ => ?_
    refine sum_congr rfl fun t _ => ?_
    rw [show N.dh t j * N.xh t j = N.dh (256 * 0 + t) j * N.xh (256 * 0 + t) j by rw [Nat.mul_zero, Nat.zero_add]]
    rfl
  | n + 1, hn => by
    have h8 : n + 1 < 8 := hn
    have ih := gain_at n (Nat.lt_of_succ_lt hn)
    rw [outsAt7_B V c ⟨n + 1, hn⟩ (by change ¬(n + 1) % 8 = 0; omega)]
    dsimp only
    unfold out7_B_8
    rw [View.read_writes_junk_eq_canon]
    refine (run_g_B _ _ _ _ _ _ _ _ _ _ _ _ _ _ _ _ _ _ _ _ _ (in7_0 V c ⟨n + 1, hn⟩ hp) (in7_1 V c ⟨n + 1, hn⟩ hu) (in7_2 V c ⟨n + 1, hn⟩ hq)
      (in7_3 V c ⟨n + 1, hn⟩ hv) (in7_4 V c ⟨n + 1, hn⟩ hx) ih).congr fun _ _ j _ => ?_
    rw [show 256 * (n + 1 + 1) = 256 * (n + 1) + 256 by omega, sum_range_add]
    rfl

omit hp hu hq hv hx in
theorem of7_8 {f : ℕ → ℝ} (h : Row ((dat7 V c).after 8 ⟨7, by decide⟩) f) : Row ((dat7 V c).arrAt 8 cfg7.N) f := fun i j =>
  ((dat7 V c).arrAt_emb_eq_after_last 8 ⟨7, by decide⟩ (by decide +kernel) (ix2 i j)).trans (h i j)

/-- and that of the gain. -/
theorem call7_g : Row ((dat7 V c).arrAt 8 cfg7.N) N.dg :=
  of7_8 V c (by
    rw [after7_8]
    exact gain_at V c hp hu hq hv hx 7 (by decide))

end Last

end Cert.Net
-- ==== Proof.NetRun.lean ====
/- What the eight calls leave in the six results, and their run. -/
module

public import proofs.«01_k».proof.Proof.NetCalls
public import Idealize.ShloMosaic.Lib.Claim

@[expose] public section

set_option maxRecDepth 16384

noncomputable section

namespace Cert.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Fox Cert.FfnIdeal Cert.FfnIdeal.Gen

local notation "𝕄" => MT nD τ sig Unit (Elt Ideal) ℕ (UR sig nD τ) ℕ

variable (m : (ℓ : Loc nD τ sig) → Buf (Elt Ideal) ℓ) (ρ : Dev nD → PrngReg)

section Entry

variable (c : Dev nD)

/-- The arguments of device `c` hold the numbers of the layer, of its weights and of the gradient that arrives. -/
structure Args (N : Ffn) : Prop where
  x : Tok (m ((c.tc : Thread nD τ).loc main_arg0)) N.x
  g : ∀ j : Fin 1024, (m ((c.tc : Thread nD τ).loc main_arg1) : Vec Ideal ⟨1, ![1024]⟩ .f32) (ix1 j) = ((N.g j : ℝ) : EReal)
  wg : Wgt (m ((c.tc : Thread nD τ).loc main_arg2)) N.wg
  wu : Wgt (m ((c.tc : Thread nD τ).loc main_arg3)) N.wu
  wd : Wgt (m ((c.tc : Thread nD τ).loc main_arg4)) N.wd
  c : Tok (m ((c.tc : Thread nD τ).loc main_arg5)) N.c

variable {c} {N : Ffn} (h : Args m c N)

include h

theorem gain1 : Row (V1 m ρ c main_v0) N.g := fun i j => by
  refine Eq.trans ?_ (h.g j)
  change StableHlo.after hostOps0 (W0 m ρ c) (Proc.devRef .tc main_v0) _ = _
  entry_read
  pointwise

/-- The normalized tokens, -/
theorem norm2 : Tok16 (V2 m ρ c main_v1) N.h := by
  rw [show V2 m ρ c main_v1 = (dat0 (V1 m ρ) c).arrAt 2 cfg0.N from W2_arr m ρ c 2]
  refine call0 (V1 m ρ) c ?_ (gain1 m ρ h)
  rw [show V1 m ρ c main_arg0 = m ((c.tc : Thread nD τ).loc main_arg0) from W1_args m ρ c main_arg0 (by decide)]
  exact h.x

theorem wg2 : Wgt (V2 m ρ c main_arg2) N.wg := by
  rw [show V2 m ρ c main_arg2 = m ((c.tc : Thread nD τ).loc main_arg2) from W2_args m ρ c main_arg2 (by decide)]
  exact h.wg

theorem wu2 : Wgt (V2 m ρ c main_arg3) N.wu := by
  rw [show V2 m ρ c main_arg3 = m ((c.tc : Thread nD τ).loc main_arg3) from W2_args m ρ c main_arg3 (by decide)]
  exact h.wu

/-- the gates, -/
theorem gate3 : Hid (V3 m ρ c main_v2_0) N.G := by
  rw [show V3 m ρ c main_v2_0 = (dat1 (V2 m ρ) c).arrAt 3 cfg1.N from W3_arr m ρ c 3]
  exact call1_G (V2 m ρ) c (norm2 m ρ h) (wg2 m ρ h)

/-- the values, -/
theorem value3 : Hid (V3 m ρ c main_v2_1) N.U := by
  rw [show V3 m ρ c main_v2_1 = (dat1 (V2 m ρ) c).arrAt 4 cfg1.N from W3_arr m ρ c 4]
  exact call1_U (V2 m ρ) c (norm2 m ρ h) (wu2 m ρ h)

/-- and the hidden layer. -/
theorem act3 : Hid (V3 m ρ c main_v2_2) N.A := by
  rw [show V3 m ρ c main_v2_2 = (dat1 (V2 m ρ) c).arrAt 5 cfg1.N from W3_arr m ρ c 5]
  exact call1_A (V2 m ρ) c (norm2 m ρ h) (wg2 m ρ h) (wu2 m ρ h)

/-- The layer's output. -/
theorem out4 : Tok (V4 m ρ c main_v3) N.y := by
  rw [show V4 m ρ c main_v3 = (dat2 (V3 m ρ) c).arrAt 3 cfg2.N from W4_arr m ρ c 3]
  refine call2 (V3 m ρ) c (act3 m ρ h) ?_ ?_
  · rw [show V3 m ρ c main_arg4 = m ((c.tc : Thread nD τ).loc main_arg4) from W3_args m ρ c main_arg4 (by decide)]
    exact h.wd
  · rw [show V3 m ρ c main_arg0 = m ((c.tc : Thread nD τ).loc main_arg0) from W3_args m ρ c main_arg0 (by decide)]
    exact h.x

theorem gate4 : Hid (V4 m ρ c main_v2_0) N.G := by
  rw [show V4 m ρ c main_v2_0 = V3 m ρ c main_v2_0 from W4_of m ρ c main_v2_0 (by decide)]
  exact gate3 m ρ h

theorem value4 : Hid (V4 m ρ c main_v2_1) N.U := by
  rw [show V4 m ρ c main_v2_1 = V3 m ρ c main_v2_1 from W4_of m ρ c main_v2_1 (by decide)]
  exact value3 m ρ h

theorem grad4 : Tok (V4 m ρ c main_arg5) N.c := by
  rw [show V4 m ρ c main_arg5 = m ((c.tc : Thread nD τ).loc main_arg5) from W4_args m ρ c main_arg5 (by decide)]
  exact h.c

theorem wd4 : Wgt (V4 m ρ c main_arg4) N.wd := by
  rw [show V4 m ρ c main_arg4 = m ((c.tc : Thread nD τ).loc main_arg4) from W4_args m ρ c main_arg4 (by decide)]
  exact h.wd

/-- The gradients of the gates -/
theorem dgate5 : Hid (V5 m ρ c main_v4_0) N.dG := by
  rw [show V5 m ρ c main_v4_0 = (dat3 (V4 m ρ) c).arrAt 4 cfg3.N from W5_arr m ρ c 4]
  exact call3_G (V4 m ρ) c (grad4 m ρ h) (wd4 m ρ h) (gate4 m ρ h) (value4 m ρ h)

/-- and of the values. -/
theorem dvalue5 : Hid (V5 m ρ c main_v4_1) N.dU := by
  rw [show V5 m ρ c main_v4_1 = (dat3 (V4 m ρ) c).arrAt 5 cfg3.N from W5_arr m ρ c 5]
  exact call3_U (V4 m ρ) c (grad4 m ρ h) (wd4 m ρ h) (gate4 m ρ h)

theorem act5 : Hid (V5 m ρ c main_v2_2) N.A := by
  rw [show V5 m ρ c main_v2_2 = V3 m ρ c main_v2_2 from
    (W5_of m ρ c main_v2_2 (by decide)).trans (W4_of m ρ c main_v2_2 (by decide))]
  exact act3 m ρ h

/-- The gradients of the weights: of the one that goes down, -/
theorem dwd6 : Wgt (V6 m ρ c main_v5) N.dwd := by
  rw [show V6 m ρ c main_v5 = (dat4 (V5 m ρ) c).arrAt 2 cfg4.N from W6_arr m ρ c 2]
  refine call4 (V5 m ρ) c (act5 m ρ h) ?_
  rw [show V5 m ρ c main_arg5 = m ((c.tc : Thread nD τ).loc main_arg5) from W5_args m ρ c main_arg5 (by decide)]
  exact h.c

theorem norm6 : Tok16 (V6 m ρ c main_v1) N.h := by
  rw [show V6 m ρ c main_v1 = V2 m ρ c main_v1 from
    (W6_of m ρ c main_v1 (by decide)).trans ((W5_of m ρ c main_v1 (by decide)).trans
      ((W4_of m ρ c main_v1 (by decide)).trans (W3_of m ρ c main_v1 (by decide))))]
  exact norm2 m ρ h

/-- of the gates', -/
theorem dwg7 : Wgt (V7 m ρ c main_v6) N.dwg := by
  rw [show V7 m ρ c main_v6 = (dat5 (V6 m ρ) c).arrAt 2 cfg5.N from W7_arr m ρ c 2]
  refine call5 (V6 m ρ) c ?_ (norm6 m ρ h)
  rw [show V6 m ρ c main_v4_0 = V5 m ρ c main_v4_0 from W6_of m ρ c main_v4_0 (by decide)]
  exact dgate5 m ρ h

/-- and of the values'. -/
theorem dwu8 : Wgt (V8 m ρ c main_v7) N.dwu := by
  rw [show V8 m ρ c main_v7 = (dat6 (V7 m ρ) c).arrAt 2 cfg6.N from W8_arr m ρ c 2]
  refine call6 (V7 m ρ) c ?_ ?_
  · rw [show V7 m ρ c main_v4_1 = V5 m ρ c main_v4_1 from (W7_of m ρ c main_v4_1 (by decide)).trans (W6_of m ρ c main_v4_1 (by decide))]
    exact dvalue5 m ρ h
  · rw [show V7 m ρ c main_v1 = V6 m ρ c main_v1 from W7_of m ρ c main_v1 (by decide)]
    exact norm6 m ρ h

theorem gain9 : Row (V9 m ρ c main_v8) N.g := fun i j => by
  refine Eq.trans ?_ (h.g j)
  refine Eq.trans ?_ (congrFun (W8_args m ρ c main_arg1 (by decide)) _)
  change StableHlo.after hostOps7 (W8 m ρ c) (Proc.devRef .tc main_v8) _ = _
  entry_read
  pointwise

theorem dgate9 : Hid (V9 m ρ c main_v4_0) N.dG := by
  rw [show V9 m ρ c main_v4_0 = V5 m ρ c main_v4_0 from
    (W9_of m ρ c main_v4_0 (by decide)).trans ((W8_of m ρ c main_v4_0 (by decide)).trans
      ((W7_of m ρ c main_v4_0 (by decide)).trans (W6_of m ρ c main_v4_0 (by decide))))]
  exact dgate5 m ρ h

theorem dvalue9 : Hid (V9 m ρ c main_v4_1) N.dU := by
  rw [show V9 m ρ c main_v4_1 = V5 m ρ c main_v4_1 from
    (W9_of m ρ c main_v4_1 (by decide)).trans ((W8_of m ρ c main_v4_1 (by decide)).trans
      ((W7_of m ρ c main_v4_1 (by decide)).trans (W6_of m ρ c main_v4_1 (by decide))))]
  exact dvalue5 m ρ h

theorem wg9 : Wgt (V9 m ρ c main_arg2) N.wg := by
  rw [show V9 m ρ c main_arg2 = m ((c.tc : Thread nD τ).loc main_arg2) from W9_args m ρ c main_arg2 (by decide)]
  exact h.wg

theorem wu9 : Wgt (V9 m ρ c main_arg3) N.wu := by
  rw [show V9 m ρ c main_arg3 = m ((c.tc : Thread nD τ).loc main_arg3) from W9_args m ρ c main_arg3 (by decide)]
  exact h.wu

theorem x9 : Tok (V9 m ρ c main_arg0) N.x := by
  rw [show V9 m ρ c main_arg0 = m ((c.tc : Thread nD τ).loc main_arg0) from W9_args m ρ c main_arg0 (by decide)]
  exact h.x

theorem grad9 : Tok (V9 m ρ c main_arg5) N.c := by
  rw [show V9 m ρ c main_arg5 = m ((c.tc : Thread nD τ).loc main_arg5) from W9_args m ρ c main_arg5 (by decide)]
  exact h.c

/-- At the end there are the layer's output, -/
theorem final_y : Tok (W10 m ρ c (Proc.devRef .tc main_v3)) N.y := by
  rw [show W10 m ρ c (Proc.devRef .tc main_v3) = V4 m ρ c main_v3 from
    (W10_of m ρ c main_v3 (by decide)).trans ((W9_of m ρ c main_v3 (by decide)).trans ((W8_of m ρ c main_v3 (by decide)).trans
      ((W7_of m ρ c main_v3 (by decide)).trans ((W6_of m ρ c main_v3 (by decide)).trans (W5_of m ρ c main_v3 (by decide))))))]
  exact out4 m ρ h

/-- the gradients of its input, -/
theorem final_dx : Tok (W10 m ρ c (Proc.devRef .tc main_v9_0)) N.dx := by
  rw [show W10 m ρ c (Proc.devRef .tc main_v9_0) = (dat7 (V9 m ρ) c).arrAt 7 cfg7.N from W10_arr m ρ c 7]
  exact call7_x (V9 m ρ) c (dgate9 m ρ h) (wg9 m ρ h) (dvalue9 m ρ h) (wu9 m ρ h) (x9 m ρ h) (gain9 m ρ h) (grad9 m ρ h)

/-- of the normalization's gains, -/
theorem final_dg : Row (W10 m ρ c (Proc.devRef .tc main_v9_1)) N.dg := by
  rw [show W10 m ρ c (Proc.devRef .tc main_v9_1) = (dat7 (V9 m ρ) c).arrAt 8 cfg7.N from W10_arr m ρ c 8]
  exact call7_g (V9 m ρ) c (dgate9 m ρ h) (wg9 m ρ h) (dvalue9 m ρ h) (wu9 m ρ h) (x9 m ρ h)

/-- and of the three weights. -/
theorem final_dwg : Wgt (W10 m ρ c (Proc.devRef .tc main_v6)) N.dwg := by
  rw [show W10 m ρ c (Proc.devRef .tc main_v6) = V7 m ρ c main_v6 from
    (W10_of m ρ c main_v6 (by decide)).trans ((W9_of m ρ c main_v6 (by decide)).trans (W8_of m ρ c main_v6 (by decide)))]
  exact dwg7 m ρ h

theorem final_dwu : Wgt (W10 m ρ c (Proc.devRef .tc main_v7)) N.dwu := by
  rw [show W10 m ρ c (Proc.devRef .tc main_v7) = V8 m ρ c main_v7 from
    (W10_of m ρ c main_v7 (by decide)).trans (W9_of m ρ c main_v7 (by decide))]
  exact dwu8 m ρ h

theorem final_dwd : Wgt (W10 m ρ c (Proc.devRef .tc main_v5)) N.dwd := by
  rw [show W10 m ρ c (Proc.devRef .tc main_v5) = V6 m ρ c main_v5 from
    (W10_of m ρ c main_v5 (by decide)).trans ((W9_of m ρ c main_v5 (by decide)).trans ((W8_of m ρ c main_v5 (by decide)).trans
      (W7_of m ρ c main_v5 (by decide))))]
  exact dwd6 m ρ h

end Entry

set_option backward.isDefEq.respectTransparency.types false in
/-- The run of the idealized calls: every array of the host ends as the last of them leaves it. -/
theorem run_ffn : θ_run defs (onTc (τ := τ) (main (F := Ideal))) ⟨m, fun _ => 0, ρ⟩ (fun r => ∀ c : Dev nD, ∀ b ∈ Pipeline.ucRefs τ sig,
      r.2.mem ((c : Thread nD τ).1, b) = W10 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ => h)

end Cert.Net
-- ==== Proof.NetRef.lean ====
/- The reference of the half-step FFN, operation by operation: what each of its arrays holds, as real numbers. -/
module

public import proofs.«01_k».proof.Proof.Net
public import proofs.«01_k».proof.Proof.NetOps
public import proofs.«01_k».proof.Proof.RefOps
public import proofs.«01_k».proof.Proof.Gen.FfnReferenceIdeal.Read

@[expose] public section

set_option maxRecDepth 16384

noncomputable section

namespace Cert.Net

open Idealize.ShloMosaic Finset

theorem minus_half : Ideal.ofBits .f32 0xBF000000#32 = ((-(1 / 2) : ℝ) : EReal) := by
  simp [Ideal.ofBits, Ideal.ieee]
  rw [← EReal.coe_mul]; norm_num

theorem root_at {x : EReal} {a : ℝ} (hx : x = a) (h : 0 < a) :
    FloatOps.hostUnary (F := Ideal) (φ := .f32) .rsqrt x = (((Real.sqrt a)⁻¹ : ℝ) : EReal) := by
  rw [hx]
  rw [Ideal.hostUnary_rsqrt_def, Ideal.rsqrt_coe, if_neg h.le.not_gt, if_neg h.ne']

theorem exp_at {x : EReal} {a : ℝ} (hx : x = a) : FloatOps.hostUnary (F := Ideal) (φ := .f32) .exp x = ((Real.exp a : ℝ) : EReal) := by
  rw [hx]; rfl

/-- The cube of the reciprocal root, as the gradient of the root yields it. -/
theorem rms_div (x : ℕ → ℕ → ℝ) (t : ℕ) :
    rms x t / ((∑ d ∈ range 1024, x t d * x t d) / 1024 + eps) = rms x t * rms x t * rms x t := by
  have h := rms_arg_pos x t
  unfold rms
  generalize (∑ d ∈ range 1024, x t d * x t d) / 1024 + eps = s at h ⊢
  have hs := Real.sqrt_pos.2 h
  have e : (√s)⁻¹ * (√s)⁻¹ * (√s)⁻¹ = (√s)⁻¹ / (√s * √s) := by field_simp
  rw [e, Real.mul_self_sqrt h.le]

namespace Ffn

variable (N : Ffn)

/-- What the mean square contributes to the gradient of the tokens, as the reference writes it. -/
def s (t : ℕ) : ℝ :=
  (∑ e ∈ range 1024, N.x t e * (N.dh t e * N.g e)) *
    (-(1 / 2) * (rms N.x t / ((∑ d ∈ range 1024, N.x t d * N.x t d) / 1024 + eps))) / 1024

theorem dx_eq (t d : ℕ) :
    N.c t d + N.dh t d * N.g d * rms N.x t + N.x t d * N.s t + N.s t * N.x t d = N.dx t d := by
  unfold s dx xh
  rw [rms_div]
  have e : ∑ e ∈ range 1024, N.dh t e * N.g e * (N.x t e * rms N.x t) = (∑ e ∈ range 1024, N.x t e * (N.dh t e * N.g e)) * rms N.x t := by
    rw [sum_mul]; exact sum_congr rfl fun _ _ => by ring
  rw [e]; ring

end Ffn

namespace Ref

open Cert.Fox Cert.FfnReferenceIdeal Cert.FfnReferenceIdeal.Gen Cert.FfnReferenceIdeal.Read

variable {x0 x5 : (⟨S2048x1024, .f32⟩ : BufTy).Contents (Elt Ideal)} {x1 : (⟨S1024, .f32⟩ : BufTy).Contents (Elt Ideal)}
  {x2 x3 x4 : (⟨S1x2816x1024, .bf16⟩ : BufTy).Contents (Elt Ideal)} {N : Ffn}

/-- The reference's arguments hold the numbers of the layer, of its weights and of the gradient that arrives. -/
structure Given (x0 : (⟨S2048x1024, .f32⟩ : BufTy).Contents (Elt Ideal)) (x1 : (⟨S1024, .f32⟩ : BufTy).Contents (Elt Ideal))
    (x2 x3 x4 : (⟨S1x2816x1024, .bf16⟩ : BufTy).Contents (Elt Ideal)) (x5 : (⟨S2048x1024, .f32⟩ : BufTy).Contents (Elt Ideal)) (N : Ffn) : Prop where
  x : ∀ i : S2048x1024.Idx, x0 i = ((N.x (i 0).val (i 1).val : ℝ) : EReal)
  g : ∀ i : S1024.Idx, x1 i = ((N.g (i 0).val : ℝ) : EReal)
  wg : ∀ i : S1x2816x1024.Idx, x2 i = ((N.wg (i 1).val (i 2).val : ℝ) : EReal)
  wu : ∀ i : S1x2816x1024.Idx, x3 i = ((N.wu (i 1).val (i 2).val : ℝ) : EReal)
  wd : ∀ i : S1x2816x1024.Idx, x4 i = ((N.wd (i 1).val (i 2).val : ℝ) : EReal)
  c : ∀ i : S2048x1024.Idx, x5 i = ((N.c (i 0).val (i 1).val : ℝ) : EReal)

variable (H : Given x0 x1 x2 x3 x4 x5 N)
include H

/-- The mean squares, -/
theorem v9 (i : S2048x1.Idx) :
    val_main_v9 (F := Ideal) x0 i = ((((∑ d ∈ range 1024, N.x (i 0).val d * N.x (i 0).val d) / 1024 + eps : ℝ)) : EReal) := by
  have s : val_main_v5 (F := Ideal) x0 i = ((∑ d ∈ range 1024, N.x (i 0).val d * N.x (i 0).val d : ℝ) : EReal) :=
    (val_main_v5_apply ..).trans ((val_main_v4_apply ..).trans (sum_at (f := fun d => N.x (i 0).val d * N.x (i 0).val d)
      ((val_main_cst_apply _).trans zero_word) fun k => (val_main_v3_apply ..).trans (mul_at (H.x _) (H.x _))))
  have w : val_main_v6 (F := Ideal) i = ((1024 : ℝ) : EReal) := (val_main_v6_apply i).trans width
  have e : val_main_v8 (F := Ideal) i = ((eps : ℝ) : EReal) := (val_main_v8_apply i).trans small
  exact (val_main_v9_apply ..).trans (add_at ((val_main_v7_apply ..).trans (div_at s w (by norm_num))) e)

theorem v10 (i : S2048x1.Idx) : val_main_v10 (F := Ideal) x0 i = ((rms N.x (i 0).val : ℝ) : EReal) :=
  (val_main_v10_apply ..).trans (root_at (v9 H i) (rms_arg_pos _ _))

theorem v13 (i : S2048x1.Idx) : val_main_v13 (F := Ideal) x0 i
    = ((-(1 / 2) * (rms N.x (i 0).val / ((∑ d ∈ range 1024, N.x (i 0).val d * N.x (i 0).val d) / 1024 + eps)) : ℝ) : EReal) :=
  (val_main_v13_apply ..).trans (mul_at ((val_main_v12_apply i).trans minus_half)
    ((val_main_v11_apply ..).trans (div_at (v10 H i) (v9 H i) (rms_arg_pos _ _).ne')))

/-- the normalized tokens -/
theorem v15 (i : S2048x1024.Idx) : val_main_v15 (F := Ideal) x0 i = ((N.xh (i 0).val (i 1).val : ℝ) : EReal) :=
  (val_main_v15_apply ..).trans (mul_at (H.x i) ((val_main_v14_apply ..).trans (v10 H _)))

theorem v18 (i : S2048x1024.Idx) : val_main_v18 (F := Ideal) x0 x1 i = ((N.h (i 0).val (i 1).val : ℝ) : EReal) :=
  (val_main_v18_apply ..).trans (mul_at (v15 H i) ((val_main_v17_apply ..).trans ((val_main_v16_apply ..).trans (H.g _))))

/-- and the weights. -/
theorem v19 (i : S2816x1024.Idx) : val_main_v19 (F := Ideal) x2 i = ((N.wg (i 0).val (i 1).val : ℝ) : EReal) := by
  have h0 : (i 0).val < 2816 := (i 0).isLt
  have h1 : (i 1).val < 1024 := (i 1).isLt
  refine (val_main_v19_apply x2 i).trans ((val_main_v0_apply x2 _).trans ((H.wg _).trans ?_))
  change ((N.wg (((i 0).val * 1024 + (i 1).val) / 1024 % 2816) (((i 0).val * 1024 + (i 1).val) % 1024) : ℝ) : EReal) = _
  rw [show ((i 0).val * 1024 + (i 1).val) / 1024 % 2816 = (i 0).val by omega, show ((i 0).val * 1024 + (i 1).val) % 1024 = (i 1).val by omega]

theorem v20 (i : S1024x2816.Idx) : val_main_v20 (F := Ideal) x2 i = ((N.wg (i 1).val (i 0).val : ℝ) : EReal) :=
  (val_main_v20_apply x2 i).trans (v19 H _)

theorem v21 (i : S2816x1024.Idx) : val_main_v21 (F := Ideal) x3 i = ((N.wu (i 0).val (i 1).val : ℝ) : EReal) := by
  have h0 : (i 0).val < 2816 := (i 0).isLt
  have h1 : (i 1).val < 1024 := (i 1).isLt
  refine (val_main_v21_apply x3 i).trans ((val_main_v1_apply x3 _).trans ((H.wu _).trans ?_))
  change ((N.wu (((i 0).val * 1024 + (i 1).val) / 1024 % 2816) (((i 0).val * 1024 + (i 1).val) % 1024) : ℝ) : EReal) = _
  rw [show ((i 0).val * 1024 + (i 1).val) / 1024 % 2816 = (i 0).val by omega, show ((i 0).val * 1024 + (i 1).val) % 1024 = (i 1).val by omega]

theorem v22 (i : S1024x2816.Idx) : val_main_v22 (F := Ideal) x3 i = ((N.wu (i 1).val (i 0).val : ℝ) : EReal) :=
  (val_main_v22_apply x3 i).trans (v21 H _)

theorem v23 (i : S2816x1024.Idx) : val_main_v23 (F := Ideal) x4 i = ((N.wd (i 0).val (i 1).val : ℝ) : EReal) := by
  have h0 : (i 0).val < 2816 := (i 0).isLt
  have h1 : (i 1).val < 1024 := (i 1).isLt
  refine (val_main_v23_apply x4 i).trans ((val_main_v2_apply x4 _).trans ((H.wd _).trans ?_))
  change ((N.wd (((i 0).val * 1024 + (i 1).val) / 1024 % 2816) (((i 0).val * 1024 + (i 1).val) % 1024) : ℝ) : EReal) = _
  rw [show ((i 0).val * 1024 + (i 1).val) / 1024 % 2816 = (i 0).val by omega, show ((i 0).val * 1024 + (i 1).val) % 1024 = (i 1).val by omega]

/-- The gates, -/
theorem v24 (i : S2048x2816.Idx) : val_main_v24 (F := Ideal) x0 x1 x2 i = ((N.G (i 0).val (i 1).val : ℝ) : EReal) :=
  (val_main_v24_apply ..).trans (dot_at (f := fun k => N.h (i 0).val k) (g := fun k => N.wg (i 1).val k) (fun k => v18 H _) fun k => v20 H _)

/-- their logistic function, -/
theorem v25_2 (i : S2048x2816.Idx) : val_main_v25_2 (F := Ideal) x0 x1 x2 i = ((sg (N.G (i 0).val (i 1).val) : ℝ) : EReal) := by
  have o : val_main_call0_v4 (F := Ideal) i = ((1 : ℝ) : EReal) := (val_main_call0_v4_apply i).trans one
  have o' : val_main_call0_v2 (F := Ideal) i = ((1 : ℝ) : EReal) := (val_main_call0_v2_apply i).trans one
  have e := (val_main_call0_v1_apply x0 x1 x2 i).trans (exp_at ((val_main_call0_v0_apply x0 x1 x2 i).trans (neg_at (v24 H i))))
  have p : (1 : ℝ) + Real.exp (-N.G (i 0).val (i 1).val) ≠ 0 := (add_pos one_pos (Real.exp_pos _)).ne'
  refine ((val_main_v25_2_apply ..).trans (div_at o ((val_main_call0_v3_apply ..).trans (add_at o' e)) p)).trans ?_
  unfold sg; rw [one_div]

theorem v25_1 (i : S2048x2816.Idx) :
    val_main_v25_1 (F := Ideal) x0 x1 x2 i = ((sg (N.G (i 0).val (i 1).val) * (1 - sg (N.G (i 0).val (i 1).val)) : ℝ) : EReal) := by
  have o : val_main_call0_v6 (F := Ideal) i = ((1 : ℝ) : EReal) := (val_main_call0_v6_apply i).trans one
  exact (val_main_v25_1_apply ..).trans (mul_at (v25_2 H i) ((val_main_call0_v7_apply ..).trans (sub_at o (v25_2 H i))))

theorem v25_0 (i : S2048x2816.Idx) :
    val_main_v25_0 (F := Ideal) x0 x1 x2 i = ((N.G (i 0).val (i 1).val * sg (N.G (i 0).val (i 1).val) : ℝ) : EReal) :=
  (val_main_v25_0_apply ..).trans (mul_at (v24 H i) (v25_2 H i))

/-- the values -/
theorem v26 (i : S2048x2816.Idx) : val_main_v26 (F := Ideal) x0 x1 x3 i = ((N.U (i 0).val (i 1).val : ℝ) : EReal) :=
  (val_main_v26_apply ..).trans (dot_at (f := fun k => N.h (i 0).val k) (g := fun k => N.wu (i 1).val k) (fun k => v18 H _) fun k => v22 H _)

/-- and the hidden layer. -/
theorem v27 (i : S2048x2816.Idx) : val_main_v27 (F := Ideal) x0 x1 x2 x3 i = ((N.A (i 0).val (i 1).val : ℝ) : EReal) :=
  (val_main_v27_apply ..).trans (mul_at (v25_0 H i) (v26 H i))

/-- The output. -/
theorem v31 (i : S2048x1024.Idx) : val_main_v31 (F := Ideal) x0 x1 x2 x3 x4 i = ((N.y (i 0).val (i 1).val : ℝ) : EReal) := by
  have o : val_main_v29 (F := Ideal) i = ((1 / 2 : ℝ) : EReal) := (val_main_v29_apply i).trans half
  have d : val_main_v28 (F := Ideal) x0 x1 x2 x3 x4 i = ((∑ f ∈ range 2816, N.A (i 0).val f * N.wd f (i 1).val : ℝ) : EReal) :=
    (val_main_v28_apply ..).trans (dot_at (f := fun k => N.A (i 0).val k) (g := fun k => N.wd k (i 1).val) (fun k => v27 H _) fun k => v23 H _)
  exact (val_main_v31_apply ..).trans (add_at (H.x i) ((val_main_v30_apply ..).trans (mul_at o d)))

/-- Half the gradient that arrives. -/
theorem v34 (i : S2048x1024.Idx) : val_main_v34 (F := Ideal) x5 i = ((1 / 2 * N.c (i 0).val (i 1).val : ℝ) : EReal) := by
  have h0 : (i 0).val < 2048 := (i 0).isLt
  have h1 : (i 1).val < 1024 := (i 1).isLt
  have o : val_main_v33 (F := Ideal) i = ((1 / 2 : ℝ) : EReal) := (val_main_v33_apply i).trans half
  have d : val_main_v32 (F := Ideal) x5 i = ((N.c (i 0).val (i 1).val : ℝ) : EReal) := by
    refine (val_main_v32_apply x5 i).trans ((H.c _).trans ?_)
    change ((N.c (((i 0).val * 1024 + (i 1).val) / 1024) (((i 0).val * 1024 + (i 1).val) % 1024) : ℝ) : EReal) = _
    rw [show ((i 0).val * 1024 + (i 1).val) / 1024 = (i 0).val by omega, show ((i 0).val * 1024 + (i 1).val) % 1024 = (i 1).val by omega]
  exact (val_main_v34_apply ..).trans (mul_at o d)

/-- The gradient of the weight that goes down, -/
theorem v36 (i : S2816x1024.Idx) : val_main_v36 (F := Ideal) x0 x1 x2 x3 x5 i = ((N.dwd (i 0).val (i 1).val : ℝ) : EReal) := by
  refine (val_main_v36_apply ..).trans ((val_main_v35_apply ..).trans ((dot_at (f := fun k => 1 / 2 * N.c k (i 1).val)
    (g := fun k => N.A k (i 0).val) (fun k => v34 H (lidx_main_v35 (idx_main_v36 i) k)) fun k => v27 H (ridx_main_v35 (idx_main_v36 i) k)).trans ?_))
  congr 1
  unfold Ffn.dwd
  rw [mul_sum]; exact sum_congr rfl fun _ _ => by ring

/-- of the hidden layer, -/
theorem v37 (i : S2048x2816.Idx) : val_main_v37 (F := Ideal) x4 x5 i = ((N.dA (i 0).val (i 1).val : ℝ) : EReal) := by
  refine (val_main_v37_apply ..).trans ((dot_at (f := fun k => 1 / 2 * N.c (i 0).val k)
    (g := fun k => N.wd (i 1).val k) (fun k => v34 H _) fun k => v23 H _).trans ?_)
  congr 1
  unfold Ffn.dA
  rw [mul_sum]; exact sum_congr rfl fun _ _ => by ring

/-- of the values, -/
theorem v38 (i : S2048x2816.Idx) : val_main_v38 (F := Ideal) x0 x1 x2 x4 x5 i = ((N.dU (i 0).val (i 1).val : ℝ) : EReal) :=
  ((val_main_v38_apply ..).trans (mul_at (v25_0 H i) (v37 H i))).trans (congrArg _ (mul_comm _ _))

/-- and of the gates. -/
theorem v43 (i : S2048x2816.Idx) : val_main_v43 (F := Ideal) x0 x1 x2 x3 x4 x5 i = ((N.dG (i 0).val (i 1).val : ℝ) : EReal) := by
  have d := (val_main_v39_apply x0 x1 x3 x4 x5 i).trans (mul_at (v37 H i) (v26 H i))
  have a := (val_main_call1_v1_apply x0 x1 x2 x3 x4 x5 i).trans (mul_at d (v25_2 H i))
  have b := (val_main_call1_v2_apply x0 x1 x2 x3 x4 x5 i).trans
    (mul_at ((val_main_call1_v0_apply x0 x1 x2 x3 x4 x5 i).trans (mul_at (v24 H i) d)) (v25_1 H i))
  refine ((val_main_v43_apply ..).trans (add_at a b)).trans ?_
  congr 1
  unfold Ffn.dG
  ring

/-- The gradients of the other two weights. -/
theorem v41 (i : S1024x2816.Idx) : val_main_v41 (F := Ideal) x0 x1 x2 x4 x5 i = ((N.dwu (i 1).val (i 0).val : ℝ) : EReal) :=
  (val_main_v41_apply ..).trans ((val_main_v40_apply ..).trans (dot_at (f := fun k => N.dU k (i 1).val) (g := fun k => N.h k (i 0).val)
    (fun k => v38 H _) fun k => v18 H _))

theorem v45 (i : S1024x2816.Idx) : val_main_v45 (F := Ideal) x0 x1 x2 x3 x4 x5 i = ((N.dwg (i 1).val (i 0).val : ℝ) : EReal) :=
  (val_main_v45_apply ..).trans ((val_main_v44_apply ..).trans (dot_at (f := fun k => N.dG k (i 1).val) (g := fun k => N.h k (i 0).val)
    (fun k => v43 H _) fun k => v18 H _))

theorem v75 (i : S1x2816x1024.Idx) : val_main_v75 (F := Ideal) x0 x1 x2 x3 x4 x5 i = ((N.dwg (i 1).val (i 2).val : ℝ) : EReal) :=
  (val_main_v75_apply ..).trans ((val_main_v52_apply ..).trans ((val_main_v51_apply ..).trans (v45 H _)))

theorem v76 (i : S1x2816x1024.Idx) : val_main_v76 (F := Ideal) x0 x1 x2 x4 x5 i = ((N.dwu (i 1).val (i 2).val : ℝ) : EReal) :=
  (val_main_v76_apply ..).trans ((val_main_v50_apply ..).trans ((val_main_v49_apply ..).trans (v41 H _)))

theorem v77 (i : S1x2816x1024.Idx) : val_main_v77 (F := Ideal) x0 x1 x2 x3 x5 i = ((N.dwd (i 1).val (i 2).val : ℝ) : EReal) :=
  (val_main_v77_apply ..).trans ((val_main_v48_apply ..).trans (v36 H _))

/-- The gradient of the normalized tokens, -/
theorem v47 (i : S2048x1024.Idx) : val_main_v47 (F := Ideal) x0 x1 x2 x3 x4 x5 i = ((N.dh (i 0).val (i 1).val : ℝ) : EReal) := by
  have u : val_main_v42 (F := Ideal) x0 x1 x2 x3 x4 x5 i = ((∑ f ∈ range 2816, N.dU (i 0).val f * N.wu f (i 1).val : ℝ) : EReal) :=
    (val_main_v42_apply ..).trans (dot_at (f := fun k => N.dU (i 0).val k) (g := fun k => N.wu k (i 1).val) (fun k => v38 H _) fun k => v22 H _)
  have g : val_main_v46 (F := Ideal) x0 x1 x2 x3 x4 x5 i = ((∑ f ∈ range 2816, N.dG (i 0).val f * N.wg f (i 1).val : ℝ) : EReal) :=
    (val_main_v46_apply ..).trans (dot_at (f := fun k => N.dG (i 0).val k) (g := fun k => N.wg k (i 1).val) (fun k => v43 H _) fun k => v20 H _)
  exact ((val_main_v47_apply ..).trans (add_at u g)).trans (congrArg _ (add_comm _ _))

/-- of the gains -/
theorem v54 (i : S1024.Idx) : val_main_v54 (F := Ideal) x0 x1 x2 x3 x4 x5 i = ((N.dg (i 0).val : ℝ) : EReal) :=
  (val_main_v54_apply ..).trans ((sum_at (f := fun t => N.xh t (i 0).val * N.dh t (i 0).val)
    ((val_main_cst_5_apply _).trans zero_word) fun k => (val_main_v53_apply ..).trans (mul_at (v15 H _) (v47 H _))).trans
    (congrArg _ (sum_congr rfl fun _ _ => mul_comm _ _)))

theorem v55 (i : S1x1024.Idx) : val_main_v55 (F := Ideal) x0 x1 x2 x3 x4 x5 i = ((N.dg (i 1).val : ℝ) : EReal) := by
  have h0 : (i 0).val < 1 := (i 0).isLt
  refine (val_main_v55_apply ..).trans ((v54 H _).trans ?_)
  change ((N.dg ((i 0).val * 1024 + (i 1).val) : ℝ) : EReal) = _
  rw [show (i 0).val * 1024 + (i 1).val = (i 1).val by omega]

theorem v74 (i : S1x1024.Idx) : val_main_v74 (F := Ideal) x0 x1 x2 x3 x4 x5 i = ((N.dg (i 1).val : ℝ) : EReal) := by
  have h0 : (i 0).val < 1 := (i 0).isLt
  refine (val_main_v74_apply ..).trans ((val_main_v58_apply ..).trans ((sum_at (n := 1) (f := fun _ => N.dg ((i 0).val * 1024 + (i 1).val))
    ((val_main_cst_6_apply _).trans zero_word) fun k => v55 H (idx_main_v58 (idx_main_v74 i) k)).trans ?_))
  rw [sum_range_one, show (i 0).val * 1024 + (i 1).val = (i 1).val by omega]

/-- and of the tokens. -/
theorem v57 (i : S2048x1024.Idx) :
    val_main_v57 (F := Ideal) x0 x1 x2 x3 x4 x5 i = ((N.dh (i 0).val (i 1).val * N.g (i 1).val : ℝ) : EReal) :=
  (val_main_v57_apply ..).trans (mul_at (v47 H i) ((val_main_v56_apply ..).trans ((val_main_v16_apply ..).trans (H.g _))))

theorem v60 (i : S2048.Idx) : val_main_v60 (F := Ideal) x0 x1 x2 x3 x4 x5 i
    = ((∑ e ∈ range 1024, N.x (i 0).val e * (N.dh (i 0).val e * N.g e) : ℝ) : EReal) :=
  (val_main_v60_apply ..).trans (sum_at (f := fun e => N.x (i 0).val e * (N.dh (i 0).val e * N.g e))
    ((val_main_cst_7_apply _).trans zero_word) fun k => (val_main_v59_apply ..).trans (mul_at (H.x _) (v57 H _)))

theorem v69 (i : S2048x1024.Idx) : val_main_v69 (F := Ideal) x0 x1 x2 x3 x4 x5 i = ((N.s (i 0).val : ℝ) : EReal) := by
  have a : ∀ j : S2048x1.Idx, val_main_v61 (F := Ideal) x0 x1 x2 x3 x4 x5 j
      = ((∑ e ∈ range 1024, N.x (j 0).val e * (N.dh (j 0).val e * N.g e) : ℝ) : EReal) := fun j => by
    have h1 : (j 1).val < 1 := (j 1).isLt
    refine (val_main_v61_apply ..).trans ((v60 H _).trans ?_)
    change ((∑ e ∈ range 1024, N.x ((j 0).val * 1 + (j 1).val) e * (N.dh ((j 0).val * 1 + (j 1).val) e * N.g e) : ℝ) : EReal) = _
    rw [show (j 0).val * 1 + (j 1).val = (j 0).val by omega]
  have b : ∀ j : S2048x1.Idx, val_main_v67 (F := Ideal) x0 x1 x2 x3 x4 x5 j = ((N.s (j 0).val : ℝ) : EReal) := fun j =>
    (val_main_v67_apply ..).trans (div_at ((val_main_v65_apply ..).trans (mul_at (a j) (v13 H j)))
      ((val_main_v66_apply j).trans width) (by norm_num))
  refine (val_main_v69_apply ..).trans ((val_main_v68_apply ..).trans ((sum_at (n := 1) (f := fun _ => N.s (i 0).val)
    ((val_main_cst_9_apply _).trans zero_word) fun k => b _).trans ?_))
  rw [sum_range_one]

theorem v73 (i : S2048x1024.Idx) : val_main_v73 (F := Ideal) x0 x1 x2 x3 x4 x5 i = ((N.dx (i 0).val (i 1).val : ℝ) : EReal) := by
  have r : val_main_v62 (F := Ideal) x0 i = ((rms N.x (i 0).val : ℝ) : EReal) := (val_main_v62_apply x0 i).trans (v10 H _)
  have a := (val_main_v64_apply x0 x1 x2 x3 x4 x5 i).trans (add_at (H.c i) ((val_main_v63_apply ..).trans (mul_at (v57 H i) r)))
  have b := (val_main_v70_apply x0 x1 x2 x3 x4 x5 i).trans (mul_at (H.x i) (v69 H i))
  have d := (val_main_v72_apply x0 x1 x2 x3 x4 x5 i).trans (mul_at (v69 H i) (H.x i))
  exact ((val_main_v73_apply ..).trans (add_at ((val_main_v71_apply ..).trans (add_at a b)) d)).trans (congrArg _ (N.dx_eq _ _))

end Ref

end Cert.Net
-- ==== Proof.NetValue.lean ====
/- The idealized calls of the half-step FFN and its idealized reference agree on finite arguments: on the output and on the five gradients.
With it, the runs of the three programs. -/
module

public import proofs.«01_k».proof.Defs
public import proofs.«01_k».proof.Proof.Value
public import proofs.«01_k».proof.Proof.NetRun
public import proofs.«01_k».proof.Proof.NetRef
public import proofs.«01_k».proof.Proof.Gen.Ffn.Frame
public import proofs.«01_k».proof.Proof.Gen.FfnIdeal.Frame
public import proofs.«01_k».proof.Proof.Gen.FfnReferenceIdeal.Run

@[expose] public section

set_option maxRecDepth 16384

noncomputable section

namespace Cert.Net

open Idealize.ShloMosaic Idealize.SL.Sem Cert.Fox

/-- The calls run, and leave their arguments unchanged and every counter at zero. -/
theorem frame_ffn : Cert.quiescent_Ffn := fun m g _ => Cert.Ffn.Gen.frame m g

/-- The idealized calls run, and leave their arguments unchanged and every counter at zero. -/
theorem frame_ffnIdeal : Cert.quiescent_FfnIdeal := fun m g _ => Cert.FfnIdeal.Gen.frame m g

/-- The idealized reference runs, and leaves its arguments unchanged; it has no semaphores. -/
theorem frame_reference : Cert.quiescent_FfnReferenceIdeal := fun m g _ =>
  (θ_run Cert.FfnReferenceIdeal.defs _ _).mono
    (fun r h => ⟨fun c => (h c).2.2.2.2.2.2, Idealize.ShloMosaic.sem_eq_zero_of_no_sems (by decide) r.2⟩)
    (Cert.FfnReferenceIdeal.Value.run (F := Ideal) m g)

/-- Nothing is rewritten. -/
theorem preserves : Cert.preserves_Ffn_FfnIdeal := trivial

/-- The side conditions of the precondition. -/
theorem finite_facts : Cert.Pre_ffn_finite.Facts := by constructor <;> decide

/-- The number a box of one matrix holds at row `i` and column `j`. -/
def entry1 {a b : ℕ} (x : (⟨3, ![1, a, b]⟩ : Shape).Idx → EReal) (i j : ℕ) : ℝ :=
  if c : i < a ∧ j < b then (x (ix3 0 ⟨i, c.1⟩ ⟨j, c.2⟩)).toReal else 0

theorem entry1_eq {a b : ℕ} {x : (⟨3, ![1, a, b]⟩ : Shape).Idx → EReal} (h : ∀ i, x i = ((x i).toReal : EReal)) (n : Fin 1) (i : Fin a) (j : Fin b) :
    x (ix3 n i j) = (entry1 x i j : EReal) := by
  rw [h, Subsingleton.elim n 0]; unfold entry1; rw [dif_pos ⟨i.isLt, j.isLt⟩]

/-- The number a row holds at column `j`. -/
def entry0 {a : ℕ} (x : (⟨1, ![a]⟩ : Shape).Idx → EReal) (j : ℕ) : ℝ :=
  if c : j < a then (x (ix1 ⟨j, c⟩)).toReal else 0

theorem entry0_eq {a : ℕ} {x : (⟨1, ![a]⟩ : Shape).Idx → EReal} (h : ∀ i, x i = ((x i).toReal : EReal)) (j : Fin a) :
    x (ix1 j) = (entry0 x j : EReal) := by
  rw [h]; unfold entry0; rw [dif_pos j.isLt]

section

open Cert.FfnIdeal

variable (m : (ℓ : Loc nD τ sig) → Buf (Elt Ideal) ℓ) (c : Dev nD)

/-- The numbers of device `c`'s arguments. -/
def layerOf : Ffn where
  x := entry (a := 2048) (b := 1024) (m ((c.tc : Thread nD τ).loc main_arg0))
  g := entry0 (a := 1024) (m ((c.tc : Thread nD τ).loc main_arg1))
  wg := entry1 (a := 2816) (b := 1024) (m ((c.tc : Thread nD τ).loc main_arg2))
  wu := entry1 (a := 2816) (b := 1024) (m ((c.tc : Thread nD τ).loc main_arg3))
  wd := entry1 (a := 2816) (b := 1024) (m ((c.tc : Thread nD τ).loc main_arg4))
  c := entry (a := 2048) (b := 1024) (m ((c.tc : Thread nD τ).loc main_arg5))

/-- Finite arguments hold these numbers. -/
theorem args_of_finite (h : Cert.Pre_FfnIdeal_ffn_finite (hPre_ffn_finite := finite_facts) m) : Args m c (layerOf m c) := by
  obtain ⟨h0, h1, h2, h3, h4, h5⟩ := h c
  have r0 : ∀ i : (⟨2, ![2048, 1024]⟩ : Shape).Idx, (m ((c.tc : Thread nD τ).loc main_arg0) i : EReal)
      = ((EReal.toReal (m ((c.tc : Thread nD τ).loc main_arg0) i) : ℝ) : EReal) := fun i => real_of_finite inf_word (congrFun h0 i)
  have r1 : ∀ i : (⟨1, ![1024]⟩ : Shape).Idx, (m ((c.tc : Thread nD τ).loc main_arg1) i : EReal)
      = ((EReal.toReal (m ((c.tc : Thread nD τ).loc main_arg1) i) : ℝ) : EReal) := fun i => real_of_finite inf_word (congrFun h1 i)
  have r2 : ∀ i : (⟨3, ![1, 2816, 1024]⟩ : Shape).Idx, (m ((c.tc : Thread nD τ).loc main_arg2) i : EReal)
      = ((EReal.toReal (m ((c.tc : Thread nD τ).loc main_arg2) i) : ℝ) : EReal) := fun i => real_of_finite inf_word (congrFun h2 i)
  have r3 : ∀ i : (⟨3, ![1, 2816, 1024]⟩ : Shape).Idx, (m ((c.tc : Thread nD τ).loc main_arg3) i : EReal)
      = ((EReal.toReal (m ((c.tc : Thread nD τ).loc main_arg3) i) : ℝ) : EReal) := fun i => real_of_finite inf_word (congrFun h3 i)
  have r4 : ∀ i : (⟨3, ![1, 2816, 1024]⟩ : Shape).Idx, (m ((c.tc : Thread nD τ).loc main_arg4) i : EReal)
      = ((EReal.toReal (m ((c.tc : Thread nD τ).loc main_arg4) i) : ℝ) : EReal) := fun i => real_of_finite inf_word (congrFun h4 i)
  have r5 : ∀ i : (⟨2, ![2048, 1024]⟩ : Shape).Idx, (m ((c.tc : Thread nD τ).loc main_arg5) i : EReal)
      = ((EReal.toReal (m ((c.tc : Thread nD τ).loc main_arg5) i) : ℝ) : EReal) := fun i => real_of_finite inf_word (congrFun h5 i)
  exact ⟨fun i j => entry_eq r0 i j, fun j => entry0_eq r1 j, fun n i j => entry1_eq r2 n i j, fun n i j => entry1_eq r3 n i j,
    fun n i j => entry1_eq r4 n i j, fun i j => entry_eq r5 i j⟩

theorem ix1_eta {n : ℕ} (i : (⟨1, ![n]⟩ : Shape).Idx) : ix1 (n0 := n) (i 0) = i := by
  funext d; match d with | ⟨0, _⟩ => rfl

/-- The reference's arguments, being the calls', hold the same numbers. -/
theorem given_of_args {N : Ffn} (h : Args m c N) : Ref.Given (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) N where
  x i := (congrArg (m ((c.tc : Thread nD τ).loc main_arg0)) (ix2_eta i).symm).trans (h.x (i 0) (i 1))
  g i := (congrArg (m ((c.tc : Thread nD τ).loc main_arg1)) (ix1_eta i).symm).trans (h.g (i 0))
  wg i := (congrArg (m ((c.tc : Thread nD τ).loc main_arg2)) (ix3_eta i).symm).trans (h.wg (i 0) (i 1) (i 2))
  wu i := (congrArg (m ((c.tc : Thread nD τ).loc main_arg3)) (ix3_eta i).symm).trans (h.wu (i 0) (i 1) (i 2))
  wd i := (congrArg (m ((c.tc : Thread nD τ).loc main_arg4)) (ix3_eta i).symm).trans (h.wd (i 0) (i 1) (i 2))
  c i := (congrArg (m ((c.tc : Thread nD τ).loc main_arg5)) (ix2_eta i).symm).trans (h.c (i 0) (i 1))

end

open Cert.FfnIdeal Cert.FfnIdeal.Gen in
/-- On finite arguments the calls' output and their gradients of the tokens, of the gain and of the three weights are the reference's. -/
theorem algebraic : Cert.algebraic_FfnIdeal_FfnReferenceIdeal_pre_ffn_finite (hPre_ffn_finite := finite_facts) := by
  intro m g m' g' hp he
  refine ⟨fun c => W10 m g c (Proc.devRef .tc main_v3), fun c => W10 m g c (Proc.devRef .tc main_v9_0), fun c => W10 m g c (Proc.devRef .tc main_v9_1),
    fun c => W10 m g c (Proc.devRef .tc main_v6), fun c => W10 m g c (Proc.devRef .tc main_v7), fun c => W10 m g c (Proc.devRef .tc main_v5), ?_, ?_⟩
  · exact (θ_run (defs (F := Ideal)) _ _).mono (fun r h c =>
      ⟨h c _ (mem_uc main_v3 (by decide)), h c _ (mem_uc main_v9_0 (by decide)), h c _ (mem_uc main_v9_1 (by decide)),
        h c _ (mem_uc main_v6 (by decide)), h c _ (mem_uc main_v7 (by decide)), h c _ (mem_uc main_v5 (by decide)),
        (h c _ (mem_uc main_arg0 (by decide))).trans (W10_args m g c main_arg0 (by decide)),
        (h c _ (mem_uc main_arg1 (by decide))).trans (W10_args m g c main_arg1 (by decide)),
        (h c _ (mem_uc main_arg2 (by decide))).trans (W10_args m g c main_arg2 (by decide)),
        (h c _ (mem_uc main_arg3 (by decide))).trans (W10_args m g c main_arg3 (by decide)),
        (h c _ (mem_uc main_arg4 (by decide))).trans (W10_args m g c main_arg4 (by decide)),
        (h c _ (mem_uc main_arg5 (by decide))).trans (W10_args m g c main_arg5 (by decide))⟩) (run_ffn m g)
  · refine (θ_run (Cert.FfnReferenceIdeal.defs (F := Ideal)) _ _).mono (fun r h c => ?_) (Cert.FfnReferenceIdeal.Value.run (F := Ideal) m' g')
    obtain ⟨h0, h1, h2, h3, h4, h5, ha⟩ := h c
    have A := args_of_finite m c hp
    have G := given_of_args m c A
    obtain ⟨e0, e1, e2, e3, e4, e5⟩ := he c
    rw [← e0, ← e1, ← e2, ← e3, ← e4, ← e5] at G
    refine ⟨h0.trans ((Cert.FfnReferenceIdeal.Read.val_main_v31_eq ..).trans ?_), h1.trans ((Cert.FfnReferenceIdeal.Read.val_main_v73_eq m' c).trans ?_),
      h2.trans ((Cert.FfnReferenceIdeal.Read.val_main_v74_eq m' c).trans ?_), h3.trans ((Cert.FfnReferenceIdeal.Read.val_main_v75_eq m' c).trans ?_),
      h4.trans ((Cert.FfnReferenceIdeal.Read.val_main_v76_eq ..).trans ?_), h5.trans ((Cert.FfnReferenceIdeal.Read.val_main_v77_eq ..).trans ?_), ha⟩
    · exact matrix_eq (a := 2048) (b := 1024) (e := .f32) (final_y m g A) (Ref.v31 G)
    · exact matrix_eq (a := 2048) (b := 1024) (e := .f32) (final_dx m g A) (Ref.v73 G)
    · exact matrix_eq (a := 1) (b := 1024) (e := .f32) (f := fun _ => (layerOf m c).dg) (final_dg m g A) (Ref.v74 G)
    · exact box_eq (n := 1) (a := 2816) (b := 1024) (e := .bf16) (f := fun _ => (layerOf m c).dwg) (final_dwg m g A) (Ref.v75 G)
    · exact box_eq (n := 1) (a := 2816) (b := 1024) (e := .bf16) (f := fun _ => (layerOf m c).dwu) (final_dwu m g A) (Ref.v76 G)
    · exact box_eq (n := 1) (a := 2816) (b := 1024) (e := .bf16) (f := fun _ => (layerOf m c).dwd) (final_dwd m g A) (Ref.v77 G)

end Cert.Net
-- ==== Proof.Mem.lean ====
/- The cross attention to the memory in real numbers: what it computes, and its gradients. -/
module

public import proofs.«01_k».proof.Proof.Net
public import Mathlib.Algebra.BigOperators.Field

@[expose] public section

noncomputable section

namespace Cert.Mem

open Finset Cert.Net

/-- The arguments of the cross attention: the tokens `x`, the memory `m`, their gains `gx` and `gm`, the weights of the queries, of the keys
and values (a row per lane), and of the output, and the gradient `c` of the result. -/
structure Cross where
  x : ℕ → ℕ → ℝ
  m : ℕ → ℕ → ℝ
  gx : ℕ → ℝ
  gm : ℕ → ℝ
  wq : ℕ → ℕ → ℝ
  wkv : ℕ → ℕ → ℝ
  wo : ℕ → ℕ → ℝ
  c : ℕ → ℕ → ℝ

/-! Attention of one head: `q`, `k`, `v` are its queries, keys and values (position, lane), `g` the gradient of its output. -/

/-- The logit of query `t` at the memory's position `s`. -/
def logit (q k : ℕ → ℕ → ℝ) (t s : ℕ) : ℝ := (∑ l ∈ range 256, q t l * k s l) * (1 / 16)

/-- The row of weights that a row of logits gives. -/
def soft (S : ℕ → ℕ → ℝ) (t s : ℕ) : ℝ := Real.exp (S t s) / ∑ u ∈ range 256, Real.exp (S t u)

/-- The gradient of the logits, before the scale, from the weights `P` and their gradient `dP`; -/
def soft' (P dP : ℕ → ℕ → ℝ) (t s : ℕ) : ℝ := P t s * (dP t s - ∑ u ∈ range 256, P t u * dP t u) * (1 / 16)

/-- the gradient of the weights. -/
def dsoft (g v : ℕ → ℕ → ℝ) (t s : ℕ) : ℝ := ∑ l ∈ range 256, g t l * v s l

theorem soft_pos (S : ℕ → ℕ → ℝ) (t : ℕ) : 0 < ∑ u ∈ range 256, Real.exp (S t u) :=
  sum_pos (fun _ _ => Real.exp_pos _) ⟨0, by simp⟩

/-- A shift of a row of logits changes nothing. -/
theorem soft_shift (S : ℕ → ℕ → ℝ) (M : ℝ) (t s : ℕ) :
    Real.exp (S t s - M) / ∑ u ∈ range 256, Real.exp (S t u - M) = soft S t s := by
  unfold soft
  simp only [Real.exp_sub]
  rw [← sum_div]
  exact div_div_div_cancel_right₀ (Real.exp_pos M).ne' _ _

/-- The normalized rows of `x`, with the gain. -/
def normed (x : ℕ → ℕ → ℝ) (g : ℕ → ℝ) (t d : ℕ) : ℝ := x t d * rms x t * g d

/-- Columns `o` and further. -/
def from' (o : ℕ) (f : ℕ → ℕ → ℝ) (t l : ℕ) : ℝ := f t (o + l)

namespace Cross

variable (N : Cross)

/-- The normalized tokens, -/
def h : ℕ → ℕ → ℝ := normed N.x N.gx

/-- and the normalized memory. -/
def n : ℕ → ℕ → ℝ := normed N.m N.gm

/-- The queries of all heads, -/
def q (t e : ℕ) : ℝ := ∑ d ∈ range 1024, N.h t d * N.wq d e

/-- and the keys, followed by the values. -/
def kv (s e : ℕ) : ℝ := ∑ d ∈ range 1024, N.n s d * N.wkv e d

/-- The weights of head `a`. -/
def P (a : ℕ) : ℕ → ℕ → ℝ := soft (logit (from' (256 * a) N.q) (from' (256 * a) N.kv))

/-- The output of all heads. -/
def o (t e : ℕ) : ℝ := ∑ s ∈ range 256, N.P (e / 256) t s * N.kv s (1024 + e)

/-- The result. -/
def y (t d : ℕ) : ℝ := N.x t d + ∑ e ∈ range 1024, N.o t e * N.wo e d

/-- The gradient of the heads' output. -/
def do' (t e : ℕ) : ℝ := ∑ d ∈ range 1024, N.c t d * N.wo e d

/-- The gradient of the output's weight. -/
def dwo (e d : ℕ) : ℝ := ∑ t ∈ range 2048, N.o t e * N.c t d

/-- The gradient of the weights of head `a`, -/
def dP (a : ℕ) : ℕ → ℕ → ℝ := dsoft (from' (256 * a) N.do') (from' (1024 + 256 * a) N.kv)

/-- of its logits before the scale, -/
def dS (a : ℕ) : ℕ → ℕ → ℝ := soft' (N.P a) (N.dP a)

/-- of the queries, -/
def dq (t e : ℕ) : ℝ := ∑ s ∈ range 256, N.dS (e / 256) t s * N.kv s e

/-- what query `t` adds to the gradient of the keys and values, -/
def part (t s e : ℕ) : ℝ := if e < 1024 then N.dS (e / 256) t s * N.q t e else N.P ((e - 1024) / 256) t s * N.do' t (e - 1024)

/-- and that gradient. -/
def dkv (s e : ℕ) : ℝ := ∑ t ∈ range 2048, N.part t s e

/-- The gradient of the queries' weight, -/
def dwq (d e : ℕ) : ℝ := ∑ t ∈ range 2048, N.h t d * N.dq t e

/-- of the keys' and values', -/
def dwkv (e d : ℕ) : ℝ := ∑ s ∈ range 256, N.dkv s e * N.n s d

/-- of the normalized tokens, -/
def dh (t d : ℕ) : ℝ := ∑ e ∈ range 1024, N.dq t e * N.wq d e

/-- of the normalized memory, -/
def dn (s d : ℕ) : ℝ := ∑ e ∈ range 2048, N.dkv s e * N.wkv e d

/-- of the memory's gain, -/
def dgm (d : ℕ) : ℝ := ∑ s ∈ range 256, N.dn s d * (N.m s d * rms N.m s)

/-- The normalized tokens without the gain. -/
def xh (t d : ℕ) : ℝ := N.x t d * rms N.x t

/-- of the tokens, -/
def dx (t d : ℕ) : ℝ := N.c t d + rms N.x t * (N.dh t d * N.gx d - N.xh t d * ((∑ e ∈ range 1024, N.dh t e * N.gx e * N.xh t e) / 1024))

/-- and of their gain. -/
def dgx (d : ℕ) : ℝ := ∑ t ∈ range 2048, N.dh t d * N.xh t d

end Cross

end Cert.Mem
-- ==== Proof.MemOps.lean ====
/- The operations of attention to the memory read on arrays of reals: logits, weights, and their gradients. -/
module

public import proofs.«01_k».proof.Proof.NetBlocks
public import proofs.«01_k».proof.Proof.Mem

@[expose] public section

set_option maxRecDepth 16384

noncomputable section

namespace Cert.Mem

open Idealize.ShloMosaic Cert.Fox Cert.Net Finset

variable {a b n m k : ℕ} {φ : FTy}

theorem sixteenth : Ideal.ofBits .f32 0x3D800000#32 = ((1 / 16 : ℝ) : EReal) := by
  simp [Ideal.ofBits, Ideal.ieee]
  rw [← EReal.coe_mul]; norm_num

/-- A matrix with none of its columns masked. -/
theorem bare {x : FVec Ideal ⟨2, ![a, 256]⟩ φ} {f : ℕ → ℕ → ℝ} (hx : Real2 x f) : Masked x 255 f := fun i j => by
  have := j.isLt
  rw [hx i j, if_pos (by omega)]

/-- The largest entry of each row is a real number. -/
theorem row_max {x : FVec Ideal ⟨2, ![a, 256]⟩ .f32} {f : ℕ → ℕ → ℝ} (hx : Real2 x f)
    (h : (⟨2, ![a, 256]⟩ : Shape).Reduces [1] ⟨1, ![a]⟩) (h1) (h2) :
    ∃ M : ℕ → ℝ, Real1 (multiReduction .maximumf [1] ⟨1, ![a]⟩ x 0xFF800000#32 h h1 h2) M := (bare hx).rowMax (by omega) h h1 h2

/-- The logits of a head. -/
theorem logits {q : FVec Ideal ⟨2, ![a, 256]⟩ .bf16} {r : FVec Ideal ⟨2, ![256, 256]⟩ .bf16} {Q K : ℕ → ℕ → ℝ} (hq : Real2 q Q)
    (hr : Real2 r K) {wf} :
    Real2 (mulf (matmul ⟨[1], [1], [0], [0], [], [], wf⟩ none q r (constant (F := Ideal) ⟨2, ![a, 256]⟩ .f32 0x00000000#32))
      (broadcast ⟨2, ![a, 256]⟩ (Scalar.ofBits .f32 0x3D800000#32))) (logit Q K) :=
  (nt hq hr).mulf (splat sixteenth)

/-- The weights that they give. -/
theorem weights {S : FVec Ideal ⟨2, ![a, 256]⟩ .f32} {f : ℕ → ℕ → ℝ} (hS : Real2 S f) {h h1 h2 h' h1' h2' s0 s0' b0 b1} :
    Real2 (divf (exp (subf S (broadcastTo ⟨2, ![a, 256]⟩ (shapeCast ⟨2, ![a, 1]⟩
          (multiReduction .maximumf [1] ⟨1, ![a]⟩ S 0xFF800000#32 h h1 h2) s0) b0)))
        (broadcastTo ⟨2, ![a, 256]⟩ (shapeCast ⟨2, ![a, 1]⟩ (multiReduction .add [1] ⟨1, ![a]⟩ (exp (subf S (broadcastTo ⟨2, ![a, 256]⟩
          (shapeCast ⟨2, ![a, 1]⟩ (multiReduction .maximumf [1] ⟨1, ![a]⟩ S 0xFF800000#32 h h1 h2) s0) b0))) 0x00000000#32 h' h1' h2') s0') b1))
      (soft f) := by
  obtain ⟨M, hM⟩ := row_max hS h h1 h2
  have he : Real2 (exp (subf S (broadcastTo ⟨2, ![a, 256]⟩ (shapeCast ⟨2, ![a, 1]⟩
      (multiReduction .maximumf [1] ⟨1, ![a]⟩ S 0xFF800000#32 h h1 h2) s0) b0))) fun i j => Real.exp (f i j - M i) :=
    (Real2.exp_sub_row (bare hS) ((column hM s0).col b0)).congr fun i _ j hj => if_pos (by omega)
  refine ((he.divf ((column (he.rowSum h' h1' h2') s0').col b1)) fun i _ j _ => ?_).congr fun i _ j _ => soft_shift f (M i) i j
  exact (sum_pos (fun _ _ => Real.exp_pos _) ⟨0, by simp⟩).ne'

/-- The gradient of the weights. -/
theorem dweights {g : FVec Ideal ⟨2, ![a, 256]⟩ .bf16} {v : FVec Ideal ⟨2, ![256, 256]⟩ .bf16} {G V : ℕ → ℕ → ℝ} (hg : Real2 g G)
    (hv : Real2 v V) {wf} :
    Real2 (matmul ⟨[1], [1], [0], [0], [], [], wf⟩ none g v (constant (F := Ideal) ⟨2, ![a, 256]⟩ .f32 0x00000000#32)) (dsoft G V) :=
  nt hg hv

/-- The gradient of the logits. -/
theorem dlogits {p d : FVec Ideal ⟨2, ![a, 256]⟩ .f32} {P D : ℕ → ℕ → ℝ} (hp : Real2 p P) (hd : Real2 d D) {h h1 h2 s0 b0 ht} :
    Real2 (truncf .bf16 (mulf (mulf p (subf d (broadcastTo ⟨2, ![a, 256]⟩ (shapeCast ⟨2, ![a, 1]⟩
        (multiReduction .add [1] ⟨1, ![a]⟩ (mulf p d) 0x00000000#32 h h1 h2) s0) b0)))
      (broadcast ⟨2, ![a, 256]⟩ (Scalar.ofBits .f32 0x3D800000#32))) ht) (soft' P D) :=
  (((hp.mulf (hd.subf ((column ((hp.mulf hd).rowSum h h1 h2) s0).col b0))).mulf (splat sixteenth))).truncf ht

/-! ### Loads -/

section Reads

variable {sig : RefSig} {A : Memref sig .tc .vmem ⟨2, ![a, b]⟩ .f32} (hA : A.IsWhole) {B : Memref sig .tc .vmem ⟨2, ![a, b]⟩ .bf16}
  (hB : B.IsWhole) {D : Memref sig .tc .vmem ⟨3, ![1, a, b]⟩ .bf16} (hD : D.IsWhole)

theorem read_f32 {x : Vec Ideal ⟨2, ![a, b]⟩ .f32} {f : ℕ → ℕ → ℝ} (h : Held2 x f) {inb} :
    Real2 (φ := .f32) (View.readAt (Elt Ideal) A.view (Rect.unit (s := ⟨2, ![a, b]⟩) ![0, 0] ![a, b] inb).toLoadRect (hA.unread x)) f := by
  rw [View.readAt_eq_ld, hA.read_unread]
  exact all_f32 h

theorem read_bf16 {x : Vec Ideal ⟨2, ![a, b]⟩ .bf16} {f : ℕ → ℕ → ℝ} (h : Held2 x f) {inb} :
    Real2 (φ := .bf16) (View.readAt (Elt Ideal) B.view (Rect.unit (s := ⟨2, ![a, b]⟩) ![0, 0] ![a, b] inb).toLoadRect (hB.unread x)) f := by
  rw [View.readAt_eq_ld, hB.read_unread]
  exact all_bf16 h

theorem read_box {x : Vec Ideal ⟨3, ![1, a, b]⟩ .bf16} {f : ℕ → ℕ → ℝ} (h : Held3 x fun _ => f) {inb} :
    Real3 (φ := .bf16) (View.readAt (Elt Ideal) D.view (Rect.unit (s := ⟨3, ![1, a, b]⟩) ![0, 0, 0] ![1, a, b] inb).toLoadRect (hD.unread x))
      fun _ => f := fun l i j => by
  rw [View.readAt_eq_ld, hD.read_unread]
  exact (h.ld.congr (g := fun _ => f) fun _ _ i _ j _ => by rw [Nat.zero_add, Nat.zero_add]) l i j

/-- A load of the columns from `o` on. -/
theorem cols_at {x : Vec Ideal ⟨2, ![a, b]⟩ .bf16} {f : ℕ → ℕ → ℝ} (h : Held2 x f) (o : ℕ) {inb} :
    Real2 (φ := .bf16) (View.readAt (Elt Ideal) B.view (Rect.unit (s := ⟨2, ![a, b]⟩) ![0, o] ![a, n] inb).toLoadRect (hB.unread x))
      (from' o f) := by
  rw [View.readAt_eq_ld, hB.read_unread]
  exact real_bf16 (h.ld.congr fun i _ j _ => by rw [Nat.zero_add, from'])

theorem cols_f32 {x : Vec Ideal ⟨2, ![a, b]⟩ .f32} {f : ℕ → ℕ → ℝ} (h : Held2 x f) (o : ℕ) {inb} :
    Real2 (φ := .f32) (View.readAt (Elt Ideal) A.view (Rect.unit (s := ⟨2, ![a, b]⟩) ![0, o] ![a, n] inb).toLoadRect (hA.unread x))
      (from' o f) := by
  rw [View.readAt_eq_ld, hA.read_unread]
  exact real_f32 (h.ld.congr fun i _ j _ => by rw [Nat.zero_add, from'])

/-- The same, of an array of its own. -/
theorem cols_ld {x : Vec Ideal ⟨2, ![a, b]⟩ .bf16} {f : ℕ → ℕ → ℝ} (h : Held2 x f) (o : ℕ) {inb} :
    Real2 (φ := .bf16) (View.ld (Val := Elt Ideal) (S := ⟨2, ![a, b]⟩) x (Rect.unit ![0, o] ![a, n] inb)) (from' o f) :=
  real_bf16 (h.ld.congr fun i _ j _ => by rw [Nat.zero_add, from'])

end Reads

/-! ### Sums that grow by blocks of 256 columns -/

/-- The stores hold `f` in the blocks of columns of `D`, and `X` in all others. -/
def Grown (L : List (View.Piece (Elt Ideal) ⟨2, ![a, b]⟩ .f32)) (D : List ℕ) (X f : ℕ → ℕ → ℝ) : Prop :=
  Held2 (View.canon (Val := Elt Ideal) L : Vec Ideal ⟨2, ![a, b]⟩ .f32) fun i j => if j / 256 ∈ D then f i j else X i j

/-- One more block. -/
theorem Grown.cons {L : List (View.Piece (Elt Ideal) ⟨2, ![a, b]⟩ .f32)} {D : List ℕ} {X f : ℕ → ℕ → ℝ} (hL : Grown L D X f) (c : ℕ) {inb}
    {w : FVec Ideal ⟨2, ![a, 256]⟩ .f32} (hw : Real2 w (from' (256 * c) f)) :
    Grown ((⟨Rect.unit ![0, 256 * c] ![a, 256] inb, w⟩ : View.Piece (Elt Ideal) ⟨2, ![a, b]⟩ .f32) :: L) (c :: D) X f := fun i j => by
  rw [canon_cons2 (held_f32 hw)]
  have := i.isLt
  beta_reduce
  split
  · rename_i h
    rw [if_pos (by rw [show (j : ℕ) / 256 = c by omega]; exact List.mem_cons_self), Nat.sub_zero, from',
      show 256 * c + ((j : ℕ) - 256 * c) = j by omega]
  · rename_i h
    rw [hL i j]
    have : (j : ℕ) / 256 ≠ c := by omega
    simp [this]

/-- A load of a block that has not grown yet. -/
theorem Grown.load {L : List (View.Piece (Elt Ideal) ⟨2, ![a, b]⟩ .f32)} {D : List ℕ} {X f : ℕ → ℕ → ℝ} (hL : Grown L D X f) (c : ℕ) (hc : c ∉ D)
    {sig : RefSig} {κ : Kind} {sp : Space} (v : View sig κ sp ⟨2, ![a, b]⟩ .f32) {inb} :
    Real2 (φ := .f32) (v.readCov (Val := Elt Ideal) L (Rect.unit (s := ⟨2, ![a, b]⟩) ![0, 256 * c] ![a, 256] inb).toLoadRect)
      (from' (256 * c) X) :=
  real_f32 ((Held2.readCov hL v).congr fun i _ j hj => by
    rw [if_neg (by rw [show (256 * c + j) / 256 = c by omega]; exact hc), Nat.zero_add, from'])

/-- All blocks have grown. -/
theorem Grown.done {L : List (View.Piece (Elt Ideal) ⟨2, ![a, b]⟩ .f32)} {D : List ℕ} {X f : ℕ → ℕ → ℝ} (hL : Grown L D X f)
    (h : ∀ j < b, j / 256 ∈ D) : Held2 (View.canon (Val := Elt Ideal) L : Vec Ideal ⟨2, ![a, b]⟩ .f32) f :=
  Held2.congr hL fun i _ j hj => if_pos (h j hj)

end Cert.Mem
-- ==== Proof.MemBlocks.lean ====
/- What the calls around the attention leave of one block: the norms, the projections and their gradients. -/
module

public import proofs.«01_k».proof.Proof.MemOps
public import proofs.«01_k».proof.Proof.Gen.CrossIdeal.Frame

@[expose] public section

set_option maxRecDepth 16384

noncomputable section

namespace Cert.Mem

open Idealize.ShloMosaic Cert.Fox Cert.Net Cert.CrossIdeal Cert.CrossIdeal.Gen Finset

variable {a b n m k : ℕ}

/-- The first call leaves 512 rows of normalized tokens, -/
theorem block_h {x : Vec Ideal S512x1024 .f32} {g : Vec Ideal S1x1024 .f32} {X : ℕ → ℕ → ℝ} {w : ℕ → ℝ} (hx : Held2 x X)
    (hg : Held2 g fun _ j => w j) : Held2 (out0_2 x g : Vec Ideal ⟨2, ![512, 1024]⟩ .bf16) (normed X w) := by
  unfold out0_2
  exact whole2 (held_bf16 ((((all_f32 hx).mulf ((norm (all_f32 hx)).col broadcasts_S512x1_S512x1024)).mulf
    ((Real2.same (all_f32 hg) shapeCasts_S1x1024_S1x1024).row broadcasts_S1x1024_S512x1024)).truncf bitsLt_bf16_f32))

/-- the second the normalized memory, -/
theorem block_n {x : Vec Ideal S256x1024 .f32} {g : Vec Ideal S1x1024 .f32} {X : ℕ → ℕ → ℝ} {w : ℕ → ℝ} (hx : Held2 x X)
    (hg : Held2 g fun _ j => w j) : Held2 (out1_2 x g : Vec Ideal ⟨2, ![256, 1024]⟩ .bf16) (normed X w) := by
  unfold out1_2
  exact whole2 (held_bf16 ((((all_f32 hx).mulf ((norm (all_f32 hx)).col broadcasts_S256x1_S256x1024)).mulf
    ((Real2.same (all_f32 hg) shapeCasts_S1x1024_S1x1024).row broadcasts_S1x1024_S256x1024)).truncf bitsLt_bf16_f32))

/-- the third 512 rows of queries, -/
theorem block_q {x : Vec Ideal S512x1024 .bf16} {w : Vec Ideal S1x1024x1024 .bf16} {X W : ℕ → ℕ → ℝ} (hx : Held2 x X)
    (hw : Held3 w fun _ => W) : Held2 (out2_2 x w : Vec Ideal ⟨2, ![512, 1024]⟩ .bf16) fun i j => ∑ d ∈ range 1024, X i d * W d j := by
  unfold out2_2
  exact whole2 (held_bf16 ((nn (Real2.same (all_bf16 hx) shapeCasts_S512x1024_S512x1024)
    (weight hw shapeCasts_S1x1024x1024_S1024x1024)).truncf bitsLt_bf16_f32))

/-- the fourth the keys, or the values, -/
theorem block_kv {x : Vec Ideal S256x1024 .bf16} {w : Vec Ideal S1x1024x1024 .bf16} {X W : ℕ → ℕ → ℝ} (hx : Held2 x X)
    (hw : Held3 w fun _ => W) : Held2 (out3_2 x w : Vec Ideal ⟨2, ![256, 1024]⟩ .bf16) fun i j => ∑ d ∈ range 1024, X i d * W j d := by
  unfold out3_2
  exact whole2 (held_bf16 ((nt (Real2.same (all_bf16 hx) shapeCasts_S256x1024_S256x1024)
    (weight hw shapeCasts_S1x1024x1024_S1024x1024)).truncf bitsLt_bf16_f32))

/-- the sixth 512 rows of the result, -/
theorem block_y {p : Vec Ideal S512x1024 .bf16} {w : Vec Ideal S1x1024x1024 .bf16} {x : Vec Ideal S512x1024 .f32} {P W X : ℕ → ℕ → ℝ}
    (hp : Held2 p P) (hw : Held3 w fun _ => W) (hx : Held2 x X) :
    Held2 (out5_3 p w x : Vec Ideal ⟨2, ![512, 1024]⟩ .f32) fun i j => X i j + ∑ d ∈ range 1024, P i d * W d j := by
  unfold out5_3
  exact whole2 (held_f32 ((all_f32 hx).addf (once (nn (Real2.same (all_bf16 hp) shapeCasts_S512x1024_S512x1024)
    (weight hw shapeCasts_S1x1024x1024_S1024x1024)))))

/-- the seventh 512 rows of the gradient of the heads' output, -/
theorem block_do {x : Vec Ideal S512x1024 .f32} {w : Vec Ideal S1x1024x1024 .bf16} {X W : ℕ → ℕ → ℝ} (hx : Held2 x X)
    (hw : Held3 w fun _ => W) : Held2 (out6_2 x w : Vec Ideal ⟨2, ![512, 1024]⟩ .bf16) fun i j => ∑ d ∈ range 1024, X i d * W j d := by
  unfold out6_2
  exact whole2 (held_bf16 ((nt ((all_f32 hx).truncf bitsLt_bf16_f32)
    (weight hw shapeCasts_S1x1024x1024_S1024x1024)).truncf bitsLt_bf16_f32))

/-- the eighth 512 rows of the gradient of the output's weight, -/
theorem block_dwo {p : Vec Ideal S2048x512 .bf16} {c : Vec Ideal S2048x1024 .f32} {P C : ℕ → ℕ → ℝ} (hp : Held2 p P) (hc : Held2 c C) :
    Held3 (out7_2 p c : Vec Ideal ⟨3, ![1, 512, 1024]⟩ .bf16) fun _ i j => ∑ t ∈ range 2048, P t i * C t j := by
  unfold out7_2
  exact boxed ((once (tn (Real2.same (all_bf16 hp) shapeCasts_S2048x512_S2048x512) ((all_f32 hc).truncf bitsLt_bf16_f32))).truncf
    bitsLt_bf16_f32)

/-- the tenth 512 rows of the gradient of the queries' weight, -/
theorem block_dwq {p : Vec Ideal S2048x512 .bf16} {c : Vec Ideal S2048x1024 .bf16} {P C : ℕ → ℕ → ℝ} (hp : Held2 p P) (hc : Held2 c C) :
    Held3 (out9_2 p c : Vec Ideal ⟨3, ![1, 512, 1024]⟩ .bf16) fun _ i j => ∑ t ∈ range 2048, P t i * C t j := by
  unfold out9_2
  exact boxed ((once (tn (Real2.same (all_bf16 hp) shapeCasts_S2048x512_S2048x512)
    (Real2.same (all_bf16 hc) shapeCasts_S2048x1024_S2048x1024))).truncf bitsLt_bf16_f32)

/-- the twelfth the gradient of the normalized memory, -/
theorem block_dn {p : Vec Ideal S256x2048 .f32} {w : Vec Ideal S1x2048x1024 .bf16} {P W : ℕ → ℕ → ℝ} (hp : Held2 p P)
    (hw : Held3 w fun _ => W) : Held2 (out11_2 p w : Vec Ideal ⟨2, ![256, 1024]⟩ .f32) fun i j => ∑ d ∈ range 2048, P i d * W d j := by
  unfold out11_2
  exact whole2 (held_f32 (nn ((Real2.same (all_f32 hp) shapeCasts_S256x2048_S256x2048).truncf bitsLt_bf16_f32)
    (weight hw shapeCasts_S1x2048x1024_S2048x1024)))

/-- the thirteenth 512 rows of the gradient of the keys' and values' weight, -/
theorem block_dwkv {p : Vec Ideal S256x512 .f32} {c : Vec Ideal S256x1024 .bf16} {P C : ℕ → ℕ → ℝ} (hp : Held2 p P) (hc : Held2 c C) :
    Held3 (out12_2 p c : Vec Ideal ⟨3, ![1, 512, 1024]⟩ .bf16) fun _ i j => ∑ t ∈ range 256, P t i * C t j := by
  unfold out12_2
  exact boxed ((once (tn ((Real2.same (all_f32 hp) shapeCasts_S256x512_S256x512).truncf bitsLt_bf16_f32)
    (Real2.same (all_bf16 hc) shapeCasts_S256x1024_S256x1024))).truncf bitsLt_bf16_f32)

/-- and the last the gradient of the memory's gain. -/
theorem block_dgm {p x : Vec Ideal S256x1024 .f32} {g : Vec Ideal S1x1024 .f32} {P X : ℕ → ℕ → ℝ} (hp : Held2 p P) (hx : Held2 x X) :
    Held2 (out13_3 p x g : Vec Ideal ⟨2, ![1, 1024]⟩ .f32) fun _ j => ∑ i ∈ range 256, P i j * (X i j * rms X i) := by
  unfold out13_3
  exact whole2 (held_f32 ((((Real2.same (all_f32 hp) shapeCasts_S256x1024_S256x1024).mulf ((all_f32 hx).mulf
    ((norm (all_f32 hx)).col broadcasts_S256x1_S256x1024))).colSum reduces_S256x1024_S1024 (.inl rfl) rfl).toRow shapeCasts_S1024_S1x1024))

end Cert.Mem
-- ==== Proof.MemForward.lean ====
/- What the fifth call leaves of one block: the heads' output at 512 positions. -/
module

public import proofs.«01_k».proof.Proof.MemOps
public import proofs.«01_k».proof.Proof.Gen.CrossIdeal.Frame

@[expose] public section

set_option maxRecDepth 16384

noncomputable section

namespace Cert.Mem

open Idealize.ShloMosaic Cert.Fox Cert.Net Cert.CrossIdeal Cert.CrossIdeal.Gen Finset

/-- The output of all heads from the queries `Q`, and the keys followed by the values `K`. -/
def headsO (Q K : ℕ → ℕ → ℝ) (t e : ℕ) : ℝ :=
  ∑ s ∈ range 256, soft (logit (from' (256 * (e / 256)) Q) (from' (256 * (e / 256)) K)) t s * K s (1024 + e)

theorem headsO_block (Q K : ℕ → ℕ → ℝ) (c i j : ℕ) (hj : j < 256) :
    headsO Q K i (256 * c + j)
      = ∑ s ∈ range 256, soft (logit (from' (256 * c) Q) (from' (256 * c) K)) i s * from' (1024 + 256 * c) K s j := by
  unfold headsO
  rw [show (256 * c + j) / 256 = c by omega]
  exact sum_congr rfl fun s _ => by
    rw [← Nat.add_assoc]
    rfl

/-- One head's output, in its own columns. -/
theorem head_o {p : FVec Ideal ⟨2, ![512, 256]⟩ .f32} {v : FVec Ideal ⟨2, ![256, 256]⟩ .bf16} {Q K : ℕ → ℕ → ℝ} (c : ℕ)
    (hp : Real2 p (soft (logit (from' (256 * c) Q) (from' (256 * c) K)))) (hv : Real2 v (from' (1024 + 256 * c) K)) {wf ht ht'} :
    Held2 (e := .bf16) (truncf .bf16 (matmul (⟨[1], [0], [0], [1], [], [], wf⟩ : DotDims ⟨2, ![512, 256]⟩ ⟨2, ![256, 256]⟩ ⟨2, ![512, 256]⟩) none
      (truncf .bf16 p ht) v (constant (F := Ideal) ⟨2, ![512, 256]⟩ .f32 0x00000000#32)) ht') fun i j => headsO Q K i (256 * c + j) :=
  held_bf16 (((nn (hp.truncf ht) hv).truncf ht').congr fun i _ j hj => (headsO_block Q K c i j hj).symm)

/-- The fifth call leaves 512 rows of the heads' output. -/
theorem block_o {q : Vec Ideal S512x1024 .bf16} {kv : Vec Ideal S256x2048 .bf16} {Q K : ℕ → ℕ → ℝ} (hq : Held2 q Q) (hk : Held2 kv K) :
    Held2 (out4_2 q kv : Vec Ideal ⟨2, ![512, 1024]⟩ .bf16) (headsO Q K) := by
  unfold out4_2
  refine Cols.done (p := 1024) (Cols.cons (p := 768) (Cols.cons (p := 512) (Cols.cons (p := 256) (Cols.cons (p := 0) Cols.nil ?_) ?_) ?_) ?_) (le_refl _)
  · exact head_o 0 (weights (logits (Real2.same (cols_ld hq 0) shapeCasts_S512x256_S512x256)
      (Real2.same (cols_ld hk 0) shapeCasts_S256x256_S256x256))) (Real2.same (cols_ld hk 1024) shapeCasts_S256x256_S256x256)
  · exact head_o 1 (weights (b1 := broadcasts_S512x1_S512x256) (logits (Real2.same (cols_ld hq 256) shapeCasts_S512x256_S512x256)
      (Real2.same (cols_ld hk 256) shapeCasts_S256x256_S256x256))) (Real2.same (cols_ld hk 1280) shapeCasts_S256x256_S256x256)
  · exact head_o 2 (weights (b1 := broadcasts_S512x1_S512x256) (logits (Real2.same (cols_ld hq 512) shapeCasts_S512x256_S512x256)
      (Real2.same (cols_ld hk 512) shapeCasts_S256x256_S256x256))) (Real2.same (cols_ld hk 1536) shapeCasts_S256x256_S256x256)
  · exact head_o 3 (weights (b1 := broadcasts_S512x1_S512x256) (logits (Real2.same (cols_ld hq 768) shapeCasts_S512x256_S512x256)
      (Real2.same (cols_ld hk 768) shapeCasts_S256x256_S256x256))) (Real2.same (cols_ld hk 1792) shapeCasts_S256x256_S256x256)

end Cert.Mem
-- ==== Proof.MemBack.lean ====
/- The gradients of attention to the memory at 512 positions, head by head: the ninth call's vector operations. -/
module

public import proofs.«01_k».proof.Proof.MemOps
public import proofs.«01_k».proof.Proof.Gen.CrossIdeal.Frame

@[expose] public section

set_option maxRecDepth 16384

noncomputable section

namespace Cert.Mem

open Idealize.ShloMosaic Cert.Fox Cert.Net Cert.CrossIdeal Cert.CrossIdeal.Gen Finset

/-- The weights of head `c` from the queries `Q`, and the keys followed by the values `K`. -/
def headsP (Q K : ℕ → ℕ → ℝ) (c : ℕ) : ℕ → ℕ → ℝ := soft (logit (from' (256 * c) Q) (from' (256 * c) K))

/-- The gradient of its logits, from that of the output `G`. -/
def headsS (Q K G : ℕ → ℕ → ℝ) (c : ℕ) : ℕ → ℕ → ℝ :=
  soft' (headsP Q K c) (dsoft (from' (256 * c) G) (from' (1024 + 256 * c) K))

/-- The gradient of the queries. -/
def headsQ (Q K G : ℕ → ℕ → ℝ) (t e : ℕ) : ℝ := ∑ s ∈ range 256, headsS Q K G (e / 256) t s * K s e

/-- What 512 queries add to the gradient of the keys and values. -/
def headsK (Q K G : ℕ → ℕ → ℝ) (s e : ℕ) : ℝ :=
  ∑ t ∈ range 512, if e < 1024 then headsS Q K G (e / 256) t s * Q t e else headsP Q K ((e - 1024) / 256) t s * G t (e - 1024)

/-- That sum on top of an earlier one. -/
def plus (X f : ℕ → ℕ → ℝ) (s e : ℕ) : ℝ := X s e + f s e

section Heads

variable {Q K G X : ℕ → ℕ → ℝ}

/-- One head's gradient of the queries, -/
theorem back_q (c : ℕ) {d : FVec Ideal ⟨2, ![512, 256]⟩ .bf16} {r : FVec Ideal ⟨2, ![256, 256]⟩ .bf16} (hd : Real2 d (headsS Q K G c))
    (hr : Real2 r (from' (256 * c) K)) {wf ht} :
    Held2 (e := .bf16) (truncf .bf16 (matmul (⟨[1], [0], [0], [1], [], [], wf⟩ : DotDims ⟨2, ![512, 256]⟩ ⟨2, ![256, 256]⟩ ⟨2, ![512, 256]⟩) none
      d r (constant (F := Ideal) ⟨2, ![512, 256]⟩ .f32 0x00000000#32)) ht) fun i j => headsQ Q K G i (256 * c + j) :=
  held_bf16 (((nn hd hr).truncf ht).congr fun i _ j hj => by
    unfold headsQ
    rw [show (256 * c + j) / 256 = c by omega]
    rfl)

/-- of the keys, -/
theorem back_k (c : ℕ) (hc : c < 4) {d q : FVec Ideal ⟨2, ![512, 256]⟩ .bf16} {o : FVec Ideal ⟨2, ![256, 256]⟩ .f32}
    (hd : Real2 d (headsS Q K G c)) (hq : Real2 q (from' (256 * c) Q)) (ho : Real2 o (from' (256 * c) X)) {wf} :
    Real2 (addf o (matmul (⟨[0], [0], [1], [1], [], [], wf⟩ : DotDims ⟨2, ![512, 256]⟩ ⟨2, ![512, 256]⟩ ⟨2, ![256, 256]⟩) none
      d q (constant (F := Ideal) ⟨2, ![256, 256]⟩ .f32 0x00000000#32))) (from' (256 * c) (plus X (headsK Q K G))) :=
  (ho.addf (tn hd hq)).congr fun i _ j hj => by
    simp only [from', plus, headsK]
    rw [show (256 * c + j) / 256 = c by omega]
    simp only [if_pos (show 256 * c + j < 1024 by omega)]

/-- and of the values. -/
theorem back_v (c : ℕ) {p : FVec Ideal ⟨2, ![512, 256]⟩ .f32} {g : FVec Ideal ⟨2, ![512, 256]⟩ .bf16}
    {o : FVec Ideal ⟨2, ![256, 256]⟩ .f32} (hp : Real2 p (headsP Q K c)) (hg : Real2 g (from' (256 * c) G))
    (ho : Real2 o (from' (256 * (4 + c)) X)) {wf ht} :
    Real2 (addf o (matmul (⟨[0], [0], [1], [1], [], [], wf⟩ : DotDims ⟨2, ![512, 256]⟩ ⟨2, ![512, 256]⟩ ⟨2, ![256, 256]⟩) none
      (truncf .bf16 p ht) g (constant (F := Ideal) ⟨2, ![256, 256]⟩ .f32 0x00000000#32))) (from' (256 * (4 + c)) (plus X (headsK Q K G))) :=
  (ho.addf (tn (hp.truncf ht) hg)).congr fun i _ j hj => by
    simp only [from', plus, headsK]
    rw [show (256 * (4 + c) + j - 1024) / 256 = c by omega, show 256 * (4 + c) + j - 1024 = 256 * c + j by omega]
    simp only [if_neg (show ¬256 * (4 + c) + j < 1024 by omega)]

end Heads

section Pays

variable {q g : Vec Ideal S512x256 .bf16} {r v : Vec Ideal S256x256 .bf16} {o : Vec Ideal S256x256 .f32} {Q K G X : ℕ → ℕ → ℝ}

/-! The first head. -/

theorem pay6 (hq : Real2 (φ := .bf16) q (from' 0 Q)) (hr : Real2 (φ := .bf16) r (from' 0 K)) :
    Real2 (φ := .f32) (k8_pay6 q r) (headsP Q K 0) := by
  unfold k8_pay6 k8_pay3 k8_pay4
  exact weights (logits (Real2.same hq shapeCasts_S512x256_S512x256) (Real2.same hr shapeCasts_S256x256_S256x256))

theorem pay7 (hq : Real2 (φ := .bf16) q (from' 0 Q)) (hr : Real2 (φ := .bf16) r (from' 0 K)) (hg : Real2 (φ := .bf16) g (from' 0 G))
    (hv : Real2 (φ := .bf16) v (from' 1024 K)) : Real2 (φ := .bf16) (k8_pay7 q r g v) (headsS Q K G 0) := by
  unfold k8_pay7 k8_pay5
  exact dlogits (pay6 hq hr) (dweights (Real2.same hg shapeCasts_S512x256_S512x256) (Real2.same hv shapeCasts_S256x256_S256x256))

theorem pay8 (hq : Real2 (φ := .bf16) q (from' 0 Q)) (hr : Real2 (φ := .bf16) r (from' 0 K)) (hg : Real2 (φ := .bf16) g (from' 0 G))
    (hv : Real2 (φ := .bf16) v (from' 1024 K)) : Held2 (e := .bf16) (k8_pay8 q r g v) fun i j => headsQ Q K G i (0 + j) := by
  unfold k8_pay8 k8_pay4
  exact back_q 0 (pay7 hq hr hg hv) (Real2.same hr shapeCasts_S256x256_S256x256)

theorem pay9 (hq : Real2 (φ := .bf16) q (from' 0 Q)) (hr : Real2 (φ := .bf16) r (from' 0 K)) (hg : Real2 (φ := .bf16) g (from' 0 G))
    (hv : Real2 (φ := .bf16) v (from' 1024 K)) (ho : Real2 (φ := .f32) o (from' 0 X)) :
    Real2 (φ := .f32) (k8_pay9 (k8_pay3 q) (k8_pay7 q r g v) o) (from' (256 * 0) (plus X (headsK Q K G))) := by
  unfold k8_pay9 k8_pay3
  exact back_k 0 (by norm_num) (pay7 hq hr hg hv) (Real2.same hq shapeCasts_S512x256_S512x256) (Real2.same ho shapeCasts_S256x256_S256x256)

theorem pay10 (hq : Real2 (φ := .bf16) q (from' 0 Q)) (hr : Real2 (φ := .bf16) r (from' 0 K)) (hg : Real2 (φ := .bf16) g (from' 0 G))
    (ho : Real2 (φ := .f32) o (from' 1024 X)) :
    Real2 (φ := .f32) (k8_pay10 (k8_pay5 g) (k8_pay6 q r) o) (from' (256 * 4) (plus X (headsK Q K G))) := by
  unfold k8_pay10 k8_pay5
  exact back_v 0 (pay6 hq hr) (Real2.same hg shapeCasts_S512x256_S512x256) (Real2.same ho shapeCasts_S256x256_S256x256)

/-! The second head. -/

theorem pay14 (hq : Real2 (φ := .bf16) q (from' 256 Q)) (hr : Real2 (φ := .bf16) r (from' 256 K)) :
    Real2 (φ := .f32) (k8_pay14 q r) (headsP Q K 1) := by
  unfold k8_pay14 k8_pay11 k8_pay12
  exact weights (logits (Real2.same hq shapeCasts_S512x256_S512x256) (Real2.same hr shapeCasts_S256x256_S256x256))

theorem pay17 (hq : Real2 (φ := .bf16) q (from' 256 Q)) (hr : Real2 (φ := .bf16) r (from' 256 K)) (hg : Real2 (φ := .bf16) g (from' 256 G))
    (hv : Real2 (φ := .bf16) v (from' 1280 K)) :
    Real2 (φ := .bf16) (k8_pay17 (k8_pay14 q r) (k8_pay15 g v) (k8_pay16 q r g v)) (headsS Q K G 1) := by
  unfold k8_pay17 k8_pay16 k8_pay15 k8_pay13
  exact dlogits (pay14 hq hr) (dweights (Real2.same hg shapeCasts_S512x256_S512x256) (Real2.same hv shapeCasts_S256x256_S256x256))

theorem pay18 (hq : Real2 (φ := .bf16) q (from' 256 Q)) (hr : Real2 (φ := .bf16) r (from' 256 K)) (hg : Real2 (φ := .bf16) g (from' 256 G))
    (hv : Real2 (φ := .bf16) v (from' 1280 K)) :
    Held2 (e := .bf16) (k8_pay18 (k8_pay12 r) (k8_pay14 q r) (k8_pay15 g v) (k8_pay16 q r g v)) fun i j => headsQ Q K G i (256 + j) := by
  unfold k8_pay18 k8_pay12
  exact back_q 1 (pay17 hq hr hg hv) (Real2.same hr shapeCasts_S256x256_S256x256)

theorem pay19 (hq : Real2 (φ := .bf16) q (from' 256 Q)) (hr : Real2 (φ := .bf16) r (from' 256 K)) (hg : Real2 (φ := .bf16) g (from' 256 G))
    (hv : Real2 (φ := .bf16) v (from' 1280 K)) (ho : Real2 (φ := .f32) o (from' 256 X)) :
    Real2 (φ := .f32) (k8_pay19 (k8_pay11 q) (k8_pay14 q r) (k8_pay15 g v) (k8_pay16 q r g v) o)
      (from' (256 * 1) (plus X (headsK Q K G))) := by
  unfold k8_pay19 k8_pay11
  exact back_k 1 (by norm_num) (pay17 hq hr hg hv) (Real2.same hq shapeCasts_S512x256_S512x256) (Real2.same ho shapeCasts_S256x256_S256x256)

theorem pay20 (hq : Real2 (φ := .bf16) q (from' 256 Q)) (hr : Real2 (φ := .bf16) r (from' 256 K)) (hg : Real2 (φ := .bf16) g (from' 256 G))
    (ho : Real2 (φ := .f32) o (from' 1280 X)) :
    Real2 (φ := .f32) (k8_pay20 (k8_pay13 g) (k8_pay14 q r) o) (from' (256 * 5) (plus X (headsK Q K G))) := by
  unfold k8_pay20 k8_pay13
  exact back_v 1 (pay14 hq hr) (Real2.same hg shapeCasts_S512x256_S512x256) (Real2.same ho shapeCasts_S256x256_S256x256)

/-! The third head. -/

theorem pay25 (hq : Real2 (φ := .bf16) q (from' 512 Q)) (hr : Real2 (φ := .bf16) r (from' 512 K)) :
    Real2 (φ := .f32) (k8_pay25 (k8_pay24 q r)) (headsP Q K 2) := by
  unfold k8_pay25 k8_pay24 k8_pay21 k8_pay22
  exact weights (logits (Real2.same hq shapeCasts_S512x256_S512x256) (Real2.same hr shapeCasts_S256x256_S256x256))

theorem pay26 (hq : Real2 (φ := .bf16) q (from' 512 Q)) (hr : Real2 (φ := .bf16) r (from' 512 K)) (hg : Real2 (φ := .bf16) g (from' 512 G))
    (hv : Real2 (φ := .bf16) v (from' 1536 K)) :
    Real2 (φ := .bf16) (k8_pay26 (k8_pay23 g) (k8_pay24 q r) v) (headsS Q K G 2) := by
  unfold k8_pay26 k8_pay23
  exact dlogits (pay25 hq hr) (dweights (Real2.same hg shapeCasts_S512x256_S512x256) (Real2.same hv shapeCasts_S256x256_S256x256))

theorem pay27 (hq : Real2 (φ := .bf16) q (from' 512 Q)) (hr : Real2 (φ := .bf16) r (from' 512 K)) (hg : Real2 (φ := .bf16) g (from' 512 G))
    (hv : Real2 (φ := .bf16) v (from' 1536 K)) :
    Held2 (e := .bf16) (k8_pay27 (k8_pay22 r) (k8_pay23 g) (k8_pay24 q r) v) fun i j => headsQ Q K G i (512 + j) := by
  unfold k8_pay27 k8_pay22
  exact back_q 2 (pay26 hq hr hg hv) (Real2.same hr shapeCasts_S256x256_S256x256)

theorem pay28 (hq : Real2 (φ := .bf16) q (from' 512 Q)) (hr : Real2 (φ := .bf16) r (from' 512 K)) (hg : Real2 (φ := .bf16) g (from' 512 G))
    (hv : Real2 (φ := .bf16) v (from' 1536 K)) (ho : Real2 (φ := .f32) o (from' 512 X)) :
    Real2 (φ := .f32) (k8_pay28 (k8_pay21 q) (k8_pay23 g) (k8_pay24 q r) v o) (from' (256 * 2) (plus X (headsK Q K G))) := by
  unfold k8_pay28 k8_pay21
  exact back_k 2 (by norm_num) (pay26 hq hr hg hv) (Real2.same hq shapeCasts_S512x256_S512x256) (Real2.same ho shapeCasts_S256x256_S256x256)

theorem pay29 (hq : Real2 (φ := .bf16) q (from' 512 Q)) (hr : Real2 (φ := .bf16) r (from' 512 K)) (hg : Real2 (φ := .bf16) g (from' 512 G))
    (ho : Real2 (φ := .f32) o (from' 1536 X)) :
    Real2 (φ := .f32) (k8_pay29 (k8_pay23 g) (k8_pay24 q r) o) (from' (256 * 6) (plus X (headsK Q K G))) := by
  unfold k8_pay29 k8_pay23
  exact back_v 2 (pay25 hq hr) (Real2.same hg shapeCasts_S512x256_S512x256) (Real2.same ho shapeCasts_S256x256_S256x256)

/-! The fourth head. -/

theorem pay33 (hq : Real2 (φ := .bf16) q (from' 768 Q)) (hr : Real2 (φ := .bf16) r (from' 768 K)) :
    Real2 (φ := .f32) (k8_pay33 (k8_pay30 q) (k8_pay31 r)) (headsP Q K 3) := by
  unfold k8_pay33 k8_pay30 k8_pay31
  exact weights (logits (Real2.same hq shapeCasts_S512x256_S512x256) (Real2.same hr shapeCasts_S256x256_S256x256))

theorem pay34 (hq : Real2 (φ := .bf16) q (from' 768 Q)) (hr : Real2 (φ := .bf16) r (from' 768 K)) (hg : Real2 (φ := .bf16) g (from' 768 G))
    (hv : Real2 (φ := .bf16) v (from' 1792 K)) :
    Real2 (φ := .bf16) (k8_pay34 (k8_pay30 q) (k8_pay31 r) g v) (headsS Q K G 3) := by
  unfold k8_pay34 k8_pay32
  exact dlogits (pay33 hq hr) (dweights (Real2.same hg shapeCasts_S512x256_S512x256) (Real2.same hv shapeCasts_S256x256_S256x256))

theorem pay35 (hq : Real2 (φ := .bf16) q (from' 768 Q)) (hr : Real2 (φ := .bf16) r (from' 768 K)) (hg : Real2 (φ := .bf16) g (from' 768 G))
    (hv : Real2 (φ := .bf16) v (from' 1792 K)) :
    Held2 (e := .bf16) (k8_pay35 (k8_pay30 q) (k8_pay31 r) g v) fun i j => headsQ Q K G i (768 + j) := by
  unfold k8_pay35
  exact back_q 3 (pay34 hq hr hg hv) (Real2.same hr shapeCasts_S256x256_S256x256)

theorem pay36 (hq : Real2 (φ := .bf16) q (from' 768 Q)) (hr : Real2 (φ := .bf16) r (from' 768 K)) (hg : Real2 (φ := .bf16) g (from' 768 G))
    (hv : Real2 (φ := .bf16) v (from' 1792 K)) (ho : Real2 (φ := .f32) o (from' 768 X)) :
    Real2 (φ := .f32) (k8_pay36 (k8_pay30 q) (k8_pay31 r) g v o) (from' (256 * 3) (plus X (headsK Q K G))) := by
  unfold k8_pay36
  exact back_k 3 (by norm_num) (pay34 hq hr hg hv) (Real2.same hq shapeCasts_S512x256_S512x256) (Real2.same ho shapeCasts_S256x256_S256x256)

theorem pay1 (hq : Real2 (φ := .bf16) q (from' 768 Q)) (hr : Real2 (φ := .bf16) r (from' 768 K)) (hg : Real2 (φ := .bf16) g (from' 768 G))
    (ho : Real2 (φ := .f32) o (from' 1792 X)) :
    Real2 (φ := .f32) (k8_pay1 (k8_pay32 g) (k8_pay37 o) (k8_pay38 (k8_pay30 q) (k8_pay31 r))) (from' (256 * 7) (plus X (headsK Q K G))) := by
  unfold k8_pay1 k8_pay32 k8_pay37 k8_pay38
  exact back_v 3 (pay33 hq hr) (Real2.same hg shapeCasts_S512x256_S512x256) (Real2.same ho shapeCasts_S256x256_S256x256)

end Pays

end Cert.Mem
-- ==== Proof.MemBackRun.lean ====
/- The ninth call: the gradients of the queries, and of the keys and values in 512 positions on top of those before. -/
module

public import proofs.«01_k».proof.Proof.MemBack

@[expose] public section

set_option maxRecDepth 16384

noncomputable section

namespace Cert.Mem

open Idealize.ShloMosaic Cert.Fox Cert.Net Cert.CrossIdeal Cert.CrossIdeal.Gen Finset

/-- The blocks of 256 columns in `D` hold `f`. -/
def Done {a b : ℕ} (L : List (View.Piece (Elt Ideal) ⟨2, ![a, b]⟩ .f32)) (D : List ℕ) (f : ℕ → ℕ → ℝ) : Prop :=
  ∀ (i : Fin a) (j : Fin b), (j : ℕ) / 256 ∈ D → View.canon (Val := Elt Ideal) L (ix2 i j) = ((f i j : ℝ) : EReal)

theorem Done.nil {a b : ℕ} {f : ℕ → ℕ → ℝ} : Done ([] : List (View.Piece (Elt Ideal) ⟨2, ![a, b]⟩ .f32)) [] f :=
  fun _ _ h => absurd h List.not_mem_nil

/-- One more block. -/
theorem Done.cons {a b : ℕ} {L : List (View.Piece (Elt Ideal) ⟨2, ![a, b]⟩ .f32)} {D : List ℕ} {f : ℕ → ℕ → ℝ} (hL : Done L D f) (c : ℕ) {inb}
    {w : FVec Ideal ⟨2, ![a, 256]⟩ .f32} (hw : Real2 w (from' (256 * c) f)) :
    Done ((⟨Rect.unit ![0, 256 * c] ![a, 256] inb, w⟩ : View.Piece (Elt Ideal) ⟨2, ![a, b]⟩ .f32) :: L) (c :: D) f := fun i j hj => by
  rw [canon_cons2 (held_f32 hw)]
  have := i.isLt
  beta_reduce
  split
  · rename_i h
    rw [Nat.sub_zero, from', show 256 * c + ((j : ℕ) - 256 * c) = j by omega]
    rfl
  · rename_i h
    refine hL i j ((List.mem_cons.mp hj).resolve_left ?_)
    omega

theorem Done.all {a b : ℕ} {L : List (View.Piece (Elt Ideal) ⟨2, ![a, b]⟩ .f32)} {D : List ℕ} {f : ℕ → ℕ → ℝ} (hL : Done L D f)
    (h : ∀ j < b, j / 256 ∈ D) : Held2 (View.canon (Val := Elt Ideal) L : Vec Ideal ⟨2, ![a, b]⟩ .f32) f :=
  fun i j => hL i j (h j j.isLt)

/-- The eight blocks of 2048 columns, in the order of the stores. -/
theorem blocks {j : ℕ} (h : j < 2048) : j / 256 ∈ [7, 3, 6, 2, 5, 1, 4, 0] := by
  have : j / 256 < 8 := by omega
  generalize j / 256 = n at this
  simp only [List.mem_cons, List.not_mem_nil, or_false]
  omega

variable (d : Dev nD) (i : grid8.Coords) (arg1 : Memref sig .tc .vmem S512x1024 .bf16) (harg1 : arg1.IsWhole)
  (arg2 : Memref sig .tc .vmem S256x2048 .bf16) (harg2 : arg2.IsWhole) (arg3 : Memref sig .tc .vmem S512x1024 .bf16) (harg3 : arg3.IsWhole)
  (arg4 : Memref sig .tc .vmem S512x1024 .bf16) (harg4 : arg4.IsWhole) (arg5 : Memref sig .tc .vmem S256x2048 .f32) (harg5 : arg5.IsWhole)
  {x0 : Vec Ideal S512x1024 .bf16} {x1 : Vec Ideal S256x2048 .bf16} {x2 : Vec Ideal S512x1024 .bf16} {Q K G : ℕ → ℕ → ℝ}

/-- The gradient of the queries, at the first block, -/
theorem back_q_A (hc0 : cond8_0 i) (hq : Held2 x0 Q) (hk : Held2 x1 K) (hg : Held2 x2 G) :
    Held2 (View.canon (Val := Elt Ideal) (kernelRun8_A (F := Ideal) d i arg1 harg1 arg2 harg2 arg3 harg3 arg4 harg4 arg5 harg5 hc0 x0 x1 x2).1 : Vec Ideal ⟨2, ![512, 1024]⟩ .bf16) (headsQ Q K G) := by
  unfold kernelRun8_A
  refine Cols.done (p := 1024) (Cols.cons (p := 768) (Cols.cons (p := 512) (Cols.cons (p := 256) (Cols.cons (p := 0) Cols.nil ?_) ?_) ?_) ?_) (le_refl _)
  · exact pay8 (cols_at harg1 hq 0) (cols_at harg2 hk 0) (cols_at harg3 hg 0) (cols_at harg2 hk 1024)
  · exact pay18 (cols_at harg1 hq 256) (cols_at harg2 hk 256) (cols_at harg3 hg 256) (cols_at harg2 hk 1280)
  · exact pay27 (cols_at harg1 hq 512) (cols_at harg2 hk 512) (cols_at harg3 hg 512) (cols_at harg2 hk 1536)
  · exact pay35 (cols_at harg1 hq 768) (cols_at harg2 hk 768) (cols_at harg3 hg 768) (cols_at harg2 hk 1792)

/-- and at later ones. -/
theorem back_q_B (hc0 : ¬cond8_0 i) {xo : Vec Ideal S256x2048 .f32} (hq : Held2 x0 Q) (hk : Held2 x1 K) (hg : Held2 x2 G) :
    Held2 (View.canon (Val := Elt Ideal) (kernelRun8_B (F := Ideal) d i arg1 harg1 arg2 harg2 arg3 harg3 arg4 harg4 arg5 harg5 hc0 x0 x1 x2 xo).1 : Vec Ideal ⟨2, ![512, 1024]⟩ .bf16) (headsQ Q K G) := by
  unfold kernelRun8_B
  refine Cols.done (p := 1024) (Cols.cons (p := 768) (Cols.cons (p := 512) (Cols.cons (p := 256) (Cols.cons (p := 0) Cols.nil ?_) ?_) ?_) ?_) (le_refl _)
  · exact pay8 (cols_at harg1 hq 0) (cols_at harg2 hk 0) (cols_at harg3 hg 0) (cols_at harg2 hk 1024)
  · exact pay18 (cols_at harg1 hq 256) (cols_at harg2 hk 256) (cols_at harg3 hg 256) (cols_at harg2 hk 1280)
  · exact pay27 (cols_at harg1 hq 512) (cols_at harg2 hk 512) (cols_at harg3 hg 512) (cols_at harg2 hk 1536)
  · exact pay35 (cols_at harg1 hq 768) (cols_at harg2 hk 768) (cols_at harg3 hg 768) (cols_at harg2 hk 1792)

/-- The gradient of the keys and values, at later blocks, -/
theorem back_k_B (hc0 : ¬cond8_0 i) {xo : Vec Ideal S256x2048 .f32} {X : ℕ → ℕ → ℝ} (hq : Held2 x0 Q) (hk : Held2 x1 K) (hg : Held2 x2 G) (hX : Held2 xo X) :
    Held2 (View.canon (Val := Elt Ideal) (kernelRun8_B (F := Ideal) d i arg1 harg1 arg2 harg2 arg3 harg3 arg4 harg4 arg5 harg5 hc0 x0 x1 x2 xo).2.1 : Vec Ideal ⟨2, ![256, 2048]⟩ .f32)
      (plus X (headsK Q K G)) := by
  unfold kernelRun8_B
  refine Done.all ((((((((Done.nil.cons 0 ?_).cons 4 ?_).cons 1 ?_).cons 5 ?_).cons 2 ?_).cons 6 ?_).cons 3 ?_).cons 7 ?_) fun j hj => blocks hj
  · exact pay9 (cols_at harg1 hq 0) (cols_at harg2 hk 0) (cols_at harg3 hg 0) (cols_at harg2 hk 1024) (cols_f32 harg5 hX 0)
  · exact pay10 (cols_at harg1 hq 0) (cols_at harg2 hk 0) (cols_at harg3 hg 0) (cols_f32 harg5 hX 1024)
  · exact pay19 (cols_at harg1 hq 256) (cols_at harg2 hk 256) (cols_at harg3 hg 256) (cols_at harg2 hk 1280) (cols_f32 harg5 hX 256)
  · exact pay20 (cols_at harg1 hq 256) (cols_at harg2 hk 256) (cols_at harg3 hg 256) (cols_f32 harg5 hX 1280)
  · exact pay28 (cols_at harg1 hq 512) (cols_at harg2 hk 512) (cols_at harg3 hg 512) (cols_at harg2 hk 1536) (cols_f32 harg5 hX 512)
  · exact pay29 (cols_at harg1 hq 512) (cols_at harg2 hk 512) (cols_at harg3 hg 512) (cols_f32 harg5 hX 1536)
  · exact pay36 (cols_at harg1 hq 768) (cols_at harg2 hk 768) (cols_at harg3 hg 768) (cols_at harg2 hk 1792) (cols_f32 harg5 hX 768)
  · exact pay1 (cols_at harg1 hq 768) (cols_at harg2 hk 768) (cols_at harg3 hg 768) (cols_f32 harg5 hX 1792)

/-- and at the first. -/
theorem back_k_A (hc0 : cond8_0 i) (hq : Held2 x0 Q) (hk : Held2 x1 K) (hg : Held2 x2 G) :
    Held2 (View.canon (Val := Elt Ideal) (kernelRun8_A (F := Ideal) d i arg1 harg1 arg2 harg2 arg3 harg3 arg4 harg4 arg5 harg5 hc0 x0 x1 x2).2.1 : Vec Ideal ⟨2, ![256, 2048]⟩ .f32)
      (headsK Q K G) := by
  have g1 : Grown (a := 256) (b := 2048) (kernelRun8_A.sl.H4_1 (F := Ideal)) [] (fun _ _ => 0) (plus (fun _ _ => 0) (headsK Q K G)) := by
    unfold kernelRun8_A.sl.H4_1
    exact (whole2 (f := fun _ _ => 0) (held_f32 Real2.zero)).congr fun _ _ _ _ => rfl
  have g2 : Grown (a := 256) (b := 2048) (kernelRun8_A.sl.H4_2 (F := Ideal) d arg1 harg1 arg2 harg2 arg3 harg3 arg5 x0 x1 x2) [0] (fun _ _ => 0) (plus (fun _ _ => 0) (headsK Q K G)) := by
    unfold kernelRun8_A.sl.H4_2
    exact g1.cons 0 (pay9 (cols_at harg1 hq 0) (cols_at harg2 hk 0) (cols_at harg3 hg 0) (cols_at harg2 hk 1024) (g1.load 0 (by decide) arg5.view))
  have g3 : Grown (a := 256) (b := 2048) (kernelRun8_A.sl.H4_3 (F := Ideal) d arg1 harg1 arg2 harg2 arg3 harg3 arg5 x0 x1 x2) [4, 0] (fun _ _ => 0) (plus (fun _ _ => 0) (headsK Q K G)) := by
    unfold kernelRun8_A.sl.H4_3
    exact g2.cons 4 (pay10 (cols_at harg1 hq 0) (cols_at harg2 hk 0) (cols_at harg3 hg 0) (g2.load 4 (by decide) arg5.view))
  have g4 : Grown (a := 256) (b := 2048) (kernelRun8_A.sl.H4_4 (F := Ideal) d arg1 harg1 arg2 harg2 arg3 harg3 arg5 x0 x1 x2) [1, 4, 0] (fun _ _ => 0) (plus (fun _ _ => 0) (headsK Q K G)) := by
    unfold kernelRun8_A.sl.H4_4
    exact g3.cons 1 (pay19 (cols_at harg1 hq 256) (cols_at harg2 hk 256) (cols_at harg3 hg 256) (cols_at harg2 hk 1280) (g3.load 1 (by decide) arg5.view))
  have g5 : Grown (a := 256) (b := 2048) (kernelRun8_A.sl.H4_5 (F := Ideal) d arg1 harg1 arg2 harg2 arg3 harg3 arg5 x0 x1 x2) [5, 1, 4, 0] (fun _ _ => 0) (plus (fun _ _ => 0) (headsK Q K G)) := by
    unfold kernelRun8_A.sl.H4_5
    exact g4.cons 5 (pay20 (cols_at harg1 hq 256) (cols_at harg2 hk 256) (cols_at harg3 hg 256) (g4.load 5 (by decide) arg5.view))
  have g6 : Grown (a := 256) (b := 2048) (kernelRun8_A.sl.H4_6 (F := Ideal) d arg1 harg1 arg2 harg2 arg3 harg3 arg5 x0 x1 x2) [2, 5, 1, 4, 0] (fun _ _ => 0) (plus (fun _ _ => 0) (headsK Q K G)) := by
    unfold kernelRun8_A.sl.H4_6
    exact g5.cons 2 (pay28 (cols_at harg1 hq 512) (cols_at harg2 hk 512) (cols_at harg3 hg 512) (cols_at harg2 hk 1536) (g5.load 2 (by decide) arg5.view))
  have g7 : Grown (a := 256) (b := 2048) (kernelRun8_A.sl.H4_7 (F := Ideal) d arg1 harg1 arg2 harg2 arg3 harg3 arg5 x0 x1 x2) [6, 2, 5, 1, 4, 0] (fun _ _ => 0) (plus (fun _ _ => 0) (headsK Q K G)) := by
    unfold kernelRun8_A.sl.H4_7
    exact g6.cons 6 (pay29 (cols_at harg1 hq 512) (cols_at harg2 hk 512) (cols_at harg3 hg 512) (g6.load 6 (by decide) arg5.view))
  have g8 : Grown (a := 256) (b := 2048) (kernelRun8_A.sl.H4_8 (F := Ideal) d arg1 harg1 arg2 harg2 arg3 harg3 arg5 x0 x1 x2) [3, 6, 2, 5, 1, 4, 0] (fun _ _ => 0) (plus (fun _ _ => 0) (headsK Q K G)) := by
    unfold kernelRun8_A.sl.H4_8
    exact g7.cons 3 (pay36 (cols_at harg1 hq 768) (cols_at harg2 hk 768) (cols_at harg3 hg 768) (cols_at harg2 hk 1792) (g7.load 3 (by decide) arg5.view))
  unfold kernelRun8_A
  exact ((g8.cons 7 (pay1 (cols_at harg1 hq 768) (cols_at harg2 hk 768) (cols_at harg3 hg 768) (g8.load 7 (by decide) arg5.view))).done fun j hj => blocks hj).congr fun _ _ _ _ => zero_add _

end Cert.Mem
-- ==== Proof.MemLast.lean ====
/- What the eleventh call leaves of one block of 256 rows: the gradient of the tokens, and the growing gradient of their gain. -/
module

public import proofs.«01_k».proof.Proof.MemOps
public import proofs.«01_k».proof.Proof.NetLast
public import proofs.«01_k».proof.Proof.Gen.CrossIdeal.Frame

@[expose] public section

set_option maxRecDepth 16384

noncomputable section

namespace Cert.Mem

open Idealize.ShloMosaic Cert.Fox Cert.Net Cert.CrossIdeal Cert.CrossIdeal.Gen Finset

section Last

/-- The gradient of the normalized tokens, from those of the queries `P` and the weights `W`. -/
def lastH (P W : ℕ → ℕ → ℝ) (i j : ℕ) : ℝ := ∑ e ∈ range 1024, P i e * W j e

variable {p : Vec Ideal S256x1024 .bf16} {u : Vec Ideal S1x1024x1024 .bf16} {x c : Vec Ideal S256x1024 .f32} {g o : Vec Ideal S1x1024 .f32}
  {P U X C : ℕ → ℕ → ℝ} {w s : ℕ → ℝ}

theorem last_h (hp : Real2 (φ := .bf16) p P) (hu : Real3 (φ := .bf16) u fun _ => U) : Real2 (φ := .f32) (k10_pay3 p u) (lastH P U) := by
  unfold k10_pay3
  exact nt (Real2.same hp shapeCasts_S256x1024_S256x1024) (unbox hu shapeCasts_S1x1024x1024_S1024x1024)

theorem last_r (hx : Real2 (φ := .f32) x X) : Real2 (φ := .f32) (k10_pay4 x) fun i _ => rms X i := by
  unfold k10_pay4
  exact norm hx

theorem last_xh (hx : Real2 (φ := .f32) x X) : Real2 (φ := .f32) (k10_pay5 x) fun i j => X i j * rms X i := by
  unfold k10_pay5
  exact hx.mulf ((last_r hx).col broadcasts_S256x1_S256x1024)

theorem last_x (hp : Real2 (φ := .bf16) p P) (hu : Real3 (φ := .bf16) u fun _ => U) (hx : Real2 (φ := .f32) x X)
    (hg : Real2 (φ := .f32) g fun _ j => w j) (hc : Real2 (φ := .f32) c C) :
    Held2 (e := .f32) (k10_pay7 p u x g c) (lastX C (lastH P U) X w) := by
  unfold k10_pay7
  have hm := (last_h hp hu).mulf ((Real2.same hg shapeCasts_S1x1024_S1x1024).row broadcasts_S1x1024_S256x1024)
  exact held_f32 (hc.addf (((last_r hx).col broadcasts_S256x1_S256x1024).mulf (hm.subf ((last_xh hx).mulf (((column ((hm.mulf
    (last_xh hx)).rowSum reduces_S256x1024_S256 (.inl rfl) rfl) shapeCasts_S256_S256x1).divf (splat width) fun _ _ _ _ => by norm_num).col
      broadcasts_S256x1_S256x1024)))))

theorem last_g (hp : Real2 (φ := .bf16) p P) (hu : Real3 (φ := .bf16) u fun _ => U) (hx : Real2 (φ := .f32) x X)
    (ho : Real2 (φ := .f32) o fun _ j => s j) :
    Held2 (e := .f32) (k10_pay2 (k10_pay6 p u x) o) fun _ j => s j + ∑ i ∈ range 256, lastH P U i j * (X i j * rms X i) := by
  unfold k10_pay2 k10_pay6
  exact held_f32 ((Real2.same ho shapeCasts_S1x1024_S1x1024).addf ((((last_h hp hu).mulf (last_xh hx)).colSum
    reduces_S256x1024_S1024 (.inl rfl) rfl).toRow shapeCasts_S1024_S1x1024))

end Last

section Runs

variable (d : Dev nD) (i : grid10.Coords)
  (arg1 : Memref sig .tc .vmem S256x1024 .bf16) (harg1 : arg1.IsWhole)
  (arg2 : Memref sig .tc .vmem S1x1024x1024 .bf16) (harg2 : arg2.IsWhole)
  (arg3 : Memref sig .tc .vmem S256x1024 .f32) (harg3 : arg3.IsWhole)
  (arg4 : Memref sig .tc .vmem S1x1024 .f32) (harg4 : arg4.IsWhole)
  (arg5 : Memref sig .tc .vmem S256x1024 .f32) (harg5 : arg5.IsWhole)
  (arg6 : Memref sig .tc .vmem S256x1024 .f32) (harg6 : arg6.IsWhole)
  (arg7 : Memref sig .tc .vmem S1x1024 .f32) (harg7 : arg7.IsWhole)
  {p : Vec Ideal S256x1024 .bf16} {u : Vec Ideal S1x1024x1024 .bf16} {x c : Vec Ideal S256x1024 .f32} {g o : Vec Ideal S1x1024 .f32}
  {P U X C : ℕ → ℕ → ℝ} {w s : ℕ → ℝ}

/-- At the first block the call leaves 256 rows of the gradient of the tokens -/
theorem run_x_A (h0 : cond10_0 i) (hp : Held2 p P) (hu : Held3 u fun _ => U) (hx : Held2 x X) (hg : Held2 g fun _ j => w j) (hc : Held2 c C) :
    Held2 (View.canon (Val := Elt Ideal) (kernelRun10_A (F := Ideal) d i arg1 harg1 arg2 harg2 arg3 harg3 arg4 harg4 arg5 harg5 arg6 harg6 arg7 harg7 h0 p u x g c).1 : Vec Ideal ⟨2, ![256, 1024]⟩ .f32)
      (lastX C (lastH P U) X w) := by
  unfold kernelRun10_A
  dsimp only
  exact over2 (last_x (read_bf16 harg1 hp) (read_box harg2 hu) (read_f32 harg3 hx) (read_f32 harg4 hg) (read_f32 harg5 hc))

/-- and at each later one, -/
theorem run_x_B (h0 : ¬cond10_0 i) (hp : Held2 p P) (hu : Held3 u fun _ => U) (hx : Held2 x X) (hg : Held2 g fun _ j => w j) (hc : Held2 c C) :
    Held2 (View.canon (Val := Elt Ideal) (kernelRun10_B (F := Ideal) d i arg1 harg1 arg2 harg2 arg3 harg3 arg4 harg4 arg5 harg5 arg6 harg6 arg7 harg7 h0 p u x g c o).1 : Vec Ideal ⟨2, ![256, 1024]⟩ .f32)
      (lastX C (lastH P U) X w) := by
  unfold kernelRun10_B
  dsimp only
  exact over2 (last_x (read_bf16 harg1 hp) (read_box harg2 hu) (read_f32 harg3 hx) (read_f32 harg4 hg) (read_f32 harg5 hc))

/-- and these rows' part of the gradient of the gain, at the first block alone, -/
theorem run_g_A (h0 : cond10_0 i) (hp : Held2 p P) (hu : Held3 u fun _ => U) (hx : Held2 x X) :
    Held2 (View.canon (Val := Elt Ideal) (kernelRun10_A (F := Ideal) d i arg1 harg1 arg2 harg2 arg3 harg3 arg4 harg4 arg5 harg5 arg6 harg6 arg7 harg7 h0 p u x g c).2.1 : Vec Ideal ⟨2, ![1, 1024]⟩ .f32)
      fun _ j => ∑ i ∈ range 256, lastH P U i j * (X i j * rms X i) := by
  unfold kernelRun10_A
  dsimp only
  have hz : Held2 (e := .f32) (a := 1) (b := 1024) (k10_pay1 (F := Ideal)) fun _ _ => 0 := held_f32 (splat (by simp))
  refine (over2 (last_g (read_bf16 harg1 hp) (read_box harg2 hu) (read_f32 harg3 hx)
    (real_f32 ((Held2.readCov (over2 hz) arg7.view).congr fun _ _ _ _ => rfl)))).congr fun _ _ j _ => ?_
  exact zero_add _

/-- and on top of the earlier blocks' at each later one. -/
theorem run_g_B (h0 : ¬cond10_0 i) (hp : Held2 p P) (hu : Held3 u fun _ => U) (hx : Held2 x X) (ho : Held2 o fun _ j => s j) :
    Held2 (View.canon (Val := Elt Ideal) (kernelRun10_B (F := Ideal) d i arg1 harg1 arg2 harg2 arg3 harg3 arg4 harg4 arg5 harg5 arg6 harg6 arg7 harg7 h0 p u x g c o).2.1 : Vec Ideal ⟨2, ![1, 1024]⟩ .f32)
      fun _ j => s j + ∑ i ∈ range 256, lastH P U i j * (X i j * rms X i) := by
  unfold kernelRun10_B
  dsimp only
  exact over2 (last_g (read_bf16 harg1 hp) (read_box harg2 hu) (read_f32 harg3 hx) (read_f32 harg7 ho))

end Runs

end Cert.Mem
-- ==== Proof.MemArrays.lean ====
/- The blocks of the cross attention's calls as blocks of their arrays, and the arrays that blocks make up. -/
module

public import proofs.«01_k».proof.Proof.Blocks
public import proofs.«01_k».proof.Proof.Gen.CrossIdeal.Frame
public import Idealize.ShloMosaic.Lib.Pipeline.ValueKit

@[expose] public section

set_option maxRecDepth 16384

noncomputable section

namespace Cert.Mem

open Idealize.ShloMosaic Idealize.ShloMosaic.TcCoe Cert.Fox Cert.CrossIdeal Cert.CrossIdeal.Gen Finset
open Idealize.ShloMosaic.Pipeline (Dat)

/-- Where the windows of call 0 stand at point `t`. -/
theorem at0 : ∀ t : Fin cfg0.N, win0_0.index t = ![(t : ℕ), 0]
    ∧ win0_1.index t = ![0, 0]
    ∧ win0_2.index t = ![(t : ℕ), 0] := by decide +kernel

/-- Where the windows of call 1 stand at point `t`. -/
theorem at1 : ∀ t : Fin cfg1.N, win1_0.index t = ![0, 0]
    ∧ win1_1.index t = ![0, 0]
    ∧ win1_2.index t = ![0, 0] := by decide +kernel

/-- Where the windows of call 2 stand at point `t`. -/
theorem at2 : ∀ t : Fin cfg2.N, win2_0.index t = ![(t : ℕ), 0]
    ∧ win2_1.index t = ![0, 0, 0]
    ∧ win2_2.index t = ![(t : ℕ), 0] := by decide +kernel

/-- Where the windows of call 3 stand at point `t`. -/
theorem at3 : ∀ t : Fin cfg3.N, win3_0.index t = ![0, 0]
    ∧ win3_1.index t = ![0, (t : ℕ), 0]
    ∧ win3_2.index t = ![0, (t : ℕ)] := by decide +kernel

/-- Where the windows of call 4 stand at point `t`. -/
theorem at4 : ∀ t : Fin cfg4.N, win4_0.index t = ![(t : ℕ), 0]
    ∧ win4_1.index t = ![0, 0]
    ∧ win4_2.index t = ![(t : ℕ), 0] := by decide +kernel

/-- Where the windows of call 5 stand at point `t`. -/
theorem at5 : ∀ t : Fin cfg5.N, win5_0.index t = ![(t : ℕ), 0]
    ∧ win5_1.index t = ![0, 0, 0]
    ∧ win5_2.index t = ![(t : ℕ), 0]
    ∧ win5_3.index t = ![(t : ℕ), 0] := by decide +kernel

/-- Where the windows of call 6 stand at point `t`. -/
theorem at6 : ∀ t : Fin cfg6.N, win6_0.index t = ![(t : ℕ), 0]
    ∧ win6_1.index t = ![0, 0, 0]
    ∧ win6_2.index t = ![(t : ℕ), 0] := by decide +kernel

/-- Where the windows of call 7 stand at point `t`. -/
theorem at7 : ∀ t : Fin cfg7.N, win7_0.index t = ![0, (t : ℕ)]
    ∧ win7_1.index t = ![0, 0]
    ∧ win7_2.index t = ![0, (t : ℕ), 0] := by decide +kernel

/-- Where the windows of call 8 stand at point `t`. -/
theorem at8 : ∀ t : Fin cfg8.N, win8_0.index t = ![(t : ℕ), 0]
    ∧ win8_1.index t = ![0, 0]
    ∧ win8_2.index t = ![(t : ℕ), 0]
    ∧ win8_3.index t = ![(t : ℕ), 0] := by decide +kernel

/-- Where the windows of call 9 stand at point `t`. -/
theorem at9 : ∀ t : Fin cfg9.N, win9_0.index t = ![0, (t : ℕ)]
    ∧ win9_1.index t = ![0, 0]
    ∧ win9_2.index t = ![0, (t : ℕ), 0] := by decide +kernel

/-- Where the windows of call 10 stand at point `t`. -/
theorem at10 : ∀ t : Fin cfg10.N, win10_0.index t = ![(t : ℕ), 0]
    ∧ win10_1.index t = ![0, 0, 0]
    ∧ win10_2.index t = ![(t : ℕ), 0]
    ∧ win10_3.index t = ![0, 0]
    ∧ win10_4.index t = ![(t : ℕ), 0]
    ∧ win10_5.index t = ![(t : ℕ), 0] := by decide +kernel

/-- Where the windows of call 11 stand at point `t`. -/
theorem at11 : ∀ t : Fin cfg11.N, win11_0.index t = ![0, 0]
    ∧ win11_1.index t = ![0, 0, 0]
    ∧ win11_2.index t = ![0, 0] := by decide +kernel

/-- Where the windows of call 12 stand at point `t`. -/
theorem at12 : ∀ t : Fin cfg12.N, win12_0.index t = ![0, (t : ℕ)]
    ∧ win12_1.index t = ![0, 0]
    ∧ win12_2.index t = ![0, (t : ℕ), 0] := by decide +kernel

/-- Where the windows of call 13 stand at point `t`. -/
theorem at13 : ∀ t : Fin cfg13.N, win13_0.index t = ![0, 0]
    ∧ win13_1.index t = ![0, 0]
    ∧ win13_2.index t = ![0, 0]
    ∧ win13_3.index t = ![0, 0] := by decide +kernel

section

variable (V : (c : Dev nD) → (b : Ref sig .tc) → Buf (Elt Ideal) ((c : Thread nD τ).loc b)) (c : Dev nD)

theorem in0_0 (t : Fin cfg0.N) {f : ℕ → ℕ → ℝ} (h : Held2 (a := 2048) (b := 1024) (e := .f32) (V c main_arg0) f) :
    Held2 (a := 512) (b := 1024) (e := .f32) (iblk0 V c 0 t) fun i j => f (512 * t + i) j := fun i j => by
  have ht : (t : ℕ) < 4 := t.isLt
  have e := h ⟨512 * t + i, by omega⟩ j
  refine Eq.trans ?_ e
  blk_ext [iblk0, at0 t]

theorem in0_1 (t : Fin cfg0.N) {f : ℕ → ℕ → ℝ} (h : Held2 (a := 1) (b := 1024) (e := .f32) (V c main_v0) f) :
    Held2 (a := 1) (b := 1024) (e := .f32) (iblk0 V c 1 t) fun i j => f i j := fun i j => by
  have ht : (t : ℕ) < 4 := t.isLt
  have e := h i j
  refine Eq.trans ?_ e
  blk_ext [iblk0, at0 t]

theorem of0_2 {f : ℕ → ℕ → ℝ}
    (h : ∀ t : Fin cfg0.N, Held2 (a := 512) (b := 1024) (e := .bf16) ((dat0 V c).after 2 t) fun i j => f (512 * t + i) j) :
    Held2 (a := 2048) (b := 1024) (e := .bf16) ((dat0 V c).arrAt 2 cfg0.N) f := by
  have hA := (dat0 V c).arrAt_eq_of_covers 2 (fun i : (⟨2, ![2048, 1024]⟩ : Shape).Idx => (Holds.at' (f (i 0) (i 1)) : Elt Ideal .bf16))
    (by decide +kernel) fun t hf y => ?_
  · exact fun i j => (congrFun hA (ix2 i j)).trans rfl
  · have e := h t (y 0) (y 1)
    blk_simp
    refine (Eq.trans (by congr 1; blk_ext) e).trans ?_
    blk_simp [at0 t]
    rw [Nat.mul_comm 512 t]

theorem in1_0 (t : Fin cfg1.N) {f : ℕ → ℕ → ℝ} (h : Held2 (a := 256) (b := 1024) (e := .f32) (V c main_arg1) f) :
    Held2 (a := 256) (b := 1024) (e := .f32) (iblk1 V c 0 t) fun i j => f i j := fun i j => by
  have ht : (t : ℕ) < 1 := t.isLt
  have e := h i j
  refine Eq.trans ?_ e
  blk_ext [iblk1, at1 t]

theorem in1_1 (t : Fin cfg1.N) {f : ℕ → ℕ → ℝ} (h : Held2 (a := 1) (b := 1024) (e := .f32) (V c main_v2) f) :
    Held2 (a := 1) (b := 1024) (e := .f32) (iblk1 V c 1 t) fun i j => f i j := fun i j => by
  have ht : (t : ℕ) < 1 := t.isLt
  have e := h i j
  refine Eq.trans ?_ e
  blk_ext [iblk1, at1 t]

theorem of1_2 {f : ℕ → ℕ → ℝ}
    (h : ∀ t : Fin cfg1.N, Held2 (a := 256) (b := 1024) (e := .bf16) ((dat1 V c).after 2 t) fun i j => f i j) :
    Held2 (a := 256) (b := 1024) (e := .bf16) ((dat1 V c).arrAt 2 cfg1.N) f := by
  have hA := (dat1 V c).arrAt_eq_of_covers 2 (fun i : (⟨2, ![256, 1024]⟩ : Shape).Idx => (Holds.at' (f (i 0) (i 1)) : Elt Ideal .bf16))
    (by decide +kernel) fun t hf y => ?_
  · exact fun i j => (congrFun hA (ix2 i j)).trans rfl
  · have e := h t (y 0) (y 1)
    blk_simp
    refine (Eq.trans (by congr 1; blk_ext) e).trans ?_
    blk_simp [at1 t]

theorem in2_0 (t : Fin cfg2.N) {f : ℕ → ℕ → ℝ} (h : Held2 (a := 2048) (b := 1024) (e := .bf16) (V c main_v1) f) :
    Held2 (a := 512) (b := 1024) (e := .bf16) (iblk2 V c 0 t) fun i j => f (512 * t + i) j := fun i j => by
  have ht : (t : ℕ) < 4 := t.isLt
  have e := h ⟨512 * t + i, by omega⟩ j
  refine Eq.trans ?_ e
  blk_ext [iblk2, at2 t]

theorem in2_1 (t : Fin cfg2.N) {f : ℕ → ℕ → ℝ} (h : Held3 (n := 1) (a := 1024) (b := 1024) (e := .bf16) (V c main_arg4) (fun _ => f)) :
    Held3 (n := 1) (a := 1024) (b := 1024) (e := .bf16) (iblk2 V c 1 t) fun _ i j => f i j := fun l i j => by
  have ht : (t : ℕ) < 4 := t.isLt
  have e := h l i j
  refine Eq.trans ?_ e
  blk_ext [iblk2, at2 t]

theorem of2_2 {f : ℕ → ℕ → ℝ}
    (h : ∀ t : Fin cfg2.N, Held2 (a := 512) (b := 1024) (e := .bf16) ((dat2 V c).after 2 t) fun i j => f (512 * t + i) j) :
    Held2 (a := 2048) (b := 1024) (e := .bf16) ((dat2 V c).arrAt 2 cfg2.N) f := by
  have hA := (dat2 V c).arrAt_eq_of_covers 2 (fun i : (⟨2, ![2048, 1024]⟩ : Shape).Idx => (Holds.at' (f (i 0) (i 1)) : Elt Ideal .bf16))
    (by decide +kernel) fun t hf y => ?_
  · exact fun i j => (congrFun hA (ix2 i j)).trans rfl
  · have e := h t (y 0) (y 1)
    blk_simp
    refine (Eq.trans (by congr 1; blk_ext) e).trans ?_
    blk_simp [at2 t]
    rw [Nat.mul_comm 512 t]

theorem in3_0 (t : Fin cfg3.N) {f : ℕ → ℕ → ℝ} (h : Held2 (a := 256) (b := 1024) (e := .bf16) (V c main_v3) f) :
    Held2 (a := 256) (b := 1024) (e := .bf16) (iblk3 V c 0 t) fun i j => f i j := fun i j => by
  have ht : (t : ℕ) < 2 := t.isLt
  have e := h i j
  refine Eq.trans ?_ e
  blk_ext [iblk3, at3 t]

theorem in3_1 (t : Fin cfg3.N) {f : ℕ → ℕ → ℝ} (h : Held3 (n := 1) (a := 2048) (b := 1024) (e := .bf16) (V c main_arg5) (fun _ => f)) :
    Held3 (n := 1) (a := 1024) (b := 1024) (e := .bf16) (iblk3 V c 1 t) fun _ i j => f (1024 * t + i) j := fun l i j => by
  have ht : (t : ℕ) < 2 := t.isLt
  have e := h l ⟨1024 * t + i, by omega⟩ j
  refine Eq.trans ?_ e
  blk_ext [iblk3, at3 t]

theorem of3_2 {f : ℕ → ℕ → ℝ}
    (h : ∀ t : Fin cfg3.N, Held2 (a := 256) (b := 1024) (e := .bf16) ((dat3 V c).after 2 t) fun i j => f i (1024 * t + j)) :
    Held2 (a := 256) (b := 2048) (e := .bf16) ((dat3 V c).arrAt 2 cfg3.N) f := by
  have hA := (dat3 V c).arrAt_eq_of_covers 2 (fun i : (⟨2, ![256, 2048]⟩ : Shape).Idx => (Holds.at' (f (i 0) (i 1)) : Elt Ideal .bf16))
    (by decide +kernel) fun t hf y => ?_
  · exact fun i j => (congrFun hA (ix2 i j)).trans rfl
  · have e := h t (y 0) (y 1)
    blk_simp
    refine (Eq.trans (by congr 1; blk_ext) e).trans ?_
    blk_simp [at3 t]
    rw [Nat.mul_comm 1024 t]

theorem in4_0 (t : Fin cfg4.N) {f : ℕ → ℕ → ℝ} (h : Held2 (a := 2048) (b := 1024) (e := .bf16) (V c main_v4) f) :
    Held2 (a := 512) (b := 1024) (e := .bf16) (iblk4 V c 0 t) fun i j => f (512 * t + i) j := fun i j => by
  have ht : (t : ℕ) < 4 := t.isLt
  have e := h ⟨512 * t + i, by omega⟩ j
  refine Eq.trans ?_ e
  blk_ext [iblk4, at4 t]

theorem in4_1 (t : Fin cfg4.N) {f : ℕ → ℕ → ℝ} (h : Held2 (a := 256) (b := 2048) (e := .bf16) (V c main_v5) f) :
    Held2 (a := 256) (b := 2048) (e := .bf16) (iblk4 V c 1 t) fun i j => f i j := fun i j => by
  have ht : (t : ℕ) < 4 := t.isLt
  have e := h i j
  refine Eq.trans ?_ e
  blk_ext [iblk4, at4 t]

theorem of4_2 {f : ℕ → ℕ → ℝ}
    (h : ∀ t : Fin cfg4.N, Held2 (a := 512) (b := 1024) (e := .bf16) ((dat4 V c).after 2 t) fun i j => f (512 * t + i) j) :
    Held2 (a := 2048) (b := 1024) (e := .bf16) ((dat4 V c).arrAt 2 cfg4.N) f := by
  have hA := (dat4 V c).arrAt_eq_of_covers 2 (fun i : (⟨2, ![2048, 1024]⟩ : Shape).Idx => (Holds.at' (f (i 0) (i 1)) : Elt Ideal .bf16))
    (by decide +kernel) fun t hf y => ?_
  · exact fun i j => (congrFun hA (ix2 i j)).trans rfl
  · have e := h t (y 0) (y 1)
    blk_simp
    refine (Eq.trans (by congr 1; blk_ext) e).trans ?_
    blk_simp [at4 t]
    rw [Nat.mul_comm 512 t]

theorem in5_0 (t : Fin cfg5.N) {f : ℕ → ℕ → ℝ} (h : Held2 (a := 2048) (b := 1024) (e := .bf16) (V c main_v6) f) :
    Held2 (a := 512) (b := 1024) (e := .bf16) (iblk5 V c 0 t) fun i j => f (512 * t + i) j := fun i j => by
  have ht : (t : ℕ) < 4 := t.isLt
  have e := h ⟨512 * t + i, by omega⟩ j
  refine Eq.trans ?_ e
  blk_ext [iblk5, at5 t]

theorem in5_1 (t : Fin cfg5.N) {f : ℕ → ℕ → ℝ} (h : Held3 (n := 1) (a := 1024) (b := 1024) (e := .bf16) (V c main_arg6) (fun _ => f)) :
    Held3 (n := 1) (a := 1024) (b := 1024) (e := .bf16) (iblk5 V c 1 t) fun _ i j => f i j := fun l i j => by
  have ht : (t : ℕ) < 4 := t.isLt
  have e := h l i j
  refine Eq.trans ?_ e
  blk_ext [iblk5, at5 t]

theorem in5_2 (t : Fin cfg5.N) {f : ℕ → ℕ → ℝ} (h : Held2 (a := 2048) (b := 1024) (e := .f32) (V c main_arg0) f) :
    Held2 (a := 512) (b := 1024) (e := .f32) (iblk5 V c 2 t) fun i j => f (512 * t + i) j := fun i j => by
  have ht : (t : ℕ) < 4 := t.isLt
  have e := h ⟨512 * t + i, by omega⟩ j
  refine Eq.trans ?_ e
  blk_ext [iblk5, at5 t]

theorem of5_3 {f : ℕ → ℕ → ℝ}
    (h : ∀ t : Fin cfg5.N, Held2 (a := 512) (b := 1024) (e := .f32) ((dat5 V c).after 3 t) fun i j => f (512 * t + i) j) :
    Held2 (a := 2048) (b := 1024) (e := .f32) ((dat5 V c).arrAt 3 cfg5.N) f := by
  have hA := (dat5 V c).arrAt_eq_of_covers 3 (fun i : (⟨2, ![2048, 1024]⟩ : Shape).Idx => (Holds.at' (f (i 0) (i 1)) : Elt Ideal .f32))
    (by decide +kernel) fun t hf y => ?_
  · exact fun i j => (congrFun hA (ix2 i j)).trans rfl
  · have e := h t (y 0) (y 1)
    blk_simp
    refine (Eq.trans (by congr 1; blk_ext) e).trans ?_
    blk_simp [at5 t]
    rw [Nat.mul_comm 512 t]

theorem in6_0 (t : Fin cfg6.N) {f : ℕ → ℕ → ℝ} (h : Held2 (a := 2048) (b := 1024) (e := .f32) (V c main_arg7) f) :
    Held2 (a := 512) (b := 1024) (e := .f32) (iblk6 V c 0 t) fun i j => f (512 * t + i) j := fun i j => by
  have ht : (t : ℕ) < 4 := t.isLt
  have e := h ⟨512 * t + i, by omega⟩ j
  refine Eq.trans ?_ e
  blk_ext [iblk6, at6 t]

theorem in6_1 (t : Fin cfg6.N) {f : ℕ → ℕ → ℝ} (h : Held3 (n := 1) (a := 1024) (b := 1024) (e := .bf16) (V c main_arg6) (fun _ => f)) :
    Held3 (n := 1) (a := 1024) (b := 1024) (e := .bf16) (iblk6 V c 1 t) fun _ i j => f i j := fun l i j => by
  have ht : (t : ℕ) < 4 := t.isLt
  have e := h l i j
  refine Eq.trans ?_ e
  blk_ext [iblk6, at6 t]

theorem of6_2 {f : ℕ → ℕ → ℝ}
    (h : ∀ t : Fin cfg6.N, Held2 (a := 512) (b := 1024) (e := .bf16) ((dat6 V c).after 2 t) fun i j => f (512 * t + i) j) :
    Held2 (a := 2048) (b := 1024) (e := .bf16) ((dat6 V c).arrAt 2 cfg6.N) f := by
  have hA := (dat6 V c).arrAt_eq_of_covers 2 (fun i : (⟨2, ![2048, 1024]⟩ : Shape).Idx => (Holds.at' (f (i 0) (i 1)) : Elt Ideal .bf16))
    (by decide +kernel) fun t hf y => ?_
  · exact fun i j => (congrFun hA (ix2 i j)).trans rfl
  · have e := h t (y 0) (y 1)
    blk_simp
    refine (Eq.trans (by congr 1; blk_ext) e).trans ?_
    blk_simp [at6 t]
    rw [Nat.mul_comm 512 t]

theorem in7_0 (t : Fin cfg7.N) {f : ℕ → ℕ → ℝ} (h : Held2 (a := 2048) (b := 1024) (e := .bf16) (V c main_v6) f) :
    Held2 (a := 2048) (b := 512) (e := .bf16) (iblk7 V c 0 t) fun i j => f i (512 * t + j) := fun i j => by
  have ht : (t : ℕ) < 2 := t.isLt
  have e := h i ⟨512 * t + j, by omega⟩
  refine Eq.trans ?_ e
  blk_ext [iblk7, at7 t]

theorem in7_1 (t : Fin cfg7.N) {f : ℕ → ℕ → ℝ} (h : Held2 (a := 2048) (b := 1024) (e := .f32) (V c main_arg7) f) :
    Held2 (a := 2048) (b := 1024) (e := .f32) (iblk7 V c 1 t) fun i j => f i j := fun i j => by
  have ht : (t : ℕ) < 2 := t.isLt
  have e := h i j
  refine Eq.trans ?_ e
  blk_ext [iblk7, at7 t]

theorem of7_2 {f : ℕ → ℕ → ℝ}
    (h : ∀ t : Fin cfg7.N, Held3 (n := 1) (a := 512) (b := 1024) (e := .bf16) ((dat7 V c).after 2 t) fun _ i j => f (512 * t + i) j) :
    Held3 (n := 1) (a := 1024) (b := 1024) (e := .bf16) ((dat7 V c).arrAt 2 cfg7.N) (fun _ => f) := by
  have hA := (dat7 V c).arrAt_eq_of_covers 2 (fun i : (⟨3, ![1, 1024, 1024]⟩ : Shape).Idx => (Holds.at' (f (i 1) (i 2)) : Elt Ideal .bf16))
    (by decide +kernel) fun t hf y => ?_
  · exact fun l i j => (congrFun hA (ix3 l i j)).trans rfl
  · have e := h t (y 0) (y 1) (y 2)
    blk_simp
    refine (Eq.trans (congrArg ((dat7 V c).after 2 t) (ix3_eta y).symm) e).trans ?_
    blk_simp [at7 t]
    rw [Nat.mul_comm 512 t]

theorem in8_0 (t : Fin cfg8.N) {f : ℕ → ℕ → ℝ} (h : Held2 (a := 2048) (b := 1024) (e := .bf16) (V c main_v4) f) :
    Held2 (a := 512) (b := 1024) (e := .bf16) (iblk8 V c 0 t) fun i j => f (512 * t + i) j := fun i j => by
  have ht : (t : ℕ) < 4 := t.isLt
  have e := h ⟨512 * t + i, by omega⟩ j
  refine Eq.trans ?_ e
  blk_ext [iblk8, at8 t]

theorem in8_1 (t : Fin cfg8.N) {f : ℕ → ℕ → ℝ} (h : Held2 (a := 256) (b := 2048) (e := .bf16) (V c main_v5) f) :
    Held2 (a := 256) (b := 2048) (e := .bf16) (iblk8 V c 1 t) fun i j => f i j := fun i j => by
  have ht : (t : ℕ) < 4 := t.isLt
  have e := h i j
  refine Eq.trans ?_ e
  blk_ext [iblk8, at8 t]

theorem in8_2 (t : Fin cfg8.N) {f : ℕ → ℕ → ℝ} (h : Held2 (a := 2048) (b := 1024) (e := .bf16) (V c main_v8) f) :
    Held2 (a := 512) (b := 1024) (e := .bf16) (iblk8 V c 2 t) fun i j => f (512 * t + i) j := fun i j => by
  have ht : (t : ℕ) < 4 := t.isLt
  have e := h ⟨512 * t + i, by omega⟩ j
  refine Eq.trans ?_ e
  blk_ext [iblk8, at8 t]

theorem of8_3 {f : ℕ → ℕ → ℝ}
    (h : ∀ t : Fin cfg8.N, Held2 (a := 512) (b := 1024) (e := .bf16) ((dat8 V c).after 3 t) fun i j => f (512 * t + i) j) :
    Held2 (a := 2048) (b := 1024) (e := .bf16) ((dat8 V c).arrAt 3 cfg8.N) f := by
  have hA := (dat8 V c).arrAt_eq_of_covers 3 (fun i : (⟨2, ![2048, 1024]⟩ : Shape).Idx => (Holds.at' (f (i 0) (i 1)) : Elt Ideal .bf16))
    (by decide +kernel) fun t hf y => ?_
  · exact fun i j => (congrFun hA (ix2 i j)).trans rfl
  · have e := h t (y 0) (y 1)
    blk_simp
    refine (Eq.trans (by congr 1; blk_ext) e).trans ?_
    blk_simp [at8 t]
    rw [Nat.mul_comm 512 t]

theorem in9_0 (t : Fin cfg9.N) {f : ℕ → ℕ → ℝ} (h : Held2 (a := 2048) (b := 1024) (e := .bf16) (V c main_v1) f) :
    Held2 (a := 2048) (b := 512) (e := .bf16) (iblk9 V c 0 t) fun i j => f i (512 * t + j) := fun i j => by
  have ht : (t : ℕ) < 2 := t.isLt
  have e := h i ⟨512 * t + j, by omega⟩
  refine Eq.trans ?_ e
  blk_ext [iblk9, at9 t]

theorem in9_1 (t : Fin cfg9.N) {f : ℕ → ℕ → ℝ} (h : Held2 (a := 2048) (b := 1024) (e := .bf16) (V c main_v10_0) f) :
    Held2 (a := 2048) (b := 1024) (e := .bf16) (iblk9 V c 1 t) fun i j => f i j := fun i j => by
  have ht : (t : ℕ) < 2 := t.isLt
  have e := h i j
  refine Eq.trans ?_ e
  blk_ext [iblk9, at9 t]

theorem of9_2 {f : ℕ → ℕ → ℝ}
    (h : ∀ t : Fin cfg9.N, Held3 (n := 1) (a := 512) (b := 1024) (e := .bf16) ((dat9 V c).after 2 t) fun _ i j => f (512 * t + i) j) :
    Held3 (n := 1) (a := 1024) (b := 1024) (e := .bf16) ((dat9 V c).arrAt 2 cfg9.N) (fun _ => f) := by
  have hA := (dat9 V c).arrAt_eq_of_covers 2 (fun i : (⟨3, ![1, 1024, 1024]⟩ : Shape).Idx => (Holds.at' (f (i 1) (i 2)) : Elt Ideal .bf16))
    (by decide +kernel) fun t hf y => ?_
  · exact fun l i j => (congrFun hA (ix3 l i j)).trans rfl
  · have e := h t (y 0) (y 1) (y 2)
    blk_simp
    refine (Eq.trans (congrArg ((dat9 V c).after 2 t) (ix3_eta y).symm) e).trans ?_
    blk_simp [at9 t]
    rw [Nat.mul_comm 512 t]

theorem in10_0 (t : Fin cfg10.N) {f : ℕ → ℕ → ℝ} (h : Held2 (a := 2048) (b := 1024) (e := .bf16) (V c main_v10_0) f) :
    Held2 (a := 256) (b := 1024) (e := .bf16) (iblk10 V c 0 t) fun i j => f (256 * t + i) j := fun i j => by
  have ht : (t : ℕ) < 8 := t.isLt
  have e := h ⟨256 * t + i, by omega⟩ j
  refine Eq.trans ?_ e
  blk_ext [iblk10, at10 t]

theorem in10_1 (t : Fin cfg10.N) {f : ℕ → ℕ → ℝ} (h : Held3 (n := 1) (a := 1024) (b := 1024) (e := .bf16) (V c main_arg4) (fun _ => f)) :
    Held3 (n := 1) (a := 1024) (b := 1024) (e := .bf16) (iblk10 V c 1 t) fun _ i j => f i j := fun l i j => by
  have ht : (t : ℕ) < 8 := t.isLt
  have e := h l i j
  refine Eq.trans ?_ e
  blk_ext [iblk10, at10 t]

theorem in10_2 (t : Fin cfg10.N) {f : ℕ → ℕ → ℝ} (h : Held2 (a := 2048) (b := 1024) (e := .f32) (V c main_arg0) f) :
    Held2 (a := 256) (b := 1024) (e := .f32) (iblk10 V c 2 t) fun i j => f (256 * t + i) j := fun i j => by
  have ht : (t : ℕ) < 8 := t.isLt
  have e := h ⟨256 * t + i, by omega⟩ j
  refine Eq.trans ?_ e
  blk_ext [iblk10, at10 t]

theorem in10_3 (t : Fin cfg10.N) {f : ℕ → ℕ → ℝ} (h : Held2 (a := 1) (b := 1024) (e := .f32) (V c main_v12) f) :
    Held2 (a := 1) (b := 1024) (e := .f32) (iblk10 V c 3 t) fun i j => f i j := fun i j => by
  have ht : (t : ℕ) < 8 := t.isLt
  have e := h i j
  refine Eq.trans ?_ e
  blk_ext [iblk10, at10 t]

theorem in10_4 (t : Fin cfg10.N) {f : ℕ → ℕ → ℝ} (h : Held2 (a := 2048) (b := 1024) (e := .f32) (V c main_arg7) f) :
    Held2 (a := 256) (b := 1024) (e := .f32) (iblk10 V c 4 t) fun i j => f (256 * t + i) j := fun i j => by
  have ht : (t : ℕ) < 8 := t.isLt
  have e := h ⟨256 * t + i, by omega⟩ j
  refine Eq.trans ?_ e
  blk_ext [iblk10, at10 t]

theorem of10_5 {f : ℕ → ℕ → ℝ}
    (h : ∀ t : Fin cfg10.N, Held2 (a := 256) (b := 1024) (e := .f32) ((dat10 V c).after 5 t) fun i j => f (256 * t + i) j) :
    Held2 (a := 2048) (b := 1024) (e := .f32) ((dat10 V c).arrAt 5 cfg10.N) f := by
  have hA := (dat10 V c).arrAt_eq_of_covers 5 (fun i : (⟨2, ![2048, 1024]⟩ : Shape).Idx => (Holds.at' (f (i 0) (i 1)) : Elt Ideal .f32))
    (by decide +kernel) fun t hf y => ?_
  · exact fun i j => (congrFun hA (ix2 i j)).trans rfl
  · have e := h t (y 0) (y 1)
    blk_simp
    refine (Eq.trans (by congr 1; blk_ext) e).trans ?_
    blk_simp [at10 t]
    rw [Nat.mul_comm 256 t]

theorem in11_0 (t : Fin cfg11.N) {f : ℕ → ℕ → ℝ} (h : Held2 (a := 256) (b := 2048) (e := .f32) (V c main_v10_1) f) :
    Held2 (a := 256) (b := 2048) (e := .f32) (iblk11 V c 0 t) fun i j => f i j := fun i j => by
  have ht : (t : ℕ) < 1 := t.isLt
  have e := h i j
  refine Eq.trans ?_ e
  blk_ext [iblk11, at11 t]

theorem in11_1 (t : Fin cfg11.N) {f : ℕ → ℕ → ℝ} (h : Held3 (n := 1) (a := 2048) (b := 1024) (e := .bf16) (V c main_arg5) (fun _ => f)) :
    Held3 (n := 1) (a := 2048) (b := 1024) (e := .bf16) (iblk11 V c 1 t) fun _ i j => f i j := fun l i j => by
  have ht : (t : ℕ) < 1 := t.isLt
  have e := h l i j
  refine Eq.trans ?_ e
  blk_ext [iblk11, at11 t]

theorem of11_2 {f : ℕ → ℕ → ℝ}
    (h : ∀ t : Fin cfg11.N, Held2 (a := 256) (b := 1024) (e := .f32) ((dat11 V c).after 2 t) fun i j => f i j) :
    Held2 (a := 256) (b := 1024) (e := .f32) ((dat11 V c).arrAt 2 cfg11.N) f := by
  have hA := (dat11 V c).arrAt_eq_of_covers 2 (fun i : (⟨2, ![256, 1024]⟩ : Shape).Idx => (Holds.at' (f (i 0) (i 1)) : Elt Ideal .f32))
    (by decide +kernel) fun t hf y => ?_
  · exact fun i j => (congrFun hA (ix2 i j)).trans rfl
  · have e := h t (y 0) (y 1)
    blk_simp
    refine (Eq.trans (by congr 1; blk_ext) e).trans ?_
    blk_simp [at11 t]

theorem in12_0 (t : Fin cfg12.N) {f : ℕ → ℕ → ℝ} (h : Held2 (a := 256) (b := 2048) (e := .f32) (V c main_v10_1) f) :
    Held2 (a := 256) (b := 512) (e := .f32) (iblk12 V c 0 t) fun i j => f i (512 * t + j) := fun i j => by
  have ht : (t : ℕ) < 4 := t.isLt
  have e := h i ⟨512 * t + j, by omega⟩
  refine Eq.trans ?_ e
  blk_ext [iblk12, at12 t]

theorem in12_1 (t : Fin cfg12.N) {f : ℕ → ℕ → ℝ} (h : Held2 (a := 256) (b := 1024) (e := .bf16) (V c main_v3) f) :
    Held2 (a := 256) (b := 1024) (e := .bf16) (iblk12 V c 1 t) fun i j => f i j := fun i j => by
  have ht : (t : ℕ) < 4 := t.isLt
  have e := h i j
  refine Eq.trans ?_ e
  blk_ext [iblk12, at12 t]

theorem of12_2 {f : ℕ → ℕ → ℝ}
    (h : ∀ t : Fin cfg12.N, Held3 (n := 1) (a := 512) (b := 1024) (e := .bf16) ((dat12 V c).after 2 t) fun _ i j => f (512 * t + i) j) :
    Held3 (n := 1) (a := 2048) (b := 1024) (e := .bf16) ((dat12 V c).arrAt 2 cfg12.N) (fun _ => f) := by
  have hA := (dat12 V c).arrAt_eq_of_covers 2 (fun i : (⟨3, ![1, 2048, 1024]⟩ : Shape).Idx => (Holds.at' (f (i 1) (i 2)) : Elt Ideal .bf16))
    (by decide +kernel) fun t hf y => ?_
  · exact fun l i j => (congrFun hA (ix3 l i j)).trans rfl
  · have e := h t (y 0) (y 1) (y 2)
    blk_simp
    refine (Eq.trans (congrArg ((dat12 V c).after 2 t) (ix3_eta y).symm) e).trans ?_
    blk_simp [at12 t]
    rw [Nat.mul_comm 512 t]

theorem in13_0 (t : Fin cfg13.N) {f : ℕ → ℕ → ℝ} (h : Held2 (a := 256) (b := 1024) (e := .f32) (V c main_v14) f) :
    Held2 (a := 256) (b := 1024) (e := .f32) (iblk13 V c 0 t) fun i j => f i j := fun i j => by
  have ht : (t : ℕ) < 1 := t.isLt
  have e := h i j
  refine Eq.trans ?_ e
  blk_ext [iblk13, at13 t]

theorem in13_1 (t : Fin cfg13.N) {f : ℕ → ℕ → ℝ} (h : Held2 (a := 256) (b := 1024) (e := .f32) (V c main_arg1) f) :
    Held2 (a := 256) (b := 1024) (e := .f32) (iblk13 V c 1 t) fun i j => f i j := fun i j => by
  have ht : (t : ℕ) < 1 := t.isLt
  have e := h i j
  refine Eq.trans ?_ e
  blk_ext [iblk13, at13 t]

theorem in13_2 (t : Fin cfg13.N) {f : ℕ → ℕ → ℝ} (h : Held2 (a := 1) (b := 1024) (e := .f32) (V c main_v16) f) :
    Held2 (a := 1) (b := 1024) (e := .f32) (iblk13 V c 2 t) fun i j => f i j := fun i j => by
  have ht : (t : ℕ) < 1 := t.isLt
  have e := h i j
  refine Eq.trans ?_ e
  blk_ext [iblk13, at13 t]

theorem of13_3 {f : ℕ → ℕ → ℝ}
    (h : ∀ t : Fin cfg13.N, Held2 (a := 1) (b := 1024) (e := .f32) ((dat13 V c).after 3 t) fun i j => f i j) :
    Held2 (a := 1) (b := 1024) (e := .f32) ((dat13 V c).arrAt 3 cfg13.N) f := by
  have hA := (dat13 V c).arrAt_eq_of_covers 3 (fun i : (⟨2, ![1, 1024]⟩ : Shape).Idx => (Holds.at' (f (i 0) (i 1)) : Elt Ideal .f32))
    (by decide +kernel) fun t hf y => ?_
  · exact fun i j => (congrFun hA (ix2 i j)).trans rfl
  · have e := h t (y 0) (y 1)
    blk_simp
    refine (Eq.trans (by congr 1; blk_ext) e).trans ?_
    blk_simp [at13 t]

end

end Cert.Mem
-- ==== Proof.MemCalls.lean ====
/- What each of the fourteen calls of the cross attention leaves in its arrays, from what it finds in those that it reads. -/
module

public import proofs.«01_k».proof.Proof.MemBlocks
public import proofs.«01_k».proof.Proof.MemForward
public import proofs.«01_k».proof.Proof.MemBackRun
public import proofs.«01_k».proof.Proof.MemLast
public import proofs.«01_k».proof.Proof.MemArrays

@[expose] public section

set_option maxRecDepth 16384

noncomputable section

namespace Cert.Mem

open Idealize.ShloMosaic Idealize.ShloMosaic.TcCoe Cert.Fox Cert.CrossIdeal Cert.CrossIdeal.Gen Finset
open Idealize.ShloMosaic.Pipeline (Dat)
open Cert.Net (rms lastX)

variable (V : (c : Dev nD) → (b : Ref sig .tc) → Buf (Elt Ideal) ((c : Thread nD τ).loc b)) (c : Dev nD) {N : Cross}

/-- An array of the tokens' shape, of 32-bit numbers or of 16-bit ones. -/
abbrev Tok (x : Vec Ideal ⟨2, ![2048, 1024]⟩ .f32) (f : ℕ → ℕ → ℝ) : Prop := Held2 x f

abbrev Tok16 (x : Vec Ideal ⟨2, ![2048, 1024]⟩ .bf16) (f : ℕ → ℕ → ℝ) : Prop := Held2 x f

/-- An array of the memory's shape, of 32-bit numbers or of 16-bit ones. -/
abbrev Pos (x : Vec Ideal ⟨2, ![256, 1024]⟩ .f32) (f : ℕ → ℕ → ℝ) : Prop := Held2 x f

abbrev Pos16 (x : Vec Ideal ⟨2, ![256, 1024]⟩ .bf16) (f : ℕ → ℕ → ℝ) : Prop := Held2 x f

/-- The keys and values, or their gradient. -/
abbrev Kv (x : Vec Ideal ⟨2, ![256, 2048]⟩ .f32) (f : ℕ → ℕ → ℝ) : Prop := Held2 x f

abbrev Kv16 (x : Vec Ideal ⟨2, ![256, 2048]⟩ .bf16) (f : ℕ → ℕ → ℝ) : Prop := Held2 x f

/-- A weight, and the wider one of the keys and values. -/
abbrev Wgt (x : Vec Ideal ⟨3, ![1, 1024, 1024]⟩ .bf16) (f : ℕ → ℕ → ℝ) : Prop := Held3 x fun _ => f

abbrev Wgt2 (x : Vec Ideal ⟨3, ![1, 2048, 1024]⟩ .bf16) (f : ℕ → ℕ → ℝ) : Prop := Held3 x fun _ => f

/-- A row of numbers, one per feature. -/
abbrev Row (x : Vec Ideal ⟨2, ![1, 1024]⟩ .f32) (f : ℕ → ℝ) : Prop := Held2 x fun _ => f

/-- The first call normalizes the tokens, -/
theorem call0 (hx : Tok (V c main_arg0) N.x) (hg : Row (V c main_v0) N.gx) : Tok16 ((dat0 V c).arrAt 2 cfg0.N) N.h :=
  of0_2 V c fun t => by
    rw [after0_2]
    exact (block_h (in0_0 V c t hx) (in0_1 V c t (f := fun _ => N.gx) hg)).congr fun _ _ _ _ => rfl

/-- the second the memory. -/
theorem call1 (hx : Pos (V c main_arg1) N.m) (hg : Row (V c main_v2) N.gm) : Pos16 ((dat1 V c).arrAt 2 cfg1.N) N.n :=
  of1_2 V c fun t => by
    rw [after1_2]
    exact (block_n (in1_0 V c t hx) (in1_1 V c t (f := fun _ => N.gm) hg)).congr fun _ _ _ _ => rfl

/-- The third leaves the queries, -/
theorem call2 (hh : Tok16 (V c main_v1) N.h) (hw : Wgt (V c main_arg4) N.wq) : Tok16 ((dat2 V c).arrAt 2 cfg2.N) N.q :=
  of2_2 V c fun t => by
    rw [after2_2]
    exact (block_q (in2_0 V c t hh) (in2_1 V c t hw)).congr fun _ _ _ _ => rfl

/-- the fourth the keys and values, -/
theorem call3 (hh : Pos16 (V c main_v3) N.n) (hw : Wgt2 (V c main_arg5) N.wkv) : Kv16 ((dat3 V c).arrAt 2 cfg3.N) N.kv :=
  of3_2 V c fun t => by
    rw [after3_2]
    exact (block_kv (in3_0 V c t hh) (in3_1 V c t hw)).congr fun _ _ _ _ => rfl

/-- the fifth the heads' output, -/
theorem call4 (hq : Tok16 (V c main_v4) N.q) (hk : Kv16 (V c main_v5) N.kv) : Tok16 ((dat4 V c).arrAt 2 cfg4.N) N.o :=
  of4_2 V c fun t => by
    rw [after4_2]
    exact (block_o (in4_0 V c t hq) (in4_1 V c t hk)).congr fun _ _ _ _ => rfl

/-- and the sixth the result. -/
theorem call5 (ho : Tok16 (V c main_v6) N.o) (hw : Wgt (V c main_arg6) N.wo) (hx : Tok (V c main_arg0) N.x) :
    Tok ((dat5 V c).arrAt 3 cfg5.N) N.y :=
  of5_3 V c fun t => by
    rw [after5_3]
    exact (block_y (in5_0 V c t ho) (in5_1 V c t hw) (in5_2 V c t hx)).congr fun _ _ _ _ => rfl

/-- The seventh leaves the gradient of the heads' output, -/
theorem call6 (hc : Tok (V c main_arg7) N.c) (hw : Wgt (V c main_arg6) N.wo) : Tok16 ((dat6 V c).arrAt 2 cfg6.N) N.do' :=
  of6_2 V c fun t => by
    rw [after6_2]
    exact (block_do (in6_0 V c t hc) (in6_1 V c t hw)).congr fun _ _ _ _ => rfl

/-- the eighth that of the output's weight. -/
theorem call7 (ho : Tok16 (V c main_v6) N.o) (hc : Tok (V c main_arg7) N.c) : Wgt ((dat7 V c).arrAt 2 cfg7.N) N.dwo :=
  of7_2 V c fun t => by
    rw [after7_2]
    exact (block_dwo (in7_0 V c t ho) (in7_1 V c t hc)).congr fun _ _ _ _ _ _ => rfl

section Attention

variable (hq : Tok16 (V c main_v4) N.q) (hk : Kv16 (V c main_v5) N.kv) (hd : Tok16 (V c main_v8) N.do')

include hq hk hd

/-- The ninth leaves the gradient of the queries -/
theorem call8_q : Tok16 ((dat8 V c).arrAt 3 cfg8.N) N.dq :=
  of8_3 V c fun t => by
    rw [after8_3]
    by_cases h0 : t.val % 4 = 0
    · rw [outsAt8_A V c t h0]
      dsimp only
      unfold out8_A_3
      rw [View.read_writes_junk_eq_canon]
      exact (back_q_A _ _ _ _ _ _ _ _ _ _ _ _ _ (in8_0 V c t hq) (in8_1 V c t hk) (in8_2 V c t hd)).congr fun _ _ _ _ => rfl
    · rw [outsAt8_B V c t h0]
      dsimp only
      unfold out8_B_3
      rw [View.read_writes_junk_eq_canon]
      exact (back_q_B _ _ _ _ _ _ _ _ _ _ _ _ _ (in8_0 V c t hq) (in8_1 V c t hk) (in8_2 V c t hd)).congr fun _ _ _ _ => rfl

/-- After point `n` the other buffer holds the sum over the first `n + 1` blocks. -/
theorem keys_at : ∀ n (hn : n < cfg8.N), Kv (outsAt8 V c n hn).2 fun s e => ∑ t ∈ range (512 * (n + 1)), N.part t s e
  | 0, hn => by
    rw [outsAt8_A V c ⟨0, hn⟩ rfl]
    dsimp only
    unfold out8_A_4
    rw [View.read_writes_junk_eq_canon]
    refine (back_k_A _ _ _ _ _ _ _ _ _ _ _ _ _ (in8_0 V c ⟨0, hn⟩ hq) (in8_1 V c ⟨0, hn⟩ hk) (in8_2 V c ⟨0, hn⟩ hd)).congr fun _ _ j _ => ?_
    refine sum_congr rfl fun t _ => ?_
    conv_rhs => rw [show t = 512 * 0 + t by omega]
    rfl
  | n + 1, hn => by
    have h4 : n + 1 < 4 := hn
    have ih := keys_at n (Nat.lt_of_succ_lt hn)
    rw [outsAt8_B V c ⟨n + 1, hn⟩ (by change ¬(n + 1) % 4 = 0; omega)]
    dsimp only
    unfold out8_B_4
    rw [View.read_writes_junk_eq_canon]
    refine (back_k_B _ _ _ _ _ _ _ _ _ _ _ _ _ (in8_0 V c ⟨n + 1, hn⟩ hq) (in8_1 V c ⟨n + 1, hn⟩ hk) (in8_2 V c ⟨n + 1, hn⟩ hd) ih).congr
      fun _ _ j _ => ?_
    rw [show 512 * (n + 1 + 1) = 512 * (n + 1) + 512 by omega, sum_range_add]
    rfl

omit hq hk hd in
theorem of8_4 {f : ℕ → ℕ → ℝ} (h : Kv ((dat8 V c).after 4 ⟨3, by decide⟩) f) : Kv ((dat8 V c).arrAt 4 cfg8.N) f := fun i j =>
  ((dat8 V c).arrAt_emb_eq_after_last 4 ⟨3, by decide⟩ (by decide +kernel) (ix2 i j)).trans (h i j)

/-- and that of the keys and values. -/
theorem call8_k : Kv ((dat8 V c).arrAt 4 cfg8.N) N.dkv :=
  of8_4 V c (by
    rw [after8_4]
    exact keys_at V c hq hk hd 3 (by decide))

end Attention

/-- The tenth leaves the gradient of the queries' weight. -/
theorem call9 (hh : Tok16 (V c main_v1) N.h) (hq : Tok16 (V c main_v10_0) N.dq) : Wgt ((dat9 V c).arrAt 2 cfg9.N) N.dwq :=
  of9_2 V c fun t => by
    rw [after9_2]
    exact (block_dwq (in9_0 V c t hh) (in9_1 V c t hq)).congr fun _ _ _ _ _ _ => rfl

section Last

variable (hp : Tok16 (V c main_v10_0) N.dq) (hu : Wgt (V c main_arg4) N.wq) (hx : Tok (V c main_arg0) N.x)

include hp hu hx

/-- The eleventh leaves the gradient of the tokens -/
theorem call10_x (hg : Row (V c main_v12) N.gx) (hc : Tok (V c main_arg7) N.c) : Tok ((dat10 V c).arrAt 5 cfg10.N) N.dx :=
  of10_5 V c fun t => by
    rw [after10_5]
    by_cases h0 : t.val % 8 = 0
    · rw [outsAt10_A V c t h0]
      dsimp only
      unfold out10_A_5
      rw [View.read_writes_junk_eq_canon]
      exact (run_x_A _ _ _ _ _ _ _ _ _ _ _ _ _ _ _ _ _ (in10_0 V c t hp) (in10_1 V c t hu) (in10_2 V c t hx)
        (in10_3 V c t (f := fun _ => N.gx) hg) (in10_4 V c t hc)).congr fun _ _ _ _ => rfl
    · rw [outsAt10_B V c t h0]
      dsimp only
      unfold out10_B_5
      rw [View.read_writes_junk_eq_canon]
      exact (run_x_B _ _ _ _ _ _ _ _ _ _ _ _ _ _ _ _ _ (in10_0 V c t hp) (in10_1 V c t hu) (in10_2 V c t hx)
        (in10_3 V c t (f := fun _ => N.gx) hg) (in10_4 V c t hc)).congr fun _ _ _ _ => rfl

/-- After point `n` the gain's buffer holds the sum over the first `n + 1` blocks. -/
theorem gain_at : ∀ n (hn : n < cfg10.N), Row (outsAt10 V c n hn).2 fun j => ∑ t ∈ range (256 * (n + 1)), N.dh t j * N.xh t j
  | 0, hn => by
    rw [outsAt10_A V c ⟨0, hn⟩ rfl]
    dsimp only
    unfold out10_A_6
    rw [View.read_writes_junk_eq_canon]
    refine (run_g_A _ _ _ _ _ _ _ _ _ _ _ _ _ _ _ _ _ (in10_0 V c ⟨0, hn⟩ hp) (in10_1 V c ⟨0, hn⟩ hu)
      (in10_2 V c ⟨0, hn⟩ hx)).congr fun _ _ j _ => ?_
    refine sum_congr rfl fun t _ => ?_
    rw [show N.dh t j * N.xh t j = N.dh (256 * 0 + t) j * N.xh (256 * 0 + t) j by rw [Nat.mul_zero, Nat.zero_add]]
    rfl
  | n + 1, hn => by
    have h8 : n + 1 < 8 := hn
    have ih := gain_at n (Nat.lt_of_succ_lt hn)
    rw [outsAt10_B V c ⟨n + 1, hn⟩ (by change ¬(n + 1) % 8 = 0; omega)]
    dsimp only
    unfold out10_B_6
    rw [View.read_writes_junk_eq_canon]
    refine (run_g_B _ _ _ _ _ _ _ _ _ _ _ _ _ _ _ _ _ (in10_0 V c ⟨n + 1, hn⟩ hp) (in10_1 V c ⟨n + 1, hn⟩ hu)
      (in10_2 V c ⟨n + 1, hn⟩ hx) ih).congr fun _ _ j _ => ?_
    rw [show 256 * (n + 1 + 1) = 256 * (n + 1) + 256 by omega, sum_range_add]
    rfl

omit hp hu hx in
theorem of10_6 {f : ℕ → ℝ} (h : Row ((dat10 V c).after 6 ⟨7, by decide⟩) f) : Row ((dat10 V c).arrAt 6 cfg10.N) f := fun i j =>
  ((dat10 V c).arrAt_emb_eq_after_last 6 ⟨7, by decide⟩ (by decide +kernel) (ix2 i j)).trans (h i j)

/-- and that of their gain. -/
theorem call10_g : Row ((dat10 V c).arrAt 6 cfg10.N) N.dgx :=
  of10_6 V c (by
    rw [after10_6]
    exact gain_at V c hp hu hx 7 (by decide))

end Last

/-- The twelfth leaves the gradient of the normalized memory, -/
theorem call11 (hk : Kv (V c main_v10_1) N.dkv) (hw : Wgt2 (V c main_arg5) N.wkv) : Pos ((dat11 V c).arrAt 2 cfg11.N) N.dn :=
  of11_2 V c fun t => by
    rw [after11_2]
    exact (block_dn (in11_0 V c t hk) (in11_1 V c t hw)).congr fun _ _ _ _ => rfl

/-- the thirteenth that of the keys' and values' weight, -/
theorem call12 (hk : Kv (V c main_v10_1) N.dkv) (hn : Pos16 (V c main_v3) N.n) : Wgt2 ((dat12 V c).arrAt 2 cfg12.N) N.dwkv :=
  of12_2 V c fun t => by
    rw [after12_2]
    exact (block_dwkv (in12_0 V c t hk) (in12_1 V c t hn)).congr fun _ _ _ _ _ _ => rfl

/-- and the last that of the memory's gain. -/
theorem call13 (hd : Pos (V c main_v14) N.dn) (hm : Pos (V c main_arg1) N.m) : Row ((dat13 V c).arrAt 3 cfg13.N) N.dgm :=
  of13_3 V c (f := fun _ => N.dgm) fun t => by
    rw [after13_3]
    exact (block_dgm (in13_0 V c t hd) (in13_1 V c t hm)).congr fun _ _ _ _ => rfl

end Cert.Mem
-- ==== Proof.MemRun.lean ====
/- What the fourteen calls leave in the seven results, and their run. -/
module

public import proofs.«01_k».proof.Proof.MemCalls
public import Idealize.ShloMosaic.Lib.Claim

@[expose] public section

set_option maxRecDepth 16384

noncomputable section

namespace Cert.Mem

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Fox Cert.CrossIdeal Cert.CrossIdeal.Gen

local notation "𝕄" => MT nD τ sig Unit (Elt Ideal) ℕ (UR sig nD τ) ℕ

variable (m : (ℓ : Loc nD τ sig) → Buf (Elt Ideal) ℓ) (ρ : Dev nD → PrngReg)

section Entry

variable (c : Dev nD)

/-- The arguments of device `c` hold the numbers of the layer, of its weights and of the gradient that arrives. -/
structure Args (N : Cross) : Prop where
  x : Tok (m ((c.tc : Thread nD τ).loc main_arg0)) N.x
  mem : Pos (m ((c.tc : Thread nD τ).loc main_arg1)) N.m
  gx : ∀ j : Fin 1024, (m ((c.tc : Thread nD τ).loc main_arg2) : Vec Ideal ⟨1, ![1024]⟩ .f32) (ix1 j) = ((N.gx j : ℝ) : EReal)
  gm : ∀ j : Fin 1024, (m ((c.tc : Thread nD τ).loc main_arg3) : Vec Ideal ⟨1, ![1024]⟩ .f32) (ix1 j) = ((N.gm j : ℝ) : EReal)
  wq : Wgt (m ((c.tc : Thread nD τ).loc main_arg4)) N.wq
  wkv : Wgt2 (m ((c.tc : Thread nD τ).loc main_arg5)) N.wkv
  wo : Wgt (m ((c.tc : Thread nD τ).loc main_arg6)) N.wo
  c : Tok (m ((c.tc : Thread nD τ).loc main_arg7)) N.c

variable {c} {N : Cross} (h : Args m c N)

include h

theorem at1_arg0 : Tok (V1 m ρ c main_arg0) N.x := by
  rw [show V1 m ρ c main_arg0 = m ((c.tc : Thread nD τ).loc main_arg0) from W1_args m ρ c main_arg0 (by decide)]
  exact h.x

theorem at1_v0 : Row (V1 m ρ c main_v0) N.gx := fun i j => by
  refine Eq.trans ?_ (h.gx j)
  change StableHlo.after hostOps0 (W0 m ρ c) (Proc.devRef .tc main_v0) _ = _
  entry_read
  pointwise

/-- The normalized tokens, -/
theorem at2_v1 : Tok16 (V2 m ρ c main_v1) N.h := by
  rw [show V2 m ρ c main_v1 = (dat0 (V1 m ρ) c).arrAt 2 cfg0.N from W2_arr m ρ c 2]
  exact call0 (V1 m ρ) c (at1_arg0 m ρ h) (at1_v0 m ρ h)

theorem at3_arg1 : Pos (V3 m ρ c main_arg1) N.m := by
  rw [show V3 m ρ c main_arg1 = m ((c.tc : Thread nD τ).loc main_arg1) from W3_args m ρ c main_arg1 (by decide)]
  exact h.mem

theorem at3_v2 : Row (V3 m ρ c main_v2) N.gm := fun i j => by
  refine Eq.trans ?_ (h.gm j)
  refine Eq.trans ?_ (congrFun (W2_args m ρ c main_arg3 (by decide)) _)
  change StableHlo.after hostOps1 (W2 m ρ c) (Proc.devRef .tc main_v2) _ = _
  entry_read
  pointwise

/-- the normalized memory, -/
theorem at4_v3 : Pos16 (V4 m ρ c main_v3) N.n := by
  rw [show V4 m ρ c main_v3 = (dat1 (V3 m ρ) c).arrAt 2 cfg1.N from W4_arr m ρ c 2]
  exact call1 (V3 m ρ) c (at3_arg1 m ρ h) (at3_v2 m ρ h)

theorem at4_v1 : Tok16 (V4 m ρ c main_v1) N.h := by
  rw [show V4 m ρ c main_v1 = V2 m ρ c main_v1 from
    (W4_of m ρ c main_v1 (by decide)).trans (W3_of m ρ c main_v1 (by decide))]
  exact at2_v1 m ρ h

theorem at4_arg4 : Wgt (V4 m ρ c main_arg4) N.wq := by
  rw [show V4 m ρ c main_arg4 = m ((c.tc : Thread nD τ).loc main_arg4) from W4_args m ρ c main_arg4 (by decide)]
  exact h.wq

/-- the queries, -/
theorem at5_v4 : Tok16 (V5 m ρ c main_v4) N.q := by
  rw [show V5 m ρ c main_v4 = (dat2 (V4 m ρ) c).arrAt 2 cfg2.N from W5_arr m ρ c 2]
  exact call2 (V4 m ρ) c (at4_v1 m ρ h) (at4_arg4 m ρ h)

theorem at5_v3 : Pos16 (V5 m ρ c main_v3) N.n := by
  rw [show V5 m ρ c main_v3 = V4 m ρ c main_v3 from
    W5_of m ρ c main_v3 (by decide)]
  exact at4_v3 m ρ h

theorem at5_arg5 : Wgt2 (V5 m ρ c main_arg5) N.wkv := by
  rw [show V5 m ρ c main_arg5 = m ((c.tc : Thread nD τ).loc main_arg5) from W5_args m ρ c main_arg5 (by decide)]
  exact h.wkv

/-- the keys and values, -/
theorem at6_v5 : Kv16 (V6 m ρ c main_v5) N.kv := by
  rw [show V6 m ρ c main_v5 = (dat3 (V5 m ρ) c).arrAt 2 cfg3.N from W6_arr m ρ c 2]
  exact call3 (V5 m ρ) c (at5_v3 m ρ h) (at5_arg5 m ρ h)

theorem at6_v4 : Tok16 (V6 m ρ c main_v4) N.q := by
  rw [show V6 m ρ c main_v4 = V5 m ρ c main_v4 from
    W6_of m ρ c main_v4 (by decide)]
  exact at5_v4 m ρ h

/-- the heads' output, -/
theorem at7_v6 : Tok16 (V7 m ρ c main_v6) N.o := by
  rw [show V7 m ρ c main_v6 = (dat4 (V6 m ρ) c).arrAt 2 cfg4.N from W7_arr m ρ c 2]
  exact call4 (V6 m ρ) c (at6_v4 m ρ h) (at6_v5 m ρ h)

theorem at7_arg6 : Wgt (V7 m ρ c main_arg6) N.wo := by
  rw [show V7 m ρ c main_arg6 = m ((c.tc : Thread nD τ).loc main_arg6) from W7_args m ρ c main_arg6 (by decide)]
  exact h.wo

theorem at7_arg0 : Tok (V7 m ρ c main_arg0) N.x := by
  rw [show V7 m ρ c main_arg0 = m ((c.tc : Thread nD τ).loc main_arg0) from W7_args m ρ c main_arg0 (by decide)]
  exact h.x

/-- and the result. -/
theorem at8_v7 : Tok (V8 m ρ c main_v7) N.y := by
  rw [show V8 m ρ c main_v7 = (dat5 (V7 m ρ) c).arrAt 3 cfg5.N from W8_arr m ρ c 3]
  exact call5 (V7 m ρ) c (at7_v6 m ρ h) (at7_arg6 m ρ h) (at7_arg0 m ρ h)

theorem at8_arg7 : Tok (V8 m ρ c main_arg7) N.c := by
  rw [show V8 m ρ c main_arg7 = m ((c.tc : Thread nD τ).loc main_arg7) from W8_args m ρ c main_arg7 (by decide)]
  exact h.c

theorem at8_arg6 : Wgt (V8 m ρ c main_arg6) N.wo := by
  rw [show V8 m ρ c main_arg6 = m ((c.tc : Thread nD τ).loc main_arg6) from W8_args m ρ c main_arg6 (by decide)]
  exact h.wo

/-- The gradient of the heads' output, -/
theorem at9_v8 : Tok16 (V9 m ρ c main_v8) N.do' := by
  rw [show V9 m ρ c main_v8 = (dat6 (V8 m ρ) c).arrAt 2 cfg6.N from W9_arr m ρ c 2]
  exact call6 (V8 m ρ) c (at8_arg7 m ρ h) (at8_arg6 m ρ h)

theorem at9_v6 : Tok16 (V9 m ρ c main_v6) N.o := by
  rw [show V9 m ρ c main_v6 = V7 m ρ c main_v6 from
    (W9_of m ρ c main_v6 (by decide)).trans (W8_of m ρ c main_v6 (by decide))]
  exact at7_v6 m ρ h

theorem at9_arg7 : Tok (V9 m ρ c main_arg7) N.c := by
  rw [show V9 m ρ c main_arg7 = m ((c.tc : Thread nD τ).loc main_arg7) from W9_args m ρ c main_arg7 (by decide)]
  exact h.c

/-- of the output's weight, -/
theorem at10_v9 : Wgt (V10 m ρ c main_v9) N.dwo := by
  rw [show V10 m ρ c main_v9 = (dat7 (V9 m ρ) c).arrAt 2 cfg7.N from W10_arr m ρ c 2]
  exact call7 (V9 m ρ) c (at9_v6 m ρ h) (at9_arg7 m ρ h)

theorem at10_v4 : Tok16 (V10 m ρ c main_v4) N.q := by
  rw [show V10 m ρ c main_v4 = V5 m ρ c main_v4 from
    (W10_of m ρ c main_v4 (by decide)).trans ((W9_of m ρ c main_v4 (by decide)).trans ((W8_of m ρ c main_v4 (by decide)).trans ((W7_of m ρ c main_v4 (by decide)).trans (W6_of m ρ c main_v4 (by decide)))))]
  exact at5_v4 m ρ h

theorem at10_v5 : Kv16 (V10 m ρ c main_v5) N.kv := by
  rw [show V10 m ρ c main_v5 = V6 m ρ c main_v5 from
    (W10_of m ρ c main_v5 (by decide)).trans ((W9_of m ρ c main_v5 (by decide)).trans ((W8_of m ρ c main_v5 (by decide)).trans (W7_of m ρ c main_v5 (by decide))))]
  exact at6_v5 m ρ h

theorem at10_v8 : Tok16 (V10 m ρ c main_v8) N.do' := by
  rw [show V10 m ρ c main_v8 = V9 m ρ c main_v8 from
    W10_of m ρ c main_v8 (by decide)]
  exact at9_v8 m ρ h

/-- of the queries, -/
theorem at11_v10_0 : Tok16 (V11 m ρ c main_v10_0) N.dq := by
  rw [show V11 m ρ c main_v10_0 = (dat8 (V10 m ρ) c).arrAt 3 cfg8.N from W11_arr m ρ c 3]
  exact call8_q (V10 m ρ) c (at10_v4 m ρ h) (at10_v5 m ρ h) (at10_v8 m ρ h)

/-- of the keys and values, -/
theorem at11_v10_1 : Kv (V11 m ρ c main_v10_1) N.dkv := by
  rw [show V11 m ρ c main_v10_1 = (dat8 (V10 m ρ) c).arrAt 4 cfg8.N from W11_arr m ρ c 4]
  exact call8_k (V10 m ρ) c (at10_v4 m ρ h) (at10_v5 m ρ h) (at10_v8 m ρ h)

theorem at11_v1 : Tok16 (V11 m ρ c main_v1) N.h := by
  rw [show V11 m ρ c main_v1 = V2 m ρ c main_v1 from
    (W11_of m ρ c main_v1 (by decide)).trans ((W10_of m ρ c main_v1 (by decide)).trans ((W9_of m ρ c main_v1 (by decide)).trans ((W8_of m ρ c main_v1 (by decide)).trans ((W7_of m ρ c main_v1 (by decide)).trans ((W6_of m ρ c main_v1 (by decide)).trans ((W5_of m ρ c main_v1 (by decide)).trans ((W4_of m ρ c main_v1 (by decide)).trans (W3_of m ρ c main_v1 (by decide)))))))))]
  exact at2_v1 m ρ h

/-- of the queries' weight, -/
theorem at12_v11 : Wgt (V12 m ρ c main_v11) N.dwq := by
  rw [show V12 m ρ c main_v11 = (dat9 (V11 m ρ) c).arrAt 2 cfg9.N from W12_arr m ρ c 2]
  exact call9 (V11 m ρ) c (at11_v1 m ρ h) (at11_v10_0 m ρ h)

theorem at13_v10_0 : Tok16 (V13 m ρ c main_v10_0) N.dq := by
  rw [show V13 m ρ c main_v10_0 = V11 m ρ c main_v10_0 from
    (W13_of m ρ c main_v10_0 (by decide)).trans (W12_of m ρ c main_v10_0 (by decide))]
  exact at11_v10_0 m ρ h

theorem at13_arg4 : Wgt (V13 m ρ c main_arg4) N.wq := by
  rw [show V13 m ρ c main_arg4 = m ((c.tc : Thread nD τ).loc main_arg4) from W13_args m ρ c main_arg4 (by decide)]
  exact h.wq

theorem at13_arg0 : Tok (V13 m ρ c main_arg0) N.x := by
  rw [show V13 m ρ c main_arg0 = m ((c.tc : Thread nD τ).loc main_arg0) from W13_args m ρ c main_arg0 (by decide)]
  exact h.x

theorem at13_v12 : Row (V13 m ρ c main_v12) N.gx := fun i j => by
  refine Eq.trans ?_ (h.gx j)
  refine Eq.trans ?_ (congrFun (W12_args m ρ c main_arg2 (by decide)) _)
  change StableHlo.after hostOps10 (W12 m ρ c) (Proc.devRef .tc main_v12) _ = _
  entry_read
  pointwise

theorem at13_arg7 : Tok (V13 m ρ c main_arg7) N.c := by
  rw [show V13 m ρ c main_arg7 = m ((c.tc : Thread nD τ).loc main_arg7) from W13_args m ρ c main_arg7 (by decide)]
  exact h.c

/-- of the tokens, -/
theorem at14_v13_0 : Tok (V14 m ρ c main_v13_0) N.dx := by
  rw [show V14 m ρ c main_v13_0 = (dat10 (V13 m ρ) c).arrAt 5 cfg10.N from W14_arr m ρ c 5]
  exact call10_x (V13 m ρ) c (at13_v10_0 m ρ h) (at13_arg4 m ρ h) (at13_arg0 m ρ h) (at13_v12 m ρ h) (at13_arg7 m ρ h)

/-- of their gain, -/
theorem at14_v13_1 : Row (V14 m ρ c main_v13_1) N.dgx := by
  rw [show V14 m ρ c main_v13_1 = (dat10 (V13 m ρ) c).arrAt 6 cfg10.N from W14_arr m ρ c 6]
  exact call10_g (V13 m ρ) c (at13_v10_0 m ρ h) (at13_arg4 m ρ h) (at13_arg0 m ρ h)

theorem at14_v10_1 : Kv (V14 m ρ c main_v10_1) N.dkv := by
  rw [show V14 m ρ c main_v10_1 = V11 m ρ c main_v10_1 from
    (W14_of m ρ c main_v10_1 (by decide)).trans ((W13_of m ρ c main_v10_1 (by decide)).trans (W12_of m ρ c main_v10_1 (by decide)))]
  exact at11_v10_1 m ρ h

theorem at14_arg5 : Wgt2 (V14 m ρ c main_arg5) N.wkv := by
  rw [show V14 m ρ c main_arg5 = m ((c.tc : Thread nD τ).loc main_arg5) from W14_args m ρ c main_arg5 (by decide)]
  exact h.wkv

/-- of the normalized memory, -/
theorem at15_v14 : Pos (V15 m ρ c main_v14) N.dn := by
  rw [show V15 m ρ c main_v14 = (dat11 (V14 m ρ) c).arrAt 2 cfg11.N from W15_arr m ρ c 2]
  exact call11 (V14 m ρ) c (at14_v10_1 m ρ h) (at14_arg5 m ρ h)

theorem at15_v10_1 : Kv (V15 m ρ c main_v10_1) N.dkv := by
  rw [show V15 m ρ c main_v10_1 = V11 m ρ c main_v10_1 from
    (W15_of m ρ c main_v10_1 (by decide)).trans ((W14_of m ρ c main_v10_1 (by decide)).trans ((W13_of m ρ c main_v10_1 (by decide)).trans (W12_of m ρ c main_v10_1 (by decide))))]
  exact at11_v10_1 m ρ h

theorem at15_v3 : Pos16 (V15 m ρ c main_v3) N.n := by
  rw [show V15 m ρ c main_v3 = V4 m ρ c main_v3 from
    (W15_of m ρ c main_v3 (by decide)).trans ((W14_of m ρ c main_v3 (by decide)).trans ((W13_of m ρ c main_v3 (by decide)).trans ((W12_of m ρ c main_v3 (by decide)).trans ((W11_of m ρ c main_v3 (by decide)).trans ((W10_of m ρ c main_v3 (by decide)).trans ((W9_of m ρ c main_v3 (by decide)).trans ((W8_of m ρ c main_v3 (by decide)).trans ((W7_of m ρ c main_v3 (by decide)).trans ((W6_of m ρ c main_v3 (by decide)).trans (W5_of m ρ c main_v3 (by decide)))))))))))]
  exact at4_v3 m ρ h

/-- of the keys' and values' weight, -/
theorem at16_v15 : Wgt2 (V16 m ρ c main_v15) N.dwkv := by
  rw [show V16 m ρ c main_v15 = (dat12 (V15 m ρ) c).arrAt 2 cfg12.N from W16_arr m ρ c 2]
  exact call12 (V15 m ρ) c (at15_v10_1 m ρ h) (at15_v3 m ρ h)

theorem at17_v14 : Pos (V17 m ρ c main_v14) N.dn := by
  rw [show V17 m ρ c main_v14 = V15 m ρ c main_v14 from
    (W17_of m ρ c main_v14 (by decide)).trans (W16_of m ρ c main_v14 (by decide))]
  exact at15_v14 m ρ h

theorem at17_arg1 : Pos (V17 m ρ c main_arg1) N.m := by
  rw [show V17 m ρ c main_arg1 = m ((c.tc : Thread nD τ).loc main_arg1) from W17_args m ρ c main_arg1 (by decide)]
  exact h.mem

/-- and of the memory's gain. -/
theorem at18_v17 : Row (V18 m ρ c main_v17) N.dgm := by
  rw [show V18 m ρ c main_v17 = (dat13 (V17 m ρ) c).arrAt 3 cfg13.N from W18_arr m ρ c 3]
  exact call13 (V17 m ρ) c (at17_v14 m ρ h) (at17_arg1 m ρ h)

/-! The seven results as the last call leaves them. -/

theorem final_y : Tok (W18 m ρ c (Proc.devRef .tc main_v7)) N.y := by
  rw [show W18 m ρ c (Proc.devRef .tc main_v7) = V8 m ρ c main_v7 from
    (W18_of m ρ c main_v7 (by decide)).trans ((W17_of m ρ c main_v7 (by decide)).trans ((W16_of m ρ c main_v7 (by decide)).trans ((W15_of m ρ c main_v7 (by decide)).trans ((W14_of m ρ c main_v7 (by decide)).trans ((W13_of m ρ c main_v7 (by decide)).trans ((W12_of m ρ c main_v7 (by decide)).trans ((W11_of m ρ c main_v7 (by decide)).trans ((W10_of m ρ c main_v7 (by decide)).trans (W9_of m ρ c main_v7 (by decide))))))))))]
  exact at8_v7 m ρ h

theorem final_dx : Tok (W18 m ρ c (Proc.devRef .tc main_v13_0)) N.dx := by
  rw [show W18 m ρ c (Proc.devRef .tc main_v13_0) = V14 m ρ c main_v13_0 from
    (W18_of m ρ c main_v13_0 (by decide)).trans ((W17_of m ρ c main_v13_0 (by decide)).trans ((W16_of m ρ c main_v13_0 (by decide)).trans (W15_of m ρ c main_v13_0 (by decide))))]
  exact at14_v13_0 m ρ h

theorem final_dgx : Row (W18 m ρ c (Proc.devRef .tc main_v13_1)) N.dgx := by
  rw [show W18 m ρ c (Proc.devRef .tc main_v13_1) = V14 m ρ c main_v13_1 from
    (W18_of m ρ c main_v13_1 (by decide)).trans ((W17_of m ρ c main_v13_1 (by decide)).trans ((W16_of m ρ c main_v13_1 (by decide)).trans (W15_of m ρ c main_v13_1 (by decide))))]
  exact at14_v13_1 m ρ h

theorem final_dgm : Row (W18 m ρ c (Proc.devRef .tc main_v17)) N.dgm := at18_v17 m ρ h

theorem final_dwq : Wgt (W18 m ρ c (Proc.devRef .tc main_v11)) N.dwq := by
  rw [show W18 m ρ c (Proc.devRef .tc main_v11) = V12 m ρ c main_v11 from
    (W18_of m ρ c main_v11 (by decide)).trans ((W17_of m ρ c main_v11 (by decide)).trans ((W16_of m ρ c main_v11 (by decide)).trans ((W15_of m ρ c main_v11 (by decide)).trans ((W14_of m ρ c main_v11 (by decide)).trans (W13_of m ρ c main_v11 (by decide))))))]
  exact at12_v11 m ρ h

theorem final_dwkv : Wgt2 (W18 m ρ c (Proc.devRef .tc main_v15)) N.dwkv := by
  rw [show W18 m ρ c (Proc.devRef .tc main_v15) = V16 m ρ c main_v15 from
    (W18_of m ρ c main_v15 (by decide)).trans (W17_of m ρ c main_v15 (by decide))]
  exact at16_v15 m ρ h

theorem final_dwo : Wgt (W18 m ρ c (Proc.devRef .tc main_v9)) N.dwo := by
  rw [show W18 m ρ c (Proc.devRef .tc main_v9) = V10 m ρ c main_v9 from
    (W18_of m ρ c main_v9 (by decide)).trans ((W17_of m ρ c main_v9 (by decide)).trans ((W16_of m ρ c main_v9 (by decide)).trans ((W15_of m ρ c main_v9 (by decide)).trans ((W14_of m ρ c main_v9 (by decide)).trans ((W13_of m ρ c main_v9 (by decide)).trans ((W12_of m ρ c main_v9 (by decide)).trans (W11_of m ρ c main_v9 (by decide))))))))]
  exact at10_v9 m ρ h

end Entry

set_option backward.isDefEq.respectTransparency.types false in
/-- The run of the idealized calls: every array of the host ends as the last of them leaves it. -/
theorem run_cross : θ_run defs (onTc (τ := τ) (main (F := Ideal))) ⟨m, fun _ => 0, ρ⟩ (fun r => ∀ c : Dev nD, ∀ b ∈ Pipeline.ucRefs τ sig,
      r.2.mem ((c : Thread nD τ).1, b) = W18 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h _ => h)

end Cert.Mem
-- ==== Proof.MemRef.lean ====
/- The reference of the cross attention, operation by operation: what each of its arrays holds, as real numbers. -/
module

public import proofs.«01_k».proof.Proof.Mem
public import proofs.«01_k».proof.Proof.NetRef
public import proofs.«01_k».proof.Proof.Gen.CrossReferenceIdeal.Read

@[expose] public section

set_option maxRecDepth 16384

noncomputable section

namespace Cert.Mem

open Idealize.ShloMosaic Finset
open Cert.Net (rms eps rms_arg_pos rms_div minus_half root_at exp_at)

theorem sixteen : Ideal.ofBits .f32 0x41800000#32 = ((16 : ℝ) : EReal) := by
  simp [Ideal.ofBits, Ideal.ieee]
  rw [← EReal.coe_mul]; norm_num

namespace Cross

variable (N : Cross)

/-- The logits of head `a`. -/
def S (a : ℕ) : ℕ → ℕ → ℝ := logit (from' (256 * a) N.q) (from' (256 * a) N.kv)

variable (M : ℕ → ℕ → ℝ)

/-- The exponential of a logit less its row's largest. -/
def e (a t s : ℕ) : ℝ := Real.exp (N.S a t s - M a t)

/-- The sum of a row's exponentials. -/
def l (a t : ℕ) : ℝ := ∑ s ∈ range 256, N.e M a t s

theorem l_pos (a t : ℕ) : 0 < N.l M a t := sum_pos (fun _ _ => Real.exp_pos _) ⟨0, by simp⟩

theorem e_div_l (a t s : ℕ) : N.e M a t s / N.l M a t = N.P a t s := soft_shift (N.S a) (M a t) t s

/-- The gradient of the softmax written with the exponentials is the gradient written with the weights. -/
theorem dS_eq (a t s : ℕ) :
    (N.dP a t s / N.l M a t + -∑ u ∈ range 256, N.dP a t u * (1 / (N.l M a t * N.l M a t)) * N.e M a t u) * N.e M a t s / 16 = N.dS a t s := by
  have hl := (N.l_pos M a t).ne'
  unfold dS soft'
  simp only [← N.e_div_l M]
  have : ∑ u ∈ range 256, N.dP a t u * (1 / (N.l M a t * N.l M a t)) * N.e M a t u
      = (∑ u ∈ range 256, N.e M a t u / N.l M a t * N.dP a t u) / N.l M a t := by
    rw [sum_div]; exact sum_congr rfl fun _ _ => by field_simp
  rw [this]; field_simp; ring

/-- What the mean square contributes to the gradient of the tokens, as the reference writes it. -/
def s (t : ℕ) : ℝ :=
  (∑ e ∈ range 1024, N.x t e * (N.dh t e * N.gx e)) *
    (-(1 / 2) * (rms N.x t / ((∑ d ∈ range 1024, N.x t d * N.x t d) / 1024 + eps))) / 1024

theorem dx_eq (t d : ℕ) :
    N.c t d + N.dh t d * N.gx d * rms N.x t + N.x t d * N.s t + N.s t * N.x t d = N.dx t d := by
  unfold s dx xh
  rw [rms_div]
  have e : ∑ e ∈ range 1024, N.dh t e * N.gx e * (N.x t e * rms N.x t) = (∑ e ∈ range 1024, N.x t e * (N.dh t e * N.gx e)) * rms N.x t := by
    rw [sum_mul]; exact sum_congr rfl fun _ _ => by ring
  rw [e]; ring

/-- The outputs, the gradient of the queries, and that of the keys and of the values, lane by lane of head `a`. -/
theorem o_at {a l : ℕ} (t : ℕ) (h : l < 256) : ∑ s ∈ range 256, N.kv s (1024 + 256 * a + l) * N.P a t s = N.o t (256 * a + l) := by
  unfold o
  rw [show (256 * a + l) / 256 = a by omega]
  exact sum_congr rfl fun s _ => by rw [add_assoc, mul_comm]

theorem dq_at {a l : ℕ} (t : ℕ) (h : l < 256) : ∑ s ∈ range 256, N.dS a t s * N.kv s (256 * a + l) = N.dq t (256 * a + l) := by
  unfold dq
  rw [show (256 * a + l) / 256 = a by omega]

theorem dk_at {a l : ℕ} (s : ℕ) (ha : a < 4) (h : l < 256) : ∑ t ∈ range 2048, N.dS a t s * N.q t (256 * a + l) = N.dkv s (256 * a + l) := by
  unfold dkv part
  refine sum_congr rfl fun t _ => ?_
  rw [if_pos (by omega), show (256 * a + l) / 256 = a by omega]

theorem dv_at {a l : ℕ} (s : ℕ) (h : l < 256) :
    ∑ t ∈ range 2048, N.do' t (256 * a + l) * N.P a t s = N.dkv s (1024 + (256 * a + l)) := by
  unfold dkv part
  refine sum_congr rfl fun t _ => ?_
  rw [if_neg (by omega), show 1024 + (256 * a + l) - 1024 = 256 * a + l by omega, show (256 * a + l) / 256 = a by omega, mul_comm]

end Cross

namespace Ref

open Cert.Fox Cert.Net Cert.CrossReferenceIdeal Cert.CrossReferenceIdeal.Gen Cert.CrossReferenceIdeal.Read

variable {x0 x7 : (⟨S2048x1024, .f32⟩ : BufTy).Contents (Elt Ideal)} {x1 : (⟨S256x1024, .f32⟩ : BufTy).Contents (Elt Ideal)}
  {x2 x3 : (⟨S1024, .f32⟩ : BufTy).Contents (Elt Ideal)} {x4 x6 : (⟨S1x1024x1024, .bf16⟩ : BufTy).Contents (Elt Ideal)}
  {x5 : (⟨S1x2048x1024, .bf16⟩ : BufTy).Contents (Elt Ideal)} {N : Cross}

/-- The reference's arguments hold the numbers of the layer, of its weights and of the gradient that arrives. -/
structure Given (x0 : (⟨S2048x1024, .f32⟩ : BufTy).Contents (Elt Ideal)) (x1 : (⟨S256x1024, .f32⟩ : BufTy).Contents (Elt Ideal))
    (x2 x3 : (⟨S1024, .f32⟩ : BufTy).Contents (Elt Ideal)) (x4 : (⟨S1x1024x1024, .bf16⟩ : BufTy).Contents (Elt Ideal))
    (x5 : (⟨S1x2048x1024, .bf16⟩ : BufTy).Contents (Elt Ideal)) (x6 : (⟨S1x1024x1024, .bf16⟩ : BufTy).Contents (Elt Ideal))
    (x7 : (⟨S2048x1024, .f32⟩ : BufTy).Contents (Elt Ideal)) (N : Cross) : Prop where
  x : ∀ i : S2048x1024.Idx, x0 i = ((N.x (i 0).val (i 1).val : ℝ) : EReal)
  m : ∀ i : S256x1024.Idx, x1 i = ((N.m (i 0).val (i 1).val : ℝ) : EReal)
  gx : ∀ i : S1024.Idx, x2 i = ((N.gx (i 0).val : ℝ) : EReal)
  gm : ∀ i : S1024.Idx, x3 i = ((N.gm (i 0).val : ℝ) : EReal)
  wq : ∀ i : S1x1024x1024.Idx, x4 i = ((N.wq (i 1).val (i 2).val : ℝ) : EReal)
  wkv : ∀ i : S1x2048x1024.Idx, x5 i = ((N.wkv (i 1).val (i 2).val : ℝ) : EReal)
  wo : ∀ i : S1x1024x1024.Idx, x6 i = ((N.wo (i 1).val (i 2).val : ℝ) : EReal)
  c : ∀ i : S2048x1024.Idx, x7 i = ((N.c (i 0).val (i 1).val : ℝ) : EReal)

variable (H : Given x0 x1 x2 x3 x4 x5 x6 x7 N)
include H

/-- The mean squares, -/
theorem v9 (i : S2048x1.Idx) :
    val_main_v9 (F := Ideal) x0 i = ((((∑ d ∈ range 1024, N.x (i 0).val d * N.x (i 0).val d) / 1024 + eps : ℝ)) : EReal) := by
  have s : val_main_v5 (F := Ideal) x0 i = ((∑ d ∈ range 1024, N.x (i 0).val d * N.x (i 0).val d : ℝ) : EReal) :=
    (val_main_v5_apply ..).trans ((val_main_v4_apply ..).trans (sum_at (f := fun d => N.x (i 0).val d * N.x (i 0).val d)
      ((val_main_cst_apply _).trans zero_word) fun k => (val_main_v3_apply ..).trans (mul_at (H.x _) (H.x _))))
  have w : val_main_v6 (F := Ideal) i = ((1024 : ℝ) : EReal) := (val_main_v6_apply i).trans width
  have e : val_main_v8 (F := Ideal) i = ((eps : ℝ) : EReal) := (val_main_v8_apply i).trans small
  exact (val_main_v9_apply ..).trans (add_at ((val_main_v7_apply ..).trans (div_at s w (by norm_num))) e)

theorem v10 (i : S2048x1.Idx) : val_main_v10 (F := Ideal) x0 i = ((rms N.x (i 0).val : ℝ) : EReal) :=
  (val_main_v10_apply ..).trans (root_at (v9 H i) (rms_arg_pos _ _))

theorem v13 (i : S2048x1.Idx) : val_main_v13 (F := Ideal) x0 i
    = ((-(1 / 2) * (rms N.x (i 0).val / ((∑ d ∈ range 1024, N.x (i 0).val d * N.x (i 0).val d) / 1024 + eps)) : ℝ) : EReal) :=
  (val_main_v13_apply ..).trans (mul_at ((val_main_v12_apply i).trans minus_half)
    ((val_main_v11_apply ..).trans (div_at (v10 H i) (v9 H i) (rms_arg_pos _ _).ne')))

/-- the normalized tokens, -/
theorem v15 (i : S2048x1024.Idx) : val_main_v15 (F := Ideal) x0 i = ((N.xh (i 0).val (i 1).val : ℝ) : EReal) :=
  (val_main_v15_apply ..).trans (mul_at (H.x i) ((val_main_v14_apply ..).trans (v10 H _)))

theorem v18 (i : S2048x1024.Idx) : val_main_v18 (F := Ideal) x0 x2 i = ((N.h (i 0).val (i 1).val : ℝ) : EReal) :=
  (val_main_v18_apply ..).trans (mul_at (v15 H i) ((val_main_v17_apply ..).trans ((val_main_v16_apply ..).trans (H.gx _))))

/-- the memory's mean squares, -/
theorem v25 (i : S256x1.Idx) :
    val_main_v25 (F := Ideal) x1 i = ((((∑ d ∈ range 1024, N.m (i 0).val d * N.m (i 0).val d) / 1024 + eps : ℝ)) : EReal) := by
  have s : val_main_v21 (F := Ideal) x1 i = ((∑ d ∈ range 1024, N.m (i 0).val d * N.m (i 0).val d : ℝ) : EReal) :=
    (val_main_v21_apply ..).trans ((val_main_v20_apply ..).trans (sum_at (f := fun d => N.m (i 0).val d * N.m (i 0).val d)
      zero_word fun k => (val_main_v19_apply ..).trans (mul_at (H.m _) (H.m _))))
  have w : val_main_v22 (F := Ideal) i = ((1024 : ℝ) : EReal) := (val_main_v22_apply i).trans width
  have e : val_main_v24 (F := Ideal) i = ((eps : ℝ) : EReal) := (val_main_v24_apply i).trans small
  exact (val_main_v25_apply ..).trans (add_at ((val_main_v23_apply ..).trans (div_at s w (by norm_num))) e)

/-- the normalized memory, -/
theorem v28 (i : S256x1024.Idx) : val_main_v28 (F := Ideal) x1 i = ((N.m (i 0).val (i 1).val * rms N.m (i 0).val : ℝ) : EReal) :=
  (val_main_v28_apply ..).trans (mul_at (H.m i) ((val_main_v27_apply ..).trans ((val_main_v26_apply ..).trans
    (root_at (v25 H _) (rms_arg_pos _ _)))))

theorem v31 (i : S256x1024.Idx) : val_main_v31 (F := Ideal) x1 x3 i = ((N.n (i 0).val (i 1).val : ℝ) : EReal) :=
  (val_main_v31_apply ..).trans (mul_at (v28 H i) ((val_main_v30_apply ..).trans ((val_main_v29_apply ..).trans (H.gm _))))

/-- and the weights. -/
theorem v32 (i : S1024x1024.Idx) : val_main_v32 (F := Ideal) x4 i = ((N.wq (i 0).val (i 1).val : ℝ) : EReal) := by
  have h0 : (i 0).val < 1024 := (i 0).isLt
  have h1 : (i 1).val < 1024 := (i 1).isLt
  refine (val_main_v32_apply x4 i).trans ((val_main_v0_apply x4 _).trans ((H.wq _).trans ?_))
  change ((N.wq (((i 0).val * 1024 + (i 1).val) / 1024 % 1024) (((i 0).val * 1024 + (i 1).val) % 1024) : ℝ) : EReal) = _
  rw [show ((i 0).val * 1024 + (i 1).val) / 1024 % 1024 = (i 0).val by omega, show ((i 0).val * 1024 + (i 1).val) % 1024 = (i 1).val by omega]

theorem v34 (i : S1024x2048.Idx) : val_main_v34 (F := Ideal) x5 i = ((N.wkv (i 1).val (i 0).val : ℝ) : EReal) := by
  have h0 : (i 0).val < 1024 := (i 0).isLt
  have h1 : (i 1).val < 2048 := (i 1).isLt
  refine (val_main_v34_apply x5 i).trans ((val_main_v33_apply x5 _).trans ((val_main_v1_apply x5 _).trans ((H.wkv _).trans ?_)))
  change ((N.wkv (((i 1).val * 1024 + (i 0).val) / 1024 % 2048) (((i 1).val * 1024 + (i 0).val) % 1024) : ℝ) : EReal) = _
  rw [show ((i 1).val * 1024 + (i 0).val) / 1024 % 2048 = (i 1).val by omega, show ((i 1).val * 1024 + (i 0).val) % 1024 = (i 0).val by omega]

theorem v35 (i : S1024x1024.Idx) : val_main_v35 (F := Ideal) x6 i = ((N.wo (i 0).val (i 1).val : ℝ) : EReal) := by
  have h0 : (i 0).val < 1024 := (i 0).isLt
  have h1 : (i 1).val < 1024 := (i 1).isLt
  refine (val_main_v35_apply x6 i).trans ((val_main_v2_apply x6 _).trans ((H.wo _).trans ?_))
  change ((N.wo (((i 0).val * 1024 + (i 1).val) / 1024 % 1024) (((i 0).val * 1024 + (i 1).val) % 1024) : ℝ) : EReal) = _
  rw [show ((i 0).val * 1024 + (i 1).val) / 1024 % 1024 = (i 0).val by omega, show ((i 0).val * 1024 + (i 1).val) % 1024 = (i 1).val by omega]

/-- The queries, -/
theorem v36 (i : S2048x1024.Idx) : val_main_v36 (F := Ideal) x0 x2 x4 i = ((N.q (i 0).val (i 1).val : ℝ) : EReal) :=
  (val_main_v36_apply ..).trans (dot_at (f := fun k => N.h (i 0).val k) (g := fun k => N.wq k (i 1).val) (fun k => v18 H _) fun k => v32 H _)

theorem v37 (i : S2048x4x256.Idx) : val_main_v37 (F := Ideal) x0 x2 x4 i = ((N.q (i 0).val (256 * (i 1).val + (i 2).val) : ℝ) : EReal) := by
  have h0 : (i 0).val < 2048 := (i 0).isLt
  have h1 : (i 1).val < 4 := (i 1).isLt
  have h2 : (i 2).val < 256 := (i 2).isLt
  refine (val_main_v37_apply ..).trans ((v36 H _).trans ?_)
  change ((N.q ((((i 0).val * 4 + (i 1).val) * 256 + (i 2).val) / 1024) ((((i 0).val * 4 + (i 1).val) * 256 + (i 2).val) % 1024) : ℝ) : EReal) = _
  rw [show (((i 0).val * 4 + (i 1).val) * 256 + (i 2).val) / 1024 = (i 0).val by omega,
    show (((i 0).val * 4 + (i 1).val) * 256 + (i 2).val) % 1024 = 256 * (i 1).val + (i 2).val by omega]

/-- the keys and values, -/
theorem v38 (i : S256x2048.Idx) : val_main_v38 (F := Ideal) x1 x3 x5 i = ((N.kv (i 0).val (i 1).val : ℝ) : EReal) :=
  (val_main_v38_apply ..).trans (dot_at (f := fun k => N.n (i 0).val k) (g := fun k => N.wkv (i 1).val k) (fun k => v31 H _) fun k => v34 H _)

theorem v41 (i : S256x4x256.Idx) : val_main_v41 (F := Ideal) x1 x3 x5 i = ((N.kv (i 0).val (256 * (i 1).val + (i 2).val) : ℝ) : EReal) := by
  have h0 : (i 0).val < 256 := (i 0).isLt
  have h1 : (i 1).val < 4 := (i 1).isLt
  have h2 : (i 2).val < 256 := (i 2).isLt
  refine (val_main_v41_apply ..).trans ((val_main_v39_apply ..).trans ((v38 H _).trans ?_))
  change ((N.kv ((((i 0).val * 4 + (i 1).val) * 256 + (i 2).val) / 1024) ((((i 0).val * 4 + (i 1).val) * 256 + (i 2).val) % 1024) : ℝ) : EReal) = _
  rw [show (((i 0).val * 4 + (i 1).val) * 256 + (i 2).val) / 1024 = (i 0).val by omega,
    show (((i 0).val * 4 + (i 1).val) * 256 + (i 2).val) % 1024 = 256 * (i 1).val + (i 2).val by omega]

theorem v42 (i : S256x4x256.Idx) :
    val_main_v42 (F := Ideal) x1 x3 x5 i = ((N.kv (i 0).val (1024 + 256 * (i 1).val + (i 2).val) : ℝ) : EReal) := by
  have h0 : (i 0).val < 256 := (i 0).isLt
  have h1 : (i 1).val < 4 := (i 1).isLt
  have h2 : (i 2).val < 256 := (i 2).isLt
  refine (val_main_v42_apply ..).trans ((val_main_v40_apply ..).trans ((v38 H _).trans ?_))
  change ((N.kv ((((i 0).val * 4 + (i 1).val) * 256 + (i 2).val) / 1024)
    (1024 + (((i 0).val * 4 + (i 1).val) * 256 + (i 2).val) % 1024) : ℝ) : EReal) = _
  rw [show (((i 0).val * 4 + (i 1).val) * 256 + (i 2).val) / 1024 = (i 0).val by omega,
    show 1024 + (((i 0).val * 4 + (i 1).val) * 256 + (i 2).val) % 1024 = 1024 + 256 * (i 1).val + (i 2).val by omega]

/-- and the logits. -/
theorem v45 (i : S4x2048x256.Idx) : val_main_v45 (F := Ideal) x0 x1 x2 x3 x4 x5 i = ((N.S (i 0).val (i 1).val (i 2).val : ℝ) : EReal) := by
  have w : val_main_v44 (F := Ideal) i = ((16 : ℝ) : EReal) := (val_main_v44_apply i).trans sixteen
  have d := (val_main_v43_apply x0 x1 x2 x3 x4 x5 i).trans (dot_at (f := fun l => N.q (i 1).val (256 * (i 0).val + l))
    (g := fun l => N.kv (i 2).val (256 * (i 0).val + l)) (fun k => v37 H _) fun k => v41 H _)
  refine ((val_main_v45_apply ..).trans (div_at d w (by norm_num))).trans ?_
  congr 1
  exact div_eq_mul_one_div _ _

/-- The largest logit of each row is a real number. -/
theorem v46 : ∃ M : ℕ → ℕ → ℝ, ∀ i : S4x2048.Idx, val_main_v46 (F := Ideal) x0 x1 x2 x3 x4 x5 i = ((M (i 0).val (i 1).val : ℝ) : EReal) := by
  have key : ∀ i : S4x2048.Idx, ∃ r : ℝ, val_main_v46 (F := Ideal) x0 x1 x2 x3 x4 x5 i = (r : EReal) := fun i => by
    have hR : S4x2048x256.Reduces [2] S4x2048 := by decide
    have e : val_main_v46 (F := Ideal) x0 x1 x2 x3 x4 x5 i
        = (univ.filter fun j => hR.drop j = i).fold max (⊥ : EReal) (val_main_v45 (F := Ideal) x0 x1 x2 x3 x4 x5) := by
      unfold val_main_v46
      refine (Host.reduce_eq_fold (α := EReal) max _ _ _ _ _).trans ?_
      rw [reducesTo_S4x2048x256_S4x2048_d2.drop_eq_drop hR]
      exact congrArg (fun z : EReal => fold max z _ _) neg_inf
    rw [e]
    refine fold_max_real _ _ (fun j _ => ?_) (i := hR.lift i ⟨0, by decide⟩) (mem_filter.2 ⟨mem_univ _, hR.drop_lift i _⟩) ?_
    · rw [v45 H j]; exact EReal.coe_lt_top _
    · rw [v45 H]; exact EReal.coe_ne_bot _
  choose r hr using key
  exact ⟨fun h t => if c : h < 4 ∧ t < 2048 then r (ix2 ⟨h, c.1⟩ ⟨t, c.2⟩) else 0, fun i => by
    have b : (i 0).val < 4 ∧ (i 1).val < 2048 := ⟨(i 0).isLt, (i 1).isLt⟩
    beta_reduce
    rw [dif_pos b]
    exact (hr i).trans (congrArg (fun j => ((r j : ℝ) : EReal)) (ix2_eta i).symm)⟩

variable {M : ℕ → ℕ → ℝ}
  (hM : ∀ i : S4x2048.Idx, val_main_v46 (F := Ideal) x0 x1 x2 x3 x4 x5 i = ((M (i 0).val (i 1).val : ℝ) : EReal))
include hM

omit H in
theorem v64 (i : S4x2048x256.Idx) : val_main_v64 (F := Ideal) x0 x1 x2 x3 x4 x5 i = ((M (i 0).val (i 1).val : ℝ) : EReal) := by
  refine (val_main_v64_apply ..).trans ((val_main_v63_apply ..).trans ((val_main_v53_apply ..).trans ?_))
  have b : val_main_v52 (F := Ideal) (idx_main_v63 (idx_main_v64 i)) = (⊥ : EReal) := (val_main_v52_apply _).trans neg_inf
  exact (congrArg₂ (fun x y : EReal => max x y) b (hM _)).trans (max_eq_right bot_le)

theorem v66 (i : S4x2048x256.Idx) : val_main_v66 (F := Ideal) x0 x1 x2 x3 x4 x5 i = ((N.e M (i 0).val (i 1).val (i 2).val : ℝ) : EReal) :=
  (val_main_v66_apply ..).trans (exp_at ((val_main_v65_apply ..).trans (sub_at (v45 H i) (v64 hM i))))

theorem v67 (i : S4x2048.Idx) : val_main_v67 (F := Ideal) x0 x1 x2 x3 x4 x5 i = ((N.l M (i 0).val (i 1).val : ℝ) : EReal) :=
  (val_main_v67_apply ..).trans (sum_at (f := N.e M (i 0).val (i 1).val) zero_word fun k => v66 H hM _)

theorem v68 (i : S4x2048x1.Idx) : val_main_v68 (F := Ideal) x0 x1 x2 x3 x4 x5 i = ((N.l M (i 0).val (i 1).val : ℝ) : EReal) :=
  (val_main_v68_apply ..).trans (v67 H hM _)

/-- The weights of the attention, -/
theorem v70 (i : S4x2048x256.Idx) : val_main_v70 (F := Ideal) x0 x1 x2 x3 x4 x5 i = ((N.P (i 0).val (i 1).val (i 2).val : ℝ) : EReal) :=
  ((val_main_v70_apply ..).trans (div_at (v66 H hM i) ((val_main_v69_apply ..).trans (v68 H hM _))
    (N.l_pos M _ _).ne')).trans (congrArg _ (N.e_div_l M _ _ _))

omit H hM in
theorem unpack (i : S2048x1024.Idx) (f : ℕ → ℕ → ℝ) :
    ((f (((i 0).val * 1024 + (i 1).val) / 1024) (256 * (((i 0).val * 1024 + (i 1).val) / 256 % 4) + ((i 0).val * 1024 + (i 1).val) % 256) : ℝ) : EReal)
      = ((f (i 0).val (i 1).val : ℝ) : EReal) := by
  have h1 : (i 1).val < 1024 := (i 1).isLt
  rw [show ((i 0).val * 1024 + (i 1).val) / 1024 = (i 0).val by omega,
    show 256 * (((i 0).val * 1024 + (i 1).val) / 256 % 4) + ((i 0).val * 1024 + (i 1).val) % 256 = (i 1).val by omega]

omit H hM in
theorem unpack' (i : S256x1024.Idx) (f : ℕ → ℕ → ℝ) :
    ((f (((i 0).val * 1024 + (i 1).val) / 1024) (256 * (((i 0).val * 1024 + (i 1).val) / 256 % 4) + ((i 0).val * 1024 + (i 1).val) % 256) : ℝ) : EReal)
      = ((f (i 0).val (i 1).val : ℝ) : EReal) := by
  have h1 : (i 1).val < 1024 := (i 1).isLt
  rw [show ((i 0).val * 1024 + (i 1).val) / 1024 = (i 0).val by omega,
    show 256 * (((i 0).val * 1024 + (i 1).val) / 256 % 4) + ((i 0).val * 1024 + (i 1).val) % 256 = (i 1).val by omega]

theorem v74 (i : S4x256x2048.Idx) :
    val_main_v74 (F := Ideal) x0 x1 x2 x3 x4 x5 i = ((N.o (i 2).val (256 * (i 0).val + (i 1).val) : ℝ) : EReal) :=
  ((val_main_v74_apply ..).trans (dot_at (f := fun s => N.kv s (1024 + 256 * (i 0).val + (i 1).val)) (g := N.P (i 0).val (i 2).val)
    (fun k => v42 H _) fun k => v70 H hM _)).trans (congrArg _ (N.o_at _ (i 1).isLt))

/-- the heads' output, -/
theorem v76 (i : S2048x1024.Idx) : val_main_v76 (F := Ideal) x0 x1 x2 x3 x4 x5 i = ((N.o (i 0).val (i 1).val : ℝ) : EReal) :=
  ((val_main_v76_apply ..).trans ((val_main_v75_apply ..).trans (v74 H hM _))).trans (unpack i N.o)

/-- and the result. -/
theorem v78 (i : S2048x1024.Idx) : val_main_v78 (F := Ideal) x0 x1 x2 x3 x4 x5 x6 i = ((N.y (i 0).val (i 1).val : ℝ) : EReal) :=
  (val_main_v78_apply ..).trans (add_at (H.x i) ((val_main_v77_apply ..).trans
    (dot_at (f := fun k => N.o (i 0).val k) (g := fun k => N.wo k (i 1).val) (fun k => v76 H hM _) fun k => v35 H _)))

omit hM in
theorem v79 (i : S2048x1024.Idx) : val_main_v79 (F := Ideal) x7 i = ((N.c (i 0).val (i 1).val : ℝ) : EReal) := by
  have h1 : (i 1).val < 1024 := (i 1).isLt
  refine (val_main_v79_apply x7 i).trans ((H.c _).trans ?_)
  change ((N.c (((i 0).val * 1024 + (i 1).val) / 1024) (((i 0).val * 1024 + (i 1).val) % 1024) : ℝ) : EReal) = _
  rw [show ((i 0).val * 1024 + (i 1).val) / 1024 = (i 0).val by omega, show ((i 0).val * 1024 + (i 1).val) % 1024 = (i 1).val by omega]

omit H hM in
theorem dwo_at (d e : ℕ) : ∑ t ∈ range 2048, N.c t d * N.o t e = N.dwo e d := sum_congr rfl fun _ _ => mul_comm _ _

theorem v80 (i : S1024x1024.Idx) : val_main_v80 (F := Ideal) x0 x1 x2 x3 x4 x5 x7 i = ((N.dwo (i 1).val (i 0).val : ℝ) : EReal) :=
  ((val_main_v80_apply ..).trans (dot_at (f := fun t => N.c t (i 0).val) (g := fun t => N.o t (i 1).val)
    (fun k => v79 H _) fun k => v76 H hM _)).trans (congrArg Real.toEReal (dwo_at _ _))

/-- The gradient of the output's weight, -/
theorem v149 (i : S1x1024x1024.Idx) : val_main_v149 (F := Ideal) x0 x1 x2 x3 x4 x5 x7 i = ((N.dwo (i 1).val (i 2).val : ℝ) : EReal) :=
  (val_main_v149_apply ..).trans ((val_main_v116_apply ..).trans ((val_main_v81_apply ..).trans (v80 H hM _)))

omit hM in
/-- of the heads' output, -/
theorem v82 (i : S2048x1024.Idx) : val_main_v82 (F := Ideal) x6 x7 i = ((N.do' (i 0).val (i 1).val : ℝ) : EReal) :=
  (val_main_v82_apply ..).trans (dot_at (f := fun d => N.c (i 0).val d) (g := fun d => N.wo (i 1).val d) (fun k => v79 H _) fun k => v35 H _)

omit hM in
theorem v84 (i : S4x256x2048.Idx) : val_main_v84 (F := Ideal) x6 x7 i = ((N.do' (i 2).val (256 * (i 0).val + (i 1).val) : ℝ) : EReal) := by
  have h0 : (i 0).val < 4 := (i 0).isLt
  have h1 : (i 1).val < 256 := (i 1).isLt
  refine (val_main_v84_apply ..).trans ((val_main_v83_apply ..).trans ((v82 H _).trans ?_))
  change ((N.do' ((((i 2).val * 4 + (i 0).val) * 256 + (i 1).val) / 1024) ((((i 2).val * 4 + (i 0).val) * 256 + (i 1).val) % 1024) : ℝ) : EReal) = _
  rw [show (((i 2).val * 4 + (i 0).val) * 256 + (i 1).val) / 1024 = (i 2).val by omega,
    show (((i 2).val * 4 + (i 0).val) * 256 + (i 1).val) % 1024 = 256 * (i 0).val + (i 1).val by omega]

omit hM in
/-- of the weights of the attention, -/
theorem v85 (i : S4x2048x256.Idx) : val_main_v85 (F := Ideal) x1 x3 x5 x6 x7 i = ((N.dP (i 0).val (i 1).val (i 2).val : ℝ) : EReal) :=
  (val_main_v85_apply ..).trans (dot_at (f := fun l => N.do' (i 1).val (256 * (i 0).val + l)) (g := fun l => N.kv (i 2).val (1024 + 256 * (i 0).val + l))
    (fun k => v84 H _) fun k => v42 H _)

theorem v86 (i : S4x256x256.Idx) :
    val_main_v86 (F := Ideal) x0 x1 x2 x3 x4 x5 x6 x7 i = ((N.dkv (i 2).val (1024 + (256 * (i 0).val + (i 1).val)) : ℝ) : EReal) :=
  ((val_main_v86_apply ..).trans (dot_at (f := fun t => N.do' t (256 * (i 0).val + (i 1).val)) (g := fun t => N.P (i 0).val t (i 2).val)
    (fun k => v84 H _) fun k => v70 H hM _)).trans (congrArg _ (N.dv_at _ (i 1).isLt))

/-- of the values, -/
theorem v106 (i : S256x1024.Idx) : val_main_v106 (F := Ideal) x0 x1 x2 x3 x4 x5 x6 x7 i = ((N.dkv (i 0).val (1024 + (i 1).val) : ℝ) : EReal) :=
  ((val_main_v106_apply ..).trans ((val_main_v87_apply ..).trans (v86 H hM _))).trans (unpack' i fun s e => N.dkv s (1024 + e))

theorem v73 (i : S4x2048x1.Idx) : val_main_v73 (F := Ideal) x0 x1 x2 x3 x4 x5 i
    = ((1 / (N.l M (i 0).val (i 1).val * N.l M (i 0).val (i 1).val) : ℝ) : EReal) := by
  have h := (N.l_pos M (i 0).val (i 1).val).ne'
  exact (val_main_v73_apply ..).trans (div_at ((val_main_v72_apply i).trans one_word)
    ((val_main_v71_apply ..).trans (mul_at (v68 H hM i) (v68 H hM i))) (mul_ne_zero h h))

theorem v90 (i : S4x2048x256.Idx) : val_main_v90 (F := Ideal) x0 x1 x2 x3 x4 x5 x6 x7 i
    = ((N.dP (i 0).val (i 1).val (i 2).val * (1 / (N.l M (i 0).val (i 1).val * N.l M (i 0).val (i 1).val))
        * N.e M (i 0).val (i 1).val (i 2).val : ℝ) : EReal) :=
  (val_main_v90_apply ..).trans (mul_at ((val_main_v89_apply ..).trans (mul_at (v85 H i)
    ((val_main_v88_apply ..).trans (v73 H hM _)))) (v66 H hM i))

/-- What the row's sum of products takes off every entry, before the exponential multiplies it. -/
def off (N : Cross) (M : ℕ → ℕ → ℝ) (a t : ℕ) : ℝ := -∑ u ∈ range 256, N.dP a t u * (1 / (N.l M a t * N.l M a t)) * N.e M a t u

theorem v96 (i : S4x2048.Idx) : val_main_v96 (F := Ideal) x0 x1 x2 x3 x4 x5 x6 x7 i = ((off N M (i 0).val (i 1).val : ℝ) : EReal) := by
  have h1 : (i 1).val < 2048 := (i 1).isLt
  have s : ∀ i : S4x2048.Idx, val_main_v91 (F := Ideal) x0 x1 x2 x3 x4 x5 x6 x7 i = ((-off N M (i 0).val (i 1).val : ℝ) : EReal) := fun i =>
    ((val_main_v91_apply ..).trans (sum_at (f := fun u => N.dP (i 0).val (i 1).val u
      * (1 / (N.l M (i 0).val (i 1).val * N.l M (i 0).val (i 1).val)) * N.e M (i 0).val (i 1).val u)
      zero_word fun k => v90 H hM _)).trans (congrArg _ (neg_neg _).symm)
  refine ((val_main_v96_apply ..).trans (sum_at (f := fun _ => off N M (i 0).val (i 1).val) zero_word fun k => ?_)).trans ?_
  · refine (val_main_v93_apply ..).trans ((neg_at ((val_main_v92_apply ..).trans (s _))).trans ?_)
    rw [neg_neg]
    change ((off N M ((((i 0).val * 2048 + (i 1).val) * 1 + k.val) / 2048) ((((i 0).val * 2048 + (i 1).val) * 1 + k.val) % 2048) : ℝ) : EReal) = _
    rw [show (((i 0).val * 2048 + (i 1).val) * 1 + k.val) / 2048 = (i 0).val by omega,
      show (((i 0).val * 2048 + (i 1).val) * 1 + k.val) % 2048 = (i 1).val by omega]
  · rw [sum_range_one]

/-- of the logits, -/
theorem v101 (i : S4x2048x256.Idx) : val_main_v101 (F := Ideal) x0 x1 x2 x3 x4 x5 x6 x7 i = ((N.dS (i 0).val (i 1).val (i 2).val : ℝ) : EReal) := by
  have a := (val_main_v95_apply x0 x1 x2 x3 x4 x5 x6 x7 i).trans (div_at (v85 H i) ((val_main_v94_apply ..).trans (v68 H hM _))
    (N.l_pos M _ _).ne')
  have b := (val_main_v97_apply x0 x1 x2 x3 x4 x5 x6 x7 i).trans (v96 H hM _)
  have m := (val_main_v99_apply x0 x1 x2 x3 x4 x5 x6 x7 i).trans (mul_at ((val_main_v98_apply ..).trans (add_at a b)) (v66 H hM i))
  have w : val_main_v100 (F := Ideal) i = ((16 : ℝ) : EReal) := (val_main_v100_apply i).trans sixteen
  exact ((val_main_v101_apply ..).trans (div_at m w (by norm_num))).trans (congrArg _ (N.dS_eq M _ _ _))

theorem v102 (i : S4x256x256.Idx) :
    val_main_v102 (F := Ideal) x0 x1 x2 x3 x4 x5 x6 x7 i = ((N.dkv (i 1).val (256 * (i 0).val + (i 2).val) : ℝ) : EReal) :=
  ((val_main_v102_apply ..).trans (dot_at (f := fun t => N.dS (i 0).val t (i 1).val) (g := fun t => N.q t (256 * (i 0).val + (i 2).val))
    (fun k => v101 H hM _) fun k => v37 H _)).trans (congrArg _ (N.dk_at _ (i 0).isLt (i 2).isLt))

/-- of the keys, -/
theorem v107 (i : S256x1024.Idx) : val_main_v107 (F := Ideal) x0 x1 x2 x3 x4 x5 x6 x7 i = ((N.dkv (i 0).val (i 1).val : ℝ) : EReal) :=
  ((val_main_v107_apply ..).trans ((val_main_v103_apply ..).trans (v102 H hM _))).trans (unpack' i N.dkv)

/-- of both, -/
theorem v108 (i : S256x2048.Idx) : val_main_v108 (F := Ideal) x0 x1 x2 x3 x4 x5 x6 x7 i = ((N.dkv (i 0).val (i 1).val : ℝ) : EReal) := by
  have h1 : (i 1).val < 2048 := (i 1).isLt
  unfold val_main_v108
  by_cases h : (i 1).val < 1024
  · exact (concatenate_pair_apply_left (s₁ := S256x1024) (s₂ := S256x1024) 1 _ _ _ i rfl (ix2 (i 0) ⟨(i 1).val, h⟩) fun b => by
      match b with
      | ⟨0, _⟩ => rfl
      | ⟨1, _⟩ => rfl).trans (v107 H hM _)
  · refine (concatenate_pair_apply_right (s₁ := S256x1024) (s₂ := S256x1024) 1 _ _ _ i rfl rfl (ix2 (i 0) ⟨(i 1).val - 1024, by omega⟩) (fun b hb => by
      match b with
      | ⟨0, _⟩ => rfl
      | ⟨1, _⟩ => exact absurd rfl hb) (by change (i 1).val - 1024 + 1024 = (i 1).val; omega)).trans ((v106 H hM _).trans ?_)
    change ((N.dkv (i 0).val (1024 + ((i 1).val - 1024)) : ℝ) : EReal) = _
    rw [show 1024 + ((i 1).val - 1024) = (i 1).val by omega]

theorem v104 (i : S4x2048x256.Idx) :
    val_main_v104 (F := Ideal) x0 x1 x2 x3 x4 x5 x6 x7 i = ((N.dq (i 1).val (256 * (i 0).val + (i 2).val) : ℝ) : EReal) :=
  ((val_main_v104_apply ..).trans (dot_at (f := fun s => N.dS (i 0).val (i 1).val s) (g := fun s => N.kv s (256 * (i 0).val + (i 2).val))
    (fun k => v101 H hM _) fun k => v41 H _)).trans (congrArg _ (N.dq_at _ (i 2).isLt))

/-- of the queries, -/
theorem v112 (i : S2048x1024.Idx) : val_main_v112 (F := Ideal) x0 x1 x2 x3 x4 x5 x6 x7 i = ((N.dq (i 0).val (i 1).val : ℝ) : EReal) :=
  ((val_main_v112_apply ..).trans ((val_main_v105_apply ..).trans (v104 H hM _))).trans (unpack i N.dq)

/-- of the keys' and values' weight, -/
theorem v148 (i : S1x2048x1024.Idx) : val_main_v148 (F := Ideal) x0 x1 x2 x3 x4 x5 x6 x7 i = ((N.dwkv (i 1).val (i 2).val : ℝ) : EReal) :=
  (val_main_v148_apply ..).trans ((val_main_v118_apply ..).trans ((val_main_v117_apply ..).trans ((val_main_v110_apply ..).trans
    ((val_main_v109_apply ..).trans (dot_at (f := fun s => N.dkv s (i 1).val) (g := fun s => N.n s (i 2).val)
      (fun k => v108 H hM _) fun k => v31 H _)))))

omit H hM in
theorem dwq_at (e d : ℕ) : ∑ t ∈ range 2048, N.dq t e * N.h t d = N.dwq d e := sum_congr rfl fun _ _ => mul_comm _ _

theorem v113 (i : S1024x1024.Idx) : val_main_v113 (F := Ideal) x0 x1 x2 x3 x4 x5 x6 x7 i = ((N.dwq (i 1).val (i 0).val : ℝ) : EReal) :=
  ((val_main_v113_apply ..).trans (dot_at (f := fun t => N.dq t (i 0).val) (g := fun t => N.h t (i 1).val)
    (fun k => v112 H hM _) fun k => v18 H _)).trans (congrArg Real.toEReal (dwq_at _ _))

/-- of the queries' weight, -/
theorem v147 (i : S1x1024x1024.Idx) : val_main_v147 (F := Ideal) x0 x1 x2 x3 x4 x5 x6 x7 i = ((N.dwq (i 1).val (i 2).val : ℝ) : EReal) :=
  (val_main_v147_apply ..).trans ((val_main_v119_apply ..).trans ((val_main_v114_apply ..).trans (v113 H hM _)))

/-- of the normalized memory, -/
theorem v111 (i : S256x1024.Idx) : val_main_v111 (F := Ideal) x0 x1 x2 x3 x4 x5 x6 x7 i = ((N.dn (i 0).val (i 1).val : ℝ) : EReal) :=
  (val_main_v111_apply ..).trans (dot_at (f := fun e => N.dkv (i 0).val e) (g := fun e => N.wkv e (i 1).val) (fun k => v108 H hM _) fun k => v34 H _)

/-- of the normalized tokens, -/
theorem v115 (i : S2048x1024.Idx) : val_main_v115 (F := Ideal) x0 x1 x2 x3 x4 x5 x6 x7 i = ((N.dh (i 0).val (i 1).val : ℝ) : EReal) :=
  (val_main_v115_apply ..).trans (dot_at (f := fun e => N.dq (i 0).val e) (g := fun e => N.wq (i 1).val e) (fun k => v112 H hM _) fun k => v32 H _)

/-- of the memory's gain, -/
theorem v121 (i : S1024.Idx) : val_main_v121 (F := Ideal) x0 x1 x2 x3 x4 x5 x6 x7 i = ((N.dgm (i 0).val : ℝ) : EReal) :=
  (val_main_v121_apply ..).trans ((sum_at (f := fun s => N.m s (i 0).val * rms N.m s * N.dn s (i 0).val)
    zero_word fun k => (val_main_v120_apply ..).trans (mul_at (v28 H _) (v111 H hM _))).trans
    (congrArg _ (sum_congr rfl fun _ _ => mul_comm _ _)))

theorem v122 (i : S1x1024.Idx) : val_main_v122 (F := Ideal) x0 x1 x2 x3 x4 x5 x6 x7 i = ((N.dgm (i 1).val : ℝ) : EReal) := by
  have h0 : (i 0).val < 1 := (i 0).isLt
  refine (val_main_v122_apply ..).trans ((v121 H hM _).trans ?_)
  change ((N.dgm ((i 0).val * 1024 + (i 1).val) : ℝ) : EReal) = _
  rw [show (i 0).val * 1024 + (i 1).val = (i 1).val by omega]

theorem v146 (i : S1x1024.Idx) : val_main_v146 (F := Ideal) x0 x1 x2 x3 x4 x5 x6 x7 i = ((N.dgm (i 1).val : ℝ) : EReal) := by
  have h0 : (i 0).val < 1 := (i 0).isLt
  refine (val_main_v146_apply ..).trans ((val_main_v123_apply ..).trans ((sum_at (n := 1) (f := fun _ => N.dgm ((i 0).val * 1024 + (i 1).val))
    zero_word fun k => v122 H hM (idx_main_v123 (idx_main_v146 i) k)).trans ?_))
  rw [sum_range_one, show (i 0).val * 1024 + (i 1).val = (i 1).val by omega]

/-- of the tokens' gain -/
theorem v125 (i : S1024.Idx) : val_main_v125 (F := Ideal) x0 x1 x2 x3 x4 x5 x6 x7 i = ((N.dgx (i 0).val : ℝ) : EReal) :=
  (val_main_v125_apply ..).trans ((sum_at (f := fun t => N.xh t (i 0).val * N.dh t (i 0).val)
    zero_word fun k => (val_main_v124_apply ..).trans (mul_at (v15 H _) (v115 H hM _))).trans
    (congrArg _ (sum_congr rfl fun _ _ => mul_comm _ _)))

theorem v126 (i : S1x1024.Idx) : val_main_v126 (F := Ideal) x0 x1 x2 x3 x4 x5 x6 x7 i = ((N.dgx (i 1).val : ℝ) : EReal) := by
  have h0 : (i 0).val < 1 := (i 0).isLt
  refine (val_main_v126_apply ..).trans ((v125 H hM _).trans ?_)
  change ((N.dgx ((i 0).val * 1024 + (i 1).val) : ℝ) : EReal) = _
  rw [show (i 0).val * 1024 + (i 1).val = (i 1).val by omega]

theorem v145 (i : S1x1024.Idx) : val_main_v145 (F := Ideal) x0 x1 x2 x3 x4 x5 x6 x7 i = ((N.dgx (i 1).val : ℝ) : EReal) := by
  have h0 : (i 0).val < 1 := (i 0).isLt
  refine (val_main_v145_apply ..).trans ((val_main_v129_apply ..).trans ((sum_at (n := 1) (f := fun _ => N.dgx ((i 0).val * 1024 + (i 1).val))
    zero_word fun k => v126 H hM (idx_main_v129 (idx_main_v145 i) k)).trans ?_))
  rw [sum_range_one, show (i 0).val * 1024 + (i 1).val = (i 1).val by omega]

/-- and of the tokens. -/
theorem v128 (i : S2048x1024.Idx) :
    val_main_v128 (F := Ideal) x0 x1 x2 x3 x4 x5 x6 x7 i = ((N.dh (i 0).val (i 1).val * N.gx (i 1).val : ℝ) : EReal) :=
  (val_main_v128_apply ..).trans (mul_at (v115 H hM i) ((val_main_v127_apply ..).trans ((val_main_v16_apply ..).trans (H.gx _))))

theorem v131 (i : S2048.Idx) : val_main_v131 (F := Ideal) x0 x1 x2 x3 x4 x5 x6 x7 i
    = ((∑ e ∈ range 1024, N.x (i 0).val e * (N.dh (i 0).val e * N.gx e) : ℝ) : EReal) :=
  (val_main_v131_apply ..).trans (sum_at (f := fun e => N.x (i 0).val e * (N.dh (i 0).val e * N.gx e))
    zero_word fun k => (val_main_v130_apply ..).trans (mul_at (H.x _) (v128 H hM _)))

theorem v140 (i : S2048x1024.Idx) : val_main_v140 (F := Ideal) x0 x1 x2 x3 x4 x5 x6 x7 i = ((N.s (i 0).val : ℝ) : EReal) := by
  have a : ∀ j : S2048x1.Idx, val_main_v132 (F := Ideal) x0 x1 x2 x3 x4 x5 x6 x7 j
      = ((∑ e ∈ range 1024, N.x (j 0).val e * (N.dh (j 0).val e * N.gx e) : ℝ) : EReal) := fun j => by
    have h1 : (j 1).val < 1 := (j 1).isLt
    refine (val_main_v132_apply ..).trans ((v131 H hM _).trans ?_)
    change ((∑ e ∈ range 1024, N.x ((j 0).val * 1 + (j 1).val) e * (N.dh ((j 0).val * 1 + (j 1).val) e * N.gx e) : ℝ) : EReal) = _
    rw [show (j 0).val * 1 + (j 1).val = (j 0).val by omega]
  have b : ∀ j : S2048x1.Idx, val_main_v138 (F := Ideal) x0 x1 x2 x3 x4 x5 x6 x7 j = ((N.s (j 0).val : ℝ) : EReal) := fun j =>
    (val_main_v138_apply ..).trans (div_at ((val_main_v136_apply ..).trans (mul_at (a j) (v13 H j)))
      ((val_main_v137_apply j).trans width) (by norm_num))
  refine (val_main_v140_apply ..).trans ((val_main_v139_apply ..).trans ((sum_at (n := 1) (f := fun _ => N.s (i 0).val)
    zero_word fun k => b _).trans ?_))
  rw [sum_range_one]

theorem v144 (i : S2048x1024.Idx) : val_main_v144 (F := Ideal) x0 x1 x2 x3 x4 x5 x6 x7 i = ((N.dx (i 0).val (i 1).val : ℝ) : EReal) := by
  have r : val_main_v133 (F := Ideal) x0 i = ((rms N.x (i 0).val : ℝ) : EReal) := (val_main_v133_apply x0 i).trans (v10 H _)
  have a := (val_main_v135_apply x0 x1 x2 x3 x4 x5 x6 x7 i).trans (add_at (H.c i) ((val_main_v134_apply ..).trans (mul_at (v128 H hM i) r)))
  have b := (val_main_v141_apply x0 x1 x2 x3 x4 x5 x6 x7 i).trans (mul_at (H.x i) (v140 H hM i))
  have d := (val_main_v143_apply x0 x1 x2 x3 x4 x5 x6 x7 i).trans (mul_at (v140 H hM i) (H.x i))
  exact ((val_main_v144_apply ..).trans (add_at ((val_main_v142_apply ..).trans (add_at a b)) d)).trans (congrArg _ (N.dx_eq _ _))

end Ref

end Cert.Mem
-- ==== Proof.MemValue.lean ====
/- The idealized calls of the cross attention and its idealized reference agree on finite arguments: on the output and on the six gradients.
With it, the runs of the three programs. -/
module

public import proofs.«01_k».proof.Defs
public import proofs.«01_k».proof.Proof.NetValue
public import proofs.«01_k».proof.Proof.MemRun
public import proofs.«01_k».proof.Proof.MemRef
public import proofs.«01_k».proof.Proof.Gen.Cross.Frame
public import proofs.«01_k».proof.Proof.Gen.CrossIdeal.Frame
public import proofs.«01_k».proof.Proof.Gen.CrossReferenceIdeal.Run

@[expose] public section

set_option maxRecDepth 16384

noncomputable section

namespace Cert.Mem

open Idealize.ShloMosaic Idealize.SL.Sem Cert.Fox
open Cert.Net (entry0 entry0_eq entry1 entry1_eq)

/-- The calls run, and leave their arguments unchanged and every counter at zero. -/
theorem frame_cross : Cert.quiescent_Cross := fun m g _ => Cert.Cross.Gen.frame m g

/-- The idealized calls run, and leave their arguments unchanged and every counter at zero. -/
theorem frame_crossIdeal : Cert.quiescent_CrossIdeal := fun m g _ => Cert.CrossIdeal.Gen.frame m g

/-- The idealized reference runs, and leaves its arguments unchanged; it has no semaphores. -/
theorem frame_reference : Cert.quiescent_CrossReferenceIdeal := fun m g _ =>
  (θ_run Cert.CrossReferenceIdeal.defs _ _).mono
    (fun r h => ⟨fun c => (h c).2.2.2.2.2.2.2, Idealize.ShloMosaic.sem_eq_zero_of_no_sems (by decide) r.2⟩)
    (Cert.CrossReferenceIdeal.Value.run (F := Ideal) m g)

/-- Nothing is rewritten. -/
theorem preserves : Cert.preserves_Cross_CrossIdeal := trivial

/-- The side conditions of the precondition. -/
theorem finite_facts : Cert.Pre_cross_finite.Facts := by constructor <;> decide

section

open Cert.CrossIdeal

variable (m : (ℓ : Loc nD τ sig) → Buf (Elt Ideal) ℓ) (c : Dev nD)

/-- The numbers of device `c`'s arguments. -/
def layerOf : Cross where
  x := entry (a := 2048) (b := 1024) (m ((c.tc : Thread nD τ).loc main_arg0))
  m := entry (a := 256) (b := 1024) (m ((c.tc : Thread nD τ).loc main_arg1))
  gx := entry0 (a := 1024) (m ((c.tc : Thread nD τ).loc main_arg2))
  gm := entry0 (a := 1024) (m ((c.tc : Thread nD τ).loc main_arg3))
  wq := entry1 (a := 1024) (b := 1024) (m ((c.tc : Thread nD τ).loc main_arg4))
  wkv := entry1 (a := 2048) (b := 1024) (m ((c.tc : Thread nD τ).loc main_arg5))
  wo := entry1 (a := 1024) (b := 1024) (m ((c.tc : Thread nD τ).loc main_arg6))
  c := entry (a := 2048) (b := 1024) (m ((c.tc : Thread nD τ).loc main_arg7))

/-- Finite arguments hold these numbers. -/
theorem args_of_finite (h : Cert.Pre_CrossIdeal_cross_finite (hPre_cross_finite := finite_facts) m) : Args m c (layerOf m c) := by
  obtain ⟨h0, h1, h2, h3, h4, h5, h6, h7⟩ := h c
  have r0 : ∀ i : (⟨2, ![2048, 1024]⟩ : Shape).Idx, (m ((c.tc : Thread nD τ).loc main_arg0) i : EReal)
      = ((EReal.toReal (m ((c.tc : Thread nD τ).loc main_arg0) i) : ℝ) : EReal) := fun i => real_of_finite inf_word (congrFun h0 i)
  have r1 : ∀ i : (⟨2, ![256, 1024]⟩ : Shape).Idx, (m ((c.tc : Thread nD τ).loc main_arg1) i : EReal)
      = ((EReal.toReal (m ((c.tc : Thread nD τ).loc main_arg1) i) : ℝ) : EReal) := fun i => real_of_finite inf_word (congrFun h1 i)
  have r2 : ∀ i : (⟨1, ![1024]⟩ : Shape).Idx, (m ((c.tc : Thread nD τ).loc main_arg2) i : EReal)
      = ((EReal.toReal (m ((c.tc : Thread nD τ).loc main_arg2) i) : ℝ) : EReal) := fun i => real_of_finite inf_word (congrFun h2 i)
  have r3 : ∀ i : (⟨1, ![1024]⟩ : Shape).Idx, (m ((c.tc : Thread nD τ).loc main_arg3) i : EReal)
      = ((EReal.toReal (m ((c.tc : Thread nD τ).loc main_arg3) i) : ℝ) : EReal) := fun i => real_of_finite inf_word (congrFun h3 i)
  have r4 : ∀ i : (⟨3, ![1, 1024, 1024]⟩ : Shape).Idx, (m ((c.tc : Thread nD τ).loc main_arg4) i : EReal)
      = ((EReal.toReal (m ((c.tc : Thread nD τ).loc main_arg4) i) : ℝ) : EReal) := fun i => real_of_finite inf_word (congrFun h4 i)
  have r5 : ∀ i : (⟨3, ![1, 2048, 1024]⟩ : Shape).Idx, (m ((c.tc : Thread nD τ).loc main_arg5) i : EReal)
      = ((EReal.toReal (m ((c.tc : Thread nD τ).loc main_arg5) i) : ℝ) : EReal) := fun i => real_of_finite inf_word (congrFun h5 i)
  have r6 : ∀ i : (⟨3, ![1, 1024, 1024]⟩ : Shape).Idx, (m ((c.tc : Thread nD τ).loc main_arg6) i : EReal)
      = ((EReal.toReal (m ((c.tc : Thread nD τ).loc main_arg6) i) : ℝ) : EReal) := fun i => real_of_finite inf_word (congrFun h6 i)
  have r7 : ∀ i : (⟨2, ![2048, 1024]⟩ : Shape).Idx, (m ((c.tc : Thread nD τ).loc main_arg7) i : EReal)
      = ((EReal.toReal (m ((c.tc : Thread nD τ).loc main_arg7) i) : ℝ) : EReal) := fun i => real_of_finite inf_word (congrFun h7 i)
  exact ⟨fun i j => entry_eq r0 i j, fun i j => entry_eq r1 i j, fun j => entry0_eq r2 j, fun j => entry0_eq r3 j,
    fun n i j => entry1_eq r4 n i j, fun n i j => entry1_eq r5 n i j, fun n i j => entry1_eq r6 n i j, fun i j => entry_eq r7 i j⟩

/-- The reference's arguments, being the calls', hold the same numbers. -/
theorem given_of_args {N : Cross} (h : Args m c N) : Ref.Given (m ((c.tc : Thread nD τ).loc main_arg0))
    (m ((c.tc : Thread nD τ).loc main_arg1)) (m ((c.tc : Thread nD τ).loc main_arg2))
    (m ((c.tc : Thread nD τ).loc main_arg3)) (m ((c.tc : Thread nD τ).loc main_arg4))
    (m ((c.tc : Thread nD τ).loc main_arg5)) (m ((c.tc : Thread nD τ).loc main_arg6))
    (m ((c.tc : Thread nD τ).loc main_arg7)) N where
  x i := (congrArg (m ((c.tc : Thread nD τ).loc main_arg0)) (ix2_eta i).symm).trans (h.x (i 0) (i 1))
  m i := (congrArg (m ((c.tc : Thread nD τ).loc main_arg1)) (ix2_eta i).symm).trans (h.mem (i 0) (i 1))
  gx i := (congrArg (m ((c.tc : Thread nD τ).loc main_arg2)) (ix1_eta i).symm).trans (h.gx (i 0))
  gm i := (congrArg (m ((c.tc : Thread nD τ).loc main_arg3)) (ix1_eta i).symm).trans (h.gm (i 0))
  wq i := (congrArg (m ((c.tc : Thread nD τ).loc main_arg4)) (ix3_eta i).symm).trans (h.wq (i 0) (i 1) (i 2))
  wkv i := (congrArg (m ((c.tc : Thread nD τ).loc main_arg5)) (ix3_eta i).symm).trans (h.wkv (i 0) (i 1) (i 2))
  wo i := (congrArg (m ((c.tc : Thread nD τ).loc main_arg6)) (ix3_eta i).symm).trans (h.wo (i 0) (i 1) (i 2))
  c i := (congrArg (m ((c.tc : Thread nD τ).loc main_arg7)) (ix2_eta i).symm).trans (h.c (i 0) (i 1))

end

open Cert.CrossIdeal Cert.CrossIdeal.Gen in
/-- On finite arguments the calls' output and their gradients of the tokens, of the memory's gain and the tokens', and of the three weights are
the reference's. -/
theorem algebraic : Cert.algebraic_CrossIdeal_CrossReferenceIdeal_pre_cross_finite (hPre_cross_finite := finite_facts) := by
  intro m g m' g' hp he
  refine ⟨fun c => W18 m g c (Proc.devRef .tc main_v7),
    fun c => W18 m g c (Proc.devRef .tc main_v13_0),
    fun c => W18 m g c (Proc.devRef .tc main_v13_1),
    fun c => W18 m g c (Proc.devRef .tc main_v17),
    fun c => W18 m g c (Proc.devRef .tc main_v11),
    fun c => W18 m g c (Proc.devRef .tc main_v15),
    fun c => W18 m g c (Proc.devRef .tc main_v9), ?_, ?_⟩
  · exact (θ_run (defs (F := Ideal)) _ _).mono (fun r h c =>
      ⟨h c _ (mem_uc main_v7 (by decide)),
        h c _ (mem_uc main_v13_0 (by decide)),
        h c _ (mem_uc main_v13_1 (by decide)),
        h c _ (mem_uc main_v17 (by decide)),
        h c _ (mem_uc main_v11 (by decide)),
        h c _ (mem_uc main_v15 (by decide)),
        h c _ (mem_uc main_v9 (by decide)),
        (h c _ (mem_uc main_arg0 (by decide))).trans (W18_args m g c main_arg0 (by decide)),
        (h c _ (mem_uc main_arg1 (by decide))).trans (W18_args m g c main_arg1 (by decide)),
        (h c _ (mem_uc main_arg2 (by decide))).trans (W18_args m g c main_arg2 (by decide)),
        (h c _ (mem_uc main_arg3 (by decide))).trans (W18_args m g c main_arg3 (by decide)),
        (h c _ (mem_uc main_arg4 (by decide))).trans (W18_args m g c main_arg4 (by decide)),
        (h c _ (mem_uc main_arg5 (by decide))).trans (W18_args m g c main_arg5 (by decide)),
        (h c _ (mem_uc main_arg6 (by decide))).trans (W18_args m g c main_arg6 (by decide)),
        (h c _ (mem_uc main_arg7 (by decide))).trans (W18_args m g c main_arg7 (by decide))⟩) (run_cross m g)
  · refine (θ_run (Cert.CrossReferenceIdeal.defs (F := Ideal)) _ _).mono (fun r h c => ?_) (Cert.CrossReferenceIdeal.Value.run (F := Ideal) m' g')
    obtain ⟨h0, h1, h2, h3, h4, h5, h6, ha⟩ := h c
    have A := args_of_finite m c hp
    have G := given_of_args m c A
    obtain ⟨e0, e1, e2, e3, e4, e5, e6, e7⟩ := he c
    rw [← e0, ← e1, ← e2, ← e3, ← e4, ← e5, ← e6, ← e7] at G
    obtain ⟨M, hM⟩ := Ref.v46 G
    refine ⟨h0.trans ((Cert.CrossReferenceIdeal.Read.val_main_v78_eq m' c).trans ?_),
      h1.trans ((Cert.CrossReferenceIdeal.Read.val_main_v144_eq m' c).trans ?_),
      h2.trans ((Cert.CrossReferenceIdeal.Read.val_main_v145_eq m' c).trans ?_),
      h3.trans ((Cert.CrossReferenceIdeal.Read.val_main_v146_eq m' c).trans ?_),
      h4.trans ((Cert.CrossReferenceIdeal.Read.val_main_v147_eq m' c).trans ?_),
      h5.trans ((Cert.CrossReferenceIdeal.Read.val_main_v148_eq m' c).trans ?_),
      h6.trans ((Cert.CrossReferenceIdeal.Read.val_main_v149_eq m' c).trans ?_), ha⟩
    · exact matrix_eq (a := 2048) (b := 1024) (e := .f32) (final_y m g A) (Ref.v78 G hM)
    · exact matrix_eq (a := 2048) (b := 1024) (e := .f32) (final_dx m g A) (Ref.v144 G hM)
    · exact matrix_eq (a := 1) (b := 1024) (e := .f32) (f := fun _ => (layerOf m c).dgx) (final_dgx m g A) (Ref.v145 G hM)
    · exact matrix_eq (a := 1) (b := 1024) (e := .f32) (f := fun _ => (layerOf m c).dgm) (final_dgm m g A) (Ref.v146 G hM)
    · exact box_eq (n := 1) (a := 1024) (b := 1024) (e := .bf16) (f := fun _ => (layerOf m c).dwq) (final_dwq m g A) (Ref.v147 G hM)
    · exact box_eq (n := 1) (a := 2048) (b := 1024) (e := .bf16) (f := fun _ => (layerOf m c).dwkv) (final_dwkv m g A) (Ref.v148 G hM)
    · exact box_eq (n := 1) (a := 1024) (b := 1024) (e := .bf16) (f := fun _ => (layerOf m c).dwo) (final_dwo m g A) (Ref.v149 G hM)

end Cert.Mem
-- ==== Proof.Proj.lean ====
/- The mixer's projections and what stands between them, in real numbers: what they compute, and their gradients. -/
module

public import proofs.«01_k».proof.Proof.Mem

@[expose] public section

noncomputable section

namespace Cert.Proj

open Finset Cert.Net Cert.Mem

/-! ### Rows of 512 numbers -/

/-- The reciprocal root mean square of row `t`. -/
def rms5 (x : ℕ → ℕ → ℝ) (t : ℕ) : ℝ := (Real.sqrt ((∑ d ∈ range 512, x t d * x t d) / 512 + eps))⁻¹

theorem rms5_arg_pos (x : ℕ → ℕ → ℝ) (t : ℕ) : 0 < (∑ d ∈ range 512, x t d * x t d) / 512 + eps :=
  add_pos_of_nonneg_of_pos (div_nonneg (sum_nonneg fun d _ => mul_self_nonneg _) (by norm_num)) eps_pos

/-- The rows over their root mean squares. -/
def hat (x : ℕ → ℕ → ℝ) (t d : ℕ) : ℝ := x t d * rms5 x t

/-- The mean of row `t`. -/
def mean (x : ℕ → ℕ → ℝ) (t : ℕ) : ℝ := (∑ d ∈ range 512, x t d) / 512

/-- The rows less their means. -/
def lessMean (x : ℕ → ℕ → ℝ) (t d : ℕ) : ℝ := x t d - mean x t

/-- The gradient of `x` from that of `hat x` times the gain `g`. -/
def back (g : ℕ → ℝ) (c x : ℕ → ℕ → ℝ) (t d : ℕ) : ℝ :=
  rms5 x t * (c t d * g d - hat x t d * ((∑ e ∈ range 512, c t e * g e * hat x t e) / 512))

/-- The rows normalized to mean zero and root mean square one, -/
def centred (x : ℕ → ℕ → ℝ) : ℕ → ℕ → ℝ := hat (lessMean x)

/-- and the gradient of `x` from that of these. -/
def back' (c x : ℕ → ℕ → ℝ) (t d : ℕ) : ℝ :=
  rms5 (lessMean x) t * (c t d - mean c t - centred x t d * ((∑ e ∈ range 512, c t e * centred x t e) / 512))

/-- The normalized rows with a gain and an offset, -/
def affine (lg lb : ℕ → ℝ) (x : ℕ → ℕ → ℝ) (t d : ℕ) : ℝ := centred x t d * lg d + lb d

/-- and their product with their logistic function. -/
def silu (z : ℕ → ℕ → ℝ) (t d : ℕ) : ℝ := z t d * sg (z t d)

/-- The gradient of `z` from that of `silu z`. -/
def silu' (c z : ℕ → ℕ → ℝ) (t d : ℕ) : ℝ := c t d * (sg (z t d) * (1 + z t d * (1 - sg (z t d))))

/-- Two halves of 512 columns side by side. -/
def beside (p q : ℕ → ℕ → ℝ) (t e : ℕ) : ℝ := if e < 512 then p t e else q t (e - 512)

/-! ### The layer -/

/-- The arguments: the tokens `x` with their gain `g`; the weights of the projections to queries, keys and values, to the gates (a row per
gate), to the attention's own gates, and of the result; the attention's output `y` and the convolution's `yc` with their gains, and the gain
and offset of the convolution's norm; and the gradients of the three projections and of the result. -/
structure Mix where
  x : ℕ → ℕ → ℝ
  g : ℕ → ℝ
  wq : ℕ → ℕ → ℝ
  wf : ℕ → ℕ → ℝ
  wa : ℕ → ℕ → ℝ
  o : ℕ → ℕ → ℝ
  yc : ℕ → ℕ → ℝ
  ga : ℕ → ℝ
  gc : ℕ → ℝ
  lg : ℕ → ℝ
  lb : ℕ → ℝ
  wo : ℕ → ℕ → ℝ
  dq : ℕ → ℕ → ℝ
  df : ℕ → ℕ → ℝ
  da : ℕ → ℕ → ℝ
  c : ℕ → ℕ → ℝ

namespace Mix

variable (N : Mix)

/-- The normalized tokens, -/
def h : ℕ → ℕ → ℝ := normed N.x N.g

/-- the queries, keys and values, -/
def qkv (t e : ℕ) : ℝ := ∑ d ∈ range 1024, N.h t d * N.wq d e

/-- and the attention's gates. -/
def agv (t e : ℕ) : ℝ := ∑ d ∈ range 1024, N.h t d * N.wa d e

/-- The convolution's output, normalized, -/
def z : ℕ → ℕ → ℝ := affine N.lg N.lb N.yc

/-- and times its logistic function; -/
def sv : ℕ → ℕ → ℝ := silu N.z

/-- the attention's output and the convolution's, normalized side by side, -/
def y : ℕ → ℕ → ℝ := beside (fun t e => hat N.o t e * N.ga e) (fun t e => hat N.sv t e * N.gc e)

/-- and the result. -/
def out (t d : ℕ) : ℝ := N.x t d + ∑ e ∈ range 1024, N.y t e * N.wo e d

/-- The gradient of `y`, -/
def dy (t e : ℕ) : ℝ := ∑ d ∈ range 1024, N.c t d * N.wo e d

/-- of the result's weight, -/
def dwo (e d : ℕ) : ℝ := ∑ t ∈ range 2048, N.y t e * N.c t d

/-- of the attention's output, -/
def do' : ℕ → ℕ → ℝ := back N.ga N.dy N.o

/-- of its gain, -/
def dga (d : ℕ) : ℝ := ∑ t ∈ range 2048, N.dy t d * hat N.o t d

/-- of `sv`, -/
def dsv : ℕ → ℕ → ℝ := back N.gc (from' 512 N.dy) N.sv

/-- of its gain, -/
def dgc (d : ℕ) : ℝ := ∑ t ∈ range 2048, from' 512 N.dy t d * hat N.sv t d

/-- of `z`, -/
def dz : ℕ → ℕ → ℝ := silu' N.dsv N.z

/-- of the convolution's output, -/
def dyc : ℕ → ℕ → ℝ := back' (fun t d => N.dz t d * N.lg d) N.yc

/-- of the gain and the offset of its norm, -/
def dlg (d : ℕ) : ℝ := ∑ t ∈ range 2048, N.dz t d * centred N.yc t d

def dlb (d : ℕ) : ℝ := ∑ t ∈ range 2048, N.dz t d

/-- of the weights of two of the projections, -/
def dwq (d e : ℕ) : ℝ := ∑ t ∈ range 2048, N.h t d * N.dq t e

def dwa (d e : ℕ) : ℝ := ∑ t ∈ range 2048, N.h t d * N.da t e

/-- of the normalized tokens, -/
def dh (t d : ℕ) : ℝ :=
  ((∑ e ∈ range 1536, N.dq t e * N.wq d e) + ∑ e ∈ range 1024, N.da t e * N.wa d e) + ∑ f ∈ range 16, N.df f t * N.wf f d

/-- The normalized tokens without the gain. -/
def xh (t d : ℕ) : ℝ := N.x t d * rms N.x t

/-- of the tokens, -/
def dx (t d : ℕ) : ℝ := N.c t d + rms N.x t * (N.dh t d * N.g d - N.xh t d * ((∑ e ∈ range 1024, N.dh t e * N.g e * N.xh t e) / 1024))

/-- and of their gain. -/
def dg (d : ℕ) : ℝ := ∑ t ∈ range 2048, N.dh t d * N.xh t d

end Mix

end Cert.Proj
-- ==== Proof.ProjBlocks.lean ====
/- What the mixer's calls leave of one block: the norms, the projections and their gradients. -/
module

public import proofs.«01_k».proof.Proof.MemOps
public import proofs.«01_k».proof.Proof.Proj
public import proofs.«01_k».proof.Proof.Gen.MixIdeal.Frame

@[expose] public section

set_option maxRecDepth 16384

noncomputable section

namespace Cert.Proj

open Idealize.ShloMosaic Cert.Fox Cert.Net Cert.Mem Cert.MixIdeal Cert.MixIdeal.Gen Finset

variable {a b n m k : ℕ}

theorem width5 : Ideal.ofBits .f32 0x44000000#32 = ((512 : ℝ) : EReal) := by
  simp [Ideal.ofBits, Ideal.ieee]
  rw [← EReal.coe_mul]; norm_num

/-- The mean of the squares of each row of 512 numbers, its root and its reciprocal, -/
theorem norm5 {x : FVec Ideal ⟨2, ![a, 512]⟩ .f32} {f : ℕ → ℕ → ℝ} (hx : Real2 x f) {h h1 h2 s0} :
    Real2 (rsqrt (addf (divf (shapeCast ⟨2, ![a, 1]⟩ (multiReduction .add [1] ⟨1, ![a]⟩ (mulf x x) 0x00000000#32 h h1 h2) s0)
        (broadcast ⟨2, ![a, 1]⟩ (Scalar.ofBits .f32 0x44000000#32))) (broadcast ⟨2, ![a, 1]⟩ (Scalar.ofBits .f32 0x358637BD#32))) :
      FVec Ideal ⟨2, ![a, 1]⟩ .f32) (fun i _ => rms5 f i) :=
  recip_root ((((column ((hx.mulf hx).rowSum h h1 h2) s0).divf (splat width5) fun _ _ _ _ => by norm_num)).addf (splat small))
    fun i _ _ _ => rms5_arg_pos f i

/-- and its mean. -/
theorem mean5 {x : FVec Ideal ⟨2, ![a, 512]⟩ .f32} {f : ℕ → ℕ → ℝ} (hx : Real2 x f) {h h1 h2 s0} :
    Real2 (divf (shapeCast ⟨2, ![a, 1]⟩ (multiReduction .add [1] ⟨1, ![a]⟩ x 0x00000000#32 h h1 h2) s0)
        (broadcast ⟨2, ![a, 1]⟩ (Scalar.ofBits .f32 0x44000000#32)) : FVec Ideal ⟨2, ![a, 1]⟩ .f32) (fun i _ => mean f i) :=
  (column (hx.rowSum h h1 h2) s0).divf (splat width5) fun _ _ _ _ => by norm_num

/-- The first call leaves 512 rows of normalized tokens, -/
theorem block_h {x : Vec Ideal S512x1024 .f32} {g : Vec Ideal S1x1024 .f32} {X : ℕ → ℕ → ℝ} {w : ℕ → ℝ} (hx : Held2 x X)
    (hg : Held2 g fun _ j => w j) : Held2 (out0_2 x g : Vec Ideal ⟨2, ![512, 1024]⟩ .bf16) (normed X w) := by
  unfold out0_2
  exact whole2 (held_bf16 ((((all_f32 hx).mulf ((norm (all_f32 hx)).col broadcasts_S512x1_S512x1024)).mulf
    ((Real2.same (all_f32 hg) shapeCasts_S1x1024_S1x1024).row broadcasts_S1x1024_S512x1024)).truncf bitsLt_bf16_f32))

/-- the second 512 rows of queries, keys and values, -/
theorem block_qkv {x : Vec Ideal S512x1024 .bf16} {w : Vec Ideal S1x1024x1536 .bf16} {X W : ℕ → ℕ → ℝ} (hx : Held2 x X)
    (hw : Held3 w fun _ => W) : Held2 (out1_2 x w : Vec Ideal ⟨2, ![512, 1536]⟩ .bf16) fun i j => ∑ d ∈ range 1024, X i d * W d j := by
  unfold out1_2
  exact whole2 (held_bf16 ((nn (Real2.same (all_bf16 hx) shapeCasts_S512x1024_S512x1024)
    (weight hw shapeCasts_S1x1024x1536_S1024x1536)).truncf bitsLt_bf16_f32))

/-- the third 512 rows of the attention's gates, -/
theorem block_agv {x : Vec Ideal S512x1024 .bf16} {w : Vec Ideal S1x1024x1024 .bf16} {X W : ℕ → ℕ → ℝ} (hx : Held2 x X)
    (hw : Held3 w fun _ => W) : Held2 (out2_2 x w : Vec Ideal ⟨2, ![512, 1024]⟩ .f32) fun i j => ∑ d ∈ range 1024, X i d * W d j := by
  unfold out2_2
  exact whole2 (held_f32 (nn (Real2.same (all_bf16 hx) shapeCasts_S512x1024_S512x1024) (weight hw shapeCasts_S1x1024x1024_S1024x1024)))

section Post

variable {x : Vec Ideal S512x512 .f32} {g : Vec Ideal S1x512 .f32} {X : ℕ → ℕ → ℝ} {w : ℕ → ℝ}

/-- The attention's half of the fourth call, -/
theorem post_o (hx : Real2 (φ := .f32) x X) (hg : Real2 (φ := .f32) g fun _ j => w j) :
    Real2 (φ := .bf16) (k3_pay2 x g) fun i j => hat X i j * w j := by
  unfold k3_pay2
  exact ((hx.mulf ((norm5 hx).col broadcasts_S512x1_S512x512)).mulf
    ((Real2.same hg shapeCasts_S1x512_S1x512).row broadcasts_S1x512_S512x512)).truncf bitsLt_bf16_f32

/-- the convolution's output normalized, -/
theorem post_centred (hx : Real2 (φ := .f32) x X) : Real2 (φ := .f32) (k3_pay5 x) (centred X) := by
  unfold k3_pay5
  have hl : Real2 _ (lessMean X) := hx.subf ((mean5 hx (h := reduces_S512x512_S512) (h1 := .inl rfl) (h2 := rfl)
    (s0 := shapeCasts_S512_S512x1)).col broadcasts_S512x1_S512x512)
  exact hl.mulf ((norm5 hl).col broadcasts_S512x1_S512x512)

/-- and its half. -/
theorem post_c {l o : FVec Ideal S1x512 .f32} {v : FVec Ideal S512x512 .f32} {Z : ℕ → ℕ → ℝ} {p q : ℕ → ℝ}
    (hl : Real2 l fun _ j => p j) (ho : Real2 o fun _ j => q j) (hv : Real2 v Z) (hg : Real2 (φ := .f32) g fun _ j => w j) :
    Real2 (φ := .bf16) (k3_pay1 l o v g) fun i j => hat (silu fun i j => Z i j * p j + q j) i j * w j := by
  unfold k3_pay1
  have hz : Real2 _ (fun i j => Z i j * p j + q j) := (hv.mulf (hl.row broadcasts_S1x512_S512x512)).addf (ho.row broadcasts_S1x512_S512x512)
  have hs : Real2 _ (silu fun i j => Z i j * p j + q j) := hz.mulf (sigmoid hz)
  exact ((hs.mulf ((norm5 hs).col broadcasts_S512x1_S512x512)).mulf
    ((Real2.same hg shapeCasts_S1x512_S1x512).row broadcasts_S1x512_S512x512)).truncf bitsLt_bf16_f32

/-- The fourth leaves 512 rows of both, side by side, -/
theorem block_post {o y : Vec Ideal S512x512 .f32} {ga gc lg lb : Vec Ideal S1x512 .f32} {O Y : ℕ → ℕ → ℝ} {a' c' p q : ℕ → ℝ}
    (ho : Held2 o O) (hy : Held2 y Y) (ha : Held2 ga fun _ j => a' j) (hc : Held2 gc fun _ j => c' j) (hp : Held2 lg fun _ j => p j)
    (hq : Held2 lb fun _ j => q j) :
    Held2 (out3_6 o y ga gc lg lb : Vec Ideal ⟨2, ![512, 1024]⟩ .bf16)
      (beside (fun i j => hat O i j * a' j) fun i j => hat (silu (affine p q Y)) i j * c' j) := by
  unfold out3_6
  have h1 := post_o (all_f32 ho (inb := inb_S512x512_S512x512_0_0)) (all_f32 ha (inb := inb_S1x512_S1x512_0_0))
  have h2 := post_c (Real2.same (all_f32 hp (inb := inb_S1x512_S1x512_0_0)) shapeCasts_S1x512_S1x512)
    (Real2.same (all_f32 hq (inb := inb_S1x512_S1x512_0_0)) shapeCasts_S1x512_S1x512)
    (post_centred (all_f32 hy (inb := inb_S512x512_S512x512_0_0))) (all_f32 hc (inb := inb_S1x512_S1x512_0_0))
  refine Cols.done (Cols.cons (p := 512) (m := 512) (Cols.cons (p := 0) (m := 512) Cols.nil (Held2.congr (held_bf16 h1) fun i _ j hj => ?_))
    (Held2.congr (held_bf16 h2) fun i _ j hj => ?_)) (by norm_num)
  · rw [beside, if_pos (by omega), Nat.zero_add]
  · rw [beside, if_neg (by omega), show 512 + j - 512 = j by omega]
    rfl

end Post

/-- the fifth 512 rows of the result, -/
theorem block_out {p : Vec Ideal S512x1024 .bf16} {w : Vec Ideal S1x1024x1024 .bf16} {x : Vec Ideal S512x1024 .f32} {P W X : ℕ → ℕ → ℝ}
    (hp : Held2 p P) (hw : Held3 w fun _ => W) (hx : Held2 x X) :
    Held2 (out4_3 p w x : Vec Ideal ⟨2, ![512, 1024]⟩ .f32) fun i j => X i j + ∑ d ∈ range 1024, P i d * W d j := by
  unfold out4_3
  exact whole2 (held_f32 ((all_f32 hx).addf (once (nn (Real2.same (all_bf16 hp) shapeCasts_S512x1024_S512x1024)
    (weight hw shapeCasts_S1x1024x1024_S1024x1024)))))

/-- the sixth 512 rows of the gradient of the two halves, -/
theorem block_dy {x : Vec Ideal S512x1024 .f32} {w : Vec Ideal S1x1024x1024 .bf16} {X W : ℕ → ℕ → ℝ} (hx : Held2 x X)
    (hw : Held3 w fun _ => W) : Held2 (out5_2 x w : Vec Ideal ⟨2, ![512, 1024]⟩ .f32) fun i j => ∑ d ∈ range 1024, X i d * W j d := by
  unfold out5_2
  exact whole2 (held_f32 (nt ((all_f32 hx).truncf bitsLt_bf16_f32) (weight hw shapeCasts_S1x1024x1024_S1024x1024)))

/-- the seventh 512 rows of the gradient of the result's weight, -/
theorem block_dwo {p : Vec Ideal S2048x512 .bf16} {c : Vec Ideal S2048x1024 .f32} {P C : ℕ → ℕ → ℝ} (hp : Held2 p P) (hc : Held2 c C) :
    Held3 (out6_2 p c : Vec Ideal ⟨3, ![1, 512, 1024]⟩ .bf16) fun _ i j => ∑ t ∈ range 2048, P t i * C t j := by
  unfold out6_2
  exact boxed ((once (tn (Real2.same (all_bf16 hp) shapeCasts_S2048x512_S2048x512) ((all_f32 hc).truncf bitsLt_bf16_f32))).truncf
    bitsLt_bf16_f32)

/-- the ninth 512 rows of the gradient of the weight of the queries, keys and values, -/
theorem block_dwq {p : Vec Ideal S2048x512 .bf16} {c : Vec Ideal S2048x1536 .bf16} {P C : ℕ → ℕ → ℝ} (hp : Held2 p P) (hc : Held2 c C) :
    Held3 (out8_2 p c : Vec Ideal ⟨3, ![1, 512, 1536]⟩ .bf16) fun _ i j => ∑ t ∈ range 2048, P t i * C t j := by
  unfold out8_2
  exact boxed ((once (tn (Real2.same (all_bf16 hp) shapeCasts_S2048x512_S2048x512) (all_bf16 hc))).truncf bitsLt_bf16_f32)

/-- and the tenth 512 rows of that of the attention's gates. -/
theorem block_dwa {p : Vec Ideal S2048x512 .bf16} {c : Vec Ideal S2048x1024 .bf16} {P C : ℕ → ℕ → ℝ} (hp : Held2 p P) (hc : Held2 c C) :
    Held3 (out9_2 p c : Vec Ideal ⟨3, ![1, 512, 1024]⟩ .bf16) fun _ i j => ∑ t ∈ range 2048, P t i * C t j := by
  unfold out9_2
  exact boxed ((once (tn (Real2.same (all_bf16 hp) shapeCasts_S2048x512_S2048x512) (all_bf16 hc))).truncf bitsLt_bf16_f32)

end Cert.Proj
-- ==== Proof.ProjPost.lean ====
/- What the eighth call leaves of one block of 512 rows: the gradients of the attention's output and of the convolution's, and the growing
gradients of the gains and of the offset. -/
module

public import proofs.«01_k».proof.Proof.ProjBlocks
public import proofs.«01_k».proof.Proof.NetLast

@[expose] public section

set_option maxRecDepth 16384
set_option maxHeartbeats 4000000

noncomputable section

namespace Cert.Proj

open Idealize.ShloMosaic Cert.Fox Cert.Net Cert.Mem Cert.MixIdeal Cert.MixIdeal.Gen Finset

section Parts

variable {v o y d e : FVec Ideal S512x512 .f32} {u ga gc lg lb : FVec Ideal S1x512 .f32} {O Y D E : ℕ → ℕ → ℝ} {a c p q s : ℕ → ℝ}

theorem gain (hu : Real2 u fun _ j => a j) :
    Real2 (broadcastTo S512x512 (shapeCast S1x512 u shapeCasts_S1x512_S1x512) broadcasts_S1x512_S512x512) fun _ j => a j :=
  (Real2.same hu shapeCasts_S1x512_S1x512).row broadcasts_S1x512_S512x512

/-- The mean of each row in every column. -/
theorem means (hv : Real2 v Y) : Real2 (broadcastTo S512x512 (divf (shapeCast S512x1 (multiReduction .add [1] S512 v 0x00000000#32
    reduces_S512x512_S512 (.inl rfl) rfl) shapeCasts_S512_S512x1) (broadcast S512x1 (Scalar.ofBits .f32 0x44000000#32)))
      broadcasts_S512x1_S512x512) fun i _ => mean Y i :=
  (mean5 hv).col broadcasts_S512x1_S512x512

/-- A growing sum of the columns of `v`. -/
theorem grown (hv : Real2 v Y) (hu : Real2 u fun _ j => s j) : Real2 (addf (shapeCast S1x512 u shapeCasts_S1x512_S1x512) (shapeCast S1x512
    (multiReduction .add [0] S512 v 0x00000000#32 reduces_S512x512_S512_2 (.inl rfl) rfl) shapeCasts_S512_S1x512))
      fun _ j => s j + ∑ i ∈ range 512, Y i j :=
  (Real2.same hu shapeCasts_S1x512_S1x512).addf ((hv.colSum reduces_S512x512_S512_2 (.inl rfl) rfl).toRow shapeCasts_S512_S1x512)

theorem part_r (ho : Real2 o O) : Real2 (k7_pay4 o) fun i _ => rms5 O i := by
  unfold k7_pay4
  exact norm5 ho

theorem part_hat (ho : Real2 o O) : Real2 (k7_pay5 o) (hat O) := by
  unfold k7_pay5
  exact ho.mulf ((part_r ho).col broadcasts_S512x1_S512x512)

theorem part_same (hd : Real2 d D) : Real2 (k7_pay3 d) D := by
  unfold k7_pay3
  exact Real2.same hd shapeCasts_S512x512_S512x512

theorem part_dga (hd : Real2 d D) (ho : Real2 o O) : Real2 (k7_pay6 d o) fun i j => D i j * hat O i j := by
  unfold k7_pay6
  exact (part_same hd).mulf (part_hat ho)

/-- The gradient of the attention's output. -/
theorem part_do (hd : Real2 d D) (ho : Real2 o O) (ha : Real2 ga fun _ j => a j) : Real2 (k7_pay7 d o ga) (back a D O) := by
  unfold k7_pay7
  have h := (part_same hd).mulf (gain ha)
  exact (((part_r ho).col broadcasts_S512x1_S512x512).mulf (h.subf ((part_hat ho).mulf (means (h.mulf (part_hat ho)))))).truncf
    bitsLt_bf16_f32

/-- The number of columns, as the call holds it. -/
abbrev w5 : Ideal .f32 := Scalar.ofBits .f32 0x44000000#32

theorem part_less (hy : Real2 y Y) : Real2 (k7_pay11 y (k7_pay10 y) w5) (lessMean Y) := by
  unfold k7_pay11 k7_pay10
  exact hy.subf (means hy)

theorem part_lr (hy : Real2 y Y) : Real2 (k7_pay12 y (k7_pay10 y) w5) fun i _ => rms5 (lessMean Y) i := by
  unfold k7_pay12
  exact norm5 (part_less hy)

theorem part_centred (hy : Real2 y Y) : Real2 (k7_pay13 y (k7_pay10 y) w5) (centred Y) := by
  unfold k7_pay13
  exact (part_less hy).mulf ((part_lr hy).col broadcasts_S512x1_S512x512)

section

variable (hy : Real2 y Y) (hp : Real2 lg fun _ j => p j) (hq : Real2 lb fun _ j => q j)

include hy hp hq

theorem part_z : Real2 (k7_pay14 (k7_pay8 lg) y (k7_pay9 lb) (k7_pay10 y) w5) (affine p q Y) := by
  unfold k7_pay14 k7_pay8 k7_pay9
  exact ((part_centred hy).mulf (gain hp)).addf (gain hq)

theorem part_sg : Real2 (k7_pay15 (k7_pay8 lg) y (k7_pay9 lb) (k7_pay10 y) w5) fun i j => sg (affine p q Y i j) := by
  unfold k7_pay15
  exact sigmoid (part_z hy hp hq)

theorem part_s : Real2 (k7_pay16 (k7_pay8 lg) y (k7_pay9 lb) (k7_pay10 y) w5) (silu (affine p q Y)) := by
  unfold k7_pay16
  exact (part_z hy hp hq).mulf (part_sg hy hp hq)

theorem part_sr : Real2 (k7_pay18 (k7_pay8 lg) y (k7_pay9 lb) (k7_pay10 y) w5) fun i _ => rms5 (silu (affine p q Y)) i := by
  unfold k7_pay18
  exact norm5 (part_s hy hp hq)

theorem part_sh : Real2 (k7_pay19 (k7_pay8 lg) y (k7_pay9 lb) (k7_pay10 y) w5) (hat (silu (affine p q Y))) := by
  unfold k7_pay19
  exact (part_s hy hp hq).mulf ((part_sr hy hp hq).col broadcasts_S512x1_S512x512)

theorem part_dgc (he : Real2 e E) : Real2 (k7_pay21 (k7_pay8 lg) y (k7_pay9 lb) (k7_pay10 y) w5 e)
    fun i j => E i j * hat (silu (affine p q Y)) i j := by
  unfold k7_pay21 k7_pay17
  exact (Real2.same he shapeCasts_S512x512_S512x512).mulf (part_sh hy hp hq)

/-- The gradient of what the convolution's gain is applied to, -/
theorem part_ds (he : Real2 e E) (hc : Real2 gc fun _ j => c j) :
    Real2 (k7_pay20 (k7_pay8 lg) y (k7_pay9 lb) (k7_pay10 y) w5 e gc) (back c E (silu (affine p q Y))) := by
  unfold k7_pay20 k7_pay17
  have h := (Real2.same he shapeCasts_S512x512_S512x512).mulf (gain hc)
  exact ((part_sr hy hp hq).col broadcasts_S512x1_S512x512).mulf (h.subf ((part_sh hy hp hq).mulf (means (h.mulf (part_sh hy hp hq)))))

/-- of the normalized rows with gain and offset, -/
theorem part_dz (he : Real2 e E) (hc : Real2 gc fun _ j => c j) :
    Real2 (k7_pay22 (k7_pay14 (k7_pay8 lg) y (k7_pay9 lb) (k7_pay10 y) w5) (k7_pay15 (k7_pay8 lg) y (k7_pay9 lb) (k7_pay10 y) w5)
      (k7_pay20 (k7_pay8 lg) y (k7_pay9 lb) (k7_pay10 y) w5 e gc) (Scalar.ofBits .f32 0x3F800000#32))
      (silu' (back c E (silu (affine p q Y))) (affine p q Y)) := by
  unfold k7_pay22
  exact (part_ds hy hp hq he hc).mulf ((part_sg hy hp hq).mulf ((splat one).addf ((part_z hy hp hq).mulf ((splat one).subf
    (part_sg hy hp hq)))))

/-- and of the convolution's output. -/
theorem part_dy (he : Real2 e E) (hc : Real2 gc fun _ j => c j) :
    Real2 (k7_pay23 (k7_pay8 lg) (k7_pay12 y (k7_pay10 y) w5) (k7_pay13 y (k7_pay10 y) w5)
      (k7_pay14 (k7_pay8 lg) y (k7_pay9 lb) (k7_pay10 y) w5) (k7_pay15 (k7_pay8 lg) y (k7_pay9 lb) (k7_pay10 y) w5)
      (k7_pay20 (k7_pay8 lg) y (k7_pay9 lb) (k7_pay10 y) w5 e gc) (Scalar.ofBits .f32 0x3F800000#32))
      (back' (fun i j => silu' (back c E (silu (affine p q Y))) (affine p q Y) i j * p j) Y) := by
  unfold k7_pay23
  have h := (part_dz hy hp hq he hc).mulf (gain hp)
  exact ((part_lr hy).col broadcasts_S512x1_S512x512).mulf ((h.subf (means h)).subf ((part_centred hy).mulf (means (h.mulf
    (part_centred hy)))))

end

end Parts

/-- What the six buffers hold, with the gradient `D` of both halves, the outputs `O` and `Y`, and the sums `s` over earlier blocks. -/
structure Left (D O Y : ℕ → ℕ → ℝ) (a c p q s0 s1 s2 s3 : ℕ → ℝ) (v0 : Vec Ideal S512x512 .bf16) (v1 : Vec Ideal S512x512 .f32)
    (v2 v3 v4 v5 : Vec Ideal S1x512 .f32) : Prop where
  o : Held2 v0 (back a D O)
  y : Held2 v1 (back' (fun i j => silu' (back c (from' 512 D) (silu (affine p q Y))) (affine p q Y) i j * p j) Y)
  ga : Held2 v2 fun _ j => s0 j + ∑ i ∈ range 512, D i j * hat O i j
  gc : Held2 v3 fun _ j => s1 j + ∑ i ∈ range 512, from' 512 D i j * hat (silu (affine p q Y)) i j
  lg : Held2 v4 fun _ j => s2 j + ∑ i ∈ range 512, silu' (back c (from' 512 D) (silu (affine p q Y))) (affine p q Y) i j * centred Y i j
  lb : Held2 v5 fun _ j => s3 j + ∑ i ∈ range 512, silu' (back c (from' 512 D) (silu (affine p q Y))) (affine p q Y) i j

section Runs

variable (d : Dev nD) (i : grid7.Coords)
  (arg1 : Memref sig .tc .vmem S512x1024 .f32) (harg1 : arg1.IsWhole)
  (arg2 : Memref sig .tc .vmem S512x512 .f32) (harg2 : arg2.IsWhole)
  (arg3 : Memref sig .tc .vmem S512x512 .f32) (harg3 : arg3.IsWhole)
  (arg4 : Memref sig .tc .vmem S1x512 .f32) (harg4 : arg4.IsWhole)
  (arg5 : Memref sig .tc .vmem S1x512 .f32) (harg5 : arg5.IsWhole)
  (arg6 : Memref sig .tc .vmem S1x512 .f32) (harg6 : arg6.IsWhole)
  (arg7 : Memref sig .tc .vmem S1x512 .f32) (harg7 : arg7.IsWhole)
  (arg8 : Memref sig .tc .vmem S512x512 .bf16) (harg8 : arg8.IsWhole)
  (arg9 : Memref sig .tc .vmem S512x512 .f32) (harg9 : arg9.IsWhole)
  (arg10 : Memref sig .tc .vmem S1x512 .f32) (harg10 : arg10.IsWhole)
  (arg11 : Memref sig .tc .vmem S1x512 .f32) (harg11 : arg11.IsWhole)
  (arg12 : Memref sig .tc .vmem S1x512 .f32) (harg12 : arg12.IsWhole)
  (arg13 : Memref sig .tc .vmem S1x512 .f32) (harg13 : arg13.IsWhole)
  {x : Vec Ideal S512x1024 .f32} {o y : Vec Ideal S512x512 .f32} {ga gc lg lb o0 o1 o2 o3 : Vec Ideal S1x512 .f32} {D O Y : ℕ → ℕ → ℝ}
  {a c p q s0 s1 s2 s3 : ℕ → ℝ}
  (hx : Held2 x D) (ho : Held2 o O) (hy : Held2 y Y) (ha : Held2 ga fun _ j => a j) (hc : Held2 gc fun _ j => c j)
  (hp : Held2 lg fun _ j => p j) (hq : Held2 lb fun _ j => q j)

include hx ho hy ha hc hp hq

/-- The first block starts the sums, -/
theorem post_A (h0 : cond7_0 i) : ∀ r, r = kernelRun7_A (F := Ideal) d i arg1 harg1 arg2 harg2 arg3 harg3 arg4 harg4 arg5 harg5 arg6 harg6 arg7 harg7 arg8 harg8 arg9 harg9 arg10 harg10 arg11 harg11 arg12 harg12 arg13 harg13 h0 x o y ga gc lg lb →
    Left D O Y a c p q (fun _ => 0) (fun _ => 0) (fun _ => 0) (fun _ => 0) (View.canon r.1) (View.canon r.2.1) (View.canon r.2.2.1) (View.canon r.2.2.2.1)
      (View.canon r.2.2.2.2.1) (View.canon r.2.2.2.2.2.1) := by
  rintro _ rfl
  unfold kernelRun7_A
  dsimp only
  have x0 := (cols_f32 (n := 512) harg1 hx 0 (inb := inb_S512x1024_S512x512_0_0)).congr (g := D) fun i _ j _ => by rw [from', Nat.zero_add]
  have x1 := cols_f32 (n := 512) harg1 hx 512 (inb := inb_S512x1024_S512x512_0_512)
  have y0 := read_f32 harg3 hy (inb := inb_S512x512_S512x512_0_0)
  have o0 := read_f32 harg2 ho (inb := inb_S512x512_S512x512_0_0)
  have c0 := read_f32 harg5 hc (inb := inb_S1x512_S1x512_0_0)
  have p0 := read_f32 harg6 hp (inb := inb_S1x512_S1x512_0_0)
  have q0 := read_f32 harg7 hq (inb := inb_S1x512_S1x512_0_0)
  have dz := part_dz y0 p0 q0 x1 c0
  have hz : Held2 (e := .f32) (a := 1) (b := 512) (k7_pay24 (F := Ideal)) fun _ _ => 0 := held_f32 (splat (by simp))
  exact ⟨over2 (held_bf16 (part_do x0 o0 (read_f32 harg4 ha))), over2 (held_f32 (part_dy y0 p0 q0 x1 c0)),
    over2 (held_f32 (grown (part_dga x0 o0) (real_f32 ((Held2.readCov (over2 hz) arg10.view).congr fun _ _ _ _ => rfl)))), over2 (held_f32 (grown (part_dgc y0 p0 q0 x1) (real_f32 ((Held2.readCov (over2 hz) arg11.view).congr fun _ _ _ _ => rfl)))),
    over2 (held_f32 (grown (dz.mulf (part_centred y0)) (real_f32 ((Held2.readCov (over2 hz) arg12.view).congr fun _ _ _ _ => rfl)))), over2 (held_f32 (grown dz (real_f32 ((Held2.readCov (over2 hz) arg13.view).congr fun _ _ _ _ => rfl))))⟩

/-- and each later one adds to them. -/
theorem post_B (h0 : ¬cond7_0 i) (h0' : Held2 o0 fun _ j => s0 j) (h1 : Held2 o1 fun _ j => s1 j) (h2 : Held2 o2 fun _ j => s2 j)
    (h3 : Held2 o3 fun _ j => s3 j) : ∀ r, r = kernelRun7_B (F := Ideal) d i arg1 harg1 arg2 harg2 arg3 harg3 arg4 harg4 arg5 harg5 arg6 harg6 arg7 harg7 arg8 harg8 arg9 harg9 arg10 harg10 arg11 harg11 arg12 harg12 arg13 harg13 h0 x o y ga gc lg lb o0 o1 o2 o3 →
    Left D O Y a c p q s0 s1 s2 s3 (View.canon r.1) (View.canon r.2.1) (View.canon r.2.2.1) (View.canon r.2.2.2.1)
      (View.canon r.2.2.2.2.1) (View.canon r.2.2.2.2.2.1) := by
  rintro _ rfl
  unfold kernelRun7_B
  dsimp only
  have x0 := (cols_f32 (n := 512) harg1 hx 0 (inb := inb_S512x1024_S512x512_0_0)).congr (g := D) fun i _ j _ => by rw [from', Nat.zero_add]
  have x1 := cols_f32 (n := 512) harg1 hx 512 (inb := inb_S512x1024_S512x512_0_512)
  have y0 := read_f32 harg3 hy (inb := inb_S512x512_S512x512_0_0)
  have o0 := read_f32 harg2 ho (inb := inb_S512x512_S512x512_0_0)
  have c0 := read_f32 harg5 hc (inb := inb_S1x512_S1x512_0_0)
  have p0 := read_f32 harg6 hp (inb := inb_S1x512_S1x512_0_0)
  have q0 := read_f32 harg7 hq (inb := inb_S1x512_S1x512_0_0)
  have dz := part_dz y0 p0 q0 x1 c0
  exact ⟨over2 (held_bf16 (part_do x0 o0 (read_f32 harg4 ha))), over2 (held_f32 (part_dy y0 p0 q0 x1 c0)),
    over2 (held_f32 (grown (part_dga x0 o0) (read_f32 harg10 h0'))), over2 (held_f32 (grown (part_dgc y0 p0 q0 x1) (read_f32 harg11 h1))),
    over2 (held_f32 (grown (dz.mulf (part_centred y0)) (read_f32 harg12 h2))), over2 (held_f32 (grown dz (read_f32 harg13 h3)))⟩

end Runs

end Cert.Proj
-- ==== Proof.ProjLast.lean ====
/- What the eleventh call leaves of one block of 256 rows: the gradient of the tokens, and the growing gradient of their gain. -/
module

public import proofs.«01_k».proof.Proof.ProjBlocks
public import proofs.«01_k».proof.Proof.NetLast

@[expose] public section

set_option maxRecDepth 16384
set_option maxHeartbeats 4000000

noncomputable section

namespace Cert.Proj

open Idealize.ShloMosaic Cert.Fox Cert.Net Cert.Mem Cert.MixIdeal Cert.MixIdeal.Gen Finset

/-- The gradient of the normalized tokens, from those of the three projections and their weights. -/
def lastD (P W Q Y R S : ℕ → ℕ → ℝ) (i j : ℕ) : ℝ :=
  ((∑ e ∈ range 1536, P i e * W j e) + ∑ e ∈ range 1024, Q i e * Y j e) + ∑ f ∈ range 16, R f i * S f j

section Parts

variable {p : Vec Ideal S256x1536 .bf16} {u : Vec Ideal S1x1024x1536 .bf16} {q : Vec Ideal S256x1024 .bf16} {v : Vec Ideal S1x1024x1024 .bf16}
  {r : Vec Ideal S16x256 .bf16} {t : Vec Ideal S16x1024 .bf16} {x c : Vec Ideal S256x1024 .f32} {g o : Vec Ideal S1x1024 .f32}
  {P W Q Y R S X C : ℕ → ℕ → ℝ} {w s : ℕ → ℝ}

theorem last_r (hx : Real2 (φ := .f32) x X) : Real2 (φ := .f32) (k10_pay5 x) fun i _ => rms X i := by
  unfold k10_pay5
  exact norm hx

theorem last_xh (hx : Real2 (φ := .f32) x X) : Real2 (φ := .f32) (k10_pay6 x) fun i j => X i j * rms X i := by
  unfold k10_pay6
  exact hx.mulf ((last_r hx).col broadcasts_S256x1_S256x1024)

variable (hp : Real2 (φ := .bf16) p P) (hu : Real3 (φ := .bf16) u fun _ => W) (hq : Real2 (φ := .bf16) q Q)
  (hv : Real3 (φ := .bf16) v fun _ => Y) (hr : Real2 (φ := .bf16) r R) (ht : Real2 (φ := .bf16) t S)

include hp hu hq hv hr ht

theorem last_h : Real2 (φ := .f32) (k10_pay4 p u q v r t) (lastD P W Q Y R S) := by
  unfold k10_pay4
  exact ((nt hp (unbox hu shapeCasts_S1x1024x1536_S1024x1536)).addf (nt hq (unbox hv shapeCasts_S1x1024x1024_S1024x1024))).addf (tn hr ht)

theorem last_m (hg : Real2 (φ := .f32) g fun _ j => w j) :
    Real2 (φ := .f32) (k10_pay7 p u q v r t g) fun i j => lastD P W Q Y R S i j * w j := by
  unfold k10_pay7
  exact (last_h hp hu hq hv hr ht).mulf ((Real2.same hg shapeCasts_S1x1024_S1x1024).row broadcasts_S1x1024_S256x1024)

theorem last_x (hx : Real2 (φ := .f32) x X) (hg : Real2 (φ := .f32) g fun _ j => w j) (hc : Real2 (φ := .f32) c C) :
    Held2 (e := .f32) (k10_pay1 (k10_pay5 x) (k10_pay6 x) (k10_pay7 p u q v r t g) (k10_pay8 p u q v r t x g) c)
      (lastX C (lastD P W Q Y R S) X w) := by
  unfold k10_pay1 k10_pay8
  have hm := last_m hp hu hq hv hr ht hg
  exact held_f32 (hc.addf (((last_r hx).col broadcasts_S256x1_S256x1024).mulf (hm.subf ((last_xh hx).mulf (((column ((hm.mulf
    (last_xh hx)).rowSum reduces_S256x1024_S256 (.inl rfl) rfl) shapeCasts_S256_S256x1).divf (splat width) fun _ _ _ _ => by norm_num).col
      broadcasts_S256x1_S256x1024)))))

theorem last_g (hx : Real2 (φ := .f32) x X) (ho : Real2 (φ := .f32) o fun _ j => s j) :
    Held2 (e := .f32) (k10_pay3 (k10_pay4 p u q v r t) (k10_pay6 x) o)
      fun _ j => s j + ∑ i ∈ range 256, lastD P W Q Y R S i j * (X i j * rms X i) := by
  unfold k10_pay3
  exact held_f32 ((Real2.same ho shapeCasts_S1x1024_S1x1024).addf ((((last_h hp hu hq hv hr ht).mulf (last_xh hx)).colSum
    reduces_S256x1024_S1024 (.inl rfl) rfl).toRow shapeCasts_S1024_S1x1024))

end Parts

section Runs

variable (d : Dev nD) (i : grid10.Coords)
  (arg1 : Memref sig .tc .vmem S256x1536 .bf16) (harg1 : arg1.IsWhole)
  (arg2 : Memref sig .tc .vmem S1x1024x1536 .bf16) (harg2 : arg2.IsWhole)
  (arg3 : Memref sig .tc .vmem S256x1024 .bf16) (harg3 : arg3.IsWhole)
  (arg4 : Memref sig .tc .vmem S1x1024x1024 .bf16) (harg4 : arg4.IsWhole)
  (arg5 : Memref sig .tc .vmem S16x256 .bf16) (harg5 : arg5.IsWhole)
  (arg6 : Memref sig .tc .vmem S16x1024 .bf16) (harg6 : arg6.IsWhole)
  (arg7 : Memref sig .tc .vmem S256x1024 .f32) (harg7 : arg7.IsWhole)
  (arg8 : Memref sig .tc .vmem S1x1024 .f32) (harg8 : arg8.IsWhole)
  (arg9 : Memref sig .tc .vmem S256x1024 .f32) (harg9 : arg9.IsWhole)
  (arg10 : Memref sig .tc .vmem S256x1024 .f32) (harg10 : arg10.IsWhole)
  (arg11 : Memref sig .tc .vmem S1x1024 .f32) (harg11 : arg11.IsWhole)
  {p : Vec Ideal S256x1536 .bf16} {u : Vec Ideal S1x1024x1536 .bf16} {q : Vec Ideal S256x1024 .bf16} {v : Vec Ideal S1x1024x1024 .bf16}
  {r : Vec Ideal S16x256 .bf16} {t : Vec Ideal S16x1024 .bf16} {x c : Vec Ideal S256x1024 .f32} {g o : Vec Ideal S1x1024 .f32}
  {P W Q Y R S X C : ℕ → ℕ → ℝ} {w s : ℕ → ℝ}
  (hp : Held2 p P) (hu : Held3 u fun _ => W) (hq : Held2 q Q) (hv : Held3 v fun _ => Y) (hr : Held2 r R) (ht : Held2 t S) (hx : Held2 x X)
  (hg : Held2 g fun _ j => w j) (hc : Held2 c C)

include hp hu hq hv hr ht hx hg hc

/-- The first block starts the sum, -/
theorem run_A (h0 : cond10_0 i) : ∀ l, l = kernelRun10_A (F := Ideal) d i arg1 harg1 arg2 harg2 arg3 harg3 arg4 harg4 arg5 harg5 arg6 harg6 arg7 harg7 arg8 harg8 arg9 harg9 arg10 harg10 arg11 harg11 h0 p u q v r t x g c →
    Held2 (e := .f32) (a := 256) (b := 1024) (View.canon l.1) (lastX C (lastD P W Q Y R S) X w) ∧
      Held2 (e := .f32) (a := 1) (b := 1024) (View.canon l.2.1) fun _ j => 0 + ∑ i ∈ range 256, lastD P W Q Y R S i j * (X i j * rms X i) := by
  rintro _ rfl
  unfold kernelRun10_A
  dsimp only
  have hp := read_bf16 harg1 hp (inb := inb_S256x1536_S256x1536_0_0)
  have hu := read_box harg2 hu (inb := inb_S1x1024x1536_S1x1024x1536_0_0_0)
  have hq := read_bf16 harg3 hq (inb := inb_S256x1024_S256x1024_0_0)
  have hv := read_box harg4 hv (inb := inb_S1x1024x1024_S1x1024x1024_0_0_0)
  have hr := read_bf16 harg5 hr (inb := inb_S16x256_S16x256_0_0)
  have ht := read_bf16 harg6 ht (inb := inb_S16x1024_S16x1024_0_0)
  have hx := read_f32 harg7 hx (inb := inb_S256x1024_S256x1024_0_0)
  have hz : Held2 (e := .f32) (a := 1) (b := 1024) (k10_pay2 (F := Ideal)) fun _ _ => 0 := held_f32 (splat (by simp))
  exact ⟨over2 (last_x hp hu hq hv hr ht hx (read_f32 harg8 hg) (read_f32 harg9 hc)), over2 (last_g hp hu hq hv hr ht hx
    (s := fun _ => 0) (real_f32 ((Held2.readCov (over2 hz) arg11.view).congr fun _ _ _ _ => rfl)))⟩

/-- and each later one adds to it. -/
theorem run_B (h0 : ¬cond10_0 i) (ho : Held2 o fun _ j => s j) : ∀ l, l = kernelRun10_B (F := Ideal) d i arg1 harg1 arg2 harg2 arg3 harg3 arg4 harg4 arg5 harg5 arg6 harg6 arg7 harg7 arg8 harg8 arg9 harg9 arg10 harg10 arg11 harg11 h0 p u q v r t x g c o →
    Held2 (e := .f32) (a := 256) (b := 1024) (View.canon l.1) (lastX C (lastD P W Q Y R S) X w) ∧
      Held2 (e := .f32) (a := 1) (b := 1024) (View.canon l.2.1) fun _ j => s j + ∑ i ∈ range 256, lastD P W Q Y R S i j * (X i j * rms X i) := by
  rintro _ rfl
  unfold kernelRun10_B
  dsimp only
  have hp := read_bf16 harg1 hp (inb := inb_S256x1536_S256x1536_0_0)
  have hu := read_box harg2 hu (inb := inb_S1x1024x1536_S1x1024x1536_0_0_0)
  have hq := read_bf16 harg3 hq (inb := inb_S256x1024_S256x1024_0_0)
  have hv := read_box harg4 hv (inb := inb_S1x1024x1024_S1x1024x1024_0_0_0)
  have hr := read_bf16 harg5 hr (inb := inb_S16x256_S16x256_0_0)
  have ht := read_bf16 harg6 ht (inb := inb_S16x1024_S16x1024_0_0)
  have hx := read_f32 harg7 hx (inb := inb_S256x1024_S256x1024_0_0)
  exact ⟨over2 (last_x hp hu hq hv hr ht hx (read_f32 harg8 hg) (read_f32 harg9 hc)), over2 (last_g hp hu hq hv hr ht hx
    (read_f32 harg11 ho))⟩

end Runs

end Cert.Proj
-- ==== Proof.ProjArrays.lean ====
/- The blocks of the mixer's calls as blocks of their arrays, and the arrays that blocks make up. -/
module

public import proofs.«01_k».proof.Proof.Blocks
public import proofs.«01_k».proof.Proof.Gen.MixIdeal.Frame
public import Idealize.ShloMosaic.Lib.Pipeline.ValueKit

@[expose] public section

set_option maxRecDepth 16384

noncomputable section

namespace Cert.Proj

open Idealize.ShloMosaic Idealize.ShloMosaic.TcCoe Cert.Fox Cert.MixIdeal Cert.MixIdeal.Gen Finset
open Idealize.ShloMosaic.Pipeline (Dat)

/-- Where the windows of call 0 stand at point `t`. -/
theorem at0 : ∀ t : Fin cfg0.N, win0_0.index t = ![(t : ℕ), 0]
    ∧ win0_1.index t = ![0, 0]
    ∧ win0_2.index t = ![(t : ℕ), 0] := by decide +kernel

/-- Where the windows of call 1 stand at point `t`. -/
theorem at1 : ∀ t : Fin cfg1.N, win1_0.index t = ![(t : ℕ), 0]
    ∧ win1_1.index t = ![0, 0, 0]
    ∧ win1_2.index t = ![(t : ℕ), 0] := by decide +kernel

/-- Where the windows of call 2 stand at point `t`. -/
theorem at2 : ∀ t : Fin cfg2.N, win2_0.index t = ![(t : ℕ), 0]
    ∧ win2_1.index t = ![0, 0, 0]
    ∧ win2_2.index t = ![(t : ℕ), 0] := by decide +kernel

/-- Where the windows of call 3 stand at point `t`. -/
theorem at3 : ∀ t : Fin cfg3.N, win3_0.index t = ![(t : ℕ), 0]
    ∧ win3_1.index t = ![(t : ℕ), 0]
    ∧ win3_2.index t = ![0, 0]
    ∧ win3_3.index t = ![0, 0]
    ∧ win3_4.index t = ![0, 0]
    ∧ win3_5.index t = ![0, 0]
    ∧ win3_6.index t = ![(t : ℕ), 0] := by decide +kernel

/-- Where the windows of call 4 stand at point `t`. -/
theorem at4 : ∀ t : Fin cfg4.N, win4_0.index t = ![(t : ℕ), 0]
    ∧ win4_1.index t = ![0, 0, 0]
    ∧ win4_2.index t = ![(t : ℕ), 0]
    ∧ win4_3.index t = ![(t : ℕ), 0] := by decide +kernel

/-- Where the windows of call 5 stand at point `t`. -/
theorem at5 : ∀ t : Fin cfg5.N, win5_0.index t = ![(t : ℕ), 0]
    ∧ win5_1.index t = ![0, 0, 0]
    ∧ win5_2.index t = ![(t : ℕ), 0] := by decide +kernel

/-- Where the windows of call 6 stand at point `t`. -/
theorem at6 : ∀ t : Fin cfg6.N, win6_0.index t = ![0, (t : ℕ)]
    ∧ win6_1.index t = ![0, 0]
    ∧ win6_2.index t = ![0, (t : ℕ), 0] := by decide +kernel

/-- Where the windows of call 7 stand at point `t`. -/
theorem at7 : ∀ t : Fin cfg7.N, win7_0.index t = ![(t : ℕ), 0]
    ∧ win7_1.index t = ![(t : ℕ), 0]
    ∧ win7_2.index t = ![(t : ℕ), 0]
    ∧ win7_3.index t = ![0, 0]
    ∧ win7_4.index t = ![0, 0]
    ∧ win7_5.index t = ![0, 0]
    ∧ win7_6.index t = ![0, 0]
    ∧ win7_7.index t = ![(t : ℕ), 0]
    ∧ win7_8.index t = ![(t : ℕ), 0] := by decide +kernel

/-- Where the windows of call 8 stand at point `t`. -/
theorem at8 : ∀ t : Fin cfg8.N, win8_0.index t = ![0, (t : ℕ)]
    ∧ win8_1.index t = ![0, 0]
    ∧ win8_2.index t = ![0, (t : ℕ), 0] := by decide +kernel

/-- Where the windows of call 9 stand at point `t`. -/
theorem at9 : ∀ t : Fin cfg9.N, win9_0.index t = ![0, (t : ℕ)]
    ∧ win9_1.index t = ![0, 0]
    ∧ win9_2.index t = ![0, (t : ℕ), 0] := by decide +kernel

/-- Where the windows of call 10 stand at point `t`. -/
theorem at10 : ∀ t : Fin cfg10.N, win10_0.index t = ![(t : ℕ), 0]
    ∧ win10_1.index t = ![0, 0, 0]
    ∧ win10_2.index t = ![(t : ℕ), 0]
    ∧ win10_3.index t = ![0, 0, 0]
    ∧ win10_4.index t = ![0, (t : ℕ)]
    ∧ win10_5.index t = ![0, 0]
    ∧ win10_6.index t = ![(t : ℕ), 0]
    ∧ win10_7.index t = ![0, 0]
    ∧ win10_8.index t = ![(t : ℕ), 0]
    ∧ win10_9.index t = ![(t : ℕ), 0] := by decide +kernel

section

variable (V : (c : Dev nD) → (b : Ref sig .tc) → Buf (Elt Ideal) ((c : Thread nD τ).loc b)) (c : Dev nD)

theorem in0_0 (t : Fin cfg0.N) {f : ℕ → ℕ → ℝ} (h : Held2 (a := 2048) (b := 1024) (e := .f32) (V c main_arg0) f) :
    Held2 (a := 512) (b := 1024) (e := .f32) (iblk0 V c 0 t) fun i j => f (512 * t + i) j := fun i j => by
  have ht : (t : ℕ) < 4 := t.isLt
  have e := h ⟨512 * t + i, by omega⟩ j
  refine Eq.trans ?_ e
  blk_ext [iblk0, at0 t]

theorem in0_1 (t : Fin cfg0.N) {f : ℕ → ℕ → ℝ} (h : Held2 (a := 1) (b := 1024) (e := .f32) (V c main_v4) f) :
    Held2 (a := 1) (b := 1024) (e := .f32) (iblk0 V c 1 t) fun i j => f i j := fun i j => by
  have ht : (t : ℕ) < 4 := t.isLt
  have e := h i j
  refine Eq.trans ?_ e
  blk_ext [iblk0, at0 t]

theorem of0_2 {f : ℕ → ℕ → ℝ}
    (h : ∀ t : Fin cfg0.N, Held2 (a := 512) (b := 1024) (e := .bf16) ((dat0 V c).after 2 t) fun i j => f (512 * t + i) j) :
    Held2 (a := 2048) (b := 1024) (e := .bf16) ((dat0 V c).arrAt 2 cfg0.N) f := by
  have hA := (dat0 V c).arrAt_eq_of_covers 2 (fun i : (⟨2, ![2048, 1024]⟩ : Shape).Idx => (Holds.at' (f (i 0) (i 1)) : Elt Ideal .bf16))
    (by decide +kernel) fun t hf y => ?_
  · exact fun i j => (congrFun hA (ix2 i j)).trans rfl
  · have e := h t (y 0) (y 1)
    blk_simp
    refine (Eq.trans (congrArg ((dat0 V c).after 2 t) (by blk_ext)) e).trans ?_
    blk_simp [at0 t]
    rw [Nat.mul_comm 512 t]

theorem in1_0 (t : Fin cfg1.N) {f : ℕ → ℕ → ℝ} (h : Held2 (a := 2048) (b := 1024) (e := .bf16) (V c main_v5) f) :
    Held2 (a := 512) (b := 1024) (e := .bf16) (iblk1 V c 0 t) fun i j => f (512 * t + i) j := fun i j => by
  have ht : (t : ℕ) < 4 := t.isLt
  have e := h ⟨512 * t + i, by omega⟩ j
  refine Eq.trans ?_ e
  blk_ext [iblk1, at1 t]

theorem in1_1 (t : Fin cfg1.N) {f : ℕ → ℕ → ℝ} (h : Held3 (n := 1) (a := 1024) (b := 1536) (e := .bf16) (V c main_arg2) (fun _ => f)) :
    Held3 (n := 1) (a := 1024) (b := 1536) (e := .bf16) (iblk1 V c 1 t) fun _ i j => f i j := fun l i j => by
  have ht : (t : ℕ) < 4 := t.isLt
  have e := h l i j
  refine Eq.trans ?_ e
  blk_ext [iblk1, at1 t]

theorem of1_2 {f : ℕ → ℕ → ℝ}
    (h : ∀ t : Fin cfg1.N, Held2 (a := 512) (b := 1536) (e := .bf16) ((dat1 V c).after 2 t) fun i j => f (512 * t + i) j) :
    Held2 (a := 2048) (b := 1536) (e := .bf16) ((dat1 V c).arrAt 2 cfg1.N) f := by
  have hA := (dat1 V c).arrAt_eq_of_covers 2 (fun i : (⟨2, ![2048, 1536]⟩ : Shape).Idx => (Holds.at' (f (i 0) (i 1)) : Elt Ideal .bf16))
    (by decide +kernel) fun t hf y => ?_
  · exact fun i j => (congrFun hA (ix2 i j)).trans rfl
  · have e := h t (y 0) (y 1)
    blk_simp
    refine (Eq.trans (congrArg ((dat1 V c).after 2 t) (by blk_ext)) e).trans ?_
    blk_simp [at1 t]
    rw [Nat.mul_comm 512 t]

theorem in2_0 (t : Fin cfg2.N) {f : ℕ → ℕ → ℝ} (h : Held2 (a := 2048) (b := 1024) (e := .bf16) (V c main_v5) f) :
    Held2 (a := 512) (b := 1024) (e := .bf16) (iblk2 V c 0 t) fun i j => f (512 * t + i) j := fun i j => by
  have ht : (t : ℕ) < 4 := t.isLt
  have e := h ⟨512 * t + i, by omega⟩ j
  refine Eq.trans ?_ e
  blk_ext [iblk2, at2 t]

theorem in2_1 (t : Fin cfg2.N) {f : ℕ → ℕ → ℝ} (h : Held3 (n := 1) (a := 1024) (b := 1024) (e := .bf16) (V c main_arg4) (fun _ => f)) :
    Held3 (n := 1) (a := 1024) (b := 1024) (e := .bf16) (iblk2 V c 1 t) fun _ i j => f i j := fun l i j => by
  have ht : (t : ℕ) < 4 := t.isLt
  have e := h l i j
  refine Eq.trans ?_ e
  blk_ext [iblk2, at2 t]

theorem of2_2 {f : ℕ → ℕ → ℝ}
    (h : ∀ t : Fin cfg2.N, Held2 (a := 512) (b := 1024) (e := .f32) ((dat2 V c).after 2 t) fun i j => f (512 * t + i) j) :
    Held2 (a := 2048) (b := 1024) (e := .f32) ((dat2 V c).arrAt 2 cfg2.N) f := by
  have hA := (dat2 V c).arrAt_eq_of_covers 2 (fun i : (⟨2, ![2048, 1024]⟩ : Shape).Idx => (Holds.at' (f (i 0) (i 1)) : Elt Ideal .f32))
    (by decide +kernel) fun t hf y => ?_
  · exact fun i j => (congrFun hA (ix2 i j)).trans rfl
  · have e := h t (y 0) (y 1)
    blk_simp
    refine (Eq.trans (congrArg ((dat2 V c).after 2 t) (by blk_ext)) e).trans ?_
    blk_simp [at2 t]
    rw [Nat.mul_comm 512 t]

theorem in3_0 (t : Fin cfg3.N) {f : ℕ → ℕ → ℝ} (h : Held2 (a := 2048) (b := 512) (e := .f32) (V c main_arg5) f) :
    Held2 (a := 512) (b := 512) (e := .f32) (iblk3 V c 0 t) fun i j => f (512 * t + i) j := fun i j => by
  have ht : (t : ℕ) < 4 := t.isLt
  have e := h ⟨512 * t + i, by omega⟩ j
  refine Eq.trans ?_ e
  blk_ext [iblk3, at3 t]

theorem in3_1 (t : Fin cfg3.N) {f : ℕ → ℕ → ℝ} (h : Held2 (a := 2048) (b := 512) (e := .f32) (V c main_arg6) f) :
    Held2 (a := 512) (b := 512) (e := .f32) (iblk3 V c 1 t) fun i j => f (512 * t + i) j := fun i j => by
  have ht : (t : ℕ) < 4 := t.isLt
  have e := h ⟨512 * t + i, by omega⟩ j
  refine Eq.trans ?_ e
  blk_ext [iblk3, at3 t]

theorem in3_2 (t : Fin cfg3.N) {f : ℕ → ℕ → ℝ} (h : Held2 (a := 1) (b := 512) (e := .f32) (V c main_v0) f) :
    Held2 (a := 1) (b := 512) (e := .f32) (iblk3 V c 2 t) fun i j => f i j := fun i j => by
  have ht : (t : ℕ) < 4 := t.isLt
  have e := h i j
  refine Eq.trans ?_ e
  blk_ext [iblk3, at3 t]

theorem in3_3 (t : Fin cfg3.N) {f : ℕ → ℕ → ℝ} (h : Held2 (a := 1) (b := 512) (e := .f32) (V c main_v1) f) :
    Held2 (a := 1) (b := 512) (e := .f32) (iblk3 V c 3 t) fun i j => f i j := fun i j => by
  have ht : (t : ℕ) < 4 := t.isLt
  have e := h i j
  refine Eq.trans ?_ e
  blk_ext [iblk3, at3 t]

theorem in3_4 (t : Fin cfg3.N) {f : ℕ → ℕ → ℝ} (h : Held2 (a := 1) (b := 512) (e := .f32) (V c main_v2) f) :
    Held2 (a := 1) (b := 512) (e := .f32) (iblk3 V c 4 t) fun i j => f i j := fun i j => by
  have ht : (t : ℕ) < 4 := t.isLt
  have e := h i j
  refine Eq.trans ?_ e
  blk_ext [iblk3, at3 t]

theorem in3_5 (t : Fin cfg3.N) {f : ℕ → ℕ → ℝ} (h : Held2 (a := 1) (b := 512) (e := .f32) (V c main_v3) f) :
    Held2 (a := 1) (b := 512) (e := .f32) (iblk3 V c 5 t) fun i j => f i j := fun i j => by
  have ht : (t : ℕ) < 4 := t.isLt
  have e := h i j
  refine Eq.trans ?_ e
  blk_ext [iblk3, at3 t]

theorem of3_6 {f : ℕ → ℕ → ℝ}
    (h : ∀ t : Fin cfg3.N, Held2 (a := 512) (b := 1024) (e := .bf16) ((dat3 V c).after 6 t) fun i j => f (512 * t + i) j) :
    Held2 (a := 2048) (b := 1024) (e := .bf16) ((dat3 V c).arrAt 6 cfg3.N) f := by
  have hA := (dat3 V c).arrAt_eq_of_covers 6 (fun i : (⟨2, ![2048, 1024]⟩ : Shape).Idx => (Holds.at' (f (i 0) (i 1)) : Elt Ideal .bf16))
    (by decide +kernel) fun t hf y => ?_
  · exact fun i j => (congrFun hA (ix2 i j)).trans rfl
  · have e := h t (y 0) (y 1)
    blk_simp
    refine (Eq.trans (congrArg ((dat3 V c).after 6 t) (by blk_ext)) e).trans ?_
    blk_simp [at3 t]
    rw [Nat.mul_comm 512 t]

theorem in4_0 (t : Fin cfg4.N) {f : ℕ → ℕ → ℝ} (h : Held2 (a := 2048) (b := 1024) (e := .bf16) (V c main_v8) f) :
    Held2 (a := 512) (b := 1024) (e := .bf16) (iblk4 V c 0 t) fun i j => f (512 * t + i) j := fun i j => by
  have ht : (t : ℕ) < 4 := t.isLt
  have e := h ⟨512 * t + i, by omega⟩ j
  refine Eq.trans ?_ e
  blk_ext [iblk4, at4 t]

theorem in4_1 (t : Fin cfg4.N) {f : ℕ → ℕ → ℝ} (h : Held3 (n := 1) (a := 1024) (b := 1024) (e := .bf16) (V c main_arg11) (fun _ => f)) :
    Held3 (n := 1) (a := 1024) (b := 1024) (e := .bf16) (iblk4 V c 1 t) fun _ i j => f i j := fun l i j => by
  have ht : (t : ℕ) < 4 := t.isLt
  have e := h l i j
  refine Eq.trans ?_ e
  blk_ext [iblk4, at4 t]

theorem in4_2 (t : Fin cfg4.N) {f : ℕ → ℕ → ℝ} (h : Held2 (a := 2048) (b := 1024) (e := .f32) (V c main_arg0) f) :
    Held2 (a := 512) (b := 1024) (e := .f32) (iblk4 V c 2 t) fun i j => f (512 * t + i) j := fun i j => by
  have ht : (t : ℕ) < 4 := t.isLt
  have e := h ⟨512 * t + i, by omega⟩ j
  refine Eq.trans ?_ e
  blk_ext [iblk4, at4 t]

theorem of4_3 {f : ℕ → ℕ → ℝ}
    (h : ∀ t : Fin cfg4.N, Held2 (a := 512) (b := 1024) (e := .f32) ((dat4 V c).after 3 t) fun i j => f (512 * t + i) j) :
    Held2 (a := 2048) (b := 1024) (e := .f32) ((dat4 V c).arrAt 3 cfg4.N) f := by
  have hA := (dat4 V c).arrAt_eq_of_covers 3 (fun i : (⟨2, ![2048, 1024]⟩ : Shape).Idx => (Holds.at' (f (i 0) (i 1)) : Elt Ideal .f32))
    (by decide +kernel) fun t hf y => ?_
  · exact fun i j => (congrFun hA (ix2 i j)).trans rfl
  · have e := h t (y 0) (y 1)
    blk_simp
    refine (Eq.trans (congrArg ((dat4 V c).after 3 t) (by blk_ext)) e).trans ?_
    blk_simp [at4 t]
    rw [Nat.mul_comm 512 t]

theorem in5_0 (t : Fin cfg5.N) {f : ℕ → ℕ → ℝ} (h : Held2 (a := 2048) (b := 1024) (e := .f32) (V c main_arg15) f) :
    Held2 (a := 512) (b := 1024) (e := .f32) (iblk5 V c 0 t) fun i j => f (512 * t + i) j := fun i j => by
  have ht : (t : ℕ) < 4 := t.isLt
  have e := h ⟨512 * t + i, by omega⟩ j
  refine Eq.trans ?_ e
  blk_ext [iblk5, at5 t]

theorem in5_1 (t : Fin cfg5.N) {f : ℕ → ℕ → ℝ} (h : Held3 (n := 1) (a := 1024) (b := 1024) (e := .bf16) (V c main_arg11) (fun _ => f)) :
    Held3 (n := 1) (a := 1024) (b := 1024) (e := .bf16) (iblk5 V c 1 t) fun _ i j => f i j := fun l i j => by
  have ht : (t : ℕ) < 4 := t.isLt
  have e := h l i j
  refine Eq.trans ?_ e
  blk_ext [iblk5, at5 t]

theorem of5_2 {f : ℕ → ℕ → ℝ}
    (h : ∀ t : Fin cfg5.N, Held2 (a := 512) (b := 1024) (e := .f32) ((dat5 V c).after 2 t) fun i j => f (512 * t + i) j) :
    Held2 (a := 2048) (b := 1024) (e := .f32) ((dat5 V c).arrAt 2 cfg5.N) f := by
  have hA := (dat5 V c).arrAt_eq_of_covers 2 (fun i : (⟨2, ![2048, 1024]⟩ : Shape).Idx => (Holds.at' (f (i 0) (i 1)) : Elt Ideal .f32))
    (by decide +kernel) fun t hf y => ?_
  · exact fun i j => (congrFun hA (ix2 i j)).trans rfl
  · have e := h t (y 0) (y 1)
    blk_simp
    refine (Eq.trans (congrArg ((dat5 V c).after 2 t) (by blk_ext)) e).trans ?_
    blk_simp [at5 t]
    rw [Nat.mul_comm 512 t]

theorem in6_0 (t : Fin cfg6.N) {f : ℕ → ℕ → ℝ} (h : Held2 (a := 2048) (b := 1024) (e := .bf16) (V c main_v8) f) :
    Held2 (a := 2048) (b := 512) (e := .bf16) (iblk6 V c 0 t) fun i j => f i (512 * t + j) := fun i j => by
  have ht : (t : ℕ) < 2 := t.isLt
  have e := h i ⟨512 * t + j, by omega⟩
  refine Eq.trans ?_ e
  blk_ext [iblk6, at6 t]

theorem in6_1 (t : Fin cfg6.N) {f : ℕ → ℕ → ℝ} (h : Held2 (a := 2048) (b := 1024) (e := .f32) (V c main_arg15) f) :
    Held2 (a := 2048) (b := 1024) (e := .f32) (iblk6 V c 1 t) fun i j => f i j := fun i j => by
  have ht : (t : ℕ) < 2 := t.isLt
  have e := h i j
  refine Eq.trans ?_ e
  blk_ext [iblk6, at6 t]

theorem of6_2 {f : ℕ → ℕ → ℝ}
    (h : ∀ t : Fin cfg6.N, Held3 (n := 1) (a := 512) (b := 1024) (e := .bf16) ((dat6 V c).after 2 t) fun _ i j => f (512 * t + i) j) :
    Held3 (n := 1) (a := 1024) (b := 1024) (e := .bf16) ((dat6 V c).arrAt 2 cfg6.N) (fun _ => f) := by
  have hA := (dat6 V c).arrAt_eq_of_covers 2 (fun i : (⟨3, ![1, 1024, 1024]⟩ : Shape).Idx => (Holds.at' (f (i 1) (i 2)) : Elt Ideal .bf16))
    (by decide +kernel) fun t hf y => ?_
  · exact fun l i j => (congrFun hA (ix3 l i j)).trans rfl
  · have e := h t (y 0) (y 1) (y 2)
    blk_simp
    refine (Eq.trans (congrArg ((dat6 V c).after 2 t) (ix3_eta y).symm) e).trans ?_
    blk_simp [at6 t]
    rw [Nat.mul_comm 512 t]

theorem in7_0 (t : Fin cfg7.N) {f : ℕ → ℕ → ℝ} (h : Held2 (a := 2048) (b := 1024) (e := .f32) (V c main_v10) f) :
    Held2 (a := 512) (b := 1024) (e := .f32) (iblk7 V c 0 t) fun i j => f (512 * t + i) j := fun i j => by
  have ht : (t : ℕ) < 4 := t.isLt
  have e := h ⟨512 * t + i, by omega⟩ j
  refine Eq.trans ?_ e
  blk_ext [iblk7, at7 t]

theorem in7_1 (t : Fin cfg7.N) {f : ℕ → ℕ → ℝ} (h : Held2 (a := 2048) (b := 512) (e := .f32) (V c main_arg5) f) :
    Held2 (a := 512) (b := 512) (e := .f32) (iblk7 V c 1 t) fun i j => f (512 * t + i) j := fun i j => by
  have ht : (t : ℕ) < 4 := t.isLt
  have e := h ⟨512 * t + i, by omega⟩ j
  refine Eq.trans ?_ e
  blk_ext [iblk7, at7 t]

theorem in7_2 (t : Fin cfg7.N) {f : ℕ → ℕ → ℝ} (h : Held2 (a := 2048) (b := 512) (e := .f32) (V c main_arg6) f) :
    Held2 (a := 512) (b := 512) (e := .f32) (iblk7 V c 2 t) fun i j => f (512 * t + i) j := fun i j => by
  have ht : (t : ℕ) < 4 := t.isLt
  have e := h ⟨512 * t + i, by omega⟩ j
  refine Eq.trans ?_ e
  blk_ext [iblk7, at7 t]

theorem in7_3 (t : Fin cfg7.N) {f : ℕ → ℕ → ℝ} (h : Held2 (a := 1) (b := 512) (e := .f32) (V c main_v0) f) :
    Held2 (a := 1) (b := 512) (e := .f32) (iblk7 V c 3 t) fun i j => f i j := fun i j => by
  have ht : (t : ℕ) < 4 := t.isLt
  have e := h i j
  refine Eq.trans ?_ e
  blk_ext [iblk7, at7 t]

theorem in7_4 (t : Fin cfg7.N) {f : ℕ → ℕ → ℝ} (h : Held2 (a := 1) (b := 512) (e := .f32) (V c main_v1) f) :
    Held2 (a := 1) (b := 512) (e := .f32) (iblk7 V c 4 t) fun i j => f i j := fun i j => by
  have ht : (t : ℕ) < 4 := t.isLt
  have e := h i j
  refine Eq.trans ?_ e
  blk_ext [iblk7, at7 t]

theorem in7_5 (t : Fin cfg7.N) {f : ℕ → ℕ → ℝ} (h : Held2 (a := 1) (b := 512) (e := .f32) (V c main_v2) f) :
    Held2 (a := 1) (b := 512) (e := .f32) (iblk7 V c 5 t) fun i j => f i j := fun i j => by
  have ht : (t : ℕ) < 4 := t.isLt
  have e := h i j
  refine Eq.trans ?_ e
  blk_ext [iblk7, at7 t]

theorem in7_6 (t : Fin cfg7.N) {f : ℕ → ℕ → ℝ} (h : Held2 (a := 1) (b := 512) (e := .f32) (V c main_v3) f) :
    Held2 (a := 1) (b := 512) (e := .f32) (iblk7 V c 6 t) fun i j => f i j := fun i j => by
  have ht : (t : ℕ) < 4 := t.isLt
  have e := h i j
  refine Eq.trans ?_ e
  blk_ext [iblk7, at7 t]

theorem of7_7 {f : ℕ → ℕ → ℝ}
    (h : ∀ t : Fin cfg7.N, Held2 (a := 512) (b := 512) (e := .bf16) ((dat7 V c).after 7 t) fun i j => f (512 * t + i) j) :
    Held2 (a := 2048) (b := 512) (e := .bf16) ((dat7 V c).arrAt 7 cfg7.N) f := by
  have hA := (dat7 V c).arrAt_eq_of_covers 7 (fun i : (⟨2, ![2048, 512]⟩ : Shape).Idx => (Holds.at' (f (i 0) (i 1)) : Elt Ideal .bf16))
    (by decide +kernel) fun t hf y => ?_
  · exact fun i j => (congrFun hA (ix2 i j)).trans rfl
  · have e := h t (y 0) (y 1)
    blk_simp
    refine (Eq.trans (congrArg ((dat7 V c).after 7 t) (by blk_ext)) e).trans ?_
    blk_simp [at7 t]
    rw [Nat.mul_comm 512 t]

theorem of7_8 {f : ℕ → ℕ → ℝ}
    (h : ∀ t : Fin cfg7.N, Held2 (a := 512) (b := 512) (e := .f32) ((dat7 V c).after 8 t) fun i j => f (512 * t + i) j) :
    Held2 (a := 2048) (b := 512) (e := .f32) ((dat7 V c).arrAt 8 cfg7.N) f := by
  have hA := (dat7 V c).arrAt_eq_of_covers 8 (fun i : (⟨2, ![2048, 512]⟩ : Shape).Idx => (Holds.at' (f (i 0) (i 1)) : Elt Ideal .f32))
    (by decide +kernel) fun t hf y => ?_
  · exact fun i j => (congrFun hA (ix2 i j)).trans rfl
  · have e := h t (y 0) (y 1)
    blk_simp
    refine (Eq.trans (congrArg ((dat7 V c).after 8 t) (by blk_ext)) e).trans ?_
    blk_simp [at7 t]
    rw [Nat.mul_comm 512 t]

theorem in8_0 (t : Fin cfg8.N) {f : ℕ → ℕ → ℝ} (h : Held2 (a := 2048) (b := 1024) (e := .bf16) (V c main_v5) f) :
    Held2 (a := 2048) (b := 512) (e := .bf16) (iblk8 V c 0 t) fun i j => f i (512 * t + j) := fun i j => by
  have ht : (t : ℕ) < 2 := t.isLt
  have e := h i ⟨512 * t + j, by omega⟩
  refine Eq.trans ?_ e
  blk_ext [iblk8, at8 t]

theorem in8_1 (t : Fin cfg8.N) {f : ℕ → ℕ → ℝ} (h : Held2 (a := 2048) (b := 1536) (e := .bf16) (V c main_arg12) f) :
    Held2 (a := 2048) (b := 1536) (e := .bf16) (iblk8 V c 1 t) fun i j => f i j := fun i j => by
  have ht : (t : ℕ) < 2 := t.isLt
  have e := h i j
  refine Eq.trans ?_ e
  blk_ext [iblk8, at8 t]

theorem of8_2 {f : ℕ → ℕ → ℝ}
    (h : ∀ t : Fin cfg8.N, Held3 (n := 1) (a := 512) (b := 1536) (e := .bf16) ((dat8 V c).after 2 t) fun _ i j => f (512 * t + i) j) :
    Held3 (n := 1) (a := 1024) (b := 1536) (e := .bf16) ((dat8 V c).arrAt 2 cfg8.N) (fun _ => f) := by
  have hA := (dat8 V c).arrAt_eq_of_covers 2 (fun i : (⟨3, ![1, 1024, 1536]⟩ : Shape).Idx => (Holds.at' (f (i 1) (i 2)) : Elt Ideal .bf16))
    (by decide +kernel) fun t hf y => ?_
  · exact fun l i j => (congrFun hA (ix3 l i j)).trans rfl
  · have e := h t (y 0) (y 1) (y 2)
    blk_simp
    refine (Eq.trans (congrArg ((dat8 V c).after 2 t) (ix3_eta y).symm) e).trans ?_
    blk_simp [at8 t]
    rw [Nat.mul_comm 512 t]

theorem in9_0 (t : Fin cfg9.N) {f : ℕ → ℕ → ℝ} (h : Held2 (a := 2048) (b := 1024) (e := .bf16) (V c main_v5) f) :
    Held2 (a := 2048) (b := 512) (e := .bf16) (iblk9 V c 0 t) fun i j => f i (512 * t + j) := fun i j => by
  have ht : (t : ℕ) < 2 := t.isLt
  have e := h i ⟨512 * t + j, by omega⟩
  refine Eq.trans ?_ e
  blk_ext [iblk9, at9 t]

theorem in9_1 (t : Fin cfg9.N) {f : ℕ → ℕ → ℝ} (h : Held2 (a := 2048) (b := 1024) (e := .bf16) (V c main_arg14) f) :
    Held2 (a := 2048) (b := 1024) (e := .bf16) (iblk9 V c 1 t) fun i j => f i j := fun i j => by
  have ht : (t : ℕ) < 2 := t.isLt
  have e := h i j
  refine Eq.trans ?_ e
  blk_ext [iblk9, at9 t]

theorem of9_2 {f : ℕ → ℕ → ℝ}
    (h : ∀ t : Fin cfg9.N, Held3 (n := 1) (a := 512) (b := 1024) (e := .bf16) ((dat9 V c).after 2 t) fun _ i j => f (512 * t + i) j) :
    Held3 (n := 1) (a := 1024) (b := 1024) (e := .bf16) ((dat9 V c).arrAt 2 cfg9.N) (fun _ => f) := by
  have hA := (dat9 V c).arrAt_eq_of_covers 2 (fun i : (⟨3, ![1, 1024, 1024]⟩ : Shape).Idx => (Holds.at' (f (i 1) (i 2)) : Elt Ideal .bf16))
    (by decide +kernel) fun t hf y => ?_
  · exact fun l i j => (congrFun hA (ix3 l i j)).trans rfl
  · have e := h t (y 0) (y 1) (y 2)
    blk_simp
    refine (Eq.trans (congrArg ((dat9 V c).after 2 t) (ix3_eta y).symm) e).trans ?_
    blk_simp [at9 t]
    rw [Nat.mul_comm 512 t]

theorem in10_0 (t : Fin cfg10.N) {f : ℕ → ℕ → ℝ} (h : Held2 (a := 2048) (b := 1536) (e := .bf16) (V c main_arg12) f) :
    Held2 (a := 256) (b := 1536) (e := .bf16) (iblk10 V c 0 t) fun i j => f (256 * t + i) j := fun i j => by
  have ht : (t : ℕ) < 8 := t.isLt
  have e := h ⟨256 * t + i, by omega⟩ j
  refine Eq.trans ?_ e
  blk_ext [iblk10, at10 t]

theorem in10_1 (t : Fin cfg10.N) {f : ℕ → ℕ → ℝ} (h : Held3 (n := 1) (a := 1024) (b := 1536) (e := .bf16) (V c main_arg2) (fun _ => f)) :
    Held3 (n := 1) (a := 1024) (b := 1536) (e := .bf16) (iblk10 V c 1 t) fun _ i j => f i j := fun l i j => by
  have ht : (t : ℕ) < 8 := t.isLt
  have e := h l i j
  refine Eq.trans ?_ e
  blk_ext [iblk10, at10 t]

theorem in10_2 (t : Fin cfg10.N) {f : ℕ → ℕ → ℝ} (h : Held2 (a := 2048) (b := 1024) (e := .bf16) (V c main_arg14) f) :
    Held2 (a := 256) (b := 1024) (e := .bf16) (iblk10 V c 2 t) fun i j => f (256 * t + i) j := fun i j => by
  have ht : (t : ℕ) < 8 := t.isLt
  have e := h ⟨256 * t + i, by omega⟩ j
  refine Eq.trans ?_ e
  blk_ext [iblk10, at10 t]

theorem in10_3 (t : Fin cfg10.N) {f : ℕ → ℕ → ℝ} (h : Held3 (n := 1) (a := 1024) (b := 1024) (e := .bf16) (V c main_arg4) (fun _ => f)) :
    Held3 (n := 1) (a := 1024) (b := 1024) (e := .bf16) (iblk10 V c 3 t) fun _ i j => f i j := fun l i j => by
  have ht : (t : ℕ) < 8 := t.isLt
  have e := h l i j
  refine Eq.trans ?_ e
  blk_ext [iblk10, at10 t]

theorem in10_4 (t : Fin cfg10.N) {f : ℕ → ℕ → ℝ} (h : Held2 (a := 16) (b := 2048) (e := .bf16) (V c main_arg13) f) :
    Held2 (a := 16) (b := 256) (e := .bf16) (iblk10 V c 4 t) fun i j => f i (256 * t + j) := fun i j => by
  have ht : (t : ℕ) < 8 := t.isLt
  have e := h i ⟨256 * t + j, by omega⟩
  refine Eq.trans ?_ e
  blk_ext [iblk10, at10 t]

theorem in10_5 (t : Fin cfg10.N) {f : ℕ → ℕ → ℝ} (h : Held2 (a := 16) (b := 1024) (e := .bf16) (V c main_arg3) f) :
    Held2 (a := 16) (b := 1024) (e := .bf16) (iblk10 V c 5 t) fun i j => f i j := fun i j => by
  have ht : (t : ℕ) < 8 := t.isLt
  have e := h i j
  refine Eq.trans ?_ e
  blk_ext [iblk10, at10 t]

theorem in10_6 (t : Fin cfg10.N) {f : ℕ → ℕ → ℝ} (h : Held2 (a := 2048) (b := 1024) (e := .f32) (V c main_arg0) f) :
    Held2 (a := 256) (b := 1024) (e := .f32) (iblk10 V c 6 t) fun i j => f (256 * t + i) j := fun i j => by
  have ht : (t : ℕ) < 8 := t.isLt
  have e := h ⟨256 * t + i, by omega⟩ j
  refine Eq.trans ?_ e
  blk_ext [iblk10, at10 t]

theorem in10_7 (t : Fin cfg10.N) {f : ℕ → ℕ → ℝ} (h : Held2 (a := 1) (b := 1024) (e := .f32) (V c main_v15) f) :
    Held2 (a := 1) (b := 1024) (e := .f32) (iblk10 V c 7 t) fun i j => f i j := fun i j => by
  have ht : (t : ℕ) < 8 := t.isLt
  have e := h i j
  refine Eq.trans ?_ e
  blk_ext [iblk10, at10 t]

theorem in10_8 (t : Fin cfg10.N) {f : ℕ → ℕ → ℝ} (h : Held2 (a := 2048) (b := 1024) (e := .f32) (V c main_arg15) f) :
    Held2 (a := 256) (b := 1024) (e := .f32) (iblk10 V c 8 t) fun i j => f (256 * t + i) j := fun i j => by
  have ht : (t : ℕ) < 8 := t.isLt
  have e := h ⟨256 * t + i, by omega⟩ j
  refine Eq.trans ?_ e
  blk_ext [iblk10, at10 t]

theorem of10_9 {f : ℕ → ℕ → ℝ}
    (h : ∀ t : Fin cfg10.N, Held2 (a := 256) (b := 1024) (e := .f32) ((dat10 V c).after 9 t) fun i j => f (256 * t + i) j) :
    Held2 (a := 2048) (b := 1024) (e := .f32) ((dat10 V c).arrAt 9 cfg10.N) f := by
  have hA := (dat10 V c).arrAt_eq_of_covers 9 (fun i : (⟨2, ![2048, 1024]⟩ : Shape).Idx => (Holds.at' (f (i 0) (i 1)) : Elt Ideal .f32))
    (by decide +kernel) fun t hf y => ?_
  · exact fun i j => (congrFun hA (ix2 i j)).trans rfl
  · have e := h t (y 0) (y 1)
    blk_simp
    refine (Eq.trans (congrArg ((dat10 V c).after 9 t) (by blk_ext)) e).trans ?_
    blk_simp [at10 t]
    rw [Nat.mul_comm 256 t]

end

end Cert.Proj
-- ==== Proof.ProjCalls.lean ====
/- What each of the eleven calls of the mixer's projections and norms leaves in its arrays, from what it finds in those that it reads. -/
module

public import proofs.«01_k».proof.Proof.ProjBlocks
public import proofs.«01_k».proof.Proof.ProjPost
public import proofs.«01_k».proof.Proof.ProjLast
public import proofs.«01_k».proof.Proof.ProjArrays

@[expose] public section

set_option maxRecDepth 16384
set_option maxHeartbeats 4000000

noncomputable section

namespace Cert.Proj

open Idealize.ShloMosaic Idealize.ShloMosaic.TcCoe Cert.Fox Cert.MixIdeal Cert.MixIdeal.Gen Finset
open Idealize.ShloMosaic.Pipeline (Dat)
open Cert.Net (rms lastX)
open Cert.Mem (from')

section Rows

variable (N : Mix) (k n : ℕ)

/-- The `n`-th block of `k` rows. -/
def rows (f : ℕ → ℕ → ℝ) (i j : ℕ) : ℝ := f (k * n + i) j

/-- The sum of the first `n` rows. -/
def upTo (f : ℕ → ℕ → ℝ) (j : ℕ) : ℝ := ∑ t ∈ range n, f t j

theorem upTo_zero (f : ℕ → ℕ → ℝ) : upTo (k * 0) f = fun _ => 0 := by
  funext j
  rw [Nat.mul_zero]
  rfl

theorem upTo_succ (f : ℕ → ℕ → ℝ) : upTo (k * (n + 1)) f = fun j => upTo (k * n) f j + ∑ i ∈ range k, f (k * n + i) j := by
  funext j
  unfold upTo
  rw [show k * (n + 1) = k * n + k from rfl, sum_range_add]

/-! The terms of the sums. -/

abbrev tga (t j : ℕ) : ℝ := N.dy t j * hat N.o t j

abbrev tgc (t j : ℕ) : ℝ := from' 512 N.dy t j * hat N.sv t j

abbrev tlg (t j : ℕ) : ℝ := N.dz t j * centred N.yc t j

abbrev tg (t j : ℕ) : ℝ := N.dh t j * N.xh t j

/-- The six buffers of the eighth call after block `n`. -/
structure After (v0 : Vec Ideal S512x512 .bf16) (v1 : Vec Ideal S512x512 .f32) (v2 v3 v4 v5 : Vec Ideal S1x512 .f32) : Prop where
  o : Held2 v0 (rows 512 n N.do')
  y : Held2 v1 (rows 512 n N.dyc)
  ga : Held2 v2 fun _ => upTo (512 * (n + 1)) (tga N)
  gc : Held2 v3 fun _ => upTo (512 * (n + 1)) (tgc N)
  lg : Held2 v4 fun _ => upTo (512 * (n + 1)) (tlg N)
  lb : Held2 v5 fun _ => upTo (512 * (n + 1)) N.dz

variable {N n}

theorem Left.after {v0 : Vec Ideal S512x512 .bf16} {v1 : Vec Ideal S512x512 .f32} {v2 v3 v4 v5 : Vec Ideal S1x512 .f32}
    (h : Left (rows 512 n N.dy) (rows 512 n N.o) (rows 512 n N.yc) N.ga N.gc N.lg N.lb (upTo (512 * n) (tga N)) (upTo (512 * n) (tgc N))
      (upTo (512 * n) (tlg N)) (upTo (512 * n) N.dz) v0 v1 v2 v3 v4 v5) : After N n v0 v1 v2 v3 v4 v5 := by
  obtain ⟨o, y, ga, gc, lg, lb⟩ := h
  have e1 : affine N.lg N.lb (rows 512 n N.yc) = rows 512 n N.z := rfl
  have e2 : silu (rows 512 n N.z) = rows 512 n N.sv := rfl
  have e3 : from' 512 (rows 512 n N.dy) = rows 512 n (from' 512 N.dy) := rfl
  have e4 : back N.gc (rows 512 n (from' 512 N.dy)) (rows 512 n N.sv) = rows 512 n N.dsv := rfl
  have e5 : silu' (rows 512 n N.dsv) (rows 512 n N.z) = rows 512 n N.dz := rfl
  have e6 : back' (fun i j => rows 512 n N.dz i j * N.lg j) (rows 512 n N.yc) = rows 512 n N.dyc := rfl
  have e7 : centred (rows 512 n N.yc) = rows 512 n (centred N.yc) := rfl
  have e8 : hat (rows 512 n N.sv) = rows 512 n (hat N.sv) := rfl
  have e9 : hat (rows 512 n N.o) = rows 512 n (hat N.o) := rfl
  have e0 : back N.ga (rows 512 n N.dy) (rows 512 n N.o) = rows 512 n N.do' := rfl
  rw [e1, e2, e3, e4, e5, e6] at y
  rw [e1, e2, e3, e8] at gc
  rw [e1, e2, e3, e4, e5, e7] at lg
  rw [e1, e2, e3, e4, e5] at lb
  rw [e9] at ga
  rw [e0] at o
  refine ⟨o, y, ?_, ?_, ?_, ?_⟩
  · rw [upTo_succ]; exact ga
  · rw [upTo_succ]; exact gc
  · rw [upTo_succ]; exact lg
  · rw [upTo_succ]; exact lb

end Rows

variable (V : (c : Dev nD) → (b : Ref sig .tc) → Buf (Elt Ideal) ((c : Thread nD τ).loc b)) (c : Dev nD) {N : Mix}

/-- An array of the tokens' shape, of 32-bit numbers or of 16-bit ones. -/
abbrev Tok (x : Vec Ideal ⟨2, ![2048, 1024]⟩ .f32) (f : ℕ → ℕ → ℝ) : Prop := Held2 x f

abbrev Tok16 (x : Vec Ideal ⟨2, ![2048, 1024]⟩ .bf16) (f : ℕ → ℕ → ℝ) : Prop := Held2 x f

/-- One of half their width. -/
abbrev Half (x : Vec Ideal ⟨2, ![2048, 512]⟩ .f32) (f : ℕ → ℕ → ℝ) : Prop := Held2 x f

abbrev Half16 (x : Vec Ideal ⟨2, ![2048, 512]⟩ .bf16) (f : ℕ → ℕ → ℝ) : Prop := Held2 x f

/-- The queries, keys and values, or their gradient. -/
abbrev Qkv (x : Vec Ideal ⟨2, ![2048, 1536]⟩ .bf16) (f : ℕ → ℕ → ℝ) : Prop := Held2 x f

/-- The forget gates' weight, and the gradient of the gates. -/
abbrev Gates (x : Vec Ideal ⟨2, ![16, 1024]⟩ .bf16) (f : ℕ → ℕ → ℝ) : Prop := Held2 x f

abbrev GatesT (x : Vec Ideal ⟨2, ![16, 2048]⟩ .bf16) (f : ℕ → ℕ → ℝ) : Prop := Held2 x f

/-- A weight, and the wider one of the queries, keys and values. -/
abbrev Wgt (x : Vec Ideal ⟨3, ![1, 1024, 1024]⟩ .bf16) (f : ℕ → ℕ → ℝ) : Prop := Held3 x fun _ => f

abbrev Wgt5 (x : Vec Ideal ⟨3, ![1, 1024, 1536]⟩ .bf16) (f : ℕ → ℕ → ℝ) : Prop := Held3 x fun _ => f

/-- A row of numbers, one per feature or one per feature of a half. -/
abbrev Row (x : Vec Ideal ⟨2, ![1, 1024]⟩ .f32) (f : ℕ → ℝ) : Prop := Held2 x fun _ => f

abbrev Row5 (x : Vec Ideal ⟨2, ![1, 512]⟩ .f32) (f : ℕ → ℝ) : Prop := Held2 x fun _ => f

/-- The first call normalizes the tokens. -/
theorem call0 (hx : Tok (V c main_arg0) N.x) (hg : Row (V c main_v4) N.g) : Tok16 ((dat0 V c).arrAt 2 cfg0.N) N.h :=
  of0_2 V c fun t => by
    rw [after0_2]
    exact (block_h (in0_0 V c t hx) (in0_1 V c t (f := fun _ => N.g) hg)).congr fun _ _ _ _ => rfl

/-- The second leaves the queries, keys and values, -/
theorem call1 (hh : Tok16 (V c main_v5) N.h) (hw : Wgt5 (V c main_arg2) N.wq) : Qkv ((dat1 V c).arrAt 2 cfg1.N) N.qkv :=
  of1_2 V c fun t => by
    rw [after1_2]
    exact (block_qkv (in1_0 V c t hh) (in1_1 V c t hw)).congr fun _ _ _ _ => rfl

/-- the third the attention's gates, -/
theorem call2 (hh : Tok16 (V c main_v5) N.h) (hw : Wgt (V c main_arg4) N.wa) : Tok ((dat2 V c).arrAt 2 cfg2.N) N.agv :=
  of2_2 V c fun t => by
    rw [after2_2]
    exact (block_agv (in2_0 V c t hh) (in2_1 V c t hw)).congr fun _ _ _ _ => rfl

/-- the fourth the attention's output and the convolution's side by side, -/
theorem call3 (ho : Half (V c main_arg5) N.o) (hy : Half (V c main_arg6) N.yc) (ha : Row5 (V c main_v0) N.ga) (hc : Row5 (V c main_v1) N.gc)
    (hp : Row5 (V c main_v2) N.lg) (hq : Row5 (V c main_v3) N.lb) : Tok16 ((dat3 V c).arrAt 6 cfg3.N) N.y :=
  of3_6 V c fun t => by
    rw [after3_6]
    exact (block_post (in3_0 V c t ho) (in3_1 V c t hy) (in3_2 V c t (f := fun _ => N.ga) ha) (in3_3 V c t (f := fun _ => N.gc) hc)
      (in3_4 V c t (f := fun _ => N.lg) hp) (in3_5 V c t (f := fun _ => N.lb) hq)).congr fun _ _ _ _ => rfl

/-- and the fifth the result. -/
theorem call4 (hy : Tok16 (V c main_v8) N.y) (hw : Wgt (V c main_arg11) N.wo) (hx : Tok (V c main_arg0) N.x) :
    Tok ((dat4 V c).arrAt 3 cfg4.N) N.out :=
  of4_3 V c fun t => by
    rw [after4_3]
    exact (block_out (in4_0 V c t hy) (in4_1 V c t hw) (in4_2 V c t hx)).congr fun _ _ _ _ => rfl

/-- The sixth leaves the gradient of the two halves, -/
theorem call5 (hc : Tok (V c main_arg15) N.c) (hw : Wgt (V c main_arg11) N.wo) : Tok ((dat5 V c).arrAt 2 cfg5.N) N.dy :=
  of5_2 V c fun t => by
    rw [after5_2]
    exact (block_dy (in5_0 V c t hc) (in5_1 V c t hw)).congr fun _ _ _ _ => rfl

/-- the seventh that of the result's weight. -/
theorem call6 (hy : Tok16 (V c main_v8) N.y) (hc : Tok (V c main_arg15) N.c) : Wgt ((dat6 V c).arrAt 2 cfg6.N) N.dwo :=
  of6_2 V c fun t => by
    rw [after6_2]
    exact (block_dwo (in6_0 V c t hy) (in6_1 V c t hc)).congr fun _ _ _ _ _ _ => rfl

section Post

variable (hd : Tok (V c main_v10) N.dy) (ho : Half (V c main_arg5) N.o) (hy : Half (V c main_arg6) N.yc) (ha : Row5 (V c main_v0) N.ga)
  (hc : Row5 (V c main_v1) N.gc) (hp : Row5 (V c main_v2) N.lg) (hq : Row5 (V c main_v3) N.lb)

include hd ho hy ha hc hp hq

theorem post_at : ∀ n (hn : n < cfg7.N), After N n (outsAt7 V c n hn).1 (outsAt7 V c n hn).2.1 (outsAt7 V c n hn).2.2.1
    (outsAt7 V c n hn).2.2.2.1 (outsAt7 V c n hn).2.2.2.2.1 (outsAt7 V c n hn).2.2.2.2.2
  | 0, hn => by
    rw [outsAt7_A V c ⟨0, hn⟩ rfl]
    dsimp only
    unfold out7_A_7 out7_A_8 out7_A_9 out7_A_10 out7_A_11 out7_A_12
    simp only [View.read_writes_junk_eq_canon]
    refine Left.after ?_
    rw [upTo_zero, upTo_zero, upTo_zero, upTo_zero]
    exact post_A _ _ _ _ _ _ _ _ _ _ _ _ _ _ _ _ _ _ _ _ _ _ _ _ _ _ _ _ (in7_0 V c ⟨0, hn⟩ hd) (in7_1 V c ⟨0, hn⟩ ho) (in7_2 V c ⟨0, hn⟩ hy)
      (in7_3 V c ⟨0, hn⟩ (f := fun _ => N.ga) ha) (in7_4 V c ⟨0, hn⟩ (f := fun _ => N.gc) hc) (in7_5 V c ⟨0, hn⟩ (f := fun _ => N.lg) hp)
      (in7_6 V c ⟨0, hn⟩ (f := fun _ => N.lb) hq) _ _ rfl
  | n + 1, hn => by
    have h4 : n + 1 < 4 := hn
    have ih := post_at n (Nat.lt_of_succ_lt hn)
    rw [outsAt7_B V c ⟨n + 1, hn⟩ (by change ¬(n + 1) % 4 = 0; omega)]
    dsimp only
    unfold out7_B_7 out7_B_8 out7_B_9 out7_B_10 out7_B_11 out7_B_12
    simp only [View.read_writes_junk_eq_canon]
    refine Left.after ?_
    exact post_B _ _ _ _ _ _ _ _ _ _ _ _ _ _ _ _ _ _ _ _ _ _ _ _ _ _ _ _ (in7_0 V c ⟨n + 1, hn⟩ hd) (in7_1 V c ⟨n + 1, hn⟩ ho)
      (in7_2 V c ⟨n + 1, hn⟩ hy) (in7_3 V c ⟨n + 1, hn⟩ (f := fun _ => N.ga) ha) (in7_4 V c ⟨n + 1, hn⟩ (f := fun _ => N.gc) hc)
      (in7_5 V c ⟨n + 1, hn⟩ (f := fun _ => N.lg) hp) (in7_6 V c ⟨n + 1, hn⟩ (f := fun _ => N.lb) hq) _ ih.ga ih.gc ih.lg ih.lb _ rfl

/-- The eighth leaves the gradient of the attention's output, -/
theorem call7_o : Half16 ((dat7 V c).arrAt 7 cfg7.N) N.do' :=
  of7_7 V c fun t => by
    rw [after7_7]
    exact (post_at V c hd ho hy ha hc hp hq t t.isLt).o

/-- of the convolution's output, -/
theorem call7_y : Half ((dat7 V c).arrAt 8 cfg7.N) N.dyc :=
  of7_8 V c fun t => by
    rw [after7_8]
    exact (post_at V c hd ho hy ha hc hp hq t t.isLt).y

/-- of the attention's gain, -/
theorem call7_ga : Row5 ((dat7 V c).arrAt 9 cfg7.N) N.dga := fun i j =>
  ((dat7 V c).arrAt_emb_eq_after_last 9 ⟨3, by decide⟩ (by decide +kernel) (ix2 i j)).trans (by
    rw [after7_9]
    exact (post_at V c hd ho hy ha hc hp hq 3 (by decide)).ga i j)

/-- of the convolution's, -/
theorem call7_gc : Row5 ((dat7 V c).arrAt 10 cfg7.N) N.dgc := fun i j =>
  ((dat7 V c).arrAt_emb_eq_after_last 10 ⟨3, by decide⟩ (by decide +kernel) (ix2 i j)).trans (by
    rw [after7_10]
    exact (post_at V c hd ho hy ha hc hp hq 3 (by decide)).gc i j)

/-- of the gain of its norm -/
theorem call7_lg : Row5 ((dat7 V c).arrAt 11 cfg7.N) N.dlg := fun i j =>
  ((dat7 V c).arrAt_emb_eq_after_last 11 ⟨3, by decide⟩ (by decide +kernel) (ix2 i j)).trans (by
    rw [after7_11]
    exact (post_at V c hd ho hy ha hc hp hq 3 (by decide)).lg i j)

/-- and of the offset. -/
theorem call7_lb : Row5 ((dat7 V c).arrAt 12 cfg7.N) N.dlb := fun i j =>
  ((dat7 V c).arrAt_emb_eq_after_last 12 ⟨3, by decide⟩ (by decide +kernel) (ix2 i j)).trans (by
    rw [after7_12]
    exact (post_at V c hd ho hy ha hc hp hq 3 (by decide)).lb i j)

end Post

/-- The ninth leaves the gradient of the weight of the queries, keys and values, -/
theorem call8 (hh : Tok16 (V c main_v5) N.h) (hq : Qkv (V c main_arg12) N.dq) : Wgt5 ((dat8 V c).arrAt 2 cfg8.N) N.dwq :=
  of8_2 V c fun t => by
    rw [after8_2]
    exact (block_dwq (in8_0 V c t hh) (in8_1 V c t hq)).congr fun _ _ _ _ _ _ => rfl

/-- the tenth that of the weight of the attention's gates. -/
theorem call9 (hh : Tok16 (V c main_v5) N.h) (hq : Tok16 (V c main_arg14) N.da) : Wgt ((dat9 V c).arrAt 2 cfg9.N) N.dwa :=
  of9_2 V c fun t => by
    rw [after9_2]
    exact (block_dwa (in9_0 V c t hh) (in9_1 V c t hq)).congr fun _ _ _ _ _ _ => rfl

section Last

variable (hp : Qkv (V c main_arg12) N.dq) (hu : Wgt5 (V c main_arg2) N.wq) (hq : Tok16 (V c main_arg14) N.da) (hv : Wgt (V c main_arg4) N.wa)
  (hr : GatesT (V c main_arg13) N.df) (ht : Gates (V c main_arg3) N.wf) (hx : Tok (V c main_arg0) N.x) (hg : Row (V c main_v15) N.g)
  (hc : Tok (V c main_arg15) N.c)

include hp hu hq hv hr ht hx hg hc

/-- After point `n` one buffer holds the `n`-th rows of the gradient of the tokens, and the other the sum over the first `n + 1` blocks. -/
theorem last_at : ∀ n (hn : n < cfg10.N), Held2 (a := 256) (b := 1024) (e := .f32) (outsAt10 V c n hn).1 (rows 256 n N.dx) ∧
    Row (outsAt10 V c n hn).2 (upTo (256 * (n + 1)) (tg N))
  | 0, hn => by
    rw [outsAt10_A V c ⟨0, hn⟩ rfl]
    dsimp only
    unfold out10_A_9 out10_A_10
    simp only [View.read_writes_junk_eq_canon]
    rw [upTo_succ, upTo_zero]
    exact run_A _ _ _ _ _ _ _ _ _ _ _ _ _ _ _ _ _ _ _ _ _ _ _ _ (in10_0 V c ⟨0, hn⟩ hp) (in10_1 V c ⟨0, hn⟩ hu) (in10_2 V c ⟨0, hn⟩ hq)
      (in10_3 V c ⟨0, hn⟩ hv) (in10_4 V c ⟨0, hn⟩ hr) (in10_5 V c ⟨0, hn⟩ ht) (in10_6 V c ⟨0, hn⟩ hx) (in10_7 V c ⟨0, hn⟩ (f := fun _ => N.g) hg)
      (in10_8 V c ⟨0, hn⟩ hc) _ _ rfl
  | n + 1, hn => by
    have h8 : n + 1 < 8 := hn
    have ih := (last_at n (Nat.lt_of_succ_lt hn)).2
    rw [outsAt10_B V c ⟨n + 1, hn⟩ (by change ¬(n + 1) % 8 = 0; omega)]
    dsimp only
    unfold out10_B_9 out10_B_10
    simp only [View.read_writes_junk_eq_canon]
    rw [upTo_succ _ (n + 1)]
    exact run_B _ _ _ _ _ _ _ _ _ _ _ _ _ _ _ _ _ _ _ _ _ _ _ _ (in10_0 V c ⟨n + 1, hn⟩ hp) (in10_1 V c ⟨n + 1, hn⟩ hu)
      (in10_2 V c ⟨n + 1, hn⟩ hq) (in10_3 V c ⟨n + 1, hn⟩ hv) (in10_4 V c ⟨n + 1, hn⟩ hr) (in10_5 V c ⟨n + 1, hn⟩ ht)
      (in10_6 V c ⟨n + 1, hn⟩ hx) (in10_7 V c ⟨n + 1, hn⟩ (f := fun _ => N.g) hg) (in10_8 V c ⟨n + 1, hn⟩ hc) _ ih _ rfl

/-- The last leaves the gradient of the tokens -/
theorem call10_x : Tok ((dat10 V c).arrAt 9 cfg10.N) N.dx :=
  of10_9 V c fun t => by
    rw [after10_9]
    exact (last_at V c hp hu hq hv hr ht hx hg hc t t.isLt).1

/-- and that of their gain. -/
theorem call10_g : Row ((dat10 V c).arrAt 10 cfg10.N) N.dg := fun i j =>
  ((dat10 V c).arrAt_emb_eq_after_last 10 ⟨7, by decide⟩ (by decide +kernel) (ix2 i j)).trans (by
    rw [after10_10]
    exact (last_at V c hp hu hq hv hr ht hx hg hc 7 (by decide)).2 i j)

end Last

end Cert.Proj
-- ==== Proof.ProjRun.lean ====
/- What the eleven calls leave in the fourteen results, and their run. -/
module

public import proofs.«01_k».proof.Proof.ProjCalls
public import Idealize.ShloMosaic.Lib.Claim

@[expose] public section

set_option maxRecDepth 16384

noncomputable section

namespace Cert.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Fox Cert.MixIdeal Cert.MixIdeal.Gen

local notation "𝕄" => MT nD τ sig Unit (Elt Ideal) ℕ (UR sig nD τ) ℕ

variable (m : (ℓ : Loc nD τ sig) → Buf (Elt Ideal) ℓ) (ρ : Dev nD → PrngReg)

section Entry

variable (c : Dev nD)

/-- The arguments of device `c` hold the numbers of the layer, of its weights and of the gradients that arrive. -/
structure Args (N : Mix) : Prop where
  x : Tok (m ((c.tc : Thread nD τ).loc main_arg0)) N.x
  g : ∀ j : Fin 1024, (m ((c.tc : Thread nD τ).loc main_arg1) : Vec Ideal ⟨1, ![1024]⟩ .f32) (ix1 j) = ((N.g j : ℝ) : EReal)
  wq : Wgt5 (m ((c.tc : Thread nD τ).loc main_arg2)) N.wq
  wf : Gates (m ((c.tc : Thread nD τ).loc main_arg3)) N.wf
  wa : Wgt (m ((c.tc : Thread nD τ).loc main_arg4)) N.wa
  o : Half (m ((c.tc : Thread nD τ).loc main_arg5)) N.o
  yc : Half (m ((c.tc : Thread nD τ).loc main_arg6)) N.yc
  ga : ∀ j : Fin 512, (m ((c.tc : Thread nD τ).loc main_arg7) : Vec Ideal ⟨1, ![512]⟩ .f32) (ix1 j) = ((N.ga j : ℝ) : EReal)
  gc : ∀ j : Fin 512, (m ((c.tc : Thread nD τ).loc main_arg8) : Vec Ideal ⟨1, ![512]⟩ .f32) (ix1 j) = ((N.gc j : ℝ) : EReal)
  lg : ∀ j : Fin 512, (m ((c.tc : Thread nD τ).loc main_arg9) : Vec Ideal ⟨1, ![512]⟩ .f32) (ix1 j) = ((N.lg j : ℝ) : EReal)
  lb : ∀ j : Fin 512, (m ((c.tc : Thread nD τ).loc main_arg10) : Vec Ideal ⟨1, ![512]⟩ .f32) (ix1 j) = ((N.lb j : ℝ) : EReal)
  wo : Wgt (m ((c.tc : Thread nD τ).loc main_arg11)) N.wo
  dq : Qkv (m ((c.tc : Thread nD τ).loc main_arg12)) N.dq
  df : GatesT (m ((c.tc : Thread nD τ).loc main_arg13)) N.df
  da : Tok16 (m ((c.tc : Thread nD τ).loc main_arg14)) N.da
  c : Tok (m ((c.tc : Thread nD τ).loc main_arg15)) N.c

variable {c} {N : Mix} (h : Args m c N)

include h

theorem at1_arg0 : Tok (V1 m ρ c main_arg0) N.x := by
  rw [show V1 m ρ c main_arg0 = m ((c.tc : Thread nD τ).loc main_arg0) from W1_args m ρ c main_arg0 (by decide)]
  exact h.x

theorem at1_v4 : Row (V1 m ρ c main_v4) N.g := fun i j => by
  refine Eq.trans ?_ (h.g j)
  change StableHlo.after hostOps0 (W0 m ρ c) (Proc.devRef .tc main_v4) _ = _
  entry_read
  pointwise

/-- The normalized tokens, -/
theorem at2_v5 : Tok16 (V2 m ρ c main_v5) N.h := by
  rw [show V2 m ρ c main_v5 = (dat0 (V1 m ρ) c).arrAt 2 cfg0.N from W2_arr m ρ c 2]
  exact call0 (V1 m ρ) c (at1_arg0 m ρ h) (at1_v4 m ρ h)

theorem at2_arg2 : Wgt5 (V2 m ρ c main_arg2) N.wq := by
  rw [show V2 m ρ c main_arg2 = m ((c.tc : Thread nD τ).loc main_arg2) from W2_args m ρ c main_arg2 (by decide)]
  exact h.wq

/-- the queries, keys and values, -/
theorem at3_v6 : Qkv (V3 m ρ c main_v6) N.qkv := by
  rw [show V3 m ρ c main_v6 = (dat1 (V2 m ρ) c).arrAt 2 cfg1.N from W3_arr m ρ c 2]
  exact call1 (V2 m ρ) c (at2_v5 m ρ h) (at2_arg2 m ρ h)

theorem at3_v5 : Tok16 (V3 m ρ c main_v5) N.h := by
  rw [show V3 m ρ c main_v5 = V2 m ρ c main_v5 from
    W3_of m ρ c main_v5 (by decide)]
  exact at2_v5 m ρ h

theorem at3_arg4 : Wgt (V3 m ρ c main_arg4) N.wa := by
  rw [show V3 m ρ c main_arg4 = m ((c.tc : Thread nD τ).loc main_arg4) from W3_args m ρ c main_arg4 (by decide)]
  exact h.wa

/-- the attention's gates, -/
theorem at4_v7 : Tok (V4 m ρ c main_v7) N.agv := by
  rw [show V4 m ρ c main_v7 = (dat2 (V3 m ρ) c).arrAt 2 cfg2.N from W4_arr m ρ c 2]
  exact call2 (V3 m ρ) c (at3_v5 m ρ h) (at3_arg4 m ρ h)

theorem at4_arg5 : Half (V4 m ρ c main_arg5) N.o := by
  rw [show V4 m ρ c main_arg5 = m ((c.tc : Thread nD τ).loc main_arg5) from W4_args m ρ c main_arg5 (by decide)]
  exact h.o

theorem at4_arg6 : Half (V4 m ρ c main_arg6) N.yc := by
  rw [show V4 m ρ c main_arg6 = m ((c.tc : Thread nD τ).loc main_arg6) from W4_args m ρ c main_arg6 (by decide)]
  exact h.yc

theorem at1_v0 : Row5 (V1 m ρ c main_v0) N.ga := fun i j => by
  refine Eq.trans ?_ (h.ga j)
  change StableHlo.after hostOps0 (W0 m ρ c) (Proc.devRef .tc main_v0) _ = _
  entry_read
  pointwise

theorem at4_v0 : Row5 (V4 m ρ c main_v0) N.ga := by
  rw [show V4 m ρ c main_v0 = V1 m ρ c main_v0 from
    (W4_of m ρ c main_v0 (by decide)).trans ((W3_of m ρ c main_v0 (by decide)).trans (W2_of m ρ c main_v0 (by decide)))]
  exact at1_v0 m ρ h

theorem at1_v1 : Row5 (V1 m ρ c main_v1) N.gc := fun i j => by
  refine Eq.trans ?_ (h.gc j)
  change StableHlo.after hostOps0 (W0 m ρ c) (Proc.devRef .tc main_v1) _ = _
  entry_read
  pointwise

theorem at4_v1 : Row5 (V4 m ρ c main_v1) N.gc := by
  rw [show V4 m ρ c main_v1 = V1 m ρ c main_v1 from
    (W4_of m ρ c main_v1 (by decide)).trans ((W3_of m ρ c main_v1 (by decide)).trans (W2_of m ρ c main_v1 (by decide)))]
  exact at1_v1 m ρ h

theorem at1_v2 : Row5 (V1 m ρ c main_v2) N.lg := fun i j => by
  refine Eq.trans ?_ (h.lg j)
  change StableHlo.after hostOps0 (W0 m ρ c) (Proc.devRef .tc main_v2) _ = _
  entry_read
  pointwise

theorem at4_v2 : Row5 (V4 m ρ c main_v2) N.lg := by
  rw [show V4 m ρ c main_v2 = V1 m ρ c main_v2 from
    (W4_of m ρ c main_v2 (by decide)).trans ((W3_of m ρ c main_v2 (by decide)).trans (W2_of m ρ c main_v2 (by decide)))]
  exact at1_v2 m ρ h

theorem at1_v3 : Row5 (V1 m ρ c main_v3) N.lb := fun i j => by
  refine Eq.trans ?_ (h.lb j)
  change StableHlo.after hostOps0 (W0 m ρ c) (Proc.devRef .tc main_v3) _ = _
  entry_read
  pointwise

theorem at4_v3 : Row5 (V4 m ρ c main_v3) N.lb := by
  rw [show V4 m ρ c main_v3 = V1 m ρ c main_v3 from
    (W4_of m ρ c main_v3 (by decide)).trans ((W3_of m ρ c main_v3 (by decide)).trans (W2_of m ρ c main_v3 (by decide)))]
  exact at1_v3 m ρ h

/-- the attention's output and the convolution's, -/
theorem at5_v8 : Tok16 (V5 m ρ c main_v8) N.y := by
  rw [show V5 m ρ c main_v8 = (dat3 (V4 m ρ) c).arrAt 6 cfg3.N from W5_arr m ρ c 6]
  exact call3 (V4 m ρ) c (at4_arg5 m ρ h) (at4_arg6 m ρ h) (at4_v0 m ρ h) (at4_v1 m ρ h) (at4_v2 m ρ h) (at4_v3 m ρ h)

theorem at5_arg11 : Wgt (V5 m ρ c main_arg11) N.wo := by
  rw [show V5 m ρ c main_arg11 = m ((c.tc : Thread nD τ).loc main_arg11) from W5_args m ρ c main_arg11 (by decide)]
  exact h.wo

theorem at5_arg0 : Tok (V5 m ρ c main_arg0) N.x := by
  rw [show V5 m ρ c main_arg0 = m ((c.tc : Thread nD τ).loc main_arg0) from W5_args m ρ c main_arg0 (by decide)]
  exact h.x

/-- and the result. -/
theorem at6_v9 : Tok (V6 m ρ c main_v9) N.out := by
  rw [show V6 m ρ c main_v9 = (dat4 (V5 m ρ) c).arrAt 3 cfg4.N from W6_arr m ρ c 3]
  exact call4 (V5 m ρ) c (at5_v8 m ρ h) (at5_arg11 m ρ h) (at5_arg0 m ρ h)

theorem at6_arg15 : Tok (V6 m ρ c main_arg15) N.c := by
  rw [show V6 m ρ c main_arg15 = m ((c.tc : Thread nD τ).loc main_arg15) from W6_args m ρ c main_arg15 (by decide)]
  exact h.c

theorem at6_arg11 : Wgt (V6 m ρ c main_arg11) N.wo := by
  rw [show V6 m ρ c main_arg11 = m ((c.tc : Thread nD τ).loc main_arg11) from W6_args m ρ c main_arg11 (by decide)]
  exact h.wo

/-- The gradient of both, -/
theorem at7_v10 : Tok (V7 m ρ c main_v10) N.dy := by
  rw [show V7 m ρ c main_v10 = (dat5 (V6 m ρ) c).arrAt 2 cfg5.N from W7_arr m ρ c 2]
  exact call5 (V6 m ρ) c (at6_arg15 m ρ h) (at6_arg11 m ρ h)

theorem at7_v8 : Tok16 (V7 m ρ c main_v8) N.y := by
  rw [show V7 m ρ c main_v8 = V5 m ρ c main_v8 from
    (W7_of m ρ c main_v8 (by decide)).trans (W6_of m ρ c main_v8 (by decide))]
  exact at5_v8 m ρ h

theorem at7_arg15 : Tok (V7 m ρ c main_arg15) N.c := by
  rw [show V7 m ρ c main_arg15 = m ((c.tc : Thread nD τ).loc main_arg15) from W7_args m ρ c main_arg15 (by decide)]
  exact h.c

/-- of the result's weight, -/
theorem at8_v11 : Wgt (V8 m ρ c main_v11) N.dwo := by
  rw [show V8 m ρ c main_v11 = (dat6 (V7 m ρ) c).arrAt 2 cfg6.N from W8_arr m ρ c 2]
  exact call6 (V7 m ρ) c (at7_v8 m ρ h) (at7_arg15 m ρ h)

theorem at8_v10 : Tok (V8 m ρ c main_v10) N.dy := by
  rw [show V8 m ρ c main_v10 = V7 m ρ c main_v10 from
    W8_of m ρ c main_v10 (by decide)]
  exact at7_v10 m ρ h

theorem at8_arg5 : Half (V8 m ρ c main_arg5) N.o := by
  rw [show V8 m ρ c main_arg5 = m ((c.tc : Thread nD τ).loc main_arg5) from W8_args m ρ c main_arg5 (by decide)]
  exact h.o

theorem at8_arg6 : Half (V8 m ρ c main_arg6) N.yc := by
  rw [show V8 m ρ c main_arg6 = m ((c.tc : Thread nD τ).loc main_arg6) from W8_args m ρ c main_arg6 (by decide)]
  exact h.yc

theorem at8_v0 : Row5 (V8 m ρ c main_v0) N.ga := by
  rw [show V8 m ρ c main_v0 = V1 m ρ c main_v0 from
    (W8_of m ρ c main_v0 (by decide)).trans ((W7_of m ρ c main_v0 (by decide)).trans ((W6_of m ρ c main_v0 (by decide)).trans ((W5_of m ρ c main_v0 (by decide)).trans ((W4_of m ρ c main_v0 (by decide)).trans ((W3_of m ρ c main_v0 (by decide)).trans (W2_of m ρ c main_v0 (by decide)))))))]
  exact at1_v0 m ρ h

theorem at8_v1 : Row5 (V8 m ρ c main_v1) N.gc := by
  rw [show V8 m ρ c main_v1 = V1 m ρ c main_v1 from
    (W8_of m ρ c main_v1 (by decide)).trans ((W7_of m ρ c main_v1 (by decide)).trans ((W6_of m ρ c main_v1 (by decide)).trans ((W5_of m ρ c main_v1 (by decide)).trans ((W4_of m ρ c main_v1 (by decide)).trans ((W3_of m ρ c main_v1 (by decide)).trans (W2_of m ρ c main_v1 (by decide)))))))]
  exact at1_v1 m ρ h

theorem at8_v2 : Row5 (V8 m ρ c main_v2) N.lg := by
  rw [show V8 m ρ c main_v2 = V1 m ρ c main_v2 from
    (W8_of m ρ c main_v2 (by decide)).trans ((W7_of m ρ c main_v2 (by decide)).trans ((W6_of m ρ c main_v2 (by decide)).trans ((W5_of m ρ c main_v2 (by decide)).trans ((W4_of m ρ c main_v2 (by decide)).trans ((W3_of m ρ c main_v2 (by decide)).trans (W2_of m ρ c main_v2 (by decide)))))))]
  exact at1_v2 m ρ h

theorem at8_v3 : Row5 (V8 m ρ c main_v3) N.lb := by
  rw [show V8 m ρ c main_v3 = V1 m ρ c main_v3 from
    (W8_of m ρ c main_v3 (by decide)).trans ((W7_of m ρ c main_v3 (by decide)).trans ((W6_of m ρ c main_v3 (by decide)).trans ((W5_of m ρ c main_v3 (by decide)).trans ((W4_of m ρ c main_v3 (by decide)).trans ((W3_of m ρ c main_v3 (by decide)).trans (W2_of m ρ c main_v3 (by decide)))))))]
  exact at1_v3 m ρ h

/-- of the attention's output, -/
theorem at9_v12_0 : Half16 (V9 m ρ c main_v12_0) N.do' := by
  rw [show V9 m ρ c main_v12_0 = (dat7 (V8 m ρ) c).arrAt 7 cfg7.N from W9_arr m ρ c 7]
  exact call7_o (V8 m ρ) c (at8_v10 m ρ h) (at8_arg5 m ρ h) (at8_arg6 m ρ h) (at8_v0 m ρ h) (at8_v1 m ρ h) (at8_v2 m ρ h) (at8_v3 m ρ h)

/-- of the convolution's output, -/
theorem at9_v12_1 : Half (V9 m ρ c main_v12_1) N.dyc := by
  rw [show V9 m ρ c main_v12_1 = (dat7 (V8 m ρ) c).arrAt 8 cfg7.N from W9_arr m ρ c 8]
  exact call7_y (V8 m ρ) c (at8_v10 m ρ h) (at8_arg5 m ρ h) (at8_arg6 m ρ h) (at8_v0 m ρ h) (at8_v1 m ρ h) (at8_v2 m ρ h) (at8_v3 m ρ h)

/-- of the attention's gain, -/
theorem at9_v12_2 : Row5 (V9 m ρ c main_v12_2) N.dga := by
  rw [show V9 m ρ c main_v12_2 = (dat7 (V8 m ρ) c).arrAt 9 cfg7.N from W9_arr m ρ c 9]
  exact call7_ga (V8 m ρ) c (at8_v10 m ρ h) (at8_arg5 m ρ h) (at8_arg6 m ρ h) (at8_v0 m ρ h) (at8_v1 m ρ h) (at8_v2 m ρ h) (at8_v3 m ρ h)

/-- of the convolution's, -/
theorem at9_v12_3 : Row5 (V9 m ρ c main_v12_3) N.dgc := by
  rw [show V9 m ρ c main_v12_3 = (dat7 (V8 m ρ) c).arrAt 10 cfg7.N from W9_arr m ρ c 10]
  exact call7_gc (V8 m ρ) c (at8_v10 m ρ h) (at8_arg5 m ρ h) (at8_arg6 m ρ h) (at8_v0 m ρ h) (at8_v1 m ρ h) (at8_v2 m ρ h) (at8_v3 m ρ h)

/-- of the gain of its norm, -/
theorem at9_v12_4 : Row5 (V9 m ρ c main_v12_4) N.dlg := by
  rw [show V9 m ρ c main_v12_4 = (dat7 (V8 m ρ) c).arrAt 11 cfg7.N from W9_arr m ρ c 11]
  exact call7_lg (V8 m ρ) c (at8_v10 m ρ h) (at8_arg5 m ρ h) (at8_arg6 m ρ h) (at8_v0 m ρ h) (at8_v1 m ρ h) (at8_v2 m ρ h) (at8_v3 m ρ h)

/-- of the offset, -/
theorem at9_v12_5 : Row5 (V9 m ρ c main_v12_5) N.dlb := by
  rw [show V9 m ρ c main_v12_5 = (dat7 (V8 m ρ) c).arrAt 12 cfg7.N from W9_arr m ρ c 12]
  exact call7_lb (V8 m ρ) c (at8_v10 m ρ h) (at8_arg5 m ρ h) (at8_arg6 m ρ h) (at8_v0 m ρ h) (at8_v1 m ρ h) (at8_v2 m ρ h) (at8_v3 m ρ h)

theorem at9_v5 : Tok16 (V9 m ρ c main_v5) N.h := by
  rw [show V9 m ρ c main_v5 = V2 m ρ c main_v5 from
    (W9_of m ρ c main_v5 (by decide)).trans ((W8_of m ρ c main_v5 (by decide)).trans ((W7_of m ρ c main_v5 (by decide)).trans ((W6_of m ρ c main_v5 (by decide)).trans ((W5_of m ρ c main_v5 (by decide)).trans ((W4_of m ρ c main_v5 (by decide)).trans (W3_of m ρ c main_v5 (by decide)))))))]
  exact at2_v5 m ρ h

theorem at9_arg12 : Qkv (V9 m ρ c main_arg12) N.dq := by
  rw [show V9 m ρ c main_arg12 = m ((c.tc : Thread nD τ).loc main_arg12) from W9_args m ρ c main_arg12 (by decide)]
  exact h.dq

/-- of the weight of the queries, keys and values, -/
theorem at10_v13 : Wgt5 (V10 m ρ c main_v13) N.dwq := by
  rw [show V10 m ρ c main_v13 = (dat8 (V9 m ρ) c).arrAt 2 cfg8.N from W10_arr m ρ c 2]
  exact call8 (V9 m ρ) c (at9_v5 m ρ h) (at9_arg12 m ρ h)

theorem at10_v5 : Tok16 (V10 m ρ c main_v5) N.h := by
  rw [show V10 m ρ c main_v5 = V2 m ρ c main_v5 from
    (W10_of m ρ c main_v5 (by decide)).trans ((W9_of m ρ c main_v5 (by decide)).trans ((W8_of m ρ c main_v5 (by decide)).trans ((W7_of m ρ c main_v5 (by decide)).trans ((W6_of m ρ c main_v5 (by decide)).trans ((W5_of m ρ c main_v5 (by decide)).trans ((W4_of m ρ c main_v5 (by decide)).trans (W3_of m ρ c main_v5 (by decide))))))))]
  exact at2_v5 m ρ h

theorem at10_arg14 : Tok16 (V10 m ρ c main_arg14) N.da := by
  rw [show V10 m ρ c main_arg14 = m ((c.tc : Thread nD τ).loc main_arg14) from W10_args m ρ c main_arg14 (by decide)]
  exact h.da

/-- of that of the attention's gates, -/
theorem at11_v14 : Wgt (V11 m ρ c main_v14) N.dwa := by
  rw [show V11 m ρ c main_v14 = (dat9 (V10 m ρ) c).arrAt 2 cfg9.N from W11_arr m ρ c 2]
  exact call9 (V10 m ρ) c (at10_v5 m ρ h) (at10_arg14 m ρ h)

theorem at12_arg12 : Qkv (V12 m ρ c main_arg12) N.dq := by
  rw [show V12 m ρ c main_arg12 = m ((c.tc : Thread nD τ).loc main_arg12) from W12_args m ρ c main_arg12 (by decide)]
  exact h.dq

theorem at12_arg2 : Wgt5 (V12 m ρ c main_arg2) N.wq := by
  rw [show V12 m ρ c main_arg2 = m ((c.tc : Thread nD τ).loc main_arg2) from W12_args m ρ c main_arg2 (by decide)]
  exact h.wq

theorem at12_arg14 : Tok16 (V12 m ρ c main_arg14) N.da := by
  rw [show V12 m ρ c main_arg14 = m ((c.tc : Thread nD τ).loc main_arg14) from W12_args m ρ c main_arg14 (by decide)]
  exact h.da

theorem at12_arg4 : Wgt (V12 m ρ c main_arg4) N.wa := by
  rw [show V12 m ρ c main_arg4 = m ((c.tc : Thread nD τ).loc main_arg4) from W12_args m ρ c main_arg4 (by decide)]
  exact h.wa

theorem at12_arg13 : GatesT (V12 m ρ c main_arg13) N.df := by
  rw [show V12 m ρ c main_arg13 = m ((c.tc : Thread nD τ).loc main_arg13) from W12_args m ρ c main_arg13 (by decide)]
  exact h.df

theorem at12_arg3 : Gates (V12 m ρ c main_arg3) N.wf := by
  rw [show V12 m ρ c main_arg3 = m ((c.tc : Thread nD τ).loc main_arg3) from W12_args m ρ c main_arg3 (by decide)]
  exact h.wf

theorem at12_arg0 : Tok (V12 m ρ c main_arg0) N.x := by
  rw [show V12 m ρ c main_arg0 = m ((c.tc : Thread nD τ).loc main_arg0) from W12_args m ρ c main_arg0 (by decide)]
  exact h.x

theorem at12_v15 : Row (V12 m ρ c main_v15) N.g := fun i j => by
  refine Eq.trans ?_ (h.g j)
  refine Eq.trans ?_ (congrFun (W11_args m ρ c main_arg1 (by decide)) _)
  change StableHlo.after hostOps10 (W11 m ρ c) (Proc.devRef .tc main_v15) _ = _
  entry_read
  pointwise

theorem at12_arg15 : Tok (V12 m ρ c main_arg15) N.c := by
  rw [show V12 m ρ c main_arg15 = m ((c.tc : Thread nD τ).loc main_arg15) from W12_args m ρ c main_arg15 (by decide)]
  exact h.c

/-- of the tokens, -/
theorem at13_v16_0 : Tok (V13 m ρ c main_v16_0) N.dx := by
  rw [show V13 m ρ c main_v16_0 = (dat10 (V12 m ρ) c).arrAt 9 cfg10.N from W13_arr m ρ c 9]
  exact call10_x (V12 m ρ) c (at12_arg12 m ρ h) (at12_arg2 m ρ h) (at12_arg14 m ρ h) (at12_arg4 m ρ h) (at12_arg13 m ρ h) (at12_arg3 m ρ h) (at12_arg0 m ρ h) (at12_v15 m ρ h) (at12_arg15 m ρ h)

/-- and of their gain. -/
theorem at13_v16_1 : Row (V13 m ρ c main_v16_1) N.dg := by
  rw [show V13 m ρ c main_v16_1 = (dat10 (V12 m ρ) c).arrAt 10 cfg10.N from W13_arr m ρ c 10]
  exact call10_g (V12 m ρ) c (at12_arg12 m ρ h) (at12_arg2 m ρ h) (at12_arg14 m ρ h) (at12_arg4 m ρ h) (at12_arg13 m ρ h) (at12_arg3 m ρ h) (at12_arg0 m ρ h) (at12_v15 m ρ h) (at12_arg15 m ρ h)

/-! The fourteen results as the last call leaves them. -/

theorem final_qkv : Qkv (W13 m ρ c (Proc.devRef .tc main_v6)) N.qkv := by
  rw [show W13 m ρ c (Proc.devRef .tc main_v6) = V3 m ρ c main_v6 from
    (W13_of m ρ c main_v6 (by decide)).trans ((W12_of m ρ c main_v6 (by decide)).trans ((W11_of m ρ c main_v6 (by decide)).trans ((W10_of m ρ c main_v6 (by decide)).trans ((W9_of m ρ c main_v6 (by decide)).trans ((W8_of m ρ c main_v6 (by decide)).trans ((W7_of m ρ c main_v6 (by decide)).trans ((W6_of m ρ c main_v6 (by decide)).trans ((W5_of m ρ c main_v6 (by decide)).trans (W4_of m ρ c main_v6 (by decide))))))))))]
  exact at3_v6 m ρ h

theorem final_agv : Tok (W13 m ρ c (Proc.devRef .tc main_v7)) N.agv := by
  rw [show W13 m ρ c (Proc.devRef .tc main_v7) = V4 m ρ c main_v7 from
    (W13_of m ρ c main_v7 (by decide)).trans ((W12_of m ρ c main_v7 (by decide)).trans ((W11_of m ρ c main_v7 (by decide)).trans ((W10_of m ρ c main_v7 (by decide)).trans ((W9_of m ρ c main_v7 (by decide)).trans ((W8_of m ρ c main_v7 (by decide)).trans ((W7_of m ρ c main_v7 (by decide)).trans ((W6_of m ρ c main_v7 (by decide)).trans (W5_of m ρ c main_v7 (by decide)))))))))]
  exact at4_v7 m ρ h

theorem final_out : Tok (W13 m ρ c (Proc.devRef .tc main_v9)) N.out := by
  rw [show W13 m ρ c (Proc.devRef .tc main_v9) = V6 m ρ c main_v9 from
    (W13_of m ρ c main_v9 (by decide)).trans ((W12_of m ρ c main_v9 (by decide)).trans ((W11_of m ρ c main_v9 (by decide)).trans ((W10_of m ρ c main_v9 (by decide)).trans ((W9_of m ρ c main_v9 (by decide)).trans ((W8_of m ρ c main_v9 (by decide)).trans (W7_of m ρ c main_v9 (by decide)))))))]
  exact at6_v9 m ρ h

theorem final_dx : Tok (W13 m ρ c (Proc.devRef .tc main_v16_0)) N.dx := at13_v16_0 m ρ h

theorem final_dg : Row (W13 m ρ c (Proc.devRef .tc main_v16_1)) N.dg := at13_v16_1 m ρ h

theorem final_dwq : Wgt5 (W13 m ρ c (Proc.devRef .tc main_v13)) N.dwq := by
  rw [show W13 m ρ c (Proc.devRef .tc main_v13) = V10 m ρ c main_v13 from
    (W13_of m ρ c main_v13 (by decide)).trans ((W12_of m ρ c main_v13 (by decide)).trans (W11_of m ρ c main_v13 (by decide)))]
  exact at10_v13 m ρ h

theorem final_dwa : Wgt (W13 m ρ c (Proc.devRef .tc main_v14)) N.dwa := by
  rw [show W13 m ρ c (Proc.devRef .tc main_v14) = V11 m ρ c main_v14 from
    (W13_of m ρ c main_v14 (by decide)).trans (W12_of m ρ c main_v14 (by decide))]
  exact at11_v14 m ρ h

theorem final_dwo : Wgt (W13 m ρ c (Proc.devRef .tc main_v11)) N.dwo := by
  rw [show W13 m ρ c (Proc.devRef .tc main_v11) = V8 m ρ c main_v11 from
    (W13_of m ρ c main_v11 (by decide)).trans ((W12_of m ρ c main_v11 (by decide)).trans ((W11_of m ρ c main_v11 (by decide)).trans ((W10_of m ρ c main_v11 (by decide)).trans (W9_of m ρ c main_v11 (by decide)))))]
  exact at8_v11 m ρ h

theorem final_do : Half16 (W13 m ρ c (Proc.devRef .tc main_v12_0)) N.do' := by
  rw [show W13 m ρ c (Proc.devRef .tc main_v12_0) = V9 m ρ c main_v12_0 from
    (W13_of m ρ c main_v12_0 (by decide)).trans ((W12_of m ρ c main_v12_0 (by decide)).trans ((W11_of m ρ c main_v12_0 (by decide)).trans (W10_of m ρ c main_v12_0 (by decide))))]
  exact at9_v12_0 m ρ h

theorem final_dyc : Half (W13 m ρ c (Proc.devRef .tc main_v12_1)) N.dyc := by
  rw [show W13 m ρ c (Proc.devRef .tc main_v12_1) = V9 m ρ c main_v12_1 from
    (W13_of m ρ c main_v12_1 (by decide)).trans ((W12_of m ρ c main_v12_1 (by decide)).trans ((W11_of m ρ c main_v12_1 (by decide)).trans (W10_of m ρ c main_v12_1 (by decide))))]
  exact at9_v12_1 m ρ h

theorem final_dga : Row5 (W13 m ρ c (Proc.devRef .tc main_v12_2)) N.dga := by
  rw [show W13 m ρ c (Proc.devRef .tc main_v12_2) = V9 m ρ c main_v12_2 from
    (W13_of m ρ c main_v12_2 (by decide)).trans ((W12_of m ρ c main_v12_2 (by decide)).trans ((W11_of m ρ c main_v12_2 (by decide)).trans (W10_of m ρ c main_v12_2 (by decide))))]
  exact at9_v12_2 m ρ h

theorem final_dgc : Row5 (W13 m ρ c (Proc.devRef .tc main_v12_3)) N.dgc := by
  rw [show W13 m ρ c (Proc.devRef .tc main_v12_3) = V9 m ρ c main_v12_3 from
    (W13_of m ρ c main_v12_3 (by decide)).trans ((W12_of m ρ c main_v12_3 (by decide)).trans ((W11_of m ρ c main_v12_3 (by decide)).trans (W10_of m ρ c main_v12_3 (by decide))))]
  exact at9_v12_3 m ρ h

theorem final_dlg : Row5 (W13 m ρ c (Proc.devRef .tc main_v12_4)) N.dlg := by
  rw [show W13 m ρ c (Proc.devRef .tc main_v12_4) = V9 m ρ c main_v12_4 from
    (W13_of m ρ c main_v12_4 (by decide)).trans ((W12_of m ρ c main_v12_4 (by decide)).trans ((W11_of m ρ c main_v12_4 (by decide)).trans (W10_of m ρ c main_v12_4 (by decide))))]
  exact at9_v12_4 m ρ h

theorem final_dlb : Row5 (W13 m ρ c (Proc.devRef .tc main_v12_5)) N.dlb := by
  rw [show W13 m ρ c (Proc.devRef .tc main_v12_5) = V9 m ρ c main_v12_5 from
    (W13_of m ρ c main_v12_5 (by decide)).trans ((W12_of m ρ c main_v12_5 (by decide)).trans ((W11_of m ρ c main_v12_5 (by decide)).trans (W10_of m ρ c main_v12_5 (by decide))))]
  exact at9_v12_5 m ρ h

end Entry

set_option backward.isDefEq.respectTransparency.types false in
/-- The run of the idealized calls: every array of the host ends as the last of them leaves it. -/
theorem run_mix : θ_run defs (onTc (τ := τ) (main (F := Ideal))) ⟨m, fun _ => 0, ρ⟩ (fun r => ∀ c : Dev nD, ∀ b ∈ Pipeline.ucRefs τ sig,
      r.2.mem ((c : Thread nD τ).1, b) = W13 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h _ => h)

end Cert.Proj
-- ==== Proof.ProjRef.lean ====
/- The reference of the mixer's projections and norms, operation by operation: what each of its arrays holds, as real numbers. -/
module

public import proofs.«01_k».proof.Proof.ProjBlocks
public import proofs.«01_k».proof.Proof.NetRef
public import proofs.«01_k».proof.Proof.Gen.MixReferenceIdeal.Read

@[expose] public section

set_option maxRecDepth 16384

noncomputable section

namespace Cert.Proj

open Idealize.ShloMosaic Finset
open Cert.Mem (from')
open Cert.Net (rms eps rms_arg_pos rms_div minus_half root_at exp_at width small one sg)

variable (G x : ℕ → ℕ → ℝ)

/-- The mean square of a row, and a little more. -/
def msq (t : ℕ) : ℝ := (∑ d ∈ range 512, x t d * x t d) / 512 + eps

/-- The derivative of the reciprocal root at it. -/
def slope (t : ℕ) : ℝ := -(1 / 2) * (rms5 x t / msq x t)

def inner (t : ℕ) : ℝ := ∑ e ∈ range 512, x t e * G t e

/-- What the mean square contributes to the gradient of the row, as the reference writes it. -/
def off (t : ℕ) : ℝ := inner G x t * slope x t / 512

/-- The gradient of `x` from the gradient `G` of the rows over their root mean squares. -/
def grad (t d : ℕ) : ℝ := rms5 x t * (G t d - hat x t d * ((∑ e ∈ range 512, G t e * hat x t e) / 512))

theorem rms5_div (t : ℕ) : rms5 x t / msq x t = rms5 x t * rms5 x t * rms5 x t := by
  have h := rms5_arg_pos x t
  unfold rms5 msq
  generalize (∑ d ∈ range 512, x t d * x t d) / 512 + eps = s at h ⊢
  have hs := Real.sqrt_pos.2 h
  have e : (√s)⁻¹ * (√s)⁻¹ * (√s)⁻¹ = (√s)⁻¹ / (√s * √s) := by field_simp
  rw [e, Real.mul_self_sqrt h.le]

theorem grad_eq (t d : ℕ) : G t d * rms5 x t + x t d * off G x t + off G x t * x t d = grad G x t d := by
  unfold off slope grad inner
  rw [rms5_div]
  have e : ∑ e ∈ range 512, G t e * hat x t e = (∑ e ∈ range 512, x t e * G t e) * rms5 x t := by
    rw [sum_mul]; exact sum_congr rfl fun _ _ => by unfold hat; ring
  rw [e]; unfold hat; ring

/-- The mean of the rows less their means is zero. -/
theorem sum_centred (t : ℕ) : ∑ e ∈ range 512, centred x t e = 0 := by
  have h : ∑ e ∈ range 512, lessMean x t e = 0 := by
    simp only [lessMean, sum_sub_distrib, sum_const, card_range, mean]
    rw [nsmul_eq_mul]; push_cast; ring
  unfold centred hat
  rw [← sum_mul, h, zero_mul]

theorem back'_eq (t d : ℕ) :
    grad G (lessMean x) t d + (∑ e ∈ range 512, -grad G (lessMean x) t e) / 512 = back' G x t d := by
  have h := sum_centred x t
  unfold centred at h
  unfold grad back' centred
  generalize (∑ e ∈ range 512, G t e * hat (lessMean x) t e) / 512 = m
  have e : ∑ e ∈ range 512, -(rms5 (lessMean x) t * (G t e - hat (lessMean x) t e * m)) = -(rms5 (lessMean x) t * (∑ e ∈ range 512, G t e)) := by
    rw [sum_neg_distrib, ← mul_sum, sum_sub_distrib, ← sum_mul, h, zero_mul, sub_zero]
  rw [e]; unfold mean; ring

namespace Mix

variable (N : Mix)

def inner' (t : ℕ) : ℝ := ∑ e ∈ range 1024, N.x t e * (N.dh t e * N.g e)

/-- The same for the tokens. -/
def s (t : ℕ) : ℝ := N.inner' t * (-(1 / 2) * (rms N.x t / ((∑ d ∈ range 1024, N.x t d * N.x t d) / 1024 + eps))) / 1024

theorem dx_eq (t d : ℕ) :
    N.c t d + N.dh t d * N.g d * rms N.x t + N.x t d * N.s t + N.s t * N.x t d = N.dx t d := by
  unfold s inner' dx xh
  rw [rms_div]
  have e : ∑ e ∈ range 1024, N.dh t e * N.g e * (N.x t e * rms N.x t) = (∑ e ∈ range 1024, N.x t e * (N.dh t e * N.g e)) * rms N.x t := by
    rw [sum_mul]; exact sum_congr rfl fun _ _ => by ring
  rw [e]; ring

end Mix

namespace Ref

open Cert.Fox Cert.MixReferenceIdeal Cert.MixReferenceIdeal.Gen Cert.MixReferenceIdeal.Read

theorem once_at {z : EReal} {x : Fin 1 → EReal} {a : ℝ} (hz : z = 0) (hx : ∀ k, x k = (a : EReal)) : z + ∑ k : Fin 1, x k = (a : EReal) := by
  rw [hz, zero_add, Fin.sum_univ_one]; exact hx 0

/-- Positions of arrays with a dimension of one entry, flattened. -/
theorem flat1 (f : ℕ → ℝ) (i : S2048x1.Idx) : ((f ((i 0).val * 1 + (i 1).val) : ℝ) : EReal) = ((f (i 0).val : ℝ) : EReal) := by
  have h : (i 1).val < 1 := (i 1).isLt
  rw [show (i 0).val * 1 + (i 1).val = (i 0).val by omega]

theorem flat5 (f : ℕ → ℝ) (i : S1x512.Idx) : ((f ((i 0).val * 512 + (i 1).val) : ℝ) : EReal) = ((f (i 1).val : ℝ) : EReal) := by
  have h : (i 0).val < 1 := (i 0).isLt
  rw [show (i 0).val * 512 + (i 1).val = (i 1).val by omega]

theorem flat4 (f : ℕ → ℝ) (i : S1x1024.Idx) : ((f ((i 0).val * 1024 + (i 1).val) : ℝ) : EReal) = ((f (i 1).val : ℝ) : EReal) := by
  have h : (i 0).val < 1 := (i 0).isLt
  rw [show (i 0).val * 1024 + (i 1).val = (i 1).val by omega]

theorem unbox5 (f : ℕ → ℕ → ℝ) (i : S1024x1536.Idx) :
    ((f (((i 0).val * 1536 + (i 1).val) / 1536 % 1024) (((i 0).val * 1536 + (i 1).val) % 1536) : ℝ) : EReal) = ((f (i 0).val (i 1).val : ℝ) : EReal) := by
  have h0 : (i 0).val < 1024 := (i 0).isLt
  have h1 : (i 1).val < 1536 := (i 1).isLt
  rw [show ((i 0).val * 1536 + (i 1).val) / 1536 % 1024 = (i 0).val by omega, show ((i 0).val * 1536 + (i 1).val) % 1536 = (i 1).val by omega]

theorem unbox4 (f : ℕ → ℕ → ℝ) (i : S1024x1024.Idx) :
    ((f (((i 0).val * 1024 + (i 1).val) / 1024 % 1024) (((i 0).val * 1024 + (i 1).val) % 1024) : ℝ) : EReal) = ((f (i 0).val (i 1).val : ℝ) : EReal) := by
  have h0 : (i 0).val < 1024 := (i 0).isLt
  have h1 : (i 1).val < 1024 := (i 1).isLt
  rw [show ((i 0).val * 1024 + (i 1).val) / 1024 % 1024 = (i 0).val by omega, show ((i 0).val * 1024 + (i 1).val) % 1024 = (i 1).val by omega]

/-- What the mean of the gradient takes off the gradient of the convolution's output. -/
def less (N : Mix) (t : ℕ) : ℝ := ∑ e ∈ range 512, -grad (fun t d => N.dz t d * N.lg d) (lessMean N.yc) t e

variable {x0 : (⟨S2048x1024, .f32⟩ : BufTy).Contents (Elt Ideal)} {x1 : (⟨S1024, .f32⟩ : BufTy).Contents (Elt Ideal)}
  {x2 : (⟨S1x1024x1536, .bf16⟩ : BufTy).Contents (Elt Ideal)} {x3 : (⟨S16x1024, .bf16⟩ : BufTy).Contents (Elt Ideal)}
  {x4 : (⟨S1x1024x1024, .bf16⟩ : BufTy).Contents (Elt Ideal)} {x5 : (⟨S2048x512, .f32⟩ : BufTy).Contents (Elt Ideal)}
  {x6 : (⟨S2048x512, .f32⟩ : BufTy).Contents (Elt Ideal)} {x7 : (⟨S512, .f32⟩ : BufTy).Contents (Elt Ideal)}
  {x8 : (⟨S512, .f32⟩ : BufTy).Contents (Elt Ideal)} {x9 : (⟨S512, .f32⟩ : BufTy).Contents (Elt Ideal)}
  {x10 : (⟨S512, .f32⟩ : BufTy).Contents (Elt Ideal)} {x11 : (⟨S1x1024x1024, .bf16⟩ : BufTy).Contents (Elt Ideal)}
  {x12 : (⟨S2048x1536, .bf16⟩ : BufTy).Contents (Elt Ideal)} {x13 : (⟨S16x2048, .bf16⟩ : BufTy).Contents (Elt Ideal)}
  {x14 : (⟨S2048x1024, .bf16⟩ : BufTy).Contents (Elt Ideal)} {x15 : (⟨S2048x1024, .f32⟩ : BufTy).Contents (Elt Ideal)}
  {N : Mix}

/-- The reference's arguments hold the numbers of the layer, of its weights and of the gradients that arrive. -/
structure Given (x0 : (⟨S2048x1024, .f32⟩ : BufTy).Contents (Elt Ideal)) (x1 : (⟨S1024, .f32⟩ : BufTy).Contents (Elt Ideal))
    (x2 : (⟨S1x1024x1536, .bf16⟩ : BufTy).Contents (Elt Ideal)) (x3 : (⟨S16x1024, .bf16⟩ : BufTy).Contents (Elt Ideal))
    (x4 : (⟨S1x1024x1024, .bf16⟩ : BufTy).Contents (Elt Ideal)) (x5 : (⟨S2048x512, .f32⟩ : BufTy).Contents (Elt Ideal))
    (x6 : (⟨S2048x512, .f32⟩ : BufTy).Contents (Elt Ideal)) (x7 : (⟨S512, .f32⟩ : BufTy).Contents (Elt Ideal))
    (x8 : (⟨S512, .f32⟩ : BufTy).Contents (Elt Ideal)) (x9 : (⟨S512, .f32⟩ : BufTy).Contents (Elt Ideal))
    (x10 : (⟨S512, .f32⟩ : BufTy).Contents (Elt Ideal)) (x11 : (⟨S1x1024x1024, .bf16⟩ : BufTy).Contents (Elt Ideal))
    (x12 : (⟨S2048x1536, .bf16⟩ : BufTy).Contents (Elt Ideal)) (x13 : (⟨S16x2048, .bf16⟩ : BufTy).Contents (Elt Ideal))
    (x14 : (⟨S2048x1024, .bf16⟩ : BufTy).Contents (Elt Ideal)) (x15 : (⟨S2048x1024, .f32⟩ : BufTy).Contents (Elt Ideal))
    (N : Mix) : Prop where
  x : ∀ i : S2048x1024.Idx, x0 i = ((N.x (i 0).val (i 1).val : ℝ) : EReal)
  g : ∀ i : S1024.Idx, x1 i = ((N.g (i 0).val : ℝ) : EReal)
  wq : ∀ i : S1x1024x1536.Idx, x2 i = ((N.wq (i 1).val (i 2).val : ℝ) : EReal)
  wf : ∀ i : S16x1024.Idx, x3 i = ((N.wf (i 0).val (i 1).val : ℝ) : EReal)
  wa : ∀ i : S1x1024x1024.Idx, x4 i = ((N.wa (i 1).val (i 2).val : ℝ) : EReal)
  o : ∀ i : S2048x512.Idx, x5 i = ((N.o (i 0).val (i 1).val : ℝ) : EReal)
  yc : ∀ i : S2048x512.Idx, x6 i = ((N.yc (i 0).val (i 1).val : ℝ) : EReal)
  ga : ∀ i : S512.Idx, x7 i = ((N.ga (i 0).val : ℝ) : EReal)
  gc : ∀ i : S512.Idx, x8 i = ((N.gc (i 0).val : ℝ) : EReal)
  lg : ∀ i : S512.Idx, x9 i = ((N.lg (i 0).val : ℝ) : EReal)
  lb : ∀ i : S512.Idx, x10 i = ((N.lb (i 0).val : ℝ) : EReal)
  wo : ∀ i : S1x1024x1024.Idx, x11 i = ((N.wo (i 1).val (i 2).val : ℝ) : EReal)
  dq : ∀ i : S2048x1536.Idx, x12 i = ((N.dq (i 0).val (i 1).val : ℝ) : EReal)
  df : ∀ i : S16x2048.Idx, x13 i = ((N.df (i 0).val (i 1).val : ℝ) : EReal)
  da : ∀ i : S2048x1024.Idx, x14 i = ((N.da (i 0).val (i 1).val : ℝ) : EReal)
  c : ∀ i : S2048x1024.Idx, x15 i = ((N.c (i 0).val (i 1).val : ℝ) : EReal)

variable (H : Given x0 x1 x2 x3 x4 x5 x6 x7 x8 x9 x10 x11 x12 x13 x14 x15 N)
include H

/-- The tokens' mean squares, -/
theorem v13 (i : S2048x1.Idx) :
    val_main_v13 (F := Ideal) x0 i = ((((∑ d ∈ range 1024, N.x (i 0).val d * N.x (i 0).val d) / 1024 + eps : ℝ)) : EReal) :=
  (val_main_v13_apply ..).trans (add_at ((val_main_v11_apply ..).trans (div_at ((val_main_v9_apply ..).trans ((val_main_v8_apply ..).trans (sum_at
    (f := fun d => N.x (i 0).val d * N.x (i 0).val d) zero_word fun k => (val_main_v7_apply ..).trans (mul_at (H.x _) (H.x _)))))
      ((val_main_v10_apply _).trans width) (by norm_num))) ((val_main_v12_apply _).trans small))

theorem v14 (i : S2048x1.Idx) : val_main_v14 (F := Ideal) x0 i = ((rms N.x (i 0).val : ℝ) : EReal) :=
  (val_main_v14_apply ..).trans (root_at (v13 H i) (rms_arg_pos _ _))

theorem v17 (i : S2048x1.Idx) : val_main_v17 (F := Ideal) x0 i
    = ((-(1 / 2) * (rms N.x (i 0).val / ((∑ d ∈ range 1024, N.x (i 0).val d * N.x (i 0).val d) / 1024 + eps)) : ℝ) : EReal) :=
  (val_main_v17_apply ..).trans (mul_at ((val_main_v16_apply _).trans minus_half)
    ((val_main_v15_apply ..).trans (div_at (v14 H i) (v13 H i) (rms_arg_pos _ _).ne')))

/-- the normalized tokens, -/
theorem v19 (i : S2048x1024.Idx) : val_main_v19 (F := Ideal) x0 i = ((N.xh (i 0).val (i 1).val : ℝ) : EReal) :=
  (val_main_v19_apply ..).trans (mul_at (H.x i) ((val_main_v18_apply ..).trans (v14 H _)))

theorem v22 (i : S2048x1024.Idx) : val_main_v22 (F := Ideal) x0 x1 i = ((N.h (i 0).val (i 1).val : ℝ) : EReal) :=
  (val_main_v22_apply ..).trans (mul_at (v19 H i) ((val_main_v21_apply ..).trans ((val_main_v20_apply ..).trans (H.g _))))

/-- the convolution's output less its means, -/
theorem v28 (i : S2048x512.Idx) : val_main_v28 (F := Ideal) x6 i = ((lessMean N.yc (i 0).val (i 1).val : ℝ) : EReal) :=
  (val_main_v28_apply ..).trans (sub_at (H.yc i) ((val_main_v27_apply ..).trans ((val_main_v26_apply ..).trans (div_at ((val_main_v24_apply ..).trans
    ((val_main_v23_apply ..).trans (sum_at (f := N.yc (i 0).val) zero_word fun k => H.yc _))) ((val_main_v25_apply _).trans width5) (by norm_num)))))

/-- and that over its root mean squares, -/
theorem v35 (i : S2048x1.Idx) : val_main_v35 (F := Ideal) x6 i = ((msq (lessMean N.yc) (i 0).val : ℝ) : EReal) :=
  (val_main_v35_apply ..).trans (add_at ((val_main_v33_apply ..).trans (div_at ((val_main_v31_apply ..).trans ((val_main_v30_apply ..).trans (sum_at
    (f := fun d => (lessMean N.yc) (i 0).val d * (lessMean N.yc) (i 0).val d) zero_word fun k => (val_main_v29_apply ..).trans (mul_at (v28 H _) (v28 H _)))))
      ((val_main_v32_apply _).trans width5) (by norm_num))) ((val_main_v34_apply _).trans small))

theorem v36 (i : S2048x1.Idx) : val_main_v36 (F := Ideal) x6 i = ((rms5 (lessMean N.yc) (i 0).val : ℝ) : EReal) :=
  (val_main_v36_apply ..).trans (root_at (v35 H i) (rms5_arg_pos _ _))

theorem v39 (i : S2048x1.Idx) : val_main_v39 (F := Ideal) x6 i = ((slope (lessMean N.yc) (i 0).val : ℝ) : EReal) :=
  (val_main_v39_apply ..).trans (mul_at ((val_main_v38_apply _).trans minus_half)
    ((val_main_v37_apply ..).trans (div_at (v36 H i) (v35 H i) (rms5_arg_pos _ _).ne')))

theorem v41 (i : S2048x512.Idx) : val_main_v41 (F := Ideal) x6 i = ((hat ((lessMean N.yc)) (i 0).val (i 1).val : ℝ) : EReal) :=
  (val_main_v41_apply ..).trans (mul_at (v28 H i) ((val_main_v40_apply ..).trans (v36 H _)))

/-- with its gain and offset, -/
theorem v47 (i : S2048x512.Idx) : val_main_v47 (F := Ideal) x6 x9 x10 i = ((N.z (i 0).val (i 1).val : ℝ) : EReal) :=
  (val_main_v47_apply ..).trans (add_at ((val_main_v44_apply ..).trans (mul_at (v41 H i) ((val_main_v43_apply ..).trans ((val_main_v42_apply ..).trans (H.lg _)))))
    ((val_main_v46_apply ..).trans ((val_main_v45_apply ..).trans (H.lb _))))

/-- its logistic function -/
theorem v48_2 (i : S2048x512.Idx) : val_main_v48_2 (F := Ideal) x6 x9 x10 i = ((sg (N.z (i 0).val (i 1).val) : ℝ) : EReal) := by
  have o : val_main_call0_v4 (F := Ideal) i = ((1 : ℝ) : EReal) := (val_main_call0_v4_apply i).trans one
  have o' : val_main_call0_v2 (F := Ideal) i = ((1 : ℝ) : EReal) := (val_main_call0_v2_apply i).trans one
  have e := (val_main_call0_v1_apply x6 x9 x10 i).trans (exp_at ((val_main_call0_v0_apply x6 x9 x10 i).trans (neg_at (v47 H i))))
  have p : (1 : ℝ) + Real.exp (-N.z (i 0).val (i 1).val) ≠ 0 := (add_pos one_pos (Real.exp_pos _)).ne'
  refine ((val_main_v48_2_apply ..).trans (div_at o ((val_main_call0_v3_apply ..).trans (add_at o' e)) p)).trans ?_
  unfold sg; rw [one_div]

theorem v48_1 (i : S2048x512.Idx) : val_main_v48_1 (F := Ideal) x6 x9 x10 i
    = ((sg (N.z (i 0).val (i 1).val) * (1 - sg (N.z (i 0).val (i 1).val)) : ℝ) : EReal) :=
  (val_main_v48_1_apply ..).trans (mul_at (v48_2 H i) ((val_main_call0_v7_apply ..).trans
    (sub_at ((val_main_call0_v6_apply _).trans one) (v48_2 H i))))

/-- and their product; -/
theorem v48_0 (i : S2048x512.Idx) : val_main_v48_0 (F := Ideal) x6 x9 x10 i = ((N.sv (i 0).val (i 1).val : ℝ) : EReal) :=
  (val_main_v48_0_apply ..).trans (mul_at (v47 H i) (v48_2 H i))

/-- the attention's output over its root mean squares, -/
theorem v55 (i : S2048x1.Idx) : val_main_v55 (F := Ideal) x5 i = ((msq N.o (i 0).val : ℝ) : EReal) :=
  (val_main_v55_apply ..).trans (add_at ((val_main_v53_apply ..).trans (div_at ((val_main_v51_apply ..).trans ((val_main_v50_apply ..).trans (sum_at
    (f := fun d => N.o (i 0).val d * N.o (i 0).val d) zero_word fun k => (val_main_v49_apply ..).trans (mul_at (H.o _) (H.o _)))))
      ((val_main_v52_apply _).trans width5) (by norm_num))) ((val_main_v54_apply _).trans small))

theorem v56 (i : S2048x1.Idx) : val_main_v56 (F := Ideal) x5 i = ((rms5 N.o (i 0).val : ℝ) : EReal) :=
  (val_main_v56_apply ..).trans (root_at (v55 H i) (rms5_arg_pos _ _))

theorem v59 (i : S2048x1.Idx) : val_main_v59 (F := Ideal) x5 i = ((slope N.o (i 0).val : ℝ) : EReal) :=
  (val_main_v59_apply ..).trans (mul_at ((val_main_v58_apply _).trans minus_half)
    ((val_main_v57_apply ..).trans (div_at (v56 H i) (v55 H i) (rms5_arg_pos _ _).ne')))

theorem v61 (i : S2048x512.Idx) : val_main_v61 (F := Ideal) x5 i = ((hat N.o (i 0).val (i 1).val : ℝ) : EReal) :=
  (val_main_v61_apply ..).trans (mul_at (H.o i) ((val_main_v60_apply ..).trans (v56 H _)))

theorem v64 (i : S2048x512.Idx) : val_main_v64 (F := Ideal) x5 x7 i = ((hat N.o (i 0).val (i 1).val * N.ga (i 1).val : ℝ) : EReal) :=
  (val_main_v64_apply ..).trans (mul_at (v61 H i) ((val_main_v63_apply ..).trans ((val_main_v62_apply ..).trans (H.ga _))))

/-- the convolution's, -/
theorem v71 (i : S2048x1.Idx) : val_main_v71 (F := Ideal) x6 x9 x10 i = ((msq N.sv (i 0).val : ℝ) : EReal) :=
  (val_main_v71_apply ..).trans (add_at ((val_main_v69_apply ..).trans (div_at ((val_main_v67_apply ..).trans ((val_main_v66_apply ..).trans (sum_at
    (f := fun d => N.sv (i 0).val d * N.sv (i 0).val d) zero_word fun k => (val_main_v65_apply ..).trans (mul_at (v48_0 H _) (v48_0 H _)))))
      ((val_main_v68_apply _).trans width5) (by norm_num))) ((val_main_v70_apply _).trans small))

theorem v72 (i : S2048x1.Idx) : val_main_v72 (F := Ideal) x6 x9 x10 i = ((rms5 N.sv (i 0).val : ℝ) : EReal) :=
  (val_main_v72_apply ..).trans (root_at (v71 H i) (rms5_arg_pos _ _))

theorem v75 (i : S2048x1.Idx) : val_main_v75 (F := Ideal) x6 x9 x10 i = ((slope N.sv (i 0).val : ℝ) : EReal) :=
  (val_main_v75_apply ..).trans (mul_at ((val_main_v74_apply _).trans minus_half)
    ((val_main_v73_apply ..).trans (div_at (v72 H i) (v71 H i) (rms5_arg_pos _ _).ne')))

theorem v77 (i : S2048x512.Idx) : val_main_v77 (F := Ideal) x6 x9 x10 i = ((hat N.sv (i 0).val (i 1).val : ℝ) : EReal) :=
  (val_main_v77_apply ..).trans (mul_at (v48_0 H i) ((val_main_v76_apply ..).trans (v72 H _)))

theorem v80 (i : S2048x512.Idx) : val_main_v80 (F := Ideal) x6 x8 x9 x10 i = ((hat N.sv (i 0).val (i 1).val * N.gc (i 1).val : ℝ) : EReal) :=
  (val_main_v80_apply ..).trans (mul_at (v77 H i) ((val_main_v79_apply ..).trans ((val_main_v78_apply ..).trans (H.gc _))))

/-- and both side by side. -/
theorem v81 (i : S2048x1024.Idx) : val_main_v81 (F := Ideal) x5 x6 x7 x8 x9 x10 i = ((N.y (i 0).val (i 1).val : ℝ) : EReal) := by
  have h1 : (i 1).val < 1024 := (i 1).isLt
  unfold val_main_v81 Mix.y beside
  by_cases h : (i 1).val < 512
  · rw [if_pos h]
    exact (concatenate_pair_apply_left (s₁ := S2048x512) (s₂ := S2048x512) 1 _ _ _ i rfl (ix2 (i 0) ⟨(i 1).val, h⟩) fun b => by
      match b with
      | ⟨0, _⟩ => rfl
      | ⟨1, _⟩ => rfl).trans (v64 H _)
  · rw [if_neg h]
    exact (concatenate_pair_apply_right (s₁ := S2048x512) (s₂ := S2048x512) 1 _ _ _ i rfl rfl (ix2 (i 0) ⟨(i 1).val - 512, by omega⟩) (fun b hb => by
      match b with
      | ⟨0, _⟩ => rfl
      | ⟨1, _⟩ => exact absurd rfl hb) (by change (i 1).val - 512 + 512 = (i 1).val; omega)).trans (v80 H _)

/-- The weights, -/
theorem v82 (i : S1024x1536.Idx) : val_main_v82 (F := Ideal) x2 i = ((N.wq (i 0).val (i 1).val : ℝ) : EReal) :=
  (val_main_v82_apply ..).trans ((val_main_v0_apply ..).trans ((H.wq _).trans (unbox5 N.wq i)))

theorem v86 (i : S1024x1024.Idx) : val_main_v86 (F := Ideal) x4 i = ((N.wa (i 0).val (i 1).val : ℝ) : EReal) :=
  (val_main_v86_apply ..).trans ((val_main_v2_apply ..).trans ((H.wa _).trans (unbox4 N.wa i)))

theorem v88 (i : S1024x1024.Idx) : val_main_v88 (F := Ideal) x11 i = ((N.wo (i 0).val (i 1).val : ℝ) : EReal) :=
  (val_main_v88_apply ..).trans ((val_main_v3_apply ..).trans ((H.wo _).trans (unbox4 N.wo i)))

theorem v84 (i : S1024x16.Idx) : val_main_v84 (F := Ideal) x3 i = ((N.wf (i 1).val (i 0).val : ℝ) : EReal) :=
  (val_main_v84_apply ..).trans ((val_main_v1_apply ..).trans (H.wf _))

/-- the queries, keys and values, -/
theorem v83 (i : S2048x1536.Idx) : val_main_v83 (F := Ideal) x0 x1 x2 i = ((N.qkv (i 0).val (i 1).val : ℝ) : EReal) :=
  (val_main_v83_apply ..).trans (dot_at (f := N.h (i 0).val) (g := fun k => N.wq k (i 1).val) (fun k => v22 H _) fun k => v82 H _)

theorem v206 (i : S2048x1536.Idx) : val_main_v206 (F := Ideal) x0 x1 x2 i = ((N.qkv (i 0).val (i 1).val : ℝ) : EReal) :=
  (val_main_v206_apply ..).trans (v83 H i)

/-- the attention's gates, -/
theorem v87 (i : S2048x1024.Idx) : val_main_v87 (F := Ideal) x0 x1 x4 i = ((N.agv (i 0).val (i 1).val : ℝ) : EReal) :=
  (val_main_v87_apply ..).trans (dot_at (f := N.h (i 0).val) (g := fun k => N.wa k (i 1).val) (fun k => v22 H _) fun k => v86 H _)

/-- and the result. -/
theorem v90 (i : S2048x1024.Idx) : val_main_v90 (F := Ideal) x0 x5 x6 x7 x8 x9 x10 x11 i = ((N.out (i 0).val (i 1).val : ℝ) : EReal) :=
  (val_main_v90_apply ..).trans (add_at (H.x i) ((val_main_v89_apply ..).trans (dot_at (f := N.y (i 0).val) (g := fun k => N.wo k (i 1).val)
    (fun k => v81 H _) fun k => v88 H _)))

theorem v92 (i : S2048x1024.Idx) : val_main_v92 (F := Ideal) x15 i = ((N.c (i 0).val (i 1).val : ℝ) : EReal) := by
  have h1 : (i 1).val < 1024 := (i 1).isLt
  refine (val_main_v92_apply x15 i).trans ((H.c _).trans ?_)
  change ((N.c (((i 0).val * 1024 + (i 1).val) / 1024) (((i 0).val * 1024 + (i 1).val) % 1024) : ℝ) : EReal) = _
  rw [show ((i 0).val * 1024 + (i 1).val) / 1024 = (i 0).val by omega, show ((i 0).val * 1024 + (i 1).val) % 1024 = (i 1).val by omega]

theorem v93 (i : S1024x1024.Idx) : val_main_v93 (F := Ideal) x5 x6 x7 x8 x9 x10 x15 i = ((N.dwo (i 1).val (i 0).val : ℝ) : EReal) :=
  ((val_main_v93_apply ..).trans (dot_at (f := fun t => N.c t (i 0).val) (g := fun t => N.y t (i 1).val)
    (fun k => v92 H _) fun k => v81 H _)).trans (congrArg Real.toEReal (sum_congr rfl fun _ _ => mul_comm _ _))

/-- The gradient of the result's weight, -/
theorem v210 (i : S1x1024x1024.Idx) : val_main_v210 (F := Ideal) x5 x6 x7 x8 x9 x10 x15 i = ((N.dwo (i 1).val (i 2).val : ℝ) : EReal) :=
  (val_main_v210_apply ..).trans ((val_main_v96_apply ..).trans ((val_main_v94_apply ..).trans (v93 H _)))

theorem v4 (i : S2048x1536.Idx) : val_main_v4 (F := Ideal) x12 i = ((N.dq (i 0).val (i 1).val : ℝ) : EReal) :=
  (val_main_v4_apply ..).trans (H.dq i)

theorem v6 (i : S2048x1024.Idx) : val_main_v6 (F := Ideal) x14 i = ((N.da (i 0).val (i 1).val : ℝ) : EReal) :=
  (val_main_v6_apply ..).trans (H.da i)

theorem v97 (i : S1024x1024.Idx) : val_main_v97 (F := Ideal) x0 x1 x14 i = ((N.dwa (i 1).val (i 0).val : ℝ) : EReal) :=
  ((val_main_v97_apply ..).trans (dot_at (f := fun t => N.da t (i 0).val) (g := fun t => N.h t (i 1).val)
    (fun k => v6 H _) fun k => v22 H _)).trans (congrArg Real.toEReal (sum_congr rfl fun _ _ => mul_comm _ _))

/-- of the weights of the gates, -/
theorem v209 (i : S1x1024x1024.Idx) : val_main_v209 (F := Ideal) x0 x1 x14 i = ((N.dwa (i 1).val (i 2).val : ℝ) : EReal) :=
  (val_main_v209_apply ..).trans ((val_main_v100_apply ..).trans ((val_main_v98_apply ..).trans (v97 H _)))

theorem v106 (i : S1536x1024.Idx) : val_main_v106 (F := Ideal) x0 x1 x12 i = ((N.dwq (i 1).val (i 0).val : ℝ) : EReal) :=
  ((val_main_v106_apply ..).trans (dot_at (f := fun t => N.dq t (i 0).val) (g := fun t => N.h t (i 1).val)
    (fun k => v4 H _) fun k => v22 H _)).trans (congrArg Real.toEReal (sum_congr rfl fun _ _ => mul_comm _ _))

/-- of the queries, keys and values, -/
theorem v208 (i : S1x1024x1536.Idx) : val_main_v208 (F := Ideal) x0 x1 x12 i = ((N.dwq (i 1).val (i 2).val : ℝ) : EReal) :=
  (val_main_v208_apply ..).trans ((val_main_v110_apply ..).trans ((val_main_v107_apply ..).trans (v106 H _)))

theorem v91 (i : S2048x16.Idx) : val_main_v91 (F := Ideal) x13 i = ((N.df (i 1).val (i 0).val : ℝ) : EReal) :=
  (val_main_v91_apply ..).trans ((val_main_v5_apply ..).trans (H.df _))

/-- of the normalized tokens, -/
theorem v109 (i : S2048x1024.Idx) : val_main_v109 (F := Ideal) x2 x3 x4 x12 x13 x14 i = ((N.dh (i 0).val (i 1).val : ℝ) : EReal) :=
  ((val_main_v109_apply ..).trans (add_at ((val_main_v104_apply ..).trans (add_at
    ((val_main_v99_apply ..).trans (dot_at (f := N.da (i 0).val) (g := N.wa (i 1).val) (fun k => v6 H _) fun k => v86 H _))
    ((val_main_v103_apply ..).trans (dot_at (f := fun k => N.df k (i 0).val) (g := fun k => N.wf k (i 1).val) (fun k => v91 H _) fun k => v84 H _))))
    ((val_main_v108_apply ..).trans (dot_at (f := N.dq (i 0).val) (g := N.wq (i 1).val) (fun k => v4 H _) fun k => v82 H _)))).trans
    (congrArg Real.toEReal (by unfold Mix.dh; ring))

/-- of both halves, -/
theorem v95 (i : S2048x1024.Idx) : val_main_v95 (F := Ideal) x11 x15 i = ((N.dy (i 0).val (i 1).val : ℝ) : EReal) :=
  (val_main_v95_apply ..).trans (dot_at (f := N.c (i 0).val) (g := N.wo (i 1).val) (fun k => v92 H _) fun k => v88 H _)

theorem v111 (i : S2048x512.Idx) : val_main_v111 (F := Ideal) x11 x15 i = ((N.dy (i 0).val (i 1).val : ℝ) : EReal) :=
  (val_main_v111_apply ..).trans (v95 H _)

theorem v112 (i : S2048x512.Idx) : val_main_v112 (F := Ideal) x11 x15 i = ((from' 512 N.dy (i 0).val (i 1).val : ℝ) : EReal) :=
  (val_main_v112_apply ..).trans (v95 H _)

theorem v134 (i : S512.Idx) : val_main_v134 (F := Ideal) x5 x11 x15 i = ((N.dga (i 0).val : ℝ) : EReal) :=
  (val_main_v134_apply ..).trans (sum_at (f := fun t => N.dy t (i 0).val * hat N.o t (i 0).val) zero_word fun k =>
    ((val_main_v133_apply ..).trans (mul_at (v61 H _) (v111 H _))).trans (congrArg Real.toEReal (mul_comm _ _)))

/-- of the attention's gain, -/
theorem v212 (i : S1x512.Idx) : val_main_v212 (F := Ideal) x5 x11 x15 i = ((N.dga (i 1).val : ℝ) : EReal) :=
  (val_main_v212_apply ..).trans (((val_main_v138_apply ..).trans (once_at zero_word fun k => (val_main_v135_apply ..).trans ((v134 H _).trans
    (flat5 N.dga _)))).trans (flat5 N.dga i))

theorem v137 (i : S2048x512.Idx) : val_main_v137 (F := Ideal) x7 x11 x15 i = (((fun t d => N.dy t d * N.ga d) (i 0).val (i 1).val : ℝ) : EReal) :=
  (val_main_v137_apply ..).trans (mul_at (v111 H i) ((val_main_v136_apply ..).trans ((val_main_v62_apply ..).trans (H.ga _))))

theorem v140 (i : S2048.Idx) : val_main_v140 (F := Ideal) x5 x7 x11 x15 i = ((inner (fun t d => N.dy t d * N.ga d) N.o (i 0).val : ℝ) : EReal) :=
  (val_main_v140_apply ..).trans (sum_at (f := fun e => N.o (i 0).val e * (fun t d => N.dy t d * N.ga d) (i 0).val e) zero_word fun k =>
    (val_main_v139_apply ..).trans (mul_at (H.o _) (v137 H _)))

theorem v147 (i : S2048.Idx) : val_main_v147 (F := Ideal) x5 x7 x11 x15 i = ((off (fun t d => N.dy t d * N.ga d) N.o (i 0).val : ℝ) : EReal) :=
  (val_main_v147_apply ..).trans (once_at zero_word fun k => (val_main_v146_apply ..).trans (div_at ((val_main_v144_apply ..).trans (mul_at ((val_main_v141_apply ..).trans
    ((v140 H _).trans (flat1 (inner (fun t d => N.dy t d * N.ga d) N.o) _))) (v59 H _))) ((val_main_v145_apply _).trans width5) (by norm_num)))

/-- of its output, -/
theorem v152 (i : S2048x512.Idx) : val_main_v152 (F := Ideal) x5 x7 x11 x15 i = ((N.do' (i 0).val (i 1).val : ℝ) : EReal) :=
  ((val_main_v152_apply ..).trans (add_at ((val_main_v150_apply ..).trans (add_at ((val_main_v143_apply ..).trans (mul_at (v137 H i) ((val_main_v142_apply ..).trans (v56 H _))))
    ((val_main_v149_apply ..).trans (mul_at (H.o i) ((val_main_v148_apply ..).trans (v147 H _)))))) ((val_main_v151_apply ..).trans (mul_at ((val_main_v148_apply ..).trans (v147 H _)) (H.o i))))).trans
    (congrArg Real.toEReal (grad_eq (fun t d => N.dy t d * N.ga d) N.o (i 0).val (i 1).val))

theorem v211 (i : S2048x512.Idx) : val_main_v211 (F := Ideal) x5 x7 x11 x15 i = ((N.do' (i 0).val (i 1).val : ℝ) : EReal) :=
  (val_main_v211_apply ..).trans (v152 H i)

theorem v114 (i : S512.Idx) : val_main_v114 (F := Ideal) x6 x9 x10 x11 x15 i = ((N.dgc (i 0).val : ℝ) : EReal) :=
  (val_main_v114_apply ..).trans (sum_at (f := fun t => from' 512 N.dy t (i 0).val * hat N.sv t (i 0).val) zero_word fun k =>
    ((val_main_v113_apply ..).trans (mul_at (v77 H _) (v112 H _))).trans (congrArg Real.toEReal (mul_comm _ _)))

/-- of the convolution's gain, -/
theorem v213 (i : S1x512.Idx) : val_main_v213 (F := Ideal) x6 x9 x10 x11 x15 i = ((N.dgc (i 1).val : ℝ) : EReal) :=
  (val_main_v213_apply ..).trans (((val_main_v118_apply ..).trans (once_at zero_word fun k => (val_main_v115_apply ..).trans ((v114 H _).trans
    (flat5 N.dgc _)))).trans (flat5 N.dgc i))

theorem v117 (i : S2048x512.Idx) : val_main_v117 (F := Ideal) x8 x11 x15 i = (((fun t d => from' 512 N.dy t d * N.gc d) (i 0).val (i 1).val : ℝ) : EReal) :=
  (val_main_v117_apply ..).trans (mul_at (v112 H i) ((val_main_v116_apply ..).trans ((val_main_v78_apply ..).trans (H.gc _))))

theorem v120 (i : S2048.Idx) : val_main_v120 (F := Ideal) x6 x8 x9 x10 x11 x15 i = ((inner (fun t d => from' 512 N.dy t d * N.gc d) N.sv (i 0).val : ℝ) : EReal) :=
  (val_main_v120_apply ..).trans (sum_at (f := fun e => N.sv (i 0).val e * (fun t d => from' 512 N.dy t d * N.gc d) (i 0).val e) zero_word fun k =>
    (val_main_v119_apply ..).trans (mul_at (v48_0 H _) (v117 H _)))

theorem v127 (i : S2048.Idx) : val_main_v127 (F := Ideal) x6 x8 x9 x10 x11 x15 i = ((off (fun t d => from' 512 N.dy t d * N.gc d) N.sv (i 0).val : ℝ) : EReal) :=
  (val_main_v127_apply ..).trans (once_at zero_word fun k => (val_main_v126_apply ..).trans (div_at ((val_main_v124_apply ..).trans (mul_at ((val_main_v121_apply ..).trans
    ((v120 H _).trans (flat1 (inner (fun t d => from' 512 N.dy t d * N.gc d) N.sv) _))) (v75 H _))) ((val_main_v125_apply _).trans width5) (by norm_num)))

/-- of what it is applied to, -/
theorem v132 (i : S2048x512.Idx) : val_main_v132 (F := Ideal) x6 x8 x9 x10 x11 x15 i = ((N.dsv (i 0).val (i 1).val : ℝ) : EReal) :=
  ((val_main_v132_apply ..).trans (add_at ((val_main_v130_apply ..).trans (add_at ((val_main_v123_apply ..).trans (mul_at (v117 H i) ((val_main_v122_apply ..).trans (v72 H _))))
    ((val_main_v129_apply ..).trans (mul_at (v48_0 H i) ((val_main_v128_apply ..).trans (v127 H _)))))) ((val_main_v131_apply ..).trans (mul_at ((val_main_v128_apply ..).trans (v127 H _)) (v48_0 H i))))).trans
    (congrArg Real.toEReal (grad_eq (fun t d => from' 512 N.dy t d * N.gc d) N.sv (i 0).val (i 1).val))

theorem v153 (i : S2048x512.Idx) : val_main_v153 (F := Ideal) x6 x8 x9 x10 x11 x15 i = ((N.dz (i 0).val (i 1).val : ℝ) : EReal) :=
  ((val_main_v153_apply ..).trans (add_at ((val_main_call1_v1_apply ..).trans (mul_at (v132 H i) (v48_2 H i))) ((val_main_call1_v2_apply ..).trans (mul_at
    ((val_main_call1_v0_apply ..).trans (mul_at (v47 H i) (v132 H i))) (v48_1 H i))))).trans (congrArg Real.toEReal (by unfold Mix.dz silu'; ring))

theorem v154 (i : S512.Idx) : val_main_v154 (F := Ideal) x6 x8 x9 x10 x11 x15 i = ((N.dlb (i 0).val : ℝ) : EReal) :=
  (val_main_v154_apply ..).trans (sum_at (f := fun t => N.dz t (i 0).val) zero_word fun k => v153 H _)

/-- of the offset, -/
theorem v215 (i : S1x512.Idx) : val_main_v215 (F := Ideal) x6 x8 x9 x10 x11 x15 i = ((N.dlb (i 1).val : ℝ) : EReal) :=
  (val_main_v215_apply ..).trans (((val_main_v156_apply ..).trans (once_at zero_word fun k => (val_main_v155_apply ..).trans ((v154 H _).trans
    (flat5 N.dlb _)))).trans (flat5 N.dlb i))

theorem v158 (i : S512.Idx) : val_main_v158 (F := Ideal) x6 x8 x9 x10 x11 x15 i = ((N.dlg (i 0).val : ℝ) : EReal) :=
  (val_main_v158_apply ..).trans (sum_at (f := fun t => N.dz t (i 0).val * centred N.yc t (i 0).val) zero_word fun k =>
    ((val_main_v157_apply ..).trans (mul_at (v41 H _) (v153 H _))).trans (congrArg Real.toEReal (mul_comm _ _)))

/-- of the gain, -/
theorem v214 (i : S1x512.Idx) : val_main_v214 (F := Ideal) x6 x8 x9 x10 x11 x15 i = ((N.dlg (i 1).val : ℝ) : EReal) :=
  (val_main_v214_apply ..).trans (((val_main_v162_apply ..).trans (once_at zero_word fun k => (val_main_v159_apply ..).trans ((v158 H _).trans
    (flat5 N.dlg _)))).trans (flat5 N.dlg i))

theorem v161 (i : S2048x512.Idx) : val_main_v161 (F := Ideal) x6 x8 x9 x10 x11 x15 i = (((fun t d => N.dz t d * N.lg d) (i 0).val (i 1).val : ℝ) : EReal) :=
  (val_main_v161_apply ..).trans (mul_at (v153 H i) ((val_main_v160_apply ..).trans ((val_main_v42_apply ..).trans (H.lg _))))

theorem v164 (i : S2048.Idx) : val_main_v164 (F := Ideal) x6 x8 x9 x10 x11 x15 i = ((inner (fun t d => N.dz t d * N.lg d) (lessMean N.yc) (i 0).val : ℝ) : EReal) :=
  (val_main_v164_apply ..).trans (sum_at (f := fun e => (lessMean N.yc) (i 0).val e * (fun t d => N.dz t d * N.lg d) (i 0).val e) zero_word fun k =>
    (val_main_v163_apply ..).trans (mul_at (v28 H _) (v161 H _)))

theorem v171 (i : S2048.Idx) : val_main_v171 (F := Ideal) x6 x8 x9 x10 x11 x15 i = ((off (fun t d => N.dz t d * N.lg d) (lessMean N.yc) (i 0).val : ℝ) : EReal) :=
  (val_main_v171_apply ..).trans (once_at zero_word fun k => (val_main_v170_apply ..).trans (div_at ((val_main_v168_apply ..).trans (mul_at ((val_main_v165_apply ..).trans
    ((v164 H _).trans (flat1 (inner (fun t d => N.dz t d * N.lg d) (lessMean N.yc)) _))) (v39 H _))) ((val_main_v169_apply _).trans width5) (by norm_num)))

theorem v176 (i : S2048x512.Idx) : val_main_v176 (F := Ideal) x6 x8 x9 x10 x11 x15 i = ((grad (fun t d => N.dz t d * N.lg d) (lessMean N.yc) (i 0).val (i 1).val : ℝ) : EReal) :=
  ((val_main_v176_apply ..).trans (add_at ((val_main_v174_apply ..).trans (add_at ((val_main_v167_apply ..).trans (mul_at (v161 H i) ((val_main_v166_apply ..).trans (v36 H _))))
    ((val_main_v173_apply ..).trans (mul_at (v28 H i) ((val_main_v172_apply ..).trans (v171 H _)))))) ((val_main_v175_apply ..).trans (mul_at ((val_main_v172_apply ..).trans (v171 H _)) (v28 H i))))).trans
    (congrArg Real.toEReal (grad_eq (fun t d => N.dz t d * N.lg d) (lessMean N.yc) (i 0).val (i 1).val))

theorem v178 (i : S2048.Idx) : val_main_v178 (F := Ideal) x6 x8 x9 x10 x11 x15 i = ((less N (i 0).val : ℝ) : EReal) :=
  (val_main_v178_apply ..).trans (sum_at (f := fun d => -grad (fun t d => N.dz t d * N.lg d) (lessMean N.yc) (i 0).val d) zero_word fun k =>
    (val_main_v177_apply ..).trans (neg_at (v176 H _)))

theorem v182 (i : S2048.Idx) : val_main_v182 (F := Ideal) x6 x8 x9 x10 x11 x15 i = ((less N (i 0).val / 512 : ℝ) : EReal) :=
  (val_main_v182_apply ..).trans (once_at zero_word fun k => (val_main_v181_apply ..).trans (div_at ((val_main_v179_apply ..).trans ((v178 H _).trans
    (flat1 (less N) _))) ((val_main_v180_apply _).trans width5) (by norm_num)))

/-- of the convolution's output, -/
theorem v184 (i : S2048x512.Idx) : val_main_v184 (F := Ideal) x6 x8 x9 x10 x11 x15 i = ((N.dyc (i 0).val (i 1).val : ℝ) : EReal) :=
  ((val_main_v184_apply ..).trans (add_at (v176 H i) ((val_main_v183_apply ..).trans (v182 H _)))).trans (congrArg Real.toEReal (back'_eq _ _ _ _))

theorem v186 (i : S1024.Idx) : val_main_v186 (F := Ideal) x0 x2 x3 x4 x12 x13 x14 i = ((N.dg (i 0).val : ℝ) : EReal) :=
  (val_main_v186_apply ..).trans (sum_at (f := fun t => N.dh t (i 0).val * N.xh t (i 0).val) zero_word fun k =>
    ((val_main_v185_apply ..).trans (mul_at (v19 H _) (v109 H _))).trans (congrArg Real.toEReal (mul_comm _ _)))

/-- of the tokens' gain, -/
theorem v207 (i : S1x1024.Idx) : val_main_v207 (F := Ideal) x0 x2 x3 x4 x12 x13 x14 i = ((N.dg (i 1).val : ℝ) : EReal) :=
  (val_main_v207_apply ..).trans (((val_main_v190_apply ..).trans (once_at zero_word fun k => (val_main_v187_apply ..).trans ((v186 H _).trans
    (flat4 N.dg _)))).trans (flat4 N.dg i))

theorem v189 (i : S2048x1024.Idx) : val_main_v189 (F := Ideal) x1 x2 x3 x4 x12 x13 x14 i = ((N.dh (i 0).val (i 1).val * N.g (i 1).val : ℝ) : EReal) :=
  (val_main_v189_apply ..).trans (mul_at (v109 H i) ((val_main_v188_apply ..).trans ((val_main_v20_apply ..).trans (H.g _))))

theorem v192 (i : S2048.Idx) : val_main_v192 (F := Ideal) x0 x1 x2 x3 x4 x12 x13 x14 i = ((N.inner' (i 0).val : ℝ) : EReal) :=
  (val_main_v192_apply ..).trans (sum_at (f := fun e => N.x (i 0).val e * (N.dh (i 0).val e * N.g e)) zero_word fun k =>
    (val_main_v191_apply ..).trans (mul_at (H.x _) (v189 H _)))

theorem v200 (i : S2048.Idx) : val_main_v200 (F := Ideal) x0 x1 x2 x3 x4 x12 x13 x14 i = ((N.s (i 0).val : ℝ) : EReal) :=
  (val_main_v200_apply ..).trans (once_at zero_word fun k => (val_main_v199_apply ..).trans (div_at ((val_main_v197_apply ..).trans (mul_at ((val_main_v193_apply ..).trans
    ((v192 H _).trans (flat1 N.inner' _))) (v17 H _))) ((val_main_v198_apply _).trans width) (by norm_num)))

/-- and of the tokens. -/
theorem v205 (i : S2048x1024.Idx) : val_main_v205 (F := Ideal) x0 x1 x2 x3 x4 x12 x13 x14 x15 i = ((N.dx (i 0).val (i 1).val : ℝ) : EReal) :=
  ((val_main_v205_apply ..).trans (add_at ((val_main_v203_apply ..).trans (add_at ((val_main_v196_apply ..).trans (add_at (H.c i) ((val_main_v195_apply ..).trans (mul_at (v189 H i)
    ((val_main_v194_apply ..).trans (v14 H _)))))) ((val_main_v202_apply ..).trans (mul_at (H.x i) ((val_main_v201_apply ..).trans (v200 H _))))))
    ((val_main_v204_apply ..).trans (mul_at ((val_main_v201_apply ..).trans (v200 H _)) (H.x i))))).trans (congrArg Real.toEReal (N.dx_eq _ _))

end Ref

end Cert.Proj
-- ==== Proof.ProjValue.lean ====
/- The idealized calls of the mixer's projections and norms and their idealized reference agree on finite arguments: on the three outputs and
on the eleven gradients. With it, the runs of the three programs. -/
module

public import proofs.«01_k».proof.Defs
public import proofs.«01_k».proof.Proof.NetValue
public import proofs.«01_k».proof.Proof.ProjRun
public import proofs.«01_k».proof.Proof.ProjRef
public import proofs.«01_k».proof.Proof.Gen.Mix.Frame
public import proofs.«01_k».proof.Proof.Gen.MixIdeal.Frame
public import proofs.«01_k».proof.Proof.Gen.MixReferenceIdeal.Run

@[expose] public section

set_option maxRecDepth 16384

noncomputable section

namespace Cert.Proj

open Idealize.ShloMosaic Idealize.SL.Sem Cert.Fox
open Cert.Net (entry0 entry0_eq entry1 entry1_eq)

/-- The calls run, and leave their arguments unchanged and every counter at zero. -/
theorem frame_mix : Cert.quiescent_Mix := fun m g _ => Cert.Mix.Gen.frame m g

/-- The idealized calls run, and leave their arguments unchanged and every counter at zero. -/
theorem frame_mixIdeal : Cert.quiescent_MixIdeal := fun m g _ => Cert.MixIdeal.Gen.frame m g

/-- The idealized reference runs, and leaves its arguments unchanged; it has no semaphores. -/
theorem frame_reference : Cert.quiescent_MixReferenceIdeal := fun m g _ =>
  (θ_run Cert.MixReferenceIdeal.defs _ _).mono
    (fun r h => ⟨fun c => (h c).2.2.2.2.2.2.2.2.2.2.2.2.2.2, Idealize.ShloMosaic.sem_eq_zero_of_no_sems (by decide) r.2⟩)
    (Cert.MixReferenceIdeal.Value.run (F := Ideal) m g)

/-- Nothing is rewritten. -/
theorem preserves : Cert.preserves_Mix_MixIdeal := trivial

/-- The side conditions of the precondition. -/
theorem finite_facts : Cert.Pre_mix_finite.Facts := by constructor <;> decide

section

open Cert.MixIdeal

variable (m : (ℓ : Loc nD τ sig) → Buf (Elt Ideal) ℓ) (c : Dev nD)

/-- The numbers of device `c`'s arguments. -/
def layerOf : Mix where
  x := entry (a := 2048) (b := 1024) (m ((c.tc : Thread nD τ).loc main_arg0))
  g := entry0 (a := 1024) (m ((c.tc : Thread nD τ).loc main_arg1))
  wq := entry1 (a := 1024) (b := 1536) (m ((c.tc : Thread nD τ).loc main_arg2))
  wf := entry (a := 16) (b := 1024) (m ((c.tc : Thread nD τ).loc main_arg3))
  wa := entry1 (a := 1024) (b := 1024) (m ((c.tc : Thread nD τ).loc main_arg4))
  o := entry (a := 2048) (b := 512) (m ((c.tc : Thread nD τ).loc main_arg5))
  yc := entry (a := 2048) (b := 512) (m ((c.tc : Thread nD τ).loc main_arg6))
  ga := entry0 (a := 512) (m ((c.tc : Thread nD τ).loc main_arg7))
  gc := entry0 (a := 512) (m ((c.tc : Thread nD τ).loc main_arg8))
  lg := entry0 (a := 512) (m ((c.tc : Thread nD τ).loc main_arg9))
  lb := entry0 (a := 512) (m ((c.tc : Thread nD τ).loc main_arg10))
  wo := entry1 (a := 1024) (b := 1024) (m ((c.tc : Thread nD τ).loc main_arg11))
  dq := entry (a := 2048) (b := 1536) (m ((c.tc : Thread nD τ).loc main_arg12))
  df := entry (a := 16) (b := 2048) (m ((c.tc : Thread nD τ).loc main_arg13))
  da := entry (a := 2048) (b := 1024) (m ((c.tc : Thread nD τ).loc main_arg14))
  c := entry (a := 2048) (b := 1024) (m ((c.tc : Thread nD τ).loc main_arg15))

/-- Finite arguments hold these numbers. -/
theorem args_of_finite (h : Cert.Pre_MixIdeal_mix_finite (hPre_mix_finite := finite_facts) m) : Args m c (layerOf m c) := by
  obtain ⟨h0, h1, h2, h3, h4, h5, h6, h7, h8, h9, h10, h11, h12, h13, h14, h15⟩ := h c
  have r0 : ∀ i : (⟨2, ![2048, 1024]⟩ : Shape).Idx, (m ((c.tc : Thread nD τ).loc main_arg0) i : EReal) = ((EReal.toReal (m ((c.tc : Thread nD τ).loc main_arg0) i) : ℝ) : EReal) :=
    fun i => real_of_finite inf_word (congrFun h0 i)
  have r1 : ∀ i : (⟨1, ![1024]⟩ : Shape).Idx, (m ((c.tc : Thread nD τ).loc main_arg1) i : EReal) = ((EReal.toReal (m ((c.tc : Thread nD τ).loc main_arg1) i) : ℝ) : EReal) :=
    fun i => real_of_finite inf_word (congrFun h1 i)
  have r2 : ∀ i : (⟨3, ![1, 1024, 1536]⟩ : Shape).Idx, (m ((c.tc : Thread nD τ).loc main_arg2) i : EReal) = ((EReal.toReal (m ((c.tc : Thread nD τ).loc main_arg2) i) : ℝ) : EReal) :=
    fun i => real_of_finite inf_word (congrFun h2 i)
  have r3 : ∀ i : (⟨2, ![16, 1024]⟩ : Shape).Idx, (m ((c.tc : Thread nD τ).loc main_arg3) i : EReal) = ((EReal.toReal (m ((c.tc : Thread nD τ).loc main_arg3) i) : ℝ) : EReal) :=
    fun i => real_of_finite inf_word (congrFun h3 i)
  have r4 : ∀ i : (⟨3, ![1, 1024, 1024]⟩ : Shape).Idx, (m ((c.tc : Thread nD τ).loc main_arg4) i : EReal) = ((EReal.toReal (m ((c.tc : Thread nD τ).loc main_arg4) i) : ℝ) : EReal) :=
    fun i => real_of_finite inf_word (congrFun h4 i)
  have r5 : ∀ i : (⟨2, ![2048, 512]⟩ : Shape).Idx, (m ((c.tc : Thread nD τ).loc main_arg5) i : EReal) = ((EReal.toReal (m ((c.tc : Thread nD τ).loc main_arg5) i) : ℝ) : EReal) :=
    fun i => real_of_finite inf_word (congrFun h5 i)
  have r6 : ∀ i : (⟨2, ![2048, 512]⟩ : Shape).Idx, (m ((c.tc : Thread nD τ).loc main_arg6) i : EReal) = ((EReal.toReal (m ((c.tc : Thread nD τ).loc main_arg6) i) : ℝ) : EReal) :=
    fun i => real_of_finite inf_word (congrFun h6 i)
  have r7 : ∀ i : (⟨1, ![512]⟩ : Shape).Idx, (m ((c.tc : Thread nD τ).loc main_arg7) i : EReal) = ((EReal.toReal (m ((c.tc : Thread nD τ).loc main_arg7) i) : ℝ) : EReal) :=
    fun i => real_of_finite inf_word (congrFun h7 i)
  have r8 : ∀ i : (⟨1, ![512]⟩ : Shape).Idx, (m ((c.tc : Thread nD τ).loc main_arg8) i : EReal) = ((EReal.toReal (m ((c.tc : Thread nD τ).loc main_arg8) i) : ℝ) : EReal) :=
    fun i => real_of_finite inf_word (congrFun h8 i)
  have r9 : ∀ i : (⟨1, ![512]⟩ : Shape).Idx, (m ((c.tc : Thread nD τ).loc main_arg9) i : EReal) = ((EReal.toReal (m ((c.tc : Thread nD τ).loc main_arg9) i) : ℝ) : EReal) :=
    fun i => real_of_finite inf_word (congrFun h9 i)
  have r10 : ∀ i : (⟨1, ![512]⟩ : Shape).Idx, (m ((c.tc : Thread nD τ).loc main_arg10) i : EReal) = ((EReal.toReal (m ((c.tc : Thread nD τ).loc main_arg10) i) : ℝ) : EReal) :=
    fun i => real_of_finite inf_word (congrFun h10 i)
  have r11 : ∀ i : (⟨3, ![1, 1024, 1024]⟩ : Shape).Idx, (m ((c.tc : Thread nD τ).loc main_arg11) i : EReal) = ((EReal.toReal (m ((c.tc : Thread nD τ).loc main_arg11) i) : ℝ) : EReal) :=
    fun i => real_of_finite inf_word (congrFun h11 i)
  have r12 : ∀ i : (⟨2, ![2048, 1536]⟩ : Shape).Idx, (m ((c.tc : Thread nD τ).loc main_arg12) i : EReal) = ((EReal.toReal (m ((c.tc : Thread nD τ).loc main_arg12) i) : ℝ) : EReal) :=
    fun i => real_of_finite inf_word (congrFun h12 i)
  have r13 : ∀ i : (⟨2, ![16, 2048]⟩ : Shape).Idx, (m ((c.tc : Thread nD τ).loc main_arg13) i : EReal) = ((EReal.toReal (m ((c.tc : Thread nD τ).loc main_arg13) i) : ℝ) : EReal) :=
    fun i => real_of_finite inf_word (congrFun h13 i)
  have r14 : ∀ i : (⟨2, ![2048, 1024]⟩ : Shape).Idx, (m ((c.tc : Thread nD τ).loc main_arg14) i : EReal) = ((EReal.toReal (m ((c.tc : Thread nD τ).loc main_arg14) i) : ℝ) : EReal) :=
    fun i => real_of_finite inf_word (congrFun h14 i)
  have r15 : ∀ i : (⟨2, ![2048, 1024]⟩ : Shape).Idx, (m ((c.tc : Thread nD τ).loc main_arg15) i : EReal) = ((EReal.toReal (m ((c.tc : Thread nD τ).loc main_arg15) i) : ℝ) : EReal) :=
    fun i => real_of_finite inf_word (congrFun h15 i)
  exact ⟨fun i j => entry_eq r0 i j, fun j => entry0_eq r1 j, fun n i j => entry1_eq r2 n i j, fun i j => entry_eq r3 i j, fun n i j => entry1_eq r4 n i j,
    fun i j => entry_eq r5 i j, fun i j => entry_eq r6 i j, fun j => entry0_eq r7 j, fun j => entry0_eq r8 j, fun j => entry0_eq r9 j,
    fun j => entry0_eq r10 j, fun n i j => entry1_eq r11 n i j, fun i j => entry_eq r12 i j, fun i j => entry_eq r13 i j, fun i j => entry_eq r14 i j,
    fun i j => entry_eq r15 i j⟩

/-- The reference's arguments, being the calls', hold the same numbers. -/
theorem given_of_args {N : Mix} (h : Args m c N) : Ref.Given (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11))
    (m ((c.tc : Thread nD τ).loc main_arg12)) (m ((c.tc : Thread nD τ).loc main_arg13))
    (m ((c.tc : Thread nD τ).loc main_arg14)) (m ((c.tc : Thread nD τ).loc main_arg15)) N where
  x i := (congrArg (m ((c.tc : Thread nD τ).loc main_arg0)) (ix2_eta i).symm).trans (h.x (i 0) (i 1))
  g i := (congrArg (m ((c.tc : Thread nD τ).loc main_arg1)) (ix1_eta i).symm).trans (h.g (i 0))
  wq i := (congrArg (m ((c.tc : Thread nD τ).loc main_arg2)) (ix3_eta i).symm).trans (h.wq (i 0) (i 1) (i 2))
  wf i := (congrArg (m ((c.tc : Thread nD τ).loc main_arg3)) (ix2_eta i).symm).trans (h.wf (i 0) (i 1))
  wa i := (congrArg (m ((c.tc : Thread nD τ).loc main_arg4)) (ix3_eta i).symm).trans (h.wa (i 0) (i 1) (i 2))
  o i := (congrArg (m ((c.tc : Thread nD τ).loc main_arg5)) (ix2_eta i).symm).trans (h.o (i 0) (i 1))
  yc i := (congrArg (m ((c.tc : Thread nD τ).loc main_arg6)) (ix2_eta i).symm).trans (h.yc (i 0) (i 1))
  ga i := (congrArg (m ((c.tc : Thread nD τ).loc main_arg7)) (ix1_eta i).symm).trans (h.ga (i 0))
  gc i := (congrArg (m ((c.tc : Thread nD τ).loc main_arg8)) (ix1_eta i).symm).trans (h.gc (i 0))
  lg i := (congrArg (m ((c.tc : Thread nD τ).loc main_arg9)) (ix1_eta i).symm).trans (h.lg (i 0))
  lb i := (congrArg (m ((c.tc : Thread nD τ).loc main_arg10)) (ix1_eta i).symm).trans (h.lb (i 0))
  wo i := (congrArg (m ((c.tc : Thread nD τ).loc main_arg11)) (ix3_eta i).symm).trans (h.wo (i 0) (i 1) (i 2))
  dq i := (congrArg (m ((c.tc : Thread nD τ).loc main_arg12)) (ix2_eta i).symm).trans (h.dq (i 0) (i 1))
  df i := (congrArg (m ((c.tc : Thread nD τ).loc main_arg13)) (ix2_eta i).symm).trans (h.df (i 0) (i 1))
  da i := (congrArg (m ((c.tc : Thread nD τ).loc main_arg14)) (ix2_eta i).symm).trans (h.da (i 0) (i 1))
  c i := (congrArg (m ((c.tc : Thread nD τ).loc main_arg15)) (ix2_eta i).symm).trans (h.c (i 0) (i 1))

end

set_option maxHeartbeats 4000000 in
open Cert.MixIdeal Cert.MixIdeal.Gen in
/-- On finite arguments the calls' outputs are the reference's, and so are their gradients: of the tokens and of their gain, of three weights,
of the attention's output and the convolution's, of the gains of both, and of the gain and the offset of the convolution's norm. -/
theorem algebraic : Cert.algebraic_MixIdeal_MixReferenceIdeal_pre_mix_finite (hPre_mix_finite := finite_facts) := by
  intro m g m' g' hp he
  refine ⟨fun c => W13 m g c (Proc.devRef .tc main_v6),
    fun c => W13 m g c (Proc.devRef .tc main_v7),
    fun c => W13 m g c (Proc.devRef .tc main_v9),
    fun c => W13 m g c (Proc.devRef .tc main_v16_0),
    fun c => W13 m g c (Proc.devRef .tc main_v16_1),
    fun c => W13 m g c (Proc.devRef .tc main_v13),
    fun c => W13 m g c (Proc.devRef .tc main_v14),
    fun c => W13 m g c (Proc.devRef .tc main_v11),
    fun c => W13 m g c (Proc.devRef .tc main_v12_0),
    fun c => W13 m g c (Proc.devRef .tc main_v12_1),
    fun c => W13 m g c (Proc.devRef .tc main_v12_2),
    fun c => W13 m g c (Proc.devRef .tc main_v12_3),
    fun c => W13 m g c (Proc.devRef .tc main_v12_4),
    fun c => W13 m g c (Proc.devRef .tc main_v12_5), ?_, ?_⟩
  · exact (θ_run (defs (F := Ideal)) _ _).mono (fun r h c =>
      ⟨h c _ (mem_uc main_v6 (by decide)),
        h c _ (mem_uc main_v7 (by decide)),
        h c _ (mem_uc main_v9 (by decide)),
        h c _ (mem_uc main_v16_0 (by decide)),
        h c _ (mem_uc main_v16_1 (by decide)),
        h c _ (mem_uc main_v13 (by decide)),
        h c _ (mem_uc main_v14 (by decide)),
        h c _ (mem_uc main_v11 (by decide)),
        h c _ (mem_uc main_v12_0 (by decide)),
        h c _ (mem_uc main_v12_1 (by decide)),
        h c _ (mem_uc main_v12_2 (by decide)),
        h c _ (mem_uc main_v12_3 (by decide)),
        h c _ (mem_uc main_v12_4 (by decide)),
        h c _ (mem_uc main_v12_5 (by decide)),
        (h c _ (mem_uc main_arg0 (by decide))).trans (W13_args m g c main_arg0 (by decide)),
        (h c _ (mem_uc main_arg1 (by decide))).trans (W13_args m g c main_arg1 (by decide)),
        (h c _ (mem_uc main_arg2 (by decide))).trans (W13_args m g c main_arg2 (by decide)),
        (h c _ (mem_uc main_arg3 (by decide))).trans (W13_args m g c main_arg3 (by decide)),
        (h c _ (mem_uc main_arg4 (by decide))).trans (W13_args m g c main_arg4 (by decide)),
        (h c _ (mem_uc main_arg5 (by decide))).trans (W13_args m g c main_arg5 (by decide)),
        (h c _ (mem_uc main_arg6 (by decide))).trans (W13_args m g c main_arg6 (by decide)),
        (h c _ (mem_uc main_arg7 (by decide))).trans (W13_args m g c main_arg7 (by decide)),
        (h c _ (mem_uc main_arg8 (by decide))).trans (W13_args m g c main_arg8 (by decide)),
        (h c _ (mem_uc main_arg9 (by decide))).trans (W13_args m g c main_arg9 (by decide)),
        (h c _ (mem_uc main_arg10 (by decide))).trans (W13_args m g c main_arg10 (by decide)),
        (h c _ (mem_uc main_arg11 (by decide))).trans (W13_args m g c main_arg11 (by decide)),
        (h c _ (mem_uc main_arg12 (by decide))).trans (W13_args m g c main_arg12 (by decide)),
        (h c _ (mem_uc main_arg13 (by decide))).trans (W13_args m g c main_arg13 (by decide)),
        (h c _ (mem_uc main_arg14 (by decide))).trans (W13_args m g c main_arg14 (by decide)),
        (h c _ (mem_uc main_arg15 (by decide))).trans (W13_args m g c main_arg15 (by decide))⟩) (run_mix m g)
  · refine (θ_run (Cert.MixReferenceIdeal.defs (F := Ideal)) _ _).mono (fun r h c => ?_) (Cert.MixReferenceIdeal.Value.run (F := Ideal) m' g')
    obtain ⟨h0, h1, h2, h3, h4, h5, h6, h7, h8, h9, h10, h11, h12, h13, ha⟩ := h c
    have A := args_of_finite m c hp
    have G := given_of_args m c A
    obtain ⟨e0, e1, e2, e3, e4, e5, e6, e7, e8, e9, e10, e11, e12, e13, e14, e15⟩ := he c
    rw [← e0, ← e1, ← e2, ← e3, ← e4, ← e5, ← e6, ← e7, ← e8, ← e9, ← e10, ← e11, ← e12, ← e13, ← e14, ← e15] at G
    refine ⟨h0.trans ((Cert.MixReferenceIdeal.Read.val_main_v206_eq (StableHlo.launchContents m' c)).trans ?_),
      h1.trans ((Cert.MixReferenceIdeal.Read.val_main_v87_eq (StableHlo.launchContents m' c)).trans ?_),
      h2.trans ((Cert.MixReferenceIdeal.Read.val_main_v90_eq (StableHlo.launchContents m' c)).trans ?_),
      h3.trans ((Cert.MixReferenceIdeal.Read.val_main_v205_eq (StableHlo.launchContents m' c)).trans ?_),
      h4.trans ((Cert.MixReferenceIdeal.Read.val_main_v207_eq (StableHlo.launchContents m' c)).trans ?_),
      h5.trans ((Cert.MixReferenceIdeal.Read.val_main_v208_eq (StableHlo.launchContents m' c)).trans ?_),
      h6.trans ((Cert.MixReferenceIdeal.Read.val_main_v209_eq (StableHlo.launchContents m' c)).trans ?_),
      h7.trans ((Cert.MixReferenceIdeal.Read.val_main_v210_eq (StableHlo.launchContents m' c)).trans ?_),
      h8.trans ((Cert.MixReferenceIdeal.Read.val_main_v211_eq (StableHlo.launchContents m' c)).trans ?_),
      h9.trans ((Cert.MixReferenceIdeal.Read.val_main_v184_eq (StableHlo.launchContents m' c)).trans ?_),
      h10.trans ((Cert.MixReferenceIdeal.Read.val_main_v212_eq (StableHlo.launchContents m' c)).trans ?_),
      h11.trans ((Cert.MixReferenceIdeal.Read.val_main_v213_eq (StableHlo.launchContents m' c)).trans ?_),
      h12.trans ((Cert.MixReferenceIdeal.Read.val_main_v214_eq (StableHlo.launchContents m' c)).trans ?_),
      h13.trans ((Cert.MixReferenceIdeal.Read.val_main_v215_eq (StableHlo.launchContents m' c)).trans ?_), ha⟩
    · exact matrix_eq (a := 2048) (b := 1536) (e := .bf16) (final_qkv m g A) (Ref.v206 G)
    · exact matrix_eq (a := 2048) (b := 1024) (e := .f32) (final_agv m g A) (Ref.v87 G)
    · exact matrix_eq (a := 2048) (b := 1024) (e := .f32) (final_out m g A) (Ref.v90 G)
    · exact matrix_eq (a := 2048) (b := 1024) (e := .f32) (final_dx m g A) (Ref.v205 G)
    · exact matrix_eq (a := 1) (b := 1024) (e := .f32) (f := fun _ => (layerOf m c).dg) (final_dg m g A) (Ref.v207 G)
    · exact box_eq (n := 1) (a := 1024) (b := 1536) (e := .bf16) (f := fun _ => (layerOf m c).dwq) (final_dwq m g A) (Ref.v208 G)
    · exact box_eq (n := 1) (a := 1024) (b := 1024) (e := .bf16) (f := fun _ => (layerOf m c).dwa) (final_dwa m g A) (Ref.v209 G)
    · exact box_eq (n := 1) (a := 1024) (b := 1024) (e := .bf16) (f := fun _ => (layerOf m c).dwo) (final_dwo m g A) (Ref.v210 G)
    · exact matrix_eq (a := 2048) (b := 512) (e := .bf16) (final_do m g A) (Ref.v211 G)
    · exact matrix_eq (a := 2048) (b := 512) (e := .f32) (final_dyc m g A) (Ref.v184 G)
    · exact matrix_eq (a := 1) (b := 512) (e := .f32) (f := fun _ => (layerOf m c).dga) (final_dga m g A) (Ref.v212 G)
    · exact matrix_eq (a := 1) (b := 512) (e := .f32) (f := fun _ => (layerOf m c).dgc) (final_dgc m g A) (Ref.v213 G)
    · exact matrix_eq (a := 1) (b := 512) (e := .f32) (f := fun _ => (layerOf m c).dlg) (final_dlg m g A) (Ref.v214 G)
    · exact matrix_eq (a := 1) (b := 512) (e := .f32) (f := fun _ => (layerOf m c).dlb) (final_dlb m g A) (Ref.v215 G)

end Cert.Proj
-- ==== Proof.Adam.lean ====
/- The optimiser's update of the weights that each device holds whole, packed in rows, and of its share of the convolution's taps: the calls
   leave what AdamW makes of the given gradients. -/
module

public import proofs.«01_k».proof.Defs
public import proofs.«01_k».proof.Proof.Gen.Small.Frame
public import proofs.«01_k».proof.Proof.Gen.SmallIdeal.Frame
public import proofs.«01_k».proof.Proof.Gen.SmallIdeal.Value
public import proofs.«01_k».proof.Proof.Gen.SmallReferenceIdeal.Run
public import proofs.«01_k».proof.Proof.Gen.Taps.Frame
public import proofs.«01_k».proof.Proof.Gen.TapsIdeal.Frame
public import proofs.«01_k».proof.Proof.Gen.TapsIdeal.Value
public import proofs.«01_k».proof.Proof.Gen.TapsReferenceIdeal.Run

@[expose] public section

set_option maxRecDepth 16384

noncomputable section

namespace Cert.Adam

open Idealize.ShloMosaic Idealize.SL.Sem

namespace Small

/-- The call on the packed weights runs, and leaves its arguments unchanged and every counter at zero. -/
theorem frame_kernel : Cert.quiescent_Small := fun m g _ => Cert.Small.Gen.frame m g

/-- So does the idealized call. -/
theorem frame_ideal : Cert.quiescent_SmallIdeal := fun m g _ => Cert.SmallIdeal.Gen.frame m g

/-- The idealized reference runs, and leaves its arguments unchanged; it has no semaphores. -/
theorem frame_reference : Cert.quiescent_SmallReferenceIdeal := fun m g _ =>
  (θ_run Cert.SmallReferenceIdeal.defs _ _).mono
    (fun r h => ⟨fun c => (h c).2.2.2, Idealize.ShloMosaic.sem_eq_zero_of_no_sems (by decide) r.2⟩)
    (Cert.SmallReferenceIdeal.Value.run (F := Ideal) m g)

/-- Nothing is rewritten. -/
theorem preserves : Cert.preserves_Small_SmallIdeal := trivial

/-- The call's updates and moments are AdamW's. -/
theorem algebraic : Cert.algebraic_SmallIdeal_SmallReferenceIdeal := by
  intro m g m' g' _ he
  refine ⟨_, _, _, Cert.SmallIdeal.Value.run (F := Ideal) m g, ?_⟩
  refine (θ_run (Cert.SmallReferenceIdeal.defs (F := Ideal)) _ _).mono (fun r h c => ?_) (Cert.SmallReferenceIdeal.Value.run (F := Ideal) m' g')
  obtain ⟨h0, h1, h2, ha⟩ := h c
  obtain ⟨e0, e1, e2, e3⟩ := he c
  refine ⟨h0.trans ?_, h1.trans ?_, h2.trans ?_, ha⟩
  · rw [e0, e1, e2, e3]; rfl
  · rw [e1, e3]; rfl
  · rw [e2, e3]; rfl

end Small

namespace Taps

/-- The call on the convolution's taps runs, and leaves its arguments unchanged and every counter at zero. -/
theorem frame_kernel : Cert.quiescent_Taps := fun m g _ => Cert.Taps.Gen.frame m g

/-- So does the idealized call. -/
theorem frame_ideal : Cert.quiescent_TapsIdeal := fun m g _ => Cert.TapsIdeal.Gen.frame m g

/-- The idealized reference runs, and leaves its arguments unchanged; it has no semaphores. -/
theorem frame_reference : Cert.quiescent_TapsReferenceIdeal := fun m g _ =>
  (θ_run Cert.TapsReferenceIdeal.defs _ _).mono
    (fun r h => ⟨fun c => (h c).2.2.2, Idealize.ShloMosaic.sem_eq_zero_of_no_sems (by decide) r.2⟩)
    (Cert.TapsReferenceIdeal.Value.run (F := Ideal) m g)

/-- Nothing is rewritten. -/
theorem preserves : Cert.preserves_Taps_TapsIdeal := trivial

/-- The call's updates and moments are AdamW's. -/
theorem algebraic : Cert.algebraic_TapsIdeal_TapsReferenceIdeal := by
  intro m g m' g' _ he
  refine ⟨_, _, _, Cert.TapsIdeal.Value.run (F := Ideal) m g, ?_⟩
  refine (θ_run (Cert.TapsReferenceIdeal.defs (F := Ideal)) _ _).mono (fun r h c => ?_) (Cert.TapsReferenceIdeal.Value.run (F := Ideal) m' g')
  obtain ⟨h0, h1, h2, ha⟩ := h c
  obtain ⟨e0, e1, e2, e3⟩ := he c
  refine ⟨h0.trans ?_, h1.trans ?_, h2.trans ?_, ha⟩
  · rw [e0, e1, e2, e3]; rfl
  · rw [e1, e3]; rfl
  · rw [e2, e3]; rfl

end Taps

end Cert.Adam

end
-- ==== Proof.Update.lean ====
/- What one layer's block of the optimiser's call on an exchanged weight leaves: the sum of the chips' parts of the gradient, and AdamW's
   update and moments from it. -/
module

public import proofs.«01_k».proof.Proof.Gen.OptIdeal.Frame
public import Idealize.ShloMosaic.Lib.Pipeline.ValueKit
public import Idealize.ShloMosaic.Lib.Pointwise.Tactic

@[expose] public section

set_option maxRecDepth 16384

noncomputable section

namespace Cert.Update

open Idealize.ShloMosaic Idealize.SL.Sem
open Cert.OptIdeal Cert.OptIdeal.Gen

/-- One chip's part of an entry of the gradient: this chip's own part where the chip is this one, else the one that landed. -/
def chosen (p : BitVec 32) (k : ℕ) (o l : EReal) : EReal := if p = BitVec.ofNat 32 k then o else l

/-- The sum of the four chips' parts, in the order in which the call adds them. -/
def summed (p : BitVec 32) (o : EReal) (l : Fin 4 → EReal) : EReal :=
  chosen p 0 o (l 0) + chosen p 1 o (l 1) + chosen p 2 o (l 2) + chosen p 3 o (l 3)

/-- The new first moment, -/
def newM (m g : EReal) : EReal := Ideal.ofBits .f32 0x3F666666#32 * m + Ideal.ofBits .f32 0x3DCCCCCD#32 * g

/-- the new second moment, -/
def newV (v g : EReal) : EReal := Ideal.ofBits .f32 0x3F7FBE77#32 * v + Ideal.ofBits .f32 0x3A83126F#32 * (g * g)

/-- and the update of the weight, from the new moments. -/
def step (w m v : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32) + Ideal.ofBits .f32 0x3C23D70A#32 * w)

variable {p : BitVec 32} {o : Vec Ideal S1x128x1024 .bf16} {l : Fin 4 → Vec Ideal S1x1x128x1024 .bf16}
  {w m v : Vec Ideal S1x128x1024 .f32}

/-- An integer comparison for equality selects as an `if` does. -/
theorem select_eq {α : Type} (p q : BitVec 32) (x y : α) : Scalar.select (Scalar.cmpi .eq p q) x y = if p = q then x else y := by
  unfold Scalar.select Scalar.cmpi
  by_cases h : p = q
  · simp [h, IntOp.cmpi]
  · have : (p == q) = false := beq_eq_false_iff_ne.2 h
    simp [h, IntOp.cmpi, this]

variable {p : BitVec 32} {o : Vec Ideal S1x128x1024 .bf16} {l : Fin 4 → Vec Ideal S1x1x128x1024 .bf16}
  {w m v : Vec Ideal S1x128x1024 .f32} (i : Fin 128) (j : Fin 1024)

/-- The block's sum of the chips' parts, -/
theorem pay_sum :
    k0_pay3 (F := Ideal) p o (l 0) (l 1) (l 2) (l 3) (ix2 i j) = summed p (o (ix3 0 i j)) fun k => l k (ix4 0 0 i j) := by
  unfold k0_pay3 summed chosen
  simp only [select_eq]
  pointwise
  simp only [ite_apply]
  pointwise

/-- which it leaves, -/
theorem pay_grad {s : FVec Ideal S128x1024 .f32} : k0_pay8 (F := Ideal) s (ix3 0 i j) = s (ix2 i j) := by
  unfold k0_pay8
  pointwise

/-- the new first moment -/
theorem pay_m : k0_pay10 (F := Ideal) (k0_pay4 m) (k0_pay5 p o (l 0) (l 1) (l 2) (l 3)) (ix3 0 i j)
    = newM (m (ix3 0 i j)) (summed p (o (ix3 0 i j)) fun k => l k (ix4 0 0 i j)) := by
  rw [← pay_sum]
  unfold k0_pay10 k0_pay6 k0_pay4 k0_pay5 newM
  pointwise

/-- and the second, -/
theorem pay_v {s : FVec Ideal S128x1024 .f32} : k0_pay1 (F := Ideal) (k0_pay7 s v) (ix3 0 i j) = newV (v (ix3 0 i j)) (s (ix2 i j)) := by
  unfold k0_pay1 k0_pay7 newV
  pointwise

/-- and the update. -/
theorem pay_step : k0_pay9 (F := Ideal) (k0_pay3 p o (l 0) (l 1) (l 2) (l 3)) (k0_pay4 m) (k0_pay5 p o (l 0) (l 1) (l 2) (l 3)) v w (ix3 0 i j)
    = step (w (ix3 0 i j)) (newM (m (ix3 0 i j)) (summed p (o (ix3 0 i j)) fun k => l k (ix4 0 0 i j)))
        (newV (v (ix3 0 i j)) (summed p (o (ix3 0 i j)) fun k => l k (ix4 0 0 i j))) := by
  rw [← pay_sum]
  unfold k0_pay9 k0_pay7 k0_pay6 k0_pay4 k0_pay5 step newM newV
  pointwise

section Runs

/-- A chip's landed part, as the body loads it. -/
def part (x : Vec Ideal S4x1x128x1024 .bf16) : Fin 4 → Vec Ideal S1x1x128x1024 .bf16
  | 0 => View.ld x (Rect.unit ![0, 0, 0, 0] ![1, 1, 128, 1024] inb_S4x1x128x1024_S1x1x128x1024_0_0_0_0)
  | 1 => View.ld x (Rect.unit ![1, 0, 0, 0] ![1, 1, 128, 1024] inb_S4x1x128x1024_S1x1x128x1024_1_0_0_0)
  | 2 => View.ld x (Rect.unit ![2, 0, 0, 0] ![1, 1, 128, 1024] inb_S4x1x128x1024_S1x1x128x1024_2_0_0_0)
  | 3 => View.ld x (Rect.unit ![3, 0, 0, 0] ![1, 1, 128, 1024] inb_S4x1x128x1024_S1x1x128x1024_3_0_0_0)

theorem part_at (x : Vec Ideal S4x1x128x1024 .bf16) (k : Fin 4) (i : Fin 128) (j : Fin 1024) : part x k (ix4 0 0 i j) = x (ix4 k 0 i j) := by
  fin_cases k <;> exact View.ld_unit_apply_of x _ _ _ _ _ fun a => by fin_cases a <;> simp [ix4]

theorem whole {e : EltTy} (x : Vec Ideal S1x128x1024 e) (inb) : View.ld x (Rect.unit ![0, 0, 0] ![1, 128, 1024] inb) = x :=
  View.ld_unit_zero (by decide) inb x

variable (c : Dev nD) (a : grid0.Coords)
  {arg3 : Memref sig .tc .vmem S1x128x1024 .f32}
  {arg4 : Memref sig .tc .vmem S1x128x1024 .f32}
  {arg5 : Memref sig .tc .vmem S1x128x1024 .f32}
  {arg6 : Memref sig .tc .vmem S1x128x1024 .bf16}
  {arg7 : Memref sig .tc .vmem S1x128x1024 .bf16}
  {arg8 : Memref sig .tc .vmem S4x1x128x1024 .bf16}
  {arg9 : Memref sig .tc .vmem S4x1x128x1024 .bf16}
  {arg10 : Memref sig .tc .vmem S1x128x1024 .f32}
  {arg11 : Memref sig .tc .vmem S1x128x1024 .f32}
  {arg12 : Memref sig .tc .vmem S1x128x1024 .f32}
  {arg13 : Memref sig .tc .vmem S1x128x1024 .f32}
  (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole)
  (x0 x1 x2 : Vec Ideal S1x128x1024 .f32) (x3 x4 : Vec Ideal S1x128x1024 .bf16) (x5 x6 : Vec Ideal S4x1x128x1024 .bf16)
  (xt0 : TbBuf0 (F := Ideal) c tbM0_0) (i : Fin 128) (j : Fin 1024)

theorem runA_grad (hc0 : cond0_0 a) (hc1 : ¬cond0_1 a) :
    out0_A_7 (F := Ideal) c a arg3 harg3 arg4 harg4 arg5 harg5 arg6 harg6 arg7 harg7 arg8 harg8 arg9 harg9 arg10 harg10 arg11 harg11 arg12 harg12 arg13 harg13 hc0 hc1 x0 x1 x2 x3 x4 x5 x6 xt0 (ix3 0 i j)
      = summed (kernelRun0_A.sl.r c xt0) (x3 (ix3 0 i j)) fun k => x5 (ix4 k 0 i j) := by
  unfold out0_A_7
  rw [View.read_writes_junk_eq_canon]
  unfold kernelRun0_A
  dsimp only
  rw [View.canon_unit_zero (by decide)]
  unfold kernelRun0_A.sl.r_1
  simp only [View.readAt_eq_ld, harg3.read_unread, harg4.read_unread, harg5.read_unread, harg6.read_unread, harg7.read_unread, harg8.read_unread,
    harg9.read_unread, whole]
  simp only [← part_at]
  exact (pay_grad i j).trans (pay_sum i j (l := part x5))

theorem runA_step (hc0 : cond0_0 a) (hc1 : ¬cond0_1 a) :
    out0_A_8 (F := Ideal) c a arg3 harg3 arg4 harg4 arg5 harg5 arg6 harg6 arg7 harg7 arg8 harg8 arg9 harg9 arg10 harg10 arg11 harg11 arg12 harg12 arg13 harg13 hc0 hc1 x0 x1 x2 x3 x4 x5 x6 xt0 (ix3 0 i j)
      = step (x0 (ix3 0 i j)) (newM (x1 (ix3 0 i j)) (summed (kernelRun0_A.sl.r c xt0) (x3 (ix3 0 i j)) fun k => x5 (ix4 k 0 i j)))
        (newV (x2 (ix3 0 i j)) (summed (kernelRun0_A.sl.r c xt0) (x3 (ix3 0 i j)) fun k => x5 (ix4 k 0 i j))) := by
  unfold out0_A_8
  rw [View.read_writes_junk_eq_canon]
  unfold kernelRun0_A
  dsimp only
  rw [View.canon_unit_zero (by decide)]
  unfold kernelRun0_A.sl.r_2 kernelRun0_A.sl.r_3 kernelRun0_A.sl.r_1
  simp only [View.readAt_eq_ld, harg3.read_unread, harg4.read_unread, harg5.read_unread, harg6.read_unread, harg7.read_unread, harg8.read_unread,
    harg9.read_unread, whole]
  simp only [← part_at]
  exact pay_step i j (l := part x5)

theorem runA_m (hc0 : cond0_0 a) (hc1 : ¬cond0_1 a) :
    out0_A_9 (F := Ideal) c a arg3 harg3 arg4 harg4 arg5 harg5 arg6 harg6 arg7 harg7 arg8 harg8 arg9 harg9 arg10 harg10 arg11 harg11 arg12 harg12 arg13 harg13 hc0 hc1 x0 x1 x2 x3 x4 x5 x6 xt0 (ix3 0 i j)
      = newM (x1 (ix3 0 i j)) (summed (kernelRun0_A.sl.r c xt0) (x3 (ix3 0 i j)) fun k => x5 (ix4 k 0 i j)) := by
  unfold out0_A_9
  rw [View.read_writes_junk_eq_canon]
  unfold kernelRun0_A
  dsimp only
  rw [View.canon_unit_zero (by decide)]
  unfold kernelRun0_A.sl.r_2 kernelRun0_A.sl.r_3
  simp only [View.readAt_eq_ld, harg3.read_unread, harg4.read_unread, harg5.read_unread, harg6.read_unread, harg7.read_unread, harg8.read_unread,
    harg9.read_unread, whole]
  simp only [← part_at]
  exact pay_m i j (l := part x5)

theorem runA_v (hc0 : cond0_0 a) (hc1 : ¬cond0_1 a) :
    out0_A_10 (F := Ideal) c a arg3 harg3 arg4 harg4 arg5 harg5 arg6 harg6 arg7 harg7 arg8 harg8 arg9 harg9 arg10 harg10 arg11 harg11 arg12 harg12 arg13 harg13 hc0 hc1 x0 x1 x2 x3 x4 x5 x6 xt0 (ix3 0 i j)
      = newV (x2 (ix3 0 i j)) (summed (kernelRun0_A.sl.r c xt0) (x3 (ix3 0 i j)) fun k => x5 (ix4 k 0 i j)) := by
  unfold out0_A_10
  rw [View.read_writes_junk_eq_canon]
  unfold kernelRun0_A
  dsimp only
  rw [View.canon_unit_zero (by decide)]
  unfold kernelRun0_A.sl.r_4 kernelRun0_A.sl.r_1
  simp only [View.readAt_eq_ld, harg3.read_unread, harg4.read_unread, harg5.read_unread, harg6.read_unread, harg7.read_unread, harg8.read_unread,
    harg9.read_unread, whole]
  simp only [← part_at]
  exact (pay_v i j).trans (congrArg (newV _) (pay_sum i j (l := part x5)))

theorem runB_grad (hc0 : ¬cond0_0 a) (hc1 : cond0_1 a) :
    out0_B_7 (F := Ideal) c a arg3 harg3 arg4 harg4 arg5 harg5 arg6 harg6 arg7 harg7 arg8 harg8 arg9 harg9 arg10 harg10 arg11 harg11 arg12 harg12 arg13 harg13 hc0 hc1 x0 x1 x2 x3 x4 x5 x6 xt0 (ix3 0 i j)
      = summed (kernelRun0_B.sl.r c xt0) (x4 (ix3 0 i j)) fun k => x6 (ix4 k 0 i j) := by
  unfold out0_B_7
  rw [View.read_writes_junk_eq_canon]
  unfold kernelRun0_B
  dsimp only
  rw [View.canon_unit_zero (by decide)]
  unfold kernelRun0_B.sl.r_1
  simp only [View.readAt_eq_ld, harg3.read_unread, harg4.read_unread, harg5.read_unread, harg6.read_unread, harg7.read_unread, harg8.read_unread,
    harg9.read_unread, whole]
  simp only [← part_at]
  exact (pay_grad i j).trans (pay_sum i j (l := part x6))

theorem runB_step (hc0 : ¬cond0_0 a) (hc1 : cond0_1 a) :
    out0_B_8 (F := Ideal) c a arg3 harg3 arg4 harg4 arg5 harg5 arg6 harg6 arg7 harg7 arg8 harg8 arg9 harg9 arg10 harg10 arg11 harg11 arg12 harg12 arg13 harg13 hc0 hc1 x0 x1 x2 x3 x4 x5 x6 xt0 (ix3 0 i j)
      = step (x0 (ix3 0 i j)) (newM (x1 (ix3 0 i j)) (summed (kernelRun0_B.sl.r c xt0) (x4 (ix3 0 i j)) fun k => x6 (ix4 k 0 i j)))
        (newV (x2 (ix3 0 i j)) (summed (kernelRun0_B.sl.r c xt0) (x4 (ix3 0 i j)) fun k => x6 (ix4 k 0 i j))) := by
  unfold out0_B_8
  rw [View.read_writes_junk_eq_canon]
  unfold kernelRun0_B
  dsimp only
  rw [View.canon_unit_zero (by decide)]
  unfold kernelRun0_B.sl.r_2 kernelRun0_B.sl.r_3 kernelRun0_B.sl.r_1
  simp only [View.readAt_eq_ld, harg3.read_unread, harg4.read_unread, harg5.read_unread, harg6.read_unread, harg7.read_unread, harg8.read_unread,
    harg9.read_unread, whole]
  simp only [← part_at]
  exact pay_step i j (l := part x6)

theorem runB_m (hc0 : ¬cond0_0 a) (hc1 : cond0_1 a) :
    out0_B_9 (F := Ideal) c a arg3 harg3 arg4 harg4 arg5 harg5 arg6 harg6 arg7 harg7 arg8 harg8 arg9 harg9 arg10 harg10 arg11 harg11 arg12 harg12 arg13 harg13 hc0 hc1 x0 x1 x2 x3 x4 x5 x6 xt0 (ix3 0 i j)
      = newM (x1 (ix3 0 i j)) (summed (kernelRun0_B.sl.r c xt0) (x4 (ix3 0 i j)) fun k => x6 (ix4 k 0 i j)) := by
  unfold out0_B_9
  rw [View.read_writes_junk_eq_canon]
  unfold kernelRun0_B
  dsimp only
  rw [View.canon_unit_zero (by decide)]
  unfold kernelRun0_B.sl.r_2 kernelRun0_B.sl.r_3
  simp only [View.readAt_eq_ld, harg3.read_unread, harg4.read_unread, harg5.read_unread, harg6.read_unread, harg7.read_unread, harg8.read_unread,
    harg9.read_unread, whole]
  simp only [← part_at]
  exact pay_m i j (l := part x6)

theorem runB_v (hc0 : ¬cond0_0 a) (hc1 : cond0_1 a) :
    out0_B_10 (F := Ideal) c a arg3 harg3 arg4 harg4 arg5 harg5 arg6 harg6 arg7 harg7 arg8 harg8 arg9 harg9 arg10 harg10 arg11 harg11 arg12 harg12 arg13 harg13 hc0 hc1 x0 x1 x2 x3 x4 x5 x6 xt0 (ix3 0 i j)
      = newV (x2 (ix3 0 i j)) (summed (kernelRun0_B.sl.r c xt0) (x4 (ix3 0 i j)) fun k => x6 (ix4 k 0 i j)) := by
  unfold out0_B_10
  rw [View.read_writes_junk_eq_canon]
  unfold kernelRun0_B
  dsimp only
  rw [View.canon_unit_zero (by decide)]
  unfold kernelRun0_B.sl.r_4 kernelRun0_B.sl.r_1
  simp only [View.readAt_eq_ld, harg3.read_unread, harg4.read_unread, harg5.read_unread, harg6.read_unread, harg7.read_unread, harg8.read_unread,
    harg9.read_unread, whole]
  simp only [← part_at]
  exact (pay_v i j).trans (congrArg (newV _) (pay_sum i j (l := part x6)))

end Runs

section Blocks

variable (m : (ℓ : Loc nD τ sig) → Buf (Elt Ideal) ℓ) (hO : Ok m) (c : Dev nD)

/-- Where the windows stand: those of the weight and its moments at the layer, the others at their only block. -/
theorem places : ∀ t : Fin grid0.N, cc0_transform_0 (grid0.coords t) = ![(t : ℕ), 0, 0] ∧ cc0_transform_1 (grid0.coords t) = ![(t : ℕ), 0, 0]
    ∧ cc0_transform_2 (grid0.coords t) = ![(t : ℕ), 0, 0] ∧ cc0_transform_3 (grid0.coords t) = ![0, 0, 0]
    ∧ cc0_transform_4 (grid0.coords t) = ![0, 0, 0] ∧ cc0_transform_5 (grid0.coords t) = ![0, 0, 0, 0]
    ∧ cc0_transform_6 (grid0.coords t) = ![0, 0, 0, 0] ∧ cc0_transform_7 (grid0.coords t) = ![(t : ℕ), 0, 0]
    ∧ cc0_transform_8 (grid0.coords t) = ![(t : ℕ), 0, 0] ∧ cc0_transform_9 (grid0.coords t) = ![(t : ℕ), 0, 0]
    ∧ cc0_transform_10 (grid0.coords t) = ![(t : ℕ), 0, 0] := by decide +kernel

/-- The windows' own indices are those. -/
theorem placed (t : Fin (cfgM m hO).N) : (pcfg0.win (adm m hO) 0).index t = ![(t : ℕ), 0, 0] ∧ (pcfg0.win (adm m hO) 1).index t = ![(t : ℕ), 0, 0]
    ∧ (pcfg0.win (adm m hO) 2).index t = ![(t : ℕ), 0, 0] ∧ (pcfg0.win (adm m hO) 3).index t = ![0, 0, 0]
    ∧ (pcfg0.win (adm m hO) 4).index t = ![0, 0, 0] ∧ (pcfg0.win (adm m hO) 5).index t = ![0, 0, 0, 0]
    ∧ (pcfg0.win (adm m hO) 6).index t = ![0, 0, 0, 0] ∧ (pcfg0.win (adm m hO) 7).index t = ![(t : ℕ), 0, 0]
    ∧ (pcfg0.win (adm m hO) 8).index t = ![(t : ℕ), 0, 0] ∧ (pcfg0.win (adm m hO) 9).index t = ![(t : ℕ), 0, 0]
    ∧ (pcfg0.win (adm m hO) 10).index t = ![(t : ℕ), 0, 0] := places t

theorem at_zero {a n i : ℕ} (h : a = 0) : a * n + i = i := by rw [h, Nat.zero_mul, Nat.zero_add]

theorem block_w (t : Fin (cfgM m hO).N) (i : Fin 128) (j : Fin 1024) :
    iblk m hO c 0 t (ix3 0 i j) = V m c main_arg1 (ix3 (n0 := 2) t i j) := by
  have e := (placed m hO t).1
  blk_ext [iblk]
  exacts [congrFun e 0, at_zero (congrFun e 1), at_zero (congrFun e 2)]

theorem block_m (t : Fin (cfgM m hO).N) (i : Fin 128) (j : Fin 1024) :
    iblk m hO c 1 t (ix3 0 i j) = V m c main_arg2 (ix3 (n0 := 2) t i j) := by
  have e := (placed m hO t).2.1
  blk_ext [iblk]
  exacts [congrFun e 0, at_zero (congrFun e 1), at_zero (congrFun e 2)]

theorem block_v (t : Fin (cfgM m hO).N) (i : Fin 128) (j : Fin 1024) :
    iblk m hO c 2 t (ix3 0 i j) = V m c main_arg3 (ix3 (n0 := 2) t i j) := by
  have e := (placed m hO t).2.2.1
  blk_ext [iblk]
  exacts [congrFun e 0, at_zero (congrFun e 1), at_zero (congrFun e 2)]

theorem block_o0 (t : Fin (cfgM m hO).N) (i : Fin 128) (j : Fin 1024) :
    iblk m hO c 3 t (ix3 0 i j) = V m c main_arg4 (ix3 0 i j) := by
  have e := (placed m hO t).2.2.2.1
  blk_ext [iblk]
  exacts [congrFun e 0, at_zero (congrFun e 1), at_zero (congrFun e 2)]

theorem block_o1 (t : Fin (cfgM m hO).N) (i : Fin 128) (j : Fin 1024) :
    iblk m hO c 4 t (ix3 0 i j) = V m c main_arg5 (ix3 0 i j) := by
  have e := (placed m hO t).2.2.2.2.1
  blk_ext [iblk]
  exacts [congrFun e 0, at_zero (congrFun e 1), at_zero (congrFun e 2)]

theorem block_l0 (t : Fin (cfgM m hO).N) (k : Fin 4) (i : Fin 128) (j : Fin 1024) :
    iblk m hO c 5 t (ix4 k 0 i j) = V m c main_arg6 (ix4 k 0 i j) := by
  have e := (placed m hO t).2.2.2.2.2.1
  blk_ext [iblk]
  exacts [at_zero (congrFun e 0), congrFun e 1, at_zero (congrFun e 2), at_zero (congrFun e 3)]

theorem block_l1 (t : Fin (cfgM m hO).N) (k : Fin 4) (i : Fin 128) (j : Fin 1024) :
    iblk m hO c 6 t (ix4 k 0 i j) = V m c main_arg7 (ix4 k 0 i j) := by
  have e := (placed m hO t).2.2.2.2.2.2.1
  blk_ext [iblk]
  exacts [at_zero (congrFun e 0), congrFun e 1, at_zero (congrFun e 2), at_zero (congrFun e 3)]

/-- The chip's place, as the body reads it. -/
theorem wordA : kernelRun0_A.sl.r c (tbl m 0) = V m c main_arg0 (ix1 1) := by
  obtain rfl : c = 0 := Subsingleton.elim _ _
  exact congrArg (V m 0 main_arg0) (funext fun a => by fin_cases a; rfl)

theorem wordB : kernelRun0_B.sl.r c (tbl m 0) = V m c main_arg0 (ix1 1) := by
  obtain rfl : c = 0 := Subsingleton.elim _ _
  exact congrArg (V m 0 main_arg0) (funext fun a => by fin_cases a; rfl)

/-- The gradient as the chips' parts of the layer make it. -/
def total (l : ℕ) (i : Fin 128) (j : Fin 1024) : EReal :=
  if l = 0 then summed (V m c main_arg0 (ix1 1)) (V m c main_arg4 (ix3 0 i j)) fun k => V m c main_arg6 (ix4 k 0 i j)
  else summed (V m c main_arg0 (ix1 1)) (V m c main_arg5 (ix3 0 i j)) fun k => V m c main_arg7 (ix4 k 0 i j)

theorem summed_congr {p p' : BitVec 32} {o o' : EReal} {l l' : Fin 4 → EReal} (hp : p = p') (ho : o = o') (hl : ∀ k, l k = l' k) :
    summed p o l = summed p' o' l' := by
  rw [hp, ho, funext hl]

theorem total_A (t : Fin (cfgM m hO).N) (h : t.val = 0) (i : Fin 128) (j : Fin 1024) :
    summed (kernelRun0_A.sl.r c (tbl m 0)) (iblk m hO c 3 t (ix3 0 i j)) (fun k => iblk m hO c 5 t (ix4 k 0 i j)) = total m c t.val i j := by
  rw [total, if_pos h]
  exact summed_congr (wordA m c) (block_o0 m hO c t i j) fun k => block_l0 m hO c t k i j

theorem total_B (t : Fin (cfgM m hO).N) (h : t.val = 1) (i : Fin 128) (j : Fin 1024) :
    summed (kernelRun0_B.sl.r c (tbl m 0)) (iblk m hO c 4 t (ix3 0 i j)) (fun k => iblk m hO c 6 t (ix4 k 0 i j)) = total m c t.val i j := by
  rw [total, if_neg (by omega)]
  exact summed_congr (wordB m c) (block_o1 m hO c t i j) fun k => block_l1 m hO c t k i j

/-- The arrays the call leaves: the gradient, the moments and the update. -/
def gradAt (l : Fin 2) (i : Fin 128) (j : Fin 1024) : EReal := total m c l.val i j
def mAt (l : Fin 2) (i : Fin 128) (j : Fin 1024) : EReal := newM (V m c main_arg2 (ix3 l i j)) (total m c l.val i j)
def vAt (l : Fin 2) (i : Fin 128) (j : Fin 1024) : EReal := newV (V m c main_arg3 (ix3 l i j)) (total m c l.val i j)
def stepAt (l : Fin 2) (i : Fin 128) (j : Fin 1024) : EReal := step (V m c main_arg1 (ix3 l i j)) (mAt m c l i j) (vAt m c l i j)

variable (t : Fin (cfgM m hO).N) (i : Fin 128) (j : Fin 1024)

theorem layers : t.val = 0 ∨ t.val = 1 := by
  have : t.val < 2 := t.isLt
  omega

theorem left_grad : (dats m hO 0 c).after 7 t (ix3 0 i j) = gradAt m c t i j := by
  rw [after0_7]
  obtain h | h := layers m hO t
  · rw [outsAt0_A m hO c t (by omega) (by omega)]
    dsimp only
    refine (runA_grad c _ _ _ _ _ _ _ _ _ _ _ _ _ _ _ _ _ _ _ _ i j _ _).trans ?_
    exact (total_A m hO c t h i j)
  · rw [outsAt0_B m hO c t (by omega) (by omega)]
    dsimp only
    refine (runB_grad c _ _ _ _ _ _ _ _ _ _ _ _ _ _ _ _ _ _ _ _ i j _ _).trans ?_
    exact (total_B m hO c t h i j)

theorem left_step : (dats m hO 0 c).after 8 t (ix3 0 i j) = stepAt m c t i j := by
  rw [after0_8]
  obtain h | h := layers m hO t
  · rw [outsAt0_A m hO c t (by omega) (by omega)]
    dsimp only
    refine (runA_step c _ _ _ _ _ _ _ _ _ _ _ _ _ _ _ _ _ _ _ _ i j _ _).trans ?_
    exact (congr (congrArg₂ step (block_w m hO c t i j) (congrArg₂ newM (block_m m hO c t i j) (total_A m hO c t h i j))) (congrArg₂ newV (block_v m hO c t i j) (total_A m hO c t h i j)))
  · rw [outsAt0_B m hO c t (by omega) (by omega)]
    dsimp only
    refine (runB_step c _ _ _ _ _ _ _ _ _ _ _ _ _ _ _ _ _ _ _ _ i j _ _).trans ?_
    exact (congr (congrArg₂ step (block_w m hO c t i j) (congrArg₂ newM (block_m m hO c t i j) (total_B m hO c t h i j))) (congrArg₂ newV (block_v m hO c t i j) (total_B m hO c t h i j)))

theorem left_m : (dats m hO 0 c).after 9 t (ix3 0 i j) = mAt m c t i j := by
  rw [after0_9]
  obtain h | h := layers m hO t
  · rw [outsAt0_A m hO c t (by omega) (by omega)]
    dsimp only
    refine (runA_m c _ _ _ _ _ _ _ _ _ _ _ _ _ _ _ _ _ _ _ _ i j _ _).trans ?_
    exact (congrArg₂ newM (block_m m hO c t i j) (total_A m hO c t h i j))
  · rw [outsAt0_B m hO c t (by omega) (by omega)]
    dsimp only
    refine (runB_m c _ _ _ _ _ _ _ _ _ _ _ _ _ _ _ _ _ _ _ _ i j _ _).trans ?_
    exact (congrArg₂ newM (block_m m hO c t i j) (total_B m hO c t h i j))

theorem left_v : (dats m hO 0 c).after 10 t (ix3 0 i j) = vAt m c t i j := by
  rw [after0_10]
  obtain h | h := layers m hO t
  · rw [outsAt0_A m hO c t (by omega) (by omega)]
    dsimp only
    refine (runA_v c _ _ _ _ _ _ _ _ _ _ _ _ _ _ _ _ _ _ _ _ i j _ _).trans ?_
    exact (congrArg₂ newV (block_v m hO c t i j) (total_A m hO c t h i j))
  · rw [outsAt0_B m hO c t (by omega) (by omega)]
    dsimp only
    refine (runB_v c _ _ _ _ _ _ _ _ _ _ _ _ _ _ _ _ _ _ _ _ i j _ _).trans ?_
    exact (congrArg₂ newV (block_v m hO c t i j) (total_B m hO c t h i j))

end Blocks

end Cert.Update
-- ==== Proof.UpdateReference.lean ====
/- What the plain optimiser's update of an exchanged weight computes: the same sums, moments and update. -/
module

public import proofs.«01_k».proof.Proof.Update
public import proofs.«01_k».proof.Proof.Gen.OptReferenceIdeal.Run
public import proofs.«01_k».proof.Proof.Gen.OptReferenceIdeal.Read

@[expose] public section

set_option maxRecDepth 16384

noncomputable section

namespace Cert.Update

open Idealize.ShloMosaic Idealize.SL.Sem
open Cert.OptReferenceIdeal Cert.OptReferenceIdeal.Read Cert.OptReferenceIdeal.Value

variable (x0 : (⟨S2, .i32⟩ : BufTy).Contents (Elt Ideal)) (x4 x5 : (⟨S1x128x1024, .bf16⟩ : BufTy).Contents (Elt Ideal))
  (x6 x7 : (⟨S4x1x128x1024, .bf16⟩ : BufTy).Contents (Elt Ideal)) (i : Fin 128) (j : Fin 1024)

/-- Choosing where the comparison holds is choosing the chip's part. -/
theorem select_chosen (p : BitVec 32) (k : ℕ) (o l : EReal) : Scalar.select (IntOp.cmpi .eq (BitVec.ofNat 32 k) p) o l = chosen p k o l := by
  refine (select_eq _ _ _ _).trans ?_
  unfold chosen
  simp only [eq_comm]

/-- The reference's choice of a chip's part in layer 0, -/
theorem ref_choice0 (k : Fin 4) : val_main_v4 (F := Ideal) x0 (ix1 k) = IntOp.cmpi .eq (BitVec.ofNat 32 k) (x0 (ix1 1)) := by
  unfold val_main_v4 val_main_v3 val_main_v2 val_main_v1 val_main_v0
  pointwise

/-- that part, -/
theorem ref_part0 (k : Fin 4) : val_main_v9 (F := Ideal) x0 x4 x6 (ix3 k i j) = chosen (x0 (ix1 1)) k (x4 (ix3 0 i j)) (x6 (ix4 k 0 i j)) := by
  unfold val_main_v9 val_main_call0_v0 val_main_call0_v1 val_main_v8 val_main_v7 val_main_v6 val_main_v5
  pointwise
  rw [ref_choice0]
  exact select_chosen _ _ _ _

theorem ref_index0 (k : Fin 4) : idx_main_v10 (idx_main_v22 (ix3 0 i j)) k = ix3 k i j := by
  funext a
  fin_cases a <;> rfl

/-- and the sum of the parts. -/
theorem ref_sum0 : val_main_v24 (F := Ideal) x0 x4 x5 x6 x7 (ix3 0 i j) = summed (x0 (ix1 1)) (x4 (ix3 0 i j)) fun k => x6 (ix4 k 0 i j) := by
  unfold val_main_v24
  pointwise
  rw [val_main_v22_apply, val_main_v10_apply, Fin.sum_univ_four]
  simp only [ref_index0, ref_part0]
  exact (congrArg (· + _) Ideal.ofBits_zero_f32).trans (zero_add _)

/-- The reference's choice of a chip's part in layer 1, -/
theorem ref_choice1 (k : Fin 4) : val_main_v15 (F := Ideal) x0 (ix1 k) = IntOp.cmpi .eq (BitVec.ofNat 32 k) (x0 (ix1 1)) := by
  unfold val_main_v15 val_main_v14 val_main_v13 val_main_v12 val_main_v11
  pointwise

/-- that part, -/
theorem ref_part1 (k : Fin 4) : val_main_v20 (F := Ideal) x0 x5 x7 (ix3 k i j) = chosen (x0 (ix1 1)) k (x5 (ix3 0 i j)) (x7 (ix4 k 0 i j)) := by
  unfold val_main_v20 val_main_call1_v0 val_main_call1_v1 val_main_v19 val_main_v18 val_main_v17 val_main_v16
  pointwise
  rw [ref_choice1]
  exact select_chosen _ _ _ _

theorem ref_index1 (k : Fin 4) : idx_main_v21 (idx_main_v23 (ix3 0 i j)) k = ix3 k i j := by
  funext a
  fin_cases a <;> rfl

/-- and the sum of the parts. -/
theorem ref_sum1 : val_main_v24 (F := Ideal) x0 x4 x5 x6 x7 (ix3 1 i j) = summed (x0 (ix1 1)) (x5 (ix3 0 i j)) fun k => x7 (ix4 k 0 i j) := by
  unfold val_main_v24
  pointwise
  rw [val_main_v23_apply, val_main_v21_apply, Fin.sum_univ_four]
  simp only [ref_index1, ref_part1]
  exact (congrArg (· + _) Ideal.ofBits_zero_f32).trans (zero_add _)

variable (x1 x2 x3 : (⟨S2x128x1024, .f32⟩ : BufTy).Contents (Elt Ideal)) (l : Fin 2)

/-- The reference's gradient, -/
theorem ref_grad : val_main_v24 (F := Ideal) x0 x4 x5 x6 x7 (ix3 l i j)
    = if l.val = 0 then summed (x0 (ix1 1)) (x4 (ix3 0 i j)) fun k => x6 (ix4 k 0 i j)
      else summed (x0 (ix1 1)) (x5 (ix3 0 i j)) fun k => x7 (ix4 k 0 i j) := by
  fin_cases l
  · exact ref_sum0 x0 x4 x5 x6 x7 i j
  · exact ref_sum1 x0 x4 x5 x6 x7 i j

/-- its moments -/
theorem ref_m : val_main_v29 (F := Ideal) x0 x2 x4 x5 x6 x7 (ix3 l i j)
    = newM (x2 (ix3 l i j)) (val_main_v24 (F := Ideal) x0 x4 x5 x6 x7 (ix3 l i j)) := by
  unfold val_main_v29 val_main_v28 val_main_v27 val_main_v26 val_main_v25 newM
  pointwise
  rfl

theorem ref_v : val_main_v35 (F := Ideal) x0 x3 x4 x5 x6 x7 (ix3 l i j)
    = newV (x3 (ix3 l i j)) (val_main_v24 (F := Ideal) x0 x4 x5 x6 x7 (ix3 l i j)) := by
  unfold val_main_v35 val_main_v34 val_main_v33 val_main_v32 val_main_v31 val_main_v30 newV
  pointwise
  rfl

/-- and its update. -/
theorem ref_step : val_main_v48 (F := Ideal) x0 x1 x2 x3 x4 x5 x6 x7 (ix3 l i j)
    = step (x1 (ix3 l i j)) (val_main_v29 (F := Ideal) x0 x2 x4 x5 x6 x7 (ix3 l i j)) (val_main_v35 (F := Ideal) x0 x3 x4 x5 x6 x7 (ix3 l i j)) := by
  unfold val_main_v48 val_main_v47 val_main_v46 val_main_v45 val_main_v44 val_main_v43 val_main_v42 val_main_v41 val_main_v40 val_main_v39
    val_main_v38 val_main_v37 val_main_v36 step
  pointwise
  rfl

end Cert.Update
-- ==== Proof.UpdateValue.lean ====
/- The optimiser's call on an exchanged weight, end to end: the gradient summed over the chips, AdamW's update and the new moments. -/
module

public import proofs.«01_k».proof.Proof.Update
public import proofs.«01_k».proof.Proof.Gen.Opt.Frame
public import proofs.«01_k».proof.Proof.UpdateReference
public import proofs.«01_k».proof.Defs

@[expose] public section

set_option maxRecDepth 16384

noncomputable section

namespace Cert.Update

open Idealize.ShloMosaic Idealize.SL.Sem

section Arrays

open Cert.OptIdeal Cert.OptIdeal.Gen

variable (m : (ℓ : Loc nD τ sig) → Buf (Elt Ideal) ℓ) (hO : Ok m) (c : Dev nD)

/-- The same entry, at equal indices. -/
theorem at_congr {f : Fin 2 → Fin 128 → Fin 1024 → EReal} {a a' : Fin 2} {b b' : Fin 128} {d d' : Fin 1024} (ha : a.val = a'.val) (hb : b.val = b'.val)
    (hd : d.val = d'.val) : f a b d = f a' b' d' := by
  rw [Fin.ext ha, Fin.ext hb, Fin.ext hd]

theorem covers_grad : ((cfgM m hO).win 7).Covers := of_decide_eq_true (by sl_kernel_rfl)

theorem array_grad : (dats m hO 0 c).arrAt 7 (cfgM m hO).N = fun i : (⟨3, ![2, 128, 1024]⟩ : Shape).Idx => gradAt m c (i 0) (i 1) (i 2) := by
  refine (dats m hO 0 c).arrAt_eq_of_covers 7 (fun i : (⟨3, ![2, 128, 1024]⟩ : Shape).Idx => gradAt m c (i 0) (i 1) (i 2))
    (covers_grad m hO) fun t hf (y : (⟨3, ![1, 128, 1024]⟩ : Shape).Idx) => ?_
  have e := left_grad m hO c t (y 1) (y 2)
  have q := (placed m hO t).2.2.2.2.2.2.2.1
  have hy : y = ix3 0 (y 1) (y 2) := (ix3_eta y).symm.trans (congrArg (fun l : Fin 1 => ix3 l (y 1) (y 2)) (Subsingleton.elim (α := Fin 1) (y 0) 0))
  blk_simp
  refine (Eq.trans (congrArg ((dats m hO 0 c).after 7 t) hy) e).trans (at_congr ?_ ?_ ?_)
  · blk_simp
    exact (congrFun q 0).symm
  · blk_simp
    exact (at_zero (congrFun q 1)).symm
  · blk_simp
    exact (at_zero (congrFun q 2)).symm

theorem covers_step : ((cfgM m hO).win 8).Covers := of_decide_eq_true (by sl_kernel_rfl)

theorem array_step : (dats m hO 0 c).arrAt 8 (cfgM m hO).N = fun i : (⟨3, ![2, 128, 1024]⟩ : Shape).Idx => stepAt m c (i 0) (i 1) (i 2) := by
  refine (dats m hO 0 c).arrAt_eq_of_covers 8 (fun i : (⟨3, ![2, 128, 1024]⟩ : Shape).Idx => stepAt m c (i 0) (i 1) (i 2))
    (covers_step m hO) fun t hf (y : (⟨3, ![1, 128, 1024]⟩ : Shape).Idx) => ?_
  have e := left_step m hO c t (y 1) (y 2)
  have q := (placed m hO t).2.2.2.2.2.2.2.2.1
  have hy : y = ix3 0 (y 1) (y 2) := (ix3_eta y).symm.trans (congrArg (fun l : Fin 1 => ix3 l (y 1) (y 2)) (Subsingleton.elim (α := Fin 1) (y 0) 0))
  blk_simp
  refine (Eq.trans (congrArg ((dats m hO 0 c).after 8 t) hy) e).trans (at_congr ?_ ?_ ?_)
  · blk_simp
    exact (congrFun q 0).symm
  · blk_simp
    exact (at_zero (congrFun q 1)).symm
  · blk_simp
    exact (at_zero (congrFun q 2)).symm

theorem covers_m : ((cfgM m hO).win 9).Covers := of_decide_eq_true (by sl_kernel_rfl)

theorem array_m : (dats m hO 0 c).arrAt 9 (cfgM m hO).N = fun i : (⟨3, ![2, 128, 1024]⟩ : Shape).Idx => mAt m c (i 0) (i 1) (i 2) := by
  refine (dats m hO 0 c).arrAt_eq_of_covers 9 (fun i : (⟨3, ![2, 128, 1024]⟩ : Shape).Idx => mAt m c (i 0) (i 1) (i 2))
    (covers_m m hO) fun t hf (y : (⟨3, ![1, 128, 1024]⟩ : Shape).Idx) => ?_
  have e := left_m m hO c t (y 1) (y 2)
  have q := (placed m hO t).2.2.2.2.2.2.2.2.2.1
  have hy : y = ix3 0 (y 1) (y 2) := (ix3_eta y).symm.trans (congrArg (fun l : Fin 1 => ix3 l (y 1) (y 2)) (Subsingleton.elim (α := Fin 1) (y 0) 0))
  blk_simp
  refine (Eq.trans (congrArg ((dats m hO 0 c).after 9 t) hy) e).trans (at_congr ?_ ?_ ?_)
  · blk_simp
    exact (congrFun q 0).symm
  · blk_simp
    exact (at_zero (congrFun q 1)).symm
  · blk_simp
    exact (at_zero (congrFun q 2)).symm

theorem covers_v : ((cfgM m hO).win 10).Covers := of_decide_eq_true (by sl_kernel_rfl)

theorem array_v : (dats m hO 0 c).arrAt 10 (cfgM m hO).N = fun i : (⟨3, ![2, 128, 1024]⟩ : Shape).Idx => vAt m c (i 0) (i 1) (i 2) := by
  refine (dats m hO 0 c).arrAt_eq_of_covers 10 (fun i : (⟨3, ![2, 128, 1024]⟩ : Shape).Idx => vAt m c (i 0) (i 1) (i 2))
    (covers_v m hO) fun t hf (y : (⟨3, ![1, 128, 1024]⟩ : Shape).Idx) => ?_
  have e := left_v m hO c t (y 1) (y 2)
  have q := (placed m hO t).2.2.2.2.2.2.2.2.2.2
  have hy : y = ix3 0 (y 1) (y 2) := (ix3_eta y).symm.trans (congrArg (fun l : Fin 1 => ix3 l (y 1) (y 2)) (Subsingleton.elim (α := Fin 1) (y 0) 0))
  blk_simp
  refine (Eq.trans (congrArg ((dats m hO 0 c).after 10 t) hy) e).trans (at_congr ?_ ?_ ?_)
  · blk_simp
    exact (congrFun q 0).symm
  · blk_simp
    exact (at_zero (congrFun q 1)).symm
  · blk_simp
    exact (at_zero (congrFun q 2)).symm

include hO in
/-- What the call leaves in memory. -/
theorem run (g : Dev nD → PrngReg) : θ_run defs (onTc (τ := τ) (main (F := Ideal))) ⟨m, fun _ => 0, g⟩ fun r => ∀ c : Dev nD,
    (r.2.mem ((c.tc : Thread nD τ).loc main_v0_0) = (fun i : (⟨3, ![2, 128, 1024]⟩ : Shape).Idx => gradAt m c (i 0) (i 1) (i 2))
      ∧ r.2.mem ((c.tc : Thread nD τ).loc main_v0_1) = (fun i : (⟨3, ![2, 128, 1024]⟩ : Shape).Idx => stepAt m c (i 0) (i 1) (i 2))
      ∧ r.2.mem ((c.tc : Thread nD τ).loc main_v0_2) = (fun i : (⟨3, ![2, 128, 1024]⟩ : Shape).Idx => mAt m c (i 0) (i 1) (i 2))
      ∧ r.2.mem ((c.tc : Thread nD τ).loc main_v0_3) = (fun i : (⟨3, ![2, 128, 1024]⟩ : Shape).Idx => vAt m c (i 0) (i 1) (i 2))) :=
  (θ_run defs _ _).mono (fun r h c => ⟨((h c).1 7).trans (array_grad m hO c), ((h c).1 8).trans (array_step m hO c),
    ((h c).1 9).trans (array_m m hO c), ((h c).1 10).trans (array_v m hO c)⟩) (run_main m g hO)

end Arrays

theorem ok (m : (ℓ : Loc Cert.Opt.nD Cert.Opt.τ Cert.Opt.sig) → Buf (Elt Bits) ℓ) : Cert.Opt.Gen.Ok m := by
  unfold Cert.Opt.Gen.Ok
  trivial

theorem okIdeal (m : (ℓ : Loc Cert.OptIdeal.nD Cert.OptIdeal.τ Cert.OptIdeal.sig) → Buf (Elt Ideal) ℓ) : Cert.OptIdeal.Gen.Ok m := by
  unfold Cert.OptIdeal.Gen.Ok
  trivial

/-- The call runs, and leaves its arguments unchanged and every counter at zero. -/
theorem frame_kernel : Cert.quiescent_Opt := fun m g _ => Cert.Opt.Gen.frame m g (ok m)

/-- So does the idealized call. -/
theorem frame_ideal : Cert.quiescent_OptIdeal := fun m g _ => Cert.OptIdeal.Gen.frame m g (okIdeal m)

/-- The idealized reference runs, and leaves its arguments unchanged; it has no semaphores. -/
theorem frame_reference : Cert.quiescent_OptReferenceIdeal := fun m g _ =>
  (θ_run Cert.OptReferenceIdeal.defs _ _).mono
    (fun r h => ⟨fun c => (h c).2.2.2.2, Idealize.ShloMosaic.sem_eq_zero_of_no_sems (by decide) r.2⟩)
    (Cert.OptReferenceIdeal.Value.run (F := Ideal) m g)

/-- Nothing is rewritten. -/
theorem preserves : Cert.preserves_Opt_OptIdeal := trivial

/-- The call's gradient, update and moments are the plain ones. -/
theorem algebraic : Cert.algebraic_OptIdeal_OptReferenceIdeal := by
  intro m g m' g' _ he
  refine ⟨_, _, _, _, (θ_run (Cert.OptIdeal.defs (F := Ideal)) _ _).mono (fun r h c => ⟨(h.1 c).1, (h.1 c).2.1, (h.1 c).2.2.1, (h.1 c).2.2.2, h.2 c⟩)
    (θ_run_and (run m (okIdeal m) g) (Cert.OptIdeal.Gen.unchanged m g (okIdeal m))), ?_⟩
  refine (θ_run (Cert.OptReferenceIdeal.defs (F := Ideal)) _ _).mono (fun r h c => ?_) (Cert.OptReferenceIdeal.Value.run (F := Ideal) m' g')
  obtain ⟨h0, h1, h2, h3, ha⟩ := h c
  obtain ⟨e0, e1, e2, e3, e4, e5, e6, e7⟩ := he c
  have grad (l : Fin 2) (i : Fin 128) (j : Fin 1024) : Cert.OptReferenceIdeal.Read.val_main_v24 (F := Ideal) (m' (c.tc.loc Cert.OptReferenceIdeal.main_arg0))
      (m' (c.tc.loc Cert.OptReferenceIdeal.main_arg4)) (m' (c.tc.loc Cert.OptReferenceIdeal.main_arg5))
      (m' (c.tc.loc Cert.OptReferenceIdeal.main_arg6)) (m' (c.tc.loc Cert.OptReferenceIdeal.main_arg7)) (ix3 l i j) = gradAt m c l i j := by
    rw [ref_grad, e0, e4, e5, e6, e7]
    rfl
  have newM (l : Fin 2) (i : Fin 128) (j : Fin 1024) : Cert.OptReferenceIdeal.Read.val_main_v29 (F := Ideal) (m' (c.tc.loc Cert.OptReferenceIdeal.main_arg0))
      (m' (c.tc.loc Cert.OptReferenceIdeal.main_arg2)) (m' (c.tc.loc Cert.OptReferenceIdeal.main_arg4)) (m' (c.tc.loc Cert.OptReferenceIdeal.main_arg5))
      (m' (c.tc.loc Cert.OptReferenceIdeal.main_arg6)) (m' (c.tc.loc Cert.OptReferenceIdeal.main_arg7)) (ix3 l i j) = mAt m c l i j := by
    rw [ref_m, grad, e2]
    rfl
  have newV (l : Fin 2) (i : Fin 128) (j : Fin 1024) : Cert.OptReferenceIdeal.Read.val_main_v35 (F := Ideal) (m' (c.tc.loc Cert.OptReferenceIdeal.main_arg0))
      (m' (c.tc.loc Cert.OptReferenceIdeal.main_arg3)) (m' (c.tc.loc Cert.OptReferenceIdeal.main_arg4)) (m' (c.tc.loc Cert.OptReferenceIdeal.main_arg5))
      (m' (c.tc.loc Cert.OptReferenceIdeal.main_arg6)) (m' (c.tc.loc Cert.OptReferenceIdeal.main_arg7)) (ix3 l i j) = vAt m c l i j := by
    rw [ref_v, grad, e3]
    rfl
  have newStep (l : Fin 2) (i : Fin 128) (j : Fin 1024) : Cert.OptReferenceIdeal.Read.val_main_v48 (F := Ideal) (m' (c.tc.loc Cert.OptReferenceIdeal.main_arg0))
      (m' (c.tc.loc Cert.OptReferenceIdeal.main_arg1)) (m' (c.tc.loc Cert.OptReferenceIdeal.main_arg2)) (m' (c.tc.loc Cert.OptReferenceIdeal.main_arg3))
      (m' (c.tc.loc Cert.OptReferenceIdeal.main_arg4)) (m' (c.tc.loc Cert.OptReferenceIdeal.main_arg5))
      (m' (c.tc.loc Cert.OptReferenceIdeal.main_arg6)) (m' (c.tc.loc Cert.OptReferenceIdeal.main_arg7)) (ix3 l i j) = stepAt m c l i j := by
    rw [ref_step, newM, newV, e1]
    rfl
  refine ⟨h0.trans (funext fun y => ?_), h1.trans (funext fun y => ?_), h2.trans (funext fun y => ?_), h3.trans (funext fun y => ?_), ha⟩
  · exact (congrArg _ (ix3_eta y).symm).trans (grad (y 0) (y 1) (y 2))
  · exact (congrFun (Cert.OptReferenceIdeal.Read.val_main_v48_eq m' c) y).trans ((congrArg _ (ix3_eta y).symm).trans (newStep (y 0) (y 1) (y 2)))
  · exact (congrArg _ (ix3_eta y).symm).trans (newM (y 0) (y 1) (y 2))
  · exact (congrArg _ (ix3_eta y).symm).trans (newV (y 0) (y 1) (y 2))

end Cert.Update
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Ffn
public import proofs.«01_k».proof.Proof.Gen.FfnIdeal
public import proofs.«01_k».proof.Proof.Gen.Ffn.Frame
public import proofs.«01_k».proof.Proof.Gen.FfnIdeal.Frame
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.Cross
public import proofs.«01_k».proof.Proof.Gen.CrossIdeal
public import proofs.«01_k».proof.Proof.Gen.Cross.Frame
public import proofs.«01_k».proof.Proof.Gen.CrossIdeal.Frame
public import proofs.«01_k».proof.Proof.Gen.CrossReferenceIdeal
public import proofs.«01_k».proof.Proof.Gen.CrossReferenceIdeal.Run
public import proofs.«01_k».proof.Proof.Gen.CrossReferenceIdeal.Read
public import proofs.«01_k».proof.Proof.Gen.Mix
public import proofs.«01_k».proof.Proof.Gen.MixIdeal
public import proofs.«01_k».proof.Proof.Gen.Mix.Frame
public import proofs.«01_k».proof.Proof.Gen.MixIdeal.Frame
public import proofs.«01_k».proof.Proof.Gen.MixReferenceIdeal
public import proofs.«01_k».proof.Proof.Gen.MixReferenceIdeal.Run
public import proofs.«01_k».proof.Proof.Gen.MixReferenceIdeal.Read
public import proofs.«01_k».proof.Proof.Gen.Small
public import proofs.«01_k».proof.Proof.Gen.Small.Frame
public import proofs.«01_k».proof.Proof.Gen.SmallIdeal
public import proofs.«01_k».proof.Proof.Gen.SmallIdeal.Frame
public import proofs.«01_k».proof.Proof.Gen.SmallIdeal.Value
public import proofs.«01_k».proof.Proof.Gen.SmallReferenceIdeal
public import proofs.«01_k».proof.Proof.Gen.SmallReferenceIdeal.Run
public import proofs.«01_k».proof.Proof.Gen.Taps
public import proofs.«01_k».proof.Proof.Gen.Taps.Frame
public import proofs.«01_k».proof.Proof.Gen.TapsIdeal
public import proofs.«01_k».proof.Proof.Gen.TapsIdeal.Frame
public import proofs.«01_k».proof.Proof.Gen.TapsIdeal.Value
public import proofs.«01_k».proof.Proof.Gen.TapsReferenceIdeal
public import proofs.«01_k».proof.Proof.Gen.TapsReferenceIdeal.Run
public import proofs.«01_k».proof.Proof.Gen.Opt
public import proofs.«01_k».proof.Proof.Gen.Opt.Frame
public import proofs.«01_k».proof.Proof.Gen.OptIdeal
public import proofs.«01_k».proof.Proof.Gen.OptIdeal.Frame
public import proofs.«01_k».proof.Proof.Gen.OptReferenceIdeal
public import proofs.«01_k».proof.Proof.Gen.OptReferenceIdeal.Run
public import proofs.«01_k».proof.Proof.Gen.OptReferenceIdeal.Read
public import proofs.«01_k».proof.Proof.Frames
public import proofs.«01_k».proof.Proof.Value
public import proofs.«01_k».proof.Proof.NetValue
public import proofs.«01_k».proof.Proof.MemValue
public import proofs.«01_k».proof.Proof.ProjValue
public import proofs.«01_k».proof.Proof.Adam
public import proofs.«01_k».proof.Proof.UpdateValue

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.Cross.Gen.facts, Cert.CrossIdeal.Gen.facts, Cert.CrossReferenceIdeal.Gen.facts,
  Cert.Mix.Gen.facts, Cert.MixIdeal.Gen.facts, Cert.MixReferenceIdeal.Gen.facts,
  Cert.Small.Gen.facts, Cert.SmallIdeal.Gen.facts, Cert.SmallReferenceIdeal.Gen.facts,
  Cert.Taps.Gen.facts, Cert.TapsIdeal.Gen.facts, Cert.TapsReferenceIdeal.Gen.facts,
  Cert.Opt.Gen.facts, Cert.OptIdeal.Gen.facts, Cert.OptReferenceIdeal.Gen.facts,
  Fox.finite_facts, Net.finite_facts, Mem.finite_facts, Proj.finite_facts,
  Fox.frame_kernel, Fox.frame_kernelIdeal, fun m g _ => Fox.frame_kernelIdeal m g trivial, Fox.frame_reference,
  fun m g _ => Fox.frame_reference m g trivial,
  Net.frame_ffn, Net.frame_ffnIdeal, fun m g _ => Net.frame_ffnIdeal m g trivial, Net.frame_reference,
  fun m g _ => Net.frame_reference m g trivial,
  Mem.frame_cross, Mem.frame_crossIdeal, fun m g _ => Mem.frame_crossIdeal m g trivial, Mem.frame_reference,
  fun m g _ => Mem.frame_reference m g trivial,
  Proj.frame_mix, Proj.frame_mixIdeal, fun m g _ => Proj.frame_mixIdeal m g trivial, Proj.frame_reference,
  fun m g _ => Proj.frame_reference m g trivial,
  Adam.Small.frame_kernel, Adam.Small.frame_ideal, Adam.Small.frame_reference,
  Adam.Taps.frame_kernel, Adam.Taps.frame_ideal, Adam.Taps.frame_reference,
  Update.frame_kernel, Update.frame_ideal, Update.frame_reference,
  Fox.preserves, Fox.algebraic, Net.preserves, Net.algebraic, Mem.preserves, Mem.algebraic, Proj.preserves,
  Proj.algebraic, Adam.Small.preserves, Adam.Small.algebraic, Adam.Taps.preserves, Adam.Taps.algebraic,
  Update.preserves, Update.algebraic⟩

end Cert.Proof

end
